-- ==== Defs.lean ====
def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InIdeal_finite_in [hPre_finite_in : Cert.Pre_finite_in.Facts] (m : (ℓ : Loc Cert.InIdeal.nD Cert.InIdeal.τ Cert.InIdeal.sig) → Buf (Elt Ideal) ℓ) : Prop :=
  ∀ c : Dev Cert.InIdeal.nD,
    (Cert.Pre_finite_in.fn (F := Ideal) (m ((c.tc : Thread Cert.InIdeal.nD Cert.InIdeal.τ).loc Cert.InIdeal.main_arg0)) (m ((c.tc : Thread Cert.InIdeal.nD Cert.InIdeal.τ).loc Cert.InIdeal.main_arg1)) (m ((c.tc : Thread Cert.InIdeal.nD Cert.InIdeal.τ).loc Cert.InIdeal.main_arg2)) (m ((c.tc : Thread Cert.InIdeal.nD Cert.InIdeal.τ).loc Cert.InIdeal.main_arg3)) (m ((c.tc : Thread Cert.InIdeal.nD Cert.InIdeal.τ).loc Cert.InIdeal.main_arg4))) = (fun _ => 1#1)

def Pre_InRefIdeal (m : (ℓ : Loc Cert.InRefIdeal.nD Cert.InRefIdeal.τ Cert.InRefIdeal.sig) → Buf (Elt Ideal) ℓ) : Prop :=
  True

def Pre_InRefIdeal_finite_in [hPre_finite_in : Cert.Pre_finite_in.Facts] (m : (ℓ : Loc Cert.InRefIdeal.nD Cert.InRefIdeal.τ Cert.InRefIdeal.sig) → Buf (Elt Ideal) ℓ) : Prop :=
  ∀ c : Dev Cert.InRefIdeal.nD,
    (Cert.Pre_finite_in.fn (F := Ideal) (m ((c.tc : Thread Cert.InRefIdeal.nD Cert.InRefIdeal.τ).loc Cert.InRefIdeal.main_arg0)) (m ((c.tc : Thread Cert.InRefIdeal.nD Cert.InRefIdeal.τ).loc Cert.InRefIdeal.main_arg1)) (m ((c.tc : Thread Cert.InRefIdeal.nD Cert.InRefIdeal.τ).loc Cert.InRefIdeal.main_arg2)) (m ((c.tc : Thread Cert.InRefIdeal.nD Cert.InRefIdeal.τ).loc Cert.InRefIdeal.main_arg3)) (m ((c.tc : Thread Cert.InRefIdeal.nD Cert.InRefIdeal.τ).loc Cert.InRefIdeal.main_arg4))) = (fun _ => 1#1)

def Pre_NormIn (m : (ℓ : Loc Cert.NormIn.nD Cert.NormIn.τ Cert.NormIn.sig) → Buf (Elt Bits) ℓ) : Prop :=
  True

def Pre_NormInIdeal (m : (ℓ : Loc Cert.NormInIdeal.nD Cert.NormInIdeal.τ Cert.NormInIdeal.sig) → Buf (Elt Ideal) ℓ) : Prop :=
  True

def Pre_NormInIdeal_finite_norm_in [hPre_finite_norm_in : Cert.Pre_finite_norm_in.Facts] (m : (ℓ : Loc Cert.NormInIdeal.nD Cert.NormInIdeal.τ Cert.NormInIdeal.sig) → Buf (Elt Ideal) ℓ) : Prop :=
  ∀ c : Dev Cert.NormInIdeal.nD,
    (Cert.Pre_finite_norm_in.fn (F := Ideal) (m ((c.tc : Thread Cert.NormInIdeal.nD Cert.NormInIdeal.τ).loc Cert.NormInIdeal.main_arg0)) (m ((c.tc : Thread Cert.NormInIdeal.nD Cert.NormInIdeal.τ).loc Cert.NormInIdeal.main_arg1)) (m ((c.tc : Thread Cert.NormInIdeal.nD Cert.NormInIdeal.τ).loc Cert.NormInIdeal.main_arg2)) (m ((c.tc : Thread Cert.NormInIdeal.nD Cert.NormInIdeal.τ).loc Cert.NormInIdeal.main_arg3)) (m ((c.tc : Thread Cert.NormInIdeal.nD Cert.NormInIdeal.τ).loc Cert.NormInIdeal.main_arg4)) (m ((c.tc : Thread Cert.NormInIdeal.nD Cert.NormInIdeal.τ).loc Cert.NormInIdeal.main_arg5)) (m ((c.tc : Thread Cert.NormInIdeal.nD Cert.NormInIdeal.τ).loc Cert.NormInIdeal.main_arg6)) (m ((c.tc : Thread Cert.NormInIdeal.nD Cert.NormInIdeal.τ).loc Cert.NormInIdeal.main_arg7)) (m ((c.tc : Thread Cert.NormInIdeal.nD Cert.NormInIdeal.τ).loc Cert.NormInIdeal.main_arg8)) (m ((c.tc : Thread Cert.NormInIdeal.nD Cert.NormInIdeal.τ).loc Cert.NormInIdeal.main_arg9))) = (fun _ => 1#1)

def Pre_NormInRefIdeal (m : (ℓ : Loc Cert.NormInRefIdeal.nD Cert.NormInRefIdeal.τ Cert.NormInRefIdeal.sig) → Buf (Elt Ideal) ℓ) : Prop :=
  True

def Pre_NormInRefIdeal_finite_norm_in [hPre_finite_norm_in : Cert.Pre_finite_norm_in.Facts] (m : (ℓ : Loc Cert.NormInRefIdeal.nD Cert.NormInRefIdeal.τ Cert.NormInRefIdeal.sig) → Buf (Elt Ideal) ℓ) : Prop :=
  ∀ c : Dev Cert.NormInRefIdeal.nD,
    (Cert.Pre_finite_norm_in.fn (F := Ideal) (m ((c.tc : Thread Cert.NormInRefIdeal.nD Cert.NormInRefIdeal.τ).loc Cert.NormInRefIdeal.main_arg0)) (m ((c.tc : Thread Cert.NormInRefIdeal.nD Cert.NormInRefIdeal.τ).loc Cert.NormInRefIdeal.main_arg1)) (m ((c.tc : Thread Cert.NormInRefIdeal.nD Cert.NormInRefIdeal.τ).loc Cert.NormInRefIdeal.main_arg2)) (m ((c.tc : Thread Cert.NormInRefIdeal.nD Cert.NormInRefIdeal.τ).loc Cert.NormInRefIdeal.main_arg3)) (m ((c.tc : Thread Cert.NormInRefIdeal.nD Cert.NormInRefIdeal.τ).loc Cert.NormInRefIdeal.main_arg4)) (m ((c.tc : Thread Cert.NormInRefIdeal.nD Cert.NormInRefIdeal.τ).loc Cert.NormInRefIdeal.main_arg5)) (m ((c.tc : Thread Cert.NormInRefIdeal.nD Cert.NormInRefIdeal.τ).loc Cert.NormInRefIdeal.main_arg6)) (m ((c.tc : Thread Cert.NormInRefIdeal.nD Cert.NormInRefIdeal.τ).loc Cert.NormInRefIdeal.main_arg7)) (m ((c.tc : Thread Cert.NormInRefIdeal.nD Cert.NormInRefIdeal.τ).loc Cert.NormInRefIdeal.main_arg8)) (m ((c.tc : Thread Cert.NormInRefIdeal.nD Cert.NormInRefIdeal.τ).loc Cert.NormInRefIdeal.main_arg9))) = (fun _ => 1#1)

def Pre_FfIn (m : (ℓ : Loc Cert.FfIn.nD Cert.FfIn.τ Cert.FfIn.sig) → Buf (Elt Bits) ℓ) : Prop :=
  True

def Pre_FfInIdeal (m : (ℓ : Loc Cert.FfInIdeal.nD Cert.FfInIdeal.τ Cert.FfInIdeal.sig) → Buf (Elt Ideal) ℓ) : Prop :=
  True

def Pre_FfInRefIdeal (m : (ℓ : Loc Cert.FfInRefIdeal.nD Cert.FfInRefIdeal.τ Cert.FfInRefIdeal.sig) → Buf (Elt Ideal) ℓ) : Prop :=
  True

def Pre_Dw (m : (ℓ : Loc Cert.Dw.nD Cert.Dw.τ Cert.Dw.sig) → Buf (Elt Bits) ℓ) : Prop :=
  True

def Pre_DwIdeal (m : (ℓ : Loc Cert.DwIdeal.nD Cert.DwIdeal.τ Cert.DwIdeal.sig) → Buf (Elt Ideal) ℓ) : Prop :=
  True

def Pre_DwRefIdeal (m : (ℓ : Loc Cert.DwRefIdeal.nD Cert.DwRefIdeal.τ Cert.DwRefIdeal.sig) → Buf (Elt Ideal) ℓ) : Prop :=
  True

def Pre_OutIn (m : (ℓ : Loc Cert.OutIn.nD Cert.OutIn.τ Cert.OutIn.sig) → Buf (Elt Bits) ℓ) : Prop :=
  True

def Pre_OutInIdeal (m : (ℓ : Loc Cert.OutInIdeal.nD Cert.OutInIdeal.τ Cert.OutInIdeal.sig) → Buf (Elt Ideal) ℓ) : Prop :=
  True

def Pre_OutInRefIdeal (m : (ℓ : Loc Cert.OutInRefIdeal.nD Cert.OutInRefIdeal.τ Cert.OutInRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Last (m : (ℓ : Loc Cert.Last.nD Cert.Last.τ Cert.Last.sig) → Buf (Elt Bits) ℓ) : Prop :=
  True

def Pre_LastIdeal (m : (ℓ : Loc Cert.LastIdeal.nD Cert.LastIdeal.τ Cert.LastIdeal.sig) → Buf (Elt Ideal) ℓ) : Prop :=
  True

def Pre_LastRefIdeal (m : (ℓ : Loc Cert.LastRefIdeal.nD Cert.LastRefIdeal.τ Cert.LastRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_AdamT (m : (ℓ : Loc Cert.AdamT.nD Cert.AdamT.τ Cert.AdamT.sig) → Buf (Elt Bits) ℓ) : Prop :=
  True

def Pre_AdamTIdeal (m : (ℓ : Loc Cert.AdamTIdeal.nD Cert.AdamTIdeal.τ Cert.AdamTIdeal.sig) → Buf (Elt Ideal) ℓ) : Prop :=
  True

def Pre_AdamTRefIdeal (m : (ℓ : Loc Cert.AdamTRefIdeal.nD Cert.AdamTRefIdeal.τ Cert.AdamTRefIdeal.sig) → Buf (Elt Ideal) ℓ) : Prop :=
  True

def Pre_AdamG (m : (ℓ : Loc Cert.AdamG.nD Cert.AdamG.τ Cert.AdamG.sig) → Buf (Elt Bits) ℓ) : Prop :=
  True

def Pre_AdamGIdeal (m : (ℓ : Loc Cert.AdamGIdeal.nD Cert.AdamGIdeal.τ Cert.AdamGIdeal.sig) → Buf (Elt Ideal) ℓ) : Prop :=
  True

def Pre_AdamGRefIdeal (m : (ℓ : Loc Cert.AdamGRefIdeal.nD Cert.AdamGRefIdeal.τ Cert.AdamGRefIdeal.sig) → Buf (Elt Ideal) ℓ) : Prop :=
  True

def Pre_AdamA (m : (ℓ : Loc Cert.AdamA.nD Cert.AdamA.τ Cert.AdamA.sig) → Buf (Elt Bits) ℓ) : Prop :=
  True

def Pre_AdamAIdeal (m : (ℓ : Loc Cert.AdamAIdeal.nD Cert.AdamAIdeal.τ Cert.AdamAIdeal.sig) → Buf (Elt Ideal) ℓ) : Prop :=
  True

def Pre_AdamARefIdeal (m : (ℓ : Loc Cert.AdamARefIdeal.nD Cert.AdamARefIdeal.τ Cert.AdamARefIdeal.sig) → Buf (Elt Ideal) ℓ) : Prop :=
  True

def Pre_AdamO (m : (ℓ : Loc Cert.AdamO.nD Cert.AdamO.τ Cert.AdamO.sig) → Buf (Elt Bits) ℓ) : Prop :=
  True

def Pre_AdamOIdeal (m : (ℓ : Loc Cert.AdamOIdeal.nD Cert.AdamOIdeal.τ Cert.AdamOIdeal.sig) → Buf (Elt Ideal) ℓ) : Prop :=
  True

def Pre_AdamORefIdeal (m : (ℓ : Loc Cert.AdamORefIdeal.nD Cert.AdamORefIdeal.τ Cert.AdamORefIdeal.sig) → Buf (Elt Ideal) ℓ) : Prop :=
  True

def Pre_AdamF (m : (ℓ : Loc Cert.AdamF.nD Cert.AdamF.τ Cert.AdamF.sig) → Buf (Elt Bits) ℓ) : Prop :=
  True

def Pre_AdamFIdeal (m : (ℓ : Loc Cert.AdamFIdeal.nD Cert.AdamFIdeal.τ Cert.AdamFIdeal.sig) → Buf (Elt Ideal) ℓ) : Prop :=
  True

def Pre_AdamFRefIdeal (m : (ℓ : Loc Cert.AdamFRefIdeal.nD Cert.AdamFRefIdeal.τ Cert.AdamFRefIdeal.sig) → Buf (Elt Ideal) ℓ) : Prop :=
  True

def Pre_AdamI (m : (ℓ : Loc Cert.AdamI.nD Cert.AdamI.τ Cert.AdamI.sig) → Buf (Elt Bits) ℓ) : Prop :=
  True

def Pre_AdamIIdeal (m : (ℓ : Loc Cert.AdamIIdeal.nD Cert.AdamIIdeal.τ Cert.AdamIIdeal.sig) → Buf (Elt Ideal) ℓ) : Prop :=
  True

def Pre_AdamIRefIdeal (m : (ℓ : Loc Cert.AdamIRefIdeal.nD Cert.AdamIRefIdeal.τ Cert.AdamIRefIdeal.sig) → Buf (Elt Ideal) ℓ) : Prop :=
  True

def Pre_AdamN (m : (ℓ : Loc Cert.AdamN.nD Cert.AdamN.τ Cert.AdamN.sig) → Buf (Elt Bits) ℓ) : Prop :=
  True

def Pre_AdamNIdeal (m : (ℓ : Loc Cert.AdamNIdeal.nD Cert.AdamNIdeal.τ Cert.AdamNIdeal.sig) → Buf (Elt Ideal) ℓ) : Prop :=
  True

def Pre_AdamNRefIdeal (m : (ℓ : Loc Cert.AdamNRefIdeal.nD Cert.AdamNRefIdeal.τ Cert.AdamNRefIdeal.sig) → Buf (Elt Ideal) ℓ) : Prop :=
  True

def Pre_AdamB (m : (ℓ : Loc Cert.AdamB.nD Cert.AdamB.τ Cert.AdamB.sig) → Buf (Elt Bits) ℓ) : Prop :=
  True

def Pre_AdamBIdeal (m : (ℓ : Loc Cert.AdamBIdeal.nD Cert.AdamBIdeal.τ Cert.AdamBIdeal.sig) → Buf (Elt Ideal) ℓ) : Prop :=
  True

def Pre_AdamBRefIdeal (m : (ℓ : Loc Cert.AdamBRefIdeal.nD Cert.AdamBRefIdeal.τ Cert.AdamBRefIdeal.sig) → Buf (Elt Ideal) ℓ) : Prop :=
  True

def Pre_AdamS (m : (ℓ : Loc Cert.AdamS.nD Cert.AdamS.τ Cert.AdamS.sig) → Buf (Elt Bits) ℓ) : Prop :=
  True

def Pre_AdamSIdeal (m : (ℓ : Loc Cert.AdamSIdeal.nD Cert.AdamSIdeal.τ Cert.AdamSIdeal.sig) → Buf (Elt Ideal) ℓ) : Prop :=
  True

def Pre_AdamSRefIdeal (m : (ℓ : Loc Cert.AdamSRefIdeal.nD Cert.AdamSRefIdeal.τ Cert.AdamSRefIdeal.sig) → Buf (Elt Ideal) ℓ) : Prop :=
  True

def Pre_AdamC (m : (ℓ : Loc Cert.AdamC.nD Cert.AdamC.τ Cert.AdamC.sig) → Buf (Elt Bits) ℓ) : Prop :=
  True

def Pre_AdamCIdeal (m : (ℓ : Loc Cert.AdamCIdeal.nD Cert.AdamCIdeal.τ Cert.AdamCIdeal.sig) → Buf (Elt Ideal) ℓ) : Prop :=
  True

def Pre_AdamCRefIdeal (m : (ℓ : Loc Cert.AdamCRefIdeal.nD Cert.AdamCRefIdeal.τ Cert.AdamCRefIdeal.sig) → Buf (Elt Ideal) ℓ) : Prop :=
  True

def Pre_AdamH (m : (ℓ : Loc Cert.AdamH.nD Cert.AdamH.τ Cert.AdamH.sig) → Buf (Elt Bits) ℓ) : Prop :=
  True

def Pre_AdamHIdeal (m : (ℓ : Loc Cert.AdamHIdeal.nD Cert.AdamHIdeal.τ Cert.AdamHIdeal.sig) → Buf (Elt Ideal) ℓ) : Prop :=
  True

def Pre_AdamHRefIdeal (m : (ℓ : Loc Cert.AdamHRefIdeal.nD Cert.AdamHRefIdeal.τ Cert.AdamHRefIdeal.sig) → Buf (Elt Ideal) ℓ) : Prop :=
  True

def Pre_MixC (m : (ℓ : Loc Cert.MixC.nD Cert.MixC.τ Cert.MixC.sig) → Buf (Elt Bits) ℓ) : Prop :=
  True

def Pre_MixCIdeal (m : (ℓ : Loc Cert.MixCIdeal.nD Cert.MixCIdeal.τ Cert.MixCIdeal.sig) → Buf (Elt Ideal) ℓ) : Prop :=
  True

def Pre_MixCRefIdeal (m : (ℓ : Loc Cert.MixCRefIdeal.nD Cert.MixCRefIdeal.τ Cert.MixCRefIdeal.sig) → Buf (Elt Ideal) ℓ) : Prop :=
  True

def Pre_MixP (m : (ℓ : Loc Cert.MixP.nD Cert.MixP.τ Cert.MixP.sig) → Buf (Elt Bits) ℓ) : Prop :=
  True

def Pre_MixPIdeal (m : (ℓ : Loc Cert.MixPIdeal.nD Cert.MixPIdeal.τ Cert.MixPIdeal.sig) → Buf (Elt Ideal) ℓ) : Prop :=
  True

def Pre_MixPRefIdeal (m : (ℓ : Loc Cert.MixPRefIdeal.nD Cert.MixPRefIdeal.τ Cert.MixPRefIdeal.sig) → Buf (Elt Ideal) ℓ) : Prop :=
  True

def Pre_MixA (m : (ℓ : Loc Cert.MixA.nD Cert.MixA.τ Cert.MixA.sig) → Buf (Elt Bits) ℓ) : Prop :=
  True

def Pre_MixAIdeal (m : (ℓ : Loc Cert.MixAIdeal.nD Cert.MixAIdeal.τ Cert.MixAIdeal.sig) → Buf (Elt Ideal) ℓ) : Prop :=
  True

def Pre_MixARefIdeal (m : (ℓ : Loc Cert.MixARefIdeal.nD Cert.MixARefIdeal.τ Cert.MixARefIdeal.sig) → Buf (Elt Ideal) ℓ) : Prop :=
  True

def Pre_SumR (m : (ℓ : Loc Cert.SumR.nD Cert.SumR.τ Cert.SumR.sig) → Buf (Elt Bits) ℓ) : Prop :=
  True

def Pre_SumRIdeal (m : (ℓ : Loc Cert.SumRIdeal.nD Cert.SumRIdeal.τ Cert.SumRIdeal.sig) → Buf (Elt Ideal) ℓ) : Prop :=
  True

def Pre_SumRRefIdeal (m : (ℓ : Loc Cert.SumRRefIdeal.nD Cert.SumRRefIdeal.τ Cert.SumRRefIdeal.sig) → Buf (Elt Ideal) ℓ) : Prop :=
  True

def Pre_SumS (m : (ℓ : Loc Cert.SumS.nD Cert.SumS.τ Cert.SumS.sig) → Buf (Elt Bits) ℓ) : Prop :=
  True

def Pre_SumSIdeal (m : (ℓ : Loc Cert.SumSIdeal.nD Cert.SumSIdeal.τ Cert.SumSIdeal.sig) → Buf (Elt Ideal) ℓ) : Prop :=
  True

def Pre_SumSRefIdeal (m : (ℓ : Loc Cert.SumSRefIdeal.nD Cert.SumSRefIdeal.τ Cert.SumSRefIdeal.sig) → Buf (Elt Ideal) ℓ) : Prop :=
  True

def Pre_SumI (m : (ℓ : Loc Cert.SumI.nD Cert.SumI.τ Cert.SumI.sig) → Buf (Elt Bits) ℓ) : Prop :=
  True

def Pre_SumIIdeal (m : (ℓ : Loc Cert.SumIIdeal.nD Cert.SumIIdeal.τ Cert.SumIIdeal.sig) → Buf (Elt Ideal) ℓ) : Prop :=
  True

def Pre_SumIRefIdeal (m : (ℓ : Loc Cert.SumIRefIdeal.nD Cert.SumIRefIdeal.τ Cert.SumIRefIdeal.sig) → Buf (Elt Ideal) ℓ) : Prop :=
  True

def Pre_SumA (m : (ℓ : Loc Cert.SumA.nD Cert.SumA.τ Cert.SumA.sig) → Buf (Elt Bits) ℓ) : Prop :=
  True

def Pre_SumAIdeal (m : (ℓ : Loc Cert.SumAIdeal.nD Cert.SumAIdeal.τ Cert.SumAIdeal.sig) → Buf (Elt Ideal) ℓ) : Prop :=
  True

def Pre_SumARefIdeal (m : (ℓ : Loc Cert.SumARefIdeal.nD Cert.SumARefIdeal.τ Cert.SumARefIdeal.sig) → Buf (Elt Ideal) ℓ) : Prop :=
  True

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1)
      ∧ r.2.mem ((c.tc : Thread Cert.In.nD Cert.In.τ).loc Cert.In.main_arg2) = m ((c.tc : Thread Cert.In.nD Cert.In.τ).loc Cert.In.main_arg2)
      ∧ r.2.mem ((c.tc : Thread Cert.In.nD Cert.In.τ).loc Cert.In.main_arg3) = m ((c.tc : Thread Cert.In.nD Cert.In.τ).loc Cert.In.main_arg3)
      ∧ r.2.mem ((c.tc : Thread Cert.In.nD Cert.In.τ).loc Cert.In.main_arg4) = m ((c.tc : Thread Cert.In.nD Cert.In.τ).loc Cert.In.main_arg4))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2)
      ∧ r.2.mem ((c.tc : Thread Cert.InIdeal.nD Cert.InIdeal.τ).loc Cert.InIdeal.main_arg3) = m ((c.tc : Thread Cert.InIdeal.nD Cert.InIdeal.τ).loc Cert.InIdeal.main_arg3)
      ∧ r.2.mem ((c.tc : Thread Cert.InIdeal.nD Cert.InIdeal.τ).loc Cert.InIdeal.main_arg4) = m ((c.tc : Thread Cert.InIdeal.nD Cert.InIdeal.τ).loc Cert.InIdeal.main_arg4))
      ∧ r.2.sem = fun _ => 0)

def quiescent_InIdeal_pre_finite_in [hInIdeal : Cert.InIdeal.Facts] [hPre_finite_in : Cert.Pre_finite_in.Facts] : Prop :=
  ∀ (m : (ℓ : Loc Cert.InIdeal.nD Cert.InIdeal.τ Cert.InIdeal.sig) → Buf (Elt Ideal) ℓ) (g : Dev Cert.InIdeal.nD → PrngReg), Pre_InIdeal_finite_in m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2)
      ∧ r.2.mem ((c.tc : Thread Cert.InIdeal.nD Cert.InIdeal.τ).loc Cert.InIdeal.main_arg3) = m ((c.tc : Thread Cert.InIdeal.nD Cert.InIdeal.τ).loc Cert.InIdeal.main_arg3)
      ∧ r.2.mem ((c.tc : Thread Cert.InIdeal.nD Cert.InIdeal.τ).loc Cert.InIdeal.main_arg4) = m ((c.tc : Thread Cert.InIdeal.nD Cert.InIdeal.τ).loc Cert.InIdeal.main_arg4))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3)
      ∧ r.2.mem ((c.tc : Thread Cert.InRefIdeal.nD Cert.InRefIdeal.τ).loc Cert.InRefIdeal.main_arg4) = m ((c.tc : Thread Cert.InRefIdeal.nD Cert.InRefIdeal.τ).loc Cert.InRefIdeal.main_arg4))
      ∧ r.2.sem = fun _ => 0)

def quiescent_InRefIdeal_pre_finite_in [hInRefIdeal : Cert.InRefIdeal.Facts] [hPre_finite_in : Cert.Pre_finite_in.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal_finite_in m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3)
      ∧ r.2.mem ((c.tc : Thread Cert.InRefIdeal.nD Cert.InRefIdeal.τ).loc Cert.InRefIdeal.main_arg4) = m ((c.tc : Thread Cert.InRefIdeal.nD Cert.InRefIdeal.τ).loc Cert.InRefIdeal.main_arg4))
      ∧ r.2.sem = fun _ => 0)

def quiescent_NormIn [hNormIn : Cert.NormIn.Facts] : Prop :=
  ∀ (m : (ℓ : Loc Cert.NormIn.nD Cert.NormIn.τ Cert.NormIn.sig) → Buf (Elt Bits) ℓ) (g : Dev Cert.NormIn.nD → PrngReg), Pre_NormIn m →
    θ_run (Cert.NormIn.defs (F := Bits)) (onTc (τ := Cert.NormIn.τ) (Cert.NormIn.main (F := Bits))) ⟨m, fun _ => 0, g⟩ (fun r => (∀ c : Dev Cert.NormIn.nD,
      r.2.mem ((c.tc : Thread Cert.NormIn.nD Cert.NormIn.τ).loc Cert.NormIn.main_arg0) = m ((c.tc : Thread Cert.NormIn.nD Cert.NormIn.τ).loc Cert.NormIn.main_arg0)
      ∧ r.2.mem ((c.tc : Thread Cert.NormIn.nD Cert.NormIn.τ).loc Cert.NormIn.main_arg1) = m ((c.tc : Thread Cert.NormIn.nD Cert.NormIn.τ).loc Cert.NormIn.main_arg1)
      ∧ r.2.mem ((c.tc : Thread Cert.NormIn.nD Cert.NormIn.τ).loc Cert.NormIn.main_arg2) = m ((c.tc : Thread Cert.NormIn.nD Cert.NormIn.τ).loc Cert.NormIn.main_arg2)
      ∧ r.2.mem ((c.tc : Thread Cert.NormIn.nD Cert.NormIn.τ).loc Cert.NormIn.main_arg3) = m ((c.tc : Thread Cert.NormIn.nD Cert.NormIn.τ).loc Cert.NormIn.main_arg3)
      ∧ r.2.mem ((c.tc : Thread Cert.NormIn.nD Cert.NormIn.τ).loc Cert.NormIn.main_arg4) = m ((c.tc : Thread Cert.NormIn.nD Cert.NormIn.τ).loc Cert.NormIn.main_arg4)
      ∧ r.2.mem ((c.tc : Thread Cert.NormIn.nD Cert.NormIn.τ).loc Cert.NormIn.main_arg5) = m ((c.tc : Thread Cert.NormIn.nD Cert.NormIn.τ).loc Cert.NormIn.main_arg5)
      ∧ r.2.mem ((c.tc : Thread Cert.NormIn.nD Cert.NormIn.τ).loc Cert.NormIn.main_arg6) = m ((c.tc : Thread Cert.NormIn.nD Cert.NormIn.τ).loc Cert.NormIn.main_arg6)
      ∧ r.2.mem ((c.tc : Thread Cert.NormIn.nD Cert.NormIn.τ).loc Cert.NormIn.main_arg7) = m ((c.tc : Thread Cert.NormIn.nD Cert.NormIn.τ).loc Cert.NormIn.main_arg7)
      ∧ r.2.mem ((c.tc : Thread Cert.NormIn.nD Cert.NormIn.τ).loc Cert.NormIn.main_arg8) = m ((c.tc : Thread Cert.NormIn.nD Cert.NormIn.τ).loc Cert.NormIn.main_arg8)
      ∧ r.2.mem ((c.tc : Thread Cert.NormIn.nD Cert.NormIn.τ).loc Cert.NormIn.main_arg9) = m ((c.tc : Thread Cert.NormIn.nD Cert.NormIn.τ).loc Cert.NormIn.main_arg9))
      ∧ r.2.sem = fun _ => 0)

def quiescent_NormInIdeal [hNormInIdeal : Cert.NormInIdeal.Facts] : Prop :=
  ∀ (m : (ℓ : Loc Cert.NormInIdeal.nD Cert.NormInIdeal.τ Cert.NormInIdeal.sig) → Buf (Elt Ideal) ℓ) (g : Dev Cert.NormInIdeal.nD → PrngReg), Pre_NormInIdeal m →
    θ_run (Cert.NormInIdeal.defs (F := Ideal)) (onTc (τ := Cert.NormInIdeal.τ) (Cert.NormInIdeal.main (F := Ideal))) ⟨m, fun _ => 0, g⟩ (fun r => (∀ c : Dev Cert.NormInIdeal.nD,
      r.2.mem ((c.tc : Thread Cert.NormInIdeal.nD Cert.NormInIdeal.τ).loc Cert.NormInIdeal.main_arg0) = m ((c.tc : Thread Cert.NormInIdeal.nD Cert.NormInIdeal.τ).loc Cert.NormInIdeal.main_arg0)
      ∧ r.2.mem ((c.tc : Thread Cert.NormInIdeal.nD Cert.NormInIdeal.τ).loc Cert.NormInIdeal.main_arg1) = m ((c.tc : Thread Cert.NormInIdeal.nD Cert.NormInIdeal.τ).loc Cert.NormInIdeal.main_arg1)
      ∧ r.2.mem ((c.tc : Thread Cert.NormInIdeal.nD Cert.NormInIdeal.τ).loc Cert.NormInIdeal.main_arg2) = m ((c.tc : Thread Cert.NormInIdeal.nD Cert.NormInIdeal.τ).loc Cert.NormInIdeal.main_arg2)
      ∧ r.2.mem ((c.tc : Thread Cert.NormInIdeal.nD Cert.NormInIdeal.τ).loc Cert.NormInIdeal.main_arg3) = m ((c.tc : Thread Cert.NormInIdeal.nD Cert.NormInIdeal.τ).loc Cert.NormInIdeal.main_arg3)
      ∧ r.2.mem ((c.tc : Thread Cert.NormInIdeal.nD Cert.NormInIdeal.τ).loc Cert.NormInIdeal.main_arg4) = m ((c.tc : Thread Cert.NormInIdeal.nD Cert.NormInIdeal.τ).loc Cert.NormInIdeal.main_arg4)
      ∧ r.2.mem ((c.tc : Thread Cert.NormInIdeal.nD Cert.NormInIdeal.τ).loc Cert.NormInIdeal.main_arg5) = m ((c.tc : Thread Cert.NormInIdeal.nD Cert.NormInIdeal.τ).loc Cert.NormInIdeal.main_arg5)
      ∧ r.2.mem ((c.tc : Thread Cert.NormInIdeal.nD Cert.NormInIdeal.τ).loc Cert.NormInIdeal.main_arg6) = m ((c.tc : Thread Cert.NormInIdeal.nD Cert.NormInIdeal.τ).loc Cert.NormInIdeal.main_arg6)
      ∧ r.2.mem ((c.tc : Thread Cert.NormInIdeal.nD Cert.NormInIdeal.τ).loc Cert.NormInIdeal.main_arg7) = m ((c.tc : Thread Cert.NormInIdeal.nD Cert.NormInIdeal.τ).loc Cert.NormInIdeal.main_arg7)
      ∧ r.2.mem ((c.tc : Thread Cert.NormInIdeal.nD Cert.NormInIdeal.τ).loc Cert.NormInIdeal.main_arg8) = m ((c.tc : Thread Cert.NormInIdeal.nD Cert.NormInIdeal.τ).loc Cert.NormInIdeal.main_arg8)
      ∧ r.2.mem ((c.tc : Thread Cert.NormInIdeal.nD Cert.NormInIdeal.τ).loc Cert.NormInIdeal.main_arg9) = m ((c.tc : Thread Cert.NormInIdeal.nD Cert.NormInIdeal.τ).loc Cert.NormInIdeal.main_arg9))
      ∧ r.2.sem = fun _ => 0)

def quiescent_NormInIdeal_pre_finite_norm_in [hNormInIdeal : Cert.NormInIdeal.Facts] [hPre_finite_norm_in : Cert.Pre_finite_norm_in.Facts] : Prop :=
  ∀ (m : (ℓ : Loc Cert.NormInIdeal.nD Cert.NormInIdeal.τ Cert.NormInIdeal.sig) → Buf (Elt Ideal) ℓ) (g : Dev Cert.NormInIdeal.nD → PrngReg), Pre_NormInIdeal_finite_norm_in m →
    θ_run (Cert.NormInIdeal.defs (F := Ideal)) (onTc (τ := Cert.NormInIdeal.τ) (Cert.NormInIdeal.main (F := Ideal))) ⟨m, fun _ => 0, g⟩ (fun r => (∀ c : Dev Cert.NormInIdeal.nD,
      r.2.mem ((c.tc : Thread Cert.NormInIdeal.nD Cert.NormInIdeal.τ).loc Cert.NormInIdeal.main_arg0) = m ((c.tc : Thread Cert.NormInIdeal.nD Cert.NormInIdeal.τ).loc Cert.NormInIdeal.main_arg0)
      ∧ r.2.mem ((c.tc : Thread Cert.NormInIdeal.nD Cert.NormInIdeal.τ).loc Cert.NormInIdeal.main_arg1) = m ((c.tc : Thread Cert.NormInIdeal.nD Cert.NormInIdeal.τ).loc Cert.NormInIdeal.main_arg1)
      ∧ r.2.mem ((c.tc : Thread Cert.NormInIdeal.nD Cert.NormInIdeal.τ).loc Cert.NormInIdeal.main_arg2) = m ((c.tc : Thread Cert.NormInIdeal.nD Cert.NormInIdeal.τ).loc Cert.NormInIdeal.main_arg2)
      ∧ r.2.mem ((c.tc : Thread Cert.NormInIdeal.nD Cert.NormInIdeal.τ).loc Cert.NormInIdeal.main_arg3) = m ((c.tc : Thread Cert.NormInIdeal.nD Cert.NormInIdeal.τ).loc Cert.NormInIdeal.main_arg3)
      ∧ r.2.mem ((c.tc : Thread Cert.NormInIdeal.nD Cert.NormInIdeal.τ).loc Cert.NormInIdeal.main_arg4) = m ((c.tc : Thread Cert.NormInIdeal.nD Cert.NormInIdeal.τ).loc Cert.NormInIdeal.main_arg4)
      ∧ r.2.mem ((c.tc : Thread Cert.NormInIdeal.nD Cert.NormInIdeal.τ).loc Cert.NormInIdeal.main_arg5) = m ((c.tc : Thread Cert.NormInIdeal.nD Cert.NormInIdeal.τ).loc Cert.NormInIdeal.main_arg5)
      ∧ r.2.mem ((c.tc : Thread Cert.NormInIdeal.nD Cert.NormInIdeal.τ).loc Cert.NormInIdeal.main_arg6) = m ((c.tc : Thread Cert.NormInIdeal.nD Cert.NormInIdeal.τ).loc Cert.NormInIdeal.main_arg6)
      ∧ r.2.mem ((c.tc : Thread Cert.NormInIdeal.nD Cert.NormInIdeal.τ).loc Cert.NormInIdeal.main_arg7) = m ((c.tc : Thread Cert.NormInIdeal.nD Cert.NormInIdeal.τ).loc Cert.NormInIdeal.main_arg7)
      ∧ r.2.mem ((c.tc : Thread Cert.NormInIdeal.nD Cert.NormInIdeal.τ).loc Cert.NormInIdeal.main_arg8) = m ((c.tc : Thread Cert.NormInIdeal.nD Cert.NormInIdeal.τ).loc Cert.NormInIdeal.main_arg8)
      ∧ r.2.mem ((c.tc : Thread Cert.NormInIdeal.nD Cert.NormInIdeal.τ).loc Cert.NormInIdeal.main_arg9) = m ((c.tc : Thread Cert.NormInIdeal.nD Cert.NormInIdeal.τ).loc Cert.NormInIdeal.main_arg9))
      ∧ r.2.sem = fun _ => 0)

def quiescent_NormInRefIdeal [hNormInRefIdeal : Cert.NormInRefIdeal.Facts] : Prop :=
  ∀ (m : (ℓ : Loc Cert.NormInRefIdeal.nD Cert.NormInRefIdeal.τ Cert.NormInRefIdeal.sig) → Buf (Elt Ideal) ℓ) (g : Dev Cert.NormInRefIdeal.nD → PrngReg), Pre_NormInRefIdeal m →
    θ_run (Cert.NormInRefIdeal.defs (F := Ideal)) (onTc (τ := Cert.NormInRefIdeal.τ) (Cert.NormInRefIdeal.main (F := Ideal))) ⟨m, fun _ => 0, g⟩ (fun r => (∀ c : Dev Cert.NormInRefIdeal.nD,
      r.2.mem ((c.tc : Thread Cert.NormInRefIdeal.nD Cert.NormInRefIdeal.τ).loc Cert.NormInRefIdeal.main_arg0) = m ((c.tc : Thread Cert.NormInRefIdeal.nD Cert.NormInRefIdeal.τ).loc Cert.NormInRefIdeal.main_arg0)
      ∧ r.2.mem ((c.tc : Thread Cert.NormInRefIdeal.nD Cert.NormInRefIdeal.τ).loc Cert.NormInRefIdeal.main_arg1) = m ((c.tc : Thread Cert.NormInRefIdeal.nD Cert.NormInRefIdeal.τ).loc Cert.NormInRefIdeal.main_arg1)
      ∧ r.2.mem ((c.tc : Thread Cert.NormInRefIdeal.nD Cert.NormInRefIdeal.τ).loc Cert.NormInRefIdeal.main_arg2) = m ((c.tc : Thread Cert.NormInRefIdeal.nD Cert.NormInRefIdeal.τ).loc Cert.NormInRefIdeal.main_arg2)
      ∧ r.2.mem ((c.tc : Thread Cert.NormInRefIdeal.nD Cert.NormInRefIdeal.τ).loc Cert.NormInRefIdeal.main_arg3) = m ((c.tc : Thread Cert.NormInRefIdeal.nD Cert.NormInRefIdeal.τ).loc Cert.NormInRefIdeal.main_arg3)
      ∧ r.2.mem ((c.tc : Thread Cert.NormInRefIdeal.nD Cert.NormInRefIdeal.τ).loc Cert.NormInRefIdeal.main_arg4) = m ((c.tc : Thread Cert.NormInRefIdeal.nD Cert.NormInRefIdeal.τ).loc Cert.NormInRefIdeal.main_arg4)
      ∧ r.2.mem ((c.tc : Thread Cert.NormInRefIdeal.nD Cert.NormInRefIdeal.τ).loc Cert.NormInRefIdeal.main_arg5) = m ((c.tc : Thread Cert.NormInRefIdeal.nD Cert.NormInRefIdeal.τ).loc Cert.NormInRefIdeal.main_arg5)
      ∧ r.2.mem ((c.tc : Thread Cert.NormInRefIdeal.nD Cert.NormInRefIdeal.τ).loc Cert.NormInRefIdeal.main_arg6) = m ((c.tc : Thread Cert.NormInRefIdeal.nD Cert.NormInRefIdeal.τ).loc Cert.NormInRefIdeal.main_arg6)
      ∧ r.2.mem ((c.tc : Thread Cert.NormInRefIdeal.nD Cert.NormInRefIdeal.τ).loc Cert.NormInRefIdeal.main_arg7) = m ((c.tc : Thread Cert.NormInRefIdeal.nD Cert.NormInRefIdeal.τ).loc Cert.NormInRefIdeal.main_arg7)
      ∧ r.2.mem ((c.tc : Thread Cert.NormInRefIdeal.nD Cert.NormInRefIdeal.τ).loc Cert.NormInRefIdeal.main_arg8) = m ((c.tc : Thread Cert.NormInRefIdeal.nD Cert.NormInRefIdeal.τ).loc Cert.NormInRefIdeal.main_arg8)
      ∧ r.2.mem ((c.tc : Thread Cert.NormInRefIdeal.nD Cert.NormInRefIdeal.τ).loc Cert.NormInRefIdeal.main_arg9) = m ((c.tc : Thread Cert.NormInRefIdeal.nD Cert.NormInRefIdeal.τ).loc Cert.NormInRefIdeal.main_arg9))
      ∧ r.2.sem = fun _ => 0)

def quiescent_NormInRefIdeal_pre_finite_norm_in [hNormInRefIdeal : Cert.NormInRefIdeal.Facts] [hPre_finite_norm_in : Cert.Pre_finite_norm_in.Facts] : Prop :=
  ∀ (m : (ℓ : Loc Cert.NormInRefIdeal.nD Cert.NormInRefIdeal.τ Cert.NormInRefIdeal.sig) → Buf (Elt Ideal) ℓ) (g : Dev Cert.NormInRefIdeal.nD → PrngReg), Pre_NormInRefIdeal_finite_norm_in m →
    θ_run (Cert.NormInRefIdeal.defs (F := Ideal)) (onTc (τ := Cert.NormInRefIdeal.τ) (Cert.NormInRefIdeal.main (F := Ideal))) ⟨m, fun _ => 0, g⟩ (fun r => (∀ c : Dev Cert.NormInRefIdeal.nD,
      r.2.mem ((c.tc : Thread Cert.NormInRefIdeal.nD Cert.NormInRefIdeal.τ).loc Cert.NormInRefIdeal.main_arg0) = m ((c.tc : Thread Cert.NormInRefIdeal.nD Cert.NormInRefIdeal.τ).loc Cert.NormInRefIdeal.main_arg0)
      ∧ r.2.mem ((c.tc : Thread Cert.NormInRefIdeal.nD Cert.NormInRefIdeal.τ).loc Cert.NormInRefIdeal.main_arg1) = m ((c.tc : Thread Cert.NormInRefIdeal.nD Cert.NormInRefIdeal.τ).loc Cert.NormInRefIdeal.main_arg1)
      ∧ r.2.mem ((c.tc : Thread Cert.NormInRefIdeal.nD Cert.NormInRefIdeal.τ).loc Cert.NormInRefIdeal.main_arg2) = m ((c.tc : Thread Cert.NormInRefIdeal.nD Cert.NormInRefIdeal.τ).loc Cert.NormInRefIdeal.main_arg2)
      ∧ r.2.mem ((c.tc : Thread Cert.NormInRefIdeal.nD Cert.NormInRefIdeal.τ).loc Cert.NormInRefIdeal.main_arg3) = m ((c.tc : Thread Cert.NormInRefIdeal.nD Cert.NormInRefIdeal.τ).loc Cert.NormInRefIdeal.main_arg3)
      ∧ r.2.mem ((c.tc : Thread Cert.NormInRefIdeal.nD Cert.NormInRefIdeal.τ).loc Cert.NormInRefIdeal.main_arg4) = m ((c.tc : Thread Cert.NormInRefIdeal.nD Cert.NormInRefIdeal.τ).loc Cert.NormInRefIdeal.main_arg4)
      ∧ r.2.mem ((c.tc : Thread Cert.NormInRefIdeal.nD Cert.NormInRefIdeal.τ).loc Cert.NormInRefIdeal.main_arg5) = m ((c.tc : Thread Cert.NormInRefIdeal.nD Cert.NormInRefIdeal.τ).loc Cert.NormInRefIdeal.main_arg5)
      ∧ r.2.mem ((c.tc : Thread Cert.NormInRefIdeal.nD Cert.NormInRefIdeal.τ).loc Cert.NormInRefIdeal.main_arg6) = m ((c.tc : Thread Cert.NormInRefIdeal.nD Cert.NormInRefIdeal.τ).loc Cert.NormInRefIdeal.main_arg6)
      ∧ r.2.mem ((c.tc : Thread Cert.NormInRefIdeal.nD Cert.NormInRefIdeal.τ).loc Cert.NormInRefIdeal.main_arg7) = m ((c.tc : Thread Cert.NormInRefIdeal.nD Cert.NormInRefIdeal.τ).loc Cert.NormInRefIdeal.main_arg7)
      ∧ r.2.mem ((c.tc : Thread Cert.NormInRefIdeal.nD Cert.NormInRefIdeal.τ).loc Cert.NormInRefIdeal.main_arg8) = m ((c.tc : Thread Cert.NormInRefIdeal.nD Cert.NormInRefIdeal.τ).loc Cert.NormInRefIdeal.main_arg8)
      ∧ r.2.mem ((c.tc : Thread Cert.NormInRefIdeal.nD Cert.NormInRefIdeal.τ).loc Cert.NormInRefIdeal.main_arg9) = m ((c.tc : Thread Cert.NormInRefIdeal.nD Cert.NormInRefIdeal.τ).loc Cert.NormInRefIdeal.main_arg9))
      ∧ r.2.sem = fun _ => 0)

def quiescent_FfIn [hFfIn : Cert.FfIn.Facts] : Prop :=
  ∀ (m : (ℓ : Loc Cert.FfIn.nD Cert.FfIn.τ Cert.FfIn.sig) → Buf (Elt Bits) ℓ) (g : Dev Cert.FfIn.nD → PrngReg), Pre_FfIn m →
    θ_run (Cert.FfIn.defs (F := Bits)) (onTc (τ := Cert.FfIn.τ) (Cert.FfIn.main (F := Bits))) ⟨m, fun _ => 0, g⟩ (fun r => (∀ c : Dev Cert.FfIn.nD,
      r.2.mem ((c.tc : Thread Cert.FfIn.nD Cert.FfIn.τ).loc Cert.FfIn.main_arg0) = m ((c.tc : Thread Cert.FfIn.nD Cert.FfIn.τ).loc Cert.FfIn.main_arg0)
      ∧ r.2.mem ((c.tc : Thread Cert.FfIn.nD Cert.FfIn.τ).loc Cert.FfIn.main_arg1) = m ((c.tc : Thread Cert.FfIn.nD Cert.FfIn.τ).loc Cert.FfIn.main_arg1)
      ∧ r.2.mem ((c.tc : Thread Cert.FfIn.nD Cert.FfIn.τ).loc Cert.FfIn.main_arg2) = m ((c.tc : Thread Cert.FfIn.nD Cert.FfIn.τ).loc Cert.FfIn.main_arg2)
      ∧ r.2.mem ((c.tc : Thread Cert.FfIn.nD Cert.FfIn.τ).loc Cert.FfIn.main_arg3) = m ((c.tc : Thread Cert.FfIn.nD Cert.FfIn.τ).loc Cert.FfIn.main_arg3)
      ∧ r.2.mem ((c.tc : Thread Cert.FfIn.nD Cert.FfIn.τ).loc Cert.FfIn.main_arg4) = m ((c.tc : Thread Cert.FfIn.nD Cert.FfIn.τ).loc Cert.FfIn.main_arg4)
      ∧ r.2.mem ((c.tc : Thread Cert.FfIn.nD Cert.FfIn.τ).loc Cert.FfIn.main_arg5) = m ((c.tc : Thread Cert.FfIn.nD Cert.FfIn.τ).loc Cert.FfIn.main_arg5)
      ∧ r.2.mem ((c.tc : Thread Cert.FfIn.nD Cert.FfIn.τ).loc Cert.FfIn.main_arg6) = m ((c.tc : Thread Cert.FfIn.nD Cert.FfIn.τ).loc Cert.FfIn.main_arg6)
      ∧ r.2.mem ((c.tc : Thread Cert.FfIn.nD Cert.FfIn.τ).loc Cert.FfIn.main_arg7) = m ((c.tc : Thread Cert.FfIn.nD Cert.FfIn.τ).loc Cert.FfIn.main_arg7))
      ∧ r.2.sem = fun _ => 0)

def quiescent_FfInIdeal [hFfInIdeal : Cert.FfInIdeal.Facts] : Prop :=
  ∀ (m : (ℓ : Loc Cert.FfInIdeal.nD Cert.FfInIdeal.τ Cert.FfInIdeal.sig) → Buf (Elt Ideal) ℓ) (g : Dev Cert.FfInIdeal.nD → PrngReg), Pre_FfInIdeal m →
    θ_run (Cert.FfInIdeal.defs (F := Ideal)) (onTc (τ := Cert.FfInIdeal.τ) (Cert.FfInIdeal.main (F := Ideal))) ⟨m, fun _ => 0, g⟩ (fun r => (∀ c : Dev Cert.FfInIdeal.nD,
      r.2.mem ((c.tc : Thread Cert.FfInIdeal.nD Cert.FfInIdeal.τ).loc Cert.FfInIdeal.main_arg0) = m ((c.tc : Thread Cert.FfInIdeal.nD Cert.FfInIdeal.τ).loc Cert.FfInIdeal.main_arg0)
      ∧ r.2.mem ((c.tc : Thread Cert.FfInIdeal.nD Cert.FfInIdeal.τ).loc Cert.FfInIdeal.main_arg1) = m ((c.tc : Thread Cert.FfInIdeal.nD Cert.FfInIdeal.τ).loc Cert.FfInIdeal.main_arg1)
      ∧ r.2.mem ((c.tc : Thread Cert.FfInIdeal.nD Cert.FfInIdeal.τ).loc Cert.FfInIdeal.main_arg2) = m ((c.tc : Thread Cert.FfInIdeal.nD Cert.FfInIdeal.τ).loc Cert.FfInIdeal.main_arg2)
      ∧ r.2.mem ((c.tc : Thread Cert.FfInIdeal.nD Cert.FfInIdeal.τ).loc Cert.FfInIdeal.main_arg3) = m ((c.tc : Thread Cert.FfInIdeal.nD Cert.FfInIdeal.τ).loc Cert.FfInIdeal.main_arg3)
      ∧ r.2.mem ((c.tc : Thread Cert.FfInIdeal.nD Cert.FfInIdeal.τ).loc Cert.FfInIdeal.main_arg4) = m ((c.tc : Thread Cert.FfInIdeal.nD Cert.FfInIdeal.τ).loc Cert.FfInIdeal.main_arg4)
      ∧ r.2.mem ((c.tc : Thread Cert.FfInIdeal.nD Cert.FfInIdeal.τ).loc Cert.FfInIdeal.main_arg5) = m ((c.tc : Thread Cert.FfInIdeal.nD Cert.FfInIdeal.τ).loc Cert.FfInIdeal.main_arg5)
      ∧ r.2.mem ((c.tc : Thread Cert.FfInIdeal.nD Cert.FfInIdeal.τ).loc Cert.FfInIdeal.main_arg6) = m ((c.tc : Thread Cert.FfInIdeal.nD Cert.FfInIdeal.τ).loc Cert.FfInIdeal.main_arg6)
      ∧ r.2.mem ((c.tc : Thread Cert.FfInIdeal.nD Cert.FfInIdeal.τ).loc Cert.FfInIdeal.main_arg7) = m ((c.tc : Thread Cert.FfInIdeal.nD Cert.FfInIdeal.τ).loc Cert.FfInIdeal.main_arg7))
      ∧ r.2.sem = fun _ => 0)

def quiescent_FfInRefIdeal [hFfInRefIdeal : Cert.FfInRefIdeal.Facts] : Prop :=
  ∀ (m : (ℓ : Loc Cert.FfInRefIdeal.nD Cert.FfInRefIdeal.τ Cert.FfInRefIdeal.sig) → Buf (Elt Ideal) ℓ) (g : Dev Cert.FfInRefIdeal.nD → PrngReg), Pre_FfInRefIdeal m →
    θ_run (Cert.FfInRefIdeal.defs (F := Ideal)) (onTc (τ := Cert.FfInRefIdeal.τ) (Cert.FfInRefIdeal.main (F := Ideal))) ⟨m, fun _ => 0, g⟩ (fun r => (∀ c : Dev Cert.FfInRefIdeal.nD,
      r.2.mem ((c.tc : Thread Cert.FfInRefIdeal.nD Cert.FfInRefIdeal.τ).loc Cert.FfInRefIdeal.main_arg0) = m ((c.tc : Thread Cert.FfInRefIdeal.nD Cert.FfInRefIdeal.τ).loc Cert.FfInRefIdeal.main_arg0)
      ∧ r.2.mem ((c.tc : Thread Cert.FfInRefIdeal.nD Cert.FfInRefIdeal.τ).loc Cert.FfInRefIdeal.main_arg1) = m ((c.tc : Thread Cert.FfInRefIdeal.nD Cert.FfInRefIdeal.τ).loc Cert.FfInRefIdeal.main_arg1)
      ∧ r.2.mem ((c.tc : Thread Cert.FfInRefIdeal.nD Cert.FfInRefIdeal.τ).loc Cert.FfInRefIdeal.main_arg2) = m ((c.tc : Thread Cert.FfInRefIdeal.nD Cert.FfInRefIdeal.τ).loc Cert.FfInRefIdeal.main_arg2)
      ∧ r.2.mem ((c.tc : Thread Cert.FfInRefIdeal.nD Cert.FfInRefIdeal.τ).loc Cert.FfInRefIdeal.main_arg3) = m ((c.tc : Thread Cert.FfInRefIdeal.nD Cert.FfInRefIdeal.τ).loc Cert.FfInRefIdeal.main_arg3)
      ∧ r.2.mem ((c.tc : Thread Cert.FfInRefIdeal.nD Cert.FfInRefIdeal.τ).loc Cert.FfInRefIdeal.main_arg4) = m ((c.tc : Thread Cert.FfInRefIdeal.nD Cert.FfInRefIdeal.τ).loc Cert.FfInRefIdeal.main_arg4)
      ∧ r.2.mem ((c.tc : Thread Cert.FfInRefIdeal.nD Cert.FfInRefIdeal.τ).loc Cert.FfInRefIdeal.main_arg5) = m ((c.tc : Thread Cert.FfInRefIdeal.nD Cert.FfInRefIdeal.τ).loc Cert.FfInRefIdeal.main_arg5)
      ∧ r.2.mem ((c.tc : Thread Cert.FfInRefIdeal.nD Cert.FfInRefIdeal.τ).loc Cert.FfInRefIdeal.main_arg6) = m ((c.tc : Thread Cert.FfInRefIdeal.nD Cert.FfInRefIdeal.τ).loc Cert.FfInRefIdeal.main_arg6)
      ∧ r.2.mem ((c.tc : Thread Cert.FfInRefIdeal.nD Cert.FfInRefIdeal.τ).loc Cert.FfInRefIdeal.main_arg7) = m ((c.tc : Thread Cert.FfInRefIdeal.nD Cert.FfInRefIdeal.τ).loc Cert.FfInRefIdeal.main_arg7))
      ∧ r.2.sem = fun _ => 0)

def quiescent_Dw [hDw : Cert.Dw.Facts] : Prop :=
  ∀ (m : (ℓ : Loc Cert.Dw.nD Cert.Dw.τ Cert.Dw.sig) → Buf (Elt Bits) ℓ) (g : Dev Cert.Dw.nD → PrngReg), Pre_Dw m →
    θ_run (Cert.Dw.defs (F := Bits)) (onTc (τ := Cert.Dw.τ) (Cert.Dw.main (F := Bits))) ⟨m, fun _ => 0, g⟩ (fun r => (∀ c : Dev Cert.Dw.nD,
      r.2.mem ((c.tc : Thread Cert.Dw.nD Cert.Dw.τ).loc Cert.Dw.main_arg0) = m ((c.tc : Thread Cert.Dw.nD Cert.Dw.τ).loc Cert.Dw.main_arg0)
      ∧ r.2.mem ((c.tc : Thread Cert.Dw.nD Cert.Dw.τ).loc Cert.Dw.main_arg1) = m ((c.tc : Thread Cert.Dw.nD Cert.Dw.τ).loc Cert.Dw.main_arg1)
      ∧ r.2.mem ((c.tc : Thread Cert.Dw.nD Cert.Dw.τ).loc Cert.Dw.main_arg2) = m ((c.tc : Thread Cert.Dw.nD Cert.Dw.τ).loc Cert.Dw.main_arg2)
      ∧ r.2.mem ((c.tc : Thread Cert.Dw.nD Cert.Dw.τ).loc Cert.Dw.main_arg3) = m ((c.tc : Thread Cert.Dw.nD Cert.Dw.τ).loc Cert.Dw.main_arg3)
      ∧ r.2.mem ((c.tc : Thread Cert.Dw.nD Cert.Dw.τ).loc Cert.Dw.main_arg4) = m ((c.tc : Thread Cert.Dw.nD Cert.Dw.τ).loc Cert.Dw.main_arg4)
      ∧ r.2.mem ((c.tc : Thread Cert.Dw.nD Cert.Dw.τ).loc Cert.Dw.main_arg5) = m ((c.tc : Thread Cert.Dw.nD Cert.Dw.τ).loc Cert.Dw.main_arg5))
      ∧ r.2.sem = fun _ => 0)

def quiescent_DwIdeal [hDwIdeal : Cert.DwIdeal.Facts] : Prop :=
  ∀ (m : (ℓ : Loc Cert.DwIdeal.nD Cert.DwIdeal.τ Cert.DwIdeal.sig) → Buf (Elt Ideal) ℓ) (g : Dev Cert.DwIdeal.nD → PrngReg), Pre_DwIdeal m →
    θ_run (Cert.DwIdeal.defs (F := Ideal)) (onTc (τ := Cert.DwIdeal.τ) (Cert.DwIdeal.main (F := Ideal))) ⟨m, fun _ => 0, g⟩ (fun r => (∀ c : Dev Cert.DwIdeal.nD,
      r.2.mem ((c.tc : Thread Cert.DwIdeal.nD Cert.DwIdeal.τ).loc Cert.DwIdeal.main_arg0) = m ((c.tc : Thread Cert.DwIdeal.nD Cert.DwIdeal.τ).loc Cert.DwIdeal.main_arg0)
      ∧ r.2.mem ((c.tc : Thread Cert.DwIdeal.nD Cert.DwIdeal.τ).loc Cert.DwIdeal.main_arg1) = m ((c.tc : Thread Cert.DwIdeal.nD Cert.DwIdeal.τ).loc Cert.DwIdeal.main_arg1)
      ∧ r.2.mem ((c.tc : Thread Cert.DwIdeal.nD Cert.DwIdeal.τ).loc Cert.DwIdeal.main_arg2) = m ((c.tc : Thread Cert.DwIdeal.nD Cert.DwIdeal.τ).loc Cert.DwIdeal.main_arg2)
      ∧ r.2.mem ((c.tc : Thread Cert.DwIdeal.nD Cert.DwIdeal.τ).loc Cert.DwIdeal.main_arg3) = m ((c.tc : Thread Cert.DwIdeal.nD Cert.DwIdeal.τ).loc Cert.DwIdeal.main_arg3)
      ∧ r.2.mem ((c.tc : Thread Cert.DwIdeal.nD Cert.DwIdeal.τ).loc Cert.DwIdeal.main_arg4) = m ((c.tc : Thread Cert.DwIdeal.nD Cert.DwIdeal.τ).loc Cert.DwIdeal.main_arg4)
      ∧ r.2.mem ((c.tc : Thread Cert.DwIdeal.nD Cert.DwIdeal.τ).loc Cert.DwIdeal.main_arg5) = m ((c.tc : Thread Cert.DwIdeal.nD Cert.DwIdeal.τ).loc Cert.DwIdeal.main_arg5))
      ∧ r.2.sem = fun _ => 0)

def quiescent_DwRefIdeal [hDwRefIdeal : Cert.DwRefIdeal.Facts] : Prop :=
  ∀ (m : (ℓ : Loc Cert.DwRefIdeal.nD Cert.DwRefIdeal.τ Cert.DwRefIdeal.sig) → Buf (Elt Ideal) ℓ) (g : Dev Cert.DwRefIdeal.nD → PrngReg), Pre_DwRefIdeal m →
    θ_run (Cert.DwRefIdeal.defs (F := Ideal)) (onTc (τ := Cert.DwRefIdeal.τ) (Cert.DwRefIdeal.main (F := Ideal))) ⟨m, fun _ => 0, g⟩ (fun r => (∀ c : Dev Cert.DwRefIdeal.nD,
      r.2.mem ((c.tc : Thread Cert.DwRefIdeal.nD Cert.DwRefIdeal.τ).loc Cert.DwRefIdeal.main_arg0) = m ((c.tc : Thread Cert.DwRefIdeal.nD Cert.DwRefIdeal.τ).loc Cert.DwRefIdeal.main_arg0)
      ∧ r.2.mem ((c.tc : Thread Cert.DwRefIdeal.nD Cert.DwRefIdeal.τ).loc Cert.DwRefIdeal.main_arg1) = m ((c.tc : Thread Cert.DwRefIdeal.nD Cert.DwRefIdeal.τ).loc Cert.DwRefIdeal.main_arg1)
      ∧ r.2.mem ((c.tc : Thread Cert.DwRefIdeal.nD Cert.DwRefIdeal.τ).loc Cert.DwRefIdeal.main_arg2) = m ((c.tc : Thread Cert.DwRefIdeal.nD Cert.DwRefIdeal.τ).loc Cert.DwRefIdeal.main_arg2)
      ∧ r.2.mem ((c.tc : Thread Cert.DwRefIdeal.nD Cert.DwRefIdeal.τ).loc Cert.DwRefIdeal.main_arg3) = m ((c.tc : Thread Cert.DwRefIdeal.nD Cert.DwRefIdeal.τ).loc Cert.DwRefIdeal.main_arg3)
      ∧ r.2.mem ((c.tc : Thread Cert.DwRefIdeal.nD Cert.DwRefIdeal.τ).loc Cert.DwRefIdeal.main_arg4) = m ((c.tc : Thread Cert.DwRefIdeal.nD Cert.DwRefIdeal.τ).loc Cert.DwRefIdeal.main_arg4)
      ∧ r.2.mem ((c.tc : Thread Cert.DwRefIdeal.nD Cert.DwRefIdeal.τ).loc Cert.DwRefIdeal.main_arg5) = m ((c.tc : Thread Cert.DwRefIdeal.nD Cert.DwRefIdeal.τ).loc Cert.DwRefIdeal.main_arg5))
      ∧ r.2.sem = fun _ => 0)

def quiescent_OutIn [hOutIn : Cert.OutIn.Facts] : Prop :=
  ∀ (m : (ℓ : Loc Cert.OutIn.nD Cert.OutIn.τ Cert.OutIn.sig) → Buf (Elt Bits) ℓ) (g : Dev Cert.OutIn.nD → PrngReg), Pre_OutIn m →
    θ_run (Cert.OutIn.defs (F := Bits)) (onTc (τ := Cert.OutIn.τ) (Cert.OutIn.main (F := Bits))) ⟨m, fun _ => 0, g⟩ (fun r => (∀ c : Dev Cert.OutIn.nD,
      r.2.mem ((c.tc : Thread Cert.OutIn.nD Cert.OutIn.τ).loc Cert.OutIn.main_arg0) = m ((c.tc : Thread Cert.OutIn.nD Cert.OutIn.τ).loc Cert.OutIn.main_arg0)
      ∧ r.2.mem ((c.tc : Thread Cert.OutIn.nD Cert.OutIn.τ).loc Cert.OutIn.main_arg1) = m ((c.tc : Thread Cert.OutIn.nD Cert.OutIn.τ).loc Cert.OutIn.main_arg1)
      ∧ r.2.mem ((c.tc : Thread Cert.OutIn.nD Cert.OutIn.τ).loc Cert.OutIn.main_arg2) = m ((c.tc : Thread Cert.OutIn.nD Cert.OutIn.τ).loc Cert.OutIn.main_arg2)
      ∧ r.2.mem ((c.tc : Thread Cert.OutIn.nD Cert.OutIn.τ).loc Cert.OutIn.main_arg3) = m ((c.tc : Thread Cert.OutIn.nD Cert.OutIn.τ).loc Cert.OutIn.main_arg3)
      ∧ r.2.mem ((c.tc : Thread Cert.OutIn.nD Cert.OutIn.τ).loc Cert.OutIn.main_arg4) = m ((c.tc : Thread Cert.OutIn.nD Cert.OutIn.τ).loc Cert.OutIn.main_arg4)
      ∧ r.2.mem ((c.tc : Thread Cert.OutIn.nD Cert.OutIn.τ).loc Cert.OutIn.main_arg5) = m ((c.tc : Thread Cert.OutIn.nD Cert.OutIn.τ).loc Cert.OutIn.main_arg5)
      ∧ r.2.mem ((c.tc : Thread Cert.OutIn.nD Cert.OutIn.τ).loc Cert.OutIn.main_arg6) = m ((c.tc : Thread Cert.OutIn.nD Cert.OutIn.τ).loc Cert.OutIn.main_arg6))
      ∧ r.2.sem = fun _ => 0)

def quiescent_OutInIdeal [hOutInIdeal : Cert.OutInIdeal.Facts] : Prop :=
  ∀ (m : (ℓ : Loc Cert.OutInIdeal.nD Cert.OutInIdeal.τ Cert.OutInIdeal.sig) → Buf (Elt Ideal) ℓ) (g : Dev Cert.OutInIdeal.nD → PrngReg), Pre_OutInIdeal m →
    θ_run (Cert.OutInIdeal.defs (F := Ideal)) (onTc (τ := Cert.OutInIdeal.τ) (Cert.OutInIdeal.main (F := Ideal))) ⟨m, fun _ => 0, g⟩ (fun r => (∀ c : Dev Cert.OutInIdeal.nD,
      r.2.mem ((c.tc : Thread Cert.OutInIdeal.nD Cert.OutInIdeal.τ).loc Cert.OutInIdeal.main_arg0) = m ((c.tc : Thread Cert.OutInIdeal.nD Cert.OutInIdeal.τ).loc Cert.OutInIdeal.main_arg0)
      ∧ r.2.mem ((c.tc : Thread Cert.OutInIdeal.nD Cert.OutInIdeal.τ).loc Cert.OutInIdeal.main_arg1) = m ((c.tc : Thread Cert.OutInIdeal.nD Cert.OutInIdeal.τ).loc Cert.OutInIdeal.main_arg1)
      ∧ r.2.mem ((c.tc : Thread Cert.OutInIdeal.nD Cert.OutInIdeal.τ).loc Cert.OutInIdeal.main_arg2) = m ((c.tc : Thread Cert.OutInIdeal.nD Cert.OutInIdeal.τ).loc Cert.OutInIdeal.main_arg2)
      ∧ r.2.mem ((c.tc : Thread Cert.OutInIdeal.nD Cert.OutInIdeal.τ).loc Cert.OutInIdeal.main_arg3) = m ((c.tc : Thread Cert.OutInIdeal.nD Cert.OutInIdeal.τ).loc Cert.OutInIdeal.main_arg3)
      ∧ r.2.mem ((c.tc : Thread Cert.OutInIdeal.nD Cert.OutInIdeal.τ).loc Cert.OutInIdeal.main_arg4) = m ((c.tc : Thread Cert.OutInIdeal.nD Cert.OutInIdeal.τ).loc Cert.OutInIdeal.main_arg4)
      ∧ r.2.mem ((c.tc : Thread Cert.OutInIdeal.nD Cert.OutInIdeal.τ).loc Cert.OutInIdeal.main_arg5) = m ((c.tc : Thread Cert.OutInIdeal.nD Cert.OutInIdeal.τ).loc Cert.OutInIdeal.main_arg5)
      ∧ r.2.mem ((c.tc : Thread Cert.OutInIdeal.nD Cert.OutInIdeal.τ).loc Cert.OutInIdeal.main_arg6) = m ((c.tc : Thread Cert.OutInIdeal.nD Cert.OutInIdeal.τ).loc Cert.OutInIdeal.main_arg6))
      ∧ r.2.sem = fun _ => 0)

def quiescent_OutInRefIdeal [hOutInRefIdeal : Cert.OutInRefIdeal.Facts] : Prop :=
  ∀ (m : (ℓ : Loc Cert.OutInRefIdeal.nD Cert.OutInRefIdeal.τ Cert.OutInRefIdeal.sig) → Buf (Elt Ideal) ℓ) (g : Dev Cert.OutInRefIdeal.nD → PrngReg), Pre_OutInRefIdeal m →
    θ_run (Cert.OutInRefIdeal.defs (F := Ideal)) (onTc (τ := Cert.OutInRefIdeal.τ) (Cert.OutInRefIdeal.main (F := Ideal))) ⟨m, fun _ => 0, g⟩ (fun r => (∀ c : Dev Cert.OutInRefIdeal.nD,
      r.2.mem ((c.tc : Thread Cert.OutInRefIdeal.nD Cert.OutInRefIdeal.τ).loc Cert.OutInRefIdeal.main_arg0) = m ((c.tc : Thread Cert.OutInRefIdeal.nD Cert.OutInRefIdeal.τ).loc Cert.OutInRefIdeal.main_arg0)
      ∧ r.2.mem ((c.tc : Thread Cert.OutInRefIdeal.nD Cert.OutInRefIdeal.τ).loc Cert.OutInRefIdeal.main_arg1) = m ((c.tc : Thread Cert.OutInRefIdeal.nD Cert.OutInRefIdeal.τ).loc Cert.OutInRefIdeal.main_arg1)
      ∧ r.2.mem ((c.tc : Thread Cert.OutInRefIdeal.nD Cert.OutInRefIdeal.τ).loc Cert.OutInRefIdeal.main_arg2) = m ((c.tc : Thread Cert.OutInRefIdeal.nD Cert.OutInRefIdeal.τ).loc Cert.OutInRefIdeal.main_arg2)
      ∧ r.2.mem ((c.tc : Thread Cert.OutInRefIdeal.nD Cert.OutInRefIdeal.τ).loc Cert.OutInRefIdeal.main_arg3) = m ((c.tc : Thread Cert.OutInRefIdeal.nD Cert.OutInRefIdeal.τ).loc Cert.OutInRefIdeal.main_arg3)
      ∧ r.2.mem ((c.tc : Thread Cert.OutInRefIdeal.nD Cert.OutInRefIdeal.τ).loc Cert.OutInRefIdeal.main_arg4) = m ((c.tc : Thread Cert.OutInRefIdeal.nD Cert.OutInRefIdeal.τ).loc Cert.OutInRefIdeal.main_arg4)
      ∧ r.2.mem ((c.tc : Thread Cert.OutInRefIdeal.nD Cert.OutInRefIdeal.τ).loc Cert.OutInRefIdeal.main_arg5) = m ((c.tc : Thread Cert.OutInRefIdeal.nD Cert.OutInRefIdeal.τ).loc Cert.OutInRefIdeal.main_arg5)
      ∧ r.2.mem ((c.tc : Thread Cert.OutInRefIdeal.nD Cert.OutInRefIdeal.τ).loc Cert.OutInRefIdeal.main_arg6) = m ((c.tc : Thread Cert.OutInRefIdeal.nD Cert.OutInRefIdeal.τ).loc Cert.OutInRefIdeal.main_arg6))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3)
      ∧ r.2.mem ((c.tc : Thread Cert.Up.nD Cert.Up.τ).loc Cert.Up.main_arg4) = m ((c.tc : Thread Cert.Up.nD Cert.Up.τ).loc Cert.Up.main_arg4)
      ∧ r.2.mem ((c.tc : Thread Cert.Up.nD Cert.Up.τ).loc Cert.Up.main_arg5) = m ((c.tc : Thread Cert.Up.nD Cert.Up.τ).loc Cert.Up.main_arg5)
      ∧ r.2.mem ((c.tc : Thread Cert.Up.nD Cert.Up.τ).loc Cert.Up.main_arg6) = m ((c.tc : Thread Cert.Up.nD Cert.Up.τ).loc Cert.Up.main_arg6))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
      ∧ r.2.mem ((c.tc : Thread Cert.UpIdeal.nD Cert.UpIdeal.τ).loc Cert.UpIdeal.main_arg4) = m ((c.tc : Thread Cert.UpIdeal.nD Cert.UpIdeal.τ).loc Cert.UpIdeal.main_arg4)
      ∧ r.2.mem ((c.tc : Thread Cert.UpIdeal.nD Cert.UpIdeal.τ).loc Cert.UpIdeal.main_arg5) = m ((c.tc : Thread Cert.UpIdeal.nD Cert.UpIdeal.τ).loc Cert.UpIdeal.main_arg5)
      ∧ r.2.mem ((c.tc : Thread Cert.UpIdeal.nD Cert.UpIdeal.τ).loc Cert.UpIdeal.main_arg6) = m ((c.tc : Thread Cert.UpIdeal.nD Cert.UpIdeal.τ).loc Cert.UpIdeal.main_arg6))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3)
      ∧ r.2.mem ((c.tc : Thread Cert.UpRefIdeal.nD Cert.UpRefIdeal.τ).loc Cert.UpRefIdeal.main_arg4) = m ((c.tc : Thread Cert.UpRefIdeal.nD Cert.UpRefIdeal.τ).loc Cert.UpRefIdeal.main_arg4)
      ∧ r.2.mem ((c.tc : Thread Cert.UpRefIdeal.nD Cert.UpRefIdeal.τ).loc Cert.UpRefIdeal.main_arg5) = m ((c.tc : Thread Cert.UpRefIdeal.nD Cert.UpRefIdeal.τ).loc Cert.UpRefIdeal.main_arg5)
      ∧ r.2.mem ((c.tc : Thread Cert.UpRefIdeal.nD Cert.UpRefIdeal.τ).loc Cert.UpRefIdeal.main_arg6) = m ((c.tc : Thread Cert.UpRefIdeal.nD Cert.UpRefIdeal.τ).loc Cert.UpRefIdeal.main_arg6))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4)
      ∧ r.2.mem ((c.tc : Thread Cert.Down.nD Cert.Down.τ).loc Cert.Down.main_arg5) = m ((c.tc : Thread Cert.Down.nD Cert.Down.τ).loc Cert.Down.main_arg5)
      ∧ r.2.mem ((c.tc : Thread Cert.Down.nD Cert.Down.τ).loc Cert.Down.main_arg6) = m ((c.tc : Thread Cert.Down.nD Cert.Down.τ).loc Cert.Down.main_arg6)
      ∧ r.2.mem ((c.tc : Thread Cert.Down.nD Cert.Down.τ).loc Cert.Down.main_arg7) = m ((c.tc : Thread Cert.Down.nD Cert.Down.τ).loc Cert.Down.main_arg7)
      ∧ r.2.mem ((c.tc : Thread Cert.Down.nD Cert.Down.τ).loc Cert.Down.main_arg8) = m ((c.tc : Thread Cert.Down.nD Cert.Down.τ).loc Cert.Down.main_arg8))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
      ∧ r.2.mem ((c.tc : Thread Cert.DownIdeal.nD Cert.DownIdeal.τ).loc Cert.DownIdeal.main_arg5) = m ((c.tc : Thread Cert.DownIdeal.nD Cert.DownIdeal.τ).loc Cert.DownIdeal.main_arg5)
      ∧ r.2.mem ((c.tc : Thread Cert.DownIdeal.nD Cert.DownIdeal.τ).loc Cert.DownIdeal.main_arg6) = m ((c.tc : Thread Cert.DownIdeal.nD Cert.DownIdeal.τ).loc Cert.DownIdeal.main_arg6)
      ∧ r.2.mem ((c.tc : Thread Cert.DownIdeal.nD Cert.DownIdeal.τ).loc Cert.DownIdeal.main_arg7) = m ((c.tc : Thread Cert.DownIdeal.nD Cert.DownIdeal.τ).loc Cert.DownIdeal.main_arg7)
      ∧ r.2.mem ((c.tc : Thread Cert.DownIdeal.nD Cert.DownIdeal.τ).loc Cert.DownIdeal.main_arg8) = m ((c.tc : Thread Cert.DownIdeal.nD Cert.DownIdeal.τ).loc Cert.DownIdeal.main_arg8))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4)
      ∧ r.2.mem ((c.tc : Thread Cert.DownRefIdeal.nD Cert.DownRefIdeal.τ).loc Cert.DownRefIdeal.main_arg5) = m ((c.tc : Thread Cert.DownRefIdeal.nD Cert.DownRefIdeal.τ).loc Cert.DownRefIdeal.main_arg5)
      ∧ r.2.mem ((c.tc : Thread Cert.DownRefIdeal.nD Cert.DownRefIdeal.τ).loc Cert.DownRefIdeal.main_arg6) = m ((c.tc : Thread Cert.DownRefIdeal.nD Cert.DownRefIdeal.τ).loc Cert.DownRefIdeal.main_arg6)
      ∧ r.2.mem ((c.tc : Thread Cert.DownRefIdeal.nD Cert.DownRefIdeal.τ).loc Cert.DownRefIdeal.main_arg7) = m ((c.tc : Thread Cert.DownRefIdeal.nD Cert.DownRefIdeal.τ).loc Cert.DownRefIdeal.main_arg7)
      ∧ r.2.mem ((c.tc : Thread Cert.DownRefIdeal.nD Cert.DownRefIdeal.τ).loc Cert.DownRefIdeal.main_arg8) = m ((c.tc : Thread Cert.DownRefIdeal.nD Cert.DownRefIdeal.τ).loc Cert.DownRefIdeal.main_arg8))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5)
      ∧ r.2.mem ((c.tc : Thread Cert.Out.nD Cert.Out.τ).loc Cert.Out.main_arg6) = m ((c.tc : Thread Cert.Out.nD Cert.Out.τ).loc Cert.Out.main_arg6)
      ∧ r.2.mem ((c.tc : Thread Cert.Out.nD Cert.Out.τ).loc Cert.Out.main_arg7) = m ((c.tc : Thread Cert.Out.nD Cert.Out.τ).loc Cert.Out.main_arg7)
      ∧ r.2.mem ((c.tc : Thread Cert.Out.nD Cert.Out.τ).loc Cert.Out.main_arg8) = m ((c.tc : Thread Cert.Out.nD Cert.Out.τ).loc Cert.Out.main_arg8))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
      ∧ r.2.mem ((c.tc : Thread Cert.OutIdeal.nD Cert.OutIdeal.τ).loc Cert.OutIdeal.main_arg7) = m ((c.tc : Thread Cert.OutIdeal.nD Cert.OutIdeal.τ).loc Cert.OutIdeal.main_arg7)
      ∧ r.2.mem ((c.tc : Thread Cert.OutIdeal.nD Cert.OutIdeal.τ).loc Cert.OutIdeal.main_arg8) = m ((c.tc : Thread Cert.OutIdeal.nD Cert.OutIdeal.τ).loc Cert.OutIdeal.main_arg8))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5)
      ∧ r.2.mem ((c.tc : Thread Cert.OutRefIdeal.nD Cert.OutRefIdeal.τ).loc Cert.OutRefIdeal.main_arg6) = m ((c.tc : Thread Cert.OutRefIdeal.nD Cert.OutRefIdeal.τ).loc Cert.OutRefIdeal.main_arg6)
      ∧ r.2.mem ((c.tc : Thread Cert.OutRefIdeal.nD Cert.OutRefIdeal.τ).loc Cert.OutRefIdeal.main_arg7) = m ((c.tc : Thread Cert.OutRefIdeal.nD Cert.OutRefIdeal.τ).loc Cert.OutRefIdeal.main_arg7)
      ∧ r.2.mem ((c.tc : Thread Cert.OutRefIdeal.nD Cert.OutRefIdeal.τ).loc Cert.OutRefIdeal.main_arg8) = m ((c.tc : Thread Cert.OutRefIdeal.nD Cert.OutRefIdeal.τ).loc Cert.OutRefIdeal.main_arg8))
      ∧ r.2.sem = fun _ => 0)

def quiescent_Last [hLast : Cert.Last.Facts] : Prop :=
  ∀ (m : (ℓ : Loc Cert.Last.nD Cert.Last.τ Cert.Last.sig) → Buf (Elt Bits) ℓ) (g : Dev Cert.Last.nD → PrngReg), Pre_Last m →
    θ_run (Cert.Last.defs (F := Bits)) (onTc (τ := Cert.Last.τ) (Cert.Last.main (F := Bits))) ⟨m, fun _ => 0, g⟩ (fun r => (∀ c : Dev Cert.Last.nD,
      r.2.mem ((c.tc : Thread Cert.Last.nD Cert.Last.τ).loc Cert.Last.main_arg0) = m ((c.tc : Thread Cert.Last.nD Cert.Last.τ).loc Cert.Last.main_arg0)
      ∧ r.2.mem ((c.tc : Thread Cert.Last.nD Cert.Last.τ).loc Cert.Last.main_arg1) = m ((c.tc : Thread Cert.Last.nD Cert.Last.τ).loc Cert.Last.main_arg1)
      ∧ r.2.mem ((c.tc : Thread Cert.Last.nD Cert.Last.τ).loc Cert.Last.main_arg2) = m ((c.tc : Thread Cert.Last.nD Cert.Last.τ).loc Cert.Last.main_arg2)
      ∧ r.2.mem ((c.tc : Thread Cert.Last.nD Cert.Last.τ).loc Cert.Last.main_arg3) = m ((c.tc : Thread Cert.Last.nD Cert.Last.τ).loc Cert.Last.main_arg3)
      ∧ r.2.mem ((c.tc : Thread Cert.Last.nD Cert.Last.τ).loc Cert.Last.main_arg4) = m ((c.tc : Thread Cert.Last.nD Cert.Last.τ).loc Cert.Last.main_arg4)
      ∧ r.2.mem ((c.tc : Thread Cert.Last.nD Cert.Last.τ).loc Cert.Last.main_arg5) = m ((c.tc : Thread Cert.Last.nD Cert.Last.τ).loc Cert.Last.main_arg5)
      ∧ r.2.mem ((c.tc : Thread Cert.Last.nD Cert.Last.τ).loc Cert.Last.main_arg6) = m ((c.tc : Thread Cert.Last.nD Cert.Last.τ).loc Cert.Last.main_arg6)
      ∧ r.2.mem ((c.tc : Thread Cert.Last.nD Cert.Last.τ).loc Cert.Last.main_arg7) = m ((c.tc : Thread Cert.Last.nD Cert.Last.τ).loc Cert.Last.main_arg7)
      ∧ r.2.mem ((c.tc : Thread Cert.Last.nD Cert.Last.τ).loc Cert.Last.main_arg8) = m ((c.tc : Thread Cert.Last.nD Cert.Last.τ).loc Cert.Last.main_arg8))
      ∧ r.2.sem = fun _ => 0)

def quiescent_LastIdeal [hLastIdeal : Cert.LastIdeal.Facts] : Prop :=
  ∀ (m : (ℓ : Loc Cert.LastIdeal.nD Cert.LastIdeal.τ Cert.LastIdeal.sig) → Buf (Elt Ideal) ℓ) (g : Dev Cert.LastIdeal.nD → PrngReg), Pre_LastIdeal m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
      ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
      ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
      ∧ r.2.mem ((c.tc : Thread Cert.LastIdeal.nD Cert.LastIdeal.τ).loc Cert.LastIdeal.main_arg5) = m ((c.tc : Thread Cert.LastIdeal.nD Cert.LastIdeal.τ).loc Cert.LastIdeal.main_arg5)
      ∧ r.2.mem ((c.tc : Thread Cert.LastIdeal.nD Cert.LastIdeal.τ).loc Cert.LastIdeal.main_arg6) = m ((c.tc : Thread Cert.LastIdeal.nD Cert.LastIdeal.τ).loc Cert.LastIdeal.main_arg6)
      ∧ r.2.mem ((c.tc : Thread Cert.LastIdeal.nD Cert.LastIdeal.τ).loc Cert.LastIdeal.main_arg7) = m ((c.tc : Thread Cert.LastIdeal.nD Cert.LastIdeal.τ).loc Cert.LastIdeal.main_arg7)
      ∧ r.2.mem ((c.tc : Thread Cert.LastIdeal.nD Cert.LastIdeal.τ).loc Cert.LastIdeal.main_arg8) = m ((c.tc : Thread Cert.LastIdeal.nD Cert.LastIdeal.τ).loc Cert.LastIdeal.main_arg8))
      ∧ r.2.sem = fun _ => 0)

def quiescent_LastRefIdeal [hLastRefIdeal : Cert.LastRefIdeal.Facts] : Prop :=
  ∀ (m : (ℓ : Loc Cert.LastRefIdeal.nD Cert.LastRefIdeal.τ Cert.LastRefIdeal.sig) → Buf (Elt Ideal) ℓ) (g : Dev Cert.LastRefIdeal.nD → PrngReg), Pre_LastRefIdeal m →
    θ_run (Cert.LastRefIdeal.defs (F := Ideal)) (onTc (τ := Cert.LastRefIdeal.τ) (Cert.LastRefIdeal.main (F := Ideal))) ⟨m, fun _ => 0, g⟩ (fun r => (∀ c : Dev Cert.LastRefIdeal.nD,
      r.2.mem ((c.tc : Thread Cert.LastRefIdeal.nD Cert.LastRefIdeal.τ).loc Cert.LastRefIdeal.main_arg0) = m ((c.tc : Thread Cert.LastRefIdeal.nD Cert.LastRefIdeal.τ).loc Cert.LastRefIdeal.main_arg0)
      ∧ r.2.mem ((c.tc : Thread Cert.LastRefIdeal.nD Cert.LastRefIdeal.τ).loc Cert.LastRefIdeal.main_arg1) = m ((c.tc : Thread Cert.LastRefIdeal.nD Cert.LastRefIdeal.τ).loc Cert.LastRefIdeal.main_arg1)
      ∧ r.2.mem ((c.tc : Thread Cert.LastRefIdeal.nD Cert.LastRefIdeal.τ).loc Cert.LastRefIdeal.main_arg2) = m ((c.tc : Thread Cert.LastRefIdeal.nD Cert.LastRefIdeal.τ).loc Cert.LastRefIdeal.main_arg2)
      ∧ r.2.mem ((c.tc : Thread Cert.LastRefIdeal.nD Cert.LastRefIdeal.τ).loc Cert.LastRefIdeal.main_arg3) = m ((c.tc : Thread Cert.LastRefIdeal.nD Cert.LastRefIdeal.τ).loc Cert.LastRefIdeal.main_arg3)
      ∧ r.2.mem ((c.tc : Thread Cert.LastRefIdeal.nD Cert.LastRefIdeal.τ).loc Cert.LastRefIdeal.main_arg4) = m ((c.tc : Thread Cert.LastRefIdeal.nD Cert.LastRefIdeal.τ).loc Cert.LastRefIdeal.main_arg4)
      ∧ r.2.mem ((c.tc : Thread Cert.LastRefIdeal.nD Cert.LastRefIdeal.τ).loc Cert.LastRefIdeal.main_arg5) = m ((c.tc : Thread Cert.LastRefIdeal.nD Cert.LastRefIdeal.τ).loc Cert.LastRefIdeal.main_arg5)
      ∧ r.2.mem ((c.tc : Thread Cert.LastRefIdeal.nD Cert.LastRefIdeal.τ).loc Cert.LastRefIdeal.main_arg6) = m ((c.tc : Thread Cert.LastRefIdeal.nD Cert.LastRefIdeal.τ).loc Cert.LastRefIdeal.main_arg6)
      ∧ r.2.mem ((c.tc : Thread Cert.LastRefIdeal.nD Cert.LastRefIdeal.τ).loc Cert.LastRefIdeal.main_arg7) = m ((c.tc : Thread Cert.LastRefIdeal.nD Cert.LastRefIdeal.τ).loc Cert.LastRefIdeal.main_arg7)
      ∧ r.2.mem ((c.tc : Thread Cert.LastRefIdeal.nD Cert.LastRefIdeal.τ).loc Cert.LastRefIdeal.main_arg8) = m ((c.tc : Thread Cert.LastRefIdeal.nD Cert.LastRefIdeal.τ).loc Cert.LastRefIdeal.main_arg8))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0))
      ∧ r.2.sem = fun _ => 0)

def quiescent_AdamT [hAdamT : Cert.AdamT.Facts] : Prop :=
  ∀ (m : (ℓ : Loc Cert.AdamT.nD Cert.AdamT.τ Cert.AdamT.sig) → Buf (Elt Bits) ℓ) (g : Dev Cert.AdamT.nD → PrngReg), Pre_AdamT m →
    θ_run (Cert.AdamT.defs (F := Bits)) (onTc (τ := Cert.AdamT.τ) (Cert.AdamT.main (F := Bits))) ⟨m, fun _ => 0, g⟩ (fun r => (∀ c : Dev Cert.AdamT.nD,
      r.2.mem ((c.tc : Thread Cert.AdamT.nD Cert.AdamT.τ).loc Cert.AdamT.main_arg0) = m ((c.tc : Thread Cert.AdamT.nD Cert.AdamT.τ).loc Cert.AdamT.main_arg0)
      ∧ r.2.mem ((c.tc : Thread Cert.AdamT.nD Cert.AdamT.τ).loc Cert.AdamT.main_arg1) = m ((c.tc : Thread Cert.AdamT.nD Cert.AdamT.τ).loc Cert.AdamT.main_arg1)
      ∧ r.2.mem ((c.tc : Thread Cert.AdamT.nD Cert.AdamT.τ).loc Cert.AdamT.main_arg2) = m ((c.tc : Thread Cert.AdamT.nD Cert.AdamT.τ).loc Cert.AdamT.main_arg2)
      ∧ r.2.mem ((c.tc : Thread Cert.AdamT.nD Cert.AdamT.τ).loc Cert.AdamT.main_arg3) = m ((c.tc : Thread Cert.AdamT.nD Cert.AdamT.τ).loc Cert.AdamT.main_arg3))
      ∧ r.2.sem = fun _ => 0)

def quiescent_AdamTIdeal [hAdamTIdeal : Cert.AdamTIdeal.Facts] : Prop :=
  ∀ (m : (ℓ : Loc Cert.AdamTIdeal.nD Cert.AdamTIdeal.τ Cert.AdamTIdeal.sig) → Buf (Elt Ideal) ℓ) (g : Dev Cert.AdamTIdeal.nD → PrngReg), Pre_AdamTIdeal m →
    θ_run (Cert.AdamTIdeal.defs (F := Ideal)) (onTc (τ := Cert.AdamTIdeal.τ) (Cert.AdamTIdeal.main (F := Ideal))) ⟨m, fun _ => 0, g⟩ (fun r => (∀ c : Dev Cert.AdamTIdeal.nD,
      r.2.mem ((c.tc : Thread Cert.AdamTIdeal.nD Cert.AdamTIdeal.τ).loc Cert.AdamTIdeal.main_arg0) = m ((c.tc : Thread Cert.AdamTIdeal.nD Cert.AdamTIdeal.τ).loc Cert.AdamTIdeal.main_arg0)
      ∧ r.2.mem ((c.tc : Thread Cert.AdamTIdeal.nD Cert.AdamTIdeal.τ).loc Cert.AdamTIdeal.main_arg1) = m ((c.tc : Thread Cert.AdamTIdeal.nD Cert.AdamTIdeal.τ).loc Cert.AdamTIdeal.main_arg1)
      ∧ r.2.mem ((c.tc : Thread Cert.AdamTIdeal.nD Cert.AdamTIdeal.τ).loc Cert.AdamTIdeal.main_arg2) = m ((c.tc : Thread Cert.AdamTIdeal.nD Cert.AdamTIdeal.τ).loc Cert.AdamTIdeal.main_arg2)
      ∧ r.2.mem ((c.tc : Thread Cert.AdamTIdeal.nD Cert.AdamTIdeal.τ).loc Cert.AdamTIdeal.main_arg3) = m ((c.tc : Thread Cert.AdamTIdeal.nD Cert.AdamTIdeal.τ).loc Cert.AdamTIdeal.main_arg3))
      ∧ r.2.sem = fun _ => 0)

def quiescent_AdamTRefIdeal [hAdamTRefIdeal : Cert.AdamTRefIdeal.Facts] : Prop :=
  ∀ (m : (ℓ : Loc Cert.AdamTRefIdeal.nD Cert.AdamTRefIdeal.τ Cert.AdamTRefIdeal.sig) → Buf (Elt Ideal) ℓ) (g : Dev Cert.AdamTRefIdeal.nD → PrngReg), Pre_AdamTRefIdeal m →
    θ_run (Cert.AdamTRefIdeal.defs (F := Ideal)) (onTc (τ := Cert.AdamTRefIdeal.τ) (Cert.AdamTRefIdeal.main (F := Ideal))) ⟨m, fun _ => 0, g⟩ (fun r => (∀ c : Dev Cert.AdamTRefIdeal.nD,
      r.2.mem ((c.tc : Thread Cert.AdamTRefIdeal.nD Cert.AdamTRefIdeal.τ).loc Cert.AdamTRefIdeal.main_arg0) = m ((c.tc : Thread Cert.AdamTRefIdeal.nD Cert.AdamTRefIdeal.τ).loc Cert.AdamTRefIdeal.main_arg0)
      ∧ r.2.mem ((c.tc : Thread Cert.AdamTRefIdeal.nD Cert.AdamTRefIdeal.τ).loc Cert.AdamTRefIdeal.main_arg1) = m ((c.tc : Thread Cert.AdamTRefIdeal.nD Cert.AdamTRefIdeal.τ).loc Cert.AdamTRefIdeal.main_arg1)
      ∧ r.2.mem ((c.tc : Thread Cert.AdamTRefIdeal.nD Cert.AdamTRefIdeal.τ).loc Cert.AdamTRefIdeal.main_arg2) = m ((c.tc : Thread Cert.AdamTRefIdeal.nD Cert.AdamTRefIdeal.τ).loc Cert.AdamTRefIdeal.main_arg2)
      ∧ r.2.mem ((c.tc : Thread Cert.AdamTRefIdeal.nD Cert.AdamTRefIdeal.τ).loc Cert.AdamTRefIdeal.main_arg3) = m ((c.tc : Thread Cert.AdamTRefIdeal.nD Cert.AdamTRefIdeal.τ).loc Cert.AdamTRefIdeal.main_arg3))
      ∧ r.2.sem = fun _ => 0)

def quiescent_AdamG [hAdamG : Cert.AdamG.Facts] : Prop :=
  ∀ (m : (ℓ : Loc Cert.AdamG.nD Cert.AdamG.τ Cert.AdamG.sig) → Buf (Elt Bits) ℓ) (g : Dev Cert.AdamG.nD → PrngReg), Pre_AdamG m →
    θ_run (Cert.AdamG.defs (F := Bits)) (onTc (τ := Cert.AdamG.τ) (Cert.AdamG.main (F := Bits))) ⟨m, fun _ => 0, g⟩ (fun r => (∀ c : Dev Cert.AdamG.nD,
      r.2.mem ((c.tc : Thread Cert.AdamG.nD Cert.AdamG.τ).loc Cert.AdamG.main_arg0) = m ((c.tc : Thread Cert.AdamG.nD Cert.AdamG.τ).loc Cert.AdamG.main_arg0)
      ∧ r.2.mem ((c.tc : Thread Cert.AdamG.nD Cert.AdamG.τ).loc Cert.AdamG.main_arg1) = m ((c.tc : Thread Cert.AdamG.nD Cert.AdamG.τ).loc Cert.AdamG.main_arg1)
      ∧ r.2.mem ((c.tc : Thread Cert.AdamG.nD Cert.AdamG.τ).loc Cert.AdamG.main_arg2) = m ((c.tc : Thread Cert.AdamG.nD Cert.AdamG.τ).loc Cert.AdamG.main_arg2)
      ∧ r.2.mem ((c.tc : Thread Cert.AdamG.nD Cert.AdamG.τ).loc Cert.AdamG.main_arg3) = m ((c.tc : Thread Cert.AdamG.nD Cert.AdamG.τ).loc Cert.AdamG.main_arg3))
      ∧ r.2.sem = fun _ => 0)

def quiescent_AdamGIdeal [hAdamGIdeal : Cert.AdamGIdeal.Facts] : Prop :=
  ∀ (m : (ℓ : Loc Cert.AdamGIdeal.nD Cert.AdamGIdeal.τ Cert.AdamGIdeal.sig) → Buf (Elt Ideal) ℓ) (g : Dev Cert.AdamGIdeal.nD → PrngReg), Pre_AdamGIdeal m →
    θ_run (Cert.AdamGIdeal.defs (F := Ideal)) (onTc (τ := Cert.AdamGIdeal.τ) (Cert.AdamGIdeal.main (F := Ideal))) ⟨m, fun _ => 0, g⟩ (fun r => (∀ c : Dev Cert.AdamGIdeal.nD,
      r.2.mem ((c.tc : Thread Cert.AdamGIdeal.nD Cert.AdamGIdeal.τ).loc Cert.AdamGIdeal.main_arg0) = m ((c.tc : Thread Cert.AdamGIdeal.nD Cert.AdamGIdeal.τ).loc Cert.AdamGIdeal.main_arg0)
      ∧ r.2.mem ((c.tc : Thread Cert.AdamGIdeal.nD Cert.AdamGIdeal.τ).loc Cert.AdamGIdeal.main_arg1) = m ((c.tc : Thread Cert.AdamGIdeal.nD Cert.AdamGIdeal.τ).loc Cert.AdamGIdeal.main_arg1)
      ∧ r.2.mem ((c.tc : Thread Cert.AdamGIdeal.nD Cert.AdamGIdeal.τ).loc Cert.AdamGIdeal.main_arg2) = m ((c.tc : Thread Cert.AdamGIdeal.nD Cert.AdamGIdeal.τ).loc Cert.AdamGIdeal.main_arg2)
      ∧ r.2.mem ((c.tc : Thread Cert.AdamGIdeal.nD Cert.AdamGIdeal.τ).loc Cert.AdamGIdeal.main_arg3) = m ((c.tc : Thread Cert.AdamGIdeal.nD Cert.AdamGIdeal.τ).loc Cert.AdamGIdeal.main_arg3))
      ∧ r.2.sem = fun _ => 0)

def quiescent_AdamGRefIdeal [hAdamGRefIdeal : Cert.AdamGRefIdeal.Facts] : Prop :=
  ∀ (m : (ℓ : Loc Cert.AdamGRefIdeal.nD Cert.AdamGRefIdeal.τ Cert.AdamGRefIdeal.sig) → Buf (Elt Ideal) ℓ) (g : Dev Cert.AdamGRefIdeal.nD → PrngReg), Pre_AdamGRefIdeal m →
    θ_run (Cert.AdamGRefIdeal.defs (F := Ideal)) (onTc (τ := Cert.AdamGRefIdeal.τ) (Cert.AdamGRefIdeal.main (F := Ideal))) ⟨m, fun _ => 0, g⟩ (fun r => (∀ c : Dev Cert.AdamGRefIdeal.nD,
      r.2.mem ((c.tc : Thread Cert.AdamGRefIdeal.nD Cert.AdamGRefIdeal.τ).loc Cert.AdamGRefIdeal.main_arg0) = m ((c.tc : Thread Cert.AdamGRefIdeal.nD Cert.AdamGRefIdeal.τ).loc Cert.AdamGRefIdeal.main_arg0)
      ∧ r.2.mem ((c.tc : Thread Cert.AdamGRefIdeal.nD Cert.AdamGRefIdeal.τ).loc Cert.AdamGRefIdeal.main_arg1) = m ((c.tc : Thread Cert.AdamGRefIdeal.nD Cert.AdamGRefIdeal.τ).loc Cert.AdamGRefIdeal.main_arg1)
      ∧ r.2.mem ((c.tc : Thread Cert.AdamGRefIdeal.nD Cert.AdamGRefIdeal.τ).loc Cert.AdamGRefIdeal.main_arg2) = m ((c.tc : Thread Cert.AdamGRefIdeal.nD Cert.AdamGRefIdeal.τ).loc Cert.AdamGRefIdeal.main_arg2)
      ∧ r.2.mem ((c.tc : Thread Cert.AdamGRefIdeal.nD Cert.AdamGRefIdeal.τ).loc Cert.AdamGRefIdeal.main_arg3) = m ((c.tc : Thread Cert.AdamGRefIdeal.nD Cert.AdamGRefIdeal.τ).loc Cert.AdamGRefIdeal.main_arg3))
      ∧ r.2.sem = fun _ => 0)

def quiescent_AdamA [hAdamA : Cert.AdamA.Facts] : Prop :=
  ∀ (m : (ℓ : Loc Cert.AdamA.nD Cert.AdamA.τ Cert.AdamA.sig) → Buf (Elt Bits) ℓ) (g : Dev Cert.AdamA.nD → PrngReg), Pre_AdamA m →
    θ_run (Cert.AdamA.defs (F := Bits)) (onTc (τ := Cert.AdamA.τ) (Cert.AdamA.main (F := Bits))) ⟨m, fun _ => 0, g⟩ (fun r => (∀ c : Dev Cert.AdamA.nD,
      r.2.mem ((c.tc : Thread Cert.AdamA.nD Cert.AdamA.τ).loc Cert.AdamA.main_arg0) = m ((c.tc : Thread Cert.AdamA.nD Cert.AdamA.τ).loc Cert.AdamA.main_arg0)
      ∧ r.2.mem ((c.tc : Thread Cert.AdamA.nD Cert.AdamA.τ).loc Cert.AdamA.main_arg1) = m ((c.tc : Thread Cert.AdamA.nD Cert.AdamA.τ).loc Cert.AdamA.main_arg1)
      ∧ r.2.mem ((c.tc : Thread Cert.AdamA.nD Cert.AdamA.τ).loc Cert.AdamA.main_arg2) = m ((c.tc : Thread Cert.AdamA.nD Cert.AdamA.τ).loc Cert.AdamA.main_arg2)
      ∧ r.2.mem ((c.tc : Thread Cert.AdamA.nD Cert.AdamA.τ).loc Cert.AdamA.main_arg3) = m ((c.tc : Thread Cert.AdamA.nD Cert.AdamA.τ).loc Cert.AdamA.main_arg3))
      ∧ r.2.sem = fun _ => 0)

def quiescent_AdamAIdeal [hAdamAIdeal : Cert.AdamAIdeal.Facts] : Prop :=
  ∀ (m : (ℓ : Loc Cert.AdamAIdeal.nD Cert.AdamAIdeal.τ Cert.AdamAIdeal.sig) → Buf (Elt Ideal) ℓ) (g : Dev Cert.AdamAIdeal.nD → PrngReg), Pre_AdamAIdeal m →
    θ_run (Cert.AdamAIdeal.defs (F := Ideal)) (onTc (τ := Cert.AdamAIdeal.τ) (Cert.AdamAIdeal.main (F := Ideal))) ⟨m, fun _ => 0, g⟩ (fun r => (∀ c : Dev Cert.AdamAIdeal.nD,
      r.2.mem ((c.tc : Thread Cert.AdamAIdeal.nD Cert.AdamAIdeal.τ).loc Cert.AdamAIdeal.main_arg0) = m ((c.tc : Thread Cert.AdamAIdeal.nD Cert.AdamAIdeal.τ).loc Cert.AdamAIdeal.main_arg0)
      ∧ r.2.mem ((c.tc : Thread Cert.AdamAIdeal.nD Cert.AdamAIdeal.τ).loc Cert.AdamAIdeal.main_arg1) = m ((c.tc : Thread Cert.AdamAIdeal.nD Cert.AdamAIdeal.τ).loc Cert.AdamAIdeal.main_arg1)
      ∧ r.2.mem ((c.tc : Thread Cert.AdamAIdeal.nD Cert.AdamAIdeal.τ).loc Cert.AdamAIdeal.main_arg2) = m ((c.tc : Thread Cert.AdamAIdeal.nD Cert.AdamAIdeal.τ).loc Cert.AdamAIdeal.main_arg2)
      ∧ r.2.mem ((c.tc : Thread Cert.AdamAIdeal.nD Cert.AdamAIdeal.τ).loc Cert.AdamAIdeal.main_arg3) = m ((c.tc : Thread Cert.AdamAIdeal.nD Cert.AdamAIdeal.τ).loc Cert.AdamAIdeal.main_arg3))
      ∧ r.2.sem = fun _ => 0)

def quiescent_AdamARefIdeal [hAdamARefIdeal : Cert.AdamARefIdeal.Facts] : Prop :=
  ∀ (m : (ℓ : Loc Cert.AdamARefIdeal.nD Cert.AdamARefIdeal.τ Cert.AdamARefIdeal.sig) → Buf (Elt Ideal) ℓ) (g : Dev Cert.AdamARefIdeal.nD → PrngReg), Pre_AdamARefIdeal m →
    θ_run (Cert.AdamARefIdeal.defs (F := Ideal)) (onTc (τ := Cert.AdamARefIdeal.τ) (Cert.AdamARefIdeal.main (F := Ideal))) ⟨m, fun _ => 0, g⟩ (fun r => (∀ c : Dev Cert.AdamARefIdeal.nD,
      r.2.mem ((c.tc : Thread Cert.AdamARefIdeal.nD Cert.AdamARefIdeal.τ).loc Cert.AdamARefIdeal.main_arg0) = m ((c.tc : Thread Cert.AdamARefIdeal.nD Cert.AdamARefIdeal.τ).loc Cert.AdamARefIdeal.main_arg0)
      ∧ r.2.mem ((c.tc : Thread Cert.AdamARefIdeal.nD Cert.AdamARefIdeal.τ).loc Cert.AdamARefIdeal.main_arg1) = m ((c.tc : Thread Cert.AdamARefIdeal.nD Cert.AdamARefIdeal.τ).loc Cert.AdamARefIdeal.main_arg1)
      ∧ r.2.mem ((c.tc : Thread Cert.AdamARefIdeal.nD Cert.AdamARefIdeal.τ).loc Cert.AdamARefIdeal.main_arg2) = m ((c.tc : Thread Cert.AdamARefIdeal.nD Cert.AdamARefIdeal.τ).loc Cert.AdamARefIdeal.main_arg2)
      ∧ r.2.mem ((c.tc : Thread Cert.AdamARefIdeal.nD Cert.AdamARefIdeal.τ).loc Cert.AdamARefIdeal.main_arg3) = m ((c.tc : Thread Cert.AdamARefIdeal.nD Cert.AdamARefIdeal.τ).loc Cert.AdamARefIdeal.main_arg3))
      ∧ r.2.sem = fun _ => 0)

def quiescent_AdamO [hAdamO : Cert.AdamO.Facts] : Prop :=
  ∀ (m : (ℓ : Loc Cert.AdamO.nD Cert.AdamO.τ Cert.AdamO.sig) → Buf (Elt Bits) ℓ) (g : Dev Cert.AdamO.nD → PrngReg), Pre_AdamO m →
    θ_run (Cert.AdamO.defs (F := Bits)) (onTc (τ := Cert.AdamO.τ) (Cert.AdamO.main (F := Bits))) ⟨m, fun _ => 0, g⟩ (fun r => (∀ c : Dev Cert.AdamO.nD,
      r.2.mem ((c.tc : Thread Cert.AdamO.nD Cert.AdamO.τ).loc Cert.AdamO.main_arg0) = m ((c.tc : Thread Cert.AdamO.nD Cert.AdamO.τ).loc Cert.AdamO.main_arg0)
      ∧ r.2.mem ((c.tc : Thread Cert.AdamO.nD Cert.AdamO.τ).loc Cert.AdamO.main_arg1) = m ((c.tc : Thread Cert.AdamO.nD Cert.AdamO.τ).loc Cert.AdamO.main_arg1)
      ∧ r.2.mem ((c.tc : Thread Cert.AdamO.nD Cert.AdamO.τ).loc Cert.AdamO.main_arg2) = m ((c.tc : Thread Cert.AdamO.nD Cert.AdamO.τ).loc Cert.AdamO.main_arg2)
      ∧ r.2.mem ((c.tc : Thread Cert.AdamO.nD Cert.AdamO.τ).loc Cert.AdamO.main_arg3) = m ((c.tc : Thread Cert.AdamO.nD Cert.AdamO.τ).loc Cert.AdamO.main_arg3))
      ∧ r.2.sem = fun _ => 0)

def quiescent_AdamOIdeal [hAdamOIdeal : Cert.AdamOIdeal.Facts] : Prop :=
  ∀ (m : (ℓ : Loc Cert.AdamOIdeal.nD Cert.AdamOIdeal.τ Cert.AdamOIdeal.sig) → Buf (Elt Ideal) ℓ) (g : Dev Cert.AdamOIdeal.nD → PrngReg), Pre_AdamOIdeal m →
    θ_run (Cert.AdamOIdeal.defs (F := Ideal)) (onTc (τ := Cert.AdamOIdeal.τ) (Cert.AdamOIdeal.main (F := Ideal))) ⟨m, fun _ => 0, g⟩ (fun r => (∀ c : Dev Cert.AdamOIdeal.nD,
      r.2.mem ((c.tc : Thread Cert.AdamOIdeal.nD Cert.AdamOIdeal.τ).loc Cert.AdamOIdeal.main_arg0) = m ((c.tc : Thread Cert.AdamOIdeal.nD Cert.AdamOIdeal.τ).loc Cert.AdamOIdeal.main_arg0)
      ∧ r.2.mem ((c.tc : Thread Cert.AdamOIdeal.nD Cert.AdamOIdeal.τ).loc Cert.AdamOIdeal.main_arg1) = m ((c.tc : Thread Cert.AdamOIdeal.nD Cert.AdamOIdeal.τ).loc Cert.AdamOIdeal.main_arg1)
      ∧ r.2.mem ((c.tc : Thread Cert.AdamOIdeal.nD Cert.AdamOIdeal.τ).loc Cert.AdamOIdeal.main_arg2) = m ((c.tc : Thread Cert.AdamOIdeal.nD Cert.AdamOIdeal.τ).loc Cert.AdamOIdeal.main_arg2)
      ∧ r.2.mem ((c.tc : Thread Cert.AdamOIdeal.nD Cert.AdamOIdeal.τ).loc Cert.AdamOIdeal.main_arg3) = m ((c.tc : Thread Cert.AdamOIdeal.nD Cert.AdamOIdeal.τ).loc Cert.AdamOIdeal.main_arg3))
      ∧ r.2.sem = fun _ => 0)

def quiescent_AdamORefIdeal [hAdamORefIdeal : Cert.AdamORefIdeal.Facts] : Prop :=
  ∀ (m : (ℓ : Loc Cert.AdamORefIdeal.nD Cert.AdamORefIdeal.τ Cert.AdamORefIdeal.sig) → Buf (Elt Ideal) ℓ) (g : Dev Cert.AdamORefIdeal.nD → PrngReg), Pre_AdamORefIdeal m →
    θ_run (Cert.AdamORefIdeal.defs (F := Ideal)) (onTc (τ := Cert.AdamORefIdeal.τ) (Cert.AdamORefIdeal.main (F := Ideal))) ⟨m, fun _ => 0, g⟩ (fun r => (∀ c : Dev Cert.AdamORefIdeal.nD,
      r.2.mem ((c.tc : Thread Cert.AdamORefIdeal.nD Cert.AdamORefIdeal.τ).loc Cert.AdamORefIdeal.main_arg0) = m ((c.tc : Thread Cert.AdamORefIdeal.nD Cert.AdamORefIdeal.τ).loc Cert.AdamORefIdeal.main_arg0)
      ∧ r.2.mem ((c.tc : Thread Cert.AdamORefIdeal.nD Cert.AdamORefIdeal.τ).loc Cert.AdamORefIdeal.main_arg1) = m ((c.tc : Thread Cert.AdamORefIdeal.nD Cert.AdamORefIdeal.τ).loc Cert.AdamORefIdeal.main_arg1)
      ∧ r.2.mem ((c.tc : Thread Cert.AdamORefIdeal.nD Cert.AdamORefIdeal.τ).loc Cert.AdamORefIdeal.main_arg2) = m ((c.tc : Thread Cert.AdamORefIdeal.nD Cert.AdamORefIdeal.τ).loc Cert.AdamORefIdeal.main_arg2)
      ∧ r.2.mem ((c.tc : Thread Cert.AdamORefIdeal.nD Cert.AdamORefIdeal.τ).loc Cert.AdamORefIdeal.main_arg3) = m ((c.tc : Thread Cert.AdamORefIdeal.nD Cert.AdamORefIdeal.τ).loc Cert.AdamORefIdeal.main_arg3))
      ∧ r.2.sem = fun _ => 0)

def quiescent_AdamF [hAdamF : Cert.AdamF.Facts] : Prop :=
  ∀ (m : (ℓ : Loc Cert.AdamF.nD Cert.AdamF.τ Cert.AdamF.sig) → Buf (Elt Bits) ℓ) (g : Dev Cert.AdamF.nD → PrngReg), Pre_AdamF m →
    θ_run (Cert.AdamF.defs (F := Bits)) (onTc (τ := Cert.AdamF.τ) (Cert.AdamF.main (F := Bits))) ⟨m, fun _ => 0, g⟩ (fun r => (∀ c : Dev Cert.AdamF.nD,
      r.2.mem ((c.tc : Thread Cert.AdamF.nD Cert.AdamF.τ).loc Cert.AdamF.main_arg0) = m ((c.tc : Thread Cert.AdamF.nD Cert.AdamF.τ).loc Cert.AdamF.main_arg0)
      ∧ r.2.mem ((c.tc : Thread Cert.AdamF.nD Cert.AdamF.τ).loc Cert.AdamF.main_arg1) = m ((c.tc : Thread Cert.AdamF.nD Cert.AdamF.τ).loc Cert.AdamF.main_arg1)
      ∧ r.2.mem ((c.tc : Thread Cert.AdamF.nD Cert.AdamF.τ).loc Cert.AdamF.main_arg2) = m ((c.tc : Thread Cert.AdamF.nD Cert.AdamF.τ).loc Cert.AdamF.main_arg2)
      ∧ r.2.mem ((c.tc : Thread Cert.AdamF.nD Cert.AdamF.τ).loc Cert.AdamF.main_arg3) = m ((c.tc : Thread Cert.AdamF.nD Cert.AdamF.τ).loc Cert.AdamF.main_arg3))
      ∧ r.2.sem = fun _ => 0)

def quiescent_AdamFIdeal [hAdamFIdeal : Cert.AdamFIdeal.Facts] : Prop :=
  ∀ (m : (ℓ : Loc Cert.AdamFIdeal.nD Cert.AdamFIdeal.τ Cert.AdamFIdeal.sig) → Buf (Elt Ideal) ℓ) (g : Dev Cert.AdamFIdeal.nD → PrngReg), Pre_AdamFIdeal m →
    θ_run (Cert.AdamFIdeal.defs (F := Ideal)) (onTc (τ := Cert.AdamFIdeal.τ) (Cert.AdamFIdeal.main (F := Ideal))) ⟨m, fun _ => 0, g⟩ (fun r => (∀ c : Dev Cert.AdamFIdeal.nD,
      r.2.mem ((c.tc : Thread Cert.AdamFIdeal.nD Cert.AdamFIdeal.τ).loc Cert.AdamFIdeal.main_arg0) = m ((c.tc : Thread Cert.AdamFIdeal.nD Cert.AdamFIdeal.τ).loc Cert.AdamFIdeal.main_arg0)
      ∧ r.2.mem ((c.tc : Thread Cert.AdamFIdeal.nD Cert.AdamFIdeal.τ).loc Cert.AdamFIdeal.main_arg1) = m ((c.tc : Thread Cert.AdamFIdeal.nD Cert.AdamFIdeal.τ).loc Cert.AdamFIdeal.main_arg1)
      ∧ r.2.mem ((c.tc : Thread Cert.AdamFIdeal.nD Cert.AdamFIdeal.τ).loc Cert.AdamFIdeal.main_arg2) = m ((c.tc : Thread Cert.AdamFIdeal.nD Cert.AdamFIdeal.τ).loc Cert.AdamFIdeal.main_arg2)
      ∧ r.2.mem ((c.tc : Thread Cert.AdamFIdeal.nD Cert.AdamFIdeal.τ).loc Cert.AdamFIdeal.main_arg3) = m ((c.tc : Thread Cert.AdamFIdeal.nD Cert.AdamFIdeal.τ).loc Cert.AdamFIdeal.main_arg3))
      ∧ r.2.sem = fun _ => 0)

def quiescent_AdamFRefIdeal [hAdamFRefIdeal : Cert.AdamFRefIdeal.Facts] : Prop :=
  ∀ (m : (ℓ : Loc Cert.AdamFRefIdeal.nD Cert.AdamFRefIdeal.τ Cert.AdamFRefIdeal.sig) → Buf (Elt Ideal) ℓ) (g : Dev Cert.AdamFRefIdeal.nD → PrngReg), Pre_AdamFRefIdeal m →
    θ_run (Cert.AdamFRefIdeal.defs (F := Ideal)) (onTc (τ := Cert.AdamFRefIdeal.τ) (Cert.AdamFRefIdeal.main (F := Ideal))) ⟨m, fun _ => 0, g⟩ (fun r => (∀ c : Dev Cert.AdamFRefIdeal.nD,
      r.2.mem ((c.tc : Thread Cert.AdamFRefIdeal.nD Cert.AdamFRefIdeal.τ).loc Cert.AdamFRefIdeal.main_arg0) = m ((c.tc : Thread Cert.AdamFRefIdeal.nD Cert.AdamFRefIdeal.τ).loc Cert.AdamFRefIdeal.main_arg0)
      ∧ r.2.mem ((c.tc : Thread Cert.AdamFRefIdeal.nD Cert.AdamFRefIdeal.τ).loc Cert.AdamFRefIdeal.main_arg1) = m ((c.tc : Thread Cert.AdamFRefIdeal.nD Cert.AdamFRefIdeal.τ).loc Cert.AdamFRefIdeal.main_arg1)
      ∧ r.2.mem ((c.tc : Thread Cert.AdamFRefIdeal.nD Cert.AdamFRefIdeal.τ).loc Cert.AdamFRefIdeal.main_arg2) = m ((c.tc : Thread Cert.AdamFRefIdeal.nD Cert.AdamFRefIdeal.τ).loc Cert.AdamFRefIdeal.main_arg2)
      ∧ r.2.mem ((c.tc : Thread Cert.AdamFRefIdeal.nD Cert.AdamFRefIdeal.τ).loc Cert.AdamFRefIdeal.main_arg3) = m ((c.tc : Thread Cert.AdamFRefIdeal.nD Cert.AdamFRefIdeal.τ).loc Cert.AdamFRefIdeal.main_arg3))
      ∧ r.2.sem = fun _ => 0)

def quiescent_AdamI [hAdamI : Cert.AdamI.Facts] : Prop :=
  ∀ (m : (ℓ : Loc Cert.AdamI.nD Cert.AdamI.τ Cert.AdamI.sig) → Buf (Elt Bits) ℓ) (g : Dev Cert.AdamI.nD → PrngReg), Pre_AdamI m →
    θ_run (Cert.AdamI.defs (F := Bits)) (onTc (τ := Cert.AdamI.τ) (Cert.AdamI.main (F := Bits))) ⟨m, fun _ => 0, g⟩ (fun r => (∀ c : Dev Cert.AdamI.nD,
      r.2.mem ((c.tc : Thread Cert.AdamI.nD Cert.AdamI.τ).loc Cert.AdamI.main_arg0) = m ((c.tc : Thread Cert.AdamI.nD Cert.AdamI.τ).loc Cert.AdamI.main_arg0)
      ∧ r.2.mem ((c.tc : Thread Cert.AdamI.nD Cert.AdamI.τ).loc Cert.AdamI.main_arg1) = m ((c.tc : Thread Cert.AdamI.nD Cert.AdamI.τ).loc Cert.AdamI.main_arg1)
      ∧ r.2.mem ((c.tc : Thread Cert.AdamI.nD Cert.AdamI.τ).loc Cert.AdamI.main_arg2) = m ((c.tc : Thread Cert.AdamI.nD Cert.AdamI.τ).loc Cert.AdamI.main_arg2)
      ∧ r.2.mem ((c.tc : Thread Cert.AdamI.nD Cert.AdamI.τ).loc Cert.AdamI.main_arg3) = m ((c.tc : Thread Cert.AdamI.nD Cert.AdamI.τ).loc Cert.AdamI.main_arg3))
      ∧ r.2.sem = fun _ => 0)

def quiescent_AdamIIdeal [hAdamIIdeal : Cert.AdamIIdeal.Facts] : Prop :=
  ∀ (m : (ℓ : Loc Cert.AdamIIdeal.nD Cert.AdamIIdeal.τ Cert.AdamIIdeal.sig) → Buf (Elt Ideal) ℓ) (g : Dev Cert.AdamIIdeal.nD → PrngReg), Pre_AdamIIdeal m →
    θ_run (Cert.AdamIIdeal.defs (F := Ideal)) (onTc (τ := Cert.AdamIIdeal.τ) (Cert.AdamIIdeal.main (F := Ideal))) ⟨m, fun _ => 0, g⟩ (fun r => (∀ c : Dev Cert.AdamIIdeal.nD,
      r.2.mem ((c.tc : Thread Cert.AdamIIdeal.nD Cert.AdamIIdeal.τ).loc Cert.AdamIIdeal.main_arg0) = m ((c.tc : Thread Cert.AdamIIdeal.nD Cert.AdamIIdeal.τ).loc Cert.AdamIIdeal.main_arg0)
      ∧ r.2.mem ((c.tc : Thread Cert.AdamIIdeal.nD Cert.AdamIIdeal.τ).loc Cert.AdamIIdeal.main_arg1) = m ((c.tc : Thread Cert.AdamIIdeal.nD Cert.AdamIIdeal.τ).loc Cert.AdamIIdeal.main_arg1)
      ∧ r.2.mem ((c.tc : Thread Cert.AdamIIdeal.nD Cert.AdamIIdeal.τ).loc Cert.AdamIIdeal.main_arg2) = m ((c.tc : Thread Cert.AdamIIdeal.nD Cert.AdamIIdeal.τ).loc Cert.AdamIIdeal.main_arg2)
      ∧ r.2.mem ((c.tc : Thread Cert.AdamIIdeal.nD Cert.AdamIIdeal.τ).loc Cert.AdamIIdeal.main_arg3) = m ((c.tc : Thread Cert.AdamIIdeal.nD Cert.AdamIIdeal.τ).loc Cert.AdamIIdeal.main_arg3))
      ∧ r.2.sem = fun _ => 0)

def quiescent_AdamIRefIdeal [hAdamIRefIdeal : Cert.AdamIRefIdeal.Facts] : Prop :=
  ∀ (m : (ℓ : Loc Cert.AdamIRefIdeal.nD Cert.AdamIRefIdeal.τ Cert.AdamIRefIdeal.sig) → Buf (Elt Ideal) ℓ) (g : Dev Cert.AdamIRefIdeal.nD → PrngReg), Pre_AdamIRefIdeal m →
    θ_run (Cert.AdamIRefIdeal.defs (F := Ideal)) (onTc (τ := Cert.AdamIRefIdeal.τ) (Cert.AdamIRefIdeal.main (F := Ideal))) ⟨m, fun _ => 0, g⟩ (fun r => (∀ c : Dev Cert.AdamIRefIdeal.nD,
      r.2.mem ((c.tc : Thread Cert.AdamIRefIdeal.nD Cert.AdamIRefIdeal.τ).loc Cert.AdamIRefIdeal.main_arg0) = m ((c.tc : Thread Cert.AdamIRefIdeal.nD Cert.AdamIRefIdeal.τ).loc Cert.AdamIRefIdeal.main_arg0)
      ∧ r.2.mem ((c.tc : Thread Cert.AdamIRefIdeal.nD Cert.AdamIRefIdeal.τ).loc Cert.AdamIRefIdeal.main_arg1) = m ((c.tc : Thread Cert.AdamIRefIdeal.nD Cert.AdamIRefIdeal.τ).loc Cert.AdamIRefIdeal.main_arg1)
      ∧ r.2.mem ((c.tc : Thread Cert.AdamIRefIdeal.nD Cert.AdamIRefIdeal.τ).loc Cert.AdamIRefIdeal.main_arg2) = m ((c.tc : Thread Cert.AdamIRefIdeal.nD Cert.AdamIRefIdeal.τ).loc Cert.AdamIRefIdeal.main_arg2)
      ∧ r.2.mem ((c.tc : Thread Cert.AdamIRefIdeal.nD Cert.AdamIRefIdeal.τ).loc Cert.AdamIRefIdeal.main_arg3) = m ((c.tc : Thread Cert.AdamIRefIdeal.nD Cert.AdamIRefIdeal.τ).loc Cert.AdamIRefIdeal.main_arg3))
      ∧ r.2.sem = fun _ => 0)

def quiescent_AdamN [hAdamN : Cert.AdamN.Facts] : Prop :=
  ∀ (m : (ℓ : Loc Cert.AdamN.nD Cert.AdamN.τ Cert.AdamN.sig) → Buf (Elt Bits) ℓ) (g : Dev Cert.AdamN.nD → PrngReg), Pre_AdamN m →
    θ_run (Cert.AdamN.defs (F := Bits)) (onTc (τ := Cert.AdamN.τ) (Cert.AdamN.main (F := Bits))) ⟨m, fun _ => 0, g⟩ (fun r => (∀ c : Dev Cert.AdamN.nD,
      r.2.mem ((c.tc : Thread Cert.AdamN.nD Cert.AdamN.τ).loc Cert.AdamN.main_arg0) = m ((c.tc : Thread Cert.AdamN.nD Cert.AdamN.τ).loc Cert.AdamN.main_arg0)
      ∧ r.2.mem ((c.tc : Thread Cert.AdamN.nD Cert.AdamN.τ).loc Cert.AdamN.main_arg1) = m ((c.tc : Thread Cert.AdamN.nD Cert.AdamN.τ).loc Cert.AdamN.main_arg1)
      ∧ r.2.mem ((c.tc : Thread Cert.AdamN.nD Cert.AdamN.τ).loc Cert.AdamN.main_arg2) = m ((c.tc : Thread Cert.AdamN.nD Cert.AdamN.τ).loc Cert.AdamN.main_arg2)
      ∧ r.2.mem ((c.tc : Thread Cert.AdamN.nD Cert.AdamN.τ).loc Cert.AdamN.main_arg3) = m ((c.tc : Thread Cert.AdamN.nD Cert.AdamN.τ).loc Cert.AdamN.main_arg3))
      ∧ r.2.sem = fun _ => 0)

def quiescent_AdamNIdeal [hAdamNIdeal : Cert.AdamNIdeal.Facts] : Prop :=
  ∀ (m : (ℓ : Loc Cert.AdamNIdeal.nD Cert.AdamNIdeal.τ Cert.AdamNIdeal.sig) → Buf (Elt Ideal) ℓ) (g : Dev Cert.AdamNIdeal.nD → PrngReg), Pre_AdamNIdeal m →
    θ_run (Cert.AdamNIdeal.defs (F := Ideal)) (onTc (τ := Cert.AdamNIdeal.τ) (Cert.AdamNIdeal.main (F := Ideal))) ⟨m, fun _ => 0, g⟩ (fun r => (∀ c : Dev Cert.AdamNIdeal.nD,
      r.2.mem ((c.tc : Thread Cert.AdamNIdeal.nD Cert.AdamNIdeal.τ).loc Cert.AdamNIdeal.main_arg0) = m ((c.tc : Thread Cert.AdamNIdeal.nD Cert.AdamNIdeal.τ).loc Cert.AdamNIdeal.main_arg0)
      ∧ r.2.mem ((c.tc : Thread Cert.AdamNIdeal.nD Cert.AdamNIdeal.τ).loc Cert.AdamNIdeal.main_arg1) = m ((c.tc : Thread Cert.AdamNIdeal.nD Cert.AdamNIdeal.τ).loc Cert.AdamNIdeal.main_arg1)
      ∧ r.2.mem ((c.tc : Thread Cert.AdamNIdeal.nD Cert.AdamNIdeal.τ).loc Cert.AdamNIdeal.main_arg2) = m ((c.tc : Thread Cert.AdamNIdeal.nD Cert.AdamNIdeal.τ).loc Cert.AdamNIdeal.main_arg2)
      ∧ r.2.mem ((c.tc : Thread Cert.AdamNIdeal.nD Cert.AdamNIdeal.τ).loc Cert.AdamNIdeal.main_arg3) = m ((c.tc : Thread Cert.AdamNIdeal.nD Cert.AdamNIdeal.τ).loc Cert.AdamNIdeal.main_arg3))
      ∧ r.2.sem = fun _ => 0)

def quiescent_AdamNRefIdeal [hAdamNRefIdeal : Cert.AdamNRefIdeal.Facts] : Prop :=
  ∀ (m : (ℓ : Loc Cert.AdamNRefIdeal.nD Cert.AdamNRefIdeal.τ Cert.AdamNRefIdeal.sig) → Buf (Elt Ideal) ℓ) (g : Dev Cert.AdamNRefIdeal.nD → PrngReg), Pre_AdamNRefIdeal m →
    θ_run (Cert.AdamNRefIdeal.defs (F := Ideal)) (onTc (τ := Cert.AdamNRefIdeal.τ) (Cert.AdamNRefIdeal.main (F := Ideal))) ⟨m, fun _ => 0, g⟩ (fun r => (∀ c : Dev Cert.AdamNRefIdeal.nD,
      r.2.mem ((c.tc : Thread Cert.AdamNRefIdeal.nD Cert.AdamNRefIdeal.τ).loc Cert.AdamNRefIdeal.main_arg0) = m ((c.tc : Thread Cert.AdamNRefIdeal.nD Cert.AdamNRefIdeal.τ).loc Cert.AdamNRefIdeal.main_arg0)
      ∧ r.2.mem ((c.tc : Thread Cert.AdamNRefIdeal.nD Cert.AdamNRefIdeal.τ).loc Cert.AdamNRefIdeal.main_arg1) = m ((c.tc : Thread Cert.AdamNRefIdeal.nD Cert.AdamNRefIdeal.τ).loc Cert.AdamNRefIdeal.main_arg1)
      ∧ r.2.mem ((c.tc : Thread Cert.AdamNRefIdeal.nD Cert.AdamNRefIdeal.τ).loc Cert.AdamNRefIdeal.main_arg2) = m ((c.tc : Thread Cert.AdamNRefIdeal.nD Cert.AdamNRefIdeal.τ).loc Cert.AdamNRefIdeal.main_arg2)
      ∧ r.2.mem ((c.tc : Thread Cert.AdamNRefIdeal.nD Cert.AdamNRefIdeal.τ).loc Cert.AdamNRefIdeal.main_arg3) = m ((c.tc : Thread Cert.AdamNRefIdeal.nD Cert.AdamNRefIdeal.τ).loc Cert.AdamNRefIdeal.main_arg3))
      ∧ r.2.sem = fun _ => 0)

def quiescent_AdamB [hAdamB : Cert.AdamB.Facts] : Prop :=
  ∀ (m : (ℓ : Loc Cert.AdamB.nD Cert.AdamB.τ Cert.AdamB.sig) → Buf (Elt Bits) ℓ) (g : Dev Cert.AdamB.nD → PrngReg), Pre_AdamB m →
    θ_run (Cert.AdamB.defs (F := Bits)) (onTc (τ := Cert.AdamB.τ) (Cert.AdamB.main (F := Bits))) ⟨m, fun _ => 0, g⟩ (fun r => (∀ c : Dev Cert.AdamB.nD,
      r.2.mem ((c.tc : Thread Cert.AdamB.nD Cert.AdamB.τ).loc Cert.AdamB.main_arg0) = m ((c.tc : Thread Cert.AdamB.nD Cert.AdamB.τ).loc Cert.AdamB.main_arg0)
      ∧ r.2.mem ((c.tc : Thread Cert.AdamB.nD Cert.AdamB.τ).loc Cert.AdamB.main_arg1) = m ((c.tc : Thread Cert.AdamB.nD Cert.AdamB.τ).loc Cert.AdamB.main_arg1)
      ∧ r.2.mem ((c.tc : Thread Cert.AdamB.nD Cert.AdamB.τ).loc Cert.AdamB.main_arg2) = m ((c.tc : Thread Cert.AdamB.nD Cert.AdamB.τ).loc Cert.AdamB.main_arg2)
      ∧ r.2.mem ((c.tc : Thread Cert.AdamB.nD Cert.AdamB.τ).loc Cert.AdamB.main_arg3) = m ((c.tc : Thread Cert.AdamB.nD Cert.AdamB.τ).loc Cert.AdamB.main_arg3))
      ∧ r.2.sem = fun _ => 0)

def quiescent_AdamBIdeal [hAdamBIdeal : Cert.AdamBIdeal.Facts] : Prop :=
  ∀ (m : (ℓ : Loc Cert.AdamBIdeal.nD Cert.AdamBIdeal.τ Cert.AdamBIdeal.sig) → Buf (Elt Ideal) ℓ) (g : Dev Cert.AdamBIdeal.nD → PrngReg), Pre_AdamBIdeal m →
    θ_run (Cert.AdamBIdeal.defs (F := Ideal)) (onTc (τ := Cert.AdamBIdeal.τ) (Cert.AdamBIdeal.main (F := Ideal))) ⟨m, fun _ => 0, g⟩ (fun r => (∀ c : Dev Cert.AdamBIdeal.nD,
      r.2.mem ((c.tc : Thread Cert.AdamBIdeal.nD Cert.AdamBIdeal.τ).loc Cert.AdamBIdeal.main_arg0) = m ((c.tc : Thread Cert.AdamBIdeal.nD Cert.AdamBIdeal.τ).loc Cert.AdamBIdeal.main_arg0)
      ∧ r.2.mem ((c.tc : Thread Cert.AdamBIdeal.nD Cert.AdamBIdeal.τ).loc Cert.AdamBIdeal.main_arg1) = m ((c.tc : Thread Cert.AdamBIdeal.nD Cert.AdamBIdeal.τ).loc Cert.AdamBIdeal.main_arg1)
      ∧ r.2.mem ((c.tc : Thread Cert.AdamBIdeal.nD Cert.AdamBIdeal.τ).loc Cert.AdamBIdeal.main_arg2) = m ((c.tc : Thread Cert.AdamBIdeal.nD Cert.AdamBIdeal.τ).loc Cert.AdamBIdeal.main_arg2)
      ∧ r.2.mem ((c.tc : Thread Cert.AdamBIdeal.nD Cert.AdamBIdeal.τ).loc Cert.AdamBIdeal.main_arg3) = m ((c.tc : Thread Cert.AdamBIdeal.nD Cert.AdamBIdeal.τ).loc Cert.AdamBIdeal.main_arg3))
      ∧ r.2.sem = fun _ => 0)

def quiescent_AdamBRefIdeal [hAdamBRefIdeal : Cert.AdamBRefIdeal.Facts] : Prop :=
  ∀ (m : (ℓ : Loc Cert.AdamBRefIdeal.nD Cert.AdamBRefIdeal.τ Cert.AdamBRefIdeal.sig) → Buf (Elt Ideal) ℓ) (g : Dev Cert.AdamBRefIdeal.nD → PrngReg), Pre_AdamBRefIdeal m →
    θ_run (Cert.AdamBRefIdeal.defs (F := Ideal)) (onTc (τ := Cert.AdamBRefIdeal.τ) (Cert.AdamBRefIdeal.main (F := Ideal))) ⟨m, fun _ => 0, g⟩ (fun r => (∀ c : Dev Cert.AdamBRefIdeal.nD,
      r.2.mem ((c.tc : Thread Cert.AdamBRefIdeal.nD Cert.AdamBRefIdeal.τ).loc Cert.AdamBRefIdeal.main_arg0) = m ((c.tc : Thread Cert.AdamBRefIdeal.nD Cert.AdamBRefIdeal.τ).loc Cert.AdamBRefIdeal.main_arg0)
      ∧ r.2.mem ((c.tc : Thread Cert.AdamBRefIdeal.nD Cert.AdamBRefIdeal.τ).loc Cert.AdamBRefIdeal.main_arg1) = m ((c.tc : Thread Cert.AdamBRefIdeal.nD Cert.AdamBRefIdeal.τ).loc Cert.AdamBRefIdeal.main_arg1)
      ∧ r.2.mem ((c.tc : Thread Cert.AdamBRefIdeal.nD Cert.AdamBRefIdeal.τ).loc Cert.AdamBRefIdeal.main_arg2) = m ((c.tc : Thread Cert.AdamBRefIdeal.nD Cert.AdamBRefIdeal.τ).loc Cert.AdamBRefIdeal.main_arg2)
      ∧ r.2.mem ((c.tc : Thread Cert.AdamBRefIdeal.nD Cert.AdamBRefIdeal.τ).loc Cert.AdamBRefIdeal.main_arg3) = m ((c.tc : Thread Cert.AdamBRefIdeal.nD Cert.AdamBRefIdeal.τ).loc Cert.AdamBRefIdeal.main_arg3))
      ∧ r.2.sem = fun _ => 0)

def quiescent_AdamS [hAdamS : Cert.AdamS.Facts] : Prop :=
  ∀ (m : (ℓ : Loc Cert.AdamS.nD Cert.AdamS.τ Cert.AdamS.sig) → Buf (Elt Bits) ℓ) (g : Dev Cert.AdamS.nD → PrngReg), Pre_AdamS m →
    θ_run (Cert.AdamS.defs (F := Bits)) (onTc (τ := Cert.AdamS.τ) (Cert.AdamS.main (F := Bits))) ⟨m, fun _ => 0, g⟩ (fun r => (∀ c : Dev Cert.AdamS.nD,
      r.2.mem ((c.tc : Thread Cert.AdamS.nD Cert.AdamS.τ).loc Cert.AdamS.main_arg0) = m ((c.tc : Thread Cert.AdamS.nD Cert.AdamS.τ).loc Cert.AdamS.main_arg0)
      ∧ r.2.mem ((c.tc : Thread Cert.AdamS.nD Cert.AdamS.τ).loc Cert.AdamS.main_arg1) = m ((c.tc : Thread Cert.AdamS.nD Cert.AdamS.τ).loc Cert.AdamS.main_arg1)
      ∧ r.2.mem ((c.tc : Thread Cert.AdamS.nD Cert.AdamS.τ).loc Cert.AdamS.main_arg2) = m ((c.tc : Thread Cert.AdamS.nD Cert.AdamS.τ).loc Cert.AdamS.main_arg2)
      ∧ r.2.mem ((c.tc : Thread Cert.AdamS.nD Cert.AdamS.τ).loc Cert.AdamS.main_arg3) = m ((c.tc : Thread Cert.AdamS.nD Cert.AdamS.τ).loc Cert.AdamS.main_arg3))
      ∧ r.2.sem = fun _ => 0)

def quiescent_AdamSIdeal [hAdamSIdeal : Cert.AdamSIdeal.Facts] : Prop :=
  ∀ (m : (ℓ : Loc Cert.AdamSIdeal.nD Cert.AdamSIdeal.τ Cert.AdamSIdeal.sig) → Buf (Elt Ideal) ℓ) (g : Dev Cert.AdamSIdeal.nD → PrngReg), Pre_AdamSIdeal m →
    θ_run (Cert.AdamSIdeal.defs (F := Ideal)) (onTc (τ := Cert.AdamSIdeal.τ) (Cert.AdamSIdeal.main (F := Ideal))) ⟨m, fun _ => 0, g⟩ (fun r => (∀ c : Dev Cert.AdamSIdeal.nD,
      r.2.mem ((c.tc : Thread Cert.AdamSIdeal.nD Cert.AdamSIdeal.τ).loc Cert.AdamSIdeal.main_arg0) = m ((c.tc : Thread Cert.AdamSIdeal.nD Cert.AdamSIdeal.τ).loc Cert.AdamSIdeal.main_arg0)
      ∧ r.2.mem ((c.tc : Thread Cert.AdamSIdeal.nD Cert.AdamSIdeal.τ).loc Cert.AdamSIdeal.main_arg1) = m ((c.tc : Thread Cert.AdamSIdeal.nD Cert.AdamSIdeal.τ).loc Cert.AdamSIdeal.main_arg1)
      ∧ r.2.mem ((c.tc : Thread Cert.AdamSIdeal.nD Cert.AdamSIdeal.τ).loc Cert.AdamSIdeal.main_arg2) = m ((c.tc : Thread Cert.AdamSIdeal.nD Cert.AdamSIdeal.τ).loc Cert.AdamSIdeal.main_arg2)
      ∧ r.2.mem ((c.tc : Thread Cert.AdamSIdeal.nD Cert.AdamSIdeal.τ).loc Cert.AdamSIdeal.main_arg3) = m ((c.tc : Thread Cert.AdamSIdeal.nD Cert.AdamSIdeal.τ).loc Cert.AdamSIdeal.main_arg3))
      ∧ r.2.sem = fun _ => 0)

def quiescent_AdamSRefIdeal [hAdamSRefIdeal : Cert.AdamSRefIdeal.Facts] : Prop :=
  ∀ (m : (ℓ : Loc Cert.AdamSRefIdeal.nD Cert.AdamSRefIdeal.τ Cert.AdamSRefIdeal.sig) → Buf (Elt Ideal) ℓ) (g : Dev Cert.AdamSRefIdeal.nD → PrngReg), Pre_AdamSRefIdeal m →
    θ_run (Cert.AdamSRefIdeal.defs (F := Ideal)) (onTc (τ := Cert.AdamSRefIdeal.τ) (Cert.AdamSRefIdeal.main (F := Ideal))) ⟨m, fun _ => 0, g⟩ (fun r => (∀ c : Dev Cert.AdamSRefIdeal.nD,
      r.2.mem ((c.tc : Thread Cert.AdamSRefIdeal.nD Cert.AdamSRefIdeal.τ).loc Cert.AdamSRefIdeal.main_arg0) = m ((c.tc : Thread Cert.AdamSRefIdeal.nD Cert.AdamSRefIdeal.τ).loc Cert.AdamSRefIdeal.main_arg0)
      ∧ r.2.mem ((c.tc : Thread Cert.AdamSRefIdeal.nD Cert.AdamSRefIdeal.τ).loc Cert.AdamSRefIdeal.main_arg1) = m ((c.tc : Thread Cert.AdamSRefIdeal.nD Cert.AdamSRefIdeal.τ).loc Cert.AdamSRefIdeal.main_arg1)
      ∧ r.2.mem ((c.tc : Thread Cert.AdamSRefIdeal.nD Cert.AdamSRefIdeal.τ).loc Cert.AdamSRefIdeal.main_arg2) = m ((c.tc : Thread Cert.AdamSRefIdeal.nD Cert.AdamSRefIdeal.τ).loc Cert.AdamSRefIdeal.main_arg2)
      ∧ r.2.mem ((c.tc : Thread Cert.AdamSRefIdeal.nD Cert.AdamSRefIdeal.τ).loc Cert.AdamSRefIdeal.main_arg3) = m ((c.tc : Thread Cert.AdamSRefIdeal.nD Cert.AdamSRefIdeal.τ).loc Cert.AdamSRefIdeal.main_arg3))
      ∧ r.2.sem = fun _ => 0)

def quiescent_AdamC [hAdamC : Cert.AdamC.Facts] : Prop :=
  ∀ (m : (ℓ : Loc Cert.AdamC.nD Cert.AdamC.τ Cert.AdamC.sig) → Buf (Elt Bits) ℓ) (g : Dev Cert.AdamC.nD → PrngReg), Pre_AdamC m →
    θ_run (Cert.AdamC.defs (F := Bits)) (onTc (τ := Cert.AdamC.τ) (Cert.AdamC.main (F := Bits))) ⟨m, fun _ => 0, g⟩ (fun r => (∀ c : Dev Cert.AdamC.nD,
      r.2.mem ((c.tc : Thread Cert.AdamC.nD Cert.AdamC.τ).loc Cert.AdamC.main_arg0) = m ((c.tc : Thread Cert.AdamC.nD Cert.AdamC.τ).loc Cert.AdamC.main_arg0)
      ∧ r.2.mem ((c.tc : Thread Cert.AdamC.nD Cert.AdamC.τ).loc Cert.AdamC.main_arg1) = m ((c.tc : Thread Cert.AdamC.nD Cert.AdamC.τ).loc Cert.AdamC.main_arg1)
      ∧ r.2.mem ((c.tc : Thread Cert.AdamC.nD Cert.AdamC.τ).loc Cert.AdamC.main_arg2) = m ((c.tc : Thread Cert.AdamC.nD Cert.AdamC.τ).loc Cert.AdamC.main_arg2)
      ∧ r.2.mem ((c.tc : Thread Cert.AdamC.nD Cert.AdamC.τ).loc Cert.AdamC.main_arg3) = m ((c.tc : Thread Cert.AdamC.nD Cert.AdamC.τ).loc Cert.AdamC.main_arg3))
      ∧ r.2.sem = fun _ => 0)

def quiescent_AdamCIdeal [hAdamCIdeal : Cert.AdamCIdeal.Facts] : Prop :=
  ∀ (m : (ℓ : Loc Cert.AdamCIdeal.nD Cert.AdamCIdeal.τ Cert.AdamCIdeal.sig) → Buf (Elt Ideal) ℓ) (g : Dev Cert.AdamCIdeal.nD → PrngReg), Pre_AdamCIdeal m →
    θ_run (Cert.AdamCIdeal.defs (F := Ideal)) (onTc (τ := Cert.AdamCIdeal.τ) (Cert.AdamCIdeal.main (F := Ideal))) ⟨m, fun _ => 0, g⟩ (fun r => (∀ c : Dev Cert.AdamCIdeal.nD,
      r.2.mem ((c.tc : Thread Cert.AdamCIdeal.nD Cert.AdamCIdeal.τ).loc Cert.AdamCIdeal.main_arg0) = m ((c.tc : Thread Cert.AdamCIdeal.nD Cert.AdamCIdeal.τ).loc Cert.AdamCIdeal.main_arg0)
      ∧ r.2.mem ((c.tc : Thread Cert.AdamCIdeal.nD Cert.AdamCIdeal.τ).loc Cert.AdamCIdeal.main_arg1) = m ((c.tc : Thread Cert.AdamCIdeal.nD Cert.AdamCIdeal.τ).loc Cert.AdamCIdeal.main_arg1)
      ∧ r.2.mem ((c.tc : Thread Cert.AdamCIdeal.nD Cert.AdamCIdeal.τ).loc Cert.AdamCIdeal.main_arg2) = m ((c.tc : Thread Cert.AdamCIdeal.nD Cert.AdamCIdeal.τ).loc Cert.AdamCIdeal.main_arg2)
      ∧ r.2.mem ((c.tc : Thread Cert.AdamCIdeal.nD Cert.AdamCIdeal.τ).loc Cert.AdamCIdeal.main_arg3) = m ((c.tc : Thread Cert.AdamCIdeal.nD Cert.AdamCIdeal.τ).loc Cert.AdamCIdeal.main_arg3))
      ∧ r.2.sem = fun _ => 0)

def quiescent_AdamCRefIdeal [hAdamCRefIdeal : Cert.AdamCRefIdeal.Facts] : Prop :=
  ∀ (m : (ℓ : Loc Cert.AdamCRefIdeal.nD Cert.AdamCRefIdeal.τ Cert.AdamCRefIdeal.sig) → Buf (Elt Ideal) ℓ) (g : Dev Cert.AdamCRefIdeal.nD → PrngReg), Pre_AdamCRefIdeal m →
    θ_run (Cert.AdamCRefIdeal.defs (F := Ideal)) (onTc (τ := Cert.AdamCRefIdeal.τ) (Cert.AdamCRefIdeal.main (F := Ideal))) ⟨m, fun _ => 0, g⟩ (fun r => (∀ c : Dev Cert.AdamCRefIdeal.nD,
      r.2.mem ((c.tc : Thread Cert.AdamCRefIdeal.nD Cert.AdamCRefIdeal.τ).loc Cert.AdamCRefIdeal.main_arg0) = m ((c.tc : Thread Cert.AdamCRefIdeal.nD Cert.AdamCRefIdeal.τ).loc Cert.AdamCRefIdeal.main_arg0)
      ∧ r.2.mem ((c.tc : Thread Cert.AdamCRefIdeal.nD Cert.AdamCRefIdeal.τ).loc Cert.AdamCRefIdeal.main_arg1) = m ((c.tc : Thread Cert.AdamCRefIdeal.nD Cert.AdamCRefIdeal.τ).loc Cert.AdamCRefIdeal.main_arg1)
      ∧ r.2.mem ((c.tc : Thread Cert.AdamCRefIdeal.nD Cert.AdamCRefIdeal.τ).loc Cert.AdamCRefIdeal.main_arg2) = m ((c.tc : Thread Cert.AdamCRefIdeal.nD Cert.AdamCRefIdeal.τ).loc Cert.AdamCRefIdeal.main_arg2)
      ∧ r.2.mem ((c.tc : Thread Cert.AdamCRefIdeal.nD Cert.AdamCRefIdeal.τ).loc Cert.AdamCRefIdeal.main_arg3) = m ((c.tc : Thread Cert.AdamCRefIdeal.nD Cert.AdamCRefIdeal.τ).loc Cert.AdamCRefIdeal.main_arg3))
      ∧ r.2.sem = fun _ => 0)

def quiescent_AdamH [hAdamH : Cert.AdamH.Facts] : Prop :=
  ∀ (m : (ℓ : Loc Cert.AdamH.nD Cert.AdamH.τ Cert.AdamH.sig) → Buf (Elt Bits) ℓ) (g : Dev Cert.AdamH.nD → PrngReg), Pre_AdamH m →
    θ_run (Cert.AdamH.defs (F := Bits)) (onTc (τ := Cert.AdamH.τ) (Cert.AdamH.main (F := Bits))) ⟨m, fun _ => 0, g⟩ (fun r => (∀ c : Dev Cert.AdamH.nD,
      r.2.mem ((c.tc : Thread Cert.AdamH.nD Cert.AdamH.τ).loc Cert.AdamH.main_arg0) = m ((c.tc : Thread Cert.AdamH.nD Cert.AdamH.τ).loc Cert.AdamH.main_arg0)
      ∧ r.2.mem ((c.tc : Thread Cert.AdamH.nD Cert.AdamH.τ).loc Cert.AdamH.main_arg1) = m ((c.tc : Thread Cert.AdamH.nD Cert.AdamH.τ).loc Cert.AdamH.main_arg1)
      ∧ r.2.mem ((c.tc : Thread Cert.AdamH.nD Cert.AdamH.τ).loc Cert.AdamH.main_arg2) = m ((c.tc : Thread Cert.AdamH.nD Cert.AdamH.τ).loc Cert.AdamH.main_arg2)
      ∧ r.2.mem ((c.tc : Thread Cert.AdamH.nD Cert.AdamH.τ).loc Cert.AdamH.main_arg3) = m ((c.tc : Thread Cert.AdamH.nD Cert.AdamH.τ).loc Cert.AdamH.main_arg3))
      ∧ r.2.sem = fun _ => 0)

def quiescent_AdamHIdeal [hAdamHIdeal : Cert.AdamHIdeal.Facts] : Prop :=
  ∀ (m : (ℓ : Loc Cert.AdamHIdeal.nD Cert.AdamHIdeal.τ Cert.AdamHIdeal.sig) → Buf (Elt Ideal) ℓ) (g : Dev Cert.AdamHIdeal.nD → PrngReg), Pre_AdamHIdeal m →
    θ_run (Cert.AdamHIdeal.defs (F := Ideal)) (onTc (τ := Cert.AdamHIdeal.τ) (Cert.AdamHIdeal.main (F := Ideal))) ⟨m, fun _ => 0, g⟩ (fun r => (∀ c : Dev Cert.AdamHIdeal.nD,
      r.2.mem ((c.tc : Thread Cert.AdamHIdeal.nD Cert.AdamHIdeal.τ).loc Cert.AdamHIdeal.main_arg0) = m ((c.tc : Thread Cert.AdamHIdeal.nD Cert.AdamHIdeal.τ).loc Cert.AdamHIdeal.main_arg0)
      ∧ r.2.mem ((c.tc : Thread Cert.AdamHIdeal.nD Cert.AdamHIdeal.τ).loc Cert.AdamHIdeal.main_arg1) = m ((c.tc : Thread Cert.AdamHIdeal.nD Cert.AdamHIdeal.τ).loc Cert.AdamHIdeal.main_arg1)
      ∧ r.2.mem ((c.tc : Thread Cert.AdamHIdeal.nD Cert.AdamHIdeal.τ).loc Cert.AdamHIdeal.main_arg2) = m ((c.tc : Thread Cert.AdamHIdeal.nD Cert.AdamHIdeal.τ).loc Cert.AdamHIdeal.main_arg2)
      ∧ r.2.mem ((c.tc : Thread Cert.AdamHIdeal.nD Cert.AdamHIdeal.τ).loc Cert.AdamHIdeal.main_arg3) = m ((c.tc : Thread Cert.AdamHIdeal.nD Cert.AdamHIdeal.τ).loc Cert.AdamHIdeal.main_arg3))
      ∧ r.2.sem = fun _ => 0)

def quiescent_AdamHRefIdeal [hAdamHRefIdeal : Cert.AdamHRefIdeal.Facts] : Prop :=
  ∀ (m : (ℓ : Loc Cert.AdamHRefIdeal.nD Cert.AdamHRefIdeal.τ Cert.AdamHRefIdeal.sig) → Buf (Elt Ideal) ℓ) (g : Dev Cert.AdamHRefIdeal.nD → PrngReg), Pre_AdamHRefIdeal m →
    θ_run (Cert.AdamHRefIdeal.defs (F := Ideal)) (onTc (τ := Cert.AdamHRefIdeal.τ) (Cert.AdamHRefIdeal.main (F := Ideal))) ⟨m, fun _ => 0, g⟩ (fun r => (∀ c : Dev Cert.AdamHRefIdeal.nD,
      r.2.mem ((c.tc : Thread Cert.AdamHRefIdeal.nD Cert.AdamHRefIdeal.τ).loc Cert.AdamHRefIdeal.main_arg0) = m ((c.tc : Thread Cert.AdamHRefIdeal.nD Cert.AdamHRefIdeal.τ).loc Cert.AdamHRefIdeal.main_arg0)
      ∧ r.2.mem ((c.tc : Thread Cert.AdamHRefIdeal.nD Cert.AdamHRefIdeal.τ).loc Cert.AdamHRefIdeal.main_arg1) = m ((c.tc : Thread Cert.AdamHRefIdeal.nD Cert.AdamHRefIdeal.τ).loc Cert.AdamHRefIdeal.main_arg1)
      ∧ r.2.mem ((c.tc : Thread Cert.AdamHRefIdeal.nD Cert.AdamHRefIdeal.τ).loc Cert.AdamHRefIdeal.main_arg2) = m ((c.tc : Thread Cert.AdamHRefIdeal.nD Cert.AdamHRefIdeal.τ).loc Cert.AdamHRefIdeal.main_arg2)
      ∧ r.2.mem ((c.tc : Thread Cert.AdamHRefIdeal.nD Cert.AdamHRefIdeal.τ).loc Cert.AdamHRefIdeal.main_arg3) = m ((c.tc : Thread Cert.AdamHRefIdeal.nD Cert.AdamHRefIdeal.τ).loc Cert.AdamHRefIdeal.main_arg3))
      ∧ r.2.sem = fun _ => 0)

def quiescent_MixC [hMixC : Cert.MixC.Facts] : Prop :=
  ∀ (m : (ℓ : Loc Cert.MixC.nD Cert.MixC.τ Cert.MixC.sig) → Buf (Elt Bits) ℓ) (g : Dev Cert.MixC.nD → PrngReg), Pre_MixC m →
    θ_run (Cert.MixC.defs (F := Bits)) (onTc (τ := Cert.MixC.τ) (Cert.MixC.main (F := Bits))) ⟨m, fun _ => 0, g⟩ (fun r => (∀ c : Dev Cert.MixC.nD,
      r.2.mem ((c.tc : Thread Cert.MixC.nD Cert.MixC.τ).loc Cert.MixC.main_arg0) = m ((c.tc : Thread Cert.MixC.nD Cert.MixC.τ).loc Cert.MixC.main_arg0)
      ∧ r.2.mem ((c.tc : Thread Cert.MixC.nD Cert.MixC.τ).loc Cert.MixC.main_arg1) = m ((c.tc : Thread Cert.MixC.nD Cert.MixC.τ).loc Cert.MixC.main_arg1)
      ∧ r.2.mem ((c.tc : Thread Cert.MixC.nD Cert.MixC.τ).loc Cert.MixC.main_arg2) = m ((c.tc : Thread Cert.MixC.nD Cert.MixC.τ).loc Cert.MixC.main_arg2)
      ∧ r.2.mem ((c.tc : Thread Cert.MixC.nD Cert.MixC.τ).loc Cert.MixC.main_arg3) = m ((c.tc : Thread Cert.MixC.nD Cert.MixC.τ).loc Cert.MixC.main_arg3)
      ∧ r.2.mem ((c.tc : Thread Cert.MixC.nD Cert.MixC.τ).loc Cert.MixC.main_arg4) = m ((c.tc : Thread Cert.MixC.nD Cert.MixC.τ).loc Cert.MixC.main_arg4)
      ∧ r.2.mem ((c.tc : Thread Cert.MixC.nD Cert.MixC.τ).loc Cert.MixC.main_arg5) = m ((c.tc : Thread Cert.MixC.nD Cert.MixC.τ).loc Cert.MixC.main_arg5))
      ∧ r.2.sem = fun _ => 0)

def quiescent_MixCIdeal [hMixCIdeal : Cert.MixCIdeal.Facts] : Prop :=
  ∀ (m : (ℓ : Loc Cert.MixCIdeal.nD Cert.MixCIdeal.τ Cert.MixCIdeal.sig) → Buf (Elt Ideal) ℓ) (g : Dev Cert.MixCIdeal.nD → PrngReg), Pre_MixCIdeal m →
    θ_run (Cert.MixCIdeal.defs (F := Ideal)) (onTc (τ := Cert.MixCIdeal.τ) (Cert.MixCIdeal.main (F := Ideal))) ⟨m, fun _ => 0, g⟩ (fun r => (∀ c : Dev Cert.MixCIdeal.nD,
      r.2.mem ((c.tc : Thread Cert.MixCIdeal.nD Cert.MixCIdeal.τ).loc Cert.MixCIdeal.main_arg0) = m ((c.tc : Thread Cert.MixCIdeal.nD Cert.MixCIdeal.τ).loc Cert.MixCIdeal.main_arg0)
      ∧ r.2.mem ((c.tc : Thread Cert.MixCIdeal.nD Cert.MixCIdeal.τ).loc Cert.MixCIdeal.main_arg1) = m ((c.tc : Thread Cert.MixCIdeal.nD Cert.MixCIdeal.τ).loc Cert.MixCIdeal.main_arg1)
      ∧ r.2.mem ((c.tc : Thread Cert.MixCIdeal.nD Cert.MixCIdeal.τ).loc Cert.MixCIdeal.main_arg2) = m ((c.tc : Thread Cert.MixCIdeal.nD Cert.MixCIdeal.τ).loc Cert.MixCIdeal.main_arg2)
      ∧ r.2.mem ((c.tc : Thread Cert.MixCIdeal.nD Cert.MixCIdeal.τ).loc Cert.MixCIdeal.main_arg3) = m ((c.tc : Thread Cert.MixCIdeal.nD Cert.MixCIdeal.τ).loc Cert.MixCIdeal.main_arg3)
      ∧ r.2.mem ((c.tc : Thread Cert.MixCIdeal.nD Cert.MixCIdeal.τ).loc Cert.MixCIdeal.main_arg4) = m ((c.tc : Thread Cert.MixCIdeal.nD Cert.MixCIdeal.τ).loc Cert.MixCIdeal.main_arg4)
      ∧ r.2.mem ((c.tc : Thread Cert.MixCIdeal.nD Cert.MixCIdeal.τ).loc Cert.MixCIdeal.main_arg5) = m ((c.tc : Thread Cert.MixCIdeal.nD Cert.MixCIdeal.τ).loc Cert.MixCIdeal.main_arg5))
      ∧ r.2.sem = fun _ => 0)

def quiescent_MixCRefIdeal [hMixCRefIdeal : Cert.MixCRefIdeal.Facts] : Prop :=
  ∀ (m : (ℓ : Loc Cert.MixCRefIdeal.nD Cert.MixCRefIdeal.τ Cert.MixCRefIdeal.sig) → Buf (Elt Ideal) ℓ) (g : Dev Cert.MixCRefIdeal.nD → PrngReg), Pre_MixCRefIdeal m →
    θ_run (Cert.MixCRefIdeal.defs (F := Ideal)) (onTc (τ := Cert.MixCRefIdeal.τ) (Cert.MixCRefIdeal.main (F := Ideal))) ⟨m, fun _ => 0, g⟩ (fun r => (∀ c : Dev Cert.MixCRefIdeal.nD,
      r.2.mem ((c.tc : Thread Cert.MixCRefIdeal.nD Cert.MixCRefIdeal.τ).loc Cert.MixCRefIdeal.main_arg0) = m ((c.tc : Thread Cert.MixCRefIdeal.nD Cert.MixCRefIdeal.τ).loc Cert.MixCRefIdeal.main_arg0)
      ∧ r.2.mem ((c.tc : Thread Cert.MixCRefIdeal.nD Cert.MixCRefIdeal.τ).loc Cert.MixCRefIdeal.main_arg1) = m ((c.tc : Thread Cert.MixCRefIdeal.nD Cert.MixCRefIdeal.τ).loc Cert.MixCRefIdeal.main_arg1)
      ∧ r.2.mem ((c.tc : Thread Cert.MixCRefIdeal.nD Cert.MixCRefIdeal.τ).loc Cert.MixCRefIdeal.main_arg2) = m ((c.tc : Thread Cert.MixCRefIdeal.nD Cert.MixCRefIdeal.τ).loc Cert.MixCRefIdeal.main_arg2)
      ∧ r.2.mem ((c.tc : Thread Cert.MixCRefIdeal.nD Cert.MixCRefIdeal.τ).loc Cert.MixCRefIdeal.main_arg3) = m ((c.tc : Thread Cert.MixCRefIdeal.nD Cert.MixCRefIdeal.τ).loc Cert.MixCRefIdeal.main_arg3)
      ∧ r.2.mem ((c.tc : Thread Cert.MixCRefIdeal.nD Cert.MixCRefIdeal.τ).loc Cert.MixCRefIdeal.main_arg4) = m ((c.tc : Thread Cert.MixCRefIdeal.nD Cert.MixCRefIdeal.τ).loc Cert.MixCRefIdeal.main_arg4)
      ∧ r.2.mem ((c.tc : Thread Cert.MixCRefIdeal.nD Cert.MixCRefIdeal.τ).loc Cert.MixCRefIdeal.main_arg5) = m ((c.tc : Thread Cert.MixCRefIdeal.nD Cert.MixCRefIdeal.τ).loc Cert.MixCRefIdeal.main_arg5))
      ∧ r.2.sem = fun _ => 0)

def quiescent_MixP [hMixP : Cert.MixP.Facts] : Prop :=
  ∀ (m : (ℓ : Loc Cert.MixP.nD Cert.MixP.τ Cert.MixP.sig) → Buf (Elt Bits) ℓ) (g : Dev Cert.MixP.nD → PrngReg), Pre_MixP m →
    θ_run (Cert.MixP.defs (F := Bits)) (onTc (τ := Cert.MixP.τ) (Cert.MixP.main (F := Bits))) ⟨m, fun _ => 0, g⟩ (fun r => (∀ c : Dev Cert.MixP.nD,
      r.2.mem ((c.tc : Thread Cert.MixP.nD Cert.MixP.τ).loc Cert.MixP.main_arg0) = m ((c.tc : Thread Cert.MixP.nD Cert.MixP.τ).loc Cert.MixP.main_arg0)
      ∧ r.2.mem ((c.tc : Thread Cert.MixP.nD Cert.MixP.τ).loc Cert.MixP.main_arg1) = m ((c.tc : Thread Cert.MixP.nD Cert.MixP.τ).loc Cert.MixP.main_arg1)
      ∧ r.2.mem ((c.tc : Thread Cert.MixP.nD Cert.MixP.τ).loc Cert.MixP.main_arg2) = m ((c.tc : Thread Cert.MixP.nD Cert.MixP.τ).loc Cert.MixP.main_arg2)
      ∧ r.2.mem ((c.tc : Thread Cert.MixP.nD Cert.MixP.τ).loc Cert.MixP.main_arg3) = m ((c.tc : Thread Cert.MixP.nD Cert.MixP.τ).loc Cert.MixP.main_arg3)
      ∧ r.2.mem ((c.tc : Thread Cert.MixP.nD Cert.MixP.τ).loc Cert.MixP.main_arg4) = m ((c.tc : Thread Cert.MixP.nD Cert.MixP.τ).loc Cert.MixP.main_arg4)
      ∧ r.2.mem ((c.tc : Thread Cert.MixP.nD Cert.MixP.τ).loc Cert.MixP.main_arg5) = m ((c.tc : Thread Cert.MixP.nD Cert.MixP.τ).loc Cert.MixP.main_arg5))
      ∧ r.2.sem = fun _ => 0)

def quiescent_MixPIdeal [hMixPIdeal : Cert.MixPIdeal.Facts] : Prop :=
  ∀ (m : (ℓ : Loc Cert.MixPIdeal.nD Cert.MixPIdeal.τ Cert.MixPIdeal.sig) → Buf (Elt Ideal) ℓ) (g : Dev Cert.MixPIdeal.nD → PrngReg), Pre_MixPIdeal m →
    θ_run (Cert.MixPIdeal.defs (F := Ideal)) (onTc (τ := Cert.MixPIdeal.τ) (Cert.MixPIdeal.main (F := Ideal))) ⟨m, fun _ => 0, g⟩ (fun r => (∀ c : Dev Cert.MixPIdeal.nD,
      r.2.mem ((c.tc : Thread Cert.MixPIdeal.nD Cert.MixPIdeal.τ).loc Cert.MixPIdeal.main_arg0) = m ((c.tc : Thread Cert.MixPIdeal.nD Cert.MixPIdeal.τ).loc Cert.MixPIdeal.main_arg0)
      ∧ r.2.mem ((c.tc : Thread Cert.MixPIdeal.nD Cert.MixPIdeal.τ).loc Cert.MixPIdeal.main_arg1) = m ((c.tc : Thread Cert.MixPIdeal.nD Cert.MixPIdeal.τ).loc Cert.MixPIdeal.main_arg1)
      ∧ r.2.mem ((c.tc : Thread Cert.MixPIdeal.nD Cert.MixPIdeal.τ).loc Cert.MixPIdeal.main_arg2) = m ((c.tc : Thread Cert.MixPIdeal.nD Cert.MixPIdeal.τ).loc Cert.MixPIdeal.main_arg2)
      ∧ r.2.mem ((c.tc : Thread Cert.MixPIdeal.nD Cert.MixPIdeal.τ).loc Cert.MixPIdeal.main_arg3) = m ((c.tc : Thread Cert.MixPIdeal.nD Cert.MixPIdeal.τ).loc Cert.MixPIdeal.main_arg3)
      ∧ r.2.mem ((c.tc : Thread Cert.MixPIdeal.nD Cert.MixPIdeal.τ).loc Cert.MixPIdeal.main_arg4) = m ((c.tc : Thread Cert.MixPIdeal.nD Cert.MixPIdeal.τ).loc Cert.MixPIdeal.main_arg4)
      ∧ r.2.mem ((c.tc : Thread Cert.MixPIdeal.nD Cert.MixPIdeal.τ).loc Cert.MixPIdeal.main_arg5) = m ((c.tc : Thread Cert.MixPIdeal.nD Cert.MixPIdeal.τ).loc Cert.MixPIdeal.main_arg5))
      ∧ r.2.sem = fun _ => 0)

def quiescent_MixPRefIdeal [hMixPRefIdeal : Cert.MixPRefIdeal.Facts] : Prop :=
  ∀ (m : (ℓ : Loc Cert.MixPRefIdeal.nD Cert.MixPRefIdeal.τ Cert.MixPRefIdeal.sig) → Buf (Elt Ideal) ℓ) (g : Dev Cert.MixPRefIdeal.nD → PrngReg), Pre_MixPRefIdeal m →
    θ_run (Cert.MixPRefIdeal.defs (F := Ideal)) (onTc (τ := Cert.MixPRefIdeal.τ) (Cert.MixPRefIdeal.main (F := Ideal))) ⟨m, fun _ => 0, g⟩ (fun r => (∀ c : Dev Cert.MixPRefIdeal.nD,
      r.2.mem ((c.tc : Thread Cert.MixPRefIdeal.nD Cert.MixPRefIdeal.τ).loc Cert.MixPRefIdeal.main_arg0) = m ((c.tc : Thread Cert.MixPRefIdeal.nD Cert.MixPRefIdeal.τ).loc Cert.MixPRefIdeal.main_arg0)
      ∧ r.2.mem ((c.tc : Thread Cert.MixPRefIdeal.nD Cert.MixPRefIdeal.τ).loc Cert.MixPRefIdeal.main_arg1) = m ((c.tc : Thread Cert.MixPRefIdeal.nD Cert.MixPRefIdeal.τ).loc Cert.MixPRefIdeal.main_arg1)
      ∧ r.2.mem ((c.tc : Thread Cert.MixPRefIdeal.nD Cert.MixPRefIdeal.τ).loc Cert.MixPRefIdeal.main_arg2) = m ((c.tc : Thread Cert.MixPRefIdeal.nD Cert.MixPRefIdeal.τ).loc Cert.MixPRefIdeal.main_arg2)
      ∧ r.2.mem ((c.tc : Thread Cert.MixPRefIdeal.nD Cert.MixPRefIdeal.τ).loc Cert.MixPRefIdeal.main_arg3) = m ((c.tc : Thread Cert.MixPRefIdeal.nD Cert.MixPRefIdeal.τ).loc Cert.MixPRefIdeal.main_arg3)
      ∧ r.2.mem ((c.tc : Thread Cert.MixPRefIdeal.nD Cert.MixPRefIdeal.τ).loc Cert.MixPRefIdeal.main_arg4) = m ((c.tc : Thread Cert.MixPRefIdeal.nD Cert.MixPRefIdeal.τ).loc Cert.MixPRefIdeal.main_arg4)
      ∧ r.2.mem ((c.tc : Thread Cert.MixPRefIdeal.nD Cert.MixPRefIdeal.τ).loc Cert.MixPRefIdeal.main_arg5) = m ((c.tc : Thread Cert.MixPRefIdeal.nD Cert.MixPRefIdeal.τ).loc Cert.MixPRefIdeal.main_arg5))
      ∧ r.2.sem = fun _ => 0)

def quiescent_MixA [hMixA : Cert.MixA.Facts] : Prop :=
  ∀ (m : (ℓ : Loc Cert.MixA.nD Cert.MixA.τ Cert.MixA.sig) → Buf (Elt Bits) ℓ) (g : Dev Cert.MixA.nD → PrngReg), Pre_MixA m →
    θ_run (Cert.MixA.defs (F := Bits)) (onTc (τ := Cert.MixA.τ) (Cert.MixA.main (F := Bits))) ⟨m, fun _ => 0, g⟩ (fun r => (∀ c : Dev Cert.MixA.nD,
      r.2.mem ((c.tc : Thread Cert.MixA.nD Cert.MixA.τ).loc Cert.MixA.main_arg0) = m ((c.tc : Thread Cert.MixA.nD Cert.MixA.τ).loc Cert.MixA.main_arg0)
      ∧ r.2.mem ((c.tc : Thread Cert.MixA.nD Cert.MixA.τ).loc Cert.MixA.main_arg1) = m ((c.tc : Thread Cert.MixA.nD Cert.MixA.τ).loc Cert.MixA.main_arg1)
      ∧ r.2.mem ((c.tc : Thread Cert.MixA.nD Cert.MixA.τ).loc Cert.MixA.main_arg2) = m ((c.tc : Thread Cert.MixA.nD Cert.MixA.τ).loc Cert.MixA.main_arg2)
      ∧ r.2.mem ((c.tc : Thread Cert.MixA.nD Cert.MixA.τ).loc Cert.MixA.main_arg3) = m ((c.tc : Thread Cert.MixA.nD Cert.MixA.τ).loc Cert.MixA.main_arg3)
      ∧ r.2.mem ((c.tc : Thread Cert.MixA.nD Cert.MixA.τ).loc Cert.MixA.main_arg4) = m ((c.tc : Thread Cert.MixA.nD Cert.MixA.τ).loc Cert.MixA.main_arg4)
      ∧ r.2.mem ((c.tc : Thread Cert.MixA.nD Cert.MixA.τ).loc Cert.MixA.main_arg5) = m ((c.tc : Thread Cert.MixA.nD Cert.MixA.τ).loc Cert.MixA.main_arg5))
      ∧ r.2.sem = fun _ => 0)

def quiescent_MixAIdeal [hMixAIdeal : Cert.MixAIdeal.Facts] : Prop :=
  ∀ (m : (ℓ : Loc Cert.MixAIdeal.nD Cert.MixAIdeal.τ Cert.MixAIdeal.sig) → Buf (Elt Ideal) ℓ) (g : Dev Cert.MixAIdeal.nD → PrngReg), Pre_MixAIdeal m →
    θ_run (Cert.MixAIdeal.defs (F := Ideal)) (onTc (τ := Cert.MixAIdeal.τ) (Cert.MixAIdeal.main (F := Ideal))) ⟨m, fun _ => 0, g⟩ (fun r => (∀ c : Dev Cert.MixAIdeal.nD,
      r.2.mem ((c.tc : Thread Cert.MixAIdeal.nD Cert.MixAIdeal.τ).loc Cert.MixAIdeal.main_arg0) = m ((c.tc : Thread Cert.MixAIdeal.nD Cert.MixAIdeal.τ).loc Cert.MixAIdeal.main_arg0)
      ∧ r.2.mem ((c.tc : Thread Cert.MixAIdeal.nD Cert.MixAIdeal.τ).loc Cert.MixAIdeal.main_arg1) = m ((c.tc : Thread Cert.MixAIdeal.nD Cert.MixAIdeal.τ).loc Cert.MixAIdeal.main_arg1)
      ∧ r.2.mem ((c.tc : Thread Cert.MixAIdeal.nD Cert.MixAIdeal.τ).loc Cert.MixAIdeal.main_arg2) = m ((c.tc : Thread Cert.MixAIdeal.nD Cert.MixAIdeal.τ).loc Cert.MixAIdeal.main_arg2)
      ∧ r.2.mem ((c.tc : Thread Cert.MixAIdeal.nD Cert.MixAIdeal.τ).loc Cert.MixAIdeal.main_arg3) = m ((c.tc : Thread Cert.MixAIdeal.nD Cert.MixAIdeal.τ).loc Cert.MixAIdeal.main_arg3)
      ∧ r.2.mem ((c.tc : Thread Cert.MixAIdeal.nD Cert.MixAIdeal.τ).loc Cert.MixAIdeal.main_arg4) = m ((c.tc : Thread Cert.MixAIdeal.nD Cert.MixAIdeal.τ).loc Cert.MixAIdeal.main_arg4)
      ∧ r.2.mem ((c.tc : Thread Cert.MixAIdeal.nD Cert.MixAIdeal.τ).loc Cert.MixAIdeal.main_arg5) = m ((c.tc : Thread Cert.MixAIdeal.nD Cert.MixAIdeal.τ).loc Cert.MixAIdeal.main_arg5))
      ∧ r.2.sem = fun _ => 0)

def quiescent_MixARefIdeal [hMixARefIdeal : Cert.MixARefIdeal.Facts] : Prop :=
  ∀ (m : (ℓ : Loc Cert.MixARefIdeal.nD Cert.MixARefIdeal.τ Cert.MixARefIdeal.sig) → Buf (Elt Ideal) ℓ) (g : Dev Cert.MixARefIdeal.nD → PrngReg), Pre_MixARefIdeal m →
    θ_run (Cert.MixARefIdeal.defs (F := Ideal)) (onTc (τ := Cert.MixARefIdeal.τ) (Cert.MixARefIdeal.main (F := Ideal))) ⟨m, fun _ => 0, g⟩ (fun r => (∀ c : Dev Cert.MixARefIdeal.nD,
      r.2.mem ((c.tc : Thread Cert.MixARefIdeal.nD Cert.MixARefIdeal.τ).loc Cert.MixARefIdeal.main_arg0) = m ((c.tc : Thread Cert.MixARefIdeal.nD Cert.MixARefIdeal.τ).loc Cert.MixARefIdeal.main_arg0)
      ∧ r.2.mem ((c.tc : Thread Cert.MixARefIdeal.nD Cert.MixARefIdeal.τ).loc Cert.MixARefIdeal.main_arg1) = m ((c.tc : Thread Cert.MixARefIdeal.nD Cert.MixARefIdeal.τ).loc Cert.MixARefIdeal.main_arg1)
      ∧ r.2.mem ((c.tc : Thread Cert.MixARefIdeal.nD Cert.MixARefIdeal.τ).loc Cert.MixARefIdeal.main_arg2) = m ((c.tc : Thread Cert.MixARefIdeal.nD Cert.MixARefIdeal.τ).loc Cert.MixARefIdeal.main_arg2)
      ∧ r.2.mem ((c.tc : Thread Cert.MixARefIdeal.nD Cert.MixARefIdeal.τ).loc Cert.MixARefIdeal.main_arg3) = m ((c.tc : Thread Cert.MixARefIdeal.nD Cert.MixARefIdeal.τ).loc Cert.MixARefIdeal.main_arg3)
      ∧ r.2.mem ((c.tc : Thread Cert.MixARefIdeal.nD Cert.MixARefIdeal.τ).loc Cert.MixARefIdeal.main_arg4) = m ((c.tc : Thread Cert.MixARefIdeal.nD Cert.MixARefIdeal.τ).loc Cert.MixARefIdeal.main_arg4)
      ∧ r.2.mem ((c.tc : Thread Cert.MixARefIdeal.nD Cert.MixARefIdeal.τ).loc Cert.MixARefIdeal.main_arg5) = m ((c.tc : Thread Cert.MixARefIdeal.nD Cert.MixARefIdeal.τ).loc Cert.MixARefIdeal.main_arg5))
      ∧ r.2.sem = fun _ => 0)

def quiescent_SumR [hSumR : Cert.SumR.Facts] : Prop :=
  ∀ (m : (ℓ : Loc Cert.SumR.nD Cert.SumR.τ Cert.SumR.sig) → Buf (Elt Bits) ℓ) (g : Dev Cert.SumR.nD → PrngReg), Pre_SumR m →
    θ_run (Cert.SumR.defs (F := Bits)) (onTc (τ := Cert.SumR.τ) (Cert.SumR.main (F := Bits))) ⟨m, fun _ => 0, g⟩ (fun r => (∀ c : Dev Cert.SumR.nD,
      r.2.mem ((c.tc : Thread Cert.SumR.nD Cert.SumR.τ).loc Cert.SumR.main_arg0) = m ((c.tc : Thread Cert.SumR.nD Cert.SumR.τ).loc Cert.SumR.main_arg0)
      ∧ r.2.mem ((c.tc : Thread Cert.SumR.nD Cert.SumR.τ).loc Cert.SumR.main_arg1) = m ((c.tc : Thread Cert.SumR.nD Cert.SumR.τ).loc Cert.SumR.main_arg1)
      ∧ r.2.mem ((c.tc : Thread Cert.SumR.nD Cert.SumR.τ).loc Cert.SumR.main_arg2) = m ((c.tc : Thread Cert.SumR.nD Cert.SumR.τ).loc Cert.SumR.main_arg2))
      ∧ r.2.sem = fun _ => 0)

def quiescent_SumRIdeal [hSumRIdeal : Cert.SumRIdeal.Facts] : Prop :=
  ∀ (m : (ℓ : Loc Cert.SumRIdeal.nD Cert.SumRIdeal.τ Cert.SumRIdeal.sig) → Buf (Elt Ideal) ℓ) (g : Dev Cert.SumRIdeal.nD → PrngReg), Pre_SumRIdeal m →
    θ_run (Cert.SumRIdeal.defs (F := Ideal)) (onTc (τ := Cert.SumRIdeal.τ) (Cert.SumRIdeal.main (F := Ideal))) ⟨m, fun _ => 0, g⟩ (fun r => (∀ c : Dev Cert.SumRIdeal.nD,
      r.2.mem ((c.tc : Thread Cert.SumRIdeal.nD Cert.SumRIdeal.τ).loc Cert.SumRIdeal.main_arg0) = m ((c.tc : Thread Cert.SumRIdeal.nD Cert.SumRIdeal.τ).loc Cert.SumRIdeal.main_arg0)
      ∧ r.2.mem ((c.tc : Thread Cert.SumRIdeal.nD Cert.SumRIdeal.τ).loc Cert.SumRIdeal.main_arg1) = m ((c.tc : Thread Cert.SumRIdeal.nD Cert.SumRIdeal.τ).loc Cert.SumRIdeal.main_arg1)
      ∧ r.2.mem ((c.tc : Thread Cert.SumRIdeal.nD Cert.SumRIdeal.τ).loc Cert.SumRIdeal.main_arg2) = m ((c.tc : Thread Cert.SumRIdeal.nD Cert.SumRIdeal.τ).loc Cert.SumRIdeal.main_arg2))
      ∧ r.2.sem = fun _ => 0)

def quiescent_SumRRefIdeal [hSumRRefIdeal : Cert.SumRRefIdeal.Facts] : Prop :=
  ∀ (m : (ℓ : Loc Cert.SumRRefIdeal.nD Cert.SumRRefIdeal.τ Cert.SumRRefIdeal.sig) → Buf (Elt Ideal) ℓ) (g : Dev Cert.SumRRefIdeal.nD → PrngReg), Pre_SumRRefIdeal m →
    θ_run (Cert.SumRRefIdeal.defs (F := Ideal)) (onTc (τ := Cert.SumRRefIdeal.τ) (Cert.SumRRefIdeal.main (F := Ideal))) ⟨m, fun _ => 0, g⟩ (fun r => (∀ c : Dev Cert.SumRRefIdeal.nD,
      r.2.mem ((c.tc : Thread Cert.SumRRefIdeal.nD Cert.SumRRefIdeal.τ).loc Cert.SumRRefIdeal.main_arg0) = m ((c.tc : Thread Cert.SumRRefIdeal.nD Cert.SumRRefIdeal.τ).loc Cert.SumRRefIdeal.main_arg0)
      ∧ r.2.mem ((c.tc : Thread Cert.SumRRefIdeal.nD Cert.SumRRefIdeal.τ).loc Cert.SumRRefIdeal.main_arg1) = m ((c.tc : Thread Cert.SumRRefIdeal.nD Cert.SumRRefIdeal.τ).loc Cert.SumRRefIdeal.main_arg1)
      ∧ r.2.mem ((c.tc : Thread Cert.SumRRefIdeal.nD Cert.SumRRefIdeal.τ).loc Cert.SumRRefIdeal.main_arg2) = m ((c.tc : Thread Cert.SumRRefIdeal.nD Cert.SumRRefIdeal.τ).loc Cert.SumRRefIdeal.main_arg2))
      ∧ r.2.sem = fun _ => 0)

def quiescent_SumS [hSumS : Cert.SumS.Facts] : Prop :=
  ∀ (m : (ℓ : Loc Cert.SumS.nD Cert.SumS.τ Cert.SumS.sig) → Buf (Elt Bits) ℓ) (g : Dev Cert.SumS.nD → PrngReg), Pre_SumS m →
    θ_run (Cert.SumS.defs (F := Bits)) (onTc (τ := Cert.SumS.τ) (Cert.SumS.main (F := Bits))) ⟨m, fun _ => 0, g⟩ (fun r => (∀ c : Dev Cert.SumS.nD,
      r.2.mem ((c.tc : Thread Cert.SumS.nD Cert.SumS.τ).loc Cert.SumS.main_arg0) = m ((c.tc : Thread Cert.SumS.nD Cert.SumS.τ).loc Cert.SumS.main_arg0)
      ∧ r.2.mem ((c.tc : Thread Cert.SumS.nD Cert.SumS.τ).loc Cert.SumS.main_arg1) = m ((c.tc : Thread Cert.SumS.nD Cert.SumS.τ).loc Cert.SumS.main_arg1)
      ∧ r.2.mem ((c.tc : Thread Cert.SumS.nD Cert.SumS.τ).loc Cert.SumS.main_arg2) = m ((c.tc : Thread Cert.SumS.nD Cert.SumS.τ).loc Cert.SumS.main_arg2))
      ∧ r.2.sem = fun _ => 0)

def quiescent_SumSIdeal [hSumSIdeal : Cert.SumSIdeal.Facts] : Prop :=
  ∀ (m : (ℓ : Loc Cert.SumSIdeal.nD Cert.SumSIdeal.τ Cert.SumSIdeal.sig) → Buf (Elt Ideal) ℓ) (g : Dev Cert.SumSIdeal.nD → PrngReg), Pre_SumSIdeal m →
    θ_run (Cert.SumSIdeal.defs (F := Ideal)) (onTc (τ := Cert.SumSIdeal.τ) (Cert.SumSIdeal.main (F := Ideal))) ⟨m, fun _ => 0, g⟩ (fun r => (∀ c : Dev Cert.SumSIdeal.nD,
      r.2.mem ((c.tc : Thread Cert.SumSIdeal.nD Cert.SumSIdeal.τ).loc Cert.SumSIdeal.main_arg0) = m ((c.tc : Thread Cert.SumSIdeal.nD Cert.SumSIdeal.τ).loc Cert.SumSIdeal.main_arg0)
      ∧ r.2.mem ((c.tc : Thread Cert.SumSIdeal.nD Cert.SumSIdeal.τ).loc Cert.SumSIdeal.main_arg1) = m ((c.tc : Thread Cert.SumSIdeal.nD Cert.SumSIdeal.τ).loc Cert.SumSIdeal.main_arg1)
      ∧ r.2.mem ((c.tc : Thread Cert.SumSIdeal.nD Cert.SumSIdeal.τ).loc Cert.SumSIdeal.main_arg2) = m ((c.tc : Thread Cert.SumSIdeal.nD Cert.SumSIdeal.τ).loc Cert.SumSIdeal.main_arg2))
      ∧ r.2.sem = fun _ => 0)

def quiescent_SumSRefIdeal [hSumSRefIdeal : Cert.SumSRefIdeal.Facts] : Prop :=
  ∀ (m : (ℓ : Loc Cert.SumSRefIdeal.nD Cert.SumSRefIdeal.τ Cert.SumSRefIdeal.sig) → Buf (Elt Ideal) ℓ) (g : Dev Cert.SumSRefIdeal.nD → PrngReg), Pre_SumSRefIdeal m →
    θ_run (Cert.SumSRefIdeal.defs (F := Ideal)) (onTc (τ := Cert.SumSRefIdeal.τ) (Cert.SumSRefIdeal.main (F := Ideal))) ⟨m, fun _ => 0, g⟩ (fun r => (∀ c : Dev Cert.SumSRefIdeal.nD,
      r.2.mem ((c.tc : Thread Cert.SumSRefIdeal.nD Cert.SumSRefIdeal.τ).loc Cert.SumSRefIdeal.main_arg0) = m ((c.tc : Thread Cert.SumSRefIdeal.nD Cert.SumSRefIdeal.τ).loc Cert.SumSRefIdeal.main_arg0)
      ∧ r.2.mem ((c.tc : Thread Cert.SumSRefIdeal.nD Cert.SumSRefIdeal.τ).loc Cert.SumSRefIdeal.main_arg1) = m ((c.tc : Thread Cert.SumSRefIdeal.nD Cert.SumSRefIdeal.τ).loc Cert.SumSRefIdeal.main_arg1)
      ∧ r.2.mem ((c.tc : Thread Cert.SumSRefIdeal.nD Cert.SumSRefIdeal.τ).loc Cert.SumSRefIdeal.main_arg2) = m ((c.tc : Thread Cert.SumSRefIdeal.nD Cert.SumSRefIdeal.τ).loc Cert.SumSRefIdeal.main_arg2))
      ∧ r.2.sem = fun _ => 0)

def quiescent_SumI [hSumI : Cert.SumI.Facts] : Prop :=
  ∀ (m : (ℓ : Loc Cert.SumI.nD Cert.SumI.τ Cert.SumI.sig) → Buf (Elt Bits) ℓ) (g : Dev Cert.SumI.nD → PrngReg), Pre_SumI m →
    θ_run (Cert.SumI.defs (F := Bits)) (onTc (τ := Cert.SumI.τ) (Cert.SumI.main (F := Bits))) ⟨m, fun _ => 0, g⟩ (fun r => (∀ c : Dev Cert.SumI.nD,
      r.2.mem ((c.tc : Thread Cert.SumI.nD Cert.SumI.τ).loc Cert.SumI.main_arg0) = m ((c.tc : Thread Cert.SumI.nD Cert.SumI.τ).loc Cert.SumI.main_arg0)
      ∧ r.2.mem ((c.tc : Thread Cert.SumI.nD Cert.SumI.τ).loc Cert.SumI.main_arg1) = m ((c.tc : Thread Cert.SumI.nD Cert.SumI.τ).loc Cert.SumI.main_arg1)
      ∧ r.2.mem ((c.tc : Thread Cert.SumI.nD Cert.SumI.τ).loc Cert.SumI.main_arg2) = m ((c.tc : Thread Cert.SumI.nD Cert.SumI.τ).loc Cert.SumI.main_arg2)
      ∧ r.2.mem ((c.tc : Thread Cert.SumI.nD Cert.SumI.τ).loc Cert.SumI.main_arg3) = m ((c.tc : Thread Cert.SumI.nD Cert.SumI.τ).loc Cert.SumI.main_arg3))
      ∧ r.2.sem = fun _ => 0)

def quiescent_SumIIdeal [hSumIIdeal : Cert.SumIIdeal.Facts] : Prop :=
  ∀ (m : (ℓ : Loc Cert.SumIIdeal.nD Cert.SumIIdeal.τ Cert.SumIIdeal.sig) → Buf (Elt Ideal) ℓ) (g : Dev Cert.SumIIdeal.nD → PrngReg), Pre_SumIIdeal m →
    θ_run (Cert.SumIIdeal.defs (F := Ideal)) (onTc (τ := Cert.SumIIdeal.τ) (Cert.SumIIdeal.main (F := Ideal))) ⟨m, fun _ => 0, g⟩ (fun r => (∀ c : Dev Cert.SumIIdeal.nD,
      r.2.mem ((c.tc : Thread Cert.SumIIdeal.nD Cert.SumIIdeal.τ).loc Cert.SumIIdeal.main_arg0) = m ((c.tc : Thread Cert.SumIIdeal.nD Cert.SumIIdeal.τ).loc Cert.SumIIdeal.main_arg0)
      ∧ r.2.mem ((c.tc : Thread Cert.SumIIdeal.nD Cert.SumIIdeal.τ).loc Cert.SumIIdeal.main_arg1) = m ((c.tc : Thread Cert.SumIIdeal.nD Cert.SumIIdeal.τ).loc Cert.SumIIdeal.main_arg1)
      ∧ r.2.mem ((c.tc : Thread Cert.SumIIdeal.nD Cert.SumIIdeal.τ).loc Cert.SumIIdeal.main_arg2) = m ((c.tc : Thread Cert.SumIIdeal.nD Cert.SumIIdeal.τ).loc Cert.SumIIdeal.main_arg2)
      ∧ r.2.mem ((c.tc : Thread Cert.SumIIdeal.nD Cert.SumIIdeal.τ).loc Cert.SumIIdeal.main_arg3) = m ((c.tc : Thread Cert.SumIIdeal.nD Cert.SumIIdeal.τ).loc Cert.SumIIdeal.main_arg3))
      ∧ r.2.sem = fun _ => 0)

def quiescent_SumIRefIdeal [hSumIRefIdeal : Cert.SumIRefIdeal.Facts] : Prop :=
  ∀ (m : (ℓ : Loc Cert.SumIRefIdeal.nD Cert.SumIRefIdeal.τ Cert.SumIRefIdeal.sig) → Buf (Elt Ideal) ℓ) (g : Dev Cert.SumIRefIdeal.nD → PrngReg), Pre_SumIRefIdeal m →
    θ_run (Cert.SumIRefIdeal.defs (F := Ideal)) (onTc (τ := Cert.SumIRefIdeal.τ) (Cert.SumIRefIdeal.main (F := Ideal))) ⟨m, fun _ => 0, g⟩ (fun r => (∀ c : Dev Cert.SumIRefIdeal.nD,
      r.2.mem ((c.tc : Thread Cert.SumIRefIdeal.nD Cert.SumIRefIdeal.τ).loc Cert.SumIRefIdeal.main_arg0) = m ((c.tc : Thread Cert.SumIRefIdeal.nD Cert.SumIRefIdeal.τ).loc Cert.SumIRefIdeal.main_arg0)
      ∧ r.2.mem ((c.tc : Thread Cert.SumIRefIdeal.nD Cert.SumIRefIdeal.τ).loc Cert.SumIRefIdeal.main_arg1) = m ((c.tc : Thread Cert.SumIRefIdeal.nD Cert.SumIRefIdeal.τ).loc Cert.SumIRefIdeal.main_arg1)
      ∧ r.2.mem ((c.tc : Thread Cert.SumIRefIdeal.nD Cert.SumIRefIdeal.τ).loc Cert.SumIRefIdeal.main_arg2) = m ((c.tc : Thread Cert.SumIRefIdeal.nD Cert.SumIRefIdeal.τ).loc Cert.SumIRefIdeal.main_arg2)
      ∧ r.2.mem ((c.tc : Thread Cert.SumIRefIdeal.nD Cert.SumIRefIdeal.τ).loc Cert.SumIRefIdeal.main_arg3) = m ((c.tc : Thread Cert.SumIRefIdeal.nD Cert.SumIRefIdeal.τ).loc Cert.SumIRefIdeal.main_arg3))
      ∧ r.2.sem = fun _ => 0)

def quiescent_SumA [hSumA : Cert.SumA.Facts] : Prop :=
  ∀ (m : (ℓ : Loc Cert.SumA.nD Cert.SumA.τ Cert.SumA.sig) → Buf (Elt Bits) ℓ) (g : Dev Cert.SumA.nD → PrngReg), Pre_SumA m →
    θ_run (Cert.SumA.defs (F := Bits)) (onTc (τ := Cert.SumA.τ) (Cert.SumA.main (F := Bits))) ⟨m, fun _ => 0, g⟩ (fun r => (∀ c : Dev Cert.SumA.nD,
      r.2.mem ((c.tc : Thread Cert.SumA.nD Cert.SumA.τ).loc Cert.SumA.main_arg0) = m ((c.tc : Thread Cert.SumA.nD Cert.SumA.τ).loc Cert.SumA.main_arg0)
      ∧ r.2.mem ((c.tc : Thread Cert.SumA.nD Cert.SumA.τ).loc Cert.SumA.main_arg1) = m ((c.tc : Thread Cert.SumA.nD Cert.SumA.τ).loc Cert.SumA.main_arg1))
      ∧ r.2.sem = fun _ => 0)

def quiescent_SumAIdeal [hSumAIdeal : Cert.SumAIdeal.Facts] : Prop :=
  ∀ (m : (ℓ : Loc Cert.SumAIdeal.nD Cert.SumAIdeal.τ Cert.SumAIdeal.sig) → Buf (Elt Ideal) ℓ) (g : Dev Cert.SumAIdeal.nD → PrngReg), Pre_SumAIdeal m →
    θ_run (Cert.SumAIdeal.defs (F := Ideal)) (onTc (τ := Cert.SumAIdeal.τ) (Cert.SumAIdeal.main (F := Ideal))) ⟨m, fun _ => 0, g⟩ (fun r => (∀ c : Dev Cert.SumAIdeal.nD,
      r.2.mem ((c.tc : Thread Cert.SumAIdeal.nD Cert.SumAIdeal.τ).loc Cert.SumAIdeal.main_arg0) = m ((c.tc : Thread Cert.SumAIdeal.nD Cert.SumAIdeal.τ).loc Cert.SumAIdeal.main_arg0)
      ∧ r.2.mem ((c.tc : Thread Cert.SumAIdeal.nD Cert.SumAIdeal.τ).loc Cert.SumAIdeal.main_arg1) = m ((c.tc : Thread Cert.SumAIdeal.nD Cert.SumAIdeal.τ).loc Cert.SumAIdeal.main_arg1))
      ∧ r.2.sem = fun _ => 0)

def quiescent_SumARefIdeal [hSumARefIdeal : Cert.SumARefIdeal.Facts] : Prop :=
  ∀ (m : (ℓ : Loc Cert.SumARefIdeal.nD Cert.SumARefIdeal.τ Cert.SumARefIdeal.sig) → Buf (Elt Ideal) ℓ) (g : Dev Cert.SumARefIdeal.nD → PrngReg), Pre_SumARefIdeal m →
    θ_run (Cert.SumARefIdeal.defs (F := Ideal)) (onTc (τ := Cert.SumARefIdeal.τ) (Cert.SumARefIdeal.main (F := Ideal))) ⟨m, fun _ => 0, g⟩ (fun r => (∀ c : Dev Cert.SumARefIdeal.nD,
      r.2.mem ((c.tc : Thread Cert.SumARefIdeal.nD Cert.SumARefIdeal.τ).loc Cert.SumARefIdeal.main_arg0) = m ((c.tc : Thread Cert.SumARefIdeal.nD Cert.SumARefIdeal.τ).loc Cert.SumARefIdeal.main_arg0)
      ∧ r.2.mem ((c.tc : Thread Cert.SumARefIdeal.nD Cert.SumARefIdeal.τ).loc Cert.SumARefIdeal.main_arg1) = m ((c.tc : Thread Cert.SumARefIdeal.nD Cert.SumARefIdeal.τ).loc Cert.SumARefIdeal.main_arg1))
      ∧ r.2.sem = fun _ => 0)

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)) →
    ∃ (v0 : (c : Dev Cert.ConvIdeal.nD) → Buf (Elt Ideal) ((c.tc : Thread Cert.ConvIdeal.nD Cert.ConvIdeal.τ).loc Cert.ConvIdeal.main_v0_0)) (v1 : (c : Dev Cert.ConvIdeal.nD) → Buf (Elt Ideal) ((c.tc : Thread Cert.ConvIdeal.nD Cert.ConvIdeal.τ).loc Cert.ConvIdeal.main_v0_1)) (v2 : (c : Dev Cert.ConvIdeal.nD) → Buf (Elt Ideal) ((c.tc : Thread Cert.ConvIdeal.nD Cert.ConvIdeal.τ).loc Cert.ConvIdeal.main_v0_2)) (v3 : (c : Dev Cert.ConvIdeal.nD) → Buf (Elt Ideal) ((c.tc : Thread Cert.ConvIdeal.nD Cert.ConvIdeal.τ).loc Cert.ConvIdeal.main_v0_3)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v0_0) = v0 c
          ∧ r.2.mem ((c.tc : Thread Cert.ConvIdeal.nD Cert.ConvIdeal.τ).loc Cert.ConvIdeal.main_v0_1) = v1 c
          ∧ r.2.mem ((c.tc : Thread Cert.ConvIdeal.nD Cert.ConvIdeal.τ).loc Cert.ConvIdeal.main_v0_2) = v2 c
          ∧ r.2.mem ((c.tc : Thread Cert.ConvIdeal.nD Cert.ConvIdeal.τ).loc Cert.ConvIdeal.main_v0_3) = v3 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v65) = v0 c
          ∧ r.2.mem ((c.tc : Thread Cert.ConvRefIdeal.nD Cert.ConvRefIdeal.τ).loc Cert.ConvRefIdeal.main_v66) = v1 c
          ∧ r.2.mem ((c.tc : Thread Cert.ConvRefIdeal.nD Cert.ConvRefIdeal.τ).loc Cert.ConvRefIdeal.main_v67) = v2 c
          ∧ r.2.mem ((c.tc : Thread Cert.ConvRefIdeal.nD Cert.ConvRefIdeal.τ).loc Cert.ConvRefIdeal.main_v60) = v3 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2))

def preserves_In_InIdeal : Prop :=
  True

def algebraic_InIdeal_InRefIdeal_pre_finite_in [hInIdeal : Cert.InIdeal.Facts] [hInRefIdeal : Cert.InRefIdeal.Facts] [hPre_finite_in : Cert.Pre_finite_in.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal_finite_in m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)
      ∧ m' ((c.tc : Thread Cert.InRefIdeal.nD Cert.InRefIdeal.τ).loc Cert.InRefIdeal.main_arg2) = m ((c.tc : Thread Cert.InIdeal.nD Cert.InIdeal.τ).loc Cert.InIdeal.main_arg2)
      ∧ m' ((c.tc : Thread Cert.InRefIdeal.nD Cert.InRefIdeal.τ).loc Cert.InRefIdeal.main_arg3) = m ((c.tc : Thread Cert.InIdeal.nD Cert.InIdeal.τ).loc Cert.InIdeal.main_arg3)
      ∧ m' ((c.tc : Thread Cert.InRefIdeal.nD Cert.InRefIdeal.τ).loc Cert.InRefIdeal.main_arg4) = m ((c.tc : Thread Cert.InIdeal.nD Cert.InIdeal.τ).loc Cert.InIdeal.main_arg4)) →
    ∃ (v0 : (c : Dev Cert.InIdeal.nD) → Buf (Elt Ideal) ((c.tc : Thread Cert.InIdeal.nD Cert.InIdeal.τ).loc Cert.InIdeal.main_v5_0)) (v1 : (c : Dev Cert.InIdeal.nD) → Buf (Elt Ideal) ((c.tc : Thread Cert.InIdeal.nD Cert.InIdeal.τ).loc Cert.InIdeal.main_v6)) (v2 : (c : Dev Cert.InIdeal.nD) → Buf (Elt Ideal) ((c.tc : Thread Cert.InIdeal.nD Cert.InIdeal.τ).loc Cert.InIdeal.main_v4)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v5_0) = v0 c
          ∧ r.2.mem ((c.tc : Thread Cert.InIdeal.nD Cert.InIdeal.τ).loc Cert.InIdeal.main_v6) = v1 c
          ∧ r.2.mem ((c.tc : Thread Cert.InIdeal.nD Cert.InIdeal.τ).loc Cert.InIdeal.main_v4) = v2 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1)
          ∧ r.2.mem ((c.tc : Thread Cert.InIdeal.nD Cert.InIdeal.τ).loc Cert.InIdeal.main_arg2) = m ((c.tc : Thread Cert.InIdeal.nD Cert.InIdeal.τ).loc Cert.InIdeal.main_arg2)
          ∧ r.2.mem ((c.tc : Thread Cert.InIdeal.nD Cert.InIdeal.τ).loc Cert.InIdeal.main_arg3) = m ((c.tc : Thread Cert.InIdeal.nD Cert.InIdeal.τ).loc Cert.InIdeal.main_arg3)
          ∧ r.2.mem ((c.tc : Thread Cert.InIdeal.nD Cert.InIdeal.τ).loc Cert.InIdeal.main_arg4) = m ((c.tc : Thread Cert.InIdeal.nD Cert.InIdeal.τ).loc Cert.InIdeal.main_arg4))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v38) = v0 c
          ∧ r.2.mem ((c.tc : Thread Cert.InRefIdeal.nD Cert.InRefIdeal.τ).loc Cert.InRefIdeal.main_v21) = v1 c
          ∧ r.2.mem ((c.tc : Thread Cert.InRefIdeal.nD Cert.InRefIdeal.τ).loc Cert.InRefIdeal.main_v39) = v2 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2)
          ∧ r.2.mem ((c.tc : Thread Cert.InRefIdeal.nD Cert.InRefIdeal.τ).loc Cert.InRefIdeal.main_arg3) = m' ((c.tc : Thread Cert.InRefIdeal.nD Cert.InRefIdeal.τ).loc Cert.InRefIdeal.main_arg3)
          ∧ r.2.mem ((c.tc : Thread Cert.InRefIdeal.nD Cert.InRefIdeal.τ).loc Cert.InRefIdeal.main_arg4) = m' ((c.tc : Thread Cert.InRefIdeal.nD Cert.InRefIdeal.τ).loc Cert.InRefIdeal.main_arg4))

def preserves_NormIn_NormInIdeal : Prop :=
  True

def algebraic_NormInIdeal_NormInRefIdeal_pre_finite_norm_in [hNormInIdeal : Cert.NormInIdeal.Facts] [hNormInRefIdeal : Cert.NormInRefIdeal.Facts] [hPre_finite_norm_in : Cert.Pre_finite_norm_in.Facts] : Prop :=
  ∀ (m : (ℓ : Loc Cert.NormInIdeal.nD Cert.NormInIdeal.τ Cert.NormInIdeal.sig) → Buf (Elt Ideal) ℓ) (g : Dev Cert.NormInIdeal.nD → PrngReg)
    (m' : (ℓ : Loc Cert.NormInRefIdeal.nD Cert.NormInRefIdeal.τ Cert.NormInRefIdeal.sig) → Buf (Elt Ideal) ℓ) (g' : Dev Cert.NormInRefIdeal.nD → PrngReg), Pre_NormInIdeal_finite_norm_in m →
    (∀ c : Dev Cert.NormInIdeal.nD,
      m' ((c.tc : Thread Cert.NormInRefIdeal.nD Cert.NormInRefIdeal.τ).loc Cert.NormInRefIdeal.main_arg0) = m ((c.tc : Thread Cert.NormInIdeal.nD Cert.NormInIdeal.τ).loc Cert.NormInIdeal.main_arg0)
      ∧ m' ((c.tc : Thread Cert.NormInRefIdeal.nD Cert.NormInRefIdeal.τ).loc Cert.NormInRefIdeal.main_arg1) = m ((c.tc : Thread Cert.NormInIdeal.nD Cert.NormInIdeal.τ).loc Cert.NormInIdeal.main_arg1)
      ∧ m' ((c.tc : Thread Cert.NormInRefIdeal.nD Cert.NormInRefIdeal.τ).loc Cert.NormInRefIdeal.main_arg2) = m ((c.tc : Thread Cert.NormInIdeal.nD Cert.NormInIdeal.τ).loc Cert.NormInIdeal.main_arg2)
      ∧ m' ((c.tc : Thread Cert.NormInRefIdeal.nD Cert.NormInRefIdeal.τ).loc Cert.NormInRefIdeal.main_arg3) = m ((c.tc : Thread Cert.NormInIdeal.nD Cert.NormInIdeal.τ).loc Cert.NormInIdeal.main_arg3)
      ∧ m' ((c.tc : Thread Cert.NormInRefIdeal.nD Cert.NormInRefIdeal.τ).loc Cert.NormInRefIdeal.main_arg4) = m ((c.tc : Thread Cert.NormInIdeal.nD Cert.NormInIdeal.τ).loc Cert.NormInIdeal.main_arg4)
      ∧ m' ((c.tc : Thread Cert.NormInRefIdeal.nD Cert.NormInRefIdeal.τ).loc Cert.NormInRefIdeal.main_arg5) = m ((c.tc : Thread Cert.NormInIdeal.nD Cert.NormInIdeal.τ).loc Cert.NormInIdeal.main_arg5)
      ∧ m' ((c.tc : Thread Cert.NormInRefIdeal.nD Cert.NormInRefIdeal.τ).loc Cert.NormInRefIdeal.main_arg6) = m ((c.tc : Thread Cert.NormInIdeal.nD Cert.NormInIdeal.τ).loc Cert.NormInIdeal.main_arg6)
      ∧ m' ((c.tc : Thread Cert.NormInRefIdeal.nD Cert.NormInRefIdeal.τ).loc Cert.NormInRefIdeal.main_arg7) = m ((c.tc : Thread Cert.NormInIdeal.nD Cert.NormInIdeal.τ).loc Cert.NormInIdeal.main_arg7)
      ∧ m' ((c.tc : Thread Cert.NormInRefIdeal.nD Cert.NormInRefIdeal.τ).loc Cert.NormInRefIdeal.main_arg8) = m ((c.tc : Thread Cert.NormInIdeal.nD Cert.NormInIdeal.τ).loc Cert.NormInIdeal.main_arg8)
      ∧ m' ((c.tc : Thread Cert.NormInRefIdeal.nD Cert.NormInRefIdeal.τ).loc Cert.NormInRefIdeal.main_arg9) = m ((c.tc : Thread Cert.NormInIdeal.nD Cert.NormInIdeal.τ).loc Cert.NormInIdeal.main_arg9)) →
    ∃ (v0 : (c : Dev Cert.NormInIdeal.nD) → Buf (Elt Ideal) ((c.tc : Thread Cert.NormInIdeal.nD Cert.NormInIdeal.τ).loc Cert.NormInIdeal.main_v18_0)) (v1 : (c : Dev Cert.NormInIdeal.nD) → Buf (Elt Ideal) ((c.tc : Thread Cert.NormInIdeal.nD Cert.NormInIdeal.τ).loc Cert.NormInIdeal.main_v18_1)) (v2 : (c : Dev Cert.NormInIdeal.nD) → Buf (Elt Ideal) ((c.tc : Thread Cert.NormInIdeal.nD Cert.NormInIdeal.τ).loc Cert.NormInIdeal.main_v18_2)),
      θ_run (Cert.NormInIdeal.defs (F := Ideal)) (onTc (τ := Cert.NormInIdeal.τ) (Cert.NormInIdeal.main (F := Ideal))) ⟨m, fun _ => 0, g⟩ (fun r => ∀ c : Dev Cert.NormInIdeal.nD,
          r.2.mem ((c.tc : Thread Cert.NormInIdeal.nD Cert.NormInIdeal.τ).loc Cert.NormInIdeal.main_v18_0) = v0 c
          ∧ r.2.mem ((c.tc : Thread Cert.NormInIdeal.nD Cert.NormInIdeal.τ).loc Cert.NormInIdeal.main_v18_1) = v1 c
          ∧ r.2.mem ((c.tc : Thread Cert.NormInIdeal.nD Cert.NormInIdeal.τ).loc Cert.NormInIdeal.main_v18_2) = v2 c
          ∧ r.2.mem ((c.tc : Thread Cert.NormInIdeal.nD Cert.NormInIdeal.τ).loc Cert.NormInIdeal.main_arg0) = m ((c.tc : Thread Cert.NormInIdeal.nD Cert.NormInIdeal.τ).loc Cert.NormInIdeal.main_arg0)
          ∧ r.2.mem ((c.tc : Thread Cert.NormInIdeal.nD Cert.NormInIdeal.τ).loc Cert.NormInIdeal.main_arg1) = m ((c.tc : Thread Cert.NormInIdeal.nD Cert.NormInIdeal.τ).loc Cert.NormInIdeal.main_arg1)
          ∧ r.2.mem ((c.tc : Thread Cert.NormInIdeal.nD Cert.NormInIdeal.τ).loc Cert.NormInIdeal.main_arg2) = m ((c.tc : Thread Cert.NormInIdeal.nD Cert.NormInIdeal.τ).loc Cert.NormInIdeal.main_arg2)
          ∧ r.2.mem ((c.tc : Thread Cert.NormInIdeal.nD Cert.NormInIdeal.τ).loc Cert.NormInIdeal.main_arg3) = m ((c.tc : Thread Cert.NormInIdeal.nD Cert.NormInIdeal.τ).loc Cert.NormInIdeal.main_arg3)
          ∧ r.2.mem ((c.tc : Thread Cert.NormInIdeal.nD Cert.NormInIdeal.τ).loc Cert.NormInIdeal.main_arg4) = m ((c.tc : Thread Cert.NormInIdeal.nD Cert.NormInIdeal.τ).loc Cert.NormInIdeal.main_arg4)
          ∧ r.2.mem ((c.tc : Thread Cert.NormInIdeal.nD Cert.NormInIdeal.τ).loc Cert.NormInIdeal.main_arg5) = m ((c.tc : Thread Cert.NormInIdeal.nD Cert.NormInIdeal.τ).loc Cert.NormInIdeal.main_arg5)
          ∧ r.2.mem ((c.tc : Thread Cert.NormInIdeal.nD Cert.NormInIdeal.τ).loc Cert.NormInIdeal.main_arg6) = m ((c.tc : Thread Cert.NormInIdeal.nD Cert.NormInIdeal.τ).loc Cert.NormInIdeal.main_arg6)
          ∧ r.2.mem ((c.tc : Thread Cert.NormInIdeal.nD Cert.NormInIdeal.τ).loc Cert.NormInIdeal.main_arg7) = m ((c.tc : Thread Cert.NormInIdeal.nD Cert.NormInIdeal.τ).loc Cert.NormInIdeal.main_arg7)
          ∧ r.2.mem ((c.tc : Thread Cert.NormInIdeal.nD Cert.NormInIdeal.τ).loc Cert.NormInIdeal.main_arg8) = m ((c.tc : Thread Cert.NormInIdeal.nD Cert.NormInIdeal.τ).loc Cert.NormInIdeal.main_arg8)
          ∧ r.2.mem ((c.tc : Thread Cert.NormInIdeal.nD Cert.NormInIdeal.τ).loc Cert.NormInIdeal.main_arg9) = m ((c.tc : Thread Cert.NormInIdeal.nD Cert.NormInIdeal.τ).loc Cert.NormInIdeal.main_arg9))
      ∧ θ_run (Cert.NormInRefIdeal.defs (F := Ideal)) (onTc (τ := Cert.NormInRefIdeal.τ) (Cert.NormInRefIdeal.main (F := Ideal))) ⟨m', fun _ => 0, g'⟩ (fun r => ∀ c : Dev Cert.NormInRefIdeal.nD,
          r.2.mem ((c.tc : Thread Cert.NormInRefIdeal.nD Cert.NormInRefIdeal.τ).loc Cert.NormInRefIdeal.main_v33) = v0 c
          ∧ r.2.mem ((c.tc : Thread Cert.NormInRefIdeal.nD Cert.NormInRefIdeal.τ).loc Cert.NormInRefIdeal.main_v36) = v1 c
          ∧ r.2.mem ((c.tc : Thread Cert.NormInRefIdeal.nD Cert.NormInRefIdeal.τ).loc Cert.NormInRefIdeal.main_v37) = v2 c
          ∧ r.2.mem ((c.tc : Thread Cert.NormInRefIdeal.nD Cert.NormInRefIdeal.τ).loc Cert.NormInRefIdeal.main_arg0) = m' ((c.tc : Thread Cert.NormInRefIdeal.nD Cert.NormInRefIdeal.τ).loc Cert.NormInRefIdeal.main_arg0)
          ∧ r.2.mem ((c.tc : Thread Cert.NormInRefIdeal.nD Cert.NormInRefIdeal.τ).loc Cert.NormInRefIdeal.main_arg1) = m' ((c.tc : Thread Cert.NormInRefIdeal.nD Cert.NormInRefIdeal.τ).loc Cert.NormInRefIdeal.main_arg1)
          ∧ r.2.mem ((c.tc : Thread Cert.NormInRefIdeal.nD Cert.NormInRefIdeal.τ).loc Cert.NormInRefIdeal.main_arg2) = m' ((c.tc : Thread Cert.NormInRefIdeal.nD Cert.NormInRefIdeal.τ).loc Cert.NormInRefIdeal.main_arg2)
          ∧ r.2.mem ((c.tc : Thread Cert.NormInRefIdeal.nD Cert.NormInRefIdeal.τ).loc Cert.NormInRefIdeal.main_arg3) = m' ((c.tc : Thread Cert.NormInRefIdeal.nD Cert.NormInRefIdeal.τ).loc Cert.NormInRefIdeal.main_arg3)
          ∧ r.2.mem ((c.tc : Thread Cert.NormInRefIdeal.nD Cert.NormInRefIdeal.τ).loc Cert.NormInRefIdeal.main_arg4) = m' ((c.tc : Thread Cert.NormInRefIdeal.nD Cert.NormInRefIdeal.τ).loc Cert.NormInRefIdeal.main_arg4)
          ∧ r.2.mem ((c.tc : Thread Cert.NormInRefIdeal.nD Cert.NormInRefIdeal.τ).loc Cert.NormInRefIdeal.main_arg5) = m' ((c.tc : Thread Cert.NormInRefIdeal.nD Cert.NormInRefIdeal.τ).loc Cert.NormInRefIdeal.main_arg5)
          ∧ r.2.mem ((c.tc : Thread Cert.NormInRefIdeal.nD Cert.NormInRefIdeal.τ).loc Cert.NormInRefIdeal.main_arg6) = m' ((c.tc : Thread Cert.NormInRefIdeal.nD Cert.NormInRefIdeal.τ).loc Cert.NormInRefIdeal.main_arg6)
          ∧ r.2.mem ((c.tc : Thread Cert.NormInRefIdeal.nD Cert.NormInRefIdeal.τ).loc Cert.NormInRefIdeal.main_arg7) = m' ((c.tc : Thread Cert.NormInRefIdeal.nD Cert.NormInRefIdeal.τ).loc Cert.NormInRefIdeal.main_arg7)
          ∧ r.2.mem ((c.tc : Thread Cert.NormInRefIdeal.nD Cert.NormInRefIdeal.τ).loc Cert.NormInRefIdeal.main_arg8) = m' ((c.tc : Thread Cert.NormInRefIdeal.nD Cert.NormInRefIdeal.τ).loc Cert.NormInRefIdeal.main_arg8)
          ∧ r.2.mem ((c.tc : Thread Cert.NormInRefIdeal.nD Cert.NormInRefIdeal.τ).loc Cert.NormInRefIdeal.main_arg9) = m' ((c.tc : Thread Cert.NormInRefIdeal.nD Cert.NormInRefIdeal.τ).loc Cert.NormInRefIdeal.main_arg9))

def preserves_FfIn_FfInIdeal : Prop :=
  True

def algebraic_FfInIdeal_FfInRefIdeal [hFfInIdeal : Cert.FfInIdeal.Facts] [hFfInRefIdeal : Cert.FfInRefIdeal.Facts] : Prop :=
  ∀ (m : (ℓ : Loc Cert.FfInIdeal.nD Cert.FfInIdeal.τ Cert.FfInIdeal.sig) → Buf (Elt Ideal) ℓ) (g : Dev Cert.FfInIdeal.nD → PrngReg)
    (m' : (ℓ : Loc Cert.FfInRefIdeal.nD Cert.FfInRefIdeal.τ Cert.FfInRefIdeal.sig) → Buf (Elt Ideal) ℓ) (g' : Dev Cert.FfInRefIdeal.nD → PrngReg), Pre_FfInIdeal m →
    (∀ c : Dev Cert.FfInIdeal.nD,
      m' ((c.tc : Thread Cert.FfInRefIdeal.nD Cert.FfInRefIdeal.τ).loc Cert.FfInRefIdeal.main_arg0) = m ((c.tc : Thread Cert.FfInIdeal.nD Cert.FfInIdeal.τ).loc Cert.FfInIdeal.main_arg0)
      ∧ m' ((c.tc : Thread Cert.FfInRefIdeal.nD Cert.FfInRefIdeal.τ).loc Cert.FfInRefIdeal.main_arg1) = m ((c.tc : Thread Cert.FfInIdeal.nD Cert.FfInIdeal.τ).loc Cert.FfInIdeal.main_arg1)
      ∧ m' ((c.tc : Thread Cert.FfInRefIdeal.nD Cert.FfInRefIdeal.τ).loc Cert.FfInRefIdeal.main_arg2) = m ((c.tc : Thread Cert.FfInIdeal.nD Cert.FfInIdeal.τ).loc Cert.FfInIdeal.main_arg2)
      ∧ m' ((c.tc : Thread Cert.FfInRefIdeal.nD Cert.FfInRefIdeal.τ).loc Cert.FfInRefIdeal.main_arg3) = m ((c.tc : Thread Cert.FfInIdeal.nD Cert.FfInIdeal.τ).loc Cert.FfInIdeal.main_arg3)
      ∧ m' ((c.tc : Thread Cert.FfInRefIdeal.nD Cert.FfInRefIdeal.τ).loc Cert.FfInRefIdeal.main_arg4) = m ((c.tc : Thread Cert.FfInIdeal.nD Cert.FfInIdeal.τ).loc Cert.FfInIdeal.main_arg4)
      ∧ m' ((c.tc : Thread Cert.FfInRefIdeal.nD Cert.FfInRefIdeal.τ).loc Cert.FfInRefIdeal.main_arg5) = m ((c.tc : Thread Cert.FfInIdeal.nD Cert.FfInIdeal.τ).loc Cert.FfInIdeal.main_arg5)
      ∧ m' ((c.tc : Thread Cert.FfInRefIdeal.nD Cert.FfInRefIdeal.τ).loc Cert.FfInRefIdeal.main_arg6) = m ((c.tc : Thread Cert.FfInIdeal.nD Cert.FfInIdeal.τ).loc Cert.FfInIdeal.main_arg6)
      ∧ m' ((c.tc : Thread Cert.FfInRefIdeal.nD Cert.FfInRefIdeal.τ).loc Cert.FfInRefIdeal.main_arg7) = m ((c.tc : Thread Cert.FfInIdeal.nD Cert.FfInIdeal.τ).loc Cert.FfInIdeal.main_arg7)) →
    ∃ (v0 : (c : Dev Cert.FfInIdeal.nD) → Buf (Elt Ideal) ((c.tc : Thread Cert.FfInIdeal.nD Cert.FfInIdeal.τ).loc Cert.FfInIdeal.main_v22)),
      θ_run (Cert.FfInIdeal.defs (F := Ideal)) (onTc (τ := Cert.FfInIdeal.τ) (Cert.FfInIdeal.main (F := Ideal))) ⟨m, fun _ => 0, g⟩ (fun r => ∀ c : Dev Cert.FfInIdeal.nD,
          r.2.mem ((c.tc : Thread Cert.FfInIdeal.nD Cert.FfInIdeal.τ).loc Cert.FfInIdeal.main_v22) = v0 c
          ∧ r.2.mem ((c.tc : Thread Cert.FfInIdeal.nD Cert.FfInIdeal.τ).loc Cert.FfInIdeal.main_arg0) = m ((c.tc : Thread Cert.FfInIdeal.nD Cert.FfInIdeal.τ).loc Cert.FfInIdeal.main_arg0)
          ∧ r.2.mem ((c.tc : Thread Cert.FfInIdeal.nD Cert.FfInIdeal.τ).loc Cert.FfInIdeal.main_arg1) = m ((c.tc : Thread Cert.FfInIdeal.nD Cert.FfInIdeal.τ).loc Cert.FfInIdeal.main_arg1)
          ∧ r.2.mem ((c.tc : Thread Cert.FfInIdeal.nD Cert.FfInIdeal.τ).loc Cert.FfInIdeal.main_arg2) = m ((c.tc : Thread Cert.FfInIdeal.nD Cert.FfInIdeal.τ).loc Cert.FfInIdeal.main_arg2)
          ∧ r.2.mem ((c.tc : Thread Cert.FfInIdeal.nD Cert.FfInIdeal.τ).loc Cert.FfInIdeal.main_arg3) = m ((c.tc : Thread Cert.FfInIdeal.nD Cert.FfInIdeal.τ).loc Cert.FfInIdeal.main_arg3)
          ∧ r.2.mem ((c.tc : Thread Cert.FfInIdeal.nD Cert.FfInIdeal.τ).loc Cert.FfInIdeal.main_arg4) = m ((c.tc : Thread Cert.FfInIdeal.nD Cert.FfInIdeal.τ).loc Cert.FfInIdeal.main_arg4)
          ∧ r.2.mem ((c.tc : Thread Cert.FfInIdeal.nD Cert.FfInIdeal.τ).loc Cert.FfInIdeal.main_arg5) = m ((c.tc : Thread Cert.FfInIdeal.nD Cert.FfInIdeal.τ).loc Cert.FfInIdeal.main_arg5)
          ∧ r.2.mem ((c.tc : Thread Cert.FfInIdeal.nD Cert.FfInIdeal.τ).loc Cert.FfInIdeal.main_arg6) = m ((c.tc : Thread Cert.FfInIdeal.nD Cert.FfInIdeal.τ).loc Cert.FfInIdeal.main_arg6)
          ∧ r.2.mem ((c.tc : Thread Cert.FfInIdeal.nD Cert.FfInIdeal.τ).loc Cert.FfInIdeal.main_arg7) = m ((c.tc : Thread Cert.FfInIdeal.nD Cert.FfInIdeal.τ).loc Cert.FfInIdeal.main_arg7))
      ∧ θ_run (Cert.FfInRefIdeal.defs (F := Ideal)) (onTc (τ := Cert.FfInRefIdeal.τ) (Cert.FfInRefIdeal.main (F := Ideal))) ⟨m', fun _ => 0, g'⟩ (fun r => ∀ c : Dev Cert.FfInRefIdeal.nD,
          r.2.mem ((c.tc : Thread Cert.FfInRefIdeal.nD Cert.FfInRefIdeal.τ).loc Cert.FfInRefIdeal.main_v13) = v0 c
          ∧ r.2.mem ((c.tc : Thread Cert.FfInRefIdeal.nD Cert.FfInRefIdeal.τ).loc Cert.FfInRefIdeal.main_arg0) = m' ((c.tc : Thread Cert.FfInRefIdeal.nD Cert.FfInRefIdeal.τ).loc Cert.FfInRefIdeal.main_arg0)
          ∧ r.2.mem ((c.tc : Thread Cert.FfInRefIdeal.nD Cert.FfInRefIdeal.τ).loc Cert.FfInRefIdeal.main_arg1) = m' ((c.tc : Thread Cert.FfInRefIdeal.nD Cert.FfInRefIdeal.τ).loc Cert.FfInRefIdeal.main_arg1)
          ∧ r.2.mem ((c.tc : Thread Cert.FfInRefIdeal.nD Cert.FfInRefIdeal.τ).loc Cert.FfInRefIdeal.main_arg2) = m' ((c.tc : Thread Cert.FfInRefIdeal.nD Cert.FfInRefIdeal.τ).loc Cert.FfInRefIdeal.main_arg2)
          ∧ r.2.mem ((c.tc : Thread Cert.FfInRefIdeal.nD Cert.FfInRefIdeal.τ).loc Cert.FfInRefIdeal.main_arg3) = m' ((c.tc : Thread Cert.FfInRefIdeal.nD Cert.FfInRefIdeal.τ).loc Cert.FfInRefIdeal.main_arg3)
          ∧ r.2.mem ((c.tc : Thread Cert.FfInRefIdeal.nD Cert.FfInRefIdeal.τ).loc Cert.FfInRefIdeal.main_arg4) = m' ((c.tc : Thread Cert.FfInRefIdeal.nD Cert.FfInRefIdeal.τ).loc Cert.FfInRefIdeal.main_arg4)
          ∧ r.2.mem ((c.tc : Thread Cert.FfInRefIdeal.nD Cert.FfInRefIdeal.τ).loc Cert.FfInRefIdeal.main_arg5) = m' ((c.tc : Thread Cert.FfInRefIdeal.nD Cert.FfInRefIdeal.τ).loc Cert.FfInRefIdeal.main_arg5)
          ∧ r.2.mem ((c.tc : Thread Cert.FfInRefIdeal.nD Cert.FfInRefIdeal.τ).loc Cert.FfInRefIdeal.main_arg6) = m' ((c.tc : Thread Cert.FfInRefIdeal.nD Cert.FfInRefIdeal.τ).loc Cert.FfInRefIdeal.main_arg6)
          ∧ r.2.mem ((c.tc : Thread Cert.FfInRefIdeal.nD Cert.FfInRefIdeal.τ).loc Cert.FfInRefIdeal.main_arg7) = m' ((c.tc : Thread Cert.FfInRefIdeal.nD Cert.FfInRefIdeal.τ).loc Cert.FfInRefIdeal.main_arg7))

def preserves_Dw_DwIdeal : Prop :=
  True

def algebraic_DwIdeal_DwRefIdeal [hDwIdeal : Cert.DwIdeal.Facts] [hDwRefIdeal : Cert.DwRefIdeal.Facts] : Prop :=
  ∀ (m : (ℓ : Loc Cert.DwIdeal.nD Cert.DwIdeal.τ Cert.DwIdeal.sig) → Buf (Elt Ideal) ℓ) (g : Dev Cert.DwIdeal.nD → PrngReg)
    (m' : (ℓ : Loc Cert.DwRefIdeal.nD Cert.DwRefIdeal.τ Cert.DwRefIdeal.sig) → Buf (Elt Ideal) ℓ) (g' : Dev Cert.DwRefIdeal.nD → PrngReg), Pre_DwIdeal m →
    (∀ c : Dev Cert.DwIdeal.nD,
      m' ((c.tc : Thread Cert.DwRefIdeal.nD Cert.DwRefIdeal.τ).loc Cert.DwRefIdeal.main_arg0) = m ((c.tc : Thread Cert.DwIdeal.nD Cert.DwIdeal.τ).loc Cert.DwIdeal.main_arg0)
      ∧ m' ((c.tc : Thread Cert.DwRefIdeal.nD Cert.DwRefIdeal.τ).loc Cert.DwRefIdeal.main_arg1) = m ((c.tc : Thread Cert.DwIdeal.nD Cert.DwIdeal.τ).loc Cert.DwIdeal.main_arg1)
      ∧ m' ((c.tc : Thread Cert.DwRefIdeal.nD Cert.DwRefIdeal.τ).loc Cert.DwRefIdeal.main_arg2) = m ((c.tc : Thread Cert.DwIdeal.nD Cert.DwIdeal.τ).loc Cert.DwIdeal.main_arg2)
      ∧ m' ((c.tc : Thread Cert.DwRefIdeal.nD Cert.DwRefIdeal.τ).loc Cert.DwRefIdeal.main_arg3) = m ((c.tc : Thread Cert.DwIdeal.nD Cert.DwIdeal.τ).loc Cert.DwIdeal.main_arg3)
      ∧ m' ((c.tc : Thread Cert.DwRefIdeal.nD Cert.DwRefIdeal.τ).loc Cert.DwRefIdeal.main_arg4) = m ((c.tc : Thread Cert.DwIdeal.nD Cert.DwIdeal.τ).loc Cert.DwIdeal.main_arg4)
      ∧ m' ((c.tc : Thread Cert.DwRefIdeal.nD Cert.DwRefIdeal.τ).loc Cert.DwRefIdeal.main_arg5) = m ((c.tc : Thread Cert.DwIdeal.nD Cert.DwIdeal.τ).loc Cert.DwIdeal.main_arg5)) →
    ∃ (v0 : (c : Dev Cert.DwIdeal.nD) → Buf (Elt Ideal) ((c.tc : Thread Cert.DwIdeal.nD Cert.DwIdeal.τ).loc Cert.DwIdeal.main_v13)) (v1 : (c : Dev Cert.DwIdeal.nD) → Buf (Elt Ideal) ((c.tc : Thread Cert.DwIdeal.nD Cert.DwIdeal.τ).loc Cert.DwIdeal.main_v15)) (v2 : (c : Dev Cert.DwIdeal.nD) → Buf (Elt Ideal) ((c.tc : Thread Cert.DwIdeal.nD Cert.DwIdeal.τ).loc Cert.DwIdeal.main_v17)),
      θ_run (Cert.DwIdeal.defs (F := Ideal)) (onTc (τ := Cert.DwIdeal.τ) (Cert.DwIdeal.main (F := Ideal))) ⟨m, fun _ => 0, g⟩ (fun r => ∀ c : Dev Cert.DwIdeal.nD,
          r.2.mem ((c.tc : Thread Cert.DwIdeal.nD Cert.DwIdeal.τ).loc Cert.DwIdeal.main_v13) = v0 c
          ∧ r.2.mem ((c.tc : Thread Cert.DwIdeal.nD Cert.DwIdeal.τ).loc Cert.DwIdeal.main_v15) = v1 c
          ∧ r.2.mem ((c.tc : Thread Cert.DwIdeal.nD Cert.DwIdeal.τ).loc Cert.DwIdeal.main_v17) = v2 c
          ∧ r.2.mem ((c.tc : Thread Cert.DwIdeal.nD Cert.DwIdeal.τ).loc Cert.DwIdeal.main_arg0) = m ((c.tc : Thread Cert.DwIdeal.nD Cert.DwIdeal.τ).loc Cert.DwIdeal.main_arg0)
          ∧ r.2.mem ((c.tc : Thread Cert.DwIdeal.nD Cert.DwIdeal.τ).loc Cert.DwIdeal.main_arg1) = m ((c.tc : Thread Cert.DwIdeal.nD Cert.DwIdeal.τ).loc Cert.DwIdeal.main_arg1)
          ∧ r.2.mem ((c.tc : Thread Cert.DwIdeal.nD Cert.DwIdeal.τ).loc Cert.DwIdeal.main_arg2) = m ((c.tc : Thread Cert.DwIdeal.nD Cert.DwIdeal.τ).loc Cert.DwIdeal.main_arg2)
          ∧ r.2.mem ((c.tc : Thread Cert.DwIdeal.nD Cert.DwIdeal.τ).loc Cert.DwIdeal.main_arg3) = m ((c.tc : Thread Cert.DwIdeal.nD Cert.DwIdeal.τ).loc Cert.DwIdeal.main_arg3)
          ∧ r.2.mem ((c.tc : Thread Cert.DwIdeal.nD Cert.DwIdeal.τ).loc Cert.DwIdeal.main_arg4) = m ((c.tc : Thread Cert.DwIdeal.nD Cert.DwIdeal.τ).loc Cert.DwIdeal.main_arg4)
          ∧ r.2.mem ((c.tc : Thread Cert.DwIdeal.nD Cert.DwIdeal.τ).loc Cert.DwIdeal.main_arg5) = m ((c.tc : Thread Cert.DwIdeal.nD Cert.DwIdeal.τ).loc Cert.DwIdeal.main_arg5))
      ∧ θ_run (Cert.DwRefIdeal.defs (F := Ideal)) (onTc (τ := Cert.DwRefIdeal.τ) (Cert.DwRefIdeal.main (F := Ideal))) ⟨m', fun _ => 0, g'⟩ (fun r => ∀ c : Dev Cert.DwRefIdeal.nD,
          r.2.mem ((c.tc : Thread Cert.DwRefIdeal.nD Cert.DwRefIdeal.τ).loc Cert.DwRefIdeal.main_v14) = v0 c
          ∧ r.2.mem ((c.tc : Thread Cert.DwRefIdeal.nD Cert.DwRefIdeal.τ).loc Cert.DwRefIdeal.main_v11) = v1 c
          ∧ r.2.mem ((c.tc : Thread Cert.DwRefIdeal.nD Cert.DwRefIdeal.τ).loc Cert.DwRefIdeal.main_v9) = v2 c
          ∧ r.2.mem ((c.tc : Thread Cert.DwRefIdeal.nD Cert.DwRefIdeal.τ).loc Cert.DwRefIdeal.main_arg0) = m' ((c.tc : Thread Cert.DwRefIdeal.nD Cert.DwRefIdeal.τ).loc Cert.DwRefIdeal.main_arg0)
          ∧ r.2.mem ((c.tc : Thread Cert.DwRefIdeal.nD Cert.DwRefIdeal.τ).loc Cert.DwRefIdeal.main_arg1) = m' ((c.tc : Thread Cert.DwRefIdeal.nD Cert.DwRefIdeal.τ).loc Cert.DwRefIdeal.main_arg1)
          ∧ r.2.mem ((c.tc : Thread Cert.DwRefIdeal.nD Cert.DwRefIdeal.τ).loc Cert.DwRefIdeal.main_arg2) = m' ((c.tc : Thread Cert.DwRefIdeal.nD Cert.DwRefIdeal.τ).loc Cert.DwRefIdeal.main_arg2)
          ∧ r.2.mem ((c.tc : Thread Cert.DwRefIdeal.nD Cert.DwRefIdeal.τ).loc Cert.DwRefIdeal.main_arg3) = m' ((c.tc : Thread Cert.DwRefIdeal.nD Cert.DwRefIdeal.τ).loc Cert.DwRefIdeal.main_arg3)
          ∧ r.2.mem ((c.tc : Thread Cert.DwRefIdeal.nD Cert.DwRefIdeal.τ).loc Cert.DwRefIdeal.main_arg4) = m' ((c.tc : Thread Cert.DwRefIdeal.nD Cert.DwRefIdeal.τ).loc Cert.DwRefIdeal.main_arg4)
          ∧ r.2.mem ((c.tc : Thread Cert.DwRefIdeal.nD Cert.DwRefIdeal.τ).loc Cert.DwRefIdeal.main_arg5) = m' ((c.tc : Thread Cert.DwRefIdeal.nD Cert.DwRefIdeal.τ).loc Cert.DwRefIdeal.main_arg5))

def preserves_OutIn_OutInIdeal : Prop :=
  True

def algebraic_OutInIdeal_OutInRefIdeal [hOutInIdeal : Cert.OutInIdeal.Facts] [hOutInRefIdeal : Cert.OutInRefIdeal.Facts] : Prop :=
  ∀ (m : (ℓ : Loc Cert.OutInIdeal.nD Cert.OutInIdeal.τ Cert.OutInIdeal.sig) → Buf (Elt Ideal) ℓ) (g : Dev Cert.OutInIdeal.nD → PrngReg)
    (m' : (ℓ : Loc Cert.OutInRefIdeal.nD Cert.OutInRefIdeal.τ Cert.OutInRefIdeal.sig) → Buf (Elt Ideal) ℓ) (g' : Dev Cert.OutInRefIdeal.nD → PrngReg), Pre_OutInIdeal m →
    (∀ c : Dev Cert.OutInIdeal.nD,
      m' ((c.tc : Thread Cert.OutInRefIdeal.nD Cert.OutInRefIdeal.τ).loc Cert.OutInRefIdeal.main_arg0) = m ((c.tc : Thread Cert.OutInIdeal.nD Cert.OutInIdeal.τ).loc Cert.OutInIdeal.main_arg0)
      ∧ m' ((c.tc : Thread Cert.OutInRefIdeal.nD Cert.OutInRefIdeal.τ).loc Cert.OutInRefIdeal.main_arg1) = m ((c.tc : Thread Cert.OutInIdeal.nD Cert.OutInIdeal.τ).loc Cert.OutInIdeal.main_arg1)
      ∧ m' ((c.tc : Thread Cert.OutInRefIdeal.nD Cert.OutInRefIdeal.τ).loc Cert.OutInRefIdeal.main_arg2) = m ((c.tc : Thread Cert.OutInIdeal.nD Cert.OutInIdeal.τ).loc Cert.OutInIdeal.main_arg2)
      ∧ m' ((c.tc : Thread Cert.OutInRefIdeal.nD Cert.OutInRefIdeal.τ).loc Cert.OutInRefIdeal.main_arg3) = m ((c.tc : Thread Cert.OutInIdeal.nD Cert.OutInIdeal.τ).loc Cert.OutInIdeal.main_arg3)
      ∧ m' ((c.tc : Thread Cert.OutInRefIdeal.nD Cert.OutInRefIdeal.τ).loc Cert.OutInRefIdeal.main_arg4) = m ((c.tc : Thread Cert.OutInIdeal.nD Cert.OutInIdeal.τ).loc Cert.OutInIdeal.main_arg4)
      ∧ m' ((c.tc : Thread Cert.OutInRefIdeal.nD Cert.OutInRefIdeal.τ).loc Cert.OutInRefIdeal.main_arg5) = m ((c.tc : Thread Cert.OutInIdeal.nD Cert.OutInIdeal.τ).loc Cert.OutInIdeal.main_arg5)
      ∧ m' ((c.tc : Thread Cert.OutInRefIdeal.nD Cert.OutInRefIdeal.τ).loc Cert.OutInRefIdeal.main_arg6) = m ((c.tc : Thread Cert.OutInIdeal.nD Cert.OutInIdeal.τ).loc Cert.OutInIdeal.main_arg6)) →
    ∃ (v0 : (c : Dev Cert.OutInIdeal.nD) → Buf (Elt Ideal) ((c.tc : Thread Cert.OutInIdeal.nD Cert.OutInIdeal.τ).loc Cert.OutInIdeal.main_v18)),
      θ_run (Cert.OutInIdeal.defs (F := Ideal)) (onTc (τ := Cert.OutInIdeal.τ) (Cert.OutInIdeal.main (F := Ideal))) ⟨m, fun _ => 0, g⟩ (fun r => ∀ c : Dev Cert.OutInIdeal.nD,
          r.2.mem ((c.tc : Thread Cert.OutInIdeal.nD Cert.OutInIdeal.τ).loc Cert.OutInIdeal.main_v18) = v0 c
          ∧ r.2.mem ((c.tc : Thread Cert.OutInIdeal.nD Cert.OutInIdeal.τ).loc Cert.OutInIdeal.main_arg0) = m ((c.tc : Thread Cert.OutInIdeal.nD Cert.OutInIdeal.τ).loc Cert.OutInIdeal.main_arg0)
          ∧ r.2.mem ((c.tc : Thread Cert.OutInIdeal.nD Cert.OutInIdeal.τ).loc Cert.OutInIdeal.main_arg1) = m ((c.tc : Thread Cert.OutInIdeal.nD Cert.OutInIdeal.τ).loc Cert.OutInIdeal.main_arg1)
          ∧ r.2.mem ((c.tc : Thread Cert.OutInIdeal.nD Cert.OutInIdeal.τ).loc Cert.OutInIdeal.main_arg2) = m ((c.tc : Thread Cert.OutInIdeal.nD Cert.OutInIdeal.τ).loc Cert.OutInIdeal.main_arg2)
          ∧ r.2.mem ((c.tc : Thread Cert.OutInIdeal.nD Cert.OutInIdeal.τ).loc Cert.OutInIdeal.main_arg3) = m ((c.tc : Thread Cert.OutInIdeal.nD Cert.OutInIdeal.τ).loc Cert.OutInIdeal.main_arg3)
          ∧ r.2.mem ((c.tc : Thread Cert.OutInIdeal.nD Cert.OutInIdeal.τ).loc Cert.OutInIdeal.main_arg4) = m ((c.tc : Thread Cert.OutInIdeal.nD Cert.OutInIdeal.τ).loc Cert.OutInIdeal.main_arg4)
          ∧ r.2.mem ((c.tc : Thread Cert.OutInIdeal.nD Cert.OutInIdeal.τ).loc Cert.OutInIdeal.main_arg5) = m ((c.tc : Thread Cert.OutInIdeal.nD Cert.OutInIdeal.τ).loc Cert.OutInIdeal.main_arg5)
          ∧ r.2.mem ((c.tc : Thread Cert.OutInIdeal.nD Cert.OutInIdeal.τ).loc Cert.OutInIdeal.main_arg6) = m ((c.tc : Thread Cert.OutInIdeal.nD Cert.OutInIdeal.τ).loc Cert.OutInIdeal.main_arg6))
      ∧ θ_run (Cert.OutInRefIdeal.defs (F := Ideal)) (onTc (τ := Cert.OutInRefIdeal.τ) (Cert.OutInRefIdeal.main (F := Ideal))) ⟨m', fun _ => 0, g'⟩ (fun r => ∀ c : Dev Cert.OutInRefIdeal.nD,
          r.2.mem ((c.tc : Thread Cert.OutInRefIdeal.nD Cert.OutInRefIdeal.τ).loc Cert.OutInRefIdeal.main_v2) = v0 c
          ∧ r.2.mem ((c.tc : Thread Cert.OutInRefIdeal.nD Cert.OutInRefIdeal.τ).loc Cert.OutInRefIdeal.main_arg0) = m' ((c.tc : Thread Cert.OutInRefIdeal.nD Cert.OutInRefIdeal.τ).loc Cert.OutInRefIdeal.main_arg0)
          ∧ r.2.mem ((c.tc : Thread Cert.OutInRefIdeal.nD Cert.OutInRefIdeal.τ).loc Cert.OutInRefIdeal.main_arg1) = m' ((c.tc : Thread Cert.OutInRefIdeal.nD Cert.OutInRefIdeal.τ).loc Cert.OutInRefIdeal.main_arg1)
          ∧ r.2.mem ((c.tc : Thread Cert.OutInRefIdeal.nD Cert.OutInRefIdeal.τ).loc Cert.OutInRefIdeal.main_arg2) = m' ((c.tc : Thread Cert.OutInRefIdeal.nD Cert.OutInRefIdeal.τ).loc Cert.OutInRefIdeal.main_arg2)
          ∧ r.2.mem ((c.tc : Thread Cert.OutInRefIdeal.nD Cert.OutInRefIdeal.τ).loc Cert.OutInRefIdeal.main_arg3) = m' ((c.tc : Thread Cert.OutInRefIdeal.nD Cert.OutInRefIdeal.τ).loc Cert.OutInRefIdeal.main_arg3)
          ∧ r.2.mem ((c.tc : Thread Cert.OutInRefIdeal.nD Cert.OutInRefIdeal.τ).loc Cert.OutInRefIdeal.main_arg4) = m' ((c.tc : Thread Cert.OutInRefIdeal.nD Cert.OutInRefIdeal.τ).loc Cert.OutInRefIdeal.main_arg4)
          ∧ r.2.mem ((c.tc : Thread Cert.OutInRefIdeal.nD Cert.OutInRefIdeal.τ).loc Cert.OutInRefIdeal.main_arg5) = m' ((c.tc : Thread Cert.OutInRefIdeal.nD Cert.OutInRefIdeal.τ).loc Cert.OutInRefIdeal.main_arg5)
          ∧ r.2.mem ((c.tc : Thread Cert.OutInRefIdeal.nD Cert.OutInRefIdeal.τ).loc Cert.OutInRefIdeal.main_arg6) = m' ((c.tc : Thread Cert.OutInRefIdeal.nD Cert.OutInRefIdeal.τ).loc Cert.OutInRefIdeal.main_arg6))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v3)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v3) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v12) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)
      ∧ m' ((c.tc : Thread Cert.UpRefIdeal.nD Cert.UpRefIdeal.τ).loc Cert.UpRefIdeal.main_arg3) = m ((c.tc : Thread Cert.UpIdeal.nD Cert.UpIdeal.τ).loc Cert.UpIdeal.main_arg3)
      ∧ m' ((c.tc : Thread Cert.UpRefIdeal.nD Cert.UpRefIdeal.τ).loc Cert.UpRefIdeal.main_arg4) = m ((c.tc : Thread Cert.UpIdeal.nD Cert.UpIdeal.τ).loc Cert.UpIdeal.main_arg4)
      ∧ m' ((c.tc : Thread Cert.UpRefIdeal.nD Cert.UpRefIdeal.τ).loc Cert.UpRefIdeal.main_arg5) = m ((c.tc : Thread Cert.UpIdeal.nD Cert.UpIdeal.τ).loc Cert.UpIdeal.main_arg5)
      ∧ m' ((c.tc : Thread Cert.UpRefIdeal.nD Cert.UpRefIdeal.τ).loc Cert.UpRefIdeal.main_arg6) = m ((c.tc : Thread Cert.UpIdeal.nD Cert.UpIdeal.τ).loc Cert.UpIdeal.main_arg6)) →
    ∃ (v0 : (c : Dev Cert.UpIdeal.nD) → Buf (Elt Ideal) ((c.tc : Thread Cert.UpIdeal.nD Cert.UpIdeal.τ).loc Cert.UpIdeal.main_v18)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v18) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
          ∧ r.2.mem ((c.tc : Thread Cert.UpIdeal.nD Cert.UpIdeal.τ).loc Cert.UpIdeal.main_arg4) = m ((c.tc : Thread Cert.UpIdeal.nD Cert.UpIdeal.τ).loc Cert.UpIdeal.main_arg4)
          ∧ r.2.mem ((c.tc : Thread Cert.UpIdeal.nD Cert.UpIdeal.τ).loc Cert.UpIdeal.main_arg5) = m ((c.tc : Thread Cert.UpIdeal.nD Cert.UpIdeal.τ).loc Cert.UpIdeal.main_arg5)
          ∧ r.2.mem ((c.tc : Thread Cert.UpIdeal.nD Cert.UpIdeal.τ).loc Cert.UpIdeal.main_arg6) = m ((c.tc : Thread Cert.UpIdeal.nD Cert.UpIdeal.τ).loc Cert.UpIdeal.main_arg6))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v3) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2)
          ∧ r.2.mem ((c.tc : Thread Cert.UpRefIdeal.nD Cert.UpRefIdeal.τ).loc Cert.UpRefIdeal.main_arg3) = m' ((c.tc : Thread Cert.UpRefIdeal.nD Cert.UpRefIdeal.τ).loc Cert.UpRefIdeal.main_arg3)
          ∧ r.2.mem ((c.tc : Thread Cert.UpRefIdeal.nD Cert.UpRefIdeal.τ).loc Cert.UpRefIdeal.main_arg4) = m' ((c.tc : Thread Cert.UpRefIdeal.nD Cert.UpRefIdeal.τ).loc Cert.UpRefIdeal.main_arg4)
          ∧ r.2.mem ((c.tc : Thread Cert.UpRefIdeal.nD Cert.UpRefIdeal.τ).loc Cert.UpRefIdeal.main_arg5) = m' ((c.tc : Thread Cert.UpRefIdeal.nD Cert.UpRefIdeal.τ).loc Cert.UpRefIdeal.main_arg5)
          ∧ r.2.mem ((c.tc : Thread Cert.UpRefIdeal.nD Cert.UpRefIdeal.τ).loc Cert.UpRefIdeal.main_arg6) = m' ((c.tc : Thread Cert.UpRefIdeal.nD Cert.UpRefIdeal.τ).loc Cert.UpRefIdeal.main_arg6))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)
      ∧ m' ((c.tc : Thread Cert.DownRefIdeal.nD Cert.DownRefIdeal.τ).loc Cert.DownRefIdeal.main_arg5) = m ((c.tc : Thread Cert.DownIdeal.nD Cert.DownIdeal.τ).loc Cert.DownIdeal.main_arg5)
      ∧ m' ((c.tc : Thread Cert.DownRefIdeal.nD Cert.DownRefIdeal.τ).loc Cert.DownRefIdeal.main_arg6) = m ((c.tc : Thread Cert.DownIdeal.nD Cert.DownIdeal.τ).loc Cert.DownIdeal.main_arg6)
      ∧ m' ((c.tc : Thread Cert.DownRefIdeal.nD Cert.DownRefIdeal.τ).loc Cert.DownRefIdeal.main_arg7) = m ((c.tc : Thread Cert.DownIdeal.nD Cert.DownIdeal.τ).loc Cert.DownIdeal.main_arg7)
      ∧ m' ((c.tc : Thread Cert.DownRefIdeal.nD Cert.DownRefIdeal.τ).loc Cert.DownRefIdeal.main_arg8) = m ((c.tc : Thread Cert.DownIdeal.nD Cert.DownIdeal.τ).loc Cert.DownIdeal.main_arg8)) →
    ∃ (v0 : (c : Dev Cert.DownIdeal.nD) → Buf (Elt Ideal) ((c.tc : Thread Cert.DownIdeal.nD Cert.DownIdeal.τ).loc Cert.DownIdeal.main_v18_0)) (v1 : (c : Dev Cert.DownIdeal.nD) → Buf (Elt Ideal) ((c.tc : Thread Cert.DownIdeal.nD Cert.DownIdeal.τ).loc Cert.DownIdeal.main_v18_1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v18_0) = v0 c
          ∧ r.2.mem ((c.tc : Thread Cert.DownIdeal.nD Cert.DownIdeal.τ).loc Cert.DownIdeal.main_v18_1) = v1 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
          ∧ r.2.mem ((c.tc : Thread Cert.DownIdeal.nD Cert.DownIdeal.τ).loc Cert.DownIdeal.main_arg5) = m ((c.tc : Thread Cert.DownIdeal.nD Cert.DownIdeal.τ).loc Cert.DownIdeal.main_arg5)
          ∧ r.2.mem ((c.tc : Thread Cert.DownIdeal.nD Cert.DownIdeal.τ).loc Cert.DownIdeal.main_arg6) = m ((c.tc : Thread Cert.DownIdeal.nD Cert.DownIdeal.τ).loc Cert.DownIdeal.main_arg6)
          ∧ r.2.mem ((c.tc : Thread Cert.DownIdeal.nD Cert.DownIdeal.τ).loc Cert.DownIdeal.main_arg7) = m ((c.tc : Thread Cert.DownIdeal.nD Cert.DownIdeal.τ).loc Cert.DownIdeal.main_arg7)
          ∧ r.2.mem ((c.tc : Thread Cert.DownIdeal.nD Cert.DownIdeal.τ).loc Cert.DownIdeal.main_arg8) = m ((c.tc : Thread Cert.DownIdeal.nD Cert.DownIdeal.τ).loc Cert.DownIdeal.main_arg8))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v1) = v0 c
          ∧ r.2.mem ((c.tc : Thread Cert.DownRefIdeal.nD Cert.DownRefIdeal.τ).loc Cert.DownRefIdeal.main_v14) = v1 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4)
          ∧ r.2.mem ((c.tc : Thread Cert.DownRefIdeal.nD Cert.DownRefIdeal.τ).loc Cert.DownRefIdeal.main_arg5) = m' ((c.tc : Thread Cert.DownRefIdeal.nD Cert.DownRefIdeal.τ).loc Cert.DownRefIdeal.main_arg5)
          ∧ r.2.mem ((c.tc : Thread Cert.DownRefIdeal.nD Cert.DownRefIdeal.τ).loc Cert.DownRefIdeal.main_arg6) = m' ((c.tc : Thread Cert.DownRefIdeal.nD Cert.DownRefIdeal.τ).loc Cert.DownRefIdeal.main_arg6)
          ∧ r.2.mem ((c.tc : Thread Cert.DownRefIdeal.nD Cert.DownRefIdeal.τ).loc Cert.DownRefIdeal.main_arg7) = m' ((c.tc : Thread Cert.DownRefIdeal.nD Cert.DownRefIdeal.τ).loc Cert.DownRefIdeal.main_arg7)
          ∧ r.2.mem ((c.tc : Thread Cert.DownRefIdeal.nD Cert.DownRefIdeal.τ).loc Cert.DownRefIdeal.main_arg8) = m' ((c.tc : Thread Cert.DownRefIdeal.nD Cert.DownRefIdeal.τ).loc Cert.DownRefIdeal.main_arg8))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)
      ∧ m' ((c.tc : Thread Cert.OutRefIdeal.nD Cert.OutRefIdeal.τ).loc Cert.OutRefIdeal.main_arg5) = m ((c.tc : Thread Cert.OutIdeal.nD Cert.OutIdeal.τ).loc Cert.OutIdeal.main_arg5)
      ∧ m' ((c.tc : Thread Cert.OutRefIdeal.nD Cert.OutRefIdeal.τ).loc Cert.OutRefIdeal.main_arg6) = m ((c.tc : Thread Cert.OutIdeal.nD Cert.OutIdeal.τ).loc Cert.OutIdeal.main_arg6)
      ∧ m' ((c.tc : Thread Cert.OutRefIdeal.nD Cert.OutRefIdeal.τ).loc Cert.OutRefIdeal.main_arg7) = m ((c.tc : Thread Cert.OutIdeal.nD Cert.OutIdeal.τ).loc Cert.OutIdeal.main_arg7)
      ∧ m' ((c.tc : Thread Cert.OutRefIdeal.nD Cert.OutRefIdeal.τ).loc Cert.OutRefIdeal.main_arg8) = m ((c.tc : Thread Cert.OutIdeal.nD Cert.OutIdeal.τ).loc Cert.OutIdeal.main_arg8)) →
    ∃ (v0 : (c : Dev Cert.OutIdeal.nD) → Buf (Elt Ideal) ((c.tc : Thread Cert.OutIdeal.nD Cert.OutIdeal.τ).loc Cert.OutIdeal.main_v18_0)) (v1 : (c : Dev Cert.OutIdeal.nD) → Buf (Elt Ideal) ((c.tc : Thread Cert.OutIdeal.nD Cert.OutIdeal.τ).loc Cert.OutIdeal.main_v18_1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v18_0) = v0 c
          ∧ r.2.mem ((c.tc : Thread Cert.OutIdeal.nD Cert.OutIdeal.τ).loc Cert.OutIdeal.main_v18_1) = v1 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
          ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
          ∧ r.2.mem ((c.tc : Thread Cert.OutIdeal.nD Cert.OutIdeal.τ).loc Cert.OutIdeal.main_arg7) = m ((c.tc : Thread Cert.OutIdeal.nD Cert.OutIdeal.τ).loc Cert.OutIdeal.main_arg7)
          ∧ r.2.mem ((c.tc : Thread Cert.OutIdeal.nD Cert.OutIdeal.τ).loc Cert.OutIdeal.main_arg8) = m ((c.tc : Thread Cert.OutIdeal.nD Cert.OutIdeal.τ).loc Cert.OutIdeal.main_arg8))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v1) = v0 c
          ∧ r.2.mem ((c.tc : Thread Cert.OutRefIdeal.nD Cert.OutRefIdeal.τ).loc Cert.OutRefIdeal.main_v14) = v1 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5)
          ∧ r.2.mem ((c.tc : Thread Cert.OutRefIdeal.nD Cert.OutRefIdeal.τ).loc Cert.OutRefIdeal.main_arg6) = m' ((c.tc : Thread Cert.OutRefIdeal.nD Cert.OutRefIdeal.τ).loc Cert.OutRefIdeal.main_arg6)
          ∧ r.2.mem ((c.tc : Thread Cert.OutRefIdeal.nD Cert.OutRefIdeal.τ).loc Cert.OutRefIdeal.main_arg7) = m' ((c.tc : Thread Cert.OutRefIdeal.nD Cert.OutRefIdeal.τ).loc Cert.OutRefIdeal.main_arg7)
          ∧ r.2.mem ((c.tc : Thread Cert.OutRefIdeal.nD Cert.OutRefIdeal.τ).loc Cert.OutRefIdeal.main_arg8) = m' ((c.tc : Thread Cert.OutRefIdeal.nD Cert.OutRefIdeal.τ).loc Cert.OutRefIdeal.main_arg8))

def preserves_Last_LastIdeal : Prop :=
  True

def algebraic_LastIdeal_LastRefIdeal [hLastIdeal : Cert.LastIdeal.Facts] [hLastRefIdeal : Cert.LastRefIdeal.Facts] : Prop :=
  ∀ (m : (ℓ : Loc Cert.LastIdeal.nD Cert.LastIdeal.τ Cert.LastIdeal.sig) → Buf (Elt Ideal) ℓ) (g : Dev Cert.LastIdeal.nD → PrngReg)
    (m' : (ℓ : Loc Cert.LastRefIdeal.nD Cert.LastRefIdeal.τ Cert.LastRefIdeal.sig) → Buf (Elt Ideal) ℓ) (g' : Dev Cert.LastRefIdeal.nD → PrngReg), Pre_LastIdeal m →
    (∀ c : Dev Cert.LastIdeal.nD,
      m' ((c.tc : Thread Cert.LastRefIdeal.nD Cert.LastRefIdeal.τ).loc Cert.LastRefIdeal.main_arg0) = m ((c.tc : Thread Cert.LastIdeal.nD Cert.LastIdeal.τ).loc Cert.LastIdeal.main_arg0)
      ∧ m' ((c.tc : Thread Cert.LastRefIdeal.nD Cert.LastRefIdeal.τ).loc Cert.LastRefIdeal.main_arg1) = m ((c.tc : Thread Cert.LastIdeal.nD Cert.LastIdeal.τ).loc Cert.LastIdeal.main_arg1)
      ∧ m' ((c.tc : Thread Cert.LastRefIdeal.nD Cert.LastRefIdeal.τ).loc Cert.LastRefIdeal.main_arg2) = m ((c.tc : Thread Cert.LastIdeal.nD Cert.LastIdeal.τ).loc Cert.LastIdeal.main_arg2)
      ∧ m' ((c.tc : Thread Cert.LastRefIdeal.nD Cert.LastRefIdeal.τ).loc Cert.LastRefIdeal.main_arg3) = m ((c.tc : Thread Cert.LastIdeal.nD Cert.LastIdeal.τ).loc Cert.LastIdeal.main_arg3)
      ∧ m' ((c.tc : Thread Cert.LastRefIdeal.nD Cert.LastRefIdeal.τ).loc Cert.LastRefIdeal.main_arg4) = m ((c.tc : Thread Cert.LastIdeal.nD Cert.LastIdeal.τ).loc Cert.LastIdeal.main_arg4)
      ∧ m' ((c.tc : Thread Cert.LastRefIdeal.nD Cert.LastRefIdeal.τ).loc Cert.LastRefIdeal.main_arg5) = m ((c.tc : Thread Cert.LastIdeal.nD Cert.LastIdeal.τ).loc Cert.LastIdeal.main_arg5)
      ∧ m' ((c.tc : Thread Cert.LastRefIdeal.nD Cert.LastRefIdeal.τ).loc Cert.LastRefIdeal.main_arg6) = m ((c.tc : Thread Cert.LastIdeal.nD Cert.LastIdeal.τ).loc Cert.LastIdeal.main_arg6)
      ∧ m' ((c.tc : Thread Cert.LastRefIdeal.nD Cert.LastRefIdeal.τ).loc Cert.LastRefIdeal.main_arg7) = m ((c.tc : Thread Cert.LastIdeal.nD Cert.LastIdeal.τ).loc Cert.LastIdeal.main_arg7)
      ∧ m' ((c.tc : Thread Cert.LastRefIdeal.nD Cert.LastRefIdeal.τ).loc Cert.LastRefIdeal.main_arg8) = m ((c.tc : Thread Cert.LastIdeal.nD Cert.LastIdeal.τ).loc Cert.LastIdeal.main_arg8)) →
    ∃ (v0 : (c : Dev Cert.LastIdeal.nD) → Buf (Elt Ideal) ((c.tc : Thread Cert.LastIdeal.nD Cert.LastIdeal.τ).loc Cert.LastIdeal.main_v18_0)) (v1 : (c : Dev Cert.LastIdeal.nD) → Buf (Elt Ideal) ((c.tc : Thread Cert.LastIdeal.nD Cert.LastIdeal.τ).loc Cert.LastIdeal.main_v18_1)) (v2 : (c : Dev Cert.LastIdeal.nD) → Buf (Elt Ideal) ((c.tc : Thread Cert.LastIdeal.nD Cert.LastIdeal.τ).loc Cert.LastIdeal.main_v18_2)),
      θ_run (Cert.LastIdeal.defs (F := Ideal)) (onTc (τ := Cert.LastIdeal.τ) (Cert.LastIdeal.main (F := Ideal))) ⟨m, fun _ => 0, g⟩ (fun r => ∀ c : Dev Cert.LastIdeal.nD,
          r.2.mem ((c.tc : Thread Cert.LastIdeal.nD Cert.LastIdeal.τ).loc Cert.LastIdeal.main_v18_0) = v0 c
          ∧ r.2.mem ((c.tc : Thread Cert.LastIdeal.nD Cert.LastIdeal.τ).loc Cert.LastIdeal.main_v18_1) = v1 c
          ∧ r.2.mem ((c.tc : Thread Cert.LastIdeal.nD Cert.LastIdeal.τ).loc Cert.LastIdeal.main_v18_2) = v2 c
          ∧ r.2.mem ((c.tc : Thread Cert.LastIdeal.nD Cert.LastIdeal.τ).loc Cert.LastIdeal.main_arg0) = m ((c.tc : Thread Cert.LastIdeal.nD Cert.LastIdeal.τ).loc Cert.LastIdeal.main_arg0)
          ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
          ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
          ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
          ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
          ∧ r.2.mem ((c.tc : Thread Cert.LastIdeal.nD Cert.LastIdeal.τ).loc Cert.LastIdeal.main_arg5) = m ((c.tc : Thread Cert.LastIdeal.nD Cert.LastIdeal.τ).loc Cert.LastIdeal.main_arg5)
          ∧ r.2.mem ((c.tc : Thread Cert.LastIdeal.nD Cert.LastIdeal.τ).loc Cert.LastIdeal.main_arg6) = m ((c.tc : Thread Cert.LastIdeal.nD Cert.LastIdeal.τ).loc Cert.LastIdeal.main_arg6)
          ∧ r.2.mem ((c.tc : Thread Cert.LastIdeal.nD Cert.LastIdeal.τ).loc Cert.LastIdeal.main_arg7) = m ((c.tc : Thread Cert.LastIdeal.nD Cert.LastIdeal.τ).loc Cert.LastIdeal.main_arg7)
          ∧ r.2.mem ((c.tc : Thread Cert.LastIdeal.nD Cert.LastIdeal.τ).loc Cert.LastIdeal.main_arg8) = m ((c.tc : Thread Cert.LastIdeal.nD Cert.LastIdeal.τ).loc Cert.LastIdeal.main_arg8))
      ∧ θ_run (Cert.LastRefIdeal.defs (F := Ideal)) (onTc (τ := Cert.LastRefIdeal.τ) (Cert.LastRefIdeal.main (F := Ideal))) ⟨m', fun _ => 0, g'⟩ (fun r => ∀ c : Dev Cert.LastRefIdeal.nD,
          r.2.mem ((c.tc : Thread Cert.LastRefIdeal.nD Cert.LastRefIdeal.τ).loc Cert.LastRefIdeal.main_v16) = v0 c
          ∧ r.2.mem ((c.tc : Thread Cert.LastRefIdeal.nD Cert.LastRefIdeal.τ).loc Cert.LastRefIdeal.main_v21) = v1 c
          ∧ r.2.mem ((c.tc : Thread Cert.LastRefIdeal.nD Cert.LastRefIdeal.τ).loc Cert.LastRefIdeal.main_v22) = v2 c
          ∧ r.2.mem ((c.tc : Thread Cert.LastRefIdeal.nD Cert.LastRefIdeal.τ).loc Cert.LastRefIdeal.main_arg0) = m' ((c.tc : Thread Cert.LastRefIdeal.nD Cert.LastRefIdeal.τ).loc Cert.LastRefIdeal.main_arg0)
          ∧ r.2.mem ((c.tc : Thread Cert.LastRefIdeal.nD Cert.LastRefIdeal.τ).loc Cert.LastRefIdeal.main_arg1) = m' ((c.tc : Thread Cert.LastRefIdeal.nD Cert.LastRefIdeal.τ).loc Cert.LastRefIdeal.main_arg1)
          ∧ r.2.mem ((c.tc : Thread Cert.LastRefIdeal.nD Cert.LastRefIdeal.τ).loc Cert.LastRefIdeal.main_arg2) = m' ((c.tc : Thread Cert.LastRefIdeal.nD Cert.LastRefIdeal.τ).loc Cert.LastRefIdeal.main_arg2)
          ∧ r.2.mem ((c.tc : Thread Cert.LastRefIdeal.nD Cert.LastRefIdeal.τ).loc Cert.LastRefIdeal.main_arg3) = m' ((c.tc : Thread Cert.LastRefIdeal.nD Cert.LastRefIdeal.τ).loc Cert.LastRefIdeal.main_arg3)
          ∧ r.2.mem ((c.tc : Thread Cert.LastRefIdeal.nD Cert.LastRefIdeal.τ).loc Cert.LastRefIdeal.main_arg4) = m' ((c.tc : Thread Cert.LastRefIdeal.nD Cert.LastRefIdeal.τ).loc Cert.LastRefIdeal.main_arg4)
          ∧ r.2.mem ((c.tc : Thread Cert.LastRefIdeal.nD Cert.LastRefIdeal.τ).loc Cert.LastRefIdeal.main_arg5) = m' ((c.tc : Thread Cert.LastRefIdeal.nD Cert.LastRefIdeal.τ).loc Cert.LastRefIdeal.main_arg5)
          ∧ r.2.mem ((c.tc : Thread Cert.LastRefIdeal.nD Cert.LastRefIdeal.τ).loc Cert.LastRefIdeal.main_arg6) = m' ((c.tc : Thread Cert.LastRefIdeal.nD Cert.LastRefIdeal.τ).loc Cert.LastRefIdeal.main_arg6)
          ∧ r.2.mem ((c.tc : Thread Cert.LastRefIdeal.nD Cert.LastRefIdeal.τ).loc Cert.LastRefIdeal.main_arg7) = m' ((c.tc : Thread Cert.LastRefIdeal.nD Cert.LastRefIdeal.τ).loc Cert.LastRefIdeal.main_arg7)
          ∧ r.2.mem ((c.tc : Thread Cert.LastRefIdeal.nD Cert.LastRefIdeal.τ).loc Cert.LastRefIdeal.main_arg8) = m' ((c.tc : Thread Cert.LastRefIdeal.nD Cert.LastRefIdeal.τ).loc Cert.LastRefIdeal.main_arg8))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)) →
    ∃ (v0 : (c : Dev Cert.MergeIdeal.nD) → Buf (Elt Ideal) ((c.tc : Thread Cert.MergeIdeal.nD Cert.MergeIdeal.τ).loc Cert.MergeIdeal.main_v8)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v8) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v20) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)) →
    ∃ (v0 : (c : Dev Cert.LossIdeal.nD) → Buf (Elt Ideal) ((c.tc : Thread Cert.LossIdeal.nD Cert.LossIdeal.τ).loc Cert.LossIdeal.main_v0)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0) = v0 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v3) = v0 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0))

def preserves_AdamT_AdamTIdeal : Prop :=
  True

def algebraic_AdamTIdeal_AdamTRefIdeal [hAdamTIdeal : Cert.AdamTIdeal.Facts] [hAdamTRefIdeal : Cert.AdamTRefIdeal.Facts] : Prop :=
  ∀ (m : (ℓ : Loc Cert.AdamTIdeal.nD Cert.AdamTIdeal.τ Cert.AdamTIdeal.sig) → Buf (Elt Ideal) ℓ) (g : Dev Cert.AdamTIdeal.nD → PrngReg)
    (m' : (ℓ : Loc Cert.AdamTRefIdeal.nD Cert.AdamTRefIdeal.τ Cert.AdamTRefIdeal.sig) → Buf (Elt Ideal) ℓ) (g' : Dev Cert.AdamTRefIdeal.nD → PrngReg), Pre_AdamTIdeal m →
    (∀ c : Dev Cert.AdamTIdeal.nD,
      m' ((c.tc : Thread Cert.AdamTRefIdeal.nD Cert.AdamTRefIdeal.τ).loc Cert.AdamTRefIdeal.main_arg0) = m ((c.tc : Thread Cert.AdamTIdeal.nD Cert.AdamTIdeal.τ).loc Cert.AdamTIdeal.main_arg0)
      ∧ m' ((c.tc : Thread Cert.AdamTRefIdeal.nD Cert.AdamTRefIdeal.τ).loc Cert.AdamTRefIdeal.main_arg1) = m ((c.tc : Thread Cert.AdamTIdeal.nD Cert.AdamTIdeal.τ).loc Cert.AdamTIdeal.main_arg1)
      ∧ m' ((c.tc : Thread Cert.AdamTRefIdeal.nD Cert.AdamTRefIdeal.τ).loc Cert.AdamTRefIdeal.main_arg2) = m ((c.tc : Thread Cert.AdamTIdeal.nD Cert.AdamTIdeal.τ).loc Cert.AdamTIdeal.main_arg2)
      ∧ m' ((c.tc : Thread Cert.AdamTRefIdeal.nD Cert.AdamTRefIdeal.τ).loc Cert.AdamTRefIdeal.main_arg3) = m ((c.tc : Thread Cert.AdamTIdeal.nD Cert.AdamTIdeal.τ).loc Cert.AdamTIdeal.main_arg3)) →
    ∃ (v0 : (c : Dev Cert.AdamTIdeal.nD) → Buf (Elt Ideal) ((c.tc : Thread Cert.AdamTIdeal.nD Cert.AdamTIdeal.τ).loc Cert.AdamTIdeal.main_v0_0)) (v1 : (c : Dev Cert.AdamTIdeal.nD) → Buf (Elt Ideal) ((c.tc : Thread Cert.AdamTIdeal.nD Cert.AdamTIdeal.τ).loc Cert.AdamTIdeal.main_v0_1)) (v2 : (c : Dev Cert.AdamTIdeal.nD) → Buf (Elt Ideal) ((c.tc : Thread Cert.AdamTIdeal.nD Cert.AdamTIdeal.τ).loc Cert.AdamTIdeal.main_v0_2)) (v3 : (c : Dev Cert.AdamTIdeal.nD) → Buf (Elt Ideal) ((c.tc : Thread Cert.AdamTIdeal.nD Cert.AdamTIdeal.τ).loc Cert.AdamTIdeal.main_v0_3)),
      θ_run (Cert.AdamTIdeal.defs (F := Ideal)) (onTc (τ := Cert.AdamTIdeal.τ) (Cert.AdamTIdeal.main (F := Ideal))) ⟨m, fun _ => 0, g⟩ (fun r => ∀ c : Dev Cert.AdamTIdeal.nD,
          r.2.mem ((c.tc : Thread Cert.AdamTIdeal.nD Cert.AdamTIdeal.τ).loc Cert.AdamTIdeal.main_v0_0) = v0 c
          ∧ r.2.mem ((c.tc : Thread Cert.AdamTIdeal.nD Cert.AdamTIdeal.τ).loc Cert.AdamTIdeal.main_v0_1) = v1 c
          ∧ r.2.mem ((c.tc : Thread Cert.AdamTIdeal.nD Cert.AdamTIdeal.τ).loc Cert.AdamTIdeal.main_v0_2) = v2 c
          ∧ r.2.mem ((c.tc : Thread Cert.AdamTIdeal.nD Cert.AdamTIdeal.τ).loc Cert.AdamTIdeal.main_v0_3) = v3 c
          ∧ r.2.mem ((c.tc : Thread Cert.AdamTIdeal.nD Cert.AdamTIdeal.τ).loc Cert.AdamTIdeal.main_arg0) = m ((c.tc : Thread Cert.AdamTIdeal.nD Cert.AdamTIdeal.τ).loc Cert.AdamTIdeal.main_arg0)
          ∧ r.2.mem ((c.tc : Thread Cert.AdamTIdeal.nD Cert.AdamTIdeal.τ).loc Cert.AdamTIdeal.main_arg1) = m ((c.tc : Thread Cert.AdamTIdeal.nD Cert.AdamTIdeal.τ).loc Cert.AdamTIdeal.main_arg1)
          ∧ r.2.mem ((c.tc : Thread Cert.AdamTIdeal.nD Cert.AdamTIdeal.τ).loc Cert.AdamTIdeal.main_arg2) = m ((c.tc : Thread Cert.AdamTIdeal.nD Cert.AdamTIdeal.τ).loc Cert.AdamTIdeal.main_arg2)
          ∧ r.2.mem ((c.tc : Thread Cert.AdamTIdeal.nD Cert.AdamTIdeal.τ).loc Cert.AdamTIdeal.main_arg3) = m ((c.tc : Thread Cert.AdamTIdeal.nD Cert.AdamTIdeal.τ).loc Cert.AdamTIdeal.main_arg3))
      ∧ θ_run (Cert.AdamTRefIdeal.defs (F := Ideal)) (onTc (τ := Cert.AdamTRefIdeal.τ) (Cert.AdamTRefIdeal.main (F := Ideal))) ⟨m', fun _ => 0, g'⟩ (fun r => ∀ c : Dev Cert.AdamTRefIdeal.nD,
          r.2.mem ((c.tc : Thread Cert.AdamTRefIdeal.nD Cert.AdamTRefIdeal.τ).loc Cert.AdamTRefIdeal.main_v0) = v0 c
          ∧ r.2.mem ((c.tc : Thread Cert.AdamTRefIdeal.nD Cert.AdamTRefIdeal.τ).loc Cert.AdamTRefIdeal.main_v24) = v1 c
          ∧ r.2.mem ((c.tc : Thread Cert.AdamTRefIdeal.nD Cert.AdamTRefIdeal.τ).loc Cert.AdamTRefIdeal.main_v5) = v2 c
          ∧ r.2.mem ((c.tc : Thread Cert.AdamTRefIdeal.nD Cert.AdamTRefIdeal.τ).loc Cert.AdamTRefIdeal.main_v11) = v3 c
          ∧ r.2.mem ((c.tc : Thread Cert.AdamTRefIdeal.nD Cert.AdamTRefIdeal.τ).loc Cert.AdamTRefIdeal.main_arg0) = m' ((c.tc : Thread Cert.AdamTRefIdeal.nD Cert.AdamTRefIdeal.τ).loc Cert.AdamTRefIdeal.main_arg0)
          ∧ r.2.mem ((c.tc : Thread Cert.AdamTRefIdeal.nD Cert.AdamTRefIdeal.τ).loc Cert.AdamTRefIdeal.main_arg1) = m' ((c.tc : Thread Cert.AdamTRefIdeal.nD Cert.AdamTRefIdeal.τ).loc Cert.AdamTRefIdeal.main_arg1)
          ∧ r.2.mem ((c.tc : Thread Cert.AdamTRefIdeal.nD Cert.AdamTRefIdeal.τ).loc Cert.AdamTRefIdeal.main_arg2) = m' ((c.tc : Thread Cert.AdamTRefIdeal.nD Cert.AdamTRefIdeal.τ).loc Cert.AdamTRefIdeal.main_arg2)
          ∧ r.2.mem ((c.tc : Thread Cert.AdamTRefIdeal.nD Cert.AdamTRefIdeal.τ).loc Cert.AdamTRefIdeal.main_arg3) = m' ((c.tc : Thread Cert.AdamTRefIdeal.nD Cert.AdamTRefIdeal.τ).loc Cert.AdamTRefIdeal.main_arg3))

def preserves_AdamG_AdamGIdeal : Prop :=
  True

def algebraic_AdamGIdeal_AdamGRefIdeal [hAdamGIdeal : Cert.AdamGIdeal.Facts] [hAdamGRefIdeal : Cert.AdamGRefIdeal.Facts] : Prop :=
  ∀ (m : (ℓ : Loc Cert.AdamGIdeal.nD Cert.AdamGIdeal.τ Cert.AdamGIdeal.sig) → Buf (Elt Ideal) ℓ) (g : Dev Cert.AdamGIdeal.nD → PrngReg)
    (m' : (ℓ : Loc Cert.AdamGRefIdeal.nD Cert.AdamGRefIdeal.τ Cert.AdamGRefIdeal.sig) → Buf (Elt Ideal) ℓ) (g' : Dev Cert.AdamGRefIdeal.nD → PrngReg), Pre_AdamGIdeal m →
    (∀ c : Dev Cert.AdamGIdeal.nD,
      m' ((c.tc : Thread Cert.AdamGRefIdeal.nD Cert.AdamGRefIdeal.τ).loc Cert.AdamGRefIdeal.main_arg0) = m ((c.tc : Thread Cert.AdamGIdeal.nD Cert.AdamGIdeal.τ).loc Cert.AdamGIdeal.main_arg0)
      ∧ m' ((c.tc : Thread Cert.AdamGRefIdeal.nD Cert.AdamGRefIdeal.τ).loc Cert.AdamGRefIdeal.main_arg1) = m ((c.tc : Thread Cert.AdamGIdeal.nD Cert.AdamGIdeal.τ).loc Cert.AdamGIdeal.main_arg1)
      ∧ m' ((c.tc : Thread Cert.AdamGRefIdeal.nD Cert.AdamGRefIdeal.τ).loc Cert.AdamGRefIdeal.main_arg2) = m ((c.tc : Thread Cert.AdamGIdeal.nD Cert.AdamGIdeal.τ).loc Cert.AdamGIdeal.main_arg2)
      ∧ m' ((c.tc : Thread Cert.AdamGRefIdeal.nD Cert.AdamGRefIdeal.τ).loc Cert.AdamGRefIdeal.main_arg3) = m ((c.tc : Thread Cert.AdamGIdeal.nD Cert.AdamGIdeal.τ).loc Cert.AdamGIdeal.main_arg3)) →
    ∃ (v0 : (c : Dev Cert.AdamGIdeal.nD) → Buf (Elt Ideal) ((c.tc : Thread Cert.AdamGIdeal.nD Cert.AdamGIdeal.τ).loc Cert.AdamGIdeal.main_v0_0)) (v1 : (c : Dev Cert.AdamGIdeal.nD) → Buf (Elt Ideal) ((c.tc : Thread Cert.AdamGIdeal.nD Cert.AdamGIdeal.τ).loc Cert.AdamGIdeal.main_v0_1)) (v2 : (c : Dev Cert.AdamGIdeal.nD) → Buf (Elt Ideal) ((c.tc : Thread Cert.AdamGIdeal.nD Cert.AdamGIdeal.τ).loc Cert.AdamGIdeal.main_v0_2)),
      θ_run (Cert.AdamGIdeal.defs (F := Ideal)) (onTc (τ := Cert.AdamGIdeal.τ) (Cert.AdamGIdeal.main (F := Ideal))) ⟨m, fun _ => 0, g⟩ (fun r => ∀ c : Dev Cert.AdamGIdeal.nD,
          r.2.mem ((c.tc : Thread Cert.AdamGIdeal.nD Cert.AdamGIdeal.τ).loc Cert.AdamGIdeal.main_v0_0) = v0 c
          ∧ r.2.mem ((c.tc : Thread Cert.AdamGIdeal.nD Cert.AdamGIdeal.τ).loc Cert.AdamGIdeal.main_v0_1) = v1 c
          ∧ r.2.mem ((c.tc : Thread Cert.AdamGIdeal.nD Cert.AdamGIdeal.τ).loc Cert.AdamGIdeal.main_v0_2) = v2 c
          ∧ r.2.mem ((c.tc : Thread Cert.AdamGIdeal.nD Cert.AdamGIdeal.τ).loc Cert.AdamGIdeal.main_arg0) = m ((c.tc : Thread Cert.AdamGIdeal.nD Cert.AdamGIdeal.τ).loc Cert.AdamGIdeal.main_arg0)
          ∧ r.2.mem ((c.tc : Thread Cert.AdamGIdeal.nD Cert.AdamGIdeal.τ).loc Cert.AdamGIdeal.main_arg1) = m ((c.tc : Thread Cert.AdamGIdeal.nD Cert.AdamGIdeal.τ).loc Cert.AdamGIdeal.main_arg1)
          ∧ r.2.mem ((c.tc : Thread Cert.AdamGIdeal.nD Cert.AdamGIdeal.τ).loc Cert.AdamGIdeal.main_arg2) = m ((c.tc : Thread Cert.AdamGIdeal.nD Cert.AdamGIdeal.τ).loc Cert.AdamGIdeal.main_arg2)
          ∧ r.2.mem ((c.tc : Thread Cert.AdamGIdeal.nD Cert.AdamGIdeal.τ).loc Cert.AdamGIdeal.main_arg3) = m ((c.tc : Thread Cert.AdamGIdeal.nD Cert.AdamGIdeal.τ).loc Cert.AdamGIdeal.main_arg3))
      ∧ θ_run (Cert.AdamGRefIdeal.defs (F := Ideal)) (onTc (τ := Cert.AdamGRefIdeal.τ) (Cert.AdamGRefIdeal.main (F := Ideal))) ⟨m', fun _ => 0, g'⟩ (fun r => ∀ c : Dev Cert.AdamGRefIdeal.nD,
          r.2.mem ((c.tc : Thread Cert.AdamGRefIdeal.nD Cert.AdamGRefIdeal.τ).loc Cert.AdamGRefIdeal.main_v23) = v0 c
          ∧ r.2.mem ((c.tc : Thread Cert.AdamGRefIdeal.nD Cert.AdamGRefIdeal.τ).loc Cert.AdamGRefIdeal.main_v4) = v1 c
          ∧ r.2.mem ((c.tc : Thread Cert.AdamGRefIdeal.nD Cert.AdamGRefIdeal.τ).loc Cert.AdamGRefIdeal.main_v10) = v2 c
          ∧ r.2.mem ((c.tc : Thread Cert.AdamGRefIdeal.nD Cert.AdamGRefIdeal.τ).loc Cert.AdamGRefIdeal.main_arg0) = m' ((c.tc : Thread Cert.AdamGRefIdeal.nD Cert.AdamGRefIdeal.τ).loc Cert.AdamGRefIdeal.main_arg0)
          ∧ r.2.mem ((c.tc : Thread Cert.AdamGRefIdeal.nD Cert.AdamGRefIdeal.τ).loc Cert.AdamGRefIdeal.main_arg1) = m' ((c.tc : Thread Cert.AdamGRefIdeal.nD Cert.AdamGRefIdeal.τ).loc Cert.AdamGRefIdeal.main_arg1)
          ∧ r.2.mem ((c.tc : Thread Cert.AdamGRefIdeal.nD Cert.AdamGRefIdeal.τ).loc Cert.AdamGRefIdeal.main_arg2) = m' ((c.tc : Thread Cert.AdamGRefIdeal.nD Cert.AdamGRefIdeal.τ).loc Cert.AdamGRefIdeal.main_arg2)
          ∧ r.2.mem ((c.tc : Thread Cert.AdamGRefIdeal.nD Cert.AdamGRefIdeal.τ).loc Cert.AdamGRefIdeal.main_arg3) = m' ((c.tc : Thread Cert.AdamGRefIdeal.nD Cert.AdamGRefIdeal.τ).loc Cert.AdamGRefIdeal.main_arg3))

def preserves_AdamA_AdamAIdeal : Prop :=
  True

def algebraic_AdamAIdeal_AdamARefIdeal [hAdamAIdeal : Cert.AdamAIdeal.Facts] [hAdamARefIdeal : Cert.AdamARefIdeal.Facts] : Prop :=
  ∀ (m : (ℓ : Loc Cert.AdamAIdeal.nD Cert.AdamAIdeal.τ Cert.AdamAIdeal.sig) → Buf (Elt Ideal) ℓ) (g : Dev Cert.AdamAIdeal.nD → PrngReg)
    (m' : (ℓ : Loc Cert.AdamARefIdeal.nD Cert.AdamARefIdeal.τ Cert.AdamARefIdeal.sig) → Buf (Elt Ideal) ℓ) (g' : Dev Cert.AdamARefIdeal.nD → PrngReg), Pre_AdamAIdeal m →
    (∀ c : Dev Cert.AdamAIdeal.nD,
      m' ((c.tc : Thread Cert.AdamARefIdeal.nD Cert.AdamARefIdeal.τ).loc Cert.AdamARefIdeal.main_arg0) = m ((c.tc : Thread Cert.AdamAIdeal.nD Cert.AdamAIdeal.τ).loc Cert.AdamAIdeal.main_arg0)
      ∧ m' ((c.tc : Thread Cert.AdamARefIdeal.nD Cert.AdamARefIdeal.τ).loc Cert.AdamARefIdeal.main_arg1) = m ((c.tc : Thread Cert.AdamAIdeal.nD Cert.AdamAIdeal.τ).loc Cert.AdamAIdeal.main_arg1)
      ∧ m' ((c.tc : Thread Cert.AdamARefIdeal.nD Cert.AdamARefIdeal.τ).loc Cert.AdamARefIdeal.main_arg2) = m ((c.tc : Thread Cert.AdamAIdeal.nD Cert.AdamAIdeal.τ).loc Cert.AdamAIdeal.main_arg2)
      ∧ m' ((c.tc : Thread Cert.AdamARefIdeal.nD Cert.AdamARefIdeal.τ).loc Cert.AdamARefIdeal.main_arg3) = m ((c.tc : Thread Cert.AdamAIdeal.nD Cert.AdamAIdeal.τ).loc Cert.AdamAIdeal.main_arg3)) →
    ∃ (v0 : (c : Dev Cert.AdamAIdeal.nD) → Buf (Elt Ideal) ((c.tc : Thread Cert.AdamAIdeal.nD Cert.AdamAIdeal.τ).loc Cert.AdamAIdeal.main_v0_0)) (v1 : (c : Dev Cert.AdamAIdeal.nD) → Buf (Elt Ideal) ((c.tc : Thread Cert.AdamAIdeal.nD Cert.AdamAIdeal.τ).loc Cert.AdamAIdeal.main_v0_1)) (v2 : (c : Dev Cert.AdamAIdeal.nD) → Buf (Elt Ideal) ((c.tc : Thread Cert.AdamAIdeal.nD Cert.AdamAIdeal.τ).loc Cert.AdamAIdeal.main_v0_2)),
      θ_run (Cert.AdamAIdeal.defs (F := Ideal)) (onTc (τ := Cert.AdamAIdeal.τ) (Cert.AdamAIdeal.main (F := Ideal))) ⟨m, fun _ => 0, g⟩ (fun r => ∀ c : Dev Cert.AdamAIdeal.nD,
          r.2.mem ((c.tc : Thread Cert.AdamAIdeal.nD Cert.AdamAIdeal.τ).loc Cert.AdamAIdeal.main_v0_0) = v0 c
          ∧ r.2.mem ((c.tc : Thread Cert.AdamAIdeal.nD Cert.AdamAIdeal.τ).loc Cert.AdamAIdeal.main_v0_1) = v1 c
          ∧ r.2.mem ((c.tc : Thread Cert.AdamAIdeal.nD Cert.AdamAIdeal.τ).loc Cert.AdamAIdeal.main_v0_2) = v2 c
          ∧ r.2.mem ((c.tc : Thread Cert.AdamAIdeal.nD Cert.AdamAIdeal.τ).loc Cert.AdamAIdeal.main_arg0) = m ((c.tc : Thread Cert.AdamAIdeal.nD Cert.AdamAIdeal.τ).loc Cert.AdamAIdeal.main_arg0)
          ∧ r.2.mem ((c.tc : Thread Cert.AdamAIdeal.nD Cert.AdamAIdeal.τ).loc Cert.AdamAIdeal.main_arg1) = m ((c.tc : Thread Cert.AdamAIdeal.nD Cert.AdamAIdeal.τ).loc Cert.AdamAIdeal.main_arg1)
          ∧ r.2.mem ((c.tc : Thread Cert.AdamAIdeal.nD Cert.AdamAIdeal.τ).loc Cert.AdamAIdeal.main_arg2) = m ((c.tc : Thread Cert.AdamAIdeal.nD Cert.AdamAIdeal.τ).loc Cert.AdamAIdeal.main_arg2)
          ∧ r.2.mem ((c.tc : Thread Cert.AdamAIdeal.nD Cert.AdamAIdeal.τ).loc Cert.AdamAIdeal.main_arg3) = m ((c.tc : Thread Cert.AdamAIdeal.nD Cert.AdamAIdeal.τ).loc Cert.AdamAIdeal.main_arg3))
      ∧ θ_run (Cert.AdamARefIdeal.defs (F := Ideal)) (onTc (τ := Cert.AdamARefIdeal.τ) (Cert.AdamARefIdeal.main (F := Ideal))) ⟨m', fun _ => 0, g'⟩ (fun r => ∀ c : Dev Cert.AdamARefIdeal.nD,
          r.2.mem ((c.tc : Thread Cert.AdamARefIdeal.nD Cert.AdamARefIdeal.τ).loc Cert.AdamARefIdeal.main_v23) = v0 c
          ∧ r.2.mem ((c.tc : Thread Cert.AdamARefIdeal.nD Cert.AdamARefIdeal.τ).loc Cert.AdamARefIdeal.main_v4) = v1 c
          ∧ r.2.mem ((c.tc : Thread Cert.AdamARefIdeal.nD Cert.AdamARefIdeal.τ).loc Cert.AdamARefIdeal.main_v10) = v2 c
          ∧ r.2.mem ((c.tc : Thread Cert.AdamARefIdeal.nD Cert.AdamARefIdeal.τ).loc Cert.AdamARefIdeal.main_arg0) = m' ((c.tc : Thread Cert.AdamARefIdeal.nD Cert.AdamARefIdeal.τ).loc Cert.AdamARefIdeal.main_arg0)
          ∧ r.2.mem ((c.tc : Thread Cert.AdamARefIdeal.nD Cert.AdamARefIdeal.τ).loc Cert.AdamARefIdeal.main_arg1) = m' ((c.tc : Thread Cert.AdamARefIdeal.nD Cert.AdamARefIdeal.τ).loc Cert.AdamARefIdeal.main_arg1)
          ∧ r.2.mem ((c.tc : Thread Cert.AdamARefIdeal.nD Cert.AdamARefIdeal.τ).loc Cert.AdamARefIdeal.main_arg2) = m' ((c.tc : Thread Cert.AdamARefIdeal.nD Cert.AdamARefIdeal.τ).loc Cert.AdamARefIdeal.main_arg2)
          ∧ r.2.mem ((c.tc : Thread Cert.AdamARefIdeal.nD Cert.AdamARefIdeal.τ).loc Cert.AdamARefIdeal.main_arg3) = m' ((c.tc : Thread Cert.AdamARefIdeal.nD Cert.AdamARefIdeal.τ).loc Cert.AdamARefIdeal.main_arg3))

def preserves_AdamO_AdamOIdeal : Prop :=
  True

def algebraic_AdamOIdeal_AdamORefIdeal [hAdamOIdeal : Cert.AdamOIdeal.Facts] [hAdamORefIdeal : Cert.AdamORefIdeal.Facts] : Prop :=
  ∀ (m : (ℓ : Loc Cert.AdamOIdeal.nD Cert.AdamOIdeal.τ Cert.AdamOIdeal.sig) → Buf (Elt Ideal) ℓ) (g : Dev Cert.AdamOIdeal.nD → PrngReg)
    (m' : (ℓ : Loc Cert.AdamORefIdeal.nD Cert.AdamORefIdeal.τ Cert.AdamORefIdeal.sig) → Buf (Elt Ideal) ℓ) (g' : Dev Cert.AdamORefIdeal.nD → PrngReg), Pre_AdamOIdeal m →
    (∀ c : Dev Cert.AdamOIdeal.nD,
      m' ((c.tc : Thread Cert.AdamORefIdeal.nD Cert.AdamORefIdeal.τ).loc Cert.AdamORefIdeal.main_arg0) = m ((c.tc : Thread Cert.AdamOIdeal.nD Cert.AdamOIdeal.τ).loc Cert.AdamOIdeal.main_arg0)
      ∧ m' ((c.tc : Thread Cert.AdamORefIdeal.nD Cert.AdamORefIdeal.τ).loc Cert.AdamORefIdeal.main_arg1) = m ((c.tc : Thread Cert.AdamOIdeal.nD Cert.AdamOIdeal.τ).loc Cert.AdamOIdeal.main_arg1)
      ∧ m' ((c.tc : Thread Cert.AdamORefIdeal.nD Cert.AdamORefIdeal.τ).loc Cert.AdamORefIdeal.main_arg2) = m ((c.tc : Thread Cert.AdamOIdeal.nD Cert.AdamOIdeal.τ).loc Cert.AdamOIdeal.main_arg2)
      ∧ m' ((c.tc : Thread Cert.AdamORefIdeal.nD Cert.AdamORefIdeal.τ).loc Cert.AdamORefIdeal.main_arg3) = m ((c.tc : Thread Cert.AdamOIdeal.nD Cert.AdamOIdeal.τ).loc Cert.AdamOIdeal.main_arg3)) →
    ∃ (v0 : (c : Dev Cert.AdamOIdeal.nD) → Buf (Elt Ideal) ((c.tc : Thread Cert.AdamOIdeal.nD Cert.AdamOIdeal.τ).loc Cert.AdamOIdeal.main_v0_0)) (v1 : (c : Dev Cert.AdamOIdeal.nD) → Buf (Elt Ideal) ((c.tc : Thread Cert.AdamOIdeal.nD Cert.AdamOIdeal.τ).loc Cert.AdamOIdeal.main_v0_1)) (v2 : (c : Dev Cert.AdamOIdeal.nD) → Buf (Elt Ideal) ((c.tc : Thread Cert.AdamOIdeal.nD Cert.AdamOIdeal.τ).loc Cert.AdamOIdeal.main_v0_2)),
      θ_run (Cert.AdamOIdeal.defs (F := Ideal)) (onTc (τ := Cert.AdamOIdeal.τ) (Cert.AdamOIdeal.main (F := Ideal))) ⟨m, fun _ => 0, g⟩ (fun r => ∀ c : Dev Cert.AdamOIdeal.nD,
          r.2.mem ((c.tc : Thread Cert.AdamOIdeal.nD Cert.AdamOIdeal.τ).loc Cert.AdamOIdeal.main_v0_0) = v0 c
          ∧ r.2.mem ((c.tc : Thread Cert.AdamOIdeal.nD Cert.AdamOIdeal.τ).loc Cert.AdamOIdeal.main_v0_1) = v1 c
          ∧ r.2.mem ((c.tc : Thread Cert.AdamOIdeal.nD Cert.AdamOIdeal.τ).loc Cert.AdamOIdeal.main_v0_2) = v2 c
          ∧ r.2.mem ((c.tc : Thread Cert.AdamOIdeal.nD Cert.AdamOIdeal.τ).loc Cert.AdamOIdeal.main_arg0) = m ((c.tc : Thread Cert.AdamOIdeal.nD Cert.AdamOIdeal.τ).loc Cert.AdamOIdeal.main_arg0)
          ∧ r.2.mem ((c.tc : Thread Cert.AdamOIdeal.nD Cert.AdamOIdeal.τ).loc Cert.AdamOIdeal.main_arg1) = m ((c.tc : Thread Cert.AdamOIdeal.nD Cert.AdamOIdeal.τ).loc Cert.AdamOIdeal.main_arg1)
          ∧ r.2.mem ((c.tc : Thread Cert.AdamOIdeal.nD Cert.AdamOIdeal.τ).loc Cert.AdamOIdeal.main_arg2) = m ((c.tc : Thread Cert.AdamOIdeal.nD Cert.AdamOIdeal.τ).loc Cert.AdamOIdeal.main_arg2)
          ∧ r.2.mem ((c.tc : Thread Cert.AdamOIdeal.nD Cert.AdamOIdeal.τ).loc Cert.AdamOIdeal.main_arg3) = m ((c.tc : Thread Cert.AdamOIdeal.nD Cert.AdamOIdeal.τ).loc Cert.AdamOIdeal.main_arg3))
      ∧ θ_run (Cert.AdamORefIdeal.defs (F := Ideal)) (onTc (τ := Cert.AdamORefIdeal.τ) (Cert.AdamORefIdeal.main (F := Ideal))) ⟨m', fun _ => 0, g'⟩ (fun r => ∀ c : Dev Cert.AdamORefIdeal.nD,
          r.2.mem ((c.tc : Thread Cert.AdamORefIdeal.nD Cert.AdamORefIdeal.τ).loc Cert.AdamORefIdeal.main_v23) = v0 c
          ∧ r.2.mem ((c.tc : Thread Cert.AdamORefIdeal.nD Cert.AdamORefIdeal.τ).loc Cert.AdamORefIdeal.main_v4) = v1 c
          ∧ r.2.mem ((c.tc : Thread Cert.AdamORefIdeal.nD Cert.AdamORefIdeal.τ).loc Cert.AdamORefIdeal.main_v10) = v2 c
          ∧ r.2.mem ((c.tc : Thread Cert.AdamORefIdeal.nD Cert.AdamORefIdeal.τ).loc Cert.AdamORefIdeal.main_arg0) = m' ((c.tc : Thread Cert.AdamORefIdeal.nD Cert.AdamORefIdeal.τ).loc Cert.AdamORefIdeal.main_arg0)
          ∧ r.2.mem ((c.tc : Thread Cert.AdamORefIdeal.nD Cert.AdamORefIdeal.τ).loc Cert.AdamORefIdeal.main_arg1) = m' ((c.tc : Thread Cert.AdamORefIdeal.nD Cert.AdamORefIdeal.τ).loc Cert.AdamORefIdeal.main_arg1)
          ∧ r.2.mem ((c.tc : Thread Cert.AdamORefIdeal.nD Cert.AdamORefIdeal.τ).loc Cert.AdamORefIdeal.main_arg2) = m' ((c.tc : Thread Cert.AdamORefIdeal.nD Cert.AdamORefIdeal.τ).loc Cert.AdamORefIdeal.main_arg2)
          ∧ r.2.mem ((c.tc : Thread Cert.AdamORefIdeal.nD Cert.AdamORefIdeal.τ).loc Cert.AdamORefIdeal.main_arg3) = m' ((c.tc : Thread Cert.AdamORefIdeal.nD Cert.AdamORefIdeal.τ).loc Cert.AdamORefIdeal.main_arg3))

def preserves_AdamF_AdamFIdeal : Prop :=
  True

def algebraic_AdamFIdeal_AdamFRefIdeal [hAdamFIdeal : Cert.AdamFIdeal.Facts] [hAdamFRefIdeal : Cert.AdamFRefIdeal.Facts] : Prop :=
  ∀ (m : (ℓ : Loc Cert.AdamFIdeal.nD Cert.AdamFIdeal.τ Cert.AdamFIdeal.sig) → Buf (Elt Ideal) ℓ) (g : Dev Cert.AdamFIdeal.nD → PrngReg)
    (m' : (ℓ : Loc Cert.AdamFRefIdeal.nD Cert.AdamFRefIdeal.τ Cert.AdamFRefIdeal.sig) → Buf (Elt Ideal) ℓ) (g' : Dev Cert.AdamFRefIdeal.nD → PrngReg), Pre_AdamFIdeal m →
    (∀ c : Dev Cert.AdamFIdeal.nD,
      m' ((c.tc : Thread Cert.AdamFRefIdeal.nD Cert.AdamFRefIdeal.τ).loc Cert.AdamFRefIdeal.main_arg0) = m ((c.tc : Thread Cert.AdamFIdeal.nD Cert.AdamFIdeal.τ).loc Cert.AdamFIdeal.main_arg0)
      ∧ m' ((c.tc : Thread Cert.AdamFRefIdeal.nD Cert.AdamFRefIdeal.τ).loc Cert.AdamFRefIdeal.main_arg1) = m ((c.tc : Thread Cert.AdamFIdeal.nD Cert.AdamFIdeal.τ).loc Cert.AdamFIdeal.main_arg1)
      ∧ m' ((c.tc : Thread Cert.AdamFRefIdeal.nD Cert.AdamFRefIdeal.τ).loc Cert.AdamFRefIdeal.main_arg2) = m ((c.tc : Thread Cert.AdamFIdeal.nD Cert.AdamFIdeal.τ).loc Cert.AdamFIdeal.main_arg2)
      ∧ m' ((c.tc : Thread Cert.AdamFRefIdeal.nD Cert.AdamFRefIdeal.τ).loc Cert.AdamFRefIdeal.main_arg3) = m ((c.tc : Thread Cert.AdamFIdeal.nD Cert.AdamFIdeal.τ).loc Cert.AdamFIdeal.main_arg3)) →
    ∃ (v0 : (c : Dev Cert.AdamFIdeal.nD) → Buf (Elt Ideal) ((c.tc : Thread Cert.AdamFIdeal.nD Cert.AdamFIdeal.τ).loc Cert.AdamFIdeal.main_v0_0)) (v1 : (c : Dev Cert.AdamFIdeal.nD) → Buf (Elt Ideal) ((c.tc : Thread Cert.AdamFIdeal.nD Cert.AdamFIdeal.τ).loc Cert.AdamFIdeal.main_v0_1)) (v2 : (c : Dev Cert.AdamFIdeal.nD) → Buf (Elt Ideal) ((c.tc : Thread Cert.AdamFIdeal.nD Cert.AdamFIdeal.τ).loc Cert.AdamFIdeal.main_v0_2)),
      θ_run (Cert.AdamFIdeal.defs (F := Ideal)) (onTc (τ := Cert.AdamFIdeal.τ) (Cert.AdamFIdeal.main (F := Ideal))) ⟨m, fun _ => 0, g⟩ (fun r => ∀ c : Dev Cert.AdamFIdeal.nD,
          r.2.mem ((c.tc : Thread Cert.AdamFIdeal.nD Cert.AdamFIdeal.τ).loc Cert.AdamFIdeal.main_v0_0) = v0 c
          ∧ r.2.mem ((c.tc : Thread Cert.AdamFIdeal.nD Cert.AdamFIdeal.τ).loc Cert.AdamFIdeal.main_v0_1) = v1 c
          ∧ r.2.mem ((c.tc : Thread Cert.AdamFIdeal.nD Cert.AdamFIdeal.τ).loc Cert.AdamFIdeal.main_v0_2) = v2 c
          ∧ r.2.mem ((c.tc : Thread Cert.AdamFIdeal.nD Cert.AdamFIdeal.τ).loc Cert.AdamFIdeal.main_arg0) = m ((c.tc : Thread Cert.AdamFIdeal.nD Cert.AdamFIdeal.τ).loc Cert.AdamFIdeal.main_arg0)
          ∧ r.2.mem ((c.tc : Thread Cert.AdamFIdeal.nD Cert.AdamFIdeal.τ).loc Cert.AdamFIdeal.main_arg1) = m ((c.tc : Thread Cert.AdamFIdeal.nD Cert.AdamFIdeal.τ).loc Cert.AdamFIdeal.main_arg1)
          ∧ r.2.mem ((c.tc : Thread Cert.AdamFIdeal.nD Cert.AdamFIdeal.τ).loc Cert.AdamFIdeal.main_arg2) = m ((c.tc : Thread Cert.AdamFIdeal.nD Cert.AdamFIdeal.τ).loc Cert.AdamFIdeal.main_arg2)
          ∧ r.2.mem ((c.tc : Thread Cert.AdamFIdeal.nD Cert.AdamFIdeal.τ).loc Cert.AdamFIdeal.main_arg3) = m ((c.tc : Thread Cert.AdamFIdeal.nD Cert.AdamFIdeal.τ).loc Cert.AdamFIdeal.main_arg3))
      ∧ θ_run (Cert.AdamFRefIdeal.defs (F := Ideal)) (onTc (τ := Cert.AdamFRefIdeal.τ) (Cert.AdamFRefIdeal.main (F := Ideal))) ⟨m', fun _ => 0, g'⟩ (fun r => ∀ c : Dev Cert.AdamFRefIdeal.nD,
          r.2.mem ((c.tc : Thread Cert.AdamFRefIdeal.nD Cert.AdamFRefIdeal.τ).loc Cert.AdamFRefIdeal.main_v23) = v0 c
          ∧ r.2.mem ((c.tc : Thread Cert.AdamFRefIdeal.nD Cert.AdamFRefIdeal.τ).loc Cert.AdamFRefIdeal.main_v4) = v1 c
          ∧ r.2.mem ((c.tc : Thread Cert.AdamFRefIdeal.nD Cert.AdamFRefIdeal.τ).loc Cert.AdamFRefIdeal.main_v10) = v2 c
          ∧ r.2.mem ((c.tc : Thread Cert.AdamFRefIdeal.nD Cert.AdamFRefIdeal.τ).loc Cert.AdamFRefIdeal.main_arg0) = m' ((c.tc : Thread Cert.AdamFRefIdeal.nD Cert.AdamFRefIdeal.τ).loc Cert.AdamFRefIdeal.main_arg0)
          ∧ r.2.mem ((c.tc : Thread Cert.AdamFRefIdeal.nD Cert.AdamFRefIdeal.τ).loc Cert.AdamFRefIdeal.main_arg1) = m' ((c.tc : Thread Cert.AdamFRefIdeal.nD Cert.AdamFRefIdeal.τ).loc Cert.AdamFRefIdeal.main_arg1)
          ∧ r.2.mem ((c.tc : Thread Cert.AdamFRefIdeal.nD Cert.AdamFRefIdeal.τ).loc Cert.AdamFRefIdeal.main_arg2) = m' ((c.tc : Thread Cert.AdamFRefIdeal.nD Cert.AdamFRefIdeal.τ).loc Cert.AdamFRefIdeal.main_arg2)
          ∧ r.2.mem ((c.tc : Thread Cert.AdamFRefIdeal.nD Cert.AdamFRefIdeal.τ).loc Cert.AdamFRefIdeal.main_arg3) = m' ((c.tc : Thread Cert.AdamFRefIdeal.nD Cert.AdamFRefIdeal.τ).loc Cert.AdamFRefIdeal.main_arg3))

def preserves_AdamI_AdamIIdeal : Prop :=
  True

def algebraic_AdamIIdeal_AdamIRefIdeal [hAdamIIdeal : Cert.AdamIIdeal.Facts] [hAdamIRefIdeal : Cert.AdamIRefIdeal.Facts] : Prop :=
  ∀ (m : (ℓ : Loc Cert.AdamIIdeal.nD Cert.AdamIIdeal.τ Cert.AdamIIdeal.sig) → Buf (Elt Ideal) ℓ) (g : Dev Cert.AdamIIdeal.nD → PrngReg)
    (m' : (ℓ : Loc Cert.AdamIRefIdeal.nD Cert.AdamIRefIdeal.τ Cert.AdamIRefIdeal.sig) → Buf (Elt Ideal) ℓ) (g' : Dev Cert.AdamIRefIdeal.nD → PrngReg), Pre_AdamIIdeal m →
    (∀ c : Dev Cert.AdamIIdeal.nD,
      m' ((c.tc : Thread Cert.AdamIRefIdeal.nD Cert.AdamIRefIdeal.τ).loc Cert.AdamIRefIdeal.main_arg0) = m ((c.tc : Thread Cert.AdamIIdeal.nD Cert.AdamIIdeal.τ).loc Cert.AdamIIdeal.main_arg0)
      ∧ m' ((c.tc : Thread Cert.AdamIRefIdeal.nD Cert.AdamIRefIdeal.τ).loc Cert.AdamIRefIdeal.main_arg1) = m ((c.tc : Thread Cert.AdamIIdeal.nD Cert.AdamIIdeal.τ).loc Cert.AdamIIdeal.main_arg1)
      ∧ m' ((c.tc : Thread Cert.AdamIRefIdeal.nD Cert.AdamIRefIdeal.τ).loc Cert.AdamIRefIdeal.main_arg2) = m ((c.tc : Thread Cert.AdamIIdeal.nD Cert.AdamIIdeal.τ).loc Cert.AdamIIdeal.main_arg2)
      ∧ m' ((c.tc : Thread Cert.AdamIRefIdeal.nD Cert.AdamIRefIdeal.τ).loc Cert.AdamIRefIdeal.main_arg3) = m ((c.tc : Thread Cert.AdamIIdeal.nD Cert.AdamIIdeal.τ).loc Cert.AdamIIdeal.main_arg3)) →
    ∃ (v0 : (c : Dev Cert.AdamIIdeal.nD) → Buf (Elt Ideal) ((c.tc : Thread Cert.AdamIIdeal.nD Cert.AdamIIdeal.τ).loc Cert.AdamIIdeal.main_v0_0)) (v1 : (c : Dev Cert.AdamIIdeal.nD) → Buf (Elt Ideal) ((c.tc : Thread Cert.AdamIIdeal.nD Cert.AdamIIdeal.τ).loc Cert.AdamIIdeal.main_v0_1)) (v2 : (c : Dev Cert.AdamIIdeal.nD) → Buf (Elt Ideal) ((c.tc : Thread Cert.AdamIIdeal.nD Cert.AdamIIdeal.τ).loc Cert.AdamIIdeal.main_v0_2)),
      θ_run (Cert.AdamIIdeal.defs (F := Ideal)) (onTc (τ := Cert.AdamIIdeal.τ) (Cert.AdamIIdeal.main (F := Ideal))) ⟨m, fun _ => 0, g⟩ (fun r => ∀ c : Dev Cert.AdamIIdeal.nD,
          r.2.mem ((c.tc : Thread Cert.AdamIIdeal.nD Cert.AdamIIdeal.τ).loc Cert.AdamIIdeal.main_v0_0) = v0 c
          ∧ r.2.mem ((c.tc : Thread Cert.AdamIIdeal.nD Cert.AdamIIdeal.τ).loc Cert.AdamIIdeal.main_v0_1) = v1 c
          ∧ r.2.mem ((c.tc : Thread Cert.AdamIIdeal.nD Cert.AdamIIdeal.τ).loc Cert.AdamIIdeal.main_v0_2) = v2 c
          ∧ r.2.mem ((c.tc : Thread Cert.AdamIIdeal.nD Cert.AdamIIdeal.τ).loc Cert.AdamIIdeal.main_arg0) = m ((c.tc : Thread Cert.AdamIIdeal.nD Cert.AdamIIdeal.τ).loc Cert.AdamIIdeal.main_arg0)
          ∧ r.2.mem ((c.tc : Thread Cert.AdamIIdeal.nD Cert.AdamIIdeal.τ).loc Cert.AdamIIdeal.main_arg1) = m ((c.tc : Thread Cert.AdamIIdeal.nD Cert.AdamIIdeal.τ).loc Cert.AdamIIdeal.main_arg1)
          ∧ r.2.mem ((c.tc : Thread Cert.AdamIIdeal.nD Cert.AdamIIdeal.τ).loc Cert.AdamIIdeal.main_arg2) = m ((c.tc : Thread Cert.AdamIIdeal.nD Cert.AdamIIdeal.τ).loc Cert.AdamIIdeal.main_arg2)
          ∧ r.2.mem ((c.tc : Thread Cert.AdamIIdeal.nD Cert.AdamIIdeal.τ).loc Cert.AdamIIdeal.main_arg3) = m ((c.tc : Thread Cert.AdamIIdeal.nD Cert.AdamIIdeal.τ).loc Cert.AdamIIdeal.main_arg3))
      ∧ θ_run (Cert.AdamIRefIdeal.defs (F := Ideal)) (onTc (τ := Cert.AdamIRefIdeal.τ) (Cert.AdamIRefIdeal.main (F := Ideal))) ⟨m', fun _ => 0, g'⟩ (fun r => ∀ c : Dev Cert.AdamIRefIdeal.nD,
          r.2.mem ((c.tc : Thread Cert.AdamIRefIdeal.nD Cert.AdamIRefIdeal.τ).loc Cert.AdamIRefIdeal.main_v23) = v0 c
          ∧ r.2.mem ((c.tc : Thread Cert.AdamIRefIdeal.nD Cert.AdamIRefIdeal.τ).loc Cert.AdamIRefIdeal.main_v4) = v1 c
          ∧ r.2.mem ((c.tc : Thread Cert.AdamIRefIdeal.nD Cert.AdamIRefIdeal.τ).loc Cert.AdamIRefIdeal.main_v10) = v2 c
          ∧ r.2.mem ((c.tc : Thread Cert.AdamIRefIdeal.nD Cert.AdamIRefIdeal.τ).loc Cert.AdamIRefIdeal.main_arg0) = m' ((c.tc : Thread Cert.AdamIRefIdeal.nD Cert.AdamIRefIdeal.τ).loc Cert.AdamIRefIdeal.main_arg0)
          ∧ r.2.mem ((c.tc : Thread Cert.AdamIRefIdeal.nD Cert.AdamIRefIdeal.τ).loc Cert.AdamIRefIdeal.main_arg1) = m' ((c.tc : Thread Cert.AdamIRefIdeal.nD Cert.AdamIRefIdeal.τ).loc Cert.AdamIRefIdeal.main_arg1)
          ∧ r.2.mem ((c.tc : Thread Cert.AdamIRefIdeal.nD Cert.AdamIRefIdeal.τ).loc Cert.AdamIRefIdeal.main_arg2) = m' ((c.tc : Thread Cert.AdamIRefIdeal.nD Cert.AdamIRefIdeal.τ).loc Cert.AdamIRefIdeal.main_arg2)
          ∧ r.2.mem ((c.tc : Thread Cert.AdamIRefIdeal.nD Cert.AdamIRefIdeal.τ).loc Cert.AdamIRefIdeal.main_arg3) = m' ((c.tc : Thread Cert.AdamIRefIdeal.nD Cert.AdamIRefIdeal.τ).loc Cert.AdamIRefIdeal.main_arg3))

def preserves_AdamN_AdamNIdeal : Prop :=
  True

def algebraic_AdamNIdeal_AdamNRefIdeal [hAdamNIdeal : Cert.AdamNIdeal.Facts] [hAdamNRefIdeal : Cert.AdamNRefIdeal.Facts] : Prop :=
  ∀ (m : (ℓ : Loc Cert.AdamNIdeal.nD Cert.AdamNIdeal.τ Cert.AdamNIdeal.sig) → Buf (Elt Ideal) ℓ) (g : Dev Cert.AdamNIdeal.nD → PrngReg)
    (m' : (ℓ : Loc Cert.AdamNRefIdeal.nD Cert.AdamNRefIdeal.τ Cert.AdamNRefIdeal.sig) → Buf (Elt Ideal) ℓ) (g' : Dev Cert.AdamNRefIdeal.nD → PrngReg), Pre_AdamNIdeal m →
    (∀ c : Dev Cert.AdamNIdeal.nD,
      m' ((c.tc : Thread Cert.AdamNRefIdeal.nD Cert.AdamNRefIdeal.τ).loc Cert.AdamNRefIdeal.main_arg0) = m ((c.tc : Thread Cert.AdamNIdeal.nD Cert.AdamNIdeal.τ).loc Cert.AdamNIdeal.main_arg0)
      ∧ m' ((c.tc : Thread Cert.AdamNRefIdeal.nD Cert.AdamNRefIdeal.τ).loc Cert.AdamNRefIdeal.main_arg1) = m ((c.tc : Thread Cert.AdamNIdeal.nD Cert.AdamNIdeal.τ).loc Cert.AdamNIdeal.main_arg1)
      ∧ m' ((c.tc : Thread Cert.AdamNRefIdeal.nD Cert.AdamNRefIdeal.τ).loc Cert.AdamNRefIdeal.main_arg2) = m ((c.tc : Thread Cert.AdamNIdeal.nD Cert.AdamNIdeal.τ).loc Cert.AdamNIdeal.main_arg2)
      ∧ m' ((c.tc : Thread Cert.AdamNRefIdeal.nD Cert.AdamNRefIdeal.τ).loc Cert.AdamNRefIdeal.main_arg3) = m ((c.tc : Thread Cert.AdamNIdeal.nD Cert.AdamNIdeal.τ).loc Cert.AdamNIdeal.main_arg3)) →
    ∃ (v0 : (c : Dev Cert.AdamNIdeal.nD) → Buf (Elt Ideal) ((c.tc : Thread Cert.AdamNIdeal.nD Cert.AdamNIdeal.τ).loc Cert.AdamNIdeal.main_v0_0)) (v1 : (c : Dev Cert.AdamNIdeal.nD) → Buf (Elt Ideal) ((c.tc : Thread Cert.AdamNIdeal.nD Cert.AdamNIdeal.τ).loc Cert.AdamNIdeal.main_v0_1)) (v2 : (c : Dev Cert.AdamNIdeal.nD) → Buf (Elt Ideal) ((c.tc : Thread Cert.AdamNIdeal.nD Cert.AdamNIdeal.τ).loc Cert.AdamNIdeal.main_v0_2)),
      θ_run (Cert.AdamNIdeal.defs (F := Ideal)) (onTc (τ := Cert.AdamNIdeal.τ) (Cert.AdamNIdeal.main (F := Ideal))) ⟨m, fun _ => 0, g⟩ (fun r => ∀ c : Dev Cert.AdamNIdeal.nD,
          r.2.mem ((c.tc : Thread Cert.AdamNIdeal.nD Cert.AdamNIdeal.τ).loc Cert.AdamNIdeal.main_v0_0) = v0 c
          ∧ r.2.mem ((c.tc : Thread Cert.AdamNIdeal.nD Cert.AdamNIdeal.τ).loc Cert.AdamNIdeal.main_v0_1) = v1 c
          ∧ r.2.mem ((c.tc : Thread Cert.AdamNIdeal.nD Cert.AdamNIdeal.τ).loc Cert.AdamNIdeal.main_v0_2) = v2 c
          ∧ r.2.mem ((c.tc : Thread Cert.AdamNIdeal.nD Cert.AdamNIdeal.τ).loc Cert.AdamNIdeal.main_arg0) = m ((c.tc : Thread Cert.AdamNIdeal.nD Cert.AdamNIdeal.τ).loc Cert.AdamNIdeal.main_arg0)
          ∧ r.2.mem ((c.tc : Thread Cert.AdamNIdeal.nD Cert.AdamNIdeal.τ).loc Cert.AdamNIdeal.main_arg1) = m ((c.tc : Thread Cert.AdamNIdeal.nD Cert.AdamNIdeal.τ).loc Cert.AdamNIdeal.main_arg1)
          ∧ r.2.mem ((c.tc : Thread Cert.AdamNIdeal.nD Cert.AdamNIdeal.τ).loc Cert.AdamNIdeal.main_arg2) = m ((c.tc : Thread Cert.AdamNIdeal.nD Cert.AdamNIdeal.τ).loc Cert.AdamNIdeal.main_arg2)
          ∧ r.2.mem ((c.tc : Thread Cert.AdamNIdeal.nD Cert.AdamNIdeal.τ).loc Cert.AdamNIdeal.main_arg3) = m ((c.tc : Thread Cert.AdamNIdeal.nD Cert.AdamNIdeal.τ).loc Cert.AdamNIdeal.main_arg3))
      ∧ θ_run (Cert.AdamNRefIdeal.defs (F := Ideal)) (onTc (τ := Cert.AdamNRefIdeal.τ) (Cert.AdamNRefIdeal.main (F := Ideal))) ⟨m', fun _ => 0, g'⟩ (fun r => ∀ c : Dev Cert.AdamNRefIdeal.nD,
          r.2.mem ((c.tc : Thread Cert.AdamNRefIdeal.nD Cert.AdamNRefIdeal.τ).loc Cert.AdamNRefIdeal.main_v23) = v0 c
          ∧ r.2.mem ((c.tc : Thread Cert.AdamNRefIdeal.nD Cert.AdamNRefIdeal.τ).loc Cert.AdamNRefIdeal.main_v4) = v1 c
          ∧ r.2.mem ((c.tc : Thread Cert.AdamNRefIdeal.nD Cert.AdamNRefIdeal.τ).loc Cert.AdamNRefIdeal.main_v10) = v2 c
          ∧ r.2.mem ((c.tc : Thread Cert.AdamNRefIdeal.nD Cert.AdamNRefIdeal.τ).loc Cert.AdamNRefIdeal.main_arg0) = m' ((c.tc : Thread Cert.AdamNRefIdeal.nD Cert.AdamNRefIdeal.τ).loc Cert.AdamNRefIdeal.main_arg0)
          ∧ r.2.mem ((c.tc : Thread Cert.AdamNRefIdeal.nD Cert.AdamNRefIdeal.τ).loc Cert.AdamNRefIdeal.main_arg1) = m' ((c.tc : Thread Cert.AdamNRefIdeal.nD Cert.AdamNRefIdeal.τ).loc Cert.AdamNRefIdeal.main_arg1)
          ∧ r.2.mem ((c.tc : Thread Cert.AdamNRefIdeal.nD Cert.AdamNRefIdeal.τ).loc Cert.AdamNRefIdeal.main_arg2) = m' ((c.tc : Thread Cert.AdamNRefIdeal.nD Cert.AdamNRefIdeal.τ).loc Cert.AdamNRefIdeal.main_arg2)
          ∧ r.2.mem ((c.tc : Thread Cert.AdamNRefIdeal.nD Cert.AdamNRefIdeal.τ).loc Cert.AdamNRefIdeal.main_arg3) = m' ((c.tc : Thread Cert.AdamNRefIdeal.nD Cert.AdamNRefIdeal.τ).loc Cert.AdamNRefIdeal.main_arg3))

def preserves_AdamB_AdamBIdeal : Prop :=
  True

def algebraic_AdamBIdeal_AdamBRefIdeal [hAdamBIdeal : Cert.AdamBIdeal.Facts] [hAdamBRefIdeal : Cert.AdamBRefIdeal.Facts] : Prop :=
  ∀ (m : (ℓ : Loc Cert.AdamBIdeal.nD Cert.AdamBIdeal.τ Cert.AdamBIdeal.sig) → Buf (Elt Ideal) ℓ) (g : Dev Cert.AdamBIdeal.nD → PrngReg)
    (m' : (ℓ : Loc Cert.AdamBRefIdeal.nD Cert.AdamBRefIdeal.τ Cert.AdamBRefIdeal.sig) → Buf (Elt Ideal) ℓ) (g' : Dev Cert.AdamBRefIdeal.nD → PrngReg), Pre_AdamBIdeal m →
    (∀ c : Dev Cert.AdamBIdeal.nD,
      m' ((c.tc : Thread Cert.AdamBRefIdeal.nD Cert.AdamBRefIdeal.τ).loc Cert.AdamBRefIdeal.main_arg0) = m ((c.tc : Thread Cert.AdamBIdeal.nD Cert.AdamBIdeal.τ).loc Cert.AdamBIdeal.main_arg0)
      ∧ m' ((c.tc : Thread Cert.AdamBRefIdeal.nD Cert.AdamBRefIdeal.τ).loc Cert.AdamBRefIdeal.main_arg1) = m ((c.tc : Thread Cert.AdamBIdeal.nD Cert.AdamBIdeal.τ).loc Cert.AdamBIdeal.main_arg1)
      ∧ m' ((c.tc : Thread Cert.AdamBRefIdeal.nD Cert.AdamBRefIdeal.τ).loc Cert.AdamBRefIdeal.main_arg2) = m ((c.tc : Thread Cert.AdamBIdeal.nD Cert.AdamBIdeal.τ).loc Cert.AdamBIdeal.main_arg2)
      ∧ m' ((c.tc : Thread Cert.AdamBRefIdeal.nD Cert.AdamBRefIdeal.τ).loc Cert.AdamBRefIdeal.main_arg3) = m ((c.tc : Thread Cert.AdamBIdeal.nD Cert.AdamBIdeal.τ).loc Cert.AdamBIdeal.main_arg3)) →
    ∃ (v0 : (c : Dev Cert.AdamBIdeal.nD) → Buf (Elt Ideal) ((c.tc : Thread Cert.AdamBIdeal.nD Cert.AdamBIdeal.τ).loc Cert.AdamBIdeal.main_v0_0)) (v1 : (c : Dev Cert.AdamBIdeal.nD) → Buf (Elt Ideal) ((c.tc : Thread Cert.AdamBIdeal.nD Cert.AdamBIdeal.τ).loc Cert.AdamBIdeal.main_v0_1)) (v2 : (c : Dev Cert.AdamBIdeal.nD) → Buf (Elt Ideal) ((c.tc : Thread Cert.AdamBIdeal.nD Cert.AdamBIdeal.τ).loc Cert.AdamBIdeal.main_v0_2)),
      θ_run (Cert.AdamBIdeal.defs (F := Ideal)) (onTc (τ := Cert.AdamBIdeal.τ) (Cert.AdamBIdeal.main (F := Ideal))) ⟨m, fun _ => 0, g⟩ (fun r => ∀ c : Dev Cert.AdamBIdeal.nD,
          r.2.mem ((c.tc : Thread Cert.AdamBIdeal.nD Cert.AdamBIdeal.τ).loc Cert.AdamBIdeal.main_v0_0) = v0 c
          ∧ r.2.mem ((c.tc : Thread Cert.AdamBIdeal.nD Cert.AdamBIdeal.τ).loc Cert.AdamBIdeal.main_v0_1) = v1 c
          ∧ r.2.mem ((c.tc : Thread Cert.AdamBIdeal.nD Cert.AdamBIdeal.τ).loc Cert.AdamBIdeal.main_v0_2) = v2 c
          ∧ r.2.mem ((c.tc : Thread Cert.AdamBIdeal.nD Cert.AdamBIdeal.τ).loc Cert.AdamBIdeal.main_arg0) = m ((c.tc : Thread Cert.AdamBIdeal.nD Cert.AdamBIdeal.τ).loc Cert.AdamBIdeal.main_arg0)
          ∧ r.2.mem ((c.tc : Thread Cert.AdamBIdeal.nD Cert.AdamBIdeal.τ).loc Cert.AdamBIdeal.main_arg1) = m ((c.tc : Thread Cert.AdamBIdeal.nD Cert.AdamBIdeal.τ).loc Cert.AdamBIdeal.main_arg1)
          ∧ r.2.mem ((c.tc : Thread Cert.AdamBIdeal.nD Cert.AdamBIdeal.τ).loc Cert.AdamBIdeal.main_arg2) = m ((c.tc : Thread Cert.AdamBIdeal.nD Cert.AdamBIdeal.τ).loc Cert.AdamBIdeal.main_arg2)
          ∧ r.2.mem ((c.tc : Thread Cert.AdamBIdeal.nD Cert.AdamBIdeal.τ).loc Cert.AdamBIdeal.main_arg3) = m ((c.tc : Thread Cert.AdamBIdeal.nD Cert.AdamBIdeal.τ).loc Cert.AdamBIdeal.main_arg3))
      ∧ θ_run (Cert.AdamBRefIdeal.defs (F := Ideal)) (onTc (τ := Cert.AdamBRefIdeal.τ) (Cert.AdamBRefIdeal.main (F := Ideal))) ⟨m', fun _ => 0, g'⟩ (fun r => ∀ c : Dev Cert.AdamBRefIdeal.nD,
          r.2.mem ((c.tc : Thread Cert.AdamBRefIdeal.nD Cert.AdamBRefIdeal.τ).loc Cert.AdamBRefIdeal.main_v23) = v0 c
          ∧ r.2.mem ((c.tc : Thread Cert.AdamBRefIdeal.nD Cert.AdamBRefIdeal.τ).loc Cert.AdamBRefIdeal.main_v4) = v1 c
          ∧ r.2.mem ((c.tc : Thread Cert.AdamBRefIdeal.nD Cert.AdamBRefIdeal.τ).loc Cert.AdamBRefIdeal.main_v10) = v2 c
          ∧ r.2.mem ((c.tc : Thread Cert.AdamBRefIdeal.nD Cert.AdamBRefIdeal.τ).loc Cert.AdamBRefIdeal.main_arg0) = m' ((c.tc : Thread Cert.AdamBRefIdeal.nD Cert.AdamBRefIdeal.τ).loc Cert.AdamBRefIdeal.main_arg0)
          ∧ r.2.mem ((c.tc : Thread Cert.AdamBRefIdeal.nD Cert.AdamBRefIdeal.τ).loc Cert.AdamBRefIdeal.main_arg1) = m' ((c.tc : Thread Cert.AdamBRefIdeal.nD Cert.AdamBRefIdeal.τ).loc Cert.AdamBRefIdeal.main_arg1)
          ∧ r.2.mem ((c.tc : Thread Cert.AdamBRefIdeal.nD Cert.AdamBRefIdeal.τ).loc Cert.AdamBRefIdeal.main_arg2) = m' ((c.tc : Thread Cert.AdamBRefIdeal.nD Cert.AdamBRefIdeal.τ).loc Cert.AdamBRefIdeal.main_arg2)
          ∧ r.2.mem ((c.tc : Thread Cert.AdamBRefIdeal.nD Cert.AdamBRefIdeal.τ).loc Cert.AdamBRefIdeal.main_arg3) = m' ((c.tc : Thread Cert.AdamBRefIdeal.nD Cert.AdamBRefIdeal.τ).loc Cert.AdamBRefIdeal.main_arg3))

def preserves_AdamS_AdamSIdeal : Prop :=
  True

def algebraic_AdamSIdeal_AdamSRefIdeal [hAdamSIdeal : Cert.AdamSIdeal.Facts] [hAdamSRefIdeal : Cert.AdamSRefIdeal.Facts] : Prop :=
  ∀ (m : (ℓ : Loc Cert.AdamSIdeal.nD Cert.AdamSIdeal.τ Cert.AdamSIdeal.sig) → Buf (Elt Ideal) ℓ) (g : Dev Cert.AdamSIdeal.nD → PrngReg)
    (m' : (ℓ : Loc Cert.AdamSRefIdeal.nD Cert.AdamSRefIdeal.τ Cert.AdamSRefIdeal.sig) → Buf (Elt Ideal) ℓ) (g' : Dev Cert.AdamSRefIdeal.nD → PrngReg), Pre_AdamSIdeal m →
    (∀ c : Dev Cert.AdamSIdeal.nD,
      m' ((c.tc : Thread Cert.AdamSRefIdeal.nD Cert.AdamSRefIdeal.τ).loc Cert.AdamSRefIdeal.main_arg0) = m ((c.tc : Thread Cert.AdamSIdeal.nD Cert.AdamSIdeal.τ).loc Cert.AdamSIdeal.main_arg0)
      ∧ m' ((c.tc : Thread Cert.AdamSRefIdeal.nD Cert.AdamSRefIdeal.τ).loc Cert.AdamSRefIdeal.main_arg1) = m ((c.tc : Thread Cert.AdamSIdeal.nD Cert.AdamSIdeal.τ).loc Cert.AdamSIdeal.main_arg1)
      ∧ m' ((c.tc : Thread Cert.AdamSRefIdeal.nD Cert.AdamSRefIdeal.τ).loc Cert.AdamSRefIdeal.main_arg2) = m ((c.tc : Thread Cert.AdamSIdeal.nD Cert.AdamSIdeal.τ).loc Cert.AdamSIdeal.main_arg2)
      ∧ m' ((c.tc : Thread Cert.AdamSRefIdeal.nD Cert.AdamSRefIdeal.τ).loc Cert.AdamSRefIdeal.main_arg3) = m ((c.tc : Thread Cert.AdamSIdeal.nD Cert.AdamSIdeal.τ).loc Cert.AdamSIdeal.main_arg3)) →
    ∃ (v0 : (c : Dev Cert.AdamSIdeal.nD) → Buf (Elt Ideal) ((c.tc : Thread Cert.AdamSIdeal.nD Cert.AdamSIdeal.τ).loc Cert.AdamSIdeal.main_v0_0)) (v1 : (c : Dev Cert.AdamSIdeal.nD) → Buf (Elt Ideal) ((c.tc : Thread Cert.AdamSIdeal.nD Cert.AdamSIdeal.τ).loc Cert.AdamSIdeal.main_v0_1)) (v2 : (c : Dev Cert.AdamSIdeal.nD) → Buf (Elt Ideal) ((c.tc : Thread Cert.AdamSIdeal.nD Cert.AdamSIdeal.τ).loc Cert.AdamSIdeal.main_v0_2)),
      θ_run (Cert.AdamSIdeal.defs (F := Ideal)) (onTc (τ := Cert.AdamSIdeal.τ) (Cert.AdamSIdeal.main (F := Ideal))) ⟨m, fun _ => 0, g⟩ (fun r => ∀ c : Dev Cert.AdamSIdeal.nD,
          r.2.mem ((c.tc : Thread Cert.AdamSIdeal.nD Cert.AdamSIdeal.τ).loc Cert.AdamSIdeal.main_v0_0) = v0 c
          ∧ r.2.mem ((c.tc : Thread Cert.AdamSIdeal.nD Cert.AdamSIdeal.τ).loc Cert.AdamSIdeal.main_v0_1) = v1 c
          ∧ r.2.mem ((c.tc : Thread Cert.AdamSIdeal.nD Cert.AdamSIdeal.τ).loc Cert.AdamSIdeal.main_v0_2) = v2 c
          ∧ r.2.mem ((c.tc : Thread Cert.AdamSIdeal.nD Cert.AdamSIdeal.τ).loc Cert.AdamSIdeal.main_arg0) = m ((c.tc : Thread Cert.AdamSIdeal.nD Cert.AdamSIdeal.τ).loc Cert.AdamSIdeal.main_arg0)
          ∧ r.2.mem ((c.tc : Thread Cert.AdamSIdeal.nD Cert.AdamSIdeal.τ).loc Cert.AdamSIdeal.main_arg1) = m ((c.tc : Thread Cert.AdamSIdeal.nD Cert.AdamSIdeal.τ).loc Cert.AdamSIdeal.main_arg1)
          ∧ r.2.mem ((c.tc : Thread Cert.AdamSIdeal.nD Cert.AdamSIdeal.τ).loc Cert.AdamSIdeal.main_arg2) = m ((c.tc : Thread Cert.AdamSIdeal.nD Cert.AdamSIdeal.τ).loc Cert.AdamSIdeal.main_arg2)
          ∧ r.2.mem ((c.tc : Thread Cert.AdamSIdeal.nD Cert.AdamSIdeal.τ).loc Cert.AdamSIdeal.main_arg3) = m ((c.tc : Thread Cert.AdamSIdeal.nD Cert.AdamSIdeal.τ).loc Cert.AdamSIdeal.main_arg3))
      ∧ θ_run (Cert.AdamSRefIdeal.defs (F := Ideal)) (onTc (τ := Cert.AdamSRefIdeal.τ) (Cert.AdamSRefIdeal.main (F := Ideal))) ⟨m', fun _ => 0, g'⟩ (fun r => ∀ c : Dev Cert.AdamSRefIdeal.nD,
          r.2.mem ((c.tc : Thread Cert.AdamSRefIdeal.nD Cert.AdamSRefIdeal.τ).loc Cert.AdamSRefIdeal.main_v23) = v0 c
          ∧ r.2.mem ((c.tc : Thread Cert.AdamSRefIdeal.nD Cert.AdamSRefIdeal.τ).loc Cert.AdamSRefIdeal.main_v4) = v1 c
          ∧ r.2.mem ((c.tc : Thread Cert.AdamSRefIdeal.nD Cert.AdamSRefIdeal.τ).loc Cert.AdamSRefIdeal.main_v10) = v2 c
          ∧ r.2.mem ((c.tc : Thread Cert.AdamSRefIdeal.nD Cert.AdamSRefIdeal.τ).loc Cert.AdamSRefIdeal.main_arg0) = m' ((c.tc : Thread Cert.AdamSRefIdeal.nD Cert.AdamSRefIdeal.τ).loc Cert.AdamSRefIdeal.main_arg0)
          ∧ r.2.mem ((c.tc : Thread Cert.AdamSRefIdeal.nD Cert.AdamSRefIdeal.τ).loc Cert.AdamSRefIdeal.main_arg1) = m' ((c.tc : Thread Cert.AdamSRefIdeal.nD Cert.AdamSRefIdeal.τ).loc Cert.AdamSRefIdeal.main_arg1)
          ∧ r.2.mem ((c.tc : Thread Cert.AdamSRefIdeal.nD Cert.AdamSRefIdeal.τ).loc Cert.AdamSRefIdeal.main_arg2) = m' ((c.tc : Thread Cert.AdamSRefIdeal.nD Cert.AdamSRefIdeal.τ).loc Cert.AdamSRefIdeal.main_arg2)
          ∧ r.2.mem ((c.tc : Thread Cert.AdamSRefIdeal.nD Cert.AdamSRefIdeal.τ).loc Cert.AdamSRefIdeal.main_arg3) = m' ((c.tc : Thread Cert.AdamSRefIdeal.nD Cert.AdamSRefIdeal.τ).loc Cert.AdamSRefIdeal.main_arg3))

def preserves_AdamC_AdamCIdeal : Prop :=
  True

def algebraic_AdamCIdeal_AdamCRefIdeal [hAdamCIdeal : Cert.AdamCIdeal.Facts] [hAdamCRefIdeal : Cert.AdamCRefIdeal.Facts] : Prop :=
  ∀ (m : (ℓ : Loc Cert.AdamCIdeal.nD Cert.AdamCIdeal.τ Cert.AdamCIdeal.sig) → Buf (Elt Ideal) ℓ) (g : Dev Cert.AdamCIdeal.nD → PrngReg)
    (m' : (ℓ : Loc Cert.AdamCRefIdeal.nD Cert.AdamCRefIdeal.τ Cert.AdamCRefIdeal.sig) → Buf (Elt Ideal) ℓ) (g' : Dev Cert.AdamCRefIdeal.nD → PrngReg), Pre_AdamCIdeal m →
    (∀ c : Dev Cert.AdamCIdeal.nD,
      m' ((c.tc : Thread Cert.AdamCRefIdeal.nD Cert.AdamCRefIdeal.τ).loc Cert.AdamCRefIdeal.main_arg0) = m ((c.tc : Thread Cert.AdamCIdeal.nD Cert.AdamCIdeal.τ).loc Cert.AdamCIdeal.main_arg0)
      ∧ m' ((c.tc : Thread Cert.AdamCRefIdeal.nD Cert.AdamCRefIdeal.τ).loc Cert.AdamCRefIdeal.main_arg1) = m ((c.tc : Thread Cert.AdamCIdeal.nD Cert.AdamCIdeal.τ).loc Cert.AdamCIdeal.main_arg1)
      ∧ m' ((c.tc : Thread Cert.AdamCRefIdeal.nD Cert.AdamCRefIdeal.τ).loc Cert.AdamCRefIdeal.main_arg2) = m ((c.tc : Thread Cert.AdamCIdeal.nD Cert.AdamCIdeal.τ).loc Cert.AdamCIdeal.main_arg2)
      ∧ m' ((c.tc : Thread Cert.AdamCRefIdeal.nD Cert.AdamCRefIdeal.τ).loc Cert.AdamCRefIdeal.main_arg3) = m ((c.tc : Thread Cert.AdamCIdeal.nD Cert.AdamCIdeal.τ).loc Cert.AdamCIdeal.main_arg3)) →
    ∃ (v0 : (c : Dev Cert.AdamCIdeal.nD) → Buf (Elt Ideal) ((c.tc : Thread Cert.AdamCIdeal.nD Cert.AdamCIdeal.τ).loc Cert.AdamCIdeal.main_v0_0)) (v1 : (c : Dev Cert.AdamCIdeal.nD) → Buf (Elt Ideal) ((c.tc : Thread Cert.AdamCIdeal.nD Cert.AdamCIdeal.τ).loc Cert.AdamCIdeal.main_v0_1)) (v2 : (c : Dev Cert.AdamCIdeal.nD) → Buf (Elt Ideal) ((c.tc : Thread Cert.AdamCIdeal.nD Cert.AdamCIdeal.τ).loc Cert.AdamCIdeal.main_v0_2)),
      θ_run (Cert.AdamCIdeal.defs (F := Ideal)) (onTc (τ := Cert.AdamCIdeal.τ) (Cert.AdamCIdeal.main (F := Ideal))) ⟨m, fun _ => 0, g⟩ (fun r => ∀ c : Dev Cert.AdamCIdeal.nD,
          r.2.mem ((c.tc : Thread Cert.AdamCIdeal.nD Cert.AdamCIdeal.τ).loc Cert.AdamCIdeal.main_v0_0) = v0 c
          ∧ r.2.mem ((c.tc : Thread Cert.AdamCIdeal.nD Cert.AdamCIdeal.τ).loc Cert.AdamCIdeal.main_v0_1) = v1 c
          ∧ r.2.mem ((c.tc : Thread Cert.AdamCIdeal.nD Cert.AdamCIdeal.τ).loc Cert.AdamCIdeal.main_v0_2) = v2 c
          ∧ r.2.mem ((c.tc : Thread Cert.AdamCIdeal.nD Cert.AdamCIdeal.τ).loc Cert.AdamCIdeal.main_arg0) = m ((c.tc : Thread Cert.AdamCIdeal.nD Cert.AdamCIdeal.τ).loc Cert.AdamCIdeal.main_arg0)
          ∧ r.2.mem ((c.tc : Thread Cert.AdamCIdeal.nD Cert.AdamCIdeal.τ).loc Cert.AdamCIdeal.main_arg1) = m ((c.tc : Thread Cert.AdamCIdeal.nD Cert.AdamCIdeal.τ).loc Cert.AdamCIdeal.main_arg1)
          ∧ r.2.mem ((c.tc : Thread Cert.AdamCIdeal.nD Cert.AdamCIdeal.τ).loc Cert.AdamCIdeal.main_arg2) = m ((c.tc : Thread Cert.AdamCIdeal.nD Cert.AdamCIdeal.τ).loc Cert.AdamCIdeal.main_arg2)
          ∧ r.2.mem ((c.tc : Thread Cert.AdamCIdeal.nD Cert.AdamCIdeal.τ).loc Cert.AdamCIdeal.main_arg3) = m ((c.tc : Thread Cert.AdamCIdeal.nD Cert.AdamCIdeal.τ).loc Cert.AdamCIdeal.main_arg3))
      ∧ θ_run (Cert.AdamCRefIdeal.defs (F := Ideal)) (onTc (τ := Cert.AdamCRefIdeal.τ) (Cert.AdamCRefIdeal.main (F := Ideal))) ⟨m', fun _ => 0, g'⟩ (fun r => ∀ c : Dev Cert.AdamCRefIdeal.nD,
          r.2.mem ((c.tc : Thread Cert.AdamCRefIdeal.nD Cert.AdamCRefIdeal.τ).loc Cert.AdamCRefIdeal.main_v23) = v0 c
          ∧ r.2.mem ((c.tc : Thread Cert.AdamCRefIdeal.nD Cert.AdamCRefIdeal.τ).loc Cert.AdamCRefIdeal.main_v4) = v1 c
          ∧ r.2.mem ((c.tc : Thread Cert.AdamCRefIdeal.nD Cert.AdamCRefIdeal.τ).loc Cert.AdamCRefIdeal.main_v10) = v2 c
          ∧ r.2.mem ((c.tc : Thread Cert.AdamCRefIdeal.nD Cert.AdamCRefIdeal.τ).loc Cert.AdamCRefIdeal.main_arg0) = m' ((c.tc : Thread Cert.AdamCRefIdeal.nD Cert.AdamCRefIdeal.τ).loc Cert.AdamCRefIdeal.main_arg0)
          ∧ r.2.mem ((c.tc : Thread Cert.AdamCRefIdeal.nD Cert.AdamCRefIdeal.τ).loc Cert.AdamCRefIdeal.main_arg1) = m' ((c.tc : Thread Cert.AdamCRefIdeal.nD Cert.AdamCRefIdeal.τ).loc Cert.AdamCRefIdeal.main_arg1)
          ∧ r.2.mem ((c.tc : Thread Cert.AdamCRefIdeal.nD Cert.AdamCRefIdeal.τ).loc Cert.AdamCRefIdeal.main_arg2) = m' ((c.tc : Thread Cert.AdamCRefIdeal.nD Cert.AdamCRefIdeal.τ).loc Cert.AdamCRefIdeal.main_arg2)
          ∧ r.2.mem ((c.tc : Thread Cert.AdamCRefIdeal.nD Cert.AdamCRefIdeal.τ).loc Cert.AdamCRefIdeal.main_arg3) = m' ((c.tc : Thread Cert.AdamCRefIdeal.nD Cert.AdamCRefIdeal.τ).loc Cert.AdamCRefIdeal.main_arg3))

def preserves_AdamH_AdamHIdeal : Prop :=
  True

def algebraic_AdamHIdeal_AdamHRefIdeal [hAdamHIdeal : Cert.AdamHIdeal.Facts] [hAdamHRefIdeal : Cert.AdamHRefIdeal.Facts] : Prop :=
  ∀ (m : (ℓ : Loc Cert.AdamHIdeal.nD Cert.AdamHIdeal.τ Cert.AdamHIdeal.sig) → Buf (Elt Ideal) ℓ) (g : Dev Cert.AdamHIdeal.nD → PrngReg)
    (m' : (ℓ : Loc Cert.AdamHRefIdeal.nD Cert.AdamHRefIdeal.τ Cert.AdamHRefIdeal.sig) → Buf (Elt Ideal) ℓ) (g' : Dev Cert.AdamHRefIdeal.nD → PrngReg), Pre_AdamHIdeal m →
    (∀ c : Dev Cert.AdamHIdeal.nD,
      m' ((c.tc : Thread Cert.AdamHRefIdeal.nD Cert.AdamHRefIdeal.τ).loc Cert.AdamHRefIdeal.main_arg0) = m ((c.tc : Thread Cert.AdamHIdeal.nD Cert.AdamHIdeal.τ).loc Cert.AdamHIdeal.main_arg0)
      ∧ m' ((c.tc : Thread Cert.AdamHRefIdeal.nD Cert.AdamHRefIdeal.τ).loc Cert.AdamHRefIdeal.main_arg1) = m ((c.tc : Thread Cert.AdamHIdeal.nD Cert.AdamHIdeal.τ).loc Cert.AdamHIdeal.main_arg1)
      ∧ m' ((c.tc : Thread Cert.AdamHRefIdeal.nD Cert.AdamHRefIdeal.τ).loc Cert.AdamHRefIdeal.main_arg2) = m ((c.tc : Thread Cert.AdamHIdeal.nD Cert.AdamHIdeal.τ).loc Cert.AdamHIdeal.main_arg2)
      ∧ m' ((c.tc : Thread Cert.AdamHRefIdeal.nD Cert.AdamHRefIdeal.τ).loc Cert.AdamHRefIdeal.main_arg3) = m ((c.tc : Thread Cert.AdamHIdeal.nD Cert.AdamHIdeal.τ).loc Cert.AdamHIdeal.main_arg3)) →
    ∃ (v0 : (c : Dev Cert.AdamHIdeal.nD) → Buf (Elt Ideal) ((c.tc : Thread Cert.AdamHIdeal.nD Cert.AdamHIdeal.τ).loc Cert.AdamHIdeal.main_v0_0)) (v1 : (c : Dev Cert.AdamHIdeal.nD) → Buf (Elt Ideal) ((c.tc : Thread Cert.AdamHIdeal.nD Cert.AdamHIdeal.τ).loc Cert.AdamHIdeal.main_v0_1)) (v2 : (c : Dev Cert.AdamHIdeal.nD) → Buf (Elt Ideal) ((c.tc : Thread Cert.AdamHIdeal.nD Cert.AdamHIdeal.τ).loc Cert.AdamHIdeal.main_v0_2)),
      θ_run (Cert.AdamHIdeal.defs (F := Ideal)) (onTc (τ := Cert.AdamHIdeal.τ) (Cert.AdamHIdeal.main (F := Ideal))) ⟨m, fun _ => 0, g⟩ (fun r => ∀ c : Dev Cert.AdamHIdeal.nD,
          r.2.mem ((c.tc : Thread Cert.AdamHIdeal.nD Cert.AdamHIdeal.τ).loc Cert.AdamHIdeal.main_v0_0) = v0 c
          ∧ r.2.mem ((c.tc : Thread Cert.AdamHIdeal.nD Cert.AdamHIdeal.τ).loc Cert.AdamHIdeal.main_v0_1) = v1 c
          ∧ r.2.mem ((c.tc : Thread Cert.AdamHIdeal.nD Cert.AdamHIdeal.τ).loc Cert.AdamHIdeal.main_v0_2) = v2 c
          ∧ r.2.mem ((c.tc : Thread Cert.AdamHIdeal.nD Cert.AdamHIdeal.τ).loc Cert.AdamHIdeal.main_arg0) = m ((c.tc : Thread Cert.AdamHIdeal.nD Cert.AdamHIdeal.τ).loc Cert.AdamHIdeal.main_arg0)
          ∧ r.2.mem ((c.tc : Thread Cert.AdamHIdeal.nD Cert.AdamHIdeal.τ).loc Cert.AdamHIdeal.main_arg1) = m ((c.tc : Thread Cert.AdamHIdeal.nD Cert.AdamHIdeal.τ).loc Cert.AdamHIdeal.main_arg1)
          ∧ r.2.mem ((c.tc : Thread Cert.AdamHIdeal.nD Cert.AdamHIdeal.τ).loc Cert.AdamHIdeal.main_arg2) = m ((c.tc : Thread Cert.AdamHIdeal.nD Cert.AdamHIdeal.τ).loc Cert.AdamHIdeal.main_arg2)
          ∧ r.2.mem ((c.tc : Thread Cert.AdamHIdeal.nD Cert.AdamHIdeal.τ).loc Cert.AdamHIdeal.main_arg3) = m ((c.tc : Thread Cert.AdamHIdeal.nD Cert.AdamHIdeal.τ).loc Cert.AdamHIdeal.main_arg3))
      ∧ θ_run (Cert.AdamHRefIdeal.defs (F := Ideal)) (onTc (τ := Cert.AdamHRefIdeal.τ) (Cert.AdamHRefIdeal.main (F := Ideal))) ⟨m', fun _ => 0, g'⟩ (fun r => ∀ c : Dev Cert.AdamHRefIdeal.nD,
          r.2.mem ((c.tc : Thread Cert.AdamHRefIdeal.nD Cert.AdamHRefIdeal.τ).loc Cert.AdamHRefIdeal.main_v23) = v0 c
          ∧ r.2.mem ((c.tc : Thread Cert.AdamHRefIdeal.nD Cert.AdamHRefIdeal.τ).loc Cert.AdamHRefIdeal.main_v4) = v1 c
          ∧ r.2.mem ((c.tc : Thread Cert.AdamHRefIdeal.nD Cert.AdamHRefIdeal.τ).loc Cert.AdamHRefIdeal.main_v10) = v2 c
          ∧ r.2.mem ((c.tc : Thread Cert.AdamHRefIdeal.nD Cert.AdamHRefIdeal.τ).loc Cert.AdamHRefIdeal.main_arg0) = m' ((c.tc : Thread Cert.AdamHRefIdeal.nD Cert.AdamHRefIdeal.τ).loc Cert.AdamHRefIdeal.main_arg0)
          ∧ r.2.mem ((c.tc : Thread Cert.AdamHRefIdeal.nD Cert.AdamHRefIdeal.τ).loc Cert.AdamHRefIdeal.main_arg1) = m' ((c.tc : Thread Cert.AdamHRefIdeal.nD Cert.AdamHRefIdeal.τ).loc Cert.AdamHRefIdeal.main_arg1)
          ∧ r.2.mem ((c.tc : Thread Cert.AdamHRefIdeal.nD Cert.AdamHRefIdeal.τ).loc Cert.AdamHRefIdeal.main_arg2) = m' ((c.tc : Thread Cert.AdamHRefIdeal.nD Cert.AdamHRefIdeal.τ).loc Cert.AdamHRefIdeal.main_arg2)
          ∧ r.2.mem ((c.tc : Thread Cert.AdamHRefIdeal.nD Cert.AdamHRefIdeal.τ).loc Cert.AdamHRefIdeal.main_arg3) = m' ((c.tc : Thread Cert.AdamHRefIdeal.nD Cert.AdamHRefIdeal.τ).loc Cert.AdamHRefIdeal.main_arg3))

def preserves_MixC_MixCIdeal : Prop :=
  True

def algebraic_MixCIdeal_MixCRefIdeal [hMixCIdeal : Cert.MixCIdeal.Facts] [hMixCRefIdeal : Cert.MixCRefIdeal.Facts] : Prop :=
  ∀ (m : (ℓ : Loc Cert.MixCIdeal.nD Cert.MixCIdeal.τ Cert.MixCIdeal.sig) → Buf (Elt Ideal) ℓ) (g : Dev Cert.MixCIdeal.nD → PrngReg)
    (m' : (ℓ : Loc Cert.MixCRefIdeal.nD Cert.MixCRefIdeal.τ Cert.MixCRefIdeal.sig) → Buf (Elt Ideal) ℓ) (g' : Dev Cert.MixCRefIdeal.nD → PrngReg), Pre_MixCIdeal m →
    (∀ c : Dev Cert.MixCIdeal.nD,
      m' ((c.tc : Thread Cert.MixCRefIdeal.nD Cert.MixCRefIdeal.τ).loc Cert.MixCRefIdeal.main_arg0) = m ((c.tc : Thread Cert.MixCIdeal.nD Cert.MixCIdeal.τ).loc Cert.MixCIdeal.main_arg0)
      ∧ m' ((c.tc : Thread Cert.MixCRefIdeal.nD Cert.MixCRefIdeal.τ).loc Cert.MixCRefIdeal.main_arg1) = m ((c.tc : Thread Cert.MixCIdeal.nD Cert.MixCIdeal.τ).loc Cert.MixCIdeal.main_arg1)
      ∧ m' ((c.tc : Thread Cert.MixCRefIdeal.nD Cert.MixCRefIdeal.τ).loc Cert.MixCRefIdeal.main_arg2) = m ((c.tc : Thread Cert.MixCIdeal.nD Cert.MixCIdeal.τ).loc Cert.MixCIdeal.main_arg2)
      ∧ m' ((c.tc : Thread Cert.MixCRefIdeal.nD Cert.MixCRefIdeal.τ).loc Cert.MixCRefIdeal.main_arg3) = m ((c.tc : Thread Cert.MixCIdeal.nD Cert.MixCIdeal.τ).loc Cert.MixCIdeal.main_arg3)
      ∧ m' ((c.tc : Thread Cert.MixCRefIdeal.nD Cert.MixCRefIdeal.τ).loc Cert.MixCRefIdeal.main_arg4) = m ((c.tc : Thread Cert.MixCIdeal.nD Cert.MixCIdeal.τ).loc Cert.MixCIdeal.main_arg4)
      ∧ m' ((c.tc : Thread Cert.MixCRefIdeal.nD Cert.MixCRefIdeal.τ).loc Cert.MixCRefIdeal.main_arg5) = m ((c.tc : Thread Cert.MixCIdeal.nD Cert.MixCIdeal.τ).loc Cert.MixCIdeal.main_arg5)) →
    ∃ (v0 : (c : Dev Cert.MixCIdeal.nD) → Buf (Elt Ideal) ((c.tc : Thread Cert.MixCIdeal.nD Cert.MixCIdeal.τ).loc Cert.MixCIdeal.main_v4_0)) (v1 : (c : Dev Cert.MixCIdeal.nD) → Buf (Elt Ideal) ((c.tc : Thread Cert.MixCIdeal.nD Cert.MixCIdeal.τ).loc Cert.MixCIdeal.main_v4_1)) (v2 : (c : Dev Cert.MixCIdeal.nD) → Buf (Elt Ideal) ((c.tc : Thread Cert.MixCIdeal.nD Cert.MixCIdeal.τ).loc Cert.MixCIdeal.main_v4_2)) (v3 : (c : Dev Cert.MixCIdeal.nD) → Buf (Elt Ideal) ((c.tc : Thread Cert.MixCIdeal.nD Cert.MixCIdeal.τ).loc Cert.MixCIdeal.main_v4_3)),
      θ_run (Cert.MixCIdeal.defs (F := Ideal)) (onTc (τ := Cert.MixCIdeal.τ) (Cert.MixCIdeal.main (F := Ideal))) ⟨m, fun _ => 0, g⟩ (fun r => ∀ c : Dev Cert.MixCIdeal.nD,
          r.2.mem ((c.tc : Thread Cert.MixCIdeal.nD Cert.MixCIdeal.τ).loc Cert.MixCIdeal.main_v4_0) = v0 c
          ∧ r.2.mem ((c.tc : Thread Cert.MixCIdeal.nD Cert.MixCIdeal.τ).loc Cert.MixCIdeal.main_v4_1) = v1 c
          ∧ r.2.mem ((c.tc : Thread Cert.MixCIdeal.nD Cert.MixCIdeal.τ).loc Cert.MixCIdeal.main_v4_2) = v2 c
          ∧ r.2.mem ((c.tc : Thread Cert.MixCIdeal.nD Cert.MixCIdeal.τ).loc Cert.MixCIdeal.main_v4_3) = v3 c
          ∧ r.2.mem ((c.tc : Thread Cert.MixCIdeal.nD Cert.MixCIdeal.τ).loc Cert.MixCIdeal.main_arg0) = m ((c.tc : Thread Cert.MixCIdeal.nD Cert.MixCIdeal.τ).loc Cert.MixCIdeal.main_arg0)
          ∧ r.2.mem ((c.tc : Thread Cert.MixCIdeal.nD Cert.MixCIdeal.τ).loc Cert.MixCIdeal.main_arg1) = m ((c.tc : Thread Cert.MixCIdeal.nD Cert.MixCIdeal.τ).loc Cert.MixCIdeal.main_arg1)
          ∧ r.2.mem ((c.tc : Thread Cert.MixCIdeal.nD Cert.MixCIdeal.τ).loc Cert.MixCIdeal.main_arg2) = m ((c.tc : Thread Cert.MixCIdeal.nD Cert.MixCIdeal.τ).loc Cert.MixCIdeal.main_arg2)
          ∧ r.2.mem ((c.tc : Thread Cert.MixCIdeal.nD Cert.MixCIdeal.τ).loc Cert.MixCIdeal.main_arg3) = m ((c.tc : Thread Cert.MixCIdeal.nD Cert.MixCIdeal.τ).loc Cert.MixCIdeal.main_arg3)
          ∧ r.2.mem ((c.tc : Thread Cert.MixCIdeal.nD Cert.MixCIdeal.τ).loc Cert.MixCIdeal.main_arg4) = m ((c.tc : Thread Cert.MixCIdeal.nD Cert.MixCIdeal.τ).loc Cert.MixCIdeal.main_arg4)
          ∧ r.2.mem ((c.tc : Thread Cert.MixCIdeal.nD Cert.MixCIdeal.τ).loc Cert.MixCIdeal.main_arg5) = m ((c.tc : Thread Cert.MixCIdeal.nD Cert.MixCIdeal.τ).loc Cert.MixCIdeal.main_arg5))
      ∧ θ_run (Cert.MixCRefIdeal.defs (F := Ideal)) (onTc (τ := Cert.MixCRefIdeal.τ) (Cert.MixCRefIdeal.main (F := Ideal))) ⟨m', fun _ => 0, g'⟩ (fun r => ∀ c : Dev Cert.MixCRefIdeal.nD,
          r.2.mem ((c.tc : Thread Cert.MixCRefIdeal.nD Cert.MixCRefIdeal.τ).loc Cert.MixCRefIdeal.main_v19) = v0 c
          ∧ r.2.mem ((c.tc : Thread Cert.MixCRefIdeal.nD Cert.MixCRefIdeal.τ).loc Cert.MixCRefIdeal.main_v25) = v1 c
          ∧ r.2.mem ((c.tc : Thread Cert.MixCRefIdeal.nD Cert.MixCRefIdeal.τ).loc Cert.MixCRefIdeal.main_v24) = v2 c
          ∧ r.2.mem ((c.tc : Thread Cert.MixCRefIdeal.nD Cert.MixCRefIdeal.τ).loc Cert.MixCRefIdeal.main_v28) = v3 c
          ∧ r.2.mem ((c.tc : Thread Cert.MixCRefIdeal.nD Cert.MixCRefIdeal.τ).loc Cert.MixCRefIdeal.main_arg0) = m' ((c.tc : Thread Cert.MixCRefIdeal.nD Cert.MixCRefIdeal.τ).loc Cert.MixCRefIdeal.main_arg0)
          ∧ r.2.mem ((c.tc : Thread Cert.MixCRefIdeal.nD Cert.MixCRefIdeal.τ).loc Cert.MixCRefIdeal.main_arg1) = m' ((c.tc : Thread Cert.MixCRefIdeal.nD Cert.MixCRefIdeal.τ).loc Cert.MixCRefIdeal.main_arg1)
          ∧ r.2.mem ((c.tc : Thread Cert.MixCRefIdeal.nD Cert.MixCRefIdeal.τ).loc Cert.MixCRefIdeal.main_arg2) = m' ((c.tc : Thread Cert.MixCRefIdeal.nD Cert.MixCRefIdeal.τ).loc Cert.MixCRefIdeal.main_arg2)
          ∧ r.2.mem ((c.tc : Thread Cert.MixCRefIdeal.nD Cert.MixCRefIdeal.τ).loc Cert.MixCRefIdeal.main_arg3) = m' ((c.tc : Thread Cert.MixCRefIdeal.nD Cert.MixCRefIdeal.τ).loc Cert.MixCRefIdeal.main_arg3)
          ∧ r.2.mem ((c.tc : Thread Cert.MixCRefIdeal.nD Cert.MixCRefIdeal.τ).loc Cert.MixCRefIdeal.main_arg4) = m' ((c.tc : Thread Cert.MixCRefIdeal.nD Cert.MixCRefIdeal.τ).loc Cert.MixCRefIdeal.main_arg4)
          ∧ r.2.mem ((c.tc : Thread Cert.MixCRefIdeal.nD Cert.MixCRefIdeal.τ).loc Cert.MixCRefIdeal.main_arg5) = m' ((c.tc : Thread Cert.MixCRefIdeal.nD Cert.MixCRefIdeal.τ).loc Cert.MixCRefIdeal.main_arg5))

def preserves_MixP_MixPIdeal : Prop :=
  True

def algebraic_MixPIdeal_MixPRefIdeal [hMixPIdeal : Cert.MixPIdeal.Facts] [hMixPRefIdeal : Cert.MixPRefIdeal.Facts] : Prop :=
  ∀ (m : (ℓ : Loc Cert.MixPIdeal.nD Cert.MixPIdeal.τ Cert.MixPIdeal.sig) → Buf (Elt Ideal) ℓ) (g : Dev Cert.MixPIdeal.nD → PrngReg)
    (m' : (ℓ : Loc Cert.MixPRefIdeal.nD Cert.MixPRefIdeal.τ Cert.MixPRefIdeal.sig) → Buf (Elt Ideal) ℓ) (g' : Dev Cert.MixPRefIdeal.nD → PrngReg), Pre_MixPIdeal m →
    (∀ c : Dev Cert.MixPIdeal.nD,
      m' ((c.tc : Thread Cert.MixPRefIdeal.nD Cert.MixPRefIdeal.τ).loc Cert.MixPRefIdeal.main_arg0) = m ((c.tc : Thread Cert.MixPIdeal.nD Cert.MixPIdeal.τ).loc Cert.MixPIdeal.main_arg0)
      ∧ m' ((c.tc : Thread Cert.MixPRefIdeal.nD Cert.MixPRefIdeal.τ).loc Cert.MixPRefIdeal.main_arg1) = m ((c.tc : Thread Cert.MixPIdeal.nD Cert.MixPIdeal.τ).loc Cert.MixPIdeal.main_arg1)
      ∧ m' ((c.tc : Thread Cert.MixPRefIdeal.nD Cert.MixPRefIdeal.τ).loc Cert.MixPRefIdeal.main_arg2) = m ((c.tc : Thread Cert.MixPIdeal.nD Cert.MixPIdeal.τ).loc Cert.MixPIdeal.main_arg2)
      ∧ m' ((c.tc : Thread Cert.MixPRefIdeal.nD Cert.MixPRefIdeal.τ).loc Cert.MixPRefIdeal.main_arg3) = m ((c.tc : Thread Cert.MixPIdeal.nD Cert.MixPIdeal.τ).loc Cert.MixPIdeal.main_arg3)
      ∧ m' ((c.tc : Thread Cert.MixPRefIdeal.nD Cert.MixPRefIdeal.τ).loc Cert.MixPRefIdeal.main_arg4) = m ((c.tc : Thread Cert.MixPIdeal.nD Cert.MixPIdeal.τ).loc Cert.MixPIdeal.main_arg4)
      ∧ m' ((c.tc : Thread Cert.MixPRefIdeal.nD Cert.MixPRefIdeal.τ).loc Cert.MixPRefIdeal.main_arg5) = m ((c.tc : Thread Cert.MixPIdeal.nD Cert.MixPIdeal.τ).loc Cert.MixPIdeal.main_arg5)) →
    ∃ (v0 : (c : Dev Cert.MixPIdeal.nD) → Buf (Elt Ideal) ((c.tc : Thread Cert.MixPIdeal.nD Cert.MixPIdeal.τ).loc Cert.MixPIdeal.main_v4_0)) (v1 : (c : Dev Cert.MixPIdeal.nD) → Buf (Elt Ideal) ((c.tc : Thread Cert.MixPIdeal.nD Cert.MixPIdeal.τ).loc Cert.MixPIdeal.main_v4_1)) (v2 : (c : Dev Cert.MixPIdeal.nD) → Buf (Elt Ideal) ((c.tc : Thread Cert.MixPIdeal.nD Cert.MixPIdeal.τ).loc Cert.MixPIdeal.main_v4_2)) (v3 : (c : Dev Cert.MixPIdeal.nD) → Buf (Elt Ideal) ((c.tc : Thread Cert.MixPIdeal.nD Cert.MixPIdeal.τ).loc Cert.MixPIdeal.main_v4_3)),
      θ_run (Cert.MixPIdeal.defs (F := Ideal)) (onTc (τ := Cert.MixPIdeal.τ) (Cert.MixPIdeal.main (F := Ideal))) ⟨m, fun _ => 0, g⟩ (fun r => ∀ c : Dev Cert.MixPIdeal.nD,
          r.2.mem ((c.tc : Thread Cert.MixPIdeal.nD Cert.MixPIdeal.τ).loc Cert.MixPIdeal.main_v4_0) = v0 c
          ∧ r.2.mem ((c.tc : Thread Cert.MixPIdeal.nD Cert.MixPIdeal.τ).loc Cert.MixPIdeal.main_v4_1) = v1 c
          ∧ r.2.mem ((c.tc : Thread Cert.MixPIdeal.nD Cert.MixPIdeal.τ).loc Cert.MixPIdeal.main_v4_2) = v2 c
          ∧ r.2.mem ((c.tc : Thread Cert.MixPIdeal.nD Cert.MixPIdeal.τ).loc Cert.MixPIdeal.main_v4_3) = v3 c
          ∧ r.2.mem ((c.tc : Thread Cert.MixPIdeal.nD Cert.MixPIdeal.τ).loc Cert.MixPIdeal.main_arg0) = m ((c.tc : Thread Cert.MixPIdeal.nD Cert.MixPIdeal.τ).loc Cert.MixPIdeal.main_arg0)
          ∧ r.2.mem ((c.tc : Thread Cert.MixPIdeal.nD Cert.MixPIdeal.τ).loc Cert.MixPIdeal.main_arg1) = m ((c.tc : Thread Cert.MixPIdeal.nD Cert.MixPIdeal.τ).loc Cert.MixPIdeal.main_arg1)
          ∧ r.2.mem ((c.tc : Thread Cert.MixPIdeal.nD Cert.MixPIdeal.τ).loc Cert.MixPIdeal.main_arg2) = m ((c.tc : Thread Cert.MixPIdeal.nD Cert.MixPIdeal.τ).loc Cert.MixPIdeal.main_arg2)
          ∧ r.2.mem ((c.tc : Thread Cert.MixPIdeal.nD Cert.MixPIdeal.τ).loc Cert.MixPIdeal.main_arg3) = m ((c.tc : Thread Cert.MixPIdeal.nD Cert.MixPIdeal.τ).loc Cert.MixPIdeal.main_arg3)
          ∧ r.2.mem ((c.tc : Thread Cert.MixPIdeal.nD Cert.MixPIdeal.τ).loc Cert.MixPIdeal.main_arg4) = m ((c.tc : Thread Cert.MixPIdeal.nD Cert.MixPIdeal.τ).loc Cert.MixPIdeal.main_arg4)
          ∧ r.2.mem ((c.tc : Thread Cert.MixPIdeal.nD Cert.MixPIdeal.τ).loc Cert.MixPIdeal.main_arg5) = m ((c.tc : Thread Cert.MixPIdeal.nD Cert.MixPIdeal.τ).loc Cert.MixPIdeal.main_arg5))
      ∧ θ_run (Cert.MixPRefIdeal.defs (F := Ideal)) (onTc (τ := Cert.MixPRefIdeal.τ) (Cert.MixPRefIdeal.main (F := Ideal))) ⟨m', fun _ => 0, g'⟩ (fun r => ∀ c : Dev Cert.MixPRefIdeal.nD,
          r.2.mem ((c.tc : Thread Cert.MixPRefIdeal.nD Cert.MixPRefIdeal.τ).loc Cert.MixPRefIdeal.main_v19) = v0 c
          ∧ r.2.mem ((c.tc : Thread Cert.MixPRefIdeal.nD Cert.MixPRefIdeal.τ).loc Cert.MixPRefIdeal.main_v25) = v1 c
          ∧ r.2.mem ((c.tc : Thread Cert.MixPRefIdeal.nD Cert.MixPRefIdeal.τ).loc Cert.MixPRefIdeal.main_v24) = v2 c
          ∧ r.2.mem ((c.tc : Thread Cert.MixPRefIdeal.nD Cert.MixPRefIdeal.τ).loc Cert.MixPRefIdeal.main_v28) = v3 c
          ∧ r.2.mem ((c.tc : Thread Cert.MixPRefIdeal.nD Cert.MixPRefIdeal.τ).loc Cert.MixPRefIdeal.main_arg0) = m' ((c.tc : Thread Cert.MixPRefIdeal.nD Cert.MixPRefIdeal.τ).loc Cert.MixPRefIdeal.main_arg0)
          ∧ r.2.mem ((c.tc : Thread Cert.MixPRefIdeal.nD Cert.MixPRefIdeal.τ).loc Cert.MixPRefIdeal.main_arg1) = m' ((c.tc : Thread Cert.MixPRefIdeal.nD Cert.MixPRefIdeal.τ).loc Cert.MixPRefIdeal.main_arg1)
          ∧ r.2.mem ((c.tc : Thread Cert.MixPRefIdeal.nD Cert.MixPRefIdeal.τ).loc Cert.MixPRefIdeal.main_arg2) = m' ((c.tc : Thread Cert.MixPRefIdeal.nD Cert.MixPRefIdeal.τ).loc Cert.MixPRefIdeal.main_arg2)
          ∧ r.2.mem ((c.tc : Thread Cert.MixPRefIdeal.nD Cert.MixPRefIdeal.τ).loc Cert.MixPRefIdeal.main_arg3) = m' ((c.tc : Thread Cert.MixPRefIdeal.nD Cert.MixPRefIdeal.τ).loc Cert.MixPRefIdeal.main_arg3)
          ∧ r.2.mem ((c.tc : Thread Cert.MixPRefIdeal.nD Cert.MixPRefIdeal.τ).loc Cert.MixPRefIdeal.main_arg4) = m' ((c.tc : Thread Cert.MixPRefIdeal.nD Cert.MixPRefIdeal.τ).loc Cert.MixPRefIdeal.main_arg4)
          ∧ r.2.mem ((c.tc : Thread Cert.MixPRefIdeal.nD Cert.MixPRefIdeal.τ).loc Cert.MixPRefIdeal.main_arg5) = m' ((c.tc : Thread Cert.MixPRefIdeal.nD Cert.MixPRefIdeal.τ).loc Cert.MixPRefIdeal.main_arg5))

def preserves_MixA_MixAIdeal : Prop :=
  True

def algebraic_MixAIdeal_MixARefIdeal [hMixAIdeal : Cert.MixAIdeal.Facts] [hMixARefIdeal : Cert.MixARefIdeal.Facts] : Prop :=
  ∀ (m : (ℓ : Loc Cert.MixAIdeal.nD Cert.MixAIdeal.τ Cert.MixAIdeal.sig) → Buf (Elt Ideal) ℓ) (g : Dev Cert.MixAIdeal.nD → PrngReg)
    (m' : (ℓ : Loc Cert.MixARefIdeal.nD Cert.MixARefIdeal.τ Cert.MixARefIdeal.sig) → Buf (Elt Ideal) ℓ) (g' : Dev Cert.MixARefIdeal.nD → PrngReg), Pre_MixAIdeal m →
    (∀ c : Dev Cert.MixAIdeal.nD,
      m' ((c.tc : Thread Cert.MixARefIdeal.nD Cert.MixARefIdeal.τ).loc Cert.MixARefIdeal.main_arg0) = m ((c.tc : Thread Cert.MixAIdeal.nD Cert.MixAIdeal.τ).loc Cert.MixAIdeal.main_arg0)
      ∧ m' ((c.tc : Thread Cert.MixARefIdeal.nD Cert.MixARefIdeal.τ).loc Cert.MixARefIdeal.main_arg1) = m ((c.tc : Thread Cert.MixAIdeal.nD Cert.MixAIdeal.τ).loc Cert.MixAIdeal.main_arg1)
      ∧ m' ((c.tc : Thread Cert.MixARefIdeal.nD Cert.MixARefIdeal.τ).loc Cert.MixARefIdeal.main_arg2) = m ((c.tc : Thread Cert.MixAIdeal.nD Cert.MixAIdeal.τ).loc Cert.MixAIdeal.main_arg2)
      ∧ m' ((c.tc : Thread Cert.MixARefIdeal.nD Cert.MixARefIdeal.τ).loc Cert.MixARefIdeal.main_arg3) = m ((c.tc : Thread Cert.MixAIdeal.nD Cert.MixAIdeal.τ).loc Cert.MixAIdeal.main_arg3)
      ∧ m' ((c.tc : Thread Cert.MixARefIdeal.nD Cert.MixARefIdeal.τ).loc Cert.MixARefIdeal.main_arg4) = m ((c.tc : Thread Cert.MixAIdeal.nD Cert.MixAIdeal.τ).loc Cert.MixAIdeal.main_arg4)
      ∧ m' ((c.tc : Thread Cert.MixARefIdeal.nD Cert.MixARefIdeal.τ).loc Cert.MixARefIdeal.main_arg5) = m ((c.tc : Thread Cert.MixAIdeal.nD Cert.MixAIdeal.τ).loc Cert.MixAIdeal.main_arg5)) →
    ∃ (v0 : (c : Dev Cert.MixAIdeal.nD) → Buf (Elt Ideal) ((c.tc : Thread Cert.MixAIdeal.nD Cert.MixAIdeal.τ).loc Cert.MixAIdeal.main_v3_0)) (v1 : (c : Dev Cert.MixAIdeal.nD) → Buf (Elt Ideal) ((c.tc : Thread Cert.MixAIdeal.nD Cert.MixAIdeal.τ).loc Cert.MixAIdeal.main_v3_1)) (v2 : (c : Dev Cert.MixAIdeal.nD) → Buf (Elt Ideal) ((c.tc : Thread Cert.MixAIdeal.nD Cert.MixAIdeal.τ).loc Cert.MixAIdeal.main_v3_2)) (v3 : (c : Dev Cert.MixAIdeal.nD) → Buf (Elt Ideal) ((c.tc : Thread Cert.MixAIdeal.nD Cert.MixAIdeal.τ).loc Cert.MixAIdeal.main_v3_3)),
      θ_run (Cert.MixAIdeal.defs (F := Ideal)) (onTc (τ := Cert.MixAIdeal.τ) (Cert.MixAIdeal.main (F := Ideal))) ⟨m, fun _ => 0, g⟩ (fun r => ∀ c : Dev Cert.MixAIdeal.nD,
          r.2.mem ((c.tc : Thread Cert.MixAIdeal.nD Cert.MixAIdeal.τ).loc Cert.MixAIdeal.main_v3_0) = v0 c
          ∧ r.2.mem ((c.tc : Thread Cert.MixAIdeal.nD Cert.MixAIdeal.τ).loc Cert.MixAIdeal.main_v3_1) = v1 c
          ∧ r.2.mem ((c.tc : Thread Cert.MixAIdeal.nD Cert.MixAIdeal.τ).loc Cert.MixAIdeal.main_v3_2) = v2 c
          ∧ r.2.mem ((c.tc : Thread Cert.MixAIdeal.nD Cert.MixAIdeal.τ).loc Cert.MixAIdeal.main_v3_3) = v3 c
          ∧ r.2.mem ((c.tc : Thread Cert.MixAIdeal.nD Cert.MixAIdeal.τ).loc Cert.MixAIdeal.main_arg0) = m ((c.tc : Thread Cert.MixAIdeal.nD Cert.MixAIdeal.τ).loc Cert.MixAIdeal.main_arg0)
          ∧ r.2.mem ((c.tc : Thread Cert.MixAIdeal.nD Cert.MixAIdeal.τ).loc Cert.MixAIdeal.main_arg1) = m ((c.tc : Thread Cert.MixAIdeal.nD Cert.MixAIdeal.τ).loc Cert.MixAIdeal.main_arg1)
          ∧ r.2.mem ((c.tc : Thread Cert.MixAIdeal.nD Cert.MixAIdeal.τ).loc Cert.MixAIdeal.main_arg2) = m ((c.tc : Thread Cert.MixAIdeal.nD Cert.MixAIdeal.τ).loc Cert.MixAIdeal.main_arg2)
          ∧ r.2.mem ((c.tc : Thread Cert.MixAIdeal.nD Cert.MixAIdeal.τ).loc Cert.MixAIdeal.main_arg3) = m ((c.tc : Thread Cert.MixAIdeal.nD Cert.MixAIdeal.τ).loc Cert.MixAIdeal.main_arg3)
          ∧ r.2.mem ((c.tc : Thread Cert.MixAIdeal.nD Cert.MixAIdeal.τ).loc Cert.MixAIdeal.main_arg4) = m ((c.tc : Thread Cert.MixAIdeal.nD Cert.MixAIdeal.τ).loc Cert.MixAIdeal.main_arg4)
          ∧ r.2.mem ((c.tc : Thread Cert.MixAIdeal.nD Cert.MixAIdeal.τ).loc Cert.MixAIdeal.main_arg5) = m ((c.tc : Thread Cert.MixAIdeal.nD Cert.MixAIdeal.τ).loc Cert.MixAIdeal.main_arg5))
      ∧ θ_run (Cert.MixARefIdeal.defs (F := Ideal)) (onTc (τ := Cert.MixARefIdeal.τ) (Cert.MixARefIdeal.main (F := Ideal))) ⟨m', fun _ => 0, g'⟩ (fun r => ∀ c : Dev Cert.MixARefIdeal.nD,
          r.2.mem ((c.tc : Thread Cert.MixARefIdeal.nD Cert.MixARefIdeal.τ).loc Cert.MixARefIdeal.main_v19) = v0 c
          ∧ r.2.mem ((c.tc : Thread Cert.MixARefIdeal.nD Cert.MixARefIdeal.τ).loc Cert.MixARefIdeal.main_v25) = v1 c
          ∧ r.2.mem ((c.tc : Thread Cert.MixARefIdeal.nD Cert.MixARefIdeal.τ).loc Cert.MixARefIdeal.main_v24) = v2 c
          ∧ r.2.mem ((c.tc : Thread Cert.MixARefIdeal.nD Cert.MixARefIdeal.τ).loc Cert.MixARefIdeal.main_v28) = v3 c
          ∧ r.2.mem ((c.tc : Thread Cert.MixARefIdeal.nD Cert.MixARefIdeal.τ).loc Cert.MixARefIdeal.main_arg0) = m' ((c.tc : Thread Cert.MixARefIdeal.nD Cert.MixARefIdeal.τ).loc Cert.MixARefIdeal.main_arg0)
          ∧ r.2.mem ((c.tc : Thread Cert.MixARefIdeal.nD Cert.MixARefIdeal.τ).loc Cert.MixARefIdeal.main_arg1) = m' ((c.tc : Thread Cert.MixARefIdeal.nD Cert.MixARefIdeal.τ).loc Cert.MixARefIdeal.main_arg1)
          ∧ r.2.mem ((c.tc : Thread Cert.MixARefIdeal.nD Cert.MixARefIdeal.τ).loc Cert.MixARefIdeal.main_arg2) = m' ((c.tc : Thread Cert.MixARefIdeal.nD Cert.MixARefIdeal.τ).loc Cert.MixARefIdeal.main_arg2)
          ∧ r.2.mem ((c.tc : Thread Cert.MixARefIdeal.nD Cert.MixARefIdeal.τ).loc Cert.MixARefIdeal.main_arg3) = m' ((c.tc : Thread Cert.MixARefIdeal.nD Cert.MixARefIdeal.τ).loc Cert.MixARefIdeal.main_arg3)
          ∧ r.2.mem ((c.tc : Thread Cert.MixARefIdeal.nD Cert.MixARefIdeal.τ).loc Cert.MixARefIdeal.main_arg4) = m' ((c.tc : Thread Cert.MixARefIdeal.nD Cert.MixARefIdeal.τ).loc Cert.MixARefIdeal.main_arg4)
          ∧ r.2.mem ((c.tc : Thread Cert.MixARefIdeal.nD Cert.MixARefIdeal.τ).loc Cert.MixARefIdeal.main_arg5) = m' ((c.tc : Thread Cert.MixARefIdeal.nD Cert.MixARefIdeal.τ).loc Cert.MixARefIdeal.main_arg5))

def preserves_SumR_SumRIdeal : Prop :=
  True

def algebraic_SumRIdeal_SumRRefIdeal [hSumRIdeal : Cert.SumRIdeal.Facts] [hSumRRefIdeal : Cert.SumRRefIdeal.Facts] : Prop :=
  ∀ (m : (ℓ : Loc Cert.SumRIdeal.nD Cert.SumRIdeal.τ Cert.SumRIdeal.sig) → Buf (Elt Ideal) ℓ) (g : Dev Cert.SumRIdeal.nD → PrngReg)
    (m' : (ℓ : Loc Cert.SumRRefIdeal.nD Cert.SumRRefIdeal.τ Cert.SumRRefIdeal.sig) → Buf (Elt Ideal) ℓ) (g' : Dev Cert.SumRRefIdeal.nD → PrngReg), Pre_SumRIdeal m →
    (∀ c : Dev Cert.SumRIdeal.nD,
      m' ((c.tc : Thread Cert.SumRRefIdeal.nD Cert.SumRRefIdeal.τ).loc Cert.SumRRefIdeal.main_arg0) = m ((c.tc : Thread Cert.SumRIdeal.nD Cert.SumRIdeal.τ).loc Cert.SumRIdeal.main_arg0)
      ∧ m' ((c.tc : Thread Cert.SumRRefIdeal.nD Cert.SumRRefIdeal.τ).loc Cert.SumRRefIdeal.main_arg1) = m ((c.tc : Thread Cert.SumRIdeal.nD Cert.SumRIdeal.τ).loc Cert.SumRIdeal.main_arg1)
      ∧ m' ((c.tc : Thread Cert.SumRRefIdeal.nD Cert.SumRRefIdeal.τ).loc Cert.SumRRefIdeal.main_arg2) = m ((c.tc : Thread Cert.SumRIdeal.nD Cert.SumRIdeal.τ).loc Cert.SumRIdeal.main_arg2)) →
    ∃ (v0 : (c : Dev Cert.SumRIdeal.nD) → Buf (Elt Ideal) ((c.tc : Thread Cert.SumRIdeal.nD Cert.SumRIdeal.τ).loc Cert.SumRIdeal.main_v0)),
      θ_run (Cert.SumRIdeal.defs (F := Ideal)) (onTc (τ := Cert.SumRIdeal.τ) (Cert.SumRIdeal.main (F := Ideal))) ⟨m, fun _ => 0, g⟩ (fun r => ∀ c : Dev Cert.SumRIdeal.nD,
          r.2.mem ((c.tc : Thread Cert.SumRIdeal.nD Cert.SumRIdeal.τ).loc Cert.SumRIdeal.main_v0) = v0 c
          ∧ r.2.mem ((c.tc : Thread Cert.SumRIdeal.nD Cert.SumRIdeal.τ).loc Cert.SumRIdeal.main_arg0) = m ((c.tc : Thread Cert.SumRIdeal.nD Cert.SumRIdeal.τ).loc Cert.SumRIdeal.main_arg0)
          ∧ r.2.mem ((c.tc : Thread Cert.SumRIdeal.nD Cert.SumRIdeal.τ).loc Cert.SumRIdeal.main_arg1) = m ((c.tc : Thread Cert.SumRIdeal.nD Cert.SumRIdeal.τ).loc Cert.SumRIdeal.main_arg1)
          ∧ r.2.mem ((c.tc : Thread Cert.SumRIdeal.nD Cert.SumRIdeal.τ).loc Cert.SumRIdeal.main_arg2) = m ((c.tc : Thread Cert.SumRIdeal.nD Cert.SumRIdeal.τ).loc Cert.SumRIdeal.main_arg2))
      ∧ θ_run (Cert.SumRRefIdeal.defs (F := Ideal)) (onTc (τ := Cert.SumRRefIdeal.τ) (Cert.SumRRefIdeal.main (F := Ideal))) ⟨m', fun _ => 0, g'⟩ (fun r => ∀ c : Dev Cert.SumRRefIdeal.nD,
          r.2.mem ((c.tc : Thread Cert.SumRRefIdeal.nD Cert.SumRRefIdeal.τ).loc Cert.SumRRefIdeal.main_v8) = v0 c
          ∧ r.2.mem ((c.tc : Thread Cert.SumRRefIdeal.nD Cert.SumRRefIdeal.τ).loc Cert.SumRRefIdeal.main_arg0) = m' ((c.tc : Thread Cert.SumRRefIdeal.nD Cert.SumRRefIdeal.τ).loc Cert.SumRRefIdeal.main_arg0)
          ∧ r.2.mem ((c.tc : Thread Cert.SumRRefIdeal.nD Cert.SumRRefIdeal.τ).loc Cert.SumRRefIdeal.main_arg1) = m' ((c.tc : Thread Cert.SumRRefIdeal.nD Cert.SumRRefIdeal.τ).loc Cert.SumRRefIdeal.main_arg1)
          ∧ r.2.mem ((c.tc : Thread Cert.SumRRefIdeal.nD Cert.SumRRefIdeal.τ).loc Cert.SumRRefIdeal.main_arg2) = m' ((c.tc : Thread Cert.SumRRefIdeal.nD Cert.SumRRefIdeal.τ).loc Cert.SumRRefIdeal.main_arg2))

def preserves_SumS_SumSIdeal : Prop :=
  True

def algebraic_SumSIdeal_SumSRefIdeal [hSumSIdeal : Cert.SumSIdeal.Facts] [hSumSRefIdeal : Cert.SumSRefIdeal.Facts] : Prop :=
  ∀ (m : (ℓ : Loc Cert.SumSIdeal.nD Cert.SumSIdeal.τ Cert.SumSIdeal.sig) → Buf (Elt Ideal) ℓ) (g : Dev Cert.SumSIdeal.nD → PrngReg)
    (m' : (ℓ : Loc Cert.SumSRefIdeal.nD Cert.SumSRefIdeal.τ Cert.SumSRefIdeal.sig) → Buf (Elt Ideal) ℓ) (g' : Dev Cert.SumSRefIdeal.nD → PrngReg), Pre_SumSIdeal m →
    (∀ c : Dev Cert.SumSIdeal.nD,
      m' ((c.tc : Thread Cert.SumSRefIdeal.nD Cert.SumSRefIdeal.τ).loc Cert.SumSRefIdeal.main_arg0) = m ((c.tc : Thread Cert.SumSIdeal.nD Cert.SumSIdeal.τ).loc Cert.SumSIdeal.main_arg0)
      ∧ m' ((c.tc : Thread Cert.SumSRefIdeal.nD Cert.SumSRefIdeal.τ).loc Cert.SumSRefIdeal.main_arg1) = m ((c.tc : Thread Cert.SumSIdeal.nD Cert.SumSIdeal.τ).loc Cert.SumSIdeal.main_arg1)
      ∧ m' ((c.tc : Thread Cert.SumSRefIdeal.nD Cert.SumSRefIdeal.τ).loc Cert.SumSRefIdeal.main_arg2) = m ((c.tc : Thread Cert.SumSIdeal.nD Cert.SumSIdeal.τ).loc Cert.SumSIdeal.main_arg2)) →
    ∃ (v0 : (c : Dev Cert.SumSIdeal.nD) → Buf (Elt Ideal) ((c.tc : Thread Cert.SumSIdeal.nD Cert.SumSIdeal.τ).loc Cert.SumSIdeal.main_v0)),
      θ_run (Cert.SumSIdeal.defs (F := Ideal)) (onTc (τ := Cert.SumSIdeal.τ) (Cert.SumSIdeal.main (F := Ideal))) ⟨m, fun _ => 0, g⟩ (fun r => ∀ c : Dev Cert.SumSIdeal.nD,
          r.2.mem ((c.tc : Thread Cert.SumSIdeal.nD Cert.SumSIdeal.τ).loc Cert.SumSIdeal.main_v0) = v0 c
          ∧ r.2.mem ((c.tc : Thread Cert.SumSIdeal.nD Cert.SumSIdeal.τ).loc Cert.SumSIdeal.main_arg0) = m ((c.tc : Thread Cert.SumSIdeal.nD Cert.SumSIdeal.τ).loc Cert.SumSIdeal.main_arg0)
          ∧ r.2.mem ((c.tc : Thread Cert.SumSIdeal.nD Cert.SumSIdeal.τ).loc Cert.SumSIdeal.main_arg1) = m ((c.tc : Thread Cert.SumSIdeal.nD Cert.SumSIdeal.τ).loc Cert.SumSIdeal.main_arg1)
          ∧ r.2.mem ((c.tc : Thread Cert.SumSIdeal.nD Cert.SumSIdeal.τ).loc Cert.SumSIdeal.main_arg2) = m ((c.tc : Thread Cert.SumSIdeal.nD Cert.SumSIdeal.τ).loc Cert.SumSIdeal.main_arg2))
      ∧ θ_run (Cert.SumSRefIdeal.defs (F := Ideal)) (onTc (τ := Cert.SumSRefIdeal.τ) (Cert.SumSRefIdeal.main (F := Ideal))) ⟨m', fun _ => 0, g'⟩ (fun r => ∀ c : Dev Cert.SumSRefIdeal.nD,
          r.2.mem ((c.tc : Thread Cert.SumSRefIdeal.nD Cert.SumSRefIdeal.τ).loc Cert.SumSRefIdeal.main_v7) = v0 c
          ∧ r.2.mem ((c.tc : Thread Cert.SumSRefIdeal.nD Cert.SumSRefIdeal.τ).loc Cert.SumSRefIdeal.main_arg0) = m' ((c.tc : Thread Cert.SumSRefIdeal.nD Cert.SumSRefIdeal.τ).loc Cert.SumSRefIdeal.main_arg0)
          ∧ r.2.mem ((c.tc : Thread Cert.SumSRefIdeal.nD Cert.SumSRefIdeal.τ).loc Cert.SumSRefIdeal.main_arg1) = m' ((c.tc : Thread Cert.SumSRefIdeal.nD Cert.SumSRefIdeal.τ).loc Cert.SumSRefIdeal.main_arg1)
          ∧ r.2.mem ((c.tc : Thread Cert.SumSRefIdeal.nD Cert.SumSRefIdeal.τ).loc Cert.SumSRefIdeal.main_arg2) = m' ((c.tc : Thread Cert.SumSRefIdeal.nD Cert.SumSRefIdeal.τ).loc Cert.SumSRefIdeal.main_arg2))

def preserves_SumI_SumIIdeal : Prop :=
  True

def algebraic_SumIIdeal_SumIRefIdeal [hSumIIdeal : Cert.SumIIdeal.Facts] [hSumIRefIdeal : Cert.SumIRefIdeal.Facts] : Prop :=
  ∀ (m : (ℓ : Loc Cert.SumIIdeal.nD Cert.SumIIdeal.τ Cert.SumIIdeal.sig) → Buf (Elt Ideal) ℓ) (g : Dev Cert.SumIIdeal.nD → PrngReg)
    (m' : (ℓ : Loc Cert.SumIRefIdeal.nD Cert.SumIRefIdeal.τ Cert.SumIRefIdeal.sig) → Buf (Elt Ideal) ℓ) (g' : Dev Cert.SumIRefIdeal.nD → PrngReg), Pre_SumIIdeal m →
    (∀ c : Dev Cert.SumIIdeal.nD,
      m' ((c.tc : Thread Cert.SumIRefIdeal.nD Cert.SumIRefIdeal.τ).loc Cert.SumIRefIdeal.main_arg0) = m ((c.tc : Thread Cert.SumIIdeal.nD Cert.SumIIdeal.τ).loc Cert.SumIIdeal.main_arg0)
      ∧ m' ((c.tc : Thread Cert.SumIRefIdeal.nD Cert.SumIRefIdeal.τ).loc Cert.SumIRefIdeal.main_arg1) = m ((c.tc : Thread Cert.SumIIdeal.nD Cert.SumIIdeal.τ).loc Cert.SumIIdeal.main_arg1)
      ∧ m' ((c.tc : Thread Cert.SumIRefIdeal.nD Cert.SumIRefIdeal.τ).loc Cert.SumIRefIdeal.main_arg2) = m ((c.tc : Thread Cert.SumIIdeal.nD Cert.SumIIdeal.τ).loc Cert.SumIIdeal.main_arg2)
      ∧ m' ((c.tc : Thread Cert.SumIRefIdeal.nD Cert.SumIRefIdeal.τ).loc Cert.SumIRefIdeal.main_arg3) = m ((c.tc : Thread Cert.SumIIdeal.nD Cert.SumIIdeal.τ).loc Cert.SumIIdeal.main_arg3)) →
    ∃ (v0 : (c : Dev Cert.SumIIdeal.nD) → Buf (Elt Ideal) ((c.tc : Thread Cert.SumIIdeal.nD Cert.SumIIdeal.τ).loc Cert.SumIIdeal.main_v0)),
      θ_run (Cert.SumIIdeal.defs (F := Ideal)) (onTc (τ := Cert.SumIIdeal.τ) (Cert.SumIIdeal.main (F := Ideal))) ⟨m, fun _ => 0, g⟩ (fun r => ∀ c : Dev Cert.SumIIdeal.nD,
          r.2.mem ((c.tc : Thread Cert.SumIIdeal.nD Cert.SumIIdeal.τ).loc Cert.SumIIdeal.main_v0) = v0 c
          ∧ r.2.mem ((c.tc : Thread Cert.SumIIdeal.nD Cert.SumIIdeal.τ).loc Cert.SumIIdeal.main_arg0) = m ((c.tc : Thread Cert.SumIIdeal.nD Cert.SumIIdeal.τ).loc Cert.SumIIdeal.main_arg0)
          ∧ r.2.mem ((c.tc : Thread Cert.SumIIdeal.nD Cert.SumIIdeal.τ).loc Cert.SumIIdeal.main_arg1) = m ((c.tc : Thread Cert.SumIIdeal.nD Cert.SumIIdeal.τ).loc Cert.SumIIdeal.main_arg1)
          ∧ r.2.mem ((c.tc : Thread Cert.SumIIdeal.nD Cert.SumIIdeal.τ).loc Cert.SumIIdeal.main_arg2) = m ((c.tc : Thread Cert.SumIIdeal.nD Cert.SumIIdeal.τ).loc Cert.SumIIdeal.main_arg2)
          ∧ r.2.mem ((c.tc : Thread Cert.SumIIdeal.nD Cert.SumIIdeal.τ).loc Cert.SumIIdeal.main_arg3) = m ((c.tc : Thread Cert.SumIIdeal.nD Cert.SumIIdeal.τ).loc Cert.SumIIdeal.main_arg3))
      ∧ θ_run (Cert.SumIRefIdeal.defs (F := Ideal)) (onTc (τ := Cert.SumIRefIdeal.τ) (Cert.SumIRefIdeal.main (F := Ideal))) ⟨m', fun _ => 0, g'⟩ (fun r => ∀ c : Dev Cert.SumIRefIdeal.nD,
          r.2.mem ((c.tc : Thread Cert.SumIRefIdeal.nD Cert.SumIRefIdeal.τ).loc Cert.SumIRefIdeal.main_v13) = v0 c
          ∧ r.2.mem ((c.tc : Thread Cert.SumIRefIdeal.nD Cert.SumIRefIdeal.τ).loc Cert.SumIRefIdeal.main_arg0) = m' ((c.tc : Thread Cert.SumIRefIdeal.nD Cert.SumIRefIdeal.τ).loc Cert.SumIRefIdeal.main_arg0)
          ∧ r.2.mem ((c.tc : Thread Cert.SumIRefIdeal.nD Cert.SumIRefIdeal.τ).loc Cert.SumIRefIdeal.main_arg1) = m' ((c.tc : Thread Cert.SumIRefIdeal.nD Cert.SumIRefIdeal.τ).loc Cert.SumIRefIdeal.main_arg1)
          ∧ r.2.mem ((c.tc : Thread Cert.SumIRefIdeal.nD Cert.SumIRefIdeal.τ).loc Cert.SumIRefIdeal.main_arg2) = m' ((c.tc : Thread Cert.SumIRefIdeal.nD Cert.SumIRefIdeal.τ).loc Cert.SumIRefIdeal.main_arg2)
          ∧ r.2.mem ((c.tc : Thread Cert.SumIRefIdeal.nD Cert.SumIRefIdeal.τ).loc Cert.SumIRefIdeal.main_arg3) = m' ((c.tc : Thread Cert.SumIRefIdeal.nD Cert.SumIRefIdeal.τ).loc Cert.SumIRefIdeal.main_arg3))

def preserves_SumA_SumAIdeal : Prop :=
  True

def algebraic_SumAIdeal_SumARefIdeal [hSumAIdeal : Cert.SumAIdeal.Facts] [hSumARefIdeal : Cert.SumARefIdeal.Facts] : Prop :=
  ∀ (m : (ℓ : Loc Cert.SumAIdeal.nD Cert.SumAIdeal.τ Cert.SumAIdeal.sig) → Buf (Elt Ideal) ℓ) (g : Dev Cert.SumAIdeal.nD → PrngReg)
    (m' : (ℓ : Loc Cert.SumARefIdeal.nD Cert.SumARefIdeal.τ Cert.SumARefIdeal.sig) → Buf (Elt Ideal) ℓ) (g' : Dev Cert.SumARefIdeal.nD → PrngReg), Pre_SumAIdeal m →
    (∀ c : Dev Cert.SumAIdeal.nD,
      m' ((c.tc : Thread Cert.SumARefIdeal.nD Cert.SumARefIdeal.τ).loc Cert.SumARefIdeal.main_arg0) = m ((c.tc : Thread Cert.SumAIdeal.nD Cert.SumAIdeal.τ).loc Cert.SumAIdeal.main_arg0)
      ∧ m' ((c.tc : Thread Cert.SumARefIdeal.nD Cert.SumARefIdeal.τ).loc Cert.SumARefIdeal.main_arg1) = m ((c.tc : Thread Cert.SumAIdeal.nD Cert.SumAIdeal.τ).loc Cert.SumAIdeal.main_arg1)) →
    ∃ (v0 : (c : Dev Cert.SumAIdeal.nD) → Buf (Elt Ideal) ((c.tc : Thread Cert.SumAIdeal.nD Cert.SumAIdeal.τ).loc Cert.SumAIdeal.main_v0)),
      θ_run (Cert.SumAIdeal.defs (F := Ideal)) (onTc (τ := Cert.SumAIdeal.τ) (Cert.SumAIdeal.main (F := Ideal))) ⟨m, fun _ => 0, g⟩ (fun r => ∀ c : Dev Cert.SumAIdeal.nD,
          r.2.mem ((c.tc : Thread Cert.SumAIdeal.nD Cert.SumAIdeal.τ).loc Cert.SumAIdeal.main_v0) = v0 c
          ∧ r.2.mem ((c.tc : Thread Cert.SumAIdeal.nD Cert.SumAIdeal.τ).loc Cert.SumAIdeal.main_arg0) = m ((c.tc : Thread Cert.SumAIdeal.nD Cert.SumAIdeal.τ).loc Cert.SumAIdeal.main_arg0)
          ∧ r.2.mem ((c.tc : Thread Cert.SumAIdeal.nD Cert.SumAIdeal.τ).loc Cert.SumAIdeal.main_arg1) = m ((c.tc : Thread Cert.SumAIdeal.nD Cert.SumAIdeal.τ).loc Cert.SumAIdeal.main_arg1))
      ∧ θ_run (Cert.SumARefIdeal.defs (F := Ideal)) (onTc (τ := Cert.SumARefIdeal.τ) (Cert.SumARefIdeal.main (F := Ideal))) ⟨m', fun _ => 0, g'⟩ (fun r => ∀ c : Dev Cert.SumARefIdeal.nD,
          r.2.mem ((c.tc : Thread Cert.SumARefIdeal.nD Cert.SumARefIdeal.τ).loc Cert.SumARefIdeal.main_v3) = v0 c
          ∧ r.2.mem ((c.tc : Thread Cert.SumARefIdeal.nD Cert.SumARefIdeal.τ).loc Cert.SumARefIdeal.main_arg0) = m' ((c.tc : Thread Cert.SumARefIdeal.nD Cert.SumARefIdeal.τ).loc Cert.SumARefIdeal.main_arg0)
          ∧ r.2.mem ((c.tc : Thread Cert.SumARefIdeal.nD Cert.SumARefIdeal.τ).loc Cert.SumARefIdeal.main_arg1) = m' ((c.tc : Thread Cert.SumARefIdeal.nD Cert.SumARefIdeal.τ).loc Cert.SumARefIdeal.main_arg1))

def Claim : Prop :=
  ∃ (hConv : Cert.Conv.Facts) (hConvIdeal : Cert.ConvIdeal.Facts) (hConvRefIdeal : Cert.ConvRefIdeal.Facts) (hIn : Cert.In.Facts) (hInIdeal : Cert.InIdeal.Facts) (hInRefIdeal : Cert.InRefIdeal.Facts) (hNormIn : Cert.NormIn.Facts) (hNormInIdeal : Cert.NormInIdeal.Facts) (hNormInRefIdeal : Cert.NormInRefIdeal.Facts) (hFfIn : Cert.FfIn.Facts) (hFfInIdeal : Cert.FfInIdeal.Facts) (hFfInRefIdeal : Cert.FfInRefIdeal.Facts) (hDw : Cert.Dw.Facts) (hDwIdeal : Cert.DwIdeal.Facts) (hDwRefIdeal : Cert.DwRefIdeal.Facts) (hOutIn : Cert.OutIn.Facts) (hOutInIdeal : Cert.OutInIdeal.Facts) (hOutInRefIdeal : Cert.OutInRefIdeal.Facts) (hProj : Cert.Proj.Facts) (hProjIdeal : Cert.ProjIdeal.Facts) (hProjRefIdeal : Cert.ProjRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hOut : Cert.Out.Facts) (hOutIdeal : Cert.OutIdeal.Facts) (hOutRefIdeal : Cert.OutRefIdeal.Facts) (hLast : Cert.Last.Facts) (hLastIdeal : Cert.LastIdeal.Facts) (hLastRefIdeal : Cert.LastRefIdeal.Facts) (hMerge : Cert.Merge.Facts) (hMergeIdeal : Cert.MergeIdeal.Facts) (hMergeRefIdeal : Cert.MergeRefIdeal.Facts) (hLoss : Cert.Loss.Facts) (hLossIdeal : Cert.LossIdeal.Facts) (hLossRefIdeal : Cert.LossRefIdeal.Facts) (hAdamT : Cert.AdamT.Facts) (hAdamTIdeal : Cert.AdamTIdeal.Facts) (hAdamTRefIdeal : Cert.AdamTRefIdeal.Facts) (hAdamG : Cert.AdamG.Facts) (hAdamGIdeal : Cert.AdamGIdeal.Facts) (hAdamGRefIdeal : Cert.AdamGRefIdeal.Facts) (hAdamA : Cert.AdamA.Facts) (hAdamAIdeal : Cert.AdamAIdeal.Facts) (hAdamARefIdeal : Cert.AdamARefIdeal.Facts) (hAdamO : Cert.AdamO.Facts) (hAdamOIdeal : Cert.AdamOIdeal.Facts) (hAdamORefIdeal : Cert.AdamORefIdeal.Facts) (hAdamF : Cert.AdamF.Facts) (hAdamFIdeal : Cert.AdamFIdeal.Facts) (hAdamFRefIdeal : Cert.AdamFRefIdeal.Facts) (hAdamI : Cert.AdamI.Facts) (hAdamIIdeal : Cert.AdamIIdeal.Facts) (hAdamIRefIdeal : Cert.AdamIRefIdeal.Facts) (hAdamN : Cert.AdamN.Facts) (hAdamNIdeal : Cert.AdamNIdeal.Facts) (hAdamNRefIdeal : Cert.AdamNRefIdeal.Facts) (hAdamB : Cert.AdamB.Facts) (hAdamBIdeal : Cert.AdamBIdeal.Facts) (hAdamBRefIdeal : Cert.AdamBRefIdeal.Facts) (hAdamS : Cert.AdamS.Facts) (hAdamSIdeal : Cert.AdamSIdeal.Facts) (hAdamSRefIdeal : Cert.AdamSRefIdeal.Facts) (hAdamC : Cert.AdamC.Facts) (hAdamCIdeal : Cert.AdamCIdeal.Facts) (hAdamCRefIdeal : Cert.AdamCRefIdeal.Facts) (hAdamH : Cert.AdamH.Facts) (hAdamHIdeal : Cert.AdamHIdeal.Facts) (hAdamHRefIdeal : Cert.AdamHRefIdeal.Facts) (hMixC : Cert.MixC.Facts) (hMixCIdeal : Cert.MixCIdeal.Facts) (hMixCRefIdeal : Cert.MixCRefIdeal.Facts) (hMixP : Cert.MixP.Facts) (hMixPIdeal : Cert.MixPIdeal.Facts) (hMixPRefIdeal : Cert.MixPRefIdeal.Facts) (hMixA : Cert.MixA.Facts) (hMixAIdeal : Cert.MixAIdeal.Facts) (hMixARefIdeal : Cert.MixARefIdeal.Facts) (hSumR : Cert.SumR.Facts) (hSumRIdeal : Cert.SumRIdeal.Facts) (hSumRRefIdeal : Cert.SumRRefIdeal.Facts) (hSumS : Cert.SumS.Facts) (hSumSIdeal : Cert.SumSIdeal.Facts) (hSumSRefIdeal : Cert.SumSRefIdeal.Facts) (hSumI : Cert.SumI.Facts) (hSumIIdeal : Cert.SumIIdeal.Facts) (hSumIRefIdeal : Cert.SumIRefIdeal.Facts) (hSumA : Cert.SumA.Facts) (hSumAIdeal : Cert.SumAIdeal.Facts) (hSumARefIdeal : Cert.SumARefIdeal.Facts) (hPre_finite_in : Cert.Pre_finite_in.Facts) (hPre_finite_norm_in : Cert.Pre_finite_norm_in.Facts),
    quiescent_Conv (hConv := hConv)
    ∧ quiescent_ConvIdeal (hConvIdeal := hConvIdeal)
    ∧ quiescent_ConvRefIdeal (hConvRefIdeal := hConvRefIdeal)
    ∧ quiescent_In (hIn := hIn)
    ∧ quiescent_InIdeal (hInIdeal := hInIdeal)
    ∧ quiescent_InIdeal_pre_finite_in (hInIdeal := hInIdeal) (hPre_finite_in := hPre_finite_in)
    ∧ quiescent_InRefIdeal (hInRefIdeal := hInRefIdeal)
    ∧ quiescent_InRefIdeal_pre_finite_in (hInRefIdeal := hInRefIdeal) (hPre_finite_in := hPre_finite_in)
    ∧ quiescent_NormIn (hNormIn := hNormIn)
    ∧ quiescent_NormInIdeal (hNormInIdeal := hNormInIdeal)
    ∧ quiescent_NormInIdeal_pre_finite_norm_in (hNormInIdeal := hNormInIdeal) (hPre_finite_norm_in := hPre_finite_norm_in)
    ∧ quiescent_NormInRefIdeal (hNormInRefIdeal := hNormInRefIdeal)
    ∧ quiescent_NormInRefIdeal_pre_finite_norm_in (hNormInRefIdeal := hNormInRefIdeal) (hPre_finite_norm_in := hPre_finite_norm_in)
    ∧ quiescent_FfIn (hFfIn := hFfIn)
    ∧ quiescent_FfInIdeal (hFfInIdeal := hFfInIdeal)
    ∧ quiescent_FfInRefIdeal (hFfInRefIdeal := hFfInRefIdeal)
    ∧ quiescent_Dw (hDw := hDw)
    ∧ quiescent_DwIdeal (hDwIdeal := hDwIdeal)
    ∧ quiescent_DwRefIdeal (hDwRefIdeal := hDwRefIdeal)
    ∧ quiescent_OutIn (hOutIn := hOutIn)
    ∧ quiescent_OutInIdeal (hOutInIdeal := hOutInIdeal)
    ∧ quiescent_OutInRefIdeal (hOutInRefIdeal := hOutInRefIdeal)
    ∧ quiescent_Proj (hProj := hProj)
    ∧ quiescent_ProjIdeal (hProjIdeal := hProjIdeal)
    ∧ quiescent_ProjRefIdeal (hProjRefIdeal := hProjRefIdeal)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_Out (hOut := hOut)
    ∧ quiescent_OutIdeal (hOutIdeal := hOutIdeal)
    ∧ quiescent_OutRefIdeal (hOutRefIdeal := hOutRefIdeal)
    ∧ quiescent_Last (hLast := hLast)
    ∧ quiescent_LastIdeal (hLastIdeal := hLastIdeal)
    ∧ quiescent_LastRefIdeal (hLastRefIdeal := hLastRefIdeal)
    ∧ quiescent_Merge (hMerge := hMerge)
    ∧ quiescent_MergeIdeal (hMergeIdeal := hMergeIdeal)
    ∧ quiescent_MergeRefIdeal (hMergeRefIdeal := hMergeRefIdeal)
    ∧ quiescent_Loss (hLoss := hLoss)
    ∧ quiescent_LossIdeal (hLossIdeal := hLossIdeal)
    ∧ quiescent_LossRefIdeal (hLossRefIdeal := hLossRefIdeal)
    ∧ quiescent_AdamT (hAdamT := hAdamT)
    ∧ quiescent_AdamTIdeal (hAdamTIdeal := hAdamTIdeal)
    ∧ quiescent_AdamTRefIdeal (hAdamTRefIdeal := hAdamTRefIdeal)
    ∧ quiescent_AdamG (hAdamG := hAdamG)
    ∧ quiescent_AdamGIdeal (hAdamGIdeal := hAdamGIdeal)
    ∧ quiescent_AdamGRefIdeal (hAdamGRefIdeal := hAdamGRefIdeal)
    ∧ quiescent_AdamA (hAdamA := hAdamA)
    ∧ quiescent_AdamAIdeal (hAdamAIdeal := hAdamAIdeal)
    ∧ quiescent_AdamARefIdeal (hAdamARefIdeal := hAdamARefIdeal)
    ∧ quiescent_AdamO (hAdamO := hAdamO)
    ∧ quiescent_AdamOIdeal (hAdamOIdeal := hAdamOIdeal)
    ∧ quiescent_AdamORefIdeal (hAdamORefIdeal := hAdamORefIdeal)
    ∧ quiescent_AdamF (hAdamF := hAdamF)
    ∧ quiescent_AdamFIdeal (hAdamFIdeal := hAdamFIdeal)
    ∧ quiescent_AdamFRefIdeal (hAdamFRefIdeal := hAdamFRefIdeal)
    ∧ quiescent_AdamI (hAdamI := hAdamI)
    ∧ quiescent_AdamIIdeal (hAdamIIdeal := hAdamIIdeal)
    ∧ quiescent_AdamIRefIdeal (hAdamIRefIdeal := hAdamIRefIdeal)
    ∧ quiescent_AdamN (hAdamN := hAdamN)
    ∧ quiescent_AdamNIdeal (hAdamNIdeal := hAdamNIdeal)
    ∧ quiescent_AdamNRefIdeal (hAdamNRefIdeal := hAdamNRefIdeal)
    ∧ quiescent_AdamB (hAdamB := hAdamB)
    ∧ quiescent_AdamBIdeal (hAdamBIdeal := hAdamBIdeal)
    ∧ quiescent_AdamBRefIdeal (hAdamBRefIdeal := hAdamBRefIdeal)
    ∧ quiescent_AdamS (hAdamS := hAdamS)
    ∧ quiescent_AdamSIdeal (hAdamSIdeal := hAdamSIdeal)
    ∧ quiescent_AdamSRefIdeal (hAdamSRefIdeal := hAdamSRefIdeal)
    ∧ quiescent_AdamC (hAdamC := hAdamC)
    ∧ quiescent_AdamCIdeal (hAdamCIdeal := hAdamCIdeal)
    ∧ quiescent_AdamCRefIdeal (hAdamCRefIdeal := hAdamCRefIdeal)
    ∧ quiescent_AdamH (hAdamH := hAdamH)
    ∧ quiescent_AdamHIdeal (hAdamHIdeal := hAdamHIdeal)
    ∧ quiescent_AdamHRefIdeal (hAdamHRefIdeal := hAdamHRefIdeal)
    ∧ quiescent_MixC (hMixC := hMixC)
    ∧ quiescent_MixCIdeal (hMixCIdeal := hMixCIdeal)
    ∧ quiescent_MixCRefIdeal (hMixCRefIdeal := hMixCRefIdeal)
    ∧ quiescent_MixP (hMixP := hMixP)
    ∧ quiescent_MixPIdeal (hMixPIdeal := hMixPIdeal)
    ∧ quiescent_MixPRefIdeal (hMixPRefIdeal := hMixPRefIdeal)
    ∧ quiescent_MixA (hMixA := hMixA)
    ∧ quiescent_MixAIdeal (hMixAIdeal := hMixAIdeal)
    ∧ quiescent_MixARefIdeal (hMixARefIdeal := hMixARefIdeal)
    ∧ quiescent_SumR (hSumR := hSumR)
    ∧ quiescent_SumRIdeal (hSumRIdeal := hSumRIdeal)
    ∧ quiescent_SumRRefIdeal (hSumRRefIdeal := hSumRRefIdeal)
    ∧ quiescent_SumS (hSumS := hSumS)
    ∧ quiescent_SumSIdeal (hSumSIdeal := hSumSIdeal)
    ∧ quiescent_SumSRefIdeal (hSumSRefIdeal := hSumSRefIdeal)
    ∧ quiescent_SumI (hSumI := hSumI)
    ∧ quiescent_SumIIdeal (hSumIIdeal := hSumIIdeal)
    ∧ quiescent_SumIRefIdeal (hSumIRefIdeal := hSumIRefIdeal)
    ∧ quiescent_SumA (hSumA := hSumA)
    ∧ quiescent_SumAIdeal (hSumAIdeal := hSumAIdeal)
    ∧ quiescent_SumARefIdeal (hSumARefIdeal := hSumARefIdeal)
    ∧ preserves_Conv_ConvIdeal
    ∧ algebraic_ConvIdeal_ConvRefIdeal (hConvIdeal := hConvIdeal) (hConvRefIdeal := hConvRefIdeal)
    ∧ preserves_In_InIdeal
    ∧ algebraic_InIdeal_InRefIdeal_pre_finite_in (hInIdeal := hInIdeal) (hInRefIdeal := hInRefIdeal) (hPre_finite_in := hPre_finite_in)
    ∧ preserves_NormIn_NormInIdeal
    ∧ algebraic_NormInIdeal_NormInRefIdeal_pre_finite_norm_in (hNormInIdeal := hNormInIdeal) (hNormInRefIdeal := hNormInRefIdeal) (hPre_finite_norm_in := hPre_finite_norm_in)
    ∧ preserves_FfIn_FfInIdeal
    ∧ algebraic_FfInIdeal_FfInRefIdeal (hFfInIdeal := hFfInIdeal) (hFfInRefIdeal := hFfInRefIdeal)
    ∧ preserves_Dw_DwIdeal
    ∧ algebraic_DwIdeal_DwRefIdeal (hDwIdeal := hDwIdeal) (hDwRefIdeal := hDwRefIdeal)
    ∧ preserves_OutIn_OutInIdeal
    ∧ algebraic_OutInIdeal_OutInRefIdeal (hOutInIdeal := hOutInIdeal) (hOutInRefIdeal := hOutInRefIdeal)
    ∧ preserves_Proj_ProjIdeal
    ∧ algebraic_ProjIdeal_ProjRefIdeal (hProjIdeal := hProjIdeal) (hProjRefIdeal := hProjRefIdeal)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_Out_OutIdeal
    ∧ algebraic_OutIdeal_OutRefIdeal (hOutIdeal := hOutIdeal) (hOutRefIdeal := hOutRefIdeal)
    ∧ preserves_Last_LastIdeal
    ∧ algebraic_LastIdeal_LastRefIdeal (hLastIdeal := hLastIdeal) (hLastRefIdeal := hLastRefIdeal)
    ∧ preserves_Merge_MergeIdeal
    ∧ algebraic_MergeIdeal_MergeRefIdeal (hMergeIdeal := hMergeIdeal) (hMergeRefIdeal := hMergeRefIdeal)
    ∧ preserves_Loss_LossIdeal
    ∧ algebraic_LossIdeal_LossRefIdeal (hLossIdeal := hLossIdeal) (hLossRefIdeal := hLossRefIdeal)
    ∧ preserves_AdamT_AdamTIdeal
    ∧ algebraic_AdamTIdeal_AdamTRefIdeal (hAdamTIdeal := hAdamTIdeal) (hAdamTRefIdeal := hAdamTRefIdeal)
    ∧ preserves_AdamG_AdamGIdeal
    ∧ algebraic_AdamGIdeal_AdamGRefIdeal (hAdamGIdeal := hAdamGIdeal) (hAdamGRefIdeal := hAdamGRefIdeal)
    ∧ preserves_AdamA_AdamAIdeal
    ∧ algebraic_AdamAIdeal_AdamARefIdeal (hAdamAIdeal := hAdamAIdeal) (hAdamARefIdeal := hAdamARefIdeal)
    ∧ preserves_AdamO_AdamOIdeal
    ∧ algebraic_AdamOIdeal_AdamORefIdeal (hAdamOIdeal := hAdamOIdeal) (hAdamORefIdeal := hAdamORefIdeal)
    ∧ preserves_AdamF_AdamFIdeal
    ∧ algebraic_AdamFIdeal_AdamFRefIdeal (hAdamFIdeal := hAdamFIdeal) (hAdamFRefIdeal := hAdamFRefIdeal)
    ∧ preserves_AdamI_AdamIIdeal
    ∧ algebraic_AdamIIdeal_AdamIRefIdeal (hAdamIIdeal := hAdamIIdeal) (hAdamIRefIdeal := hAdamIRefIdeal)
    ∧ preserves_AdamN_AdamNIdeal
    ∧ algebraic_AdamNIdeal_AdamNRefIdeal (hAdamNIdeal := hAdamNIdeal) (hAdamNRefIdeal := hAdamNRefIdeal)
    ∧ preserves_AdamB_AdamBIdeal
    ∧ algebraic_AdamBIdeal_AdamBRefIdeal (hAdamBIdeal := hAdamBIdeal) (hAdamBRefIdeal := hAdamBRefIdeal)
    ∧ preserves_AdamS_AdamSIdeal
    ∧ algebraic_AdamSIdeal_AdamSRefIdeal (hAdamSIdeal := hAdamSIdeal) (hAdamSRefIdeal := hAdamSRefIdeal)
    ∧ preserves_AdamC_AdamCIdeal
    ∧ algebraic_AdamCIdeal_AdamCRefIdeal (hAdamCIdeal := hAdamCIdeal) (hAdamCRefIdeal := hAdamCRefIdeal)
    ∧ preserves_AdamH_AdamHIdeal
    ∧ algebraic_AdamHIdeal_AdamHRefIdeal (hAdamHIdeal := hAdamHIdeal) (hAdamHRefIdeal := hAdamHRefIdeal)
    ∧ preserves_MixC_MixCIdeal
    ∧ algebraic_MixCIdeal_MixCRefIdeal (hMixCIdeal := hMixCIdeal) (hMixCRefIdeal := hMixCRefIdeal)
    ∧ preserves_MixP_MixPIdeal
    ∧ algebraic_MixPIdeal_MixPRefIdeal (hMixPIdeal := hMixPIdeal) (hMixPRefIdeal := hMixPRefIdeal)
    ∧ preserves_MixA_MixAIdeal
    ∧ algebraic_MixAIdeal_MixARefIdeal (hMixAIdeal := hMixAIdeal) (hMixARefIdeal := hMixARefIdeal)
    ∧ preserves_SumR_SumRIdeal
    ∧ algebraic_SumRIdeal_SumRRefIdeal (hSumRIdeal := hSumRIdeal) (hSumRRefIdeal := hSumRRefIdeal)
    ∧ preserves_SumS_SumSIdeal
    ∧ algebraic_SumSIdeal_SumSRefIdeal (hSumSIdeal := hSumSIdeal) (hSumSRefIdeal := hSumSRefIdeal)
    ∧ preserves_SumI_SumIIdeal
    ∧ algebraic_SumIIdeal_SumIRefIdeal (hSumIIdeal := hSumIIdeal) (hSumIRefIdeal := hSumIRefIdeal)
    ∧ preserves_SumA_SumAIdeal
    ∧ algebraic_SumAIdeal_SumARefIdeal (hSumAIdeal := hSumAIdeal) (hSumARefIdeal := hSumARefIdeal)
-- ==== Pre_finite_in.lean ====
abbrev S4096x7424 : Shape := ⟨2, ![4096, 7424]⟩
abbrev S4096x1024 : Shape := ⟨2, ![4096, 1024]⟩
abbrev S1x1024 : Shape := ⟨2, ![1, 1024]⟩
abbrev S1024x7424 : Shape := ⟨2, ![1024, 7424]⟩
abbrev S_ : Shape := ⟨0, ![]⟩

class Facts : Prop where
  bcast_S_S4096x7424 : S_.BroadcastsInDim S4096x7424 (![] : Fin 0 → Fin S4096x7424.rank)
  reducesTo_S4096x7424_S_d0_1 : S4096x7424.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S1024x7424 : S_.BroadcastsInDim S1024x7424 (![] : Fin 0 → Fin S1024x7424.rank)
  reducesTo_S1024x7424_S_d0_1 : S1024x7424.ReducesTo [0, 1] S_

variable [Facts]

def fn_part1 {F : FTy → Type} [FloatOps F] (main_v13 : IVec S_ 1) (main_v16 : IVec S1024x7424 1) : IVec S_ 1 :=
  let main_c_5 : IVec S_ 1 := constantI S_ 1 1#1
  let main_v17 : IVec S_ 1 := (fun x v => Host.reduce IntOp.andi x v reducesTo_S1024x7424_S_d0_1 h_S_) main_v16 main_c_5
  let main_v18 : IVec S_ 1 := andi main_v13 main_v17
  main_v18

def fn {F : FTy → Type} [FloatOps F] (main_arg0 : FVec F S4096x7424 .f32) (main_arg1 : FVec F S4096x1024 .f32) (main_arg2 : FVec F S4096x1024 .f32) (main_arg3 : FVec F S1x1024 .f32) (main_arg4 : FVec F S1024x7424 .f32) : IVec S_ 1 :=
  let main_v0 : FVec F S4096x7424 .f32 := Host.absf main_arg0
  let main_cst : FVec F S_ .f32 := constant S_ .f32 0x7F800000#32
  let main_v1 : FVec F S4096x7424 .f32 := broadcastInDim S4096x7424 ![] bcast_S_S4096x7424 main_cst
  let main_v2 : IVec S4096x7424 1 := cmpf .olt main_v0 main_v1
  let main_c : IVec S_ 1 := constantI S_ 1 1#1
  let main_v3 : IVec S_ 1 := (fun x v => Host.reduce IntOp.andi x v reducesTo_S4096x7424_S_d0_1 h_S_) main_v2 main_c
  let main_v4 : FVec F S4096x1024 .f32 := Host.absf main_arg2
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1024x7424 .f32 := Host.absf main_arg4
  let main_cst_4 : FVec F S_ .f32 := constant S_ .f32 0x7F800000#32
  let main_v15 : FVec F S1024x7424 .f32 := broadcastInDim S1024x7424 ![] bcast_S_S1024x7424 main_cst_4
  let main_v16 : IVec S1024x7424 1 := cmpf .olt main_v14 main_v15
  fn_part1 (F := F) main_v13 main_v16
-- ==== Pre_finite_norm_in.lean ====
abbrev S4096x4096 : Shape := ⟨2, ![4096, 4096]⟩
abbrev S4096x1024 : Shape := ⟨2, ![4096, 1024]⟩
abbrev S1x1024 : Shape := ⟨2, ![1, 1024]⟩
abbrev S1024x4096 : Shape := ⟨2, ![1024, 4096]⟩
abbrev S1024x1024 : Shape := ⟨2, ![1024, 1024]⟩
abbrev S512x1024 : Shape := ⟨2, ![512, 1024]⟩
abbrev S256x1024 : Shape := ⟨2, ![256, 1024]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S1024x4096 : S_.BroadcastsInDim S1024x4096 (![] : Fin 0 → Fin S1024x4096.rank)
  reducesTo_S1024x4096_S_d0_1 : S1024x4096.ReducesTo [0, 1] S_

variable [Facts]

def fn_part1 {F : FTy → Type} [FloatOps F] (main_v13 : IVec S_ 1) (main_v16 : IVec S1024x4096 1) : IVec S_ 1 :=
  let main_c_5 : IVec S_ 1 := constantI S_ 1 1#1
  let main_v17 : IVec S_ 1 := (fun x v => Host.reduce IntOp.andi x v reducesTo_S1024x4096_S_d0_1 h_S_) main_v16 main_c_5
  let main_v18 : IVec S_ 1 := andi main_v13 main_v17
  main_v18

def fn {F : FTy → Type} [FloatOps F] (main_arg0 : FVec F S4096x4096 .f32) (main_arg1 : FVec F S4096x1024 .f32) (main_arg2 : FVec F S4096x1024 .f32) (main_arg3 : FVec F S1x1024 .f32) (main_arg4 : FVec F S1024x4096 .f32) (main_arg5 : FVec F S4096x1024 .f32) (main_arg6 : FVec F S1024x1024 .f32) (main_arg7 : FVec F S512x1024 .f32) (main_arg8 : FVec F S512x1024 .f32) (main_arg9 : FVec F S256x1024 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x1024 .f32 := Host.absf main_arg2
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1024x4096 .f32 := Host.absf main_arg4
  let main_cst_4 : FVec F S_ .f32 := constant S_ .f32 0x7F800000#32
  let main_v15 : FVec F S1024x4096 .f32 := broadcastInDim S1024x4096 ![] bcast_S_S1024x4096 main_cst_4
  let main_v16 : IVec S1024x4096 1 := cmpf .olt main_v14 main_v15
  fn_part1 (F := F) main_v13 main_v16
-- ==== Conv.lean ====
abbrev S4096x7424 : Shape := ⟨2, ![4096, 7424]⟩
abbrev S4096x512 : Shape := ⟨2, ![4096, 512]⟩
abbrev S3x512 : Shape := ⟨2, ![3, 512]⟩
abbrev S4096x128 : Shape := ⟨2, ![4096, 128]⟩
abbrev S3x128 : Shape := ⟨2, ![3, 128]⟩
abbrev S1x128 : Shape := ⟨2, ![1, 128]⟩
abbrev S8x128 : Shape := ⟨2, ![8, 128]⟩
abbrev S16x128 : Shape := ⟨2, ![16, 128]⟩
abbrev S256x128 : Shape := ⟨2, ![256, 128]⟩
abbrev S288x128 : Shape := ⟨2, ![288, 128]⟩
abbrev S32x8x128 : Shape := ⟨3, ![32, 8, 128]⟩
abbrev S128 : Shape := ⟨1, ![128]⟩

abbrev nBuf : Space → Nat
  | .hbm => 7
  | .vmem => 18
  | .smem => 0
  | _ => 0

abbrev bufTy : (tb : Table) → Fin (tcTables nBuf tb) → BufTy
  | .hbm, ⟨0, _⟩ => ⟨S4096x7424, .f32⟩
  | .hbm, ⟨1, _⟩ => ⟨S4096x512, .f32⟩
  | .hbm, ⟨2, _⟩ => ⟨S3x512, .f32⟩
  | .hbm, ⟨3, _⟩ => ⟨S4096x512, .bf16⟩
  | .hbm, ⟨4, _⟩ => ⟨S4096x512, .bf16⟩
  | .hbm, ⟨5, _⟩ => ⟨S4096x512, .bf16⟩
  | .hbm, ⟨6, _⟩ => ⟨S3x512, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S4096x128, .f32⟩
  | .local _ .vmem, ⟨7, _⟩ => ⟨S4096x128, .f32⟩
  | .local _ .vmem, ⟨8, _⟩ => ⟨S3x128, .f32⟩
  | .local _ .vmem, ⟨9, _⟩ => ⟨S3x128, .f32⟩
  | .local _ .vmem, ⟨10, _⟩ => ⟨S4096x128, .bf16⟩
  | .local _ .vmem, ⟨11, _⟩ => ⟨S4096x128, .bf16⟩
  | .local _ .vmem, ⟨12, _⟩ => ⟨S4096x128, .bf16⟩
  | .local _ .vmem, ⟨13, _⟩ => ⟨S4096x128, .bf16⟩
  | .local _ .vmem, ⟨14, _⟩ => ⟨S4096x128, .bf16⟩
  | .local _ .vmem, ⟨15, _⟩ => ⟨S4096x128, .bf16⟩
  | .local _ .vmem, ⟨16, _⟩ => ⟨S3x128, .f32⟩
  | .local _ .vmem, ⟨17, _⟩ => ⟨S3x128, .f32⟩
  | _, _ => ⟨S4096x7424, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c16_i32 : BitVec 32 := 16#32
  let v4 : BitVec 32 := Scalar.addi c0_i32 c16_i32
  let c1_i32 : BitVec 32 := 1#32
  ⟨c0_i32, v4, c1_i32⟩
def k0_mult1 (k0_t1 : Fin k0_t1_loop.trips) : BitVec 32 :=
  let c0_i32 : BitVec 32 := 0#32
  let c1_i32 : BitVec 32 := 1#32
  let arg10 : BitVec 32 := Scf.iv c0_i32 c1_i32 k0_t1
  let c256_i32 : BitVec 32 := 256#32
  let v15 : BitVec 32 := Scalar.muli arg10 c256_i32
  v15
def k0_mult2 (k0_t1 : Fin k0_t1_loop.trips) : BitVec 32 :=
  let c0_i32 : BitVec 32 := 0#32
  let c1_i32 : BitVec 32 := 1#32
  let arg10 : BitVec 32 := Scf.iv c0_i32 c1_i32 k0_t1
  let c256_i32_13 : BitVec 32 := 256#32
  let v17 : BitVec 32 := Scalar.muli arg10 c256_i32_13
  v17
def k0_mult3 (k0_t1 : Fin k0_t1_loop.trips) : BitVec 32 :=
  let c0_i32 : BitVec 32 := 0#32
  let c1_i32 : BitVec 32 := 1#32
  let arg10 : BitVec 32 := Scf.iv c0_i32 c1_i32 k0_t1
  let c256_i32_13 : BitVec 32 := 256#32
  let v17 : BitVec 32 := Scalar.muli arg10 c256_i32_13
  let v18 : BitVec 32 := v17
  let c16_i32_14 : BitVec 32 := 16#32
  let v19 : BitVec 32 := Scalar.subi v18 c16_i32_14
  let c0_i32_15 : BitVec 32 := 0#32
  let v20 : BitVec 32 := Scalar.maxsi v19 c0_i32_15
  v20
def k0_off1 (k0_t1 : Fin k0_t1_loop.trips) : Fin 2 → Nat :=
  let c0_i32 : BitVec 32 := 0#32
  let c1_i32 : BitVec 32 := 1#32
  let arg10 : BitVec 32 := Scf.iv c0_i32 c1_i32 k0_t1
  let c256_i32_13 : BitVec 32 := 256#32
  let v17 : BitVec 32 := Scalar.muli arg10 c256_i32_13
  let v18 : BitVec 32 := v17
  let c16_i32_14 : BitVec 32 := 16#32
  let v19 : BitVec 32 := Scalar.subi v18 c16_i32_14
  let c0_i32_15 : BitVec 32 := 0#32
  let v20 : BitVec 32 := Scalar.maxsi v19 c0_i32_15
  let v21 : BitVec 32 := v20
  let v22 : Index := Scalar.indexCast v21
  let c0_16 : Index := 0#32
  ![v22.toNat, 0]
def k0_off2 (k0_t1 : Fin k0_t1_loop.trips) : Fin 2 → Nat :=
  let c0_i32 : BitVec 32 := 0#32
  let c1_i32 : BitVec 32 := 1#32
  let arg10 : BitVec 32 := Scf.iv c0_i32 c1_i32 k0_t1
  let c256_i32_13 : BitVec 32 := 256#32
  let v17 : BitVec 32 := Scalar.muli arg10 c256_i32_13
  let v18 : BitVec 32 := v17
  let v27 : Index := Scalar.indexCast v18
  let c0_19 : Index := 0#32
  ![v27.toNat, 0]
def k0_mult4 (k0_t1 : Fin k0_t1_loop.trips) : BitVec 32 :=
  let c0_i32 : BitVec 32 := 0#32
  let c1_i32 : BitVec 32 := 1#32
  let arg10 : BitVec 32 := Scf.iv c0_i32 c1_i32 k0_t1
  let c256_i32_13 : BitVec 32 := 256#32
  let v17 : BitVec 32 := Scalar.muli arg10 c256_i32_13
  let v18 : BitVec 32 := v17
  let c256_i32_20 : BitVec 32 := 256#32
  let v29 : BitVec 32 := Scalar.addi v18 c256_i32_20
  let c4080_i32 : BitVec 32 := 4080#32
  let v30 : BitVec 32 := Scalar.minsi v29 c4080_i32
  v30
def k0_off3 (k0_t1 : Fin k0_t1_loop.trips) : Fin 2 → Nat :=
  let c0_i32 : BitVec 32 := 0#32
  let c1_i32 : BitVec 32 := 1#32
  let arg10 : BitVec 32 := Scf.iv c0_i32 c1_i32 k0_t1
  let c256_i32_13 : BitVec 32 := 256#32
  let v17 : BitVec 32 := Scalar.muli arg10 c256_i32_13
  let v18 : BitVec 32 := v17
  let c256_i32_20 : BitVec 32 := 256#32
  let v29 : BitVec 32 := Scalar.addi v18 c256_i32_20
  let c4080_i32 : BitVec 32 := 4080#32
  let v30 : BitVec 32 := Scalar.minsi v29 c4080_i32
  let v31 : BitVec 32 := v30
  let v32 : Index := Scalar.indexCast v31
  let c0_21 : Index := 0#32
  ![v32.toNat, 0]
def k0_mult5 (k0_t1 : Fin k0_t1_loop.trips) : BitVec 32 :=
  let c0_i32 : BitVec 32 := 0#32
  let c1_i32 : BitVec 32 := 1#32
  let arg10 : BitVec 32 := Scf.iv c0_i32 c1_i32 k0_t1
  let c256_i32_23 : BitVec 32 := 256#32
  let v38 : BitVec 32 := Scalar.muli arg10 c256_i32_23
  v38
def k0_mult6 (k0_t1 : Fin k0_t1_loop.trips) : BitVec 32 :=
  let c0_i32 : BitVec 32 := 0#32
  let c1_i32 : BitVec 32 := 1#32
  let arg10 : BitVec 32 := Scf.iv c0_i32 c1_i32 k0_t1
  let c256_i32_23 : BitVec 32 := 256#32
  let v38 : BitVec 32 := Scalar.muli arg10 c256_i32_23
  let v39 : BitVec 32 := v38
  let c16_i32_24 : BitVec 32 := 16#32
  let v40 : BitVec 32 := Scalar.subi v39 c16_i32_24
  let c0_i32_25 : BitVec 32 := 0#32
  let v41 : BitVec 32 := Scalar.maxsi v40 c0_i32_25
  v41
def k0_mult7 (k0_t1 : Fin k0_t1_loop.trips) : BitVec 32 :=
  let c0_i32 : BitVec 32 := 0#32
  let c1_i32 : BitVec 32 := 1#32
  let arg10 : BitVec 32 := Scf.iv c0_i32 c1_i32 k0_t1
  let c256_i32_23 : BitVec 32 := 256#32
  let v38 : BitVec 32 := Scalar.muli arg10 c256_i32_23
  let v39 : BitVec 32 := v38
  let c256_i32_30 : BitVec 32 := 256#32
  let v50 : BitVec 32 := Scalar.addi v39 c256_i32_30
  let c4080_i32_31 : BitVec 32 := 4080#32
  let v51 : BitVec 32 := Scalar.minsi v50 c4080_i32_31
  v51
def k0_mult8 (k0_t1 : Fin k0_t1_loop.trips) : BitVec 32 :=
  let c0_i32 : BitVec 32 := 0#32
  let c1_i32 : BitVec 32 := 1#32
  let arg10 : BitVec 32 := Scf.iv c0_i32 c1_i32 k0_t1
  let c256_i32_35 : BitVec 32 := 256#32
  let v59 : BitVec 32 := Scalar.muli arg10 c256_i32_35
  v59
def k0_mult9 (k0_t1 : Fin k0_t1_loop.trips) : BitVec 32 :=
  let c0_i32 : BitVec 32 := 0#32
  let c1_i32 : BitVec 32 := 1#32
  let arg10 : BitVec 32 := Scf.iv c0_i32 c1_i32 k0_t1
  let c256_i32_35 : BitVec 32 := 256#32
  let v59 : BitVec 32 := Scalar.muli arg10 c256_i32_35
  let v60 : BitVec 32 := v59
  let c16_i32_36 : BitVec 32 := 16#32
  let v61 : BitVec 32 := Scalar.subi v60 c16_i32_36
  let c0_i32_37 : BitVec 32 := 0#32
  let v62 : BitVec 32 := Scalar.maxsi v61 c0_i32_37
  v62
def k0_mult10 (k0_t1 : Fin k0_t1_loop.trips) : BitVec 32 :=
  let c0_i32 : BitVec 32 := 0#32
  let c1_i32 : BitVec 32 := 1#32
  let arg10 : BitVec 32 := Scf.iv c0_i32 c1_i32 k0_t1
  let c256_i32_35 : BitVec 32 := 256#32
  let v59 : BitVec 32 := Scalar.muli arg10 c256_i32_35
  let v60 : BitVec 32 := v59
  let c256_i32_42 : BitVec 32 := 256#32
  let v71 : BitVec 32 := Scalar.addi v60 c256_i32_42
  let c4080_i32_43 : BitVec 32 := 4080#32
  let v72 : BitVec 32 := Scalar.minsi v71 c4080_i32_43
  v72
def k0_mult11 (k0_t1 : Fin k0_t1_loop.trips) : BitVec 32 :=
  let c0_i32 : BitVec 32 := 0#32
  let c1_i32 : BitVec 32 := 1#32
  let arg10 : BitVec 32 := Scf.iv c0_i32 c1_i32 k0_t1
  let c256_i32_47 : BitVec 32 := 256#32
  let v80 : BitVec 32 := Scalar.muli arg10 c256_i32_47
  v80
def k0_mult12 (k0_t1 : Fin k0_t1_loop.trips) : BitVec 32 :=
  let c0_i32 : BitVec 32 := 0#32
  let c1_i32 : BitVec 32 := 1#32
  let arg10 : BitVec 32 := Scf.iv c0_i32 c1_i32 k0_t1
  let c256_i32_47 : BitVec 32 := 256#32
  let v80 : BitVec 32 := Scalar.muli arg10 c256_i32_47
  let v81 : BitVec 32 := v80
  let c16_i32_48 : BitVec 32 := 16#32
  let v82 : BitVec 32 := Scalar.subi v81 c16_i32_48
  let c0_i32_49 : BitVec 32 := 0#32
  let v83 : BitVec 32 := Scalar.maxsi v82 c0_i32_49
  v83
def k0_mult13 (k0_t1 : Fin k0_t1_loop.trips) : BitVec 32 :=
  let c0_i32 : BitVec 32 := 0#32
  let c1_i32 : BitVec 32 := 1#32
  let arg10 : BitVec 32 := Scf.iv c0_i32 c1_i32 k0_t1
  let c256_i32_47 : BitVec 32 := 256#32
  let v80 : BitVec 32 := Scalar.muli arg10 c256_i32_47
  let v81 : BitVec 32 := v80
  let c256_i32_54 : BitVec 32 := 256#32
  let v92 : BitVec 32 := Scalar.addi v81 c256_i32_54
  let c4080_i32_55 : BitVec 32 := 4080#32
  let v93 : BitVec 32 := Scalar.minsi v92 c4080_i32_55
  v93
def cc0_transform_0 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4096x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S3x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ConvRefIdeal.lean ====
abbrev S4096x7424 : Shape := ⟨2, ![4096, 7424]⟩
abbrev S4096x512 : Shape := ⟨2, ![4096, 512]⟩
abbrev S3x512 : Shape := ⟨2, ![3, 512]⟩
abbrev S_ : Shape := ⟨0, ![]⟩
abbrev S2x512 : Shape := ⟨2, ![2, 512]⟩
abbrev S4098x512 : Shape := ⟨2, ![4098, 512]⟩
abbrev S1x512 : Shape := ⟨2, ![1, 512]⟩
abbrev S512 : Shape := ⟨1, ![512]⟩

abbrev nBuf : Space → Nat
  | .hbm => 85
  | .vmem => 0
  | .smem => 0
  | _ => 0

abbrev bufTy : (tb : Table) → Fin (tcTables nBuf tb) → BufTy
  | .hbm, ⟨0, _⟩ => ⟨S4096x7424, .f32⟩
  | .hbm, ⟨1, _⟩ => ⟨S4096x512, .f32⟩
  | .hbm, ⟨2, _⟩ => ⟨S3x512, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S_, .f32⟩
  | .hbm, ⟨8, _⟩ => ⟨S2x512, .f32⟩
  | .hbm, ⟨9, _⟩ => ⟨S4098x512, .f32⟩
  | .hbm, ⟨10, _⟩ => ⟨S_, .f32⟩
  | .hbm, ⟨11, _⟩ => ⟨S2x512, .f32⟩
  | .hbm, ⟨12, _⟩ => ⟨S1x512, .f32⟩
  | .hbm, ⟨13, _⟩ => ⟨S512, .f32⟩
  | .hbm, ⟨14, _⟩ => ⟨S4096x512, .f32⟩
  | .hbm, ⟨15, _⟩ => ⟨S1x512, .f32⟩
  | .hbm, ⟨16, _⟩ => ⟨S4096x512, .f32⟩
  | .hbm, ⟨17, _⟩ => ⟨S4096x512, .f32⟩
  | .hbm, ⟨18, _⟩ => ⟨S1x512, .f32⟩
  | .hbm, ⟨19, _⟩ => ⟨S512, .f32⟩
  | .hbm, ⟨20, _⟩ => ⟨S4096x512, .f32⟩
  | .hbm, ⟨21, _⟩ => ⟨S1x512, .f32⟩
  | .hbm, ⟨22, _⟩ => ⟨S4096x512, .f32⟩
  | .hbm, ⟨23, _⟩ => ⟨S4096x512, .f32⟩
  | .hbm, ⟨24, _⟩ => ⟨S4096x512, .f32⟩
  | .hbm, ⟨25, _⟩ => ⟨S1x512, .f32⟩
  | .hbm, ⟨26, _⟩ => ⟨S512, .f32⟩
  | .hbm, ⟨27, _⟩ => ⟨S4096x512, .f32⟩
  | .hbm, ⟨28, _⟩ => ⟨S1x512, .f32⟩
  | .hbm, ⟨29, _⟩ => ⟨S4096x512, .f32⟩
  | .hbm, ⟨30, _⟩ => ⟨S4096x512, .f32⟩
  | .hbm, ⟨31, _⟩ => ⟨S4096x512, .f32⟩
  | .hbm, ⟨32, _⟩ => ⟨S4096x512, .f32⟩
  | .hbm, ⟨33, _⟩ => ⟨S4096x512, .f32⟩
  | .hbm, ⟨34, _⟩ => ⟨S4096x512, .f32⟩
  | .hbm, ⟨35, _⟩ => ⟨S4096x512, .f32⟩
  | .hbm, ⟨36, _⟩ => ⟨S4096x512, .f32⟩
  | .hbm, ⟨37, _⟩ => ⟨S4096x512, .f32⟩
  | .hbm, ⟨38, _⟩ => ⟨S_, .f32⟩
  | .hbm, ⟨39, _⟩ => ⟨S512, .f32⟩
  | .hbm, ⟨40, _⟩ => ⟨S1x512, .f32⟩
  | .hbm, ⟨41, _⟩ => ⟨S_, .f32⟩
  | .hbm, ⟨42, _⟩ => ⟨S512, .f32⟩
  | .hbm, ⟨43, _⟩ => ⟨S_, .f32⟩
  | .hbm, ⟨44, _⟩ => ⟨S4098x512, .f32⟩
  | .hbm, ⟨45, _⟩ => ⟨S1x512, .f32⟩
  | .hbm, ⟨46, _⟩ => ⟨S_, .f32⟩
  | .hbm, ⟨47, _⟩ => ⟨S3x512, .f32⟩
  | .hbm, ⟨48, _⟩ => ⟨S4096x512, .f32⟩
  | .hbm, ⟨49, _⟩ => ⟨S4096x512, .f32⟩
  | .hbm, ⟨50, _⟩ => ⟨S4096x512, .f32⟩
  | .hbm, ⟨51, _⟩ => ⟨S_, .f32⟩
  | .hbm, ⟨52, _⟩ => ⟨S512, .f32⟩
  | .hbm, ⟨53, _⟩ => ⟨S1x512, .f32⟩
  | .hbm, ⟨54, _⟩ => ⟨S_, .f32⟩
  | .hbm, ⟨55, _⟩ => ⟨S512, .f32⟩
  | .hbm, ⟨56, _⟩ => ⟨S_, .f32⟩
  | .hbm, ⟨57, _⟩ => ⟨S4098x512, .f32⟩
  | .hbm, ⟨58, _⟩ => ⟨S4098x512, .f32⟩
  | .hbm, ⟨59, _⟩ => ⟨S1x512, .f32⟩
  | .hbm, ⟨60, _⟩ => ⟨S_, .f32⟩
  | .hbm, ⟨61, _⟩ => ⟨S3x512, .f32⟩
  | .hbm, ⟨62, _⟩ => ⟨S3x512, .f32⟩
  | .hbm, ⟨63, _⟩ => ⟨S4096x512, .f32⟩
  | .hbm, ⟨64, _⟩ => ⟨S4096x512, .f32⟩
  | .hbm, ⟨65, _⟩ => ⟨S4096x512, .f32⟩
  | .hbm, ⟨66, _⟩ => ⟨S_, .f32⟩
  | .hbm, ⟨67, _⟩ => ⟨S512, .f32⟩
  | .hbm, ⟨68, _⟩ => ⟨S1x512, .f32⟩
  | .hbm, ⟨69, _⟩ => ⟨S_, .f32⟩
  | .hbm, ⟨70, _⟩ => ⟨S512, .f32⟩
  | .hbm, ⟨71, _⟩ => ⟨S_, .f32⟩
  | .hbm, ⟨72, _⟩ => ⟨S4098x512, .f32⟩
  | .hbm, ⟨73, _⟩ => ⟨S4098x512, .f32⟩
  | .hbm, ⟨74, _⟩ => ⟨S1x512, .f32⟩
  | .hbm, ⟨75, _⟩ => ⟨S_, .f32⟩
  | .hbm, ⟨76, _⟩ => ⟨S3x512, .f32⟩
  | .hbm, ⟨77, _⟩ => ⟨S3x512, .f32⟩
  | .hbm, ⟨78, _⟩ => ⟨S2x512, .f32⟩
  | .hbm, ⟨79, _⟩ => ⟨S4096x512, .f32⟩
  | .hbm, ⟨80, _⟩ => ⟨S4096x512, .f32⟩
  | .hbm, ⟨81, _⟩ => ⟨S4096x512, .f32⟩
  | .hbm, ⟨82, _⟩ => ⟨S4096x512, .bf16⟩
  | .hbm, ⟨83, _⟩ => ⟨S4096x512, .bf16⟩
  | .hbm, ⟨84, _⟩ => ⟨S4096x512, .bf16⟩
  | _, _ => ⟨S4096x7424, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_cst_1 : Ref sig .tc := ⟨.hbm, 38, rfl⟩
abbrev main_v33 : Ref sig .tc := ⟨.hbm, 39, rfl⟩
abbrev main_v34 : Ref sig .tc := ⟨.hbm, 40, rfl⟩
abbrev main_cst_2 : Ref sig .tc := ⟨.hbm, 41, rfl⟩
abbrev main_v35 : Ref sig .tc := ⟨.hbm, 42, rfl⟩
abbrev main_cst_3 : Ref sig .tc := ⟨.hbm, 43, rfl⟩
abbrev main_v36 : Ref sig .tc := ⟨.hbm, 44, rfl⟩
abbrev main_v37 : Ref sig .tc := ⟨.hbm, 45, rfl⟩
abbrev main_cst_4 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_cst_5 : Ref sig .tc := ⟨.hbm, 51, rfl⟩
abbrev main_v42 : Ref sig .tc := ⟨.hbm, 52, rfl⟩
abbrev main_v43 : Ref sig .tc := ⟨.hbm, 53, rfl⟩
abbrev main_cst_6 : Ref sig .tc := ⟨.hbm, 54, rfl⟩
abbrev main_v44 : Ref sig .tc := ⟨.hbm, 55, rfl⟩
abbrev main_cst_7 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_cst_8 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_9 : Ref sig .tc := ⟨.hbm, 66, rfl⟩
abbrev main_v53 : Ref sig .tc := ⟨.hbm, 67, rfl⟩
abbrev main_v54 : Ref sig .tc := ⟨.hbm, 68, rfl⟩
abbrev main_cst_10 : Ref sig .tc := ⟨.hbm, 69, rfl⟩
abbrev main_v55 : Ref sig .tc := ⟨.hbm, 70, rfl⟩
abbrev main_cst_11 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_12 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩

abbrev nD : Nat := 1
abbrev τ : Topo := Topo.v7x

variable {F : FTy → Type} [FloatOps F]
-- ==== In.lean ====
abbrev S4096x7424 : Shape := ⟨2, ![4096, 7424]⟩
abbrev S4096x1024 : Shape := ⟨2, ![4096, 1024]⟩
abbrev S1x1024 : Shape := ⟨2, ![1, 1024]⟩
abbrev S1024x7424 : Shape := ⟨2, ![1024, 7424]⟩
abbrev S7424x1024 : Shape := ⟨2, ![7424, 1024]⟩
abbrev S512x1024 : Shape := ⟨2, ![512, 1024]⟩
abbrev S512 : Shape := ⟨1, ![512]⟩
abbrev S512x1 : Shape := ⟨2, ![512, 1]⟩
abbrev S4096x256 : Shape := ⟨2, ![4096, 256]⟩
abbrev S256x1024 : Shape := ⟨2, ![256, 1024]⟩
abbrev S128x1024 : Shape := ⟨2, ![128, 1024]⟩
abbrev S256x7424 : Shape := ⟨2, ![256, 7424]⟩
abbrev S8x1024 : Shape := ⟨2, ![8, 1024]⟩
abbrev S256 : Shape := ⟨1, ![256]⟩
abbrev S256x1 : Shape := ⟨2, ![256, 1]⟩
abbrev S32x8x1024 : Shape := ⟨3, ![32, 8, 1024]⟩
abbrev S1024 : Shape := ⟨1, ![1024]⟩

abbrev nBuf : Space → Nat
  | .hbm => 13
  | .vmem => 24
  | .smem => 0
  | _ => 0

abbrev bufTy : (tb : Table) → Fin (tcTables nBuf tb) → BufTy
  | .hbm, ⟨0, _⟩ => ⟨S4096x7424, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S1024x7424, .f32⟩
  | .hbm, ⟨5, _⟩ => ⟨S7424x1024, .f32⟩
  | .hbm, ⟨6, _⟩ => ⟨S7424x1024, .bf16⟩
  | .hbm, ⟨7, _⟩ => ⟨S4096x7424, .bf16⟩
  | .hbm, ⟨8, _⟩ => ⟨S4096x1024, .bf16⟩
  | .hbm, ⟨9, _⟩ => ⟨S7424x1024, .f32⟩
  | .hbm, ⟨10, _⟩ => ⟨S4096x1024, .f32⟩
  | .hbm, ⟨11, _⟩ => ⟨S128x1024, .f32⟩
  | .hbm, ⟨12, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | .local _ .vmem, ⟨5, _⟩ => ⟨S4096x256, .bf16⟩
  | .local _ .vmem, ⟨6, _⟩ => ⟨S4096x256, .bf16⟩
  | .local _ .vmem, ⟨7, _⟩ => ⟨S4096x1024, .bf16⟩
  | .local _ .vmem, ⟨8, _⟩ => ⟨S256x1024, .f32⟩
  | .local _ .vmem, ⟨9, _⟩ => ⟨S256x1024, .f32⟩
  | .local _ .vmem, ⟨10, _⟩ => ⟨S256x7424, .bf16⟩
  | .local _ .vmem, ⟨11, _⟩ => ⟨S256x7424, .bf16⟩
  | .local _ .vmem, ⟨12, _⟩ => ⟨S7424x1024, .bf16⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S1x1024, .f32⟩
  | .local _ .vmem, ⟨18, _⟩ => ⟨S256x1024, .f32⟩
  | .local _ .vmem, ⟨19, _⟩ => ⟨S256x1024, .f32⟩
  | .local _ .vmem, ⟨20, _⟩ => ⟨S8x1024, .f32⟩
  | .local _ .vmem, ⟨21, _⟩ => ⟨S8x1024, .f32⟩
  | .local _ .vmem, ⟨22, _⟩ => ⟨S128x1024, .f32⟩
  | .local _ .vmem, ⟨23, _⟩ => ⟨S1x1024, .f32⟩
  | _, _ => ⟨S4096x7424, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc2_stg3_0 : Ref sig .tc := ⟨.vmem, 15, rfl⟩
abbrev cc2_stg3_1 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg5_1 : Ref sig .tc := ⟨.vmem, 19, rfl⟩
abbrev cc2_stg6_0 : Ref sig .tc := ⟨.vmem, 20, rfl⟩
abbrev cc2_stg6_1 : Ref sig .tc := ⟨.vmem, 21, rfl⟩
abbrev cc3_stg0_0 : Ref sig .tc := ⟨.vmem, 22, rfl⟩
abbrev cc3_stg1_0 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc2_sem3_0 : DmaSem sig := 15
abbrev cc2_sem3_1 : DmaSem sig := 16
abbrev cc2_sem4_0 : DmaSem sig := 17
abbrev cc2_sem5_0 : DmaSem sig := 18
abbrev cc2_sem5_1 : DmaSem sig := 19
abbrev cc2_sem6_0 : DmaSem sig := 20
abbrev cc2_sem6_1 : DmaSem sig := 21
abbrev cc3_sem0_0 : DmaSem sig := 22
abbrev cc3_sem1_0 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![29, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S4096x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S4096x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S256x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![16, 1, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc2_transform_4 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_6 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc2_transform_7 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S256x7424 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 1 → Memref sig .tc .vmem S7424x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true, true]

abbrev stage2_2 : Fin 2 → Memref sig .tc .vmem S256x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev stage2_3 : Fin 2 → Memref sig .tc .vmem S256x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

abbrev stage2_4 : Fin 1 → Memref sig .tc .vmem S1x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, true, false]

abbrev stage2_5 : Fin 2 → Memref sig .tc .vmem S256x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true, false]

abbrev stage2_6 : Fin 2 → Memref sig .tc .vmem S8x1024 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true, false]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S128x1024 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S1x1024 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]
-- ==== InRefIdeal.lean ====
abbrev S4096x7424 : Shape := ⟨2, ![4096, 7424]⟩
abbrev S4096x1024 : Shape := ⟨2, ![4096, 1024]⟩
abbrev S1x1024 : Shape := ⟨2, ![1, 1024]⟩
abbrev S1024x7424 : Shape := ⟨2, ![1024, 7424]⟩
abbrev S_ : Shape := ⟨0, ![]⟩
abbrev S4096 : Shape := ⟨1, ![4096]⟩
abbrev S4096x1 : Shape := ⟨2, ![4096, 1]⟩
abbrev S7424x1024 : Shape := ⟨2, ![7424, 1024]⟩
abbrev S1024 : Shape := ⟨1, ![1024]⟩

abbrev nBuf : Space → Nat
  | .hbm => 53
  | .vmem => 0
  | .smem => 0
  | _ => 0

abbrev bufTy : (tb : Table) → Fin (tcTables nBuf tb) → BufTy
  | .hbm, ⟨0, _⟩ => ⟨S4096x7424, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S1024x7424, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x7424, .f32⟩
  | .hbm, ⟨25, _⟩ => ⟨S7424x1024, .f32⟩
  | .hbm, ⟨26, _⟩ => ⟨S1024x7424, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S7424x1024, .f32⟩
  | _, _ => ⟨S4096x7424, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== NormIn.lean ====
abbrev S4096x4096 : Shape := ⟨2, ![4096, 4096]⟩
abbrev S4096x1024 : Shape := ⟨2, ![4096, 1024]⟩
abbrev S1x1024 : Shape := ⟨2, ![1, 1024]⟩
abbrev S1024x4096 : Shape := ⟨2, ![1024, 4096]⟩
abbrev S1024x1024 : Shape := ⟨2, ![1024, 1024]⟩
abbrev S512x1024 : Shape := ⟨2, ![512, 1024]⟩
abbrev S256x1024 : Shape := ⟨2, ![256, 1024]⟩
abbrev S1024x512 : Shape := ⟨2, ![1024, 512]⟩
abbrev S8x512x1024 : Shape := ⟨3, ![8, 512, 1024]⟩
abbrev S8x128x1024 : Shape := ⟨3, ![8, 128, 1024]⟩
abbrev S1024x256 : Shape := ⟨2, ![1024, 256]⟩
abbrev S8x32x1024 : Shape := ⟨3, ![8, 32, 1024]⟩
abbrev S8x1312x1024 : Shape := ⟨3, ![8, 1312, 1024]⟩
abbrev S64x1024 : Shape := ⟨2, ![64, 1024]⟩
abbrev S512x4096 : Shape := ⟨2, ![512, 4096]⟩
abbrev S8x1024 : Shape := ⟨2, ![8, 1024]⟩
abbrev S512 : Shape := ⟨1, ![512]⟩
abbrev S512x1 : Shape := ⟨2, ![512, 1]⟩
abbrev S64x8x1024 : Shape := ⟨3, ![64, 8, 1024]⟩

abbrev nBuf : Space → Nat
  | .hbm => 31
  | .vmem => 14
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S1024x4096, .f32⟩
  | .hbm, ⟨5, _⟩ => ⟨S4096x1024, .f32⟩
  | .hbm, ⟨6, _⟩ => ⟨S1024x1024, .f32⟩
  | .hbm, ⟨7, _⟩ => ⟨S512x1024, .f32⟩
  | .hbm, ⟨8, _⟩ => ⟨S512x1024, .f32⟩
  | .hbm, ⟨9, _⟩ => ⟨S256x1024, .f32⟩
  | .hbm, ⟨10, _⟩ => ⟨S4096x4096, .bf16⟩
  | .hbm, ⟨11, _⟩ => ⟨S1024x512, .f32⟩
  | .hbm, ⟨12, _⟩ => ⟨S1024x512, .bf16⟩
  | .hbm, ⟨13, _⟩ => ⟨S1024x512, .f32⟩
  | .hbm, ⟨14, _⟩ => ⟨S1024x512, .bf16⟩
  | .hbm, ⟨15, _⟩ => ⟨S1024x1024, .bf16⟩
  | .hbm, ⟨16, _⟩ => ⟨S4096x1024, .f32⟩
  | .hbm, ⟨17, _⟩ => ⟨S4096x1024, .bf16⟩
  | .hbm, ⟨18, _⟩ => ⟨S8x512x1024, .bf16⟩
  | .hbm, ⟨19, _⟩ => ⟨S4096x1024, .bf16⟩
  | .hbm, ⟨20, _⟩ => ⟨S8x512x1024, .bf16⟩
  | .hbm, ⟨21, _⟩ => ⟨S1024x1024, .bf16⟩
  | .hbm, ⟨22, _⟩ => ⟨S8x128x1024, .bf16⟩
  | .hbm, ⟨23, _⟩ => ⟨S8x128x1024, .bf16⟩
  | .hbm, ⟨24, _⟩ => ⟨S1024x256, .f32⟩
  | .hbm, ⟨25, _⟩ => ⟨S1024x256, .bf16⟩
  | .hbm, ⟨26, _⟩ => ⟨S8x32x1024, .bf16⟩
  | .hbm, ⟨27, _⟩ => ⟨S8x1312x1024, .bf16⟩
  | .hbm, ⟨28, _⟩ => ⟨S4096x1024, .f32⟩
  | .hbm, ⟨29, _⟩ => ⟨S64x1024, .f32⟩
  | .hbm, ⟨30, _⟩ => ⟨S4096x1024, .bf16⟩
  | .local _ .vmem, ⟨0, _⟩ => ⟨S512x4096, .bf16⟩
  | .local _ .vmem, ⟨1, _⟩ => ⟨S512x4096, .bf16⟩
  | .local _ .vmem, ⟨2, _⟩ => ⟨S8x512x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S8x1024, .f32⟩
  | .local _ .vmem, ⟨11, _⟩ => ⟨S8x1024, .f32⟩
  | .local _ .vmem, ⟨12, _⟩ => ⟨S512x1024, .bf16⟩
  | .local _ .vmem, ⟨13, _⟩ => ⟨S512x1024, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18_0 : Ref sig .tc := ⟨.hbm, 28, rfl⟩
abbrev main_v18_1 : Ref sig .tc := ⟨.hbm, 29, rfl⟩
abbrev main_v18_2 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S8x512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== NormInRefIdeal.lean ====
abbrev S4096x4096 : Shape := ⟨2, ![4096, 4096]⟩
abbrev S4096x1024 : Shape := ⟨2, ![4096, 1024]⟩
abbrev S1x1024 : Shape := ⟨2, ![1, 1024]⟩
abbrev S1024x4096 : Shape := ⟨2, ![1024, 4096]⟩
abbrev S1024x1024 : Shape := ⟨2, ![1024, 1024]⟩
abbrev S512x1024 : Shape := ⟨2, ![512, 1024]⟩
abbrev S256x1024 : Shape := ⟨2, ![256, 1024]⟩
abbrev S_ : Shape := ⟨0, ![]⟩
abbrev S4096 : Shape := ⟨1, ![4096]⟩
abbrev S4096x1 : Shape := ⟨2, ![4096, 1]⟩
abbrev S8x64x8x1024 : Shape := ⟨4, ![8, 64, 8, 1024]⟩
abbrev S8x8x1024 : Shape := ⟨3, ![8, 8, 1024]⟩
abbrev S64x1024 : Shape := ⟨2, ![64, 1024]⟩

abbrev nBuf : Space → Nat
  | .hbm => 56
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S1024x4096, .f32⟩
  | .hbm, ⟨5, _⟩ => ⟨S4096x1024, .f32⟩
  | .hbm, ⟨6, _⟩ => ⟨S1024x1024, .f32⟩
  | .hbm, ⟨7, _⟩ => ⟨S512x1024, .f32⟩
  | .hbm, ⟨8, _⟩ => ⟨S512x1024, .f32⟩
  | .hbm, ⟨9, _⟩ => ⟨S256x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x4096, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S4096, .f32⟩
  | .hbm, ⟨36, _⟩ => ⟨S4096x1, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S_, .f32⟩
  | .hbm, ⟨45, _⟩ => ⟨S4096, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S8x64x8x1024, .f32⟩
  | .hbm, ⟨52, _⟩ => ⟨S_, .f32⟩
  | .hbm, ⟨53, _⟩ => ⟨S8x8x1024, .f32⟩
  | .hbm, ⟨54, _⟩ => ⟨S64x1024, .f32⟩
  | .hbm, ⟨55, _⟩ => ⟨S4096x1024, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_3 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_v27 : Ref sig .tc := ⟨.hbm, 43, rfl⟩
abbrev main_cst_5 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_6 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩

abbrev nD : Nat := 1
abbrev τ : Topo := Topo.v7x

variable {F : FTy → Type} [FloatOps F]
-- ==== FfIn.lean ====
abbrev S4096x1024 : Shape := ⟨2, ![4096, 1024]⟩
abbrev S1024x4096 : Shape := ⟨2, ![1024, 4096]⟩
abbrev S1024x1024 : Shape := ⟨2, ![1024, 1024]⟩
abbrev S512x1024 : Shape := ⟨2, ![512, 1024]⟩
abbrev S256x1024 : Shape := ⟨2, ![256, 1024]⟩
abbrev S4096x4096 : Shape := ⟨2, ![4096, 4096]⟩
abbrev S_ : Shape := ⟨0, ![]⟩
abbrev S1024x512 : Shape := ⟨2, ![1024, 512]⟩
abbrev S8x512x1024 : Shape := ⟨3, ![8, 512, 1024]⟩
abbrev S8x128x1024 : Shape := ⟨3, ![8, 128, 1024]⟩
abbrev S1024x256 : Shape := ⟨2, ![1024, 256]⟩
abbrev S8x32x1024 : Shape := ⟨3, ![8, 32, 1024]⟩
abbrev S8x1312x1024 : Shape := ⟨3, ![8, 1312, 1024]⟩
abbrev S2x512x1024 : Shape := ⟨3, ![2, 512, 1024]⟩

abbrev nBuf : Space → Nat
  | .hbm => 33
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x4096, .f32⟩
  | .hbm, ⟨3, _⟩ => ⟨S4096x1024, .f32⟩
  | .hbm, ⟨4, _⟩ => ⟨S1024x1024, .f32⟩
  | .hbm, ⟨5, _⟩ => ⟨S512x1024, .f32⟩
  | .hbm, ⟨6, _⟩ => ⟨S512x1024, .f32⟩
  | .hbm, ⟨7, _⟩ => ⟨S256x1024, .f32⟩
  | .hbm, ⟨8, _⟩ => ⟨S4096x4096, .f32⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S4096x4096, .bf16⟩
  | .hbm, ⟨14, _⟩ => ⟨S4096x1024, .bf16⟩
  | .hbm, ⟨15, _⟩ => ⟨S1024x512, .f32⟩
  | .hbm, ⟨16, _⟩ => ⟨S1024x512, .bf16⟩
  | .hbm, ⟨17, _⟩ => ⟨S1024x512, .f32⟩
  | .hbm, ⟨18, _⟩ => ⟨S1024x512, .bf16⟩
  | .hbm, ⟨19, _⟩ => ⟨S1024x1024, .bf16⟩
  | .hbm, ⟨20, _⟩ => ⟨S4096x1024, .f32⟩
  | .hbm, ⟨21, _⟩ => ⟨S4096x1024, .bf16⟩
  | .hbm, ⟨22, _⟩ => ⟨S8x512x1024, .bf16⟩
  | .hbm, ⟨23, _⟩ => ⟨S4096x1024, .bf16⟩
  | .hbm, ⟨24, _⟩ => ⟨S8x512x1024, .bf16⟩
  | .hbm, ⟨25, _⟩ => ⟨S1024x1024, .bf16⟩
  | .hbm, ⟨26, _⟩ => ⟨S8x128x1024, .bf16⟩
  | .hbm, ⟨27, _⟩ => ⟨S8x128x1024, .bf16⟩
  | .hbm, ⟨28, _⟩ => ⟨S1024x256, .f32⟩
  | .hbm, ⟨29, _⟩ => ⟨S1024x256, .bf16⟩
  | .hbm, ⟨30, _⟩ => ⟨S8x32x1024, .bf16⟩
  | .hbm, ⟨31, _⟩ => ⟨S8x1312x1024, .bf16⟩
  | .hbm, ⟨32, _⟩ => ⟨S4096x4096, .bf16⟩
  | .local _ .vmem, ⟨0, _⟩ => ⟨S1024x1024, .bf16⟩
  | .local _ .vmem, ⟨1, _⟩ => ⟨S1024x1024, .bf16⟩
  | .local _ .vmem, ⟨2, _⟩ => ⟨S2x512x1024, .bf16⟩
  | .local _ .vmem, ⟨3, _⟩ => ⟨S2x512x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_call0_cst : Ref sig .tc := ⟨.hbm, 9, rfl⟩
abbrev main_call0_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![arg1.toNat, c1_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FfInRefIdeal.lean ====
abbrev S4096x1024 : Shape := ⟨2, ![4096, 1024]⟩
abbrev S1024x4096 : Shape := ⟨2, ![1024, 4096]⟩
abbrev S1024x1024 : Shape := ⟨2, ![1024, 1024]⟩
abbrev S512x1024 : Shape := ⟨2, ![512, 1024]⟩
abbrev S256x1024 : Shape := ⟨2, ![256, 1024]⟩
abbrev S4096x4096 : Shape := ⟨2, ![4096, 4096]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x4096, .f32⟩
  | .hbm, ⟨3, _⟩ => ⟨S4096x1024, .f32⟩
  | .hbm, ⟨4, _⟩ => ⟨S1024x1024, .f32⟩
  | .hbm, ⟨5, _⟩ => ⟨S512x1024, .f32⟩
  | .hbm, ⟨6, _⟩ => ⟨S512x1024, .f32⟩
  | .hbm, ⟨7, _⟩ => ⟨S256x1024, .f32⟩
  | .hbm, ⟨8, _⟩ => ⟨S4096x4096, .f32⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S_, .f32⟩
  | .hbm, ⟨13, _⟩ => ⟨S4096x4096, .f32⟩
  | .hbm, ⟨14, _⟩ => ⟨S4096x4096, .i1⟩
  | .hbm, ⟨15, _⟩ => ⟨S_, .f32⟩
  | .hbm, ⟨16, _⟩ => ⟨S4096x4096, .f32⟩
  | .hbm, ⟨17, _⟩ => ⟨S4096x4096, .f32⟩
  | .hbm, ⟨18, _⟩ => ⟨S_, .f32⟩
  | .hbm, ⟨19, _⟩ => ⟨S4096x4096, .f32⟩
  | .hbm, ⟨20, _⟩ => ⟨S4096x4096, .f32⟩
  | .hbm, ⟨21, _⟩ => ⟨S4096x1024, .f32⟩
  | .hbm, ⟨22, _⟩ => ⟨S4096x4096, .f32⟩
  | .hbm, ⟨23, _⟩ => ⟨S4096x4096, .f32⟩
  | .hbm, ⟨24, _⟩ => ⟨S_, .f32⟩
  | .hbm, ⟨25, _⟩ => ⟨S4096x4096, .f32⟩
  | .hbm, ⟨26, _⟩ => ⟨S4096x4096, .f32⟩
  | .hbm, ⟨27, _⟩ => ⟨S4096x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_call0_cst : Ref sig .tc := ⟨.hbm, 9, rfl⟩
abbrev main_call0_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩

abbrev nD : Nat := 1
abbrev τ : Topo := Topo.v7x

variable {F : FTy → Type} [FloatOps F]
-- ==== Dw.lean ====
abbrev S4096x1024 : Shape := ⟨2, ![4096, 1024]⟩
abbrev S4096x4096 : Shape := ⟨2, ![4096, 4096]⟩
abbrev S1024x4096 : Shape := ⟨2, ![1024, 4096]⟩
abbrev S_ : Shape := ⟨0, ![]⟩
abbrev S8x1312x1024 : Shape := ⟨3, ![8, 1312, 1024]⟩
abbrev S4096x512 : Shape := ⟨2, ![4096, 512]⟩
abbrev S1x512x1024 : Shape := ⟨3, ![1, 512, 1024]⟩
abbrev S512x1024 : Shape := ⟨2, ![512, 1024]⟩
abbrev S4096x128 : Shape := ⟨2, ![4096, 128]⟩
abbrev S1x128x1024 : Shape := ⟨3, ![1, 128, 1024]⟩
abbrev S128x1024 : Shape := ⟨2, ![128, 1024]⟩
abbrev S8x512x1024 : Shape := ⟨3, ![8, 512, 1024]⟩
abbrev S8x128x1024 : Shape := ⟨3, ![8, 128, 1024]⟩
abbrev S1024x1024 : Shape := ⟨2, ![1024, 1024]⟩

abbrev nBuf : Space → Nat
  | .hbm => 26
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x4096, .f32⟩
  | .hbm, ⟨3, _⟩ => ⟨S4096x1024, .f32⟩
  | .hbm, ⟨4, _⟩ => ⟨S4096x1024, .f32⟩
  | .hbm, ⟨5, _⟩ => ⟨S1024x4096, .f32⟩
  | .hbm, ⟨6, _⟩ => ⟨S4096x4096, .f32⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S4096x4096, .bf16⟩
  | .hbm, ⟨12, _⟩ => ⟨S4096x1024, .bf16⟩
  | .hbm, ⟨13, _⟩ => ⟨S4096x1024, .bf16⟩
  | .hbm, ⟨14, _⟩ => ⟨S4096x4096, .bf16⟩
  | .hbm, ⟨15, _⟩ => ⟨S4096x1024, .bf16⟩
  | .hbm, ⟨16, _⟩ => ⟨S4096x1024, .bf16⟩
  | .hbm, ⟨17, _⟩ => ⟨S8x1312x1024, .f32⟩
  | .hbm, ⟨18, _⟩ => ⟨S8x1312x1024, .f32⟩
  | .hbm, ⟨19, _⟩ => ⟨S8x1312x1024, .f32⟩
  | .hbm, ⟨20, _⟩ => ⟨S8x512x1024, .f32⟩
  | .hbm, ⟨21, _⟩ => ⟨S4096x1024, .f32⟩
  | .hbm, ⟨22, _⟩ => ⟨S8x512x1024, .f32⟩
  | .hbm, ⟨23, _⟩ => ⟨S4096x1024, .f32⟩
  | .hbm, ⟨24, _⟩ => ⟨S8x128x1024, .f32⟩
  | .hbm, ⟨25, _⟩ => ⟨S1024x1024, .f32⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S1x512x1024, .f32⟩
  | .local _ .vmem, ⟨4, _⟩ => ⟨S1x512x1024, .f32⟩
  | .local _ .vmem, ⟨5, _⟩ => ⟨S4096x512, .bf16⟩
  | .local _ .vmem, ⟨6, _⟩ => ⟨S4096x512, .bf16⟩
  | .local _ .vmem, ⟨7, _⟩ => ⟨S4096x1024, .bf16⟩
  | .local _ .vmem, ⟨8, _⟩ => ⟨S1x512x1024, .f32⟩
  | .local _ .vmem, ⟨9, _⟩ => ⟨S1x512x1024, .f32⟩
  | .local _ .vmem, ⟨10, _⟩ => ⟨S4096x128, .bf16⟩
  | .local _ .vmem, ⟨11, _⟩ => ⟨S4096x128, .bf16⟩
  | .local _ .vmem, ⟨12, _⟩ => ⟨S4096x1024, .bf16⟩
  | .local _ .vmem, ⟨13, _⟩ => ⟨S1x128x1024, .f32⟩
  | .local _ .vmem, ⟨14, _⟩ => ⟨S1x128x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_cst : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c1_i32_11 : BitVec 32 := 1#32
  let v27 : BitVec 32 := Scalar.addi c1_i32_11 v26
  let c0_i32_12 : BitVec 32 := 0#32
  let v28 : BitVec 32 := Scalar.addi c0_i32_12 arg1
  let c0_i32_13 : BitVec 32 := 0#32
  ![v16.toNat, v27.toNat, v28.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![8, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let v27 : BitVec 32 := Scalar.addi c0_i32_11 v26
  let c0_i32_12 : BitVec 32 := 0#32
  let v28 : BitVec 32 := Scalar.addi c0_i32_12 arg1
  let c0_i32_13 : BitVec 32 := 0#32
  ![v16.toNat, v27.toNat, v28.toNat]

abbrev stage1_0 : Fin 2 → Memref sig .tc .vmem S4096x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S4096x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S1x512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![8, 1, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_3 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c8_i32 : BitVec 32 := 8#32
  let v27 : BitVec 32 := Scalar.addi c8_i32 v26
  let c0_i32_11 : BitVec 32 := 0#32
  let v28 : BitVec 32 := Scalar.addi c0_i32_11 arg1
  let c0_i32_12 : BitVec 32 := 0#32
  ![v16.toNat, v27.toNat, v28.toNat]

abbrev stage2_0 : Fin 2 → Memref sig .tc .vmem S4096x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 1 → Memref sig .tc .vmem S4096x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true, true]

abbrev stage2_2 : Fin 2 → Memref sig .tc .vmem S1x128x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]
-- ==== DwRefIdeal.lean ====
abbrev S4096x1024 : Shape := ⟨2, ![4096, 1024]⟩
abbrev S4096x4096 : Shape := ⟨2, ![4096, 4096]⟩
abbrev S1024x4096 : Shape := ⟨2, ![1024, 4096]⟩
abbrev S_ : Shape := ⟨0, ![]⟩
abbrev S1024x1024 : Shape := ⟨2, ![1024, 1024]⟩

abbrev nBuf : Space → Nat
  | .hbm => 25
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x4096, .f32⟩
  | .hbm, ⟨3, _⟩ => ⟨S4096x1024, .f32⟩
  | .hbm, ⟨4, _⟩ => ⟨S4096x1024, .f32⟩
  | .hbm, ⟨5, _⟩ => ⟨S1024x4096, .f32⟩
  | .hbm, ⟨6, _⟩ => ⟨S_, .f32⟩
  | .hbm, ⟨7, _⟩ => ⟨S4096x1024, .f32⟩
  | .hbm, ⟨8, _⟩ => ⟨S_, .f32⟩
  | .hbm, ⟨9, _⟩ => ⟨S1024x1024, .f32⟩
  | .hbm, ⟨10, _⟩ => ⟨S4096x4096, .f32⟩
  | .hbm, ⟨11, _⟩ => ⟨S4096x4096, .f32⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S4096x1024, .f32⟩
  | .hbm, ⟨17, _⟩ => ⟨S4096x1024, .f32⟩
  | .hbm, ⟨18, _⟩ => ⟨S1024x1024, .f32⟩
  | .hbm, ⟨19, _⟩ => ⟨S1024x1024, .f32⟩
  | .hbm, ⟨20, _⟩ => ⟨S1024x4096, .f32⟩
  | .hbm, ⟨21, _⟩ => ⟨S4096x1024, .f32⟩
  | .hbm, ⟨22, _⟩ => ⟨S4096x1024, .f32⟩
  | .hbm, ⟨23, _⟩ => ⟨S1024x4096, .f32⟩
  | .hbm, ⟨24, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_cst : Ref sig .tc := ⟨.hbm, 12, rfl⟩
abbrev main_call0_v0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩

abbrev nD : Nat := 1
abbrev τ : Topo := Topo.v7x

variable {F : FTy → Type} [FloatOps F]
-- ==== OutIn.lean ====
abbrev S4096x1024 : Shape := ⟨2, ![4096, 1024]⟩
abbrev S1024x4096 : Shape := ⟨2, ![1024, 4096]⟩
abbrev S1024x1024 : Shape := ⟨2, ![1024, 1024]⟩
abbrev S512x1024 : Shape := ⟨2, ![512, 1024]⟩
abbrev S256x1024 : Shape := ⟨2, ![256, 1024]⟩
abbrev S1024x512 : Shape := ⟨2, ![1024, 512]⟩
abbrev S8x512x1024 : Shape := ⟨3, ![8, 512, 1024]⟩
abbrev S8x128x1024 : Shape := ⟨3, ![8, 128, 1024]⟩
abbrev S1024x256 : Shape := ⟨2, ![1024, 256]⟩
abbrev S8x32x1024 : Shape := ⟨3, ![8, 32, 1024]⟩
abbrev S8x1312x1024 : Shape := ⟨3, ![8, 1312, 1024]⟩

abbrev nBuf : Space → Nat
  | .hbm => 26
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .f32⟩
  | .hbm, ⟨3, _⟩ => ⟨S1024x1024, .f32⟩
  | .hbm, ⟨4, _⟩ => ⟨S512x1024, .f32⟩
  | .hbm, ⟨5, _⟩ => ⟨S512x1024, .f32⟩
  | .hbm, ⟨6, _⟩ => ⟨S256x1024, .f32⟩
  | .hbm, ⟨7, _⟩ => ⟨S4096x1024, .bf16⟩
  | .hbm, ⟨8, _⟩ => ⟨S1024x512, .f32⟩
  | .hbm, ⟨9, _⟩ => ⟨S1024x512, .bf16⟩
  | .hbm, ⟨10, _⟩ => ⟨S1024x512, .f32⟩
  | .hbm, ⟨11, _⟩ => ⟨S1024x512, .bf16⟩
  | .hbm, ⟨12, _⟩ => ⟨S1024x1024, .bf16⟩
  | .hbm, ⟨13, _⟩ => ⟨S4096x1024, .f32⟩
  | .hbm, ⟨14, _⟩ => ⟨S4096x1024, .bf16⟩
  | .hbm, ⟨15, _⟩ => ⟨S8x512x1024, .bf16⟩
  | .hbm, ⟨16, _⟩ => ⟨S4096x1024, .bf16⟩
  | .hbm, ⟨17, _⟩ => ⟨S8x512x1024, .bf16⟩
  | .hbm, ⟨18, _⟩ => ⟨S1024x1024, .bf16⟩
  | .hbm, ⟨19, _⟩ => ⟨S8x128x1024, .bf16⟩
  | .hbm, ⟨20, _⟩ => ⟨S8x128x1024, .bf16⟩
  | .hbm, ⟨21, _⟩ => ⟨S1024x256, .f32⟩
  | .hbm, ⟨22, _⟩ => ⟨S1024x256, .bf16⟩
  | .hbm, ⟨23, _⟩ => ⟨S8x32x1024, .bf16⟩
  | .hbm, ⟨24, _⟩ => ⟨S8x1312x1024, .bf16⟩
  | .hbm, ⟨25, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S8x128x1024, .bf16⟩
  | .local _ .vmem, ⟨3, _⟩ => ⟨S1024x1024, .f32⟩
  | .local _ .vmem, ⟨4, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let c0_i32 : BitVec 32 := 0#32
  ![arg1.toNat, c8_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S8x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutInRefIdeal.lean ====
abbrev S4096x1024 : Shape := ⟨2, ![4096, 1024]⟩
abbrev S1024x4096 : Shape := ⟨2, ![1024, 4096]⟩
abbrev S1024x1024 : Shape := ⟨2, ![1024, 1024]⟩
abbrev S512x1024 : Shape := ⟨2, ![512, 1024]⟩
abbrev S256x1024 : Shape := ⟨2, ![256, 1024]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .f32⟩
  | .hbm, ⟨3, _⟩ => ⟨S1024x1024, .f32⟩
  | .hbm, ⟨4, _⟩ => ⟨S512x1024, .f32⟩
  | .hbm, ⟨5, _⟩ => ⟨S512x1024, .f32⟩
  | .hbm, ⟨6, _⟩ => ⟨S256x1024, .f32⟩
  | .hbm, ⟨7, _⟩ => ⟨S_, .f32⟩
  | .hbm, ⟨8, _⟩ => ⟨S4096x1024, .f32⟩
  | .hbm, ⟨9, _⟩ => ⟨S4096x1024, .f32⟩
  | .hbm, ⟨10, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩

abbrev nD : Nat := 1
abbrev τ : Topo := Topo.v7x

variable {F : FTy → Type} [FloatOps F]
-- ==== Proj.lean ====
abbrev S4096x1024 : Shape := ⟨2, ![4096, 1024]⟩
abbrev S1x1024 : Shape := ⟨2, ![1, 1024]⟩
abbrev S1024x7424 : Shape := ⟨2, ![1024, 7424]⟩
abbrev S512x1024 : Shape := ⟨2, ![512, 1024]⟩
abbrev S512 : Shape := ⟨1, ![512]⟩
abbrev S512x1 : Shape := ⟨2, ![512, 1]⟩
abbrev S7424x1024 : Shape := ⟨2, ![7424, 1024]⟩
abbrev S4096x7424 : Shape := ⟨2, ![4096, 7424]⟩
abbrev S3712x1024 : Shape := ⟨2, ![3712, 1024]⟩
abbrev S512x3712 : Shape := ⟨2, ![512, 3712]⟩

abbrev nBuf : Space → Nat
  | .hbm => 7
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x7424, .f32⟩
  | .hbm, ⟨3, _⟩ => ⟨S4096x1024, .bf16⟩
  | .hbm, ⟨4, _⟩ => ⟨S7424x1024, .f32⟩
  | .hbm, ⟨5, _⟩ => ⟨S7424x1024, .bf16⟩
  | .hbm, ⟨6, _⟩ => ⟨S4096x7424, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S3712x1024, .bf16⟩
  | .local _ .vmem, ⟨8, _⟩ => ⟨S3712x1024, .bf16⟩
  | .local _ .vmem, ⟨9, _⟩ => ⟨S512x3712, .f32⟩
  | .local _ .vmem, ⟨10, _⟩ => ⟨S512x3712, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![8, 2, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S3712x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S512x3712 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]
-- ==== ProjRefIdeal.lean ====
abbrev S4096x1024 : Shape := ⟨2, ![4096, 1024]⟩
abbrev S1x1024 : Shape := ⟨2, ![1, 1024]⟩
abbrev S1024x7424 : Shape := ⟨2, ![1024, 7424]⟩
abbrev S_ : Shape := ⟨0, ![]⟩
abbrev S4096 : Shape := ⟨1, ![4096]⟩
abbrev S4096x1 : Shape := ⟨2, ![4096, 1]⟩
abbrev S4096x7424 : Shape := ⟨2, ![4096, 7424]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x7424, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x7424, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== Up.lean ====
abbrev S4096x1024 : Shape := ⟨2, ![4096, 1024]⟩
abbrev S1024x4096 : Shape := ⟨2, ![1024, 4096]⟩
abbrev S1024x1024 : Shape := ⟨2, ![1024, 1024]⟩
abbrev S512x1024 : Shape := ⟨2, ![512, 1024]⟩
abbrev S256x1024 : Shape := ⟨2, ![256, 1024]⟩
abbrev S1024x512 : Shape := ⟨2, ![1024, 512]⟩
abbrev S8x512x1024 : Shape := ⟨3, ![8, 512, 1024]⟩
abbrev S8x128x1024 : Shape := ⟨3, ![8, 128, 1024]⟩
abbrev S1024x256 : Shape := ⟨2, ![1024, 256]⟩
abbrev S8x32x1024 : Shape := ⟨3, ![8, 32, 1024]⟩
abbrev S8x1312x1024 : Shape := ⟨3, ![8, 1312, 1024]⟩
abbrev S4096x4096 : Shape := ⟨2, ![4096, 4096]⟩
abbrev S2x512x1024 : Shape := ⟨3, ![2, 512, 1024]⟩

abbrev nBuf : Space → Nat
  | .hbm => 26
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .f32⟩
  | .hbm, ⟨3, _⟩ => ⟨S1024x1024, .f32⟩
  | .hbm, ⟨4, _⟩ => ⟨S512x1024, .f32⟩
  | .hbm, ⟨5, _⟩ => ⟨S512x1024, .f32⟩
  | .hbm, ⟨6, _⟩ => ⟨S256x1024, .f32⟩
  | .hbm, ⟨7, _⟩ => ⟨S4096x1024, .bf16⟩
  | .hbm, ⟨8, _⟩ => ⟨S1024x512, .f32⟩
  | .hbm, ⟨9, _⟩ => ⟨S1024x512, .bf16⟩
  | .hbm, ⟨10, _⟩ => ⟨S1024x512, .f32⟩
  | .hbm, ⟨11, _⟩ => ⟨S1024x512, .bf16⟩
  | .hbm, ⟨12, _⟩ => ⟨S1024x1024, .bf16⟩
  | .hbm, ⟨13, _⟩ => ⟨S4096x1024, .f32⟩
  | .hbm, ⟨14, _⟩ => ⟨S4096x1024, .bf16⟩
  | .hbm, ⟨15, _⟩ => ⟨S8x512x1024, .bf16⟩
  | .hbm, ⟨16, _⟩ => ⟨S4096x1024, .bf16⟩
  | .hbm, ⟨17, _⟩ => ⟨S8x512x1024, .bf16⟩
  | .hbm, ⟨18, _⟩ => ⟨S1024x1024, .bf16⟩
  | .hbm, ⟨19, _⟩ => ⟨S8x128x1024, .bf16⟩
  | .hbm, ⟨20, _⟩ => ⟨S8x128x1024, .bf16⟩
  | .hbm, ⟨21, _⟩ => ⟨S1024x256, .f32⟩
  | .hbm, ⟨22, _⟩ => ⟨S1024x256, .bf16⟩
  | .hbm, ⟨23, _⟩ => ⟨S8x32x1024, .bf16⟩
  | .hbm, ⟨24, _⟩ => ⟨S8x1312x1024, .bf16⟩
  | .hbm, ⟨25, _⟩ => ⟨S4096x4096, .bf16⟩
  | .local _ .vmem, ⟨0, _⟩ => ⟨S1024x1024, .bf16⟩
  | .local _ .vmem, ⟨1, _⟩ => ⟨S1024x1024, .bf16⟩
  | .local _ .vmem, ⟨2, _⟩ => ⟨S2x512x1024, .bf16⟩
  | .local _ .vmem, ⟨3, _⟩ => ⟨S2x512x1024, .bf16⟩
  | .local _ .vmem, ⟨4, _⟩ => ⟨S1024x1024, .bf16⟩
  | .local _ .vmem, ⟨5, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpRefIdeal.lean ====
abbrev S4096x1024 : Shape := ⟨2, ![4096, 1024]⟩
abbrev S1024x4096 : Shape := ⟨2, ![1024, 4096]⟩
abbrev S1024x1024 : Shape := ⟨2, ![1024, 1024]⟩
abbrev S512x1024 : Shape := ⟨2, ![512, 1024]⟩
abbrev S256x1024 : Shape := ⟨2, ![256, 1024]⟩
abbrev S4096x4096 : Shape := ⟨2, ![4096, 4096]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .f32⟩
  | .hbm, ⟨3, _⟩ => ⟨S1024x1024, .f32⟩
  | .hbm, ⟨4, _⟩ => ⟨S512x1024, .f32⟩
  | .hbm, ⟨5, _⟩ => ⟨S512x1024, .f32⟩
  | .hbm, ⟨6, _⟩ => ⟨S256x1024, .f32⟩
  | .hbm, ⟨7, _⟩ => ⟨S4096x4096, .f32⟩
  | .hbm, ⟨8, _⟩ => ⟨S_, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S4096x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_call0_cst : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩

abbrev nD : Nat := 1
abbrev τ : Topo := Topo.v7x

variable {F : FTy → Type} [FloatOps F]
-- ==== Down.lean ====
abbrev S4096x4096 : Shape := ⟨2, ![4096, 4096]⟩
abbrev S4096x1024 : Shape := ⟨2, ![4096, 1024]⟩
abbrev S1x1024 : Shape := ⟨2, ![1, 1024]⟩
abbrev S1024x4096 : Shape := ⟨2, ![1024, 4096]⟩
abbrev S1024x1024 : Shape := ⟨2, ![1024, 1024]⟩
abbrev S512x1024 : Shape := ⟨2, ![512, 1024]⟩
abbrev S256x1024 : Shape := ⟨2, ![256, 1024]⟩
abbrev S1024x512 : Shape := ⟨2, ![1024, 512]⟩
abbrev S8x512x1024 : Shape := ⟨3, ![8, 512, 1024]⟩
abbrev S8x128x1024 : Shape := ⟨3, ![8, 128, 1024]⟩
abbrev S1024x256 : Shape := ⟨2, ![1024, 256]⟩
abbrev S8x32x1024 : Shape := ⟨3, ![8, 32, 1024]⟩
abbrev S8x1312x1024 : Shape := ⟨3, ![8, 1312, 1024]⟩
abbrev S512x4096 : Shape := ⟨2, ![512, 4096]⟩
abbrev S512 : Shape := ⟨1, ![512]⟩
abbrev S512x1 : Shape := ⟨2, ![512, 1]⟩

abbrev nBuf : Space → Nat
  | .hbm => 29
  | .vmem => 10
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S1x1024, .f32⟩
  | .hbm, ⟨3, _⟩ => ⟨S1024x4096, .f32⟩
  | .hbm, ⟨4, _⟩ => ⟨S4096x1024, .f32⟩
  | .hbm, ⟨5, _⟩ => ⟨S1024x1024, .f32⟩
  | .hbm, ⟨6, _⟩ => ⟨S512x1024, .f32⟩
  | .hbm, ⟨7, _⟩ => ⟨S512x1024, .f32⟩
  | .hbm, ⟨8, _⟩ => ⟨S256x1024, .f32⟩
  | .hbm, ⟨9, _⟩ => ⟨S4096x4096, .bf16⟩
  | .hbm, ⟨10, _⟩ => ⟨S1024x512, .f32⟩
  | .hbm, ⟨11, _⟩ => ⟨S1024x512, .bf16⟩
  | .hbm, ⟨12, _⟩ => ⟨S1024x512, .f32⟩
  | .hbm, ⟨13, _⟩ => ⟨S1024x512, .bf16⟩
  | .hbm, ⟨14, _⟩ => ⟨S1024x1024, .bf16⟩
  | .hbm, ⟨15, _⟩ => ⟨S4096x1024, .f32⟩
  | .hbm, ⟨16, _⟩ => ⟨S4096x1024, .bf16⟩
  | .hbm, ⟨17, _⟩ => ⟨S8x512x1024, .bf16⟩
  | .hbm, ⟨18, _⟩ => ⟨S4096x1024, .bf16⟩
  | .hbm, ⟨19, _⟩ => ⟨S8x512x1024, .bf16⟩
  | .hbm, ⟨20, _⟩ => ⟨S1024x1024, .bf16⟩
  | .hbm, ⟨21, _⟩ => ⟨S8x128x1024, .bf16⟩
  | .hbm, ⟨22, _⟩ => ⟨S8x128x1024, .bf16⟩
  | .hbm, ⟨23, _⟩ => ⟨S1024x256, .f32⟩
  | .hbm, ⟨24, _⟩ => ⟨S1024x256, .bf16⟩
  | .hbm, ⟨25, _⟩ => ⟨S8x32x1024, .bf16⟩
  | .hbm, ⟨26, _⟩ => ⟨S8x1312x1024, .bf16⟩
  | .hbm, ⟨27, _⟩ => ⟨S4096x1024, .f32⟩
  | .hbm, ⟨28, _⟩ => ⟨S4096x1024, .bf16⟩
  | .local _ .vmem, ⟨0, _⟩ => ⟨S512x4096, .bf16⟩
  | .local _ .vmem, ⟨1, _⟩ => ⟨S512x4096, .bf16⟩
  | .local _ .vmem, ⟨2, _⟩ => ⟨S8x512x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18_0 : Ref sig .tc := ⟨.hbm, 27, rfl⟩
abbrev main_v18_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![arg2.toNat, c1_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S8x512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== DownRefIdeal.lean ====
abbrev S4096x4096 : Shape := ⟨2, ![4096, 4096]⟩
abbrev S4096x1024 : Shape := ⟨2, ![4096, 1024]⟩
abbrev S1x1024 : Shape := ⟨2, ![1, 1024]⟩
abbrev S1024x4096 : Shape := ⟨2, ![1024, 4096]⟩
abbrev S1024x1024 : Shape := ⟨2, ![1024, 1024]⟩
abbrev S512x1024 : Shape := ⟨2, ![512, 1024]⟩
abbrev S256x1024 : Shape := ⟨2, ![256, 1024]⟩
abbrev S_ : Shape := ⟨0, ![]⟩
abbrev S4096 : Shape := ⟨1, ![4096]⟩
abbrev S4096x1 : Shape := ⟨2, ![4096, 1]⟩

abbrev nBuf : Space → Nat
  | .hbm => 27
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S1x1024, .f32⟩
  | .hbm, ⟨3, _⟩ => ⟨S1024x4096, .f32⟩
  | .hbm, ⟨4, _⟩ => ⟨S4096x1024, .f32⟩
  | .hbm, ⟨5, _⟩ => ⟨S1024x1024, .f32⟩
  | .hbm, ⟨6, _⟩ => ⟨S512x1024, .f32⟩
  | .hbm, ⟨7, _⟩ => ⟨S512x1024, .f32⟩
  | .hbm, ⟨8, _⟩ => ⟨S256x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩

abbrev nD : Nat := 1
abbrev τ : Topo := Topo.v7x

variable {F : FTy → Type} [FloatOps F]
-- ==== Out.lean ====
abbrev S4096x1024 : Shape := ⟨2, ![4096, 1024]⟩
abbrev S1x1024 : Shape := ⟨2, ![1, 1024]⟩
abbrev S1024x4096 : Shape := ⟨2, ![1024, 4096]⟩
abbrev S1024x1024 : Shape := ⟨2, ![1024, 1024]⟩
abbrev S512x1024 : Shape := ⟨2, ![512, 1024]⟩
abbrev S256x1024 : Shape := ⟨2, ![256, 1024]⟩
abbrev S1024x512 : Shape := ⟨2, ![1024, 512]⟩
abbrev S8x512x1024 : Shape := ⟨3, ![8, 512, 1024]⟩
abbrev S8x128x1024 : Shape := ⟨3, ![8, 128, 1024]⟩
abbrev S1024x256 : Shape := ⟨2, ![1024, 256]⟩
abbrev S8x32x1024 : Shape := ⟨3, ![8, 32, 1024]⟩
abbrev S8x1312x1024 : Shape := ⟨3, ![8, 1312, 1024]⟩
abbrev S1024 : Shape := ⟨1, ![1024]⟩
abbrev S1024x1 : Shape := ⟨2, ![1024, 1]⟩

abbrev nBuf : Space → Nat
  | .hbm => 29
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1024x4096, .f32⟩
  | .hbm, ⟨4, _⟩ => ⟨S4096x1024, .f32⟩
  | .hbm, ⟨5, _⟩ => ⟨S1024x1024, .f32⟩
  | .hbm, ⟨6, _⟩ => ⟨S512x1024, .f32⟩
  | .hbm, ⟨7, _⟩ => ⟨S512x1024, .f32⟩
  | .hbm, ⟨8, _⟩ => ⟨S256x1024, .f32⟩
  | .hbm, ⟨9, _⟩ => ⟨S4096x1024, .bf16⟩
  | .hbm, ⟨10, _⟩ => ⟨S1024x512, .f32⟩
  | .hbm, ⟨11, _⟩ => ⟨S1024x512, .bf16⟩
  | .hbm, ⟨12, _⟩ => ⟨S1024x512, .f32⟩
  | .hbm, ⟨13, _⟩ => ⟨S1024x512, .bf16⟩
  | .hbm, ⟨14, _⟩ => ⟨S1024x1024, .bf16⟩
  | .hbm, ⟨15, _⟩ => ⟨S4096x1024, .f32⟩
  | .hbm, ⟨16, _⟩ => ⟨S4096x1024, .bf16⟩
  | .hbm, ⟨17, _⟩ => ⟨S8x512x1024, .bf16⟩
  | .hbm, ⟨18, _⟩ => ⟨S4096x1024, .bf16⟩
  | .hbm, ⟨19, _⟩ => ⟨S8x512x1024, .bf16⟩
  | .hbm, ⟨20, _⟩ => ⟨S1024x1024, .bf16⟩
  | .hbm, ⟨21, _⟩ => ⟨S8x128x1024, .bf16⟩
  | .hbm, ⟨22, _⟩ => ⟨S8x128x1024, .bf16⟩
  | .hbm, ⟨23, _⟩ => ⟨S1024x256, .f32⟩
  | .hbm, ⟨24, _⟩ => ⟨S1024x256, .bf16⟩
  | .hbm, ⟨25, _⟩ => ⟨S8x32x1024, .bf16⟩
  | .hbm, ⟨26, _⟩ => ⟨S8x1312x1024, .bf16⟩
  | .hbm, ⟨27, _⟩ => ⟨S4096x1024, .f32⟩
  | .hbm, ⟨28, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S8x128x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18_0 : Ref sig .tc := ⟨.hbm, 27, rfl⟩
abbrev main_v18_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let c0_i32 : BitVec 32 := 0#32
  ![arg2.toNat, c8_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S8x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== OutRefIdeal.lean ====
abbrev S4096x1024 : Shape := ⟨2, ![4096, 1024]⟩
abbrev S1x1024 : Shape := ⟨2, ![1, 1024]⟩
abbrev S1024x4096 : Shape := ⟨2, ![1024, 4096]⟩
abbrev S1024x1024 : Shape := ⟨2, ![1024, 1024]⟩
abbrev S512x1024 : Shape := ⟨2, ![512, 1024]⟩
abbrev S256x1024 : Shape := ⟨2, ![256, 1024]⟩
abbrev S_ : Shape := ⟨0, ![]⟩
abbrev S4096 : Shape := ⟨1, ![4096]⟩
abbrev S4096x1 : Shape := ⟨2, ![4096, 1]⟩

abbrev nBuf : Space → Nat
  | .hbm => 27
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1024x4096, .f32⟩
  | .hbm, ⟨4, _⟩ => ⟨S4096x1024, .f32⟩
  | .hbm, ⟨5, _⟩ => ⟨S1024x1024, .f32⟩
  | .hbm, ⟨6, _⟩ => ⟨S512x1024, .f32⟩
  | .hbm, ⟨7, _⟩ => ⟨S512x1024, .f32⟩
  | .hbm, ⟨8, _⟩ => ⟨S256x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩

abbrev nD : Nat := 1
abbrev τ : Topo := Topo.v7x

variable {F : FTy → Type} [FloatOps F]
-- ==== Last.lean ====
abbrev S4096x4096 : Shape := ⟨2, ![4096, 4096]⟩
abbrev S4096x1024 : Shape := ⟨2, ![4096, 1024]⟩
abbrev S1024x4096 : Shape := ⟨2, ![1024, 4096]⟩
abbrev S1024x1024 : Shape := ⟨2, ![1024, 1024]⟩
abbrev S512x1024 : Shape := ⟨2, ![512, 1024]⟩
abbrev S256x1024 : Shape := ⟨2, ![256, 1024]⟩
abbrev S1024x512 : Shape := ⟨2, ![1024, 512]⟩
abbrev S8x512x1024 : Shape := ⟨3, ![8, 512, 1024]⟩
abbrev S8x128x1024 : Shape := ⟨3, ![8, 128, 1024]⟩
abbrev S1024x256 : Shape := ⟨2, ![1024, 256]⟩
abbrev S8x32x1024 : Shape := ⟨3, ![8, 32, 1024]⟩
abbrev S8x1312x1024 : Shape := ⟨3, ![8, 1312, 1024]⟩
abbrev S64x1024 : Shape := ⟨2, ![64, 1024]⟩
abbrev S512x4096 : Shape := ⟨2, ![512, 4096]⟩
abbrev S8x1024 : Shape := ⟨2, ![8, 1024]⟩
abbrev S64x8x1024 : Shape := ⟨3, ![64, 8, 1024]⟩

abbrev nBuf : Space → Nat
  | .hbm => 30
  | .vmem => 13
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S1024x4096, .f32⟩
  | .hbm, ⟨4, _⟩ => ⟨S4096x1024, .f32⟩
  | .hbm, ⟨5, _⟩ => ⟨S1024x1024, .f32⟩
  | .hbm, ⟨6, _⟩ => ⟨S512x1024, .f32⟩
  | .hbm, ⟨7, _⟩ => ⟨S512x1024, .f32⟩
  | .hbm, ⟨8, _⟩ => ⟨S256x1024, .f32⟩
  | .hbm, ⟨9, _⟩ => ⟨S4096x4096, .bf16⟩
  | .hbm, ⟨10, _⟩ => ⟨S1024x512, .f32⟩
  | .hbm, ⟨11, _⟩ => ⟨S1024x512, .bf16⟩
  | .hbm, ⟨12, _⟩ => ⟨S1024x512, .f32⟩
  | .hbm, ⟨13, _⟩ => ⟨S1024x512, .bf16⟩
  | .hbm, ⟨14, _⟩ => ⟨S1024x1024, .bf16⟩
  | .hbm, ⟨15, _⟩ => ⟨S4096x1024, .f32⟩
  | .hbm, ⟨16, _⟩ => ⟨S4096x1024, .bf16⟩
  | .hbm, ⟨17, _⟩ => ⟨S8x512x1024, .bf16⟩
  | .hbm, ⟨18, _⟩ => ⟨S4096x1024, .bf16⟩
  | .hbm, ⟨19, _⟩ => ⟨S8x512x1024, .bf16⟩
  | .hbm, ⟨20, _⟩ => ⟨S1024x1024, .bf16⟩
  | .hbm, ⟨21, _⟩ => ⟨S8x128x1024, .bf16⟩
  | .hbm, ⟨22, _⟩ => ⟨S8x128x1024, .bf16⟩
  | .hbm, ⟨23, _⟩ => ⟨S1024x256, .f32⟩
  | .hbm, ⟨24, _⟩ => ⟨S1024x256, .bf16⟩
  | .hbm, ⟨25, _⟩ => ⟨S8x32x1024, .bf16⟩
  | .hbm, ⟨26, _⟩ => ⟨S8x1312x1024, .bf16⟩
  | .hbm, ⟨27, _⟩ => ⟨S4096x1024, .f32⟩
  | .hbm, ⟨28, _⟩ => ⟨S64x1024, .f32⟩
  | .hbm, ⟨29, _⟩ => ⟨S4096x1024, .bf16⟩
  | .local _ .vmem, ⟨0, _⟩ => ⟨S512x4096, .bf16⟩
  | .local _ .vmem, ⟨1, _⟩ => ⟨S512x4096, .bf16⟩
  | .local _ .vmem, ⟨2, _⟩ => ⟨S8x512x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S8x1024, .f32⟩
  | .local _ .vmem, ⟨10, _⟩ => ⟨S8x1024, .f32⟩
  | .local _ .vmem, ⟨11, _⟩ => ⟨S512x1024, .bf16⟩
  | .local _ .vmem, ⟨12, _⟩ => ⟨S512x1024, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18_0 : Ref sig .tc := ⟨.hbm, 27, rfl⟩
abbrev main_v18_1 : Ref sig .tc := ⟨.hbm, 28, rfl⟩
abbrev main_v18_2 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![arg2.toNat, c1_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S8x512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== LastRefIdeal.lean ====
abbrev S4096x4096 : Shape := ⟨2, ![4096, 4096]⟩
abbrev S4096x1024 : Shape := ⟨2, ![4096, 1024]⟩
abbrev S1024x4096 : Shape := ⟨2, ![1024, 4096]⟩
abbrev S1024x1024 : Shape := ⟨2, ![1024, 1024]⟩
abbrev S512x1024 : Shape := ⟨2, ![512, 1024]⟩
abbrev S256x1024 : Shape := ⟨2, ![256, 1024]⟩
abbrev S_ : Shape := ⟨0, ![]⟩
abbrev S4096 : Shape := ⟨1, ![4096]⟩
abbrev S8x64x8x1024 : Shape := ⟨4, ![8, 64, 8, 1024]⟩
abbrev S8x8x1024 : Shape := ⟨3, ![8, 8, 1024]⟩
abbrev S64x1024 : Shape := ⟨2, ![64, 1024]⟩

abbrev nBuf : Space → Nat
  | .hbm => 41
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S1024x4096, .f32⟩
  | .hbm, ⟨4, _⟩ => ⟨S4096x1024, .f32⟩
  | .hbm, ⟨5, _⟩ => ⟨S1024x1024, .f32⟩
  | .hbm, ⟨6, _⟩ => ⟨S512x1024, .f32⟩
  | .hbm, ⟨7, _⟩ => ⟨S512x1024, .f32⟩
  | .hbm, ⟨8, _⟩ => ⟨S256x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096, .f32⟩
  | .hbm, ⟨18, _⟩ => ⟨S_, .f32⟩
  | .hbm, ⟨19, _⟩ => ⟨S4096, .f32⟩
  | .hbm, ⟨20, _⟩ => ⟨S4096, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S4096, .f32⟩
  | .hbm, ⟨29, _⟩ => ⟨S_, .f32⟩
  | .hbm, ⟨30, _⟩ => ⟨S4096, .f32⟩
  | .hbm, ⟨31, _⟩ => ⟨S4096, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S8x64x8x1024, .f32⟩
  | .hbm, ⟨37, _⟩ => ⟨S_, .f32⟩
  | .hbm, ⟨38, _⟩ => ⟨S8x8x1024, .f32⟩
  | .hbm, ⟨39, _⟩ => ⟨S64x1024, .f32⟩
  | .hbm, ⟨40, _⟩ => ⟨S4096x1024, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_cst_3 : Ref sig .tc := ⟨.hbm, 23, rfl⟩
abbrev main_v10 : Ref sig .tc := ⟨.hbm, 24, rfl⟩
abbrev main_cst_4 : Ref sig .tc := ⟨.hbm, 25, rfl⟩
abbrev main_cst_5 : Ref sig .tc := ⟨.hbm, 26, rfl⟩
abbrev main_v11 : Ref sig .tc := ⟨.hbm, 27, rfl⟩
abbrev main_v12 : Ref sig .tc := ⟨.hbm, 28, rfl⟩
abbrev main_cst_6 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_7 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩

abbrev nD : Nat := 1
abbrev τ : Topo := Topo.v7x

variable {F : FTy → Type} [FloatOps F]
-- ==== Merge.lean ====
abbrev S4096x7424 : Shape := ⟨2, ![4096, 7424]⟩
abbrev S1x3072 : Shape := ⟨2, ![1, 3072]⟩
abbrev S4096x512 : Shape := ⟨2, ![4096, 512]⟩
abbrev S4096x256 : Shape := ⟨2, ![4096, 256]⟩
abbrev S512x1024 : Shape := ⟨2, ![512, 1024]⟩
abbrev S256x1024 : Shape := ⟨2, ![256, 1024]⟩
abbrev S1024x512 : Shape := ⟨2, ![1024, 512]⟩
abbrev S1024x256 : Shape := ⟨2, ![1024, 256]⟩
abbrev S4096x1024 : Shape := ⟨2, ![4096, 1024]⟩
abbrev S2048x512 : Shape := ⟨2, ![2048, 512]⟩
abbrev S2048x256 : Shape := ⟨2, ![2048, 256]⟩
abbrev S256x512 : Shape := ⟨2, ![256, 512]⟩
abbrev S256x256 : Shape := ⟨2, ![256, 256]⟩
abbrev S1x256 : Shape := ⟨2, ![1, 256]⟩

abbrev nBuf : Space → Nat
  | .hbm => 17
  | .vmem => 26
  | .smem => 0
  | _ => 0

abbrev bufTy : (tb : Table) → Fin (tcTables nBuf tb) → BufTy
  | .hbm, ⟨0, _⟩ => ⟨S4096x7424, .f32⟩
  | .hbm, ⟨1, _⟩ => ⟨S1x3072, .f32⟩
  | .hbm, ⟨2, _⟩ => ⟨S4096x512, .f32⟩
  | .hbm, ⟨3, _⟩ => ⟨S4096x512, .f32⟩
  | .hbm, ⟨4, _⟩ => ⟨S4096x256, .f32⟩
  | .hbm, ⟨5, _⟩ => ⟨S512x1024, .f32⟩
  | .hbm, ⟨6, _⟩ => ⟨S512x1024, .f32⟩
  | .hbm, ⟨7, _⟩ => ⟨S256x1024, .f32⟩
  | .hbm, ⟨8, _⟩ => ⟨S4096x512, .bf16⟩
  | .hbm, ⟨9, _⟩ => ⟨S4096x512, .bf16⟩
  | .hbm, ⟨10, _⟩ => ⟨S1024x512, .f32⟩
  | .hbm, ⟨11, _⟩ => ⟨S1024x512, .bf16⟩
  | .hbm, ⟨12, _⟩ => ⟨S1024x512, .f32⟩
  | .hbm, ⟨13, _⟩ => ⟨S1024x512, .bf16⟩
  | .hbm, ⟨14, _⟩ => ⟨S1024x256, .f32⟩
  | .hbm, ⟨15, _⟩ => ⟨S1024x256, .bf16⟩
  | .hbm, ⟨16, _⟩ => ⟨S4096x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x256, .f32⟩
  | .local _ .vmem, ⟨5, _⟩ => ⟨S2048x256, .f32⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S256x256, .bf16⟩
  | .local _ .vmem, ⟨11, _⟩ => ⟨S256x256, .bf16⟩
  | .local _ .vmem, ⟨12, _⟩ => ⟨S2048x256, .f32⟩
  | .local _ .vmem, ⟨13, _⟩ => ⟨S2048x256, .f32⟩
  | .local _ .vmem, ⟨14, _⟩ => ⟨S2048x256, .f32⟩
  | .local _ .vmem, ⟨15, _⟩ => ⟨S2048x256, .f32⟩
  | .local _ .vmem, ⟨16, _⟩ => ⟨S2048x256, .f32⟩
  | .local _ .vmem, ⟨17, _⟩ => ⟨S2048x256, .f32⟩
  | .local _ .vmem, ⟨18, _⟩ => ⟨S1x256, .f32⟩
  | .local _ .vmem, ⟨19, _⟩ => ⟨S1x256, .f32⟩
  | .local _ .vmem, ⟨20, _⟩ => ⟨S1x256, .f32⟩
  | .local _ .vmem, ⟨21, _⟩ => ⟨S1x256, .f32⟩
  | .local _ .vmem, ⟨22, _⟩ => ⟨S1x256, .f32⟩
  | .local _ .vmem, ⟨23, _⟩ => ⟨S1x256, .f32⟩
  | .local _ .vmem, ⟨24, _⟩ => ⟨S2048x256, .bf16⟩
  | .local _ .vmem, ⟨25, _⟩ => ⟨S2048x256, .bf16⟩
  | _, _ => ⟨S4096x7424, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.addi c17_i32 arg1
  let c0_i32 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c21_i32 : BitVec 32 := 21#32
  let v0 : BitVec 32 := Scalar.addi c21_i32 arg1
  let c0_i32 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.addi c25_i32 arg1
  let c0_i32 : BitVec 32 := 0#32
  ![arg0.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_10 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_11 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S2048x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== MergeRefIdeal.lean ====
abbrev S4096x7424 : Shape := ⟨2, ![4096, 7424]⟩
abbrev S1x3072 : Shape := ⟨2, ![1, 3072]⟩
abbrev S4096x512 : Shape := ⟨2, ![4096, 512]⟩
abbrev S4096x256 : Shape := ⟨2, ![4096, 256]⟩
abbrev S512x1024 : Shape := ⟨2, ![512, 1024]⟩
abbrev S256x1024 : Shape := ⟨2, ![256, 1024]⟩
abbrev S4096x3072 : Shape := ⟨2, ![4096, 3072]⟩
abbrev S_ : Shape := ⟨0, ![]⟩
abbrev S4096x1024 : Shape := ⟨2, ![4096, 1024]⟩

abbrev nBuf : Space → Nat
  | .hbm => 31
  | .vmem => 0
  | .smem => 0
  | _ => 0

abbrev bufTy : (tb : Table) → Fin (tcTables nBuf tb) → BufTy
  | .hbm, ⟨0, _⟩ => ⟨S4096x7424, .f32⟩
  | .hbm, ⟨1, _⟩ => ⟨S1x3072, .f32⟩
  | .hbm, ⟨2, _⟩ => ⟨S4096x512, .f32⟩
  | .hbm, ⟨3, _⟩ => ⟨S4096x512, .f32⟩
  | .hbm, ⟨4, _⟩ => ⟨S4096x256, .f32⟩
  | .hbm, ⟨5, _⟩ => ⟨S512x1024, .f32⟩
  | .hbm, ⟨6, _⟩ => ⟨S512x1024, .f32⟩
  | .hbm, ⟨7, _⟩ => ⟨S256x1024, .f32⟩
  | .hbm, ⟨8, _⟩ => ⟨S4096x3072, .f32⟩
  | .hbm, ⟨9, _⟩ => ⟨S4096x3072, .f32⟩
  | .hbm, ⟨10, _⟩ => ⟨S4096x3072, .f32⟩
  | .hbm, ⟨11, _⟩ => ⟨S4096x3072, .f32⟩
  | .hbm, ⟨12, _⟩ => ⟨S4096x3072, .f32⟩
  | .hbm, ⟨13, _⟩ => ⟨S_, .f32⟩
  | .hbm, ⟨14, _⟩ => ⟨S4096x3072, .f32⟩
  | .hbm, ⟨15, _⟩ => ⟨S4096x3072, .f32⟩
  | .hbm, ⟨16, _⟩ => ⟨S_, .f32⟩
  | .hbm, ⟨17, _⟩ => ⟨S4096x3072, .f32⟩
  | .hbm, ⟨18, _⟩ => ⟨S4096x3072, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .bf16⟩
  | _, _ => ⟨S4096x7424, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩

abbrev nD : Nat := 1
abbrev τ : Topo := Topo.v7x

variable {F : FTy → Type} [FloatOps F]
-- ==== Loss.lean ====
abbrev S64x1024 : Shape := ⟨2, ![64, 1024]⟩
abbrev S1x1 : Shape := ⟨2, ![1, 1]⟩
abbrev S1024 : Shape := ⟨1, ![1024]⟩
abbrev S1x1024 : Shape := ⟨2, ![1, 1024]⟩
abbrev S1 : Shape := ⟨1, ![1]⟩

abbrev nBuf : Space → Nat
  | .hbm => 2
  | .vmem => 2
  | .smem => 0
  | _ => 0

abbrev bufTy : (tb : Table) → Fin (tcTables nBuf tb) → BufTy
  | .hbm, ⟨0, _⟩ => ⟨S64x1024, .f32⟩
  | .hbm, ⟨1, _⟩ => ⟨S1x1, .f32⟩
  | .local _ .vmem, ⟨0, _⟩ => ⟨S64x1024, .f32⟩
  | .local _ .vmem, ⟨1, _⟩ => ⟨S1x1, .f32⟩
  | _, _ => ⟨S64x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S64x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== LossRefIdeal.lean ====
abbrev S64x1024 : Shape := ⟨2, ![64, 1024]⟩
abbrev S_ : Shape := ⟨0, ![]⟩
abbrev S1x1 : Shape := ⟨2, ![1, 1]⟩

abbrev nBuf : Space → Nat
  | .hbm => 8
  | .vmem => 0
  | .smem => 0
  | _ => 0

abbrev bufTy : (tb : Table) → Fin (tcTables nBuf tb) → BufTy
  | .hbm, ⟨0, _⟩ => ⟨S64x1024, .f32⟩
  | .hbm, ⟨1, _⟩ => ⟨S_, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S1x1, .f32⟩
  | _, _ => ⟨S64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_cst_1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== AdamT.lean ====
abbrev S2x1024x512 : Shape := ⟨3, ![2, 1024, 512]⟩
abbrev S2x512x1024 : Shape := ⟨3, ![2, 512, 1024]⟩
abbrev S1x256x512 : Shape := ⟨3, ![1, 256, 512]⟩
abbrev S1x512x256 : Shape := ⟨3, ![1, 512, 256]⟩
abbrev S512x256 : Shape := ⟨2, ![512, 256]⟩
abbrev S256x512 : Shape := ⟨2, ![256, 512]⟩

abbrev nBuf : Space → Nat
  | .hbm => 8
  | .vmem => 16
  | .smem => 0
  | _ => 0

abbrev bufTy : (tb : Table) → Fin (tcTables nBuf tb) → BufTy
  | .hbm, ⟨0, _⟩ => ⟨S2x1024x512, .f32⟩
  | .hbm, ⟨1, _⟩ => ⟨S2x512x1024, .f32⟩
  | .hbm, ⟨2, _⟩ => ⟨S2x1024x512, .f32⟩
  | .hbm, ⟨3, _⟩ => ⟨S2x1024x512, .f32⟩
  | .hbm, ⟨4, _⟩ => ⟨S2x1024x512, .f32⟩
  | .hbm, ⟨5, _⟩ => ⟨S2x1024x512, .f32⟩
  | .hbm, ⟨6, _⟩ => ⟨S2x1024x512, .f32⟩
  | .hbm, ⟨7, _⟩ => ⟨S2x1024x512, .f32⟩
  | .local _ .vmem, ⟨0, _⟩ => ⟨S1x256x512, .f32⟩
  | .local _ .vmem, ⟨1, _⟩ => ⟨S1x256x512, .f32⟩
  | .local _ .vmem, ⟨2, _⟩ => ⟨S1x512x256, .f32⟩
  | .local _ .vmem, ⟨3, _⟩ => ⟨S1x512x256, .f32⟩
  | .local _ .vmem, ⟨4, _⟩ => ⟨S1x256x512, .f32⟩
  | .local _ .vmem, ⟨5, _⟩ => ⟨S1x256x512, .f32⟩
  | .local _ .vmem, ⟨6, _⟩ => ⟨S1x256x512, .f32⟩
  | .local _ .vmem, ⟨7, _⟩ => ⟨S1x256x512, .f32⟩
  | .local _ .vmem, ⟨8, _⟩ => ⟨S1x256x512, .f32⟩
  | .local _ .vmem, ⟨9, _⟩ => ⟨S1x256x512, .f32⟩
  | .local _ .vmem, ⟨10, _⟩ => ⟨S1x256x512, .f32⟩
  | .local _ .vmem, ⟨11, _⟩ => ⟨S1x256x512, .f32⟩
  | .local _ .vmem, ⟨12, _⟩ => ⟨S1x256x512, .f32⟩
  | .local _ .vmem, ⟨13, _⟩ => ⟨S1x256x512, .f32⟩
  | .local _ .vmem, ⟨14, _⟩ => ⟨S1x256x512, .f32⟩
  | .local _ .vmem, ⟨15, _⟩ => ⟨S1x256x512, .f32⟩
  | _, _ => ⟨S2x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamTRefIdeal.lean ====
abbrev S2x1024x512 : Shape := ⟨3, ![2, 1024, 512]⟩
abbrev S2x512x1024 : Shape := ⟨3, ![2, 512, 1024]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S2x1024x512, .f32⟩
  | .hbm, ⟨1, _⟩ => ⟨S2x512x1024, .f32⟩
  | .hbm, ⟨2, _⟩ => ⟨S2x1024x512, .f32⟩
  | .hbm, ⟨3, _⟩ => ⟨S2x1024x512, .f32⟩
  | .hbm, ⟨4, _⟩ => ⟨S2x1024x512, .f32⟩
  | .hbm, ⟨5, _⟩ => ⟨S_, .f32⟩
  | .hbm, ⟨6, _⟩ => ⟨S2x1024x512, .f32⟩
  | .hbm, ⟨7, _⟩ => ⟨S2x1024x512, .f32⟩
  | .hbm, ⟨8, _⟩ => ⟨S_, .f32⟩
  | .hbm, ⟨9, _⟩ => ⟨S2x1024x512, .f32⟩
  | .hbm, ⟨10, _⟩ => ⟨S2x1024x512, .f32⟩
  | .hbm, ⟨11, _⟩ => ⟨S2x1024x512, .f32⟩
  | .hbm, ⟨12, _⟩ => ⟨S_, .f32⟩
  | .hbm, ⟨13, _⟩ => ⟨S2x1024x512, .f32⟩
  | .hbm, ⟨14, _⟩ => ⟨S2x1024x512, .f32⟩
  | .hbm, ⟨15, _⟩ => ⟨S2x1024x512, .f32⟩
  | .hbm, ⟨16, _⟩ => ⟨S_, .f32⟩
  | .hbm, ⟨17, _⟩ => ⟨S2x1024x512, .f32⟩
  | .hbm, ⟨18, _⟩ => ⟨S2x1024x512, .f32⟩
  | .hbm, ⟨19, _⟩ => ⟨S2x1024x512, .f32⟩
  | .hbm, ⟨20, _⟩ => ⟨S_, .f32⟩
  | .hbm, ⟨21, _⟩ => ⟨S2x1024x512, .f32⟩
  | .hbm, ⟨22, _⟩ => ⟨S2x1024x512, .f32⟩
  | .hbm, ⟨23, _⟩ => ⟨S_, .f32⟩
  | .hbm, ⟨24, _⟩ => ⟨S2x1024x512, .f32⟩
  | .hbm, ⟨25, _⟩ => ⟨S2x1024x512, .f32⟩
  | .hbm, ⟨26, _⟩ => ⟨S2x1024x512, .f32⟩
  | .hbm, ⟨27, _⟩ => ⟨S_, .f32⟩
  | .hbm, ⟨28, _⟩ => ⟨S2x1024x512, .f32⟩
  | .hbm, ⟨29, _⟩ => ⟨S2x1024x512, .f32⟩
  | .hbm, ⟨30, _⟩ => ⟨S2x1024x512, .f32⟩
  | .hbm, ⟨31, _⟩ => ⟨S_, .f32⟩
  | .hbm, ⟨32, _⟩ => ⟨S2x1024x512, .f32⟩
  | .hbm, ⟨33, _⟩ => ⟨S2x1024x512, .f32⟩
  | .hbm, ⟨34, _⟩ => ⟨S2x1024x512, .f32⟩
  | .hbm, ⟨35, _⟩ => ⟨S_, .f32⟩
  | .hbm, ⟨36, _⟩ => ⟨S2x1024x512, .f32⟩
  | .hbm, ⟨37, _⟩ => ⟨S2x1024x512, .f32⟩
  | _, _ => ⟨S2x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== AdamG.lean ====
abbrev S1024x128 : Shape := ⟨2, ![1024, 128]⟩
abbrev S512x128 : Shape := ⟨2, ![512, 128]⟩

abbrev nBuf : Space → Nat
  | .hbm => 7
  | .vmem => 14
  | .smem => 0
  | _ => 0

abbrev bufTy : (tb : Table) → Fin (tcTables nBuf tb) → BufTy
  | .hbm, ⟨0, _⟩ => ⟨S1024x128, .f32⟩
  | .hbm, ⟨1, _⟩ => ⟨S1024x128, .f32⟩
  | .hbm, ⟨2, _⟩ => ⟨S1024x128, .f32⟩
  | .hbm, ⟨3, _⟩ => ⟨S1024x128, .f32⟩
  | .hbm, ⟨4, _⟩ => ⟨S1024x128, .f32⟩
  | .hbm, ⟨5, _⟩ => ⟨S1024x128, .f32⟩
  | .hbm, ⟨6, _⟩ => ⟨S1024x128, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamGIdeal.lean ====
abbrev S1024x128 : Shape := ⟨2, ![1024, 128]⟩
abbrev S512x128 : Shape := ⟨2, ![512, 128]⟩

abbrev nBuf : Space → Nat
  | .hbm => 7
  | .vmem => 14
  | .smem => 0
  | _ => 0

abbrev bufTy : (tb : Table) → Fin (tcTables nBuf tb) → BufTy
  | .hbm, ⟨0, _⟩ => ⟨S1024x128, .f32⟩
  | .hbm, ⟨1, _⟩ => ⟨S1024x128, .f32⟩
  | .hbm, ⟨2, _⟩ => ⟨S1024x128, .f32⟩
  | .hbm, ⟨3, _⟩ => ⟨S1024x128, .f32⟩
  | .hbm, ⟨4, _⟩ => ⟨S1024x128, .f32⟩
  | .hbm, ⟨5, _⟩ => ⟨S1024x128, .f32⟩
  | .hbm, ⟨6, _⟩ => ⟨S1024x128, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamGRefIdeal.lean ====
abbrev S1024x128 : Shape := ⟨2, ![1024, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x128, .f32⟩
  | .hbm, ⟨1, _⟩ => ⟨S1024x128, .f32⟩
  | .hbm, ⟨2, _⟩ => ⟨S1024x128, .f32⟩
  | .hbm, ⟨3, _⟩ => ⟨S1024x128, .f32⟩
  | .hbm, ⟨4, _⟩ => ⟨S_, .f32⟩
  | .hbm, ⟨5, _⟩ => ⟨S1024x128, .f32⟩
  | .hbm, ⟨6, _⟩ => ⟨S1024x128, .f32⟩
  | .hbm, ⟨7, _⟩ => ⟨S_, .f32⟩
  | .hbm, ⟨8, _⟩ => ⟨S1024x128, .f32⟩
  | .hbm, ⟨9, _⟩ => ⟨S1024x128, .f32⟩
  | .hbm, ⟨10, _⟩ => ⟨S1024x128, .f32⟩
  | .hbm, ⟨11, _⟩ => ⟨S_, .f32⟩
  | .hbm, ⟨12, _⟩ => ⟨S1024x128, .f32⟩
  | .hbm, ⟨13, _⟩ => ⟨S1024x128, .f32⟩
  | .hbm, ⟨14, _⟩ => ⟨S1024x128, .f32⟩
  | .hbm, ⟨15, _⟩ => ⟨S_, .f32⟩
  | .hbm, ⟨16, _⟩ => ⟨S1024x128, .f32⟩
  | .hbm, ⟨17, _⟩ => ⟨S1024x128, .f32⟩
  | .hbm, ⟨18, _⟩ => ⟨S1024x128, .f32⟩
  | .hbm, ⟨19, _⟩ => ⟨S_, .f32⟩
  | .hbm, ⟨20, _⟩ => ⟨S1024x128, .f32⟩
  | .hbm, ⟨21, _⟩ => ⟨S1024x128, .f32⟩
  | .hbm, ⟨22, _⟩ => ⟨S_, .f32⟩
  | .hbm, ⟨23, _⟩ => ⟨S1024x128, .f32⟩
  | .hbm, ⟨24, _⟩ => ⟨S1024x128, .f32⟩
  | .hbm, ⟨25, _⟩ => ⟨S1024x128, .f32⟩
  | .hbm, ⟨26, _⟩ => ⟨S_, .f32⟩
  | .hbm, ⟨27, _⟩ => ⟨S1024x128, .f32⟩
  | .hbm, ⟨28, _⟩ => ⟨S1024x128, .f32⟩
  | .hbm, ⟨29, _⟩ => ⟨S1024x128, .f32⟩
  | .hbm, ⟨30, _⟩ => ⟨S_, .f32⟩
  | .hbm, ⟨31, _⟩ => ⟨S1024x128, .f32⟩
  | .hbm, ⟨32, _⟩ => ⟨S1024x128, .f32⟩
  | .hbm, ⟨33, _⟩ => ⟨S1024x128, .f32⟩
  | .hbm, ⟨34, _⟩ => ⟨S_, .f32⟩
  | .hbm, ⟨35, _⟩ => ⟨S1024x128, .f32⟩
  | .hbm, ⟨36, _⟩ => ⟨S1024x128, .f32⟩
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamA.lean ====
abbrev S512x128 : Shape := ⟨2, ![512, 128]⟩

abbrev nBuf : Space → Nat
  | .hbm => 7
  | .vmem => 7
  | .smem => 0
  | _ => 0

abbrev bufTy : (tb : Table) → Fin (tcTables nBuf tb) → BufTy
  | .hbm, ⟨0, _⟩ => ⟨S512x128, .f32⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S512x128, .f32⟩
  | .hbm, ⟨5, _⟩ => ⟨S512x128, .f32⟩
  | .hbm, ⟨6, _⟩ => ⟨S512x128, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | _, _ => ⟨S512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamAIdeal.lean ====
abbrev S512x128 : Shape := ⟨2, ![512, 128]⟩

abbrev nBuf : Space → Nat
  | .hbm => 7
  | .vmem => 7
  | .smem => 0
  | _ => 0

abbrev bufTy : (tb : Table) → Fin (tcTables nBuf tb) → BufTy
  | .hbm, ⟨0, _⟩ => ⟨S512x128, .f32⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S512x128, .f32⟩
  | .hbm, ⟨5, _⟩ => ⟨S512x128, .f32⟩
  | .hbm, ⟨6, _⟩ => ⟨S512x128, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | _, _ => ⟨S512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamARefIdeal.lean ====
abbrev S512x128 : Shape := ⟨2, ![512, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x128, .f32⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S_, .f32⟩
  | .hbm, ⟨5, _⟩ => ⟨S512x128, .f32⟩
  | .hbm, ⟨6, _⟩ => ⟨S512x128, .f32⟩
  | .hbm, ⟨7, _⟩ => ⟨S_, .f32⟩
  | .hbm, ⟨8, _⟩ => ⟨S512x128, .f32⟩
  | .hbm, ⟨9, _⟩ => ⟨S512x128, .f32⟩
  | .hbm, ⟨10, _⟩ => ⟨S512x128, .f32⟩
  | .hbm, ⟨11, _⟩ => ⟨S_, .f32⟩
  | .hbm, ⟨12, _⟩ => ⟨S512x128, .f32⟩
  | .hbm, ⟨13, _⟩ => ⟨S512x128, .f32⟩
  | .hbm, ⟨14, _⟩ => ⟨S512x128, .f32⟩
  | .hbm, ⟨15, _⟩ => ⟨S_, .f32⟩
  | .hbm, ⟨16, _⟩ => ⟨S512x128, .f32⟩
  | .hbm, ⟨17, _⟩ => ⟨S512x128, .f32⟩
  | .hbm, ⟨18, _⟩ => ⟨S512x128, .f32⟩
  | .hbm, ⟨19, _⟩ => ⟨S_, .f32⟩
  | .hbm, ⟨20, _⟩ => ⟨S512x128, .f32⟩
  | .hbm, ⟨21, _⟩ => ⟨S512x128, .f32⟩
  | .hbm, ⟨22, _⟩ => ⟨S_, .f32⟩
  | .hbm, ⟨23, _⟩ => ⟨S512x128, .f32⟩
  | .hbm, ⟨24, _⟩ => ⟨S512x128, .f32⟩
  | .hbm, ⟨25, _⟩ => ⟨S512x128, .f32⟩
  | .hbm, ⟨26, _⟩ => ⟨S_, .f32⟩
  | .hbm, ⟨27, _⟩ => ⟨S512x128, .f32⟩
  | .hbm, ⟨28, _⟩ => ⟨S512x128, .f32⟩
  | .hbm, ⟨29, _⟩ => ⟨S512x128, .f32⟩
  | .hbm, ⟨30, _⟩ => ⟨S_, .f32⟩
  | .hbm, ⟨31, _⟩ => ⟨S512x128, .f32⟩
  | .hbm, ⟨32, _⟩ => ⟨S512x128, .f32⟩
  | .hbm, ⟨33, _⟩ => ⟨S512x128, .f32⟩
  | .hbm, ⟨34, _⟩ => ⟨S_, .f32⟩
  | .hbm, ⟨35, _⟩ => ⟨S512x128, .f32⟩
  | .hbm, ⟨36, _⟩ => ⟨S512x128, .f32⟩
  | _, _ => ⟨S512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamO.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamOIdeal.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamORefIdeal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamF.lean ====
abbrev S1024x1024 : Shape := ⟨2, ![1024, 1024]⟩
abbrev S512x1024 : Shape := ⟨2, ![512, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamFIdeal.lean ====
abbrev S1024x1024 : Shape := ⟨2, ![1024, 1024]⟩
abbrev S512x1024 : Shape := ⟨2, ![512, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamFRefIdeal.lean ====
abbrev S1024x1024 : Shape := ⟨2, ![1024, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S_, .f32⟩
  | .hbm, ⟨5, _⟩ => ⟨S1024x1024, .f32⟩
  | .hbm, ⟨6, _⟩ => ⟨S1024x1024, .f32⟩
  | .hbm, ⟨7, _⟩ => ⟨S_, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S_, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S_, .f32⟩
  | .hbm, ⟨16, _⟩ => ⟨S1024x1024, .f32⟩
  | .hbm, ⟨17, _⟩ => ⟨S1024x1024, .f32⟩
  | .hbm, ⟨18, _⟩ => ⟨S1024x1024, .f32⟩
  | .hbm, ⟨19, _⟩ => ⟨S_, .f32⟩
  | .hbm, ⟨20, _⟩ => ⟨S1024x1024, .f32⟩
  | .hbm, ⟨21, _⟩ => ⟨S1024x1024, .f32⟩
  | .hbm, ⟨22, _⟩ => ⟨S_, .f32⟩
  | .hbm, ⟨23, _⟩ => ⟨S1024x1024, .f32⟩
  | .hbm, ⟨24, _⟩ => ⟨S1024x1024, .f32⟩
  | .hbm, ⟨25, _⟩ => ⟨S1024x1024, .f32⟩
  | .hbm, ⟨26, _⟩ => ⟨S_, .f32⟩
  | .hbm, ⟨27, _⟩ => ⟨S1024x1024, .f32⟩
  | .hbm, ⟨28, _⟩ => ⟨S1024x1024, .f32⟩
  | .hbm, ⟨29, _⟩ => ⟨S1024x1024, .f32⟩
  | .hbm, ⟨30, _⟩ => ⟨S_, .f32⟩
  | .hbm, ⟨31, _⟩ => ⟨S1024x1024, .f32⟩
  | .hbm, ⟨32, _⟩ => ⟨S1024x1024, .f32⟩
  | .hbm, ⟨33, _⟩ => ⟨S1024x1024, .f32⟩
  | .hbm, ⟨34, _⟩ => ⟨S_, .f32⟩
  | .hbm, ⟨35, _⟩ => ⟨S1024x1024, .f32⟩
  | .hbm, ⟨36, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamI.lean ====
abbrev S1856x1024 : Shape := ⟨2, ![1856, 1024]⟩
abbrev S464x1024 : Shape := ⟨2, ![464, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1856x1024, .f32⟩
  | .hbm, ⟨1, _⟩ => ⟨S1856x1024, .f32⟩
  | .hbm, ⟨2, _⟩ => ⟨S1856x1024, .f32⟩
  | .hbm, ⟨3, _⟩ => ⟨S1856x1024, .f32⟩
  | .hbm, ⟨4, _⟩ => ⟨S1856x1024, .f32⟩
  | .hbm, ⟨5, _⟩ => ⟨S1856x1024, .f32⟩
  | .hbm, ⟨6, _⟩ => ⟨S1856x1024, .f32⟩
  | .local _ .vmem, ⟨0, _⟩ => ⟨S464x1024, .f32⟩
  | .local _ .vmem, ⟨1, _⟩ => ⟨S464x1024, .f32⟩
  | .local _ .vmem, ⟨2, _⟩ => ⟨S464x1024, .f32⟩
  | .local _ .vmem, ⟨3, _⟩ => ⟨S464x1024, .f32⟩
  | .local _ .vmem, ⟨4, _⟩ => ⟨S464x1024, .f32⟩
  | .local _ .vmem, ⟨5, _⟩ => ⟨S464x1024, .f32⟩
  | .local _ .vmem, ⟨6, _⟩ => ⟨S464x1024, .f32⟩
  | .local _ .vmem, ⟨7, _⟩ => ⟨S464x1024, .f32⟩
  | .local _ .vmem, ⟨8, _⟩ => ⟨S464x1024, .f32⟩
  | .local _ .vmem, ⟨9, _⟩ => ⟨S464x1024, .f32⟩
  | .local _ .vmem, ⟨10, _⟩ => ⟨S464x1024, .f32⟩
  | .local _ .vmem, ⟨11, _⟩ => ⟨S464x1024, .f32⟩
  | .local _ .vmem, ⟨12, _⟩ => ⟨S464x1024, .f32⟩
  | .local _ .vmem, ⟨13, _⟩ => ⟨S464x1024, .f32⟩
  | _, _ => ⟨S1856x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S464x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S464x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S464x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S464x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S464x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S464x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S464x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamIIdeal.lean ====
abbrev S1856x1024 : Shape := ⟨2, ![1856, 1024]⟩
abbrev S464x1024 : Shape := ⟨2, ![464, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1856x1024, .f32⟩
  | .hbm, ⟨1, _⟩ => ⟨S1856x1024, .f32⟩
  | .hbm, ⟨2, _⟩ => ⟨S1856x1024, .f32⟩
  | .hbm, ⟨3, _⟩ => ⟨S1856x1024, .f32⟩
  | .hbm, ⟨4, _⟩ => ⟨S1856x1024, .f32⟩
  | .hbm, ⟨5, _⟩ => ⟨S1856x1024, .f32⟩
  | .hbm, ⟨6, _⟩ => ⟨S1856x1024, .f32⟩
  | .local _ .vmem, ⟨0, _⟩ => ⟨S464x1024, .f32⟩
  | .local _ .vmem, ⟨1, _⟩ => ⟨S464x1024, .f32⟩
  | .local _ .vmem, ⟨2, _⟩ => ⟨S464x1024, .f32⟩
  | .local _ .vmem, ⟨3, _⟩ => ⟨S464x1024, .f32⟩
  | .local _ .vmem, ⟨4, _⟩ => ⟨S464x1024, .f32⟩
  | .local _ .vmem, ⟨5, _⟩ => ⟨S464x1024, .f32⟩
  | .local _ .vmem, ⟨6, _⟩ => ⟨S464x1024, .f32⟩
  | .local _ .vmem, ⟨7, _⟩ => ⟨S464x1024, .f32⟩
  | .local _ .vmem, ⟨8, _⟩ => ⟨S464x1024, .f32⟩
  | .local _ .vmem, ⟨9, _⟩ => ⟨S464x1024, .f32⟩
  | .local _ .vmem, ⟨10, _⟩ => ⟨S464x1024, .f32⟩
  | .local _ .vmem, ⟨11, _⟩ => ⟨S464x1024, .f32⟩
  | .local _ .vmem, ⟨12, _⟩ => ⟨S464x1024, .f32⟩
  | .local _ .vmem, ⟨13, _⟩ => ⟨S464x1024, .f32⟩
  | _, _ => ⟨S1856x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S464x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S464x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S464x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S464x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S464x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S464x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S464x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamIRefIdeal.lean ====
abbrev S1856x1024 : Shape := ⟨2, ![1856, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1856x1024, .f32⟩
  | .hbm, ⟨1, _⟩ => ⟨S1856x1024, .f32⟩
  | .hbm, ⟨2, _⟩ => ⟨S1856x1024, .f32⟩
  | .hbm, ⟨3, _⟩ => ⟨S1856x1024, .f32⟩
  | .hbm, ⟨4, _⟩ => ⟨S_, .f32⟩
  | .hbm, ⟨5, _⟩ => ⟨S1856x1024, .f32⟩
  | .hbm, ⟨6, _⟩ => ⟨S1856x1024, .f32⟩
  | .hbm, ⟨7, _⟩ => ⟨S_, .f32⟩
  | .hbm, ⟨8, _⟩ => ⟨S1856x1024, .f32⟩
  | .hbm, ⟨9, _⟩ => ⟨S1856x1024, .f32⟩
  | .hbm, ⟨10, _⟩ => ⟨S1856x1024, .f32⟩
  | .hbm, ⟨11, _⟩ => ⟨S_, .f32⟩
  | .hbm, ⟨12, _⟩ => ⟨S1856x1024, .f32⟩
  | .hbm, ⟨13, _⟩ => ⟨S1856x1024, .f32⟩
  | .hbm, ⟨14, _⟩ => ⟨S1856x1024, .f32⟩
  | .hbm, ⟨15, _⟩ => ⟨S_, .f32⟩
  | .hbm, ⟨16, _⟩ => ⟨S1856x1024, .f32⟩
  | .hbm, ⟨17, _⟩ => ⟨S1856x1024, .f32⟩
  | .hbm, ⟨18, _⟩ => ⟨S1856x1024, .f32⟩
  | .hbm, ⟨19, _⟩ => ⟨S_, .f32⟩
  | .hbm, ⟨20, _⟩ => ⟨S1856x1024, .f32⟩
  | .hbm, ⟨21, _⟩ => ⟨S1856x1024, .f32⟩
  | .hbm, ⟨22, _⟩ => ⟨S_, .f32⟩
  | .hbm, ⟨23, _⟩ => ⟨S1856x1024, .f32⟩
  | .hbm, ⟨24, _⟩ => ⟨S1856x1024, .f32⟩
  | .hbm, ⟨25, _⟩ => ⟨S1856x1024, .f32⟩
  | .hbm, ⟨26, _⟩ => ⟨S_, .f32⟩
  | .hbm, ⟨27, _⟩ => ⟨S1856x1024, .f32⟩
  | .hbm, ⟨28, _⟩ => ⟨S1856x1024, .f32⟩
  | .hbm, ⟨29, _⟩ => ⟨S1856x1024, .f32⟩
  | .hbm, ⟨30, _⟩ => ⟨S_, .f32⟩
  | .hbm, ⟨31, _⟩ => ⟨S1856x1024, .f32⟩
  | .hbm, ⟨32, _⟩ => ⟨S1856x1024, .f32⟩
  | .hbm, ⟨33, _⟩ => ⟨S1856x1024, .f32⟩
  | .hbm, ⟨34, _⟩ => ⟨S_, .f32⟩
  | .hbm, ⟨35, _⟩ => ⟨S1856x1024, .f32⟩
  | .hbm, ⟨36, _⟩ => ⟨S1856x1024, .f32⟩
  | _, _ => ⟨S1856x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamN.lean ====
abbrev S2x1024 : Shape := ⟨2, ![2, 1024]⟩

abbrev nBuf : Space → Nat
  | .hbm => 7
  | .vmem => 7
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S2x1024, .f32⟩
  | .hbm, ⟨5, _⟩ => ⟨S2x1024, .f32⟩
  | .hbm, ⟨6, _⟩ => ⟨S2x1024, .f32⟩
  | .local _ .vmem, ⟨0, _⟩ => ⟨S2x1024, .f32⟩
  | .local _ .vmem, ⟨1, _⟩ => ⟨S2x1024, .f32⟩
  | .local _ .vmem, ⟨2, _⟩ => ⟨S2x1024, .f32⟩
  | .local _ .vmem, ⟨3, _⟩ => ⟨S2x1024, .f32⟩
  | .local _ .vmem, ⟨4, _⟩ => ⟨S2x1024, .f32⟩
  | .local _ .vmem, ⟨5, _⟩ => ⟨S2x1024, .f32⟩
  | .local _ .vmem, ⟨6, _⟩ => ⟨S2x1024, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamNIdeal.lean ====
abbrev S2x1024 : Shape := ⟨2, ![2, 1024]⟩

abbrev nBuf : Space → Nat
  | .hbm => 7
  | .vmem => 7
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S2x1024, .f32⟩
  | .hbm, ⟨5, _⟩ => ⟨S2x1024, .f32⟩
  | .hbm, ⟨6, _⟩ => ⟨S2x1024, .f32⟩
  | .local _ .vmem, ⟨0, _⟩ => ⟨S2x1024, .f32⟩
  | .local _ .vmem, ⟨1, _⟩ => ⟨S2x1024, .f32⟩
  | .local _ .vmem, ⟨2, _⟩ => ⟨S2x1024, .f32⟩
  | .local _ .vmem, ⟨3, _⟩ => ⟨S2x1024, .f32⟩
  | .local _ .vmem, ⟨4, _⟩ => ⟨S2x1024, .f32⟩
  | .local _ .vmem, ⟨5, _⟩ => ⟨S2x1024, .f32⟩
  | .local _ .vmem, ⟨6, _⟩ => ⟨S2x1024, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamNRefIdeal.lean ====
abbrev S2x1024 : Shape := ⟨2, ![2, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S_, .f32⟩
  | .hbm, ⟨5, _⟩ => ⟨S2x1024, .f32⟩
  | .hbm, ⟨6, _⟩ => ⟨S2x1024, .f32⟩
  | .hbm, ⟨7, _⟩ => ⟨S_, .f32⟩
  | .hbm, ⟨8, _⟩ => ⟨S2x1024, .f32⟩
  | .hbm, ⟨9, _⟩ => ⟨S2x1024, .f32⟩
  | .hbm, ⟨10, _⟩ => ⟨S2x1024, .f32⟩
  | .hbm, ⟨11, _⟩ => ⟨S_, .f32⟩
  | .hbm, ⟨12, _⟩ => ⟨S2x1024, .f32⟩
  | .hbm, ⟨13, _⟩ => ⟨S2x1024, .f32⟩
  | .hbm, ⟨14, _⟩ => ⟨S2x1024, .f32⟩
  | .hbm, ⟨15, _⟩ => ⟨S_, .f32⟩
  | .hbm, ⟨16, _⟩ => ⟨S2x1024, .f32⟩
  | .hbm, ⟨17, _⟩ => ⟨S2x1024, .f32⟩
  | .hbm, ⟨18, _⟩ => ⟨S2x1024, .f32⟩
  | .hbm, ⟨19, _⟩ => ⟨S_, .f32⟩
  | .hbm, ⟨20, _⟩ => ⟨S2x1024, .f32⟩
  | .hbm, ⟨21, _⟩ => ⟨S2x1024, .f32⟩
  | .hbm, ⟨22, _⟩ => ⟨S_, .f32⟩
  | .hbm, ⟨23, _⟩ => ⟨S2x1024, .f32⟩
  | .hbm, ⟨24, _⟩ => ⟨S2x1024, .f32⟩
  | .hbm, ⟨25, _⟩ => ⟨S2x1024, .f32⟩
  | .hbm, ⟨26, _⟩ => ⟨S_, .f32⟩
  | .hbm, ⟨27, _⟩ => ⟨S2x1024, .f32⟩
  | .hbm, ⟨28, _⟩ => ⟨S2x1024, .f32⟩
  | .hbm, ⟨29, _⟩ => ⟨S2x1024, .f32⟩
  | .hbm, ⟨30, _⟩ => ⟨S_, .f32⟩
  | .hbm, ⟨31, _⟩ => ⟨S2x1024, .f32⟩
  | .hbm, ⟨32, _⟩ => ⟨S2x1024, .f32⟩
  | .hbm, ⟨33, _⟩ => ⟨S2x1024, .f32⟩
  | .hbm, ⟨34, _⟩ => ⟨S_, .f32⟩
  | .hbm, ⟨35, _⟩ => ⟨S2x1024, .f32⟩
  | .hbm, ⟨36, _⟩ => ⟨S2x1024, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamB.lean ====
abbrev S2x3072 : Shape := ⟨2, ![2, 3072]⟩

abbrev nBuf : Space → Nat
  | .hbm => 7
  | .vmem => 7
  | .smem => 0
  | _ => 0

abbrev bufTy : (tb : Table) → Fin (tcTables nBuf tb) → BufTy
  | .hbm, ⟨0, _⟩ => ⟨S2x3072, .f32⟩
  | .hbm, ⟨1, _⟩ => ⟨S2x3072, .f32⟩
  | .hbm, ⟨2, _⟩ => ⟨S2x3072, .f32⟩
  | .hbm, ⟨3, _⟩ => ⟨S2x3072, .f32⟩
  | .hbm, ⟨4, _⟩ => ⟨S2x3072, .f32⟩
  | .hbm, ⟨5, _⟩ => ⟨S2x3072, .f32⟩
  | .hbm, ⟨6, _⟩ => ⟨S2x3072, .f32⟩
  | .local _ .vmem, ⟨0, _⟩ => ⟨S2x3072, .f32⟩
  | .local _ .vmem, ⟨1, _⟩ => ⟨S2x3072, .f32⟩
  | .local _ .vmem, ⟨2, _⟩ => ⟨S2x3072, .f32⟩
  | .local _ .vmem, ⟨3, _⟩ => ⟨S2x3072, .f32⟩
  | .local _ .vmem, ⟨4, _⟩ => ⟨S2x3072, .f32⟩
  | .local _ .vmem, ⟨5, _⟩ => ⟨S2x3072, .f32⟩
  | .local _ .vmem, ⟨6, _⟩ => ⟨S2x3072, .f32⟩
  | _, _ => ⟨S2x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x3072 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamBIdeal.lean ====
abbrev S2x3072 : Shape := ⟨2, ![2, 3072]⟩

abbrev nBuf : Space → Nat
  | .hbm => 7
  | .vmem => 7
  | .smem => 0
  | _ => 0

abbrev bufTy : (tb : Table) → Fin (tcTables nBuf tb) → BufTy
  | .hbm, ⟨0, _⟩ => ⟨S2x3072, .f32⟩
  | .hbm, ⟨1, _⟩ => ⟨S2x3072, .f32⟩
  | .hbm, ⟨2, _⟩ => ⟨S2x3072, .f32⟩
  | .hbm, ⟨3, _⟩ => ⟨S2x3072, .f32⟩
  | .hbm, ⟨4, _⟩ => ⟨S2x3072, .f32⟩
  | .hbm, ⟨5, _⟩ => ⟨S2x3072, .f32⟩
  | .hbm, ⟨6, _⟩ => ⟨S2x3072, .f32⟩
  | .local _ .vmem, ⟨0, _⟩ => ⟨S2x3072, .f32⟩
  | .local _ .vmem, ⟨1, _⟩ => ⟨S2x3072, .f32⟩
  | .local _ .vmem, ⟨2, _⟩ => ⟨S2x3072, .f32⟩
  | .local _ .vmem, ⟨3, _⟩ => ⟨S2x3072, .f32⟩
  | .local _ .vmem, ⟨4, _⟩ => ⟨S2x3072, .f32⟩
  | .local _ .vmem, ⟨5, _⟩ => ⟨S2x3072, .f32⟩
  | .local _ .vmem, ⟨6, _⟩ => ⟨S2x3072, .f32⟩
  | _, _ => ⟨S2x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x3072 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamBRefIdeal.lean ====
abbrev S2x3072 : Shape := ⟨2, ![2, 3072]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x3072, .f32⟩
  | .hbm, ⟨1, _⟩ => ⟨S2x3072, .f32⟩
  | .hbm, ⟨2, _⟩ => ⟨S2x3072, .f32⟩
  | .hbm, ⟨3, _⟩ => ⟨S2x3072, .f32⟩
  | .hbm, ⟨4, _⟩ => ⟨S_, .f32⟩
  | .hbm, ⟨5, _⟩ => ⟨S2x3072, .f32⟩
  | .hbm, ⟨6, _⟩ => ⟨S2x3072, .f32⟩
  | .hbm, ⟨7, _⟩ => ⟨S_, .f32⟩
  | .hbm, ⟨8, _⟩ => ⟨S2x3072, .f32⟩
  | .hbm, ⟨9, _⟩ => ⟨S2x3072, .f32⟩
  | .hbm, ⟨10, _⟩ => ⟨S2x3072, .f32⟩
  | .hbm, ⟨11, _⟩ => ⟨S_, .f32⟩
  | .hbm, ⟨12, _⟩ => ⟨S2x3072, .f32⟩
  | .hbm, ⟨13, _⟩ => ⟨S2x3072, .f32⟩
  | .hbm, ⟨14, _⟩ => ⟨S2x3072, .f32⟩
  | .hbm, ⟨15, _⟩ => ⟨S_, .f32⟩
  | .hbm, ⟨16, _⟩ => ⟨S2x3072, .f32⟩
  | .hbm, ⟨17, _⟩ => ⟨S2x3072, .f32⟩
  | .hbm, ⟨18, _⟩ => ⟨S2x3072, .f32⟩
  | .hbm, ⟨19, _⟩ => ⟨S_, .f32⟩
  | .hbm, ⟨20, _⟩ => ⟨S2x3072, .f32⟩
  | .hbm, ⟨21, _⟩ => ⟨S2x3072, .f32⟩
  | .hbm, ⟨22, _⟩ => ⟨S_, .f32⟩
  | .hbm, ⟨23, _⟩ => ⟨S2x3072, .f32⟩
  | .hbm, ⟨24, _⟩ => ⟨S2x3072, .f32⟩
  | .hbm, ⟨25, _⟩ => ⟨S2x3072, .f32⟩
  | .hbm, ⟨26, _⟩ => ⟨S_, .f32⟩
  | .hbm, ⟨27, _⟩ => ⟨S2x3072, .f32⟩
  | .hbm, ⟨28, _⟩ => ⟨S2x3072, .f32⟩
  | .hbm, ⟨29, _⟩ => ⟨S2x3072, .f32⟩
  | .hbm, ⟨30, _⟩ => ⟨S_, .f32⟩
  | .hbm, ⟨31, _⟩ => ⟨S2x3072, .f32⟩
  | .hbm, ⟨32, _⟩ => ⟨S2x3072, .f32⟩
  | .hbm, ⟨33, _⟩ => ⟨S2x3072, .f32⟩
  | .hbm, ⟨34, _⟩ => ⟨S_, .f32⟩
  | .hbm, ⟨35, _⟩ => ⟨S2x3072, .f32⟩
  | .hbm, ⟨36, _⟩ => ⟨S2x3072, .f32⟩
  | _, _ => ⟨S2x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamS.lean ====
abbrev S2x512 : Shape := ⟨2, ![2, 512]⟩

abbrev nBuf : Space → Nat
  | .hbm => 7
  | .vmem => 7
  | .smem => 0
  | _ => 0

abbrev bufTy : (tb : Table) → Fin (tcTables nBuf tb) → BufTy
  | .hbm, ⟨0, _⟩ => ⟨S2x512, .f32⟩
  | .hbm, ⟨1, _⟩ => ⟨S2x512, .f32⟩
  | .hbm, ⟨2, _⟩ => ⟨S2x512, .f32⟩
  | .hbm, ⟨3, _⟩ => ⟨S2x512, .f32⟩
  | .hbm, ⟨4, _⟩ => ⟨S2x512, .f32⟩
  | .hbm, ⟨5, _⟩ => ⟨S2x512, .f32⟩
  | .hbm, ⟨6, _⟩ => ⟨S2x512, .f32⟩
  | .local _ .vmem, ⟨0, _⟩ => ⟨S2x512, .f32⟩
  | .local _ .vmem, ⟨1, _⟩ => ⟨S2x512, .f32⟩
  | .local _ .vmem, ⟨2, _⟩ => ⟨S2x512, .f32⟩
  | .local _ .vmem, ⟨3, _⟩ => ⟨S2x512, .f32⟩
  | .local _ .vmem, ⟨4, _⟩ => ⟨S2x512, .f32⟩
  | .local _ .vmem, ⟨5, _⟩ => ⟨S2x512, .f32⟩
  | .local _ .vmem, ⟨6, _⟩ => ⟨S2x512, .f32⟩
  | _, _ => ⟨S2x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamSIdeal.lean ====
abbrev S2x512 : Shape := ⟨2, ![2, 512]⟩

abbrev nBuf : Space → Nat
  | .hbm => 7
  | .vmem => 7
  | .smem => 0
  | _ => 0

abbrev bufTy : (tb : Table) → Fin (tcTables nBuf tb) → BufTy
  | .hbm, ⟨0, _⟩ => ⟨S2x512, .f32⟩
  | .hbm, ⟨1, _⟩ => ⟨S2x512, .f32⟩
  | .hbm, ⟨2, _⟩ => ⟨S2x512, .f32⟩
  | .hbm, ⟨3, _⟩ => ⟨S2x512, .f32⟩
  | .hbm, ⟨4, _⟩ => ⟨S2x512, .f32⟩
  | .hbm, ⟨5, _⟩ => ⟨S2x512, .f32⟩
  | .hbm, ⟨6, _⟩ => ⟨S2x512, .f32⟩
  | .local _ .vmem, ⟨0, _⟩ => ⟨S2x512, .f32⟩
  | .local _ .vmem, ⟨1, _⟩ => ⟨S2x512, .f32⟩
  | .local _ .vmem, ⟨2, _⟩ => ⟨S2x512, .f32⟩
  | .local _ .vmem, ⟨3, _⟩ => ⟨S2x512, .f32⟩
  | .local _ .vmem, ⟨4, _⟩ => ⟨S2x512, .f32⟩
  | .local _ .vmem, ⟨5, _⟩ => ⟨S2x512, .f32⟩
  | .local _ .vmem, ⟨6, _⟩ => ⟨S2x512, .f32⟩
  | _, _ => ⟨S2x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamSRefIdeal.lean ====
abbrev S2x512 : Shape := ⟨2, ![2, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x512, .f32⟩
  | .hbm, ⟨1, _⟩ => ⟨S2x512, .f32⟩
  | .hbm, ⟨2, _⟩ => ⟨S2x512, .f32⟩
  | .hbm, ⟨3, _⟩ => ⟨S2x512, .f32⟩
  | .hbm, ⟨4, _⟩ => ⟨S_, .f32⟩
  | .hbm, ⟨5, _⟩ => ⟨S2x512, .f32⟩
  | .hbm, ⟨6, _⟩ => ⟨S2x512, .f32⟩
  | .hbm, ⟨7, _⟩ => ⟨S_, .f32⟩
  | .hbm, ⟨8, _⟩ => ⟨S2x512, .f32⟩
  | .hbm, ⟨9, _⟩ => ⟨S2x512, .f32⟩
  | .hbm, ⟨10, _⟩ => ⟨S2x512, .f32⟩
  | .hbm, ⟨11, _⟩ => ⟨S_, .f32⟩
  | .hbm, ⟨12, _⟩ => ⟨S2x512, .f32⟩
  | .hbm, ⟨13, _⟩ => ⟨S2x512, .f32⟩
  | .hbm, ⟨14, _⟩ => ⟨S2x512, .f32⟩
  | .hbm, ⟨15, _⟩ => ⟨S_, .f32⟩
  | .hbm, ⟨16, _⟩ => ⟨S2x512, .f32⟩
  | .hbm, ⟨17, _⟩ => ⟨S2x512, .f32⟩
  | .hbm, ⟨18, _⟩ => ⟨S2x512, .f32⟩
  | .hbm, ⟨19, _⟩ => ⟨S_, .f32⟩
  | .hbm, ⟨20, _⟩ => ⟨S2x512, .f32⟩
  | .hbm, ⟨21, _⟩ => ⟨S2x512, .f32⟩
  | .hbm, ⟨22, _⟩ => ⟨S_, .f32⟩
  | .hbm, ⟨23, _⟩ => ⟨S2x512, .f32⟩
  | .hbm, ⟨24, _⟩ => ⟨S2x512, .f32⟩
  | .hbm, ⟨25, _⟩ => ⟨S2x512, .f32⟩
  | .hbm, ⟨26, _⟩ => ⟨S_, .f32⟩
  | .hbm, ⟨27, _⟩ => ⟨S2x512, .f32⟩
  | .hbm, ⟨28, _⟩ => ⟨S2x512, .f32⟩
  | .hbm, ⟨29, _⟩ => ⟨S2x512, .f32⟩
  | .hbm, ⟨30, _⟩ => ⟨S_, .f32⟩
  | .hbm, ⟨31, _⟩ => ⟨S2x512, .f32⟩
  | .hbm, ⟨32, _⟩ => ⟨S2x512, .f32⟩
  | .hbm, ⟨33, _⟩ => ⟨S2x512, .f32⟩
  | .hbm, ⟨34, _⟩ => ⟨S_, .f32⟩
  | .hbm, ⟨35, _⟩ => ⟨S2x512, .f32⟩
  | .hbm, ⟨36, _⟩ => ⟨S2x512, .f32⟩
  | _, _ => ⟨S2x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamC.lean ====
abbrev S6x64 : Shape := ⟨2, ![6, 64]⟩

abbrev nBuf : Space → Nat
  | .hbm => 7
  | .vmem => 7
  | .smem => 0
  | _ => 0

abbrev bufTy : (tb : Table) → Fin (tcTables nBuf tb) → BufTy
  | .hbm, ⟨0, _⟩ => ⟨S6x64, .f32⟩
  | .hbm, ⟨1, _⟩ => ⟨S6x64, .f32⟩
  | .hbm, ⟨2, _⟩ => ⟨S6x64, .f32⟩
  | .hbm, ⟨3, _⟩ => ⟨S6x64, .f32⟩
  | .hbm, ⟨4, _⟩ => ⟨S6x64, .f32⟩
  | .hbm, ⟨5, _⟩ => ⟨S6x64, .f32⟩
  | .hbm, ⟨6, _⟩ => ⟨S6x64, .f32⟩
  | .local _ .vmem, ⟨0, _⟩ => ⟨S6x64, .f32⟩
  | .local _ .vmem, ⟨1, _⟩ => ⟨S6x64, .f32⟩
  | .local _ .vmem, ⟨2, _⟩ => ⟨S6x64, .f32⟩
  | .local _ .vmem, ⟨3, _⟩ => ⟨S6x64, .f32⟩
  | .local _ .vmem, ⟨4, _⟩ => ⟨S6x64, .f32⟩
  | .local _ .vmem, ⟨5, _⟩ => ⟨S6x64, .f32⟩
  | .local _ .vmem, ⟨6, _⟩ => ⟨S6x64, .f32⟩
  | _, _ => ⟨S6x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S6x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S6x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S6x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S6x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S6x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S6x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S6x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamCIdeal.lean ====
abbrev S6x64 : Shape := ⟨2, ![6, 64]⟩

abbrev nBuf : Space → Nat
  | .hbm => 7
  | .vmem => 7
  | .smem => 0
  | _ => 0

abbrev bufTy : (tb : Table) → Fin (tcTables nBuf tb) → BufTy
  | .hbm, ⟨0, _⟩ => ⟨S6x64, .f32⟩
  | .hbm, ⟨1, _⟩ => ⟨S6x64, .f32⟩
  | .hbm, ⟨2, _⟩ => ⟨S6x64, .f32⟩
  | .hbm, ⟨3, _⟩ => ⟨S6x64, .f32⟩
  | .hbm, ⟨4, _⟩ => ⟨S6x64, .f32⟩
  | .hbm, ⟨5, _⟩ => ⟨S6x64, .f32⟩
  | .hbm, ⟨6, _⟩ => ⟨S6x64, .f32⟩
  | .local _ .vmem, ⟨0, _⟩ => ⟨S6x64, .f32⟩
  | .local _ .vmem, ⟨1, _⟩ => ⟨S6x64, .f32⟩
  | .local _ .vmem, ⟨2, _⟩ => ⟨S6x64, .f32⟩
  | .local _ .vmem, ⟨3, _⟩ => ⟨S6x64, .f32⟩
  | .local _ .vmem, ⟨4, _⟩ => ⟨S6x64, .f32⟩
  | .local _ .vmem, ⟨5, _⟩ => ⟨S6x64, .f32⟩
  | .local _ .vmem, ⟨6, _⟩ => ⟨S6x64, .f32⟩
  | _, _ => ⟨S6x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S6x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S6x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S6x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S6x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S6x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S6x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S6x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamCRefIdeal.lean ====
abbrev S6x64 : Shape := ⟨2, ![6, 64]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S6x64, .f32⟩
  | .hbm, ⟨1, _⟩ => ⟨S6x64, .f32⟩
  | .hbm, ⟨2, _⟩ => ⟨S6x64, .f32⟩
  | .hbm, ⟨3, _⟩ => ⟨S6x64, .f32⟩
  | .hbm, ⟨4, _⟩ => ⟨S_, .f32⟩
  | .hbm, ⟨5, _⟩ => ⟨S6x64, .f32⟩
  | .hbm, ⟨6, _⟩ => ⟨S6x64, .f32⟩
  | .hbm, ⟨7, _⟩ => ⟨S_, .f32⟩
  | .hbm, ⟨8, _⟩ => ⟨S6x64, .f32⟩
  | .hbm, ⟨9, _⟩ => ⟨S6x64, .f32⟩
  | .hbm, ⟨10, _⟩ => ⟨S6x64, .f32⟩
  | .hbm, ⟨11, _⟩ => ⟨S_, .f32⟩
  | .hbm, ⟨12, _⟩ => ⟨S6x64, .f32⟩
  | .hbm, ⟨13, _⟩ => ⟨S6x64, .f32⟩
  | .hbm, ⟨14, _⟩ => ⟨S6x64, .f32⟩
  | .hbm, ⟨15, _⟩ => ⟨S_, .f32⟩
  | .hbm, ⟨16, _⟩ => ⟨S6x64, .f32⟩
  | .hbm, ⟨17, _⟩ => ⟨S6x64, .f32⟩
  | .hbm, ⟨18, _⟩ => ⟨S6x64, .f32⟩
  | .hbm, ⟨19, _⟩ => ⟨S_, .f32⟩
  | .hbm, ⟨20, _⟩ => ⟨S6x64, .f32⟩
  | .hbm, ⟨21, _⟩ => ⟨S6x64, .f32⟩
  | .hbm, ⟨22, _⟩ => ⟨S_, .f32⟩
  | .hbm, ⟨23, _⟩ => ⟨S6x64, .f32⟩
  | .hbm, ⟨24, _⟩ => ⟨S6x64, .f32⟩
  | .hbm, ⟨25, _⟩ => ⟨S6x64, .f32⟩
  | .hbm, ⟨26, _⟩ => ⟨S_, .f32⟩
  | .hbm, ⟨27, _⟩ => ⟨S6x64, .f32⟩
  | .hbm, ⟨28, _⟩ => ⟨S6x64, .f32⟩
  | .hbm, ⟨29, _⟩ => ⟨S6x64, .f32⟩
  | .hbm, ⟨30, _⟩ => ⟨S_, .f32⟩
  | .hbm, ⟨31, _⟩ => ⟨S6x64, .f32⟩
  | .hbm, ⟨32, _⟩ => ⟨S6x64, .f32⟩
  | .hbm, ⟨33, _⟩ => ⟨S6x64, .f32⟩
  | .hbm, ⟨34, _⟩ => ⟨S_, .f32⟩
  | .hbm, ⟨35, _⟩ => ⟨S6x64, .f32⟩
  | .hbm, ⟨36, _⟩ => ⟨S6x64, .f32⟩
  | _, _ => ⟨S6x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamH.lean ====
abbrev S2x64 : Shape := ⟨2, ![2, 64]⟩

abbrev nBuf : Space → Nat
  | .hbm => 7
  | .vmem => 7
  | .smem => 0
  | _ => 0

abbrev bufTy : (tb : Table) → Fin (tcTables nBuf tb) → BufTy
  | .hbm, ⟨0, _⟩ => ⟨S2x64, .f32⟩
  | .hbm, ⟨1, _⟩ => ⟨S2x64, .f32⟩
  | .hbm, ⟨2, _⟩ => ⟨S2x64, .f32⟩
  | .hbm, ⟨3, _⟩ => ⟨S2x64, .f32⟩
  | .hbm, ⟨4, _⟩ => ⟨S2x64, .f32⟩
  | .hbm, ⟨5, _⟩ => ⟨S2x64, .f32⟩
  | .hbm, ⟨6, _⟩ => ⟨S2x64, .f32⟩
  | .local _ .vmem, ⟨0, _⟩ => ⟨S2x64, .f32⟩
  | .local _ .vmem, ⟨1, _⟩ => ⟨S2x64, .f32⟩
  | .local _ .vmem, ⟨2, _⟩ => ⟨S2x64, .f32⟩
  | .local _ .vmem, ⟨3, _⟩ => ⟨S2x64, .f32⟩
  | .local _ .vmem, ⟨4, _⟩ => ⟨S2x64, .f32⟩
  | .local _ .vmem, ⟨5, _⟩ => ⟨S2x64, .f32⟩
  | .local _ .vmem, ⟨6, _⟩ => ⟨S2x64, .f32⟩
  | _, _ => ⟨S2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamHRefIdeal.lean ====
abbrev S2x64 : Shape := ⟨2, ![2, 64]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x64, .f32⟩
  | .hbm, ⟨1, _⟩ => ⟨S2x64, .f32⟩
  | .hbm, ⟨2, _⟩ => ⟨S2x64, .f32⟩
  | .hbm, ⟨3, _⟩ => ⟨S2x64, .f32⟩
  | .hbm, ⟨4, _⟩ => ⟨S_, .f32⟩
  | .hbm, ⟨5, _⟩ => ⟨S2x64, .f32⟩
  | .hbm, ⟨6, _⟩ => ⟨S2x64, .f32⟩
  | .hbm, ⟨7, _⟩ => ⟨S_, .f32⟩
  | .hbm, ⟨8, _⟩ => ⟨S2x64, .f32⟩
  | .hbm, ⟨9, _⟩ => ⟨S2x64, .f32⟩
  | .hbm, ⟨10, _⟩ => ⟨S2x64, .f32⟩
  | .hbm, ⟨11, _⟩ => ⟨S_, .f32⟩
  | .hbm, ⟨12, _⟩ => ⟨S2x64, .f32⟩
  | .hbm, ⟨13, _⟩ => ⟨S2x64, .f32⟩
  | .hbm, ⟨14, _⟩ => ⟨S2x64, .f32⟩
  | .hbm, ⟨15, _⟩ => ⟨S_, .f32⟩
  | .hbm, ⟨16, _⟩ => ⟨S2x64, .f32⟩
  | .hbm, ⟨17, _⟩ => ⟨S2x64, .f32⟩
  | .hbm, ⟨18, _⟩ => ⟨S2x64, .f32⟩
  | .hbm, ⟨19, _⟩ => ⟨S_, .f32⟩
  | .hbm, ⟨20, _⟩ => ⟨S2x64, .f32⟩
  | .hbm, ⟨21, _⟩ => ⟨S2x64, .f32⟩
  | .hbm, ⟨22, _⟩ => ⟨S_, .f32⟩
  | .hbm, ⟨23, _⟩ => ⟨S2x64, .f32⟩
  | .hbm, ⟨24, _⟩ => ⟨S2x64, .f32⟩
  | .hbm, ⟨25, _⟩ => ⟨S2x64, .f32⟩
  | .hbm, ⟨26, _⟩ => ⟨S_, .f32⟩
  | .hbm, ⟨27, _⟩ => ⟨S2x64, .f32⟩
  | .hbm, ⟨28, _⟩ => ⟨S2x64, .f32⟩
  | .hbm, ⟨29, _⟩ => ⟨S2x64, .f32⟩
  | .hbm, ⟨30, _⟩ => ⟨S_, .f32⟩
  | .hbm, ⟨31, _⟩ => ⟨S2x64, .f32⟩
  | .hbm, ⟨32, _⟩ => ⟨S2x64, .f32⟩
  | .hbm, ⟨33, _⟩ => ⟨S2x64, .f32⟩
  | .hbm, ⟨34, _⟩ => ⟨S_, .f32⟩
  | .hbm, ⟨35, _⟩ => ⟨S2x64, .f32⟩
  | .hbm, ⟨36, _⟩ => ⟨S2x64, .f32⟩
  | _, _ => ⟨S2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== MixC.lean ====
abbrev S4096x7424 : Shape := ⟨2, ![4096, 7424]⟩
abbrev S1x3072 : Shape := ⟨2, ![1, 3072]⟩
abbrev S4096x512 : Shape := ⟨2, ![4096, 512]⟩
abbrev S512x1024 : Shape := ⟨2, ![512, 1024]⟩
abbrev S4096x1024 : Shape := ⟨2, ![4096, 1024]⟩
abbrev S1024x512 : Shape := ⟨2, ![1024, 512]⟩
abbrev S16x1024 : Shape := ⟨2, ![16, 1024]⟩
abbrev S2048x512 : Shape := ⟨2, ![2048, 512]⟩
abbrev S256x512 : Shape := ⟨2, ![256, 512]⟩
abbrev S2048x256 : Shape := ⟨2, ![2048, 256]⟩
abbrev S1x256 : Shape := ⟨2, ![1, 256]⟩
abbrev S8x256 : Shape := ⟨2, ![8, 256]⟩
abbrev S256x8x256 : Shape := ⟨3, ![256, 8, 256]⟩

abbrev nBuf : Space → Nat
  | .hbm => 14
  | .vmem => 18
  | .smem => 0
  | _ => 0

abbrev bufTy : (tb : Table) → Fin (tcTables nBuf tb) → BufTy
  | .hbm, ⟨0, _⟩ => ⟨S4096x7424, .f32⟩
  | .hbm, ⟨1, _⟩ => ⟨S1x3072, .f32⟩
  | .hbm, ⟨2, _⟩ => ⟨S4096x512, .f32⟩
  | .hbm, ⟨3, _⟩ => ⟨S512x1024, .f32⟩
  | .hbm, ⟨4, _⟩ => ⟨S4096x1024, .f32⟩
  | .hbm, ⟨5, _⟩ => ⟨S4096x7424, .f32⟩
  | .hbm, ⟨6, _⟩ => ⟨S4096x512, .bf16⟩
  | .hbm, ⟨7, _⟩ => ⟨S1024x512, .f32⟩
  | .hbm, ⟨8, _⟩ => ⟨S1024x512, .bf16⟩
  | .hbm, ⟨9, _⟩ => ⟨S4096x7424, .bf16⟩
  | .hbm, ⟨10, _⟩ => ⟨S4096x512, .f32⟩
  | .hbm, ⟨11, _⟩ => ⟨S1024x512, .f32⟩
  | .hbm, ⟨12, _⟩ => ⟨S4096x7424, .bf16⟩
  | .hbm, ⟨13, _⟩ => ⟨S16x1024, .f32⟩
  | .local _ .vmem, ⟨0, _⟩ => ⟨S2048x512, .bf16⟩
  | .local _ .vmem, ⟨1, _⟩ => ⟨S2048x512, .bf16⟩
  | .local _ .vmem, ⟨2, _⟩ => ⟨S256x512, .bf16⟩
  | .local _ .vmem, ⟨3, _⟩ => ⟨S256x512, .bf16⟩
  | .local _ .vmem, ⟨4, _⟩ => ⟨S2048x256, .f32⟩
  | .local _ .vmem, ⟨5, _⟩ => ⟨S2048x256, .f32⟩
  | .local _ .vmem, ⟨6, _⟩ => ⟨S1x256, .f32⟩
  | .local _ .vmem, ⟨7, _⟩ => ⟨S1x256, .f32⟩
  | .local _ .vmem, ⟨8, _⟩ => ⟨S2048x256, .f32⟩
  | .local _ .vmem, ⟨9, _⟩ => ⟨S2048x256, .f32⟩
  | .local _ .vmem, ⟨10, _⟩ => ⟨S2048x512, .f32⟩
  | .local _ .vmem, ⟨11, _⟩ => ⟨S2048x512, .f32⟩
  | .local _ .vmem, ⟨12, _⟩ => ⟨S1024x512, .f32⟩
  | .local _ .vmem, ⟨13, _⟩ => ⟨S2048x256, .bf16⟩
  | .local _ .vmem, ⟨14, _⟩ => ⟨S2048x256, .bf16⟩
  | .local _ .vmem, ⟨15, _⟩ => ⟨S8x256, .f32⟩
  | .local _ .vmem, ⟨16, _⟩ => ⟨S8x256, .f32⟩
  | .local _ .vmem, ⟨17, _⟩ => ⟨S2048x512, .f32⟩
  | _, _ => ⟨S4096x7424, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![2, 4], ![false, false]⟩

def k0_mult1 (i : grid0.Coords) : BitVec 32 :=
  let arg1 : BitVec 32 := BitVec.ofNat 32 (i 1).val
  let c256_i32 : BitVec 32 := 256#32
  let v26 : BitVec 32 := Scalar.muli arg1 c256_i32
  v26
def k0_cond1 (i : grid0.Coords) : BitVec 1 :=
  let arg0 : BitVec 32 := BitVec.ofNat 32 (i 0).val
  let c0_i32 : BitVec 32 := 0#32
  let v35 : BitVec 1 := Scalar.cmpi .eq arg0 c0_i32
  let v36 : BitVec 32 := Scalar.extui v35
  let c0_i32_22 : BitVec 32 := 0#32
  let v37 : BitVec 1 := Scalar.cmpi .ne v36 c0_i32_22
  v37

def k0_off1 (i : grid0.Coords) : Fin 2 → Nat :=
  let arg1 : BitVec 32 := BitVec.ofNat 32 (i 1).val
  let c256_i32 : BitVec 32 := 256#32
  let v26 : BitVec 32 := Scalar.muli arg1 c256_i32
  let v27 : BitVec 32 := v26
  let v50 : Index := Scalar.indexCast v27
  let c0_30 : Index := 0#32
  ![v50.toNat, 0]
def k0_cond2 (i : grid0.Coords) : BitVec 1 :=
  let arg0 : BitVec 32 := BitVec.ofNat 32 (i 0).val
  let c0_i32_23 : BitVec 32 := 0#32
  let v38 : BitVec 1 := Scalar.cmpi .sgt arg0 c0_i32_23
  let v39 : BitVec 32 := Scalar.extui v38
  let c0_i32_24 : BitVec 32 := 0#32
  let v40 : BitVec 1 := Scalar.cmpi .ne v39 c0_i32_24
  v40

def k0_off2 (i : grid0.Coords) : Fin 2 → Nat :=
  let arg1 : BitVec 32 := BitVec.ofNat 32 (i 1).val
  let c256_i32 : BitVec 32 := 256#32
  let v26 : BitVec 32 := Scalar.muli arg1 c256_i32
  let v27 : BitVec 32 := v26
  let v50 : Index := Scalar.indexCast v27
  let c0_30 : Index := 0#32
  ![v50.toNat, 0]
def k0_cond5 (i : grid0.Coords) : BitVec 1 :=
  let arg1 : BitVec 32 := BitVec.ofNat 32 (i 1).val
  let c3_i32 : BitVec 32 := 3#32
  let v47 : BitVec 1 := Scalar.cmpi .eq arg1 c3_i32
  let v48 : BitVec 32 := Scalar.extui v47
  let c0_i32_29 : BitVec 32 := 0#32
  let v49 : BitVec 1 := Scalar.cmpi .ne v48 c0_i32_29
  v49

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c21_i32 : BitVec 32 := 21#32
  let v0 : BitVec 32 := Scalar.addi c21_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c21_i32 : BitVec 32 := 21#32
  let v0 : BitVec 32 := Scalar.addi c21_i32 arg1
  let c0_i32 : BitVec 32 := 0#32
  ![arg0.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1024x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== MixCRefIdeal.lean ====
abbrev S4096x7424 : Shape := ⟨2, ![4096, 7424]⟩
abbrev S1x3072 : Shape := ⟨2, ![1, 3072]⟩
abbrev S4096x512 : Shape := ⟨2, ![4096, 512]⟩
abbrev S512x1024 : Shape := ⟨2, ![512, 1024]⟩
abbrev S4096x1024 : Shape := ⟨2, ![4096, 1024]⟩
abbrev S1x1024 : Shape := ⟨2, ![1, 1024]⟩
abbrev S_ : Shape := ⟨0, ![]⟩
abbrev S1024x512 : Shape := ⟨2, ![1024, 512]⟩
abbrev S4096x5376 : Shape := ⟨2, ![4096, 5376]⟩
abbrev S2x256x8x1024 : Shape := ⟨4, ![2, 256, 8, 1024]⟩
abbrev S2x8x1024 : Shape := ⟨3, ![2, 8, 1024]⟩
abbrev S16x1024 : Shape := ⟨2, ![16, 1024]⟩

abbrev nBuf : Space → Nat
  | .hbm => 39
  | .vmem => 0
  | .smem => 0
  | _ => 0

abbrev bufTy : (tb : Table) → Fin (tcTables nBuf tb) → BufTy
  | .hbm, ⟨0, _⟩ => ⟨S4096x7424, .f32⟩
  | .hbm, ⟨1, _⟩ => ⟨S1x3072, .f32⟩
  | .hbm, ⟨2, _⟩ => ⟨S4096x512, .f32⟩
  | .hbm, ⟨3, _⟩ => ⟨S512x1024, .f32⟩
  | .hbm, ⟨4, _⟩ => ⟨S4096x1024, .f32⟩
  | .hbm, ⟨5, _⟩ => ⟨S4096x7424, .f32⟩
  | .hbm, ⟨6, _⟩ => ⟨S1x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096x1024, .f32⟩
  | .hbm, ⟨17, _⟩ => ⟨S4096x1024, .f32⟩
  | .hbm, ⟨18, _⟩ => ⟨S_, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S1024x512, .f32⟩
  | .hbm, ⟨27, _⟩ => ⟨S512x1024, .f32⟩
  | .hbm, ⟨28, _⟩ => ⟨S4096x512, .f32⟩
  | .hbm, ⟨29, _⟩ => ⟨S4096x1024, .f32⟩
  | .hbm, ⟨30, _⟩ => ⟨S4096x5376, .f32⟩
  | .hbm, ⟨31, _⟩ => ⟨S4096x1024, .f32⟩
  | .hbm, ⟨32, _⟩ => ⟨S4096x7424, .f32⟩
  | .hbm, ⟨33, _⟩ => ⟨S4096x7424, .bf16⟩
  | .hbm, ⟨34, _⟩ => ⟨S1024x512, .f32⟩
  | .hbm, ⟨35, _⟩ => ⟨S2x256x8x1024, .f32⟩
  | .hbm, ⟨36, _⟩ => ⟨S_, .f32⟩
  | .hbm, ⟨37, _⟩ => ⟨S2x8x1024, .f32⟩
  | .hbm, ⟨38, _⟩ => ⟨S16x1024, .f32⟩
  | _, _ => ⟨S4096x7424, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_2 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]
-- ==== MixP.lean ====
abbrev S4096x7424 : Shape := ⟨2, ![4096, 7424]⟩
abbrev S1x3072 : Shape := ⟨2, ![1, 3072]⟩
abbrev S4096x512 : Shape := ⟨2, ![4096, 512]⟩
abbrev S512x1024 : Shape := ⟨2, ![512, 1024]⟩
abbrev S4096x1024 : Shape := ⟨2, ![4096, 1024]⟩
abbrev S1024x512 : Shape := ⟨2, ![1024, 512]⟩
abbrev S16x1024 : Shape := ⟨2, ![16, 1024]⟩
abbrev S2048x512 : Shape := ⟨2, ![2048, 512]⟩
abbrev S256x512 : Shape := ⟨2, ![256, 512]⟩
abbrev S2048x256 : Shape := ⟨2, ![2048, 256]⟩
abbrev S1x256 : Shape := ⟨2, ![1, 256]⟩
abbrev S8x256 : Shape := ⟨2, ![8, 256]⟩
abbrev S256x8x256 : Shape := ⟨3, ![256, 8, 256]⟩

abbrev nBuf : Space → Nat
  | .hbm => 14
  | .vmem => 18
  | .smem => 0
  | _ => 0

abbrev bufTy : (tb : Table) → Fin (tcTables nBuf tb) → BufTy
  | .hbm, ⟨0, _⟩ => ⟨S4096x7424, .f32⟩
  | .hbm, ⟨1, _⟩ => ⟨S1x3072, .f32⟩
  | .hbm, ⟨2, _⟩ => ⟨S4096x512, .f32⟩
  | .hbm, ⟨3, _⟩ => ⟨S512x1024, .f32⟩
  | .hbm, ⟨4, _⟩ => ⟨S4096x1024, .f32⟩
  | .hbm, ⟨5, _⟩ => ⟨S4096x7424, .f32⟩
  | .hbm, ⟨6, _⟩ => ⟨S4096x512, .bf16⟩
  | .hbm, ⟨7, _⟩ => ⟨S1024x512, .f32⟩
  | .hbm, ⟨8, _⟩ => ⟨S1024x512, .bf16⟩
  | .hbm, ⟨9, _⟩ => ⟨S4096x7424, .bf16⟩
  | .hbm, ⟨10, _⟩ => ⟨S4096x512, .f32⟩
  | .hbm, ⟨11, _⟩ => ⟨S1024x512, .f32⟩
  | .hbm, ⟨12, _⟩ => ⟨S4096x7424, .bf16⟩
  | .hbm, ⟨13, _⟩ => ⟨S16x1024, .f32⟩
  | .local _ .vmem, ⟨0, _⟩ => ⟨S2048x512, .bf16⟩
  | .local _ .vmem, ⟨1, _⟩ => ⟨S2048x512, .bf16⟩
  | .local _ .vmem, ⟨2, _⟩ => ⟨S256x512, .bf16⟩
  | .local _ .vmem, ⟨3, _⟩ => ⟨S256x512, .bf16⟩
  | .local _ .vmem, ⟨4, _⟩ => ⟨S2048x256, .f32⟩
  | .local _ .vmem, ⟨5, _⟩ => ⟨S2048x256, .f32⟩
  | .local _ .vmem, ⟨6, _⟩ => ⟨S1x256, .f32⟩
  | .local _ .vmem, ⟨7, _⟩ => ⟨S1x256, .f32⟩
  | .local _ .vmem, ⟨8, _⟩ => ⟨S2048x256, .f32⟩
  | .local _ .vmem, ⟨9, _⟩ => ⟨S2048x256, .f32⟩
  | .local _ .vmem, ⟨10, _⟩ => ⟨S2048x512, .f32⟩
  | .local _ .vmem, ⟨11, _⟩ => ⟨S2048x512, .f32⟩
  | .local _ .vmem, ⟨12, _⟩ => ⟨S1024x512, .f32⟩
  | .local _ .vmem, ⟨13, _⟩ => ⟨S2048x256, .bf16⟩
  | .local _ .vmem, ⟨14, _⟩ => ⟨S2048x256, .bf16⟩
  | .local _ .vmem, ⟨15, _⟩ => ⟨S8x256, .f32⟩
  | .local _ .vmem, ⟨16, _⟩ => ⟨S8x256, .f32⟩
  | .local _ .vmem, ⟨17, _⟩ => ⟨S2048x512, .f32⟩
  | _, _ => ⟨S4096x7424, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![2, 4], ![false, false]⟩

def k0_mult1 (i : grid0.Coords) : BitVec 32 :=
  let arg1 : BitVec 32 := BitVec.ofNat 32 (i 1).val
  let c256_i32 : BitVec 32 := 256#32
  let v26 : BitVec 32 := Scalar.muli arg1 c256_i32
  v26
def k0_cond1 (i : grid0.Coords) : BitVec 1 :=
  let arg0 : BitVec 32 := BitVec.ofNat 32 (i 0).val
  let c0_i32 : BitVec 32 := 0#32
  let v35 : BitVec 1 := Scalar.cmpi .eq arg0 c0_i32
  let v36 : BitVec 32 := Scalar.extui v35
  let c0_i32_22 : BitVec 32 := 0#32
  let v37 : BitVec 1 := Scalar.cmpi .ne v36 c0_i32_22
  v37

def k0_off1 (i : grid0.Coords) : Fin 2 → Nat :=
  let arg1 : BitVec 32 := BitVec.ofNat 32 (i 1).val
  let c256_i32 : BitVec 32 := 256#32
  let v26 : BitVec 32 := Scalar.muli arg1 c256_i32
  let v27 : BitVec 32 := v26
  let v50 : Index := Scalar.indexCast v27
  let c0_30 : Index := 0#32
  ![v50.toNat, 0]
def k0_cond2 (i : grid0.Coords) : BitVec 1 :=
  let arg0 : BitVec 32 := BitVec.ofNat 32 (i 0).val
  let c0_i32_23 : BitVec 32 := 0#32
  let v38 : BitVec 1 := Scalar.cmpi .sgt arg0 c0_i32_23
  let v39 : BitVec 32 := Scalar.extui v38
  let c0_i32_24 : BitVec 32 := 0#32
  let v40 : BitVec 1 := Scalar.cmpi .ne v39 c0_i32_24
  v40

def k0_off2 (i : grid0.Coords) : Fin 2 → Nat :=
  let arg1 : BitVec 32 := BitVec.ofNat 32 (i 1).val
  let c256_i32 : BitVec 32 := 256#32
  let v26 : BitVec 32 := Scalar.muli arg1 c256_i32
  let v27 : BitVec 32 := v26
  let v50 : Index := Scalar.indexCast v27
  let c0_30 : Index := 0#32
  ![v50.toNat, 0]
def k0_cond5 (i : grid0.Coords) : BitVec 1 :=
  let arg1 : BitVec 32 := BitVec.ofNat 32 (i 1).val
  let c3_i32 : BitVec 32 := 3#32
  let v47 : BitVec 1 := Scalar.cmpi .eq arg1 c3_i32
  let v48 : BitVec 32 := Scalar.extui v47
  let c0_i32_29 : BitVec 32 := 0#32
  let v49 : BitVec 1 := Scalar.cmpi .ne v48 c0_i32_29
  v49

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.addi c17_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.addi c17_i32 arg1
  let c0_i32 : BitVec 32 := 0#32
  ![arg0.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1024x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== MixPRefIdeal.lean ====
abbrev S4096x7424 : Shape := ⟨2, ![4096, 7424]⟩
abbrev S1x3072 : Shape := ⟨2, ![1, 3072]⟩
abbrev S4096x512 : Shape := ⟨2, ![4096, 512]⟩
abbrev S512x1024 : Shape := ⟨2, ![512, 1024]⟩
abbrev S4096x1024 : Shape := ⟨2, ![4096, 1024]⟩
abbrev S1x1024 : Shape := ⟨2, ![1, 1024]⟩
abbrev S_ : Shape := ⟨0, ![]⟩
abbrev S1024x512 : Shape := ⟨2, ![1024, 512]⟩
abbrev S4096x4352 : Shape := ⟨2, ![4096, 4352]⟩
abbrev S4096x2048 : Shape := ⟨2, ![4096, 2048]⟩
abbrev S2x256x8x1024 : Shape := ⟨4, ![2, 256, 8, 1024]⟩
abbrev S2x8x1024 : Shape := ⟨3, ![2, 8, 1024]⟩
abbrev S16x1024 : Shape := ⟨2, ![16, 1024]⟩

abbrev nBuf : Space → Nat
  | .hbm => 39
  | .vmem => 0
  | .smem => 0
  | _ => 0

abbrev bufTy : (tb : Table) → Fin (tcTables nBuf tb) → BufTy
  | .hbm, ⟨0, _⟩ => ⟨S4096x7424, .f32⟩
  | .hbm, ⟨1, _⟩ => ⟨S1x3072, .f32⟩
  | .hbm, ⟨2, _⟩ => ⟨S4096x512, .f32⟩
  | .hbm, ⟨3, _⟩ => ⟨S512x1024, .f32⟩
  | .hbm, ⟨4, _⟩ => ⟨S4096x1024, .f32⟩
  | .hbm, ⟨5, _⟩ => ⟨S4096x7424, .f32⟩
  | .hbm, ⟨6, _⟩ => ⟨S1x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096x1024, .f32⟩
  | .hbm, ⟨17, _⟩ => ⟨S4096x1024, .f32⟩
  | .hbm, ⟨18, _⟩ => ⟨S_, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S1024x512, .f32⟩
  | .hbm, ⟨27, _⟩ => ⟨S512x1024, .f32⟩
  | .hbm, ⟨28, _⟩ => ⟨S4096x512, .f32⟩
  | .hbm, ⟨29, _⟩ => ⟨S4096x1024, .f32⟩
  | .hbm, ⟨30, _⟩ => ⟨S4096x4352, .f32⟩
  | .hbm, ⟨31, _⟩ => ⟨S4096x2048, .f32⟩
  | .hbm, ⟨32, _⟩ => ⟨S4096x7424, .f32⟩
  | .hbm, ⟨33, _⟩ => ⟨S4096x7424, .bf16⟩
  | .hbm, ⟨34, _⟩ => ⟨S1024x512, .f32⟩
  | .hbm, ⟨35, _⟩ => ⟨S2x256x8x1024, .f32⟩
  | .hbm, ⟨36, _⟩ => ⟨S_, .f32⟩
  | .hbm, ⟨37, _⟩ => ⟨S2x8x1024, .f32⟩
  | .hbm, ⟨38, _⟩ => ⟨S16x1024, .f32⟩
  | _, _ => ⟨S4096x7424, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_2 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]
-- ==== MixA.lean ====
abbrev S4096x7424 : Shape := ⟨2, ![4096, 7424]⟩
abbrev S1x3072 : Shape := ⟨2, ![1, 3072]⟩
abbrev S4096x256 : Shape := ⟨2, ![4096, 256]⟩
abbrev S256x1024 : Shape := ⟨2, ![256, 1024]⟩
abbrev S4096x1024 : Shape := ⟨2, ![4096, 1024]⟩
abbrev S1024x256 : Shape := ⟨2, ![1024, 256]⟩
abbrev S16x1024 : Shape := ⟨2, ![16, 1024]⟩
abbrev S2048x256 : Shape := ⟨2, ![2048, 256]⟩
abbrev S256x256 : Shape := ⟨2, ![256, 256]⟩
abbrev S1x256 : Shape := ⟨2, ![1, 256]⟩
abbrev S8x256 : Shape := ⟨2, ![8, 256]⟩
abbrev S256x8x256 : Shape := ⟨3, ![256, 8, 256]⟩

abbrev nBuf : Space → Nat
  | .hbm => 13
  | .vmem => 18
  | .smem => 0
  | _ => 0

abbrev bufTy : (tb : Table) → Fin (tcTables nBuf tb) → BufTy
  | .hbm, ⟨0, _⟩ => ⟨S4096x7424, .f32⟩
  | .hbm, ⟨1, _⟩ => ⟨S1x3072, .f32⟩
  | .hbm, ⟨2, _⟩ => ⟨S4096x256, .f32⟩
  | .hbm, ⟨3, _⟩ => ⟨S256x1024, .f32⟩
  | .hbm, ⟨4, _⟩ => ⟨S4096x1024, .f32⟩
  | .hbm, ⟨5, _⟩ => ⟨S4096x7424, .f32⟩
  | .hbm, ⟨6, _⟩ => ⟨S1024x256, .f32⟩
  | .hbm, ⟨7, _⟩ => ⟨S1024x256, .bf16⟩
  | .hbm, ⟨8, _⟩ => ⟨S4096x7424, .bf16⟩
  | .hbm, ⟨9, _⟩ => ⟨S4096x256, .f32⟩
  | .hbm, ⟨10, _⟩ => ⟨S1024x256, .f32⟩
  | .hbm, ⟨11, _⟩ => ⟨S4096x7424, .bf16⟩
  | .hbm, ⟨12, _⟩ => ⟨S16x1024, .f32⟩
  | .local _ .vmem, ⟨0, _⟩ => ⟨S2048x256, .f32⟩
  | .local _ .vmem, ⟨1, _⟩ => ⟨S2048x256, .f32⟩
  | .local _ .vmem, ⟨2, _⟩ => ⟨S256x256, .bf16⟩
  | .local _ .vmem, ⟨3, _⟩ => ⟨S256x256, .bf16⟩
  | .local _ .vmem, ⟨4, _⟩ => ⟨S2048x256, .f32⟩
  | .local _ .vmem, ⟨5, _⟩ => ⟨S2048x256, .f32⟩
  | .local _ .vmem, ⟨6, _⟩ => ⟨S1x256, .f32⟩
  | .local _ .vmem, ⟨7, _⟩ => ⟨S1x256, .f32⟩
  | .local _ .vmem, ⟨8, _⟩ => ⟨S2048x256, .f32⟩
  | .local _ .vmem, ⟨9, _⟩ => ⟨S2048x256, .f32⟩
  | .local _ .vmem, ⟨10, _⟩ => ⟨S2048x256, .f32⟩
  | .local _ .vmem, ⟨11, _⟩ => ⟨S2048x256, .f32⟩
  | .local _ .vmem, ⟨12, _⟩ => ⟨S1024x256, .f32⟩
  | .local _ .vmem, ⟨13, _⟩ => ⟨S2048x256, .bf16⟩
  | .local _ .vmem, ⟨14, _⟩ => ⟨S2048x256, .bf16⟩
  | .local _ .vmem, ⟨15, _⟩ => ⟨S8x256, .f32⟩
  | .local _ .vmem, ⟨16, _⟩ => ⟨S8x256, .f32⟩
  | .local _ .vmem, ⟨17, _⟩ => ⟨S2048x256, .f32⟩
  | _, _ => ⟨S4096x7424, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![2, 4], ![false, false]⟩

def k0_mult1 (i : grid0.Coords) : BitVec 32 :=
  let arg1 : BitVec 32 := BitVec.ofNat 32 (i 1).val
  let c256_i32 : BitVec 32 := 256#32
  let v26 : BitVec 32 := Scalar.muli arg1 c256_i32
  v26
def k0_cond1 (i : grid0.Coords) : BitVec 1 :=
  let arg0 : BitVec 32 := BitVec.ofNat 32 (i 0).val
  let c0_i32 : BitVec 32 := 0#32
  let v35 : BitVec 1 := Scalar.cmpi .eq arg0 c0_i32
  let v36 : BitVec 32 := Scalar.extui v35
  let c0_i32_22 : BitVec 32 := 0#32
  let v37 : BitVec 1 := Scalar.cmpi .ne v36 c0_i32_22
  v37

def k0_off1 (i : grid0.Coords) : Fin 2 → Nat :=
  let arg1 : BitVec 32 := BitVec.ofNat 32 (i 1).val
  let c256_i32 : BitVec 32 := 256#32
  let v26 : BitVec 32 := Scalar.muli arg1 c256_i32
  let v27 : BitVec 32 := v26
  let v50 : Index := Scalar.indexCast v27
  let c0_30 : Index := 0#32
  ![v50.toNat, 0]
def k0_cond2 (i : grid0.Coords) : BitVec 1 :=
  let arg0 : BitVec 32 := BitVec.ofNat 32 (i 0).val
  let c0_i32_23 : BitVec 32 := 0#32
  let v38 : BitVec 1 := Scalar.cmpi .sgt arg0 c0_i32_23
  let v39 : BitVec 32 := Scalar.extui v38
  let c0_i32_24 : BitVec 32 := 0#32
  let v40 : BitVec 1 := Scalar.cmpi .ne v39 c0_i32_24
  v40

def k0_off2 (i : grid0.Coords) : Fin 2 → Nat :=
  let arg1 : BitVec 32 := BitVec.ofNat 32 (i 1).val
  let c256_i32 : BitVec 32 := 256#32
  let v26 : BitVec 32 := Scalar.muli arg1 c256_i32
  let v27 : BitVec 32 := v26
  let v50 : Index := Scalar.indexCast v27
  let c0_30 : Index := 0#32
  ![v50.toNat, 0]
def k0_cond5 (i : grid0.Coords) : BitVec 1 :=
  let arg1 : BitVec 32 := BitVec.ofNat 32 (i 1).val
  let c3_i32 : BitVec 32 := 3#32
  let v47 : BitVec 1 := Scalar.cmpi .eq arg1 c3_i32
  let v48 : BitVec 32 := Scalar.extui v47
  let c0_i32_29 : BitVec 32 := 0#32
  let v49 : BitVec 1 := Scalar.cmpi .ne v48 c0_i32_29
  v49

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.addi c25_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.addi c25_i32 arg1
  let c0_i32 : BitVec 32 := 0#32
  ![arg0.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1024x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== MixARefIdeal.lean ====
abbrev S4096x7424 : Shape := ⟨2, ![4096, 7424]⟩
abbrev S1x3072 : Shape := ⟨2, ![1, 3072]⟩
abbrev S4096x256 : Shape := ⟨2, ![4096, 256]⟩
abbrev S256x1024 : Shape := ⟨2, ![256, 1024]⟩
abbrev S4096x1024 : Shape := ⟨2, ![4096, 1024]⟩
abbrev S1x1024 : Shape := ⟨2, ![1, 1024]⟩
abbrev S_ : Shape := ⟨0, ![]⟩
abbrev S1024x256 : Shape := ⟨2, ![1024, 256]⟩
abbrev S4096x6400 : Shape := ⟨2, ![4096, 6400]⟩
abbrev S4096x0 : Shape := ⟨2, ![4096, 0]⟩
abbrev S2x256x8x1024 : Shape := ⟨4, ![2, 256, 8, 1024]⟩
abbrev S2x8x1024 : Shape := ⟨3, ![2, 8, 1024]⟩
abbrev S16x1024 : Shape := ⟨2, ![16, 1024]⟩

abbrev nBuf : Space → Nat
  | .hbm => 39
  | .vmem => 0
  | .smem => 0
  | _ => 0

abbrev bufTy : (tb : Table) → Fin (tcTables nBuf tb) → BufTy
  | .hbm, ⟨0, _⟩ => ⟨S4096x7424, .f32⟩
  | .hbm, ⟨1, _⟩ => ⟨S1x3072, .f32⟩
  | .hbm, ⟨2, _⟩ => ⟨S4096x256, .f32⟩
  | .hbm, ⟨3, _⟩ => ⟨S256x1024, .f32⟩
  | .hbm, ⟨4, _⟩ => ⟨S4096x1024, .f32⟩
  | .hbm, ⟨5, _⟩ => ⟨S4096x7424, .f32⟩
  | .hbm, ⟨6, _⟩ => ⟨S1x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096x1024, .f32⟩
  | .hbm, ⟨17, _⟩ => ⟨S4096x1024, .f32⟩
  | .hbm, ⟨18, _⟩ => ⟨S_, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S1024x256, .f32⟩
  | .hbm, ⟨27, _⟩ => ⟨S256x1024, .f32⟩
  | .hbm, ⟨28, _⟩ => ⟨S4096x256, .f32⟩
  | .hbm, ⟨29, _⟩ => ⟨S4096x1024, .f32⟩
  | .hbm, ⟨30, _⟩ => ⟨S4096x6400, .f32⟩
  | .hbm, ⟨31, _⟩ => ⟨S4096x0, .f32⟩
  | .hbm, ⟨32, _⟩ => ⟨S4096x7424, .f32⟩
  | .hbm, ⟨33, _⟩ => ⟨S4096x7424, .bf16⟩
  | .hbm, ⟨34, _⟩ => ⟨S1024x256, .f32⟩
  | .hbm, ⟨35, _⟩ => ⟨S2x256x8x1024, .f32⟩
  | .hbm, ⟨36, _⟩ => ⟨S_, .f32⟩
  | .hbm, ⟨37, _⟩ => ⟨S2x8x1024, .f32⟩
  | .hbm, ⟨38, _⟩ => ⟨S16x1024, .f32⟩
  | _, _ => ⟨S4096x7424, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_2 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]
-- ==== SumR.lean ====
abbrev S2 : Shape := ⟨1, ![2]⟩
abbrev S4x1312x1024 : Shape := ⟨3, ![4, 1312, 1024]⟩
abbrev S1312x1024 : Shape := ⟨2, ![1312, 1024]⟩
abbrev S4x656x1024 : Shape := ⟨3, ![4, 656, 1024]⟩
abbrev S656x1024 : Shape := ⟨2, ![656, 1024]⟩
abbrev S1 : Shape := ⟨1, ![1]⟩
abbrev S1x656x1024 : Shape := ⟨3, ![1, 656, 1024]⟩

abbrev nBuf : Space → Nat
  | .hbm => 3
  | .vmem => 6
  | .smem => 1
  | _ => 0

abbrev bufTy : (tb : Table) → Fin (tcTables nBuf tb) → BufTy
  | .hbm, ⟨0, _⟩ => ⟨S4x1312x1024, .bf16⟩
  | .hbm, ⟨1, _⟩ => ⟨S1312x1024, .f32⟩
  | .hbm, ⟨2, _⟩ => ⟨S1312x1024, .f32⟩
  | .local _ .vmem, ⟨0, _⟩ => ⟨S4x656x1024, .bf16⟩
  | .local _ .vmem, ⟨1, _⟩ => ⟨S4x656x1024, .bf16⟩
  | .local _ .vmem, ⟨2, _⟩ => ⟨S656x1024, .f32⟩
  | .local _ .vmem, ⟨3, _⟩ => ⟨S656x1024, .f32⟩
  | .local _ .vmem, ⟨4, _⟩ => ⟨S656x1024, .f32⟩
  | .local _ .vmem, ⟨5, _⟩ => ⟨S656x1024, .f32⟩
  | .local _ .smem, ⟨0, _⟩ => ⟨S2, .i32⟩
  | _, _ => ⟨S4x1312x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0 : Ref sig .tc := ⟨.hbm, 2, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x656x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S656x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S656x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== SumRRefIdeal.lean ====
abbrev S2 : Shape := ⟨1, ![2]⟩
abbrev S4x1312x1024 : Shape := ⟨3, ![4, 1312, 1024]⟩
abbrev S1312x1024 : Shape := ⟨2, ![1312, 1024]⟩
abbrev S4 : Shape := ⟨1, ![4]⟩
abbrev S4x1x1 : Shape := ⟨3, ![4, 1, 1]⟩
abbrev S1 : Shape := ⟨1, ![1]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S2, .i32⟩
  | .hbm, ⟨1, _⟩ => ⟨S4x1312x1024, .bf16⟩
  | .hbm, ⟨2, _⟩ => ⟨S1312x1024, .f32⟩
  | .hbm, ⟨3, _⟩ => ⟨S4, .i32⟩
  | .hbm, ⟨4, _⟩ => ⟨S4x1x1, .i32⟩
  | .hbm, ⟨5, _⟩ => ⟨S1, .i32⟩
  | .hbm, ⟨6, _⟩ => ⟨S_, .i32⟩
  | .hbm, ⟨7, _⟩ => ⟨S4x1x1, .i32⟩
  | .hbm, ⟨8, _⟩ => ⟨S4x1x1, .i1⟩
  | .hbm, ⟨9, _⟩ => ⟨S4x1312x1024, .f32⟩
  | .hbm, ⟨10, _⟩ => ⟨S4x1312x1024, .i1⟩
  | .hbm, ⟨11, _⟩ => ⟨S4x1312x1024, .f32⟩
  | .hbm, ⟨12, _⟩ => ⟨S4x1312x1024, .f32⟩
  | .hbm, ⟨13, _⟩ => ⟨S_, .f32⟩
  | .hbm, ⟨14, _⟩ => ⟨S1312x1024, .f32⟩
  | _, _ => ⟨S2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_call0_v0 : Ref sig .tc := ⟨.hbm, 10, rfl⟩
abbrev main_call0_v1 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩

abbrev nD : Nat := 1
abbrev τ : Topo := Topo.v7x

variable {F : FTy → Type} [FloatOps F]
-- ==== SumS.lean ====
abbrev S2 : Shape := ⟨1, ![2]⟩
abbrev S4x1144x128 : Shape := ⟨3, ![4, 1144, 128]⟩
abbrev S1144x128 : Shape := ⟨2, ![1144, 128]⟩
abbrev S1 : Shape := ⟨1, ![1]⟩
abbrev S1x1144x128 : Shape := ⟨3, ![1, 1144, 128]⟩

abbrev nBuf : Space → Nat
  | .hbm => 3
  | .vmem => 3
  | .smem => 1
  | _ => 0

abbrev bufTy : (tb : Table) → Fin (tcTables nBuf tb) → BufTy
  | .hbm, ⟨0, _⟩ => ⟨S4x1144x128, .f32⟩
  | .hbm, ⟨1, _⟩ => ⟨S1144x128, .f32⟩
  | .hbm, ⟨2, _⟩ => ⟨S1144x128, .f32⟩
  | .local _ .vmem, ⟨0, _⟩ => ⟨S4x1144x128, .f32⟩
  | .local _ .vmem, ⟨1, _⟩ => ⟨S1144x128, .f32⟩
  | .local _ .vmem, ⟨2, _⟩ => ⟨S1144x128, .f32⟩
  | .local _ .smem, ⟨0, _⟩ => ⟨S2, .i32⟩
  | _, _ => ⟨S4x1144x128, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0 : Ref sig .tc := ⟨.hbm, 2, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1144x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1144x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1144x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== SumSRefIdeal.lean ====
abbrev S2 : Shape := ⟨1, ![2]⟩
abbrev S4x1144x128 : Shape := ⟨3, ![4, 1144, 128]⟩
abbrev S1144x128 : Shape := ⟨2, ![1144, 128]⟩
abbrev S4 : Shape := ⟨1, ![4]⟩
abbrev S4x1x1 : Shape := ⟨3, ![4, 1, 1]⟩
abbrev S1 : Shape := ⟨1, ![1]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S2, .i32⟩
  | .hbm, ⟨1, _⟩ => ⟨S4x1144x128, .f32⟩
  | .hbm, ⟨2, _⟩ => ⟨S1144x128, .f32⟩
  | .hbm, ⟨3, _⟩ => ⟨S4, .i32⟩
  | .hbm, ⟨4, _⟩ => ⟨S4x1x1, .i32⟩
  | .hbm, ⟨5, _⟩ => ⟨S1, .i32⟩
  | .hbm, ⟨6, _⟩ => ⟨S_, .i32⟩
  | .hbm, ⟨7, _⟩ => ⟨S4x1x1, .i32⟩
  | .hbm, ⟨8, _⟩ => ⟨S4x1x1, .i1⟩
  | .hbm, ⟨9, _⟩ => ⟨S4x1144x128, .i1⟩
  | .hbm, ⟨10, _⟩ => ⟨S4x1144x128, .f32⟩
  | .hbm, ⟨11, _⟩ => ⟨S4x1144x128, .f32⟩
  | .hbm, ⟨12, _⟩ => ⟨S_, .f32⟩
  | .hbm, ⟨13, _⟩ => ⟨S1144x128, .f32⟩
  | _, _ => ⟨S2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_v0 : Ref sig .tc := ⟨.hbm, 9, rfl⟩
abbrev main_call0_v1 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== SumI.lean ====
abbrev S2 : Shape := ⟨1, ![2]⟩
abbrev S4x928x1024 : Shape := ⟨3, ![4, 928, 1024]⟩
abbrev S928x1024 : Shape := ⟨2, ![928, 1024]⟩
abbrev S2x928x1024 : Shape := ⟨3, ![2, 928, 1024]⟩
abbrev S4x464x1024 : Shape := ⟨3, ![4, 464, 1024]⟩
abbrev S464x1024 : Shape := ⟨2, ![464, 1024]⟩
abbrev S1x464x1024 : Shape := ⟨3, ![1, 464, 1024]⟩
abbrev S1 : Shape := ⟨1, ![1]⟩

abbrev nBuf : Space → Nat
  | .hbm => 4
  | .vmem => 6
  | .smem => 1
  | _ => 0

abbrev bufTy : (tb : Table) → Fin (tcTables nBuf tb) → BufTy
  | .hbm, ⟨0, _⟩ => ⟨S4x928x1024, .bf16⟩
  | .hbm, ⟨1, _⟩ => ⟨S928x1024, .f32⟩
  | .hbm, ⟨2, _⟩ => ⟨S2x928x1024, .f32⟩
  | .hbm, ⟨3, _⟩ => ⟨S2x928x1024, .f32⟩
  | .local _ .vmem, ⟨0, _⟩ => ⟨S4x464x1024, .bf16⟩
  | .local _ .vmem, ⟨1, _⟩ => ⟨S4x464x1024, .bf16⟩
  | .local _ .vmem, ⟨2, _⟩ => ⟨S464x1024, .f32⟩
  | .local _ .vmem, ⟨3, _⟩ => ⟨S464x1024, .f32⟩
  | .local _ .vmem, ⟨4, _⟩ => ⟨S1x464x1024, .f32⟩
  | .local _ .vmem, ⟨5, _⟩ => ⟨S1x464x1024, .f32⟩
  | .local _ .smem, ⟨0, _⟩ => ⟨S2, .i32⟩
  | _, _ => ⟨S4x928x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_v0 : Ref sig .tc := ⟨.hbm, 3, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x464x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S464x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x464x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== SumIRefIdeal.lean ====
abbrev S2 : Shape := ⟨1, ![2]⟩
abbrev S4x928x1024 : Shape := ⟨3, ![4, 928, 1024]⟩
abbrev S928x1024 : Shape := ⟨2, ![928, 1024]⟩
abbrev S2x928x1024 : Shape := ⟨3, ![2, 928, 1024]⟩
abbrev S4 : Shape := ⟨1, ![4]⟩
abbrev S4x1x1 : Shape := ⟨3, ![4, 1, 1]⟩
abbrev S1 : Shape := ⟨1, ![1]⟩
abbrev S_ : Shape := ⟨0, ![]⟩
abbrev S1x928x1024 : Shape := ⟨3, ![1, 928, 1024]⟩

abbrev nBuf : Space → Nat
  | .hbm => 21
  | .vmem => 0
  | .smem => 0
  | _ => 0

abbrev bufTy : (tb : Table) → Fin (tcTables nBuf tb) → BufTy
  | .hbm, ⟨0, _⟩ => ⟨S2, .i32⟩
  | .hbm, ⟨1, _⟩ => ⟨S4x928x1024, .bf16⟩
  | .hbm, ⟨2, _⟩ => ⟨S928x1024, .f32⟩
  | .hbm, ⟨3, _⟩ => ⟨S2x928x1024, .f32⟩
  | .hbm, ⟨4, _⟩ => ⟨S4, .i32⟩
  | .hbm, ⟨5, _⟩ => ⟨S4x1x1, .i32⟩
  | .hbm, ⟨6, _⟩ => ⟨S1, .i32⟩
  | .hbm, ⟨7, _⟩ => ⟨S_, .i32⟩
  | .hbm, ⟨8, _⟩ => ⟨S4x1x1, .i32⟩
  | .hbm, ⟨9, _⟩ => ⟨S4x1x1, .i1⟩
  | .hbm, ⟨10, _⟩ => ⟨S4x928x1024, .f32⟩
  | .hbm, ⟨11, _⟩ => ⟨S4x928x1024, .i1⟩
  | .hbm, ⟨12, _⟩ => ⟨S4x928x1024, .f32⟩
  | .hbm, ⟨13, _⟩ => ⟨S4x928x1024, .f32⟩
  | .hbm, ⟨14, _⟩ => ⟨S_, .f32⟩
  | .hbm, ⟨15, _⟩ => ⟨S928x1024, .f32⟩
  | .hbm, ⟨16, _⟩ => ⟨S1x928x1024, .f32⟩
  | .hbm, ⟨17, _⟩ => ⟨S928x1024, .f32⟩
  | .hbm, ⟨18, _⟩ => ⟨S1x928x1024, .f32⟩
  | .hbm, ⟨19, _⟩ => ⟨S1x928x1024, .f32⟩
  | .hbm, ⟨20, _⟩ => ⟨S2x928x1024, .f32⟩
  | _, _ => ⟨S2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_v0 : Ref sig .tc := ⟨.hbm, 11, rfl⟩
abbrev main_call0_v1 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩

abbrev nD : Nat := 1
abbrev τ : Topo := Topo.v7x

variable {F : FTy → Type} [FloatOps F]
-- ==== SumA.lean ====
abbrev S1144x128 : Shape := ⟨2, ![1144, 128]⟩

abbrev nBuf : Space → Nat
  | .hbm => 3
  | .vmem => 3
  | .smem => 0
  | _ => 0

abbrev bufTy : (tb : Table) → Fin (tcTables nBuf tb) → BufTy
  | .hbm, ⟨0, _⟩ => ⟨S1144x128, .f32⟩
  | .hbm, ⟨1, _⟩ => ⟨S1144x128, .f32⟩
  | .hbm, ⟨2, _⟩ => ⟨S1144x128, .f32⟩
  | .local _ .vmem, ⟨0, _⟩ => ⟨S1144x128, .f32⟩
  | .local _ .vmem, ⟨1, _⟩ => ⟨S1144x128, .f32⟩
  | .local _ .vmem, ⟨2, _⟩ => ⟨S1144x128, .f32⟩
  | _, _ => ⟨S1144x128, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1144x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1144x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1144x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== SumARefIdeal.lean ====
abbrev S1144x128 : Shape := ⟨2, ![1144, 128]⟩
abbrev S1x1144x128 : Shape := ⟨3, ![1, 1144, 128]⟩
abbrev S2x1144x128 : Shape := ⟨3, ![2, 1144, 128]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S1144x128, .f32⟩
  | .hbm, ⟨1, _⟩ => ⟨S1144x128, .f32⟩
  | .hbm, ⟨2, _⟩ => ⟨S1x1144x128, .f32⟩
  | .hbm, ⟨3, _⟩ => ⟨S1x1144x128, .f32⟩
  | .hbm, ⟨4, _⟩ => ⟨S2x1144x128, .f32⟩
  | .hbm, ⟨5, _⟩ => ⟨S_, .f32⟩
  | .hbm, ⟨6, _⟩ => ⟨S1144x128, .f32⟩
  | _, _ => ⟨S1144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Proof.ConvSpec.lean ====
/-
  The gradient of the short gated convolution on one column of the sequence, as plain sums and products of extended reals.

  The forward pass is `y s = b s * (w₂ u s + w₁ u (s-1) + w₀ u (s-2))` with `u = c * x` and zero before the first row. A column
  is a function of its 4096 rows. `padRows f p` is the column with sixteen zero rows before it and zero after it, read at
  position `p`: row `s` sits at position `s + 16`.
-/
module

public import Idealize.ShloMosaic.Lib.Pointwise

@[expose] public section

noncomputable section

namespace ShortConv

/-- A column of 4096 rows between zero rows: position `p` is row `p - 16`, and zero outside the rows. -/
def padRows (f : Fin 4096 → EReal) (p : ℕ) : EReal :=
  if h : 16 ≤ p ∧ p < 4112 then f ⟨p - 16, by omega⟩ else 0

theorem padRows_row (f : Fin 4096 → EReal) (s : Fin 4096) : padRows f (s.val + 16) = f s := by
  have hs := s.isLt
  unfold padRows
  rw [dif_pos (by omega)]
  exact congrArg f (Fin.ext (by show s.val + 16 - 16 = s.val; omega))

/-- The product of two padded columns at a position. -/
abbrev prodAt (f g : Fin 4096 → EReal) (p : ℕ) : EReal := padRows f p * padRows g p

theorem prodAt_row (f g : Fin 4096 → EReal) (s : Fin 4096) (p : ℕ) (hp : p = s.val + 16) : prodAt f g p = f s * g s := by
  subst hp; unfold prodAt; rw [padRows_row, padRows_row]

theorem prodAt_out (f g : Fin 4096 → EReal) (p : ℕ) (hp : p < 16 ∨ 4112 ≤ p) : prodAt f g p = 0 := by
  unfold prodAt padRows
  rw [dif_neg (by omega), zero_mul]

/-- The gradient of the gate `b` at row `n`: the output's gradient times the convolution of `u = c * x`. -/
def gradB (c x dy : Fin 4096 → EReal) (w0 w1 w2 : EReal) (n : ℕ) : EReal :=
  padRows dy (n + 16) * (w2 * prodAt c x (n + 16) + w1 * prodAt c x (n + 15) + w0 * prodAt c x (n + 14))

/-- The gradient of `u` at row `n`: the reversed convolution of `dy * b`. -/
def gradU (b dy : Fin 4096 → EReal) (w0 w1 w2 : EReal) (n : ℕ) : EReal :=
  w2 * prodAt dy b (n + 16) + w1 * prodAt dy b (n + 17) + w0 * prodAt dy b (n + 18)

/-- Row `n`'s part of the gradient of tap `j`. -/
def tapTerm (b c x dy : Fin 4096 → EReal) (j n : ℕ) : EReal :=
  prodAt dy b (n + 16) * prodAt c x (n + 14 + j)

/-- The gradient of tap `j`: the sum over the rows. -/
def gradTap (b c x dy : Fin 4096 → EReal) (j : ℕ) : EReal :=
  ∑ n ∈ Finset.range 4096, tapTerm b c x dy j n

/-- A sum over `8 n` rows, taken by the row's remainder modulo eight first. -/
theorem sum_by_eights (g : ℕ → EReal) (n : ℕ) :
    ∑ a : Fin 8, ∑ i ∈ Finset.range n, g (8 * i + a.val) = ∑ s ∈ Finset.range (8 * n), g s := by
  rw [Finset.sum_comm]
  induction n with
  | zero => simp
  | succ n ih =>
    rw [Finset.sum_range_succ, ih, show 8 * (n + 1) = 8 * n + 8 by omega, Finset.sum_range_add,
      Finset.sum_range (fun x => g (8 * n + x))]

end ShortConv

end
-- ==== Proof.ConvBlock.lean ====
/-
  One grid point of the convolution's gradient: what the loop over sixteen chunks of 256 rows leaves in the three gradient
  slabs, and what the carried partial sums add up to, for a slab of 128 columns.

  A chunk is loaded with sixteen rows on either side (`rows`), zero rows standing in at the ends of the sequence. So position
  `q` of chunk `k` is position `256 k + q` of the padded column (`rows_apply`), and each stored value is the gradient
  at its row (`pay_db`, `pay_dc`, `pay_dx`). `loop_at` puts the trips together.
-/
module

public import proofs.«01_k».proof.Proof.Gen.ConvIdeal.Value
public import proofs.«01_k».proof.Proof.ConvSpec
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open ShortConv

namespace Cert.ConvIdeal.Block

open Cert.ConvIdeal Cert.ConvIdeal.Gen

/-- Column `l` of a slab, as a function of the row. -/
abbrev col (X : FVec Ideal S4096x128 .f32) (l : Fin 128) : Fin 4096 → EReal := fun s => X (ix2 s l)

theorem trips_lt (k : Fin k0_t1_loop.trips) : k.val < 16 := Nat.lt_of_lt_of_le k.isLt k0_t1_abs.2.1

theorem first_iff : ∀ k : Fin k0_t1_loop.trips,
    Scalar.cmpi .sgt (Scf.iv 0#32 1#32 k) 0#32 = if k.val = 0 then 0#1 else 1#1 := by decide +kernel
theorem last_iff : ∀ k : Fin k0_t1_loop.trips,
    Scalar.cmpi .slt (Scf.iv 0#32 1#32 k) 15#32 = if k.val = 15 then 0#1 else 1#1 := by decide +kernel
theorem off1_eq : ∀ k : Fin k0_t1_loop.trips, k0_off1 k = ![256 * k.val - 16, 0] := by decide +kernel

theorem sel_first (k : Fin k0_t1_loop.trips) (a b : EReal) :
    Scalar.select (Scalar.cmpi .sgt (Scf.iv 0#32 1#32 k) 0#32) a b = if k.val = 0 then b else a := by
  rw [first_iff]; split_ifs <;> rfl
theorem sel_last (k : Fin k0_t1_loop.trips) (a b : EReal) :
    Scalar.select (Scalar.cmpi .slt (Scf.iv 0#32 1#32 k) 15#32) a b = if k.val = 15 then b else a := by
  rw [last_iff]; split_ifs <;> rfl

/-- The sixteen rows before chunk `k` (at the first chunk: the first sixteen, which are not used), -/
abbrev ldA (X : FVec Ideal S4096x128 .f32) (k : Fin k0_t1_loop.trips) : FVec Ideal S16x128 .f32 :=
  View.ld (Val := Elt Ideal) (e' := .f32) X (Rect.unit (k0_off1 k) S16x128.size (k0_off1_inb k))
/-- its own 256 rows, -/
abbrev ldB (X : FVec Ideal S4096x128 .f32) (k : Fin k0_t1_loop.trips) : FVec Ideal S256x128 .f32 :=
  View.ld (Val := Elt Ideal) (e' := .f32) X (Rect.unit (k0_off2 k) S256x128.size (k0_off2_inb k))
/-- and the sixteen rows after it. -/
abbrev ldC (X : FVec Ideal S4096x128 .f32) (k : Fin k0_t1_loop.trips) : FVec Ideal S16x128 .f32 :=
  View.ld (Val := Elt Ideal) (e' := .f32) X (Rect.unit (k0_off3 k) S16x128.size (k0_off3_inb k))

/-- Chunk `k` with its halo, as the body puts it together. -/
abbrev rows (X : FVec Ideal S4096x128 .f32) (k : Fin k0_t1_loop.trips) : FVec Ideal S288x128 .f32 :=
  k0_pay10 0#32 1#32 k (ldA X k) (ldB X k) (ldC X k)

/-- A load of whole rows from row `o` on. -/
theorem ld_rows {n : ℕ} (X : FVec Ideal S4096x128 .f32) (off : Fin 2 → ℕ) (o : ℕ) (hoff : off = ![o, 0])
    (inb : ∀ a : Fin 2, off a + (![n, 128] : Fin 2 → ℕ) a ≤ S4096x128.size a) (r : Fin n) (l : Fin 128) (s : Fin 4096)
    (hs : s.val = o + r.val) :
    View.ld (Val := Elt Ideal) (e' := .f32) X (Rect.unit (s := S4096x128) off ![n, 128] inb) (ix2 r l) = X (ix2 s l) := by
  subst hoff
  refine congrArg X (funext fun a => Fin.ext ((Rect.idx_unit_val (s := S4096x128) _ _ inb (ix2 r l) a).trans ?_))
  fin_cases a
  · exact hs.symm
  · exact Nat.zero_add _

/-- Position `q` of chunk `k` is position `256 k + q` of the padded column. -/
theorem rows_apply (X : FVec Ideal S4096x128 .f32) (k : Fin k0_t1_loop.trips) (q : Fin 288) (l : Fin 128) :
    rows X k (ix2 q l) = padRows (col X l) (256 * k.val + q.val) := by
  have hk := trips_lt k
  have hq := q.isLt
  pointwise [rows, k0_pay10]
  split_ifs
  all_goals try (rename_i h; exact absurd rfl h)
  · refine (sel_first k _ _).trans ?_
    unfold padRows
    by_cases h : k.val = 0
    · rw [if_pos h, dif_neg (by omega)]
    · rw [if_neg h, dif_pos (by omega)]
      exact ld_rows X _ _ (off1_eq k) _ _ _ _ (by dsimp only; omega)
  · unfold padRows
    rw [dif_pos (by omega)]
    exact ld_rows X _ _ (k0_off2_eq k) _ _ _ _
      (show 256 * k.val + q.val - 16 = 256 * k.val + (q.val - 16) by omega)
  · refine (sel_last k _ _).trans ?_
    unfold padRows
    by_cases h : k.val = 15
    · rw [if_pos h, dif_neg (by omega)]
    · rw [if_neg h, dif_pos (by omega)]
      exact ld_rows X _ _ (k0_off3_eq k) _ _ _ _ (by dsimp only; omega)

/-- The same at a position given by its number. -/
theorem rows_at (X : FVec Ideal S4096x128 .f32) (k : Fin k0_t1_loop.trips) (q : ℕ) (hq : q < 288) (l : Fin 128) (p : ℕ)
    (hp : p = 256 * k.val + q) : rows X k (ix2 ⟨q, hq⟩ l) = padRows (col X l) p := by
  subst hp; exact rows_apply X k ⟨q, hq⟩ l

/-! ## What one trip stores and adds -/

section Trip

variable (v0 v1 v2 : FVec Ideal S1x128 .f32) (x0 x1 x2 x3 : FVec Ideal S4096x128 .f32) (k : Fin k0_t1_loop.trips)

/-- What trip `k` stores into the gradient of the gate, of the second factor and of the third. -/
abbrev payB : FVec Ideal S256x128 .bf16 :=
  k0_pay21 v0 v1 v2 (Scf.iv 0#32 1#32 k) (rows x1 k) (rows x2 k) (k0_pay14 (Scf.iv 0#32 1#32 k) (ldA x3 k)) (ldB x3 k) (ldC x3 k)
abbrev payC : FVec Ideal S256x128 .bf16 :=
  k0_pay22 v0 v1 v2 (Scf.iv 0#32 1#32 k) (rows x2 k) (rows x0 k) (k0_pay14 (Scf.iv 0#32 1#32 k) (ldA x3 k)) (ldB x3 k) (ldC x3 k)
abbrev payX : FVec Ideal S256x128 .bf16 :=
  k0_pay2 (k0_pay23 v0 v1 v2 (Scf.iv 0#32 1#32 k) (rows x0 k) (k0_pay14 (Scf.iv 0#32 1#32 k) (ldA x3 k)) (ldB x3 k) (ldC x3 k))
    (k0_pay24 (rows x1 k))
/-- `dy * b` on the chunk with its halo. -/
abbrev dv : FVec Ideal S288x128 .f32 :=
  k0_pay19 (Scf.iv 0#32 1#32 k) (rows x0 k) (k0_pay14 (Scf.iv 0#32 1#32 k) (ldA x3 k)) (ldB x3 k) (ldC x3 k)

/-- The gradients' chunk with its halo, put together in two steps, is the same array. -/
theorem rows_dy : k0_pay15 (Scf.iv 0#32 1#32 k) (k0_pay14 (Scf.iv 0#32 1#32 k) (ldA x3 k)) (ldB x3 k) (ldC x3 k) = rows x3 k := rfl

theorem pay_db (r : Fin 256) (l : Fin 128) : payB v0 v1 v2 x1 x2 x3 k (ix2 r l)
    = gradB (col x1 l) (col x2 l) (col x3 l) (v0 (ix2 0 l)) (v1 (ix2 0 l)) (v2 (ix2 0 l)) (256 * k.val + r.val) := by
  have hr := r.isLt
  pointwise [payB, k0_pay21, k0_pay16, k0_pay17, k0_pay18]
  unfold gradB
  rw [rows_dy, rows_at x3 k _ _ l (256 * k.val + r.val + 16) (by omega), rows_at x1 k _ _ l (256 * k.val + r.val + 16) (by omega),
    rows_at x2 k _ _ l (256 * k.val + r.val + 16) (by omega), rows_at x1 k _ _ l (256 * k.val + r.val + 15) (by omega),
    rows_at x2 k _ _ l (256 * k.val + r.val + 15) (by omega), rows_at x1 k _ _ l (256 * k.val + r.val + 14) (by omega),
    rows_at x2 k _ _ l (256 * k.val + r.val + 14) (by omega)]

theorem pay_dc (r : Fin 256) (l : Fin 128) : payC v0 v1 v2 x0 x2 x3 k (ix2 r l)
    = gradU (col x0 l) (col x3 l) (v0 (ix2 0 l)) (v1 (ix2 0 l)) (v2 (ix2 0 l)) (256 * k.val + r.val)
      * padRows (col x2 l) (256 * k.val + r.val + 16) := by
  have hr := r.isLt
  pointwise [payC, k0_pay22, k0_pay20, k0_pay19]
  unfold gradU
  rw [rows_dy, rows_at x3 k _ _ l (256 * k.val + r.val + 16) (by omega), rows_at x0 k _ _ l (256 * k.val + r.val + 16) (by omega),
    rows_at x3 k _ _ l (256 * k.val + r.val + 17) (by omega), rows_at x0 k _ _ l (256 * k.val + r.val + 17) (by omega),
    rows_at x3 k _ _ l (256 * k.val + r.val + 18) (by omega), rows_at x0 k _ _ l (256 * k.val + r.val + 18) (by omega),
    rows_at x2 k _ _ l (256 * k.val + r.val + 16) (by omega)]

theorem pay_dx (r : Fin 256) (l : Fin 128) : payX v0 v1 v2 x0 x1 x3 k (ix2 r l)
    = gradU (col x0 l) (col x3 l) (v0 (ix2 0 l)) (v1 (ix2 0 l)) (v2 (ix2 0 l)) (256 * k.val + r.val)
      * padRows (col x1 l) (256 * k.val + r.val + 16) := by
  have hr := r.isLt
  pointwise [payX, k0_pay2, k0_pay23, k0_pay24, k0_pay20, k0_pay19]
  unfold gradU
  rw [rows_dy, rows_at x3 k _ _ l (256 * k.val + r.val + 16) (by omega), rows_at x0 k _ _ l (256 * k.val + r.val + 16) (by omega),
    rows_at x3 k _ _ l (256 * k.val + r.val + 17) (by omega), rows_at x0 k _ _ l (256 * k.val + r.val + 17) (by omega),
    rows_at x3 k _ _ l (256 * k.val + r.val + 18) (by omega), rows_at x0 k _ _ l (256 * k.val + r.val + 18) (by omega),
    rows_at x1 k _ _ l (256 * k.val + r.val + 16) (by omega)]

/-- What trip `k` adds to the partial sums of a tap's gradient: 32 rows for each of the eight remainders. -/
theorem carry_w0 (A : FVec Ideal S8x128 .f32) (a : Fin 8) (l : Fin 128) :
    k0_pay4 A (k0_pay18 (rows x1 k) (rows x2 k)) (dv x0 x3 k) (ix2 a l)
      = A (ix2 a l) + ∑ j ∈ Finset.range 32,
          tapTerm (col x0 l) (col x1 l) (col x2 l) (col x3 l) 0 (256 * k.val + (8 * j + a.val)) := by
  have ha := a.isLt
  rw [Finset.sum_range]
  pointwise [k0_pay4, k0_pay3, k0_pay18, k0_pay16, dv, k0_pay19]
  refine congrArg (A (ix2 a l) + ·) (Finset.sum_congr rfl fun j _ => ?_)
  have hj := j.isLt
  unfold tapTerm
  rw [rows_dy, rows_at x3 k _ _ l (256 * k.val + (8 * j.val + a.val) + 16) (by omega),
    rows_at x0 k _ _ l (256 * k.val + (8 * j.val + a.val) + 16) (by omega),
    rows_at x1 k _ _ l (256 * k.val + (8 * j.val + a.val) + 14 + 0) (by omega),
    rows_at x2 k _ _ l (256 * k.val + (8 * j.val + a.val) + 14 + 0) (by omega)]

theorem carry_w1 (A : FVec Ideal S8x128 .f32) (a : Fin 8) (l : Fin 128) :
    k0_pay5 A (k0_pay17 (rows x1 k) (rows x2 k)) (dv x0 x3 k) (ix2 a l)
      = A (ix2 a l) + ∑ j ∈ Finset.range 32,
          tapTerm (col x0 l) (col x1 l) (col x2 l) (col x3 l) 1 (256 * k.val + (8 * j + a.val)) := by
  have ha := a.isLt
  rw [Finset.sum_range]
  pointwise [k0_pay5, k0_pay3, k0_pay17, k0_pay16, dv, k0_pay19]
  refine congrArg (A (ix2 a l) + ·) (Finset.sum_congr rfl fun j _ => ?_)
  have hj := j.isLt
  unfold tapTerm
  rw [rows_dy, rows_at x3 k _ _ l (256 * k.val + (8 * j.val + a.val) + 16) (by omega),
    rows_at x0 k _ _ l (256 * k.val + (8 * j.val + a.val) + 16) (by omega),
    rows_at x1 k _ _ l (256 * k.val + (8 * j.val + a.val) + 14 + 1) (by omega),
    rows_at x2 k _ _ l (256 * k.val + (8 * j.val + a.val) + 14 + 1) (by omega)]

theorem carry_w2 (A : FVec Ideal S8x128 .f32) (a : Fin 8) (l : Fin 128) :
    k0_pay6 A (k0_pay16 (rows x1 k) (rows x2 k)) (dv x0 x3 k) (ix2 a l)
      = A (ix2 a l) + ∑ j ∈ Finset.range 32,
          tapTerm (col x0 l) (col x1 l) (col x2 l) (col x3 l) 2 (256 * k.val + (8 * j + a.val)) := by
  have ha := a.isLt
  rw [Finset.sum_range]
  pointwise [k0_pay6, k0_pay3, k0_pay16, dv, k0_pay19]
  refine congrArg (A (ix2 a l) + ·) (Finset.sum_congr rfl fun j _ => ?_)
  have hj := j.isLt
  unfold tapTerm
  rw [rows_dy, rows_at x3 k _ _ l (256 * k.val + (8 * j.val + a.val) + 16) (by omega),
    rows_at x0 k _ _ l (256 * k.val + (8 * j.val + a.val) + 16) (by omega),
    rows_at x1 k _ _ l (256 * k.val + (8 * j.val + a.val) + 14 + 2) (by omega),
    rows_at x2 k _ _ l (256 * k.val + (8 * j.val + a.val) + 14 + 2) (by omega)]

end Trip

/-! ## The loop -/

/-- The piece a trip stores: the 256 rows of its chunk. -/
abbrev chunk (k : Fin k0_t1_loop.trips) (p : FVec Ideal S256x128 .bf16) : View.Piece (Elt Ideal) S4096x128 .bf16 :=
  ⟨Rect.unit (k0_off2 k) S256x128.size (k0_off2_inb k), p⟩

theorem trip_stores
    (c : Dev nD) (i : grid0.Coords) (arg1 : Memref sig .tc .vmem S4096x128 .f32) (harg1 : arg1.IsWhole) (arg2 : Memref sig .tc
    .vmem S4096x128 .f32) (harg2 : arg2.IsWhole) (arg3 : Memref sig .tc .vmem S4096x128 .f32) (harg3 : arg3.IsWhole) (arg4 :
    Memref sig .tc .vmem S4096x128 .f32) (harg4 : arg4.IsWhole) (arg5 : Memref sig .tc .vmem S3x128 .f32) (harg5 : arg5.IsWhole)
    (arg6 : Memref sig .tc .vmem S4096x128 .bf16) (harg6 : arg6.IsWhole) (arg7 : Memref sig .tc .vmem S4096x128 .bf16) (harg7 :
    arg7.IsWhole) (arg8 : Memref sig .tc .vmem S4096x128 .bf16) (harg8 : arg8.IsWhole) (arg9 : Memref sig .tc .vmem S3x128 .f32)
    (harg9 : arg9.IsWhole)
    (v0 v1 v2 : FVec Ideal S1x128 .f32) (x0 x1 x2 x3 : FVec Ideal S4096x128 .f32) (k : Fin k0_t1_loop.trips)
    (acc : FVec Ideal S8x128 .f32 × FVec Ideal S8x128 .f32 × FVec Ideal S8x128 .f32) :
    tripL_k0_t1 (F := Ideal) Variants.none c none i arg1 harg1 arg2 harg2 arg3 harg3 arg4 harg4 arg5 harg5 arg6 harg6 arg7 harg7
    arg8 harg8 arg9 harg9 v0 v1 v2 (harg1.unread x0) (harg2.unread x1) (harg3.unread x2) (harg4.unread x3) k acc
      = ([chunk k (payB v0 v1 v2 x1 x2 x3 k)], [chunk k (payC v0 v1 v2 x0 x2 x3 k)], [chunk k (payX v0 v1 v2 x0 x1 x3 k)]) := by
  unfold tripL_k0_t1 trip_k0_t1
  dsimp only
  sl_unfold_words
  simp only [View.readAt_eq_ld, harg1.read_unread, harg2.read_unread, harg3.read_unread, harg4.read_unread]
  rfl

theorem trip_yields
    (c : Dev nD) (i : grid0.Coords) (arg1 : Memref sig .tc .vmem S4096x128 .f32) (harg1 : arg1.IsWhole) (arg2 : Memref sig .tc
    .vmem S4096x128 .f32) (harg2 : arg2.IsWhole) (arg3 : Memref sig .tc .vmem S4096x128 .f32) (harg3 : arg3.IsWhole) (arg4 :
    Memref sig .tc .vmem S4096x128 .f32) (harg4 : arg4.IsWhole) (arg5 : Memref sig .tc .vmem S3x128 .f32) (harg5 : arg5.IsWhole)
    (arg6 : Memref sig .tc .vmem S4096x128 .bf16) (harg6 : arg6.IsWhole) (arg7 : Memref sig .tc .vmem S4096x128 .bf16) (harg7 :
    arg7.IsWhole) (arg8 : Memref sig .tc .vmem S4096x128 .bf16) (harg8 : arg8.IsWhole) (arg9 : Memref sig .tc .vmem S3x128 .f32)
    (harg9 : arg9.IsWhole)
    (v0 v1 v2 : FVec Ideal S1x128 .f32) (x0 x1 x2 x3 : FVec Ideal S4096x128 .f32) (k : Fin k0_t1_loop.trips)
    (acc : FVec Ideal S8x128 .f32 × FVec Ideal S8x128 .f32 × FVec Ideal S8x128 .f32) :
    tripR_k0_t1 (F := Ideal) Variants.none c none i arg1 harg1 arg2 harg2 arg3 harg3 arg4 harg4 arg5 harg5 arg6 harg6 arg7 harg7
    arg8 harg8 arg9 harg9 v0 v1 v2 (harg1.unread x0) (harg2.unread x1) (harg3.unread x2) (harg4.unread x3) k acc
      = (k0_pay4 acc.1 (k0_pay18 (rows x1 k) (rows x2 k)) (dv x0 x3 k),
        k0_pay5 acc.2.1 (k0_pay17 (rows x1 k) (rows x2 k)) (dv x0 x3 k),
        k0_pay6 acc.2.2 (k0_pay16 (rows x1 k) (rows x2 k)) (dv x0 x3 k)) := by
  unfold tripR_k0_t1 trip_k0_t1
  dsimp only
  sl_unfold_words
  simp only [View.readAt_eq_ld, harg1.read_unread, harg2.read_unread, harg3.read_unread, harg4.read_unread]
  rfl

/-- The partial sum over `n` groups of eight rows, of the rows with remainder `a`. -/
abbrev partialTap (x0 x1 x2 x3 : FVec Ideal S4096x128 .f32) (j n : ℕ) (a : Fin 8) (l : Fin 128) : EReal :=
  ∑ i ∈ Finset.range n, tapTerm (col x0 l) (col x1 l) (col x2 l) (col x3 l) j (8 * i + a.val)

/-- One more chunk is 32 more groups. -/
theorem partialTap_step (x0 x1 x2 x3 : FVec Ideal S4096x128 .f32) (j k : ℕ) (a : Fin 8) (l : Fin 128) :
    partialTap x0 x1 x2 x3 j (32 * k) a l
      + ∑ i ∈ Finset.range 32, tapTerm (col x0 l) (col x1 l) (col x2 l) (col x3 l) j (256 * k + (8 * i + a.val))
      = partialTap x0 x1 x2 x3 j (32 * (k + 1)) a l := by
  unfold partialTap
  rw [show 32 * (k + 1) = 32 * k + 32 by omega, Finset.sum_range_add]
  refine congrArg (_ + ·) (Finset.sum_congr rfl fun i _ => ?_)
  rw [show 8 * (32 * k + i) + a.val = 256 * k + (8 * i + a.val) by omega]

/-- After `n` trips: what was stored are the chunks' gradients, and the carried sums are over the first `32 n` groups. -/
theorem loop_at
    (c : Dev nD) (i : grid0.Coords) (arg1 : Memref sig .tc .vmem S4096x128 .f32) (harg1 : arg1.IsWhole) (arg2 : Memref sig .tc
    .vmem S4096x128 .f32) (harg2 : arg2.IsWhole) (arg3 : Memref sig .tc .vmem S4096x128 .f32) (harg3 : arg3.IsWhole) (arg4 :
    Memref sig .tc .vmem S4096x128 .f32) (harg4 : arg4.IsWhole) (arg5 : Memref sig .tc .vmem S3x128 .f32) (harg5 : arg5.IsWhole)
    (arg6 : Memref sig .tc .vmem S4096x128 .bf16) (harg6 : arg6.IsWhole) (arg7 : Memref sig .tc .vmem S4096x128 .bf16) (harg7 :
    arg7.IsWhole) (arg8 : Memref sig .tc .vmem S4096x128 .bf16) (harg8 : arg8.IsWhole) (arg9 : Memref sig .tc .vmem S3x128 .f32)
    (harg9 : arg9.IsWhole)
    (v0 v1 v2 : FVec Ideal S1x128 .f32) (x0 x1 x2 x3 : FVec Ideal S4096x128 .f32) (n : ℕ) (hn : n ≤ k0_t1_loop.trips)
    (S : (FVec Ideal S8x128 .f32 × FVec Ideal S8x128 .f32 × FVec Ideal S8x128 .f32)
      × List (View.Piece (Elt Ideal) S4096x128 .bf16) × List (View.Piece (Elt Ideal) S4096x128 .bf16)
      × List (View.Piece (Elt Ideal) S4096x128 .bf16))
    (hS : S =
      st_k0_t1 (F := Ideal) Variants.none c none i arg1 harg1 arg2 harg2 arg3 harg3 arg4 harg4 arg5 harg5 arg6 harg6 arg7 harg7
      arg8 harg8 arg9 harg9 v0 v1 v2 (harg1.unread x0) (harg2.unread x1) (harg3.unread x2) (harg4.unread x3) (k0_pay1, k0_pay1,
      k0_pay1) n) :
    (∀ p ∈ S.2.1, ∃ k, p = chunk k (payB v0 v1 v2 x1 x2 x3 k))
    ∧ (∀ p ∈ S.2.2.1, ∃ k, p = chunk k (payC v0 v1 v2 x0 x2 x3 k))
    ∧ (∀ p ∈ S.2.2.2, ∃ k, p = chunk k (payX v0 v1 v2 x0 x1 x3 k))
    ∧ ∀ a l, S.1.1 (ix2 a l) = partialTap x0 x1 x2 x3 0 (32 * n) a l
      ∧ S.1.2.1 (ix2 a l) = partialTap x0 x1 x2 x3 1 (32 * n) a l
      ∧ S.1.2.2 (ix2 a l) = partialTap x0 x1 x2 x3 2 (32 * n) a l := by
  induction n generalizing S with
  | zero =>
    subst hS
    refine ⟨fun p hp => absurd hp (List.not_mem_nil), fun p hp => absurd hp (List.not_mem_nil),
      fun p hp => absurd hp (List.not_mem_nil), fun a l => ?_⟩
    rw [st_k0_t1_zero]
    have h0 : k0_pay1 (F := Ideal) (ix2 a l) = 0 := by pointwise [k0_pay1]
    refine ⟨?_, ?_, ?_⟩ <;> exact h0.trans (Finset.sum_range_zero _).symm
  | succ n ih =>
    obtain ⟨hB, hC, hX, hA⟩ := ih (by omega) _ rfl
    have hs := st_k0_t1_succ (F := Ideal) Variants.none c none
      i arg1 harg1 arg2 harg2 arg3 harg3 arg4 harg4 arg5 harg5 arg6 harg6 arg7 harg7 arg8 harg8 arg9 harg9 v0 v1 v2
      (harg1.unread x0) (harg2.unread x1) (harg3.unread x2) (harg4.unread x3) (k0_pay1, k0_pay1, k0_pay1) ⟨n, hn⟩
    rw [trip_stores, trip_yields] at hs
    subst hS
    refine hs ▸ ⟨?_, ?_, ?_, fun a l => ?_⟩
    · exact fun p hp => (List.mem_cons.1 hp).elim (fun h => ⟨_, h⟩) (hB p)
    · exact fun p hp => (List.mem_cons.1 hp).elim (fun h => ⟨_, h⟩) (hC p)
    · exact fun p hp => (List.mem_cons.1 hp).elim (fun h => ⟨_, h⟩) (hX p)
    · obtain ⟨h0, h1, h2⟩ := hA a l
      refine ⟨(carry_w0 x0 x1 x2 x3 ⟨n, hn⟩ _ a l).trans ?_, (carry_w1 x0 x1 x2 x3 ⟨n, hn⟩ _ a l).trans ?_,
        (carry_w2 x0 x1 x2 x3 ⟨n, hn⟩ _ a l).trans ?_⟩
      · rw [h0]; exact partialTap_step x0 x1 x2 x3 0 n a l
      · rw [h1]; exact partialTap_step x0 x1 x2 x3 1 n a l
      · rw [h2]; exact partialTap_step x0 x1 x2 x3 2 n a l

/-! ## The slabs after the grid point -/

/-- Tap `j` of a slab's weights, at column `l`. -/
abbrev tap (x4 : FVec Ideal S3x128 .f32) (j : Fin 3) (l : Fin 128) : EReal := x4 (ix2 j l)

theorem ld_tap (x4 : FVec Ideal S3x128 .f32) (j : Fin 3) (off : Fin 2 → ℕ) (hoff : off = ![j.val, 0]) (l : Fin 128)
    (inb : ∀ a : Fin 2, off a + (![1, 128] : Fin 2 → ℕ) a ≤ S3x128.size a) :
    View.ld (Val := Elt Ideal) (e' := .f32) x4 (Rect.unit (s := S3x128) off ![1, 128] inb) (ix2 0 l) = tap x4 j l := by
  subst hoff
  refine congrArg x4 (funext fun a => Fin.ext ((Rect.idx_unit_val (s := S3x128) _ _ inb (ix2 0 l) a).trans ?_))
  fin_cases a
  · rfl
  · exact Nat.zero_add _

/-- Where a chunk's element lies in the slab. -/
theorem chunk_row {n : ℕ} (off : Fin 2 → ℕ) (o : ℕ) (hoff : off = ![o, 0])
    (inb : ∀ a : Fin 2, off a + (![n, 128] : Fin 2 → ℕ) a ≤ S4096x128.size a) (r : Fin n) (l : Fin 128) :
    ((Rect.unit (s := S4096x128) off ![n, 128] inb).emb (ix2 r l) 0).val = o + r.val := by
  subst hoff; exact Rect.idx_unit_val (s := S4096x128) _ _ inb (ix2 r l) 0
theorem chunk_col {n : ℕ} (off : Fin 2 → ℕ) (o : ℕ) (hoff : off = ![o, 0])
    (inb : ∀ a : Fin 2, off a + (![n, 128] : Fin 2 → ℕ) a ≤ S4096x128.size a) (r : Fin n) (l : Fin 128) :
    (Rect.unit (s := S4096x128) off ![n, 128] inb).emb (ix2 r l) 1 = l := by
  subst hoff
  exact Fin.ext ((Rect.idx_unit_val (s := S4096x128) _ _ inb (ix2 r l) 1).trans (Nat.zero_add _))

/-- Where a tap's element lies. -/
theorem tap_row {n : ℕ} (off : Fin 2 → ℕ) (o : ℕ) (hoff : off = ![o, 0])
    (inb : ∀ a : Fin 2, off a + (![n, 128] : Fin 2 → ℕ) a ≤ S3x128.size a) (r : Fin n) (l : Fin 128) :
    ((Rect.unit (s := S3x128) off ![n, 128] inb).emb (ix2 r l) 0).val = o + r.val := by
  subst hoff; exact Rect.idx_unit_val (s := S3x128) _ _ inb (ix2 r l) 0
theorem tap_col {n : ℕ} (off : Fin 2 → ℕ) (o : ℕ) (hoff : off = ![o, 0])
    (inb : ∀ a : Fin 2, off a + (![n, 128] : Fin 2 → ℕ) a ≤ S3x128.size a) (r : Fin n) (l : Fin 128) :
    (Rect.unit (s := S3x128) off ![n, 128] inb).emb (ix2 r l) 1 = l := by
  subst hoff
  exact Fin.ext ((Rect.idx_unit_val (s := S3x128) _ _ inb (ix2 r l) 1).trans (Nat.zero_add _))

/-- The slabs' values: the three gradients at an index of the slab. -/
def slabB (x1 x2 x3 : FVec Ideal S4096x128 .f32) (x4 : FVec Ideal S3x128 .f32) : FVec Ideal S4096x128 .bf16 := fun y =>
  gradB (col x1 (y 1)) (col x2 (y 1)) (col x3 (y 1)) (tap x4 0 (y 1)) (tap x4 1 (y 1)) (tap x4 2 (y 1)) (y 0).val
def slabC (x0 x2 x3 : FVec Ideal S4096x128 .f32) (x4 : FVec Ideal S3x128 .f32) : FVec Ideal S4096x128 .bf16 := fun y =>
  gradU (col x0 (y 1)) (col x3 (y 1)) (tap x4 0 (y 1)) (tap x4 1 (y 1)) (tap x4 2 (y 1)) (y 0).val
    * padRows (col x2 (y 1)) ((y 0).val + 16)
/-- … and of the taps. -/
def slabW (x0 x1 x2 x3 : FVec Ideal S4096x128 .f32) : FVec Ideal S3x128 .f32 := fun y =>
  gradTap (col x0 (y 1)) (col x1 (y 1)) (col x2 (y 1)) (col x3 (y 1)) (y 0).val

theorem out_db
    (c : Dev nD) (i : grid0.Coords) (arg1 : Memref sig .tc .vmem S4096x128 .f32) (harg1 : arg1.IsWhole) (arg2 : Memref sig .tc
    .vmem S4096x128 .f32) (harg2 : arg2.IsWhole) (arg3 : Memref sig .tc .vmem S4096x128 .f32) (harg3 : arg3.IsWhole) (arg4 :
    Memref sig .tc .vmem S4096x128 .f32) (harg4 : arg4.IsWhole) (arg5 : Memref sig .tc .vmem S3x128 .f32) (harg5 : arg5.IsWhole)
    (arg6 : Memref sig .tc .vmem S4096x128 .bf16) (harg6 : arg6.IsWhole) (arg7 : Memref sig .tc .vmem S4096x128 .bf16) (harg7 :
    arg7.IsWhole) (arg8 : Memref sig .tc .vmem S4096x128 .bf16) (harg8 : arg8.IsWhole) (arg9 : Memref sig .tc .vmem S3x128 .f32)
    (harg9 : arg9.IsWhole)
    (x0 x1 x2 x3 : FVec Ideal S4096x128 .f32) (x4 : FVec Ideal S3x128 .f32) :
    out0_A_5 (F := Ideal) c i arg1 harg1 arg2 harg2 arg3 harg3 arg4 harg4 arg5 harg5 arg6 harg6 arg7 harg7 arg8 harg8 arg9 harg9
    x0 x1 x2 x3 x4
      = slabB x1 x2 x3 x4 := by
  funext y
  unfold out0_A_5
  refine View.read_writes_apply_of_pieces _ _ _ _ ?_ y
    (cover0_A_5 (F := Ideal) c i arg1 harg1 arg2 harg2 arg3 harg3 arg4 harg4 arg5 harg5 arg6 harg6 arg7 harg7 arg8 harg8 arg9 harg9 x0 x1 x2 x3 x4 y)
  unfold kernelRun0_A
  dsimp only
  intro p hp x
  obtain ⟨k, rfl⟩ := (loop_at c i arg1 harg1 arg2 harg2 arg3 harg3 arg4 harg4 arg5 harg5 arg6 harg6 arg7 harg7 arg8 harg8 arg9 harg9 _ _ _ x0 x1 x2 x3 _
      le_rfl _ rfl).1 p hp
  obtain ⟨r, l, rfl⟩ : ∃ r l, x = ix2 r l := ⟨x 0, x 1, eq_ix2 x⟩
  refine (pay_db _ _ _ x1 x2 x3 k r l).trans ?_
  unfold slabB
  rw [chunk_row _ _ (k0_off2_eq k), chunk_col _ _ (k0_off2_eq k)]
  simp only [View.readAt_eq_ld, harg5.read_unread]
  rw [ld_tap x4 0 ![0, 0] rfl, ld_tap x4 1 ![1, 0] rfl, ld_tap x4 2 ![2, 0] rfl]

theorem out_dc
    (c : Dev nD) (i : grid0.Coords) (arg1 : Memref sig .tc .vmem S4096x128 .f32) (harg1 : arg1.IsWhole) (arg2 : Memref sig .tc
    .vmem S4096x128 .f32) (harg2 : arg2.IsWhole) (arg3 : Memref sig .tc .vmem S4096x128 .f32) (harg3 : arg3.IsWhole) (arg4 :
    Memref sig .tc .vmem S4096x128 .f32) (harg4 : arg4.IsWhole) (arg5 : Memref sig .tc .vmem S3x128 .f32) (harg5 : arg5.IsWhole)
    (arg6 : Memref sig .tc .vmem S4096x128 .bf16) (harg6 : arg6.IsWhole) (arg7 : Memref sig .tc .vmem S4096x128 .bf16) (harg7 :
    arg7.IsWhole) (arg8 : Memref sig .tc .vmem S4096x128 .bf16) (harg8 : arg8.IsWhole) (arg9 : Memref sig .tc .vmem S3x128 .f32)
    (harg9 : arg9.IsWhole)
    (x0 x1 x2 x3 : FVec Ideal S4096x128 .f32) (x4 : FVec Ideal S3x128 .f32) :
    out0_A_6 (F := Ideal) c i arg1 harg1 arg2 harg2 arg3 harg3 arg4 harg4 arg5 harg5 arg6 harg6 arg7 harg7 arg8 harg8 arg9 harg9
    x0 x1 x2 x3 x4
      = slabC x0 x2 x3 x4 := by
  funext y
  unfold out0_A_6
  refine View.read_writes_apply_of_pieces _ _ _ _ ?_ y
    (cover0_A_6 (F := Ideal) c i arg1 harg1 arg2 harg2 arg3 harg3 arg4 harg4 arg5 harg5 arg6 harg6 arg7 harg7 arg8 harg8 arg9 harg9 x0 x1 x2 x3 x4 y)
  unfold kernelRun0_A
  dsimp only
  intro p hp x
  obtain ⟨k, rfl⟩ := (loop_at c i arg1 harg1 arg2 harg2 arg3 harg3 arg4 harg4 arg5 harg5 arg6 harg6 arg7 harg7 arg8 harg8 arg9 harg9 _ _ _ x0 x1 x2 x3 _
      le_rfl _ rfl).2.1 p hp
  obtain ⟨r, l, rfl⟩ : ∃ r l, x = ix2 r l := ⟨x 0, x 1, eq_ix2 x⟩
  refine (pay_dc _ _ _ x0 x2 x3 k r l).trans ?_
  unfold slabC
  rw [chunk_row _ _ (k0_off2_eq k), chunk_col _ _ (k0_off2_eq k)]
  simp only [View.readAt_eq_ld, harg5.read_unread]
  rw [ld_tap x4 0 ![0, 0] rfl, ld_tap x4 1 ![1, 0] rfl, ld_tap x4 2 ![2, 0] rfl]

theorem out_dx
    (c : Dev nD) (i : grid0.Coords) (arg1 : Memref sig .tc .vmem S4096x128 .f32) (harg1 : arg1.IsWhole) (arg2 : Memref sig .tc
    .vmem S4096x128 .f32) (harg2 : arg2.IsWhole) (arg3 : Memref sig .tc .vmem S4096x128 .f32) (harg3 : arg3.IsWhole) (arg4 :
    Memref sig .tc .vmem S4096x128 .f32) (harg4 : arg4.IsWhole) (arg5 : Memref sig .tc .vmem S3x128 .f32) (harg5 : arg5.IsWhole)
    (arg6 : Memref sig .tc .vmem S4096x128 .bf16) (harg6 : arg6.IsWhole) (arg7 : Memref sig .tc .vmem S4096x128 .bf16) (harg7 :
    arg7.IsWhole) (arg8 : Memref sig .tc .vmem S4096x128 .bf16) (harg8 : arg8.IsWhole) (arg9 : Memref sig .tc .vmem S3x128 .f32)
    (harg9 : arg9.IsWhole)
    (x0 x1 x2 x3 : FVec Ideal S4096x128 .f32) (x4 : FVec Ideal S3x128 .f32) :
    out0_A_7 (F := Ideal) c i arg1 harg1 arg2 harg2 arg3 harg3 arg4 harg4 arg5 harg5 arg6 harg6 arg7 harg7 arg8 harg8 arg9 harg9
    x0 x1 x2 x3 x4
      = slabC x0 x1 x3 x4 := by
  funext y
  unfold out0_A_7
  refine View.read_writes_apply_of_pieces _ _ _ _ ?_ y
    (cover0_A_7 (F := Ideal) c i arg1 harg1 arg2 harg2 arg3 harg3 arg4 harg4 arg5 harg5 arg6 harg6 arg7 harg7 arg8 harg8 arg9 harg9 x0 x1 x2 x3 x4 y)
  unfold kernelRun0_A
  dsimp only
  intro p hp x
  obtain ⟨k, rfl⟩ := (loop_at c i arg1 harg1 arg2 harg2 arg3 harg3 arg4 harg4 arg5 harg5 arg6 harg6 arg7 harg7 arg8 harg8 arg9 harg9 _ _ _ x0 x1 x2 x3 _
      le_rfl _ rfl).2.2.1 p hp
  obtain ⟨r, l, rfl⟩ : ∃ r l, x = ix2 r l := ⟨x 0, x 1, eq_ix2 x⟩
  refine (pay_dx _ _ _ x0 x1 x3 k r l).trans ?_
  unfold slabC
  rw [chunk_row _ _ (k0_off2_eq k), chunk_col _ _ (k0_off2_eq k)]
  simp only [View.readAt_eq_ld, harg5.read_unread]
  rw [ld_tap x4 0 ![0, 0] rfl, ld_tap x4 1 ![1, 0] rfl, ld_tap x4 2 ![2, 0] rfl]

/-- The eight partial sums of a tap are the sum over all rows. -/
theorem taps_total (A : FVec Ideal S8x128 .f32) (x0 x1 x2 x3 : FVec Ideal S4096x128 .f32) (j n : ℕ) (hn : n = 16)
    (h : ∀ a l, A (ix2 a l) = partialTap x0 x1 x2 x3 j (32 * n) a l) (l : Fin 128) :
    ∑ a : Fin 8, A (ix2 a l) = gradTap (col x0 l) (col x1 l) (col x2 l) (col x3 l) j := by
  subst hn
  rw [Finset.sum_congr rfl fun a _ => h a l]
  exact sum_by_eights (tapTerm (col x0 l) (col x1 l) (col x2 l) (col x3 l) j) 512

theorem out_dw
    (c : Dev nD) (i : grid0.Coords) (arg1 : Memref sig .tc .vmem S4096x128 .f32) (harg1 : arg1.IsWhole) (arg2 : Memref sig .tc
    .vmem S4096x128 .f32) (harg2 : arg2.IsWhole) (arg3 : Memref sig .tc .vmem S4096x128 .f32) (harg3 : arg3.IsWhole) (arg4 :
    Memref sig .tc .vmem S4096x128 .f32) (harg4 : arg4.IsWhole) (arg5 : Memref sig .tc .vmem S3x128 .f32) (harg5 : arg5.IsWhole)
    (arg6 : Memref sig .tc .vmem S4096x128 .bf16) (harg6 : arg6.IsWhole) (arg7 : Memref sig .tc .vmem S4096x128 .bf16) (harg7 :
    arg7.IsWhole) (arg8 : Memref sig .tc .vmem S4096x128 .bf16) (harg8 : arg8.IsWhole) (arg9 : Memref sig .tc .vmem S3x128 .f32)
    (harg9 : arg9.IsWhole)
    (x0 x1 x2 x3 : FVec Ideal S4096x128 .f32) (x4 : FVec Ideal S3x128 .f32) :
    out0_A_8 (F := Ideal) c i arg1 harg1 arg2 harg2 arg3 harg3 arg4 harg4 arg5 harg5 arg6 harg6 arg7 harg7 arg8 harg8 arg9 harg9
    x0 x1 x2 x3 x4
      = slabW x0 x1 x2 x3 := by
  funext y
  unfold out0_A_8
  refine View.read_writes_apply_of_pieces _ _ _ _ ?_ y
    (cover0_A_8 (F := Ideal) c i arg1 harg1 arg2 harg2 arg3 harg3 arg4 harg4 arg5 harg5 arg6 harg6 arg7 harg7 arg8 harg8 arg9 harg9 x0 x1 x2 x3 x4 y)
  unfold kernelRun0_A
  dsimp only
  have ht : Scf.trips 0#32 (Scalar.addi 0#32 16#32) 1#32 = 16 := by decide +kernel
  intro p hp x
  simp only [List.mem_cons, List.not_mem_nil, or_false] at hp
  rcases hp with rfl | rfl | rfl <;> obtain ⟨u, l, rfl⟩ : ∃ (u : Fin 1) (l : Fin 128), x = ix2 u l := ⟨x 0, x 1, eq_ix2 x⟩
  · pointwise [k0_pay9]
    refine (taps_total _ x0 x1 x2 x3 2 _ ht (fun a l => ((loop_at c i arg1 harg1 arg2 harg2 arg3 harg3 arg4 harg4 arg5 harg5 arg6 harg6 arg7 harg7 arg8 harg8 arg9 harg9 _ _ _ x0 x1 x2 x3 _
        le_rfl _ rfl).2.2.2 a l).2.2) l).trans ?_
    unfold slabW
    rw [tap_row ![2, 0] 2 rfl, tap_col ![2, 0] 2 rfl, show 2 + u.val = 2 by omega]
  · pointwise [k0_pay8]
    refine (taps_total _ x0 x1 x2 x3 1 _ ht (fun a l => ((loop_at c i arg1 harg1 arg2 harg2 arg3 harg3 arg4 harg4 arg5 harg5 arg6 harg6 arg7 harg7 arg8 harg8 arg9 harg9 _ _ _ x0 x1 x2 x3 _
        le_rfl _ rfl).2.2.2 a l).2.1) l).trans ?_
    unfold slabW
    rw [tap_row ![1, 0] 1 rfl, tap_col ![1, 0] 1 rfl, show 1 + u.val = 1 by omega]
  · pointwise [k0_pay7]
    refine (taps_total _ x0 x1 x2 x3 0 _ ht (fun a l => ((loop_at c i arg1 harg1 arg2 harg2 arg3 harg3 arg4 harg4 arg5 harg5 arg6 harg6 arg7 harg7 arg8 harg8 arg9 harg9 _ _ _ x0 x1 x2 x3 _
        le_rfl _ rfl).2.2.2 a l).1) l).trans ?_
    unfold slabW
    rw [tap_row ![0, 0] 0 rfl, tap_col ![0, 0] 0 rfl, show 0 + u.val = 0 by omega]

end Cert.ConvIdeal.Block

end
-- ==== Proof.ConvArray.lean ====
/-
  The four gradients of the short convolution as whole arrays, and that the kernel's grid of four slabs of 128 columns leaves
  exactly these in its result arrays.
-/
module

public import proofs.«01_k».proof.Proof.ConvBlock

@[expose] public section

set_option maxRecDepth 16384

noncomputable section

open Idealize.ShloMosaic Idealize.ShloMosaic.TcCoe Idealize.SL.Sem
open ShortConv

namespace Cert.ConvIdeal.Whole

open Cert.ConvIdeal Cert.ConvIdeal.Gen Cert.ConvIdeal.Block

/-- Column `o + l` of the projection's output: the mixer's gate, second and third factor start at columns 512, 1024, 1536. -/
abbrev zcol (Z : FVec Ideal S4096x7424 .f32) (o : ℕ) (ho : o ≤ 1536) (l : Fin 512) : Fin 4096 → EReal :=
  fun s => Z (ix2 s ⟨o + l.val, by omega⟩)
/-- Column `l` of the output's gradient. -/
abbrev gcol (G : FVec Ideal S4096x512 .f32) (l : Fin 512) : Fin 4096 → EReal := fun s => G (ix2 s l)

section
variable (Z : FVec Ideal S4096x7424 .f32) (G : FVec Ideal S4096x512 .f32) (w : FVec Ideal S3x512 .f32)

/-- The gate's gradient, -/
def gB : FVec Ideal S4096x512 .bf16 := fun y =>
  gradB (zcol Z 1024 (by omega) (y 1)) (zcol Z 1536 (by omega) (y 1)) (gcol G (y 1))
    (w (ix2 0 (y 1))) (w (ix2 1 (y 1))) (w (ix2 2 (y 1))) (y 0).val
/-- the second factor's, -/
def gC : FVec Ideal S4096x512 .bf16 := fun y =>
  gradU (zcol Z 512 (by omega) (y 1)) (gcol G (y 1)) (w (ix2 0 (y 1))) (w (ix2 1 (y 1))) (w (ix2 2 (y 1))) (y 0).val
    * padRows (zcol Z 1536 (by omega) (y 1)) ((y 0).val + 16)
/-- the third factor's, -/
def gX : FVec Ideal S4096x512 .bf16 := fun y =>
  gradU (zcol Z 512 (by omega) (y 1)) (gcol G (y 1)) (w (ix2 0 (y 1))) (w (ix2 1 (y 1))) (w (ix2 2 (y 1))) (y 0).val
    * padRows (zcol Z 1024 (by omega) (y 1)) ((y 0).val + 16)
/-- and the taps'. -/
def gW : FVec Ideal S3x512 .f32 := fun y =>
  gradTap (zcol Z 512 (by omega) (y 1)) (zcol Z 1024 (by omega) (y 1)) (zcol Z 1536 (by omega) (y 1)) (gcol G (y 1)) (y 0).val
end

theorem idx : ∀ t : Fin cfg0.N, win0_0.index t = ![0, t.val + 4] ∧ win0_1.index t = ![0, t.val + 8]
    ∧ win0_2.index t = ![0, t.val + 12] ∧ win0_3.index t = ![0, t.val] ∧ win0_4.index t = ![0, t.val]
    ∧ win0_5.index t = ![0, t.val] ∧ win0_6.index t = ![0, t.val] ∧ win0_7.index t = ![0, t.val]
    ∧ win0_8.index t = ![0, t.val] :=
  (by decide +kernel : ∀ t : Fin grid0.N, _)

/-! A slab's gradient at an index is the whole array's, where the columns are the same. -/

section
variable (x0 x1 x2 x3 : FVec Ideal S4096x128 .f32) (x4 : FVec Ideal S3x128 .f32)
  (Z : FVec Ideal S4096x7424 .f32) (G : FVec Ideal S4096x512 .f32) (w : FVec Ideal S3x512 .f32)

theorem slabB_whole (y : S4096x128.Idx) (y' : S4096x512.Idx) (h0 : (y' 0).val = (y 0).val)
    (h1 : ∀ s, x1 (ix2 s (y 1)) = zcol Z 1024 (by omega) (y' 1) s) (h2 : ∀ s, x2 (ix2 s (y 1)) = zcol Z 1536 (by omega) (y' 1) s)
    (h3 : ∀ s, x3 (ix2 s (y 1)) = gcol G (y' 1) s) (h4 : ∀ j, x4 (ix2 j (y 1)) = w (ix2 j (y' 1))) :
    slabB x1 x2 x3 x4 y = gB Z G w y' := by
  unfold slabB gB
  rw [show col x1 (y 1) = _ from funext h1, show col x2 (y 1) = _ from funext h2, show col x3 (y 1) = _ from funext h3,
    show tap x4 0 (y 1) = _ from h4 0, show tap x4 1 (y 1) = _ from h4 1, show tap x4 2 (y 1) = _ from h4 2, h0]

theorem slabC_whole (y : S4096x128.Idx) (y' : S4096x512.Idx) (h0 : (y' 0).val = (y 0).val)
    (hb : ∀ s, x0 (ix2 s (y 1)) = zcol Z 512 (by omega) (y' 1) s) (h2 : ∀ s, x2 (ix2 s (y 1)) = zcol Z 1536 (by omega) (y' 1) s)
    (h3 : ∀ s, x3 (ix2 s (y 1)) = gcol G (y' 1) s) (h4 : ∀ j, x4 (ix2 j (y 1)) = w (ix2 j (y' 1))) :
    slabC x0 x2 x3 x4 y = gC Z G w y' := by
  unfold slabC gC
  rw [show col x0 (y 1) = _ from funext hb, show col x2 (y 1) = _ from funext h2, show col x3 (y 1) = _ from funext h3,
    show tap x4 0 (y 1) = _ from h4 0, show tap x4 1 (y 1) = _ from h4 1, show tap x4 2 (y 1) = _ from h4 2, h0]

theorem slabX_whole (y : S4096x128.Idx) (y' : S4096x512.Idx) (h0 : (y' 0).val = (y 0).val)
    (hb : ∀ s, x0 (ix2 s (y 1)) = zcol Z 512 (by omega) (y' 1) s) (h1 : ∀ s, x1 (ix2 s (y 1)) = zcol Z 1024 (by omega) (y' 1) s)
    (h3 : ∀ s, x3 (ix2 s (y 1)) = gcol G (y' 1) s) (h4 : ∀ j, x4 (ix2 j (y 1)) = w (ix2 j (y' 1))) :
    slabC x0 x1 x3 x4 y = gX Z G w y' := by
  unfold slabC gX
  rw [show col x0 (y 1) = _ from funext hb, show col x1 (y 1) = _ from funext h1, show col x3 (y 1) = _ from funext h3,
    show tap x4 0 (y 1) = _ from h4 0, show tap x4 1 (y 1) = _ from h4 1, show tap x4 2 (y 1) = _ from h4 2, h0]

theorem slabW_whole (y : S3x128.Idx) (y' : S3x512.Idx) (h0 : (y' 0).val = (y 0).val)
    (hb : ∀ s, x0 (ix2 s (y 1)) = zcol Z 512 (by omega) (y' 1) s) (h1 : ∀ s, x1 (ix2 s (y 1)) = zcol Z 1024 (by omega) (y' 1) s)
    (h2 : ∀ s, x2 (ix2 s (y 1)) = zcol Z 1536 (by omega) (y' 1) s) (h3 : ∀ s, x3 (ix2 s (y 1)) = gcol G (y' 1) s) :
    slabW x0 x1 x2 x3 y = gW Z G y' := by
  unfold slabW gW
  rw [show col x0 (y 1) = _ from funext hb, show col x1 (y 1) = _ from funext h1, show col x2 (y 1) = _ from funext h2,
    show col x3 (y 1) = _ from funext h3, h0]

end

variable (m : (ℓ : Loc nD τ sig) → Buf (Elt Ideal) ℓ) (c : Dev nD)

/-! What the four result arrays hold after the last grid point. -/

theorem final_db : (dats m 0 c).arrAt 5 cfg0.N
    = gB (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]
  refine (congrFun (out_db c (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) (ms0_7 t) (hs0_7 t) (ms0_8 t) (hs0_8 t)
    (iblk m c 0 t) (iblk m c 1 t) (iblk m c 2 t) (iblk m c 3 t) (iblk m c 4 t)) y).trans ?_
  refine slabB_whole _ _ _ _ _ _ _ y _ ?_ ?_ ?_ ?_ ?_
  · blk_simp [idx t]
  all_goals
    intro s
    blk_ext [iblk, V, idx t]

theorem final_dc : (dats m 0 c).arrAt 6 cfg0.N
    = gC (m ((c : Thread nD τ).loc main_arg0)) (m ((c : Thread nD τ).loc main_arg1)) (m ((c : Thread nD τ).loc main_arg2)) := by
  refine (dats m 0 c).arrAt_eq_of_covers 6 _ (by decide +kernel) fun t _ y => ?_
  blk_simp
  rw [after0_6]
  refine (congrFun (out_dc c (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) (ms0_7 t) (hs0_7 t) (ms0_8 t) (hs0_8 t)
    (iblk m c 0 t) (iblk m c 1 t) (iblk m c 2 t) (iblk m c 3 t) (iblk m c 4 t)) y).trans ?_
  refine slabC_whole _ _ _ _ _ _ _ y _ ?_ ?_ ?_ ?_ ?_
  · blk_simp [idx t]
  all_goals
    intro s
    blk_ext [iblk, V, idx t]

theorem final_dx : (dats m 0 c).arrAt 7 cfg0.N
    = gX (m ((c : Thread nD τ).loc main_arg0)) (m ((c : Thread nD τ).loc main_arg1)) (m ((c : Thread nD τ).loc main_arg2)) := by
  refine (dats m 0 c).arrAt_eq_of_covers 7 _ (by decide +kernel) fun t _ y => ?_
  blk_simp
  rw [after0_7]
  refine (congrFun (out_dx c (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) (ms0_7 t) (hs0_7 t) (ms0_8 t) (hs0_8 t)
    (iblk m c 0 t) (iblk m c 1 t) (iblk m c 2 t) (iblk m c 3 t) (iblk m c 4 t)) y).trans ?_
  refine slabX_whole _ _ _ _ _ _ _ y _ ?_ ?_ ?_ ?_ ?_
  · blk_simp [idx t]
  all_goals
    intro s
    blk_ext [iblk, V, idx t]

theorem final_dw : (dats m 0 c).arrAt 8 cfg0.N
    = gW (m ((c : Thread nD τ).loc main_arg0)) (m ((c : Thread nD τ).loc main_arg1)) := by
  refine (dats m 0 c).arrAt_eq_of_covers 8 _ (by decide +kernel) fun t _ y => ?_
  blk_simp
  rw [after0_8]
  refine (congrFun (out_dw c (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) (ms0_7 t) (hs0_7 t) (ms0_8 t) (hs0_8 t)
    (iblk m c 0 t) (iblk m c 1 t) (iblk m c 2 t) (iblk m c 3 t) (iblk m c 4 t)) y).trans ?_
  refine slabW_whole _ _ _ _ _ _ y _ ?_ ?_ ?_ ?_ ?_
  · blk_simp [idx t]
  all_goals
    intro s
    blk_ext [iblk, V, idx t]

end Cert.ConvIdeal.Whole

end
-- ==== Proof.ConvRef.lean ====
/-
  What the reference computes: its four results are the gradients of `ConvArray`.
-/
module

public import proofs.«01_k».proof.Proof.Gen.ConvRefIdeal.Run
public import proofs.«01_k».proof.Proof.ConvArray

@[expose] public section

set_option maxRecDepth 16384

noncomputable section

open Idealize.ShloMosaic Idealize.ShloMosaic.TcCoe Idealize.SL.Sem
open ShortConv Cert.ConvIdeal.Whole

namespace Cert.ConvRefIdeal.Grad

open Cert.ConvRefIdeal Cert.ConvRefIdeal.Gen

/-! The same sums where the zero rows are spelt as cases. -/

section
variable (b c x g : Fin 4096 → EReal) (w0 w1 w2 : EReal)

theorem gradB_row (s : Fin 4096) :
    g s * ((w2 * (c s * x s) + w0 * (if h : s.val < 2 then 0 else c ⟨s.val - 2, by omega⟩ * x ⟨s.val - 2, by omega⟩))
        + w1 * (if h : 1 + s.val < 2 then 0 else c ⟨1 + s.val - 2, by omega⟩ * x ⟨1 + s.val - 2, by omega⟩))
      = gradB c x g w0 w1 w2 s.val := by
  have hs := s.isLt
  have e2 : (if h : s.val < 2 then 0 else c ⟨s.val - 2, by omega⟩ * x ⟨s.val - 2, by omega⟩) = prodAt c x (s.val + 14) := by
    split_ifs with h
    · exact (prodAt_out c x _ (by omega)).symm
    · exact (prodAt_row c x ⟨s.val - 2, by omega⟩ _ (by dsimp only; omega)).symm
  have e1 : (if h : 1 + s.val < 2 then 0 else c ⟨1 + s.val - 2, by omega⟩ * x ⟨1 + s.val - 2, by omega⟩)
      = prodAt c x (s.val + 15) := by
    split_ifs with h
    · exact (prodAt_out c x _ (by omega)).symm
    · exact (prodAt_row c x ⟨1 + s.val - 2, by omega⟩ _ (by dsimp only; omega)).symm
  rw [e1, e2]
  unfold gradB
  rw [padRows_row, prodAt_row c x s _ rfl, add_right_comm]

theorem gradU_row (s : Fin 4096) :
    ((if h : 1 ≤ 2 + s.val ∧ 2 + s.val - 1 < 4096 then
          w1 * (b ⟨2 + s.val - 1, by omega⟩ * g ⟨2 + s.val - 1, by omega⟩) else 0)
        + (if h : 2 + s.val < 4096 then w0 * (b ⟨2 + s.val, by omega⟩ * g ⟨2 + s.val, by omega⟩) else 0))
        + w2 * (b s * g s)
      = gradU b g w0 w1 w2 s.val := by
  have hs := s.isLt
  have e1 : (if h : 1 ≤ 2 + s.val ∧ 2 + s.val - 1 < 4096 then
      w1 * (b ⟨2 + s.val - 1, by omega⟩ * g ⟨2 + s.val - 1, by omega⟩) else 0) = w1 * prodAt g b (s.val + 17) := by
    split_ifs with h
    · rw [prodAt_row g b ⟨2 + s.val - 1, by omega⟩ _ (by dsimp only; omega), mul_comm (g _)]
    · rw [prodAt_out g b _ (by omega), mul_zero]
  have e0 : (if h : 2 + s.val < 4096 then w0 * (b ⟨2 + s.val, by omega⟩ * g ⟨2 + s.val, by omega⟩) else 0)
      = w0 * prodAt g b (s.val + 18) := by
    split_ifs with h
    · rw [prodAt_row g b ⟨2 + s.val, by omega⟩ _ (by dsimp only; omega), mul_comm (g _)]
    · rw [prodAt_out g b _ (by omega), mul_zero]
  rw [e1, e0]
  unfold gradU
  rw [prodAt_row g b s _ rfl, mul_comm (g s), add_comm, add_assoc]

/-- The last tap: the rows as they are. -/
theorem gradTap_two : ∑ s : Fin 4096, b s * g s * (c s * x s) = gradTap b c x g 2 := by
  unfold gradTap
  rw [Finset.sum_range]
  refine Finset.sum_congr rfl fun s _ => ?_
  unfold tapTerm
  rw [prodAt_row g b s _ rfl, prodAt_row c x s _ (by omega), mul_comm (g s)]

/-- The middle tap: one row back. -/
theorem gradTap_one : ∑ s : Fin 4096, b s * g s
      * (if h : 1 + s.val < 2 then 0 else c ⟨1 + s.val - 2, by omega⟩ * x ⟨1 + s.val - 2, by omega⟩) = gradTap b c x g 1 := by
  unfold gradTap
  rw [Finset.sum_range]
  refine Finset.sum_congr rfl fun s _ => ?_
  unfold tapTerm
  rw [prodAt_row g b s _ rfl, mul_comm (g s)]
  refine congrArg (b s * g s * ·) ?_
  split_ifs with h
  · exact (prodAt_out c x _ (by omega)).symm
  · exact (prodAt_row c x ⟨1 + s.val - 2, by omega⟩ _ (by dsimp only; omega)).symm

/-- The first tap: two rows back, the first two rows meeting zeros. -/
theorem gradTap_zero : ∑ s : Fin 2, b ⟨s.val, by omega⟩ * g ⟨s.val, by omega⟩ * 0
      + ∑ s : Fin 4094, b ⟨2 + s.val, by omega⟩ * g ⟨2 + s.val, by omega⟩ * (c ⟨s.val, by omega⟩ * x ⟨s.val, by omega⟩)
      = gradTap b c x g 0 := by
  unfold gradTap
  rw [show Finset.range 4096 = Finset.range (2 + 4094) from rfl, Finset.sum_range_add, Finset.sum_range, Finset.sum_range]
  refine congrArg₂ (· + ·) (Finset.sum_congr rfl fun s _ => ?_) (Finset.sum_congr rfl fun s _ => ?_)
  · unfold tapTerm
    rw [prodAt_out c x _ (by omega), mul_zero, mul_zero]
  · unfold tapTerm
    rw [prodAt_row g b ⟨2 + s.val, by omega⟩ _ rfl, prodAt_row c x ⟨s.val, by omega⟩ _ (by dsimp only; omega), mul_comm (g _)]

/-- The three taps, each put into its row of an otherwise zero array. -/
theorem gradTap_row (j : Fin 3) :
    ((if h : 1 ≤ j.val ∧ j.val - 1 < 1 then
        ∑ _ : Fin 1, ∑ s : Fin 4096, b s * g s
          * (if h : 1 + s.val < 2 then 0 else c ⟨1 + s.val - 2, by omega⟩ * x ⟨1 + s.val - 2, by omega⟩) else 0)
      + (if h : j.val < 1 then
        ∑ _ : Fin 1, (∑ s : Fin 2, b ⟨s.val, by omega⟩ * g ⟨s.val, by omega⟩ * 0
          + ∑ s : Fin 4094, b ⟨2 + s.val, by omega⟩ * g ⟨2 + s.val, by omega⟩ * (c ⟨s.val, by omega⟩ * x ⟨s.val, by omega⟩))
        else 0))
      + (if h : 2 ≤ j.val ∧ j.val - 2 < 1 then ∑ _ : Fin 1, ∑ s : Fin 4096, b s * g s * (c s * x s) else 0)
      = gradTap b c x g j.val := by
  have hj : j.val = 0 ∨ j.val = 1 ∨ j.val = 2 := by omega
  rw [gradTap_zero, gradTap_one, gradTap_two]
  rcases hj with h | h | h <;> rw [h]
  · rw [dif_neg (by omega), dif_pos (by omega), dif_neg (by omega), Fin.sum_univ_one, zero_add, add_zero]
  · rw [dif_pos (by omega), dif_neg (by omega), dif_neg (by omega), Fin.sum_univ_one, add_zero, add_zero]
  · rw [dif_neg (by omega), dif_neg (by omega), dif_pos (by omega), Fin.sum_univ_one, zero_add, zero_add]

end

variable (m : (ℓ : Loc nD τ sig) → Buf (Elt Ideal) ℓ) (ρ : Dev nD → PrngReg)

/-- The conjuncts of the reference's run are read one at a time: at an index, each is the gradient there. -/
theorem run : θ_run defs (onTc (τ := τ) (main (F := Ideal))) ⟨m, fun _ => 0, ρ⟩ fun r => ∀ c : Dev nD,
    r.2.mem ((c : Thread nD τ).loc main_v65)
      = gB (m ((c : Thread nD τ).loc main_arg0)) (m ((c : Thread nD τ).loc main_arg1)) (m ((c : Thread nD τ).loc main_arg2))
    ∧ r.2.mem ((c : Thread nD τ).loc main_v66)
      = gC (m ((c : Thread nD τ).loc main_arg0)) (m ((c : Thread nD τ).loc main_arg1)) (m ((c : Thread nD τ).loc main_arg2))
    ∧ r.2.mem ((c : Thread nD τ).loc main_v67)
      = gX (m ((c : Thread nD τ).loc main_arg0)) (m ((c : Thread nD τ).loc main_arg1)) (m ((c : Thread nD τ).loc main_arg2))
    ∧ r.2.mem ((c : Thread nD τ).loc main_v60)
      = gW (m ((c : Thread nD τ).loc main_arg0)) (m ((c : Thread nD τ).loc main_arg1))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2) := by
  refine (θ_run defs _ _).mono (fun r h c => ?_) (Cert.ConvRefIdeal.Value.run (F := Ideal) m ρ)
  obtain ⟨hB, hC, hX, hW, hA⟩ := h c
  clear h
  let col (o : ℕ) (ho : o ≤ 1536) (l : Fin 512) := zcol (m ((c : Thread nD τ).loc main_arg0)) o ho l
  let out (l : Fin 512) := gcol (m ((c : Thread nD τ).loc main_arg1)) l
  let tap (j : Fin 3) (l : Fin 512) : EReal := (m ((c : Thread nD τ).loc main_arg2)) (ix2 j l)
  refine ⟨hB.trans ?_, hC.trans ?_, hX.trans ?_, hW.trans ?_, hA⟩
  all_goals clear hB hC hX hW
  all_goals
    funext y
  · obtain ⟨s, l, rfl⟩ : ∃ (s : Fin 4096) (l : Fin 512), y = ix2 s l := ⟨y 0, y 1, eq_ix2 y⟩
    pointwise []
    exact gradB_row (col 1024 (by omega) l) (col 1536 (by omega) l) (out l) (tap 0 l) (tap 1 l) (tap 2 l) s
  · obtain ⟨s, l, rfl⟩ : ∃ (s : Fin 4096) (l : Fin 512), y = ix2 s l := ⟨y 0, y 1, eq_ix2 y⟩
    pointwise []
    exact congrArg₂ (fun a b : EReal => a * b)
      (gradU_row (col 512 (by omega) l) (out l) (tap 0 l) (tap 1 l) (tap 2 l) s) (padRows_row (col 1536 (by omega) l) s).symm
  · obtain ⟨s, l, rfl⟩ : ∃ (s : Fin 4096) (l : Fin 512), y = ix2 s l := ⟨y 0, y 1, eq_ix2 y⟩
    pointwise []
    exact (mul_comm (G := EReal) _ _).trans (congrArg₂ (fun a b : EReal => a * b)
      (gradU_row (col 512 (by omega) l) (out l) (tap 0 l) (tap 1 l) (tap 2 l) s) (padRows_row (col 1024 (by omega) l) s).symm)
  · obtain ⟨j, l, rfl⟩ : ∃ (j : Fin 3) (l : Fin 512), y = ix2 j l := ⟨y 0, y 1, eq_ix2 y⟩
    pointwise []
    exact gradTap_row (col 512 (by omega) l) (col 1024 (by omega) l) (col 1536 (by omega) l) (out l) j

end Cert.ConvRefIdeal.Grad

end
-- ==== Proof.ConvClaims.lean ====
/-
  The claims about the convolution's gradient: the kernel as it is compiled and read over the extended reals runs and leaves
  its arguments as they were, and over the extended reals it computes the reference's four gradients.
-/
module

public import proofs.«01_k».proof.Defs
public import proofs.«01_k».proof.Proof.Gen.Conv.Frame
public import proofs.«01_k».proof.Proof.ConvRef
public import Idealize.ShloMosaic.Lib.Quiescent

@[expose] public section

open Idealize.ShloMosaic Idealize.ShloMosaic.TcCoe Idealize.SL.Sem
open Cert.ConvIdeal.Whole

namespace Cert.ConvProof

theorem quiescent_kernel : Cert.quiescent_Conv := fun m g _ => Cert.Conv.Gen.frame m g

theorem quiescent_ideal : Cert.quiescent_ConvIdeal := fun m g _ => Cert.ConvIdeal.Gen.frame m g

theorem quiescent_reference : Cert.quiescent_ConvRefIdeal := fun m g _ =>
  (θ_run Cert.ConvRefIdeal.defs _ _).mono
    (fun r h => ⟨fun c => (h c).2.2.2.2, Idealize.ShloMosaic.sem_eq_zero_of_no_sems (by decide) r.2⟩)
    (Cert.ConvRefIdeal.Value.run (F := Ideal) m g)

theorem algebraic : Cert.algebraic_ConvIdeal_ConvRefIdeal := fun m g m' g' _ hag =>
  ⟨fun c => (Cert.ConvIdeal.Gen.dats m 0 c).arrAt 5 Cert.ConvIdeal.cfg0.N,
    fun c => (Cert.ConvIdeal.Gen.dats m 0 c).arrAt 6 Cert.ConvIdeal.cfg0.N,
    fun c => (Cert.ConvIdeal.Gen.dats m 0 c).arrAt 7 Cert.ConvIdeal.cfg0.N,
    fun c => (Cert.ConvIdeal.Gen.dats m 0 c).arrAt 8 Cert.ConvIdeal.cfg0.N,
    Cert.ConvIdeal.Value.run_blocks m g,
    (θ_run Cert.ConvRefIdeal.defs _ _).mono
      (fun _ h c => by
        obtain ⟨h0, h1, h2⟩ := hag c
        obtain ⟨hB, hC, hX, hW, hA⟩ := h c
        rw [h0, h1, h2] at hB hC hX
        rw [h0, h1] at hW
        exact ⟨hB.trans (final_db m c).symm, hC.trans (final_dc m c).symm, hX.trans (final_dx m c).symm,
          hW.trans (final_dw m c).symm, hA⟩)
      (Cert.ConvRefIdeal.Grad.run m' g')⟩

end Cert.ConvProof

end
-- ==== Proof.InRun.lean ====
/-
  The gradient of the input projection: where a run of all its calls leaves every array.
-/
module

public import proofs.«01_k».proof.Proof.Gen.InIdeal.Frame

@[expose] public section

set_option maxRecDepth 16384

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.InIdeal.Whole

open Cert.InIdeal Cert.InIdeal.Gen

variable {F : FTy → Type} [FloatOps F] (m : (ℓ : Loc nD τ sig) → Buf (Elt F) ℓ) (ρ : Dev nD → PrngReg)

set_option backward.isDefEq.respectTransparency.types false in
/-- Every run ends with each array as the last call leaves it. -/
theorem run : θ_run defs (onTc (τ := τ) (main (F := F))) ⟨m, fun _ => 0, ρ⟩ (fun r => ∀ (c : Dev nD) (b : Ref sig .tc),
      ¬ (Proc.devRef .tc b : DevRef τ sig).isScoped → r.2.mem ((c.tc : Thread nD τ).loc b) = W5 m ρ c (Proc.devRef .tc b)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ c b hb => h c _ (mem_uc b hb))

end Cert.InIdeal.Whole
-- ==== Proof.LayerSpec.lean ====
/-
  The layer's parts, written at an index: the residual with a product, the root-mean-square normalization and the squared rectifier.
-/
module

public import Idealize.ShloMosaic.Lib.Pointwise

@[expose] public section

noncomputable section

open Idealize.ShloMosaic

namespace Cert.LayerSpec

/-- `x` and the product of `A` and `B`. -/
def residual {n k p : Nat} (x : FVec Ideal ⟨2, ![n, p]⟩ .f32) (A : FVec Ideal ⟨2, ![n, k]⟩ .f32)
    (B : FVec Ideal ⟨2, ![k, p]⟩ .f32) : FVec Ideal ⟨2, ![n, p]⟩ .f32 :=
  fun y => x y + ∑ j : Fin k, A (ix2 (y 0) j) * B (ix2 j (y 1))

/-- What a row is multiplied by: the inverse root of its mean square and a small constant. -/
def scale {n : Nat} (x : FVec Ideal ⟨2, ![n, 1024]⟩ .f32) (i : Fin n) : EReal :=
  Ideal.rsqrt (Ideal.div (∑ j : Fin 1024, x (ix2 i j) * x (ix2 i j)) (Ideal.ofBits .f32 1149239296#32)
    + Ideal.ofBits .f32 897988541#32)

/-- The normalized rows, times the gain. -/
def norm {n : Nat} (x : FVec Ideal ⟨2, ![n, 1024]⟩ .f32) (g : FVec Ideal ⟨2, ![1, 1024]⟩ .f32) :
    FVec Ideal ⟨2, ![n, 1024]⟩ .f32 :=
  fun y => x y * scale x (y 0) * g (ix2 0 (y 1))

/-- The product of `A` and `B`. -/
def product {n k p : Nat} (A : FVec Ideal ⟨2, ![n, k]⟩ .f32) (B : FVec Ideal ⟨2, ![k, p]⟩ .f32) : FVec Ideal ⟨2, ![n, p]⟩ .f32 :=
  fun y => ∑ j : Fin k, A (ix2 (y 0) j) * B (ix2 j (y 1))

/-- The product of `A` and the transpose of `B`. -/
def productT {n k p : Nat} (A : FVec Ideal ⟨2, ![n, k]⟩ .f32) (B : FVec Ideal ⟨2, ![p, k]⟩ .f32) : FVec Ideal ⟨2, ![n, p]⟩ .f32 :=
  fun y => ∑ j : Fin k, A (ix2 (y 0) j) * B (ix2 (y 1) j)

/-- The product of the columns of two matrices. -/
def productN {n k p : Nat} (A : FVec Ideal ⟨2, ![k, n]⟩ .f32) (B : FVec Ideal ⟨2, ![k, p]⟩ .f32) : FVec Ideal ⟨2, ![n, p]⟩ .f32 :=
  fun y => ∑ j : Fin k, A (ix2 j (y 0)) * B (ix2 j (y 1))

/-- The squares of the positive entries. -/
def relu2 {s : Shape} (a : FVec Ideal s .f32) : FVec Ideal s .f32 :=
  fun y => max (a y) (0) * max (a y) (0)

/-- The gradient through `relu2`, its slope found as twice the root of its value. -/
def reluGrad {s : Shape} (d a : FVec Ideal s .f32) : FVec Ideal s .f32 :=
  fun y => d y * (Ideal.ofBits .f32 1073741824#32 * Ideal.sqrt (relu2 a y))

/-- The root of the square of a number's positive part. -/
theorem sqrt_sq_max (a : EReal) : Ideal.sqrt (max a 0 * max a 0) = max a 0 := by
  have h0 : (0 : EReal) ≤ max a 0 := le_max_right _ _
  generalize max a 0 = b at h0 ⊢
  induction b with
  | bot => exact absurd h0 (by simp)
  | top => simp
  | coe r =>
    have hr : 0 ≤ r := EReal.coe_nonneg.mp h0
    rw [← EReal.coe_mul, Ideal.sqrt_coe, Real.sqrt_mul_self hr]
    exact if_neg (not_lt.mpr (mul_self_nonneg r))

/-- The gradient with the slope as the rectifier has it. -/
theorem reluGrad_eq {s : Shape} (d a : FVec Ideal s .f32) (y : s.Idx) : reluGrad d a y
    = if 0 < a y then d y * (Ideal.ofBits .f32 1073741824#32 * max (a y) (0))
      else 0 := by
  unfold reluGrad relu2
  rw [sqrt_sq_max]
  split
  · rfl
  · rename_i h
    rw [max_eq_right (not_lt.mp h), mul_zero, mul_zero]

end Cert.LayerSpec

end
-- ==== Proof.NormGrad.lean ====
/-
  The gradient of the root-mean-square normalization with a residual: two ways of writing it, and that on finite numbers they agree.
-/
module

public import proofs.«01_k».proof.Proof.LayerSpec
public import Mathlib.Tactic.FieldSimp
public import Mathlib.Tactic.Ring

@[expose] public section

noncomputable section

open Idealize.ShloMosaic

namespace Cert.LayerSpec

/-- An array without infinite entries. -/
def Finite {s : Shape} (x : FVec Ideal s .f32) : Prop := ∃ x' : s.Idx → ℝ, ∀ y, x y = (x' y : EReal)

theorem finite_of_abs {s : Shape} {x : FVec Ideal s .f32} (h : ∀ y, max (x y) (-(x y)) < (⊤ : EReal)) : Finite x := by
  have : ∀ y, ∃ r : ℝ, x y = (r : EReal) := fun y => by
    have hy := h y
    change max (x y : EReal) (-(x y : EReal)) < ⊤ at hy
    show ∃ r : ℝ, (x y : EReal) = (r : EReal)
    generalize (x y : EReal) = a at hy ⊢
    induction a using EReal.rec with
    | bot => simp at hy
    | top => simp at hy
    | coe r => exact ⟨r, rfl⟩
  choose x' hx using this
  exact ⟨x', hx⟩

theorem coe_sum {n : Nat} (f : Fin n → ℝ) : (∑ k : Fin n, ((f k : ℝ) : EReal)) = ((∑ k : Fin n, f k : ℝ) : EReal) :=
  (map_sum (⟨⟨Real.toEReal, EReal.coe_zero⟩, EReal.coe_add⟩ : ℝ →+ EReal) f Finset.univ).symm

theorem finite_productT {n k p : Nat} {A : FVec Ideal ⟨2, ![n, k]⟩ .f32} {B : FVec Ideal ⟨2, ![p, k]⟩ .f32} (hA : Finite A)
    (hB : Finite B) : Finite (productT A B) := by
  obtain ⟨a, ha⟩ := hA
  obtain ⟨b, hb⟩ := hB
  refine ⟨fun y => ∑ j : Fin k, a (ix2 (y 0) j) * b (ix2 (y 1) j), fun y => ?_⟩
  unfold productT
  rw [← coe_sum]
  exact Finset.sum_congr rfl fun j _ => by rw [ha, hb, EReal.coe_mul]

/-- The gradient with the row's projection on the normalized row taken away. -/
def normGrad {n : Nat} (d a x : FVec Ideal ⟨2, ![n, 1024]⟩ .f32) (g : FVec Ideal ⟨2, ![1, 1024]⟩ .f32) :
    FVec Ideal ⟨2, ![n, 1024]⟩ .f32 := fun y =>
  d y + scale x (y 0) * (a y * g (ix2 0 (y 1)) - x y * scale x (y 0) *
    Ideal.div (∑ k : Fin 1024, a (ix2 (y 0) k) * g (ix2 0 k) * (x (ix2 (y 0) k) * scale x (y 0))) (Ideal.ofBits .f32 1149239296#32))

/-- The mean square of a row, and the small constant. -/
def meanSq {n : Nat} (x : FVec Ideal ⟨2, ![n, 1024]⟩ .f32) (i : Fin n) : EReal :=
  Ideal.div (∑ j : Fin 1024, x (ix2 i j) * x (ix2 i j)) (Ideal.ofBits .f32 1149239296#32) + Ideal.ofBits .f32 897988541#32

/-- The gradient through the square of each entry. -/
def viaSq {n : Nat} (a x : FVec Ideal ⟨2, ![n, 1024]⟩ .f32) (g : FVec Ideal ⟨2, ![1, 1024]⟩ .f32) (i : Fin n) : EReal :=
  Ideal.div ((∑ k : Fin 1024, x (ix2 i k) * (a (ix2 i k) * g (ix2 0 k))) *
    (Ideal.ofBits .f32 3204448256#32 * Ideal.div (scale x i) (meanSq x i))) (Ideal.ofBits .f32 1149239296#32)

/-- The gradient as the chain rule writes it: through the row, and twice through the square of each entry. -/
def normGradChain {n : Nat} (d a x : FVec Ideal ⟨2, ![n, 1024]⟩ .f32) (g : FVec Ideal ⟨2, ![1, 1024]⟩ .f32) :
    FVec Ideal ⟨2, ![n, 1024]⟩ .f32 := fun y =>
  d y + a y * g (ix2 0 (y 1)) * scale x (y 0) + x y * viaSq a x g (y 0) + viaSq a x g (y 0) * x y

theorem ofBits_width : Ideal.ofBits .f32 1149239296#32 = ((1024 : ℝ) : EReal) := by
  simp [Ideal.ofBits, Ideal.ieee]
  rw [← EReal.coe_mul]
  norm_num

theorem ofBits_half : Ideal.ofBits .f32 3204448256#32 = ((-(1 / 2) : ℝ) : EReal) := by
  simp [Ideal.ofBits, Ideal.ieee]
  rw [← EReal.coe_mul]
  norm_num

theorem ofBits_small : ∃ e : ℝ, 0 < e ∧ Ideal.ofBits .f32 897988541#32 = (e : EReal) := by
  refine ⟨8796093 * (2 ^ 43)⁻¹, by norm_num, ?_⟩
  simp [Ideal.ofBits, Ideal.ieee]

theorem real_identity (r M a g x S : ℝ) (hr : r * r = 1 / M) :
    r * (a * g - x * r * (S * r * (1 / 1024)))
      = a * g * r + x * (S * (-(1 / 2) * (r * (1 / M))) * (1 / 1024)) + S * (-(1 / 2) * (r * (1 / M))) * (1 / 1024) * x := by
  rw [← hr]
  ring

theorem normGrad_eq {n : Nat} (d : FVec Ideal ⟨2, ![n, 1024]⟩ .f32) {a x : FVec Ideal ⟨2, ![n, 1024]⟩ .f32}
    {g : FVec Ideal ⟨2, ![1, 1024]⟩ .f32} (ha : Finite a) (hx : Finite x) (hg : Finite g) :
    normGrad d a x g = normGradChain d a x g := by
  obtain ⟨a', ha⟩ := ha
  obtain ⟨x', hx⟩ := hx
  obtain ⟨g', hg⟩ := hg
  obtain ⟨e, he, hE⟩ := ofBits_small
  funext y
  obtain ⟨i, hi⟩ : ∃ i : Fin n, y 0 = i := ⟨_, rfl⟩
  let M : ℝ := (∑ j : Fin 1024, x' (ix2 i j) * x' (ix2 i j)) * (1 / 1024) + e
  have hpos : 0 < M := by
    have h : 0 ≤ ∑ j : Fin 1024, x' (ix2 i j) * x' (ix2 i j) := Finset.sum_nonneg fun j _ => mul_self_nonneg _
    positivity
  let r : ℝ := (Real.sqrt M)⁻¹
  have hr : r * r = 1 / M := by
    show (Real.sqrt M)⁻¹ * (Real.sqrt M)⁻¹ = 1 / M
    rw [← mul_inv, Real.mul_self_sqrt hpos.le, one_div]
  let S : ℝ := ∑ k : Fin 1024, x' (ix2 i k) * (a' (ix2 i k) * g' (ix2 0 k))
  have h1024 : (1024 : ℝ) ≠ 0 := by norm_num
  have hms : meanSq x i = (M : EReal) := by
    unfold meanSq
    rw [ofBits_width, hE, Ideal.div_coe h1024, EReal.coe_add, EReal.coe_mul, ← coe_sum]
    refine congrArg (fun s => s * _ + _) (Finset.sum_congr rfl fun j _ => ?_)
    rw [hx, EReal.coe_mul]
  have hsc : scale x i = (r : EReal) := by
    show Ideal.rsqrt (meanSq x i) = _
    rw [hms, Ideal.rsqrt_coe, if_neg (not_lt.mpr hpos.le), if_neg hpos.ne']
  have hS : (∑ k : Fin 1024, x (ix2 i k) * (a (ix2 i k) * g (ix2 0 k))) = (S : EReal) := by
    show _ = ((∑ k : Fin 1024, x' (ix2 i k) * (a' (ix2 i k) * g' (ix2 0 k)) : ℝ) : EReal)
    rw [← coe_sum]
    refine Finset.sum_congr rfl fun k _ => ?_
    rw [EReal.coe_mul, EReal.coe_mul, ← hx, ← ha, ← hg]
  have hSr : (∑ k : Fin 1024, a (ix2 i k) * g (ix2 0 k) * (x (ix2 i k) * (r : EReal))) = ((S * r : ℝ) : EReal) := by
    show _ = (((∑ k : Fin 1024, x' (ix2 i k) * (a' (ix2 i k) * g' (ix2 0 k))) * r : ℝ) : EReal)
    rw [Finset.sum_mul, ← coe_sum]
    refine Finset.sum_congr rfl fun k _ => ?_
    rw [show x' (ix2 i k) * (a' (ix2 i k) * g' (ix2 0 k)) * r = a' (ix2 i k) * g' (ix2 0 k) * (x' (ix2 i k) * r) by ring,
      EReal.coe_mul, EReal.coe_mul, EReal.coe_mul, ← hx, ← ha, ← hg]
  unfold normGrad normGradChain viaSq
  rw [hi, hsc, hms, hSr, hS, ofBits_width, ofBits_half, Ideal.div_coe h1024, Ideal.div_coe h1024, Ideal.div_coe hpos.ne',
    hx, ha, hg, add_assoc, add_assoc]
  refine congrArg (d y + ·) ?_
  rw [← add_assoc]
  simp only [← EReal.coe_mul, ← EReal.coe_add, ← EReal.coe_sub]
  exact congrArg _ (real_identity r M _ _ _ S hr)

/-- Equal rows have equal scales. -/
theorem scale_congr {n n' : Nat} {x : FVec Ideal ⟨2, ![n, 1024]⟩ .f32} {x' : FVec Ideal ⟨2, ![n', 1024]⟩ .f32} {i : Fin n} {i' : Fin n'}
    (h : ∀ k : Fin 1024, x (ix2 i k) = x' (ix2 i' k)) : scale x i = scale x' i' := by
  unfold scale
  exact congrArg (fun s => Ideal.rsqrt (Ideal.div s _ + _)) (Finset.sum_congr rfl fun k _ => congrArg₂ (· * ·) (h k) (h k))

/-- The gradient of a row is of the row alone. -/
theorem normGrad_congr {n n' : Nat} {d a x : FVec Ideal ⟨2, ![n, 1024]⟩ .f32} {d' a' x' : FVec Ideal ⟨2, ![n', 1024]⟩ .f32}
    {g g' : FVec Ideal ⟨2, ![1, 1024]⟩ .f32} (i : Fin n) (i' : Fin n') (l : Fin 1024)
    (hd : d (ix2 i l) = d' (ix2 i' l)) (ha : ∀ k : Fin 1024, a (ix2 i k) = a' (ix2 i' k))
    (hx : ∀ k : Fin 1024, x (ix2 i k) = x' (ix2 i' k)) (hg : ∀ k : Fin 1024, g (ix2 0 k) = g' (ix2 0 k)) :
    normGrad d a x g (ix2 i l) = normGrad d' a' x' g' (ix2 i' l) := by
  show d (ix2 i l) + scale x i * (a (ix2 i l) * g (ix2 0 l) - x (ix2 i l) * scale x i *
      Ideal.div (∑ k : Fin 1024, a (ix2 i k) * g (ix2 0 k) * (x (ix2 i k) * scale x i)) (Ideal.ofBits .f32 1149239296#32))
    = d' (ix2 i' l) + scale x' i' * (a' (ix2 i' l) * g' (ix2 0 l) - x' (ix2 i' l) * scale x' i' *
      Ideal.div (∑ k : Fin 1024, a' (ix2 i' k) * g' (ix2 0 k) * (x' (ix2 i' k) * scale x' i')) (Ideal.ofBits .f32 1149239296#32))
  rw [scale_congr hx, hd, ha l, hx l, hg l, Finset.sum_congr rfl fun k _ => by rw [ha k, hx k, hg k]]

/-- One entry's part of the gain's gradient. -/
def gainTerm {n : Nat} (a x : FVec Ideal ⟨2, ![n, 1024]⟩ .f32) (i : Fin n) (l : Fin 1024) : EReal :=
  a (ix2 i l) * (x (ix2 i l) * scale x i)

theorem gainTerm_congr {n n' : Nat} {a x : FVec Ideal ⟨2, ![n, 1024]⟩ .f32} {a' x' : FVec Ideal ⟨2, ![n', 1024]⟩ .f32} (i : Fin n)
    (i' : Fin n') (l : Fin 1024) (ha : a (ix2 i l) = a' (ix2 i' l)) (hx : ∀ k : Fin 1024, x (ix2 i k) = x' (ix2 i' k)) :
    gainTerm a x i l = gainTerm a' x' i' l := by
  unfold gainTerm
  rw [scale_congr hx, ha, hx l]

end Cert.LayerSpec

end
-- ==== Proof.InBlock.lean ====
/-
  What the calls of the input projection's gradient leave in their arrays.
-/
module

public import proofs.«01_k».proof.Proof.InRun
public import proofs.«01_k».proof.Proof.NormGrad
public import Idealize.ShloMosaic.Lib.Claim
public import Idealize.ShloMosaic.Lib.Pipeline.Value
public import Idealize.ShloMosaic.Lib.Pipeline.ValueKit
public import Idealize.ShloMosaic.Lib.StableHlo.RunClose

@[expose] public section

set_option maxRecDepth 16384

noncomputable section

open Idealize.ShloMosaic Idealize.ShloMosaic.TcCoe Idealize.SL.Sem

namespace Cert.InIdeal.Whole

open Cert.InIdeal Cert.InIdeal.Gen

section
variable (V : (c : Dev nD) → (b : Ref sig .tc) → Buf (Elt Ideal) ((c : Thread nD τ).loc b))

theorem idx0 : ∀ t : Fin cfg0.N, win0_0.index t = ![t.val, 0] ∧ win0_1.index t = ![0, 0] ∧ win0_2.index t = ![t.val, 0] :=
  (by decide +kernel : ∀ t : Fin grid0.N, _)

theorem idx1 : ∀ t : Fin cfg1.N, win1_0.index t = ![0, t.val] ∧ win1_1.index t = ![0, 0] ∧ win1_2.index t = ![t.val, 0] :=
  (by decide +kernel : ∀ t : Fin grid1.N, _)

theorem idx2 : ∀ t : Fin cfg2.N, win2_0.index t = ![t.val, 0] ∧ win2_1.index t = ![0, 0] ∧ win2_2.index t = ![t.val, 0]
    ∧ win2_3.index t = ![t.val, 0] ∧ win2_4.index t = ![0, 0] ∧ win2_5.index t = ![t.val, 0] ∧ win2_6.index t = ![t.val, 0] :=
  (by decide +kernel : ∀ t : Fin grid2.N, _)

theorem idx3 : ∀ t : Fin cfg3.N, win3_0.index t = ![0, 0] ∧ win3_1.index t = ![0, 0] :=
  (by decide +kernel : ∀ t : Fin grid3.N, _)

/-- The normalized rows. -/
abbrev rowsOf (c : Dev nD) : FVec Ideal S4096x1024 .bf16 := LayerSpec.norm (V c main_arg2) (V c main_arg3)

theorem point0 (c : Dev nD) (t : Fin cfg0.N) (y : S512x1024.Idx) :
    k0_pay1 (iblk0 V c 0 t) (iblk0 V c 1 t) y = rowsOf V c (((cfg0.win 2).blk t).view.emb y) := by
  unfold rowsOf LayerSpec.norm LayerSpec.scale
  pointwise [k0_pay1]
  refine congrArg₂ (· * ·) (congrArg₂ (· * ·) ?_ (congrArg (fun s => Ideal.rsqrt (Ideal.div s _ + _))
    (Finset.sum_congr rfl fun k _ => congrArg₂ (· * ·) ?_ ?_))) ?_
  · unfold iblk0
    blk_simp [idx0 t]
    exact congrArg (V c main_arg2) (by blk_ext [idx0 t])
  · unfold iblk0
    blk_simp [idx0 t]
    exact congrArg (V c main_arg2) (by blk_ext [idx0 t])
  · unfold iblk0
    blk_simp [idx0 t]
    exact congrArg (V c main_arg2) (by blk_ext [idx0 t])
  · unfold iblk0
    blk_simp [idx0 t]
    exact congrArg (V c main_arg3) (by blk_ext [idx0 t])

theorem final0 (c : Dev nD) : (dat0 V c).arrAt 2 cfg0.N = rowsOf V c := by
  refine (dat0 V c).arrAt_eq_of_covers 2 _ (by decide +kernel) fun t _ y => ?_
  blk_simp
  rw [after0_2]
  unfold out0_2
  frame_out
  exact point0 V c t y

/-- The weight's gradient, transposed. -/
abbrev weightOf (c : Dev nD) : FVec Ideal S7424x1024 .f32 := LayerSpec.productN (V c main_v2) (V c main_v3)

theorem point1 (c : Dev nD) (t : Fin cfg1.N) (y : S256x1024.Idx) :
    k1_pay1 (iblk1 V c 1 t) (iblk1 V c 0 t) y = weightOf V c (((cfg1.win 2).blk t).view.emb y) := by
  unfold weightOf LayerSpec.productN
  pointwise [k1_pay1]
  refine Finset.sum_congr rfl fun k _ => congrArg₂ (· * ·) ?_ ?_
  · unfold iblk1
    blk_simp [idx1 t]
    exact congrArg (V c main_v2) (by blk_ext [idx1 t])
  · unfold iblk1
    blk_simp [idx1 t]
    exact congrArg (V c main_v3) (by blk_ext [idx1 t])

theorem final1 (c : Dev nD) : (dat1 V c).arrAt 2 cfg1.N = weightOf V c := by
  refine (dat1 V c).arrAt_eq_of_covers 2 _ (by decide +kernel) fun t _ y => ?_
  blk_simp
  rw [after1_2]
  unfold out1_2
  frame_out
  exact point1 V c t y

/-- The gradient of the normalized rows. -/
abbrev innerOf (c : Dev nD) : FVec Ideal S4096x1024 .f32 := LayerSpec.product (V c main_v2) (V c main_v1)

/-- The gradient of the rows before the normalization. -/
abbrev inputOf (c : Dev nD) : FVec Ideal S4096x1024 .f32 :=
  LayerSpec.normGrad (V c main_arg1) (innerOf V c) (V c main_arg2) (V c main_arg3)

/-- The gain's gradient summed over every eighth row of 256. -/
def partials (a x : FVec Ideal S4096x1024 .f32) : FVec Ideal S128x1024 .f32 := fun y =>
  ∑ j : Fin 32, LayerSpec.gainTerm a x ⟨(y 0).val / 8 * 256 + j.val * 8 + (y 0).val % 8, by have h : (y 0).val < 128 := (y 0).isLt; omega⟩ (y 1)

abbrev partsOf (c : Dev nD) : FVec Ideal S128x1024 .f32 := partials (innerOf V c) (V c main_arg2)

/-- The row of the whole that a block's row is. -/
abbrev row (t : Fin cfg2.N) (i : Fin 256) : Fin 4096 := ⟨t.val * 256 + i.val, by have h : t.val < 16 := t.isLt; omega⟩

/-- A block of the product. -/
theorem dot (c : Dev nD) (t : Fin cfg2.N) (i : Fin 256) (l : Fin 1024) :
    k2_pay1 (iblk2 V c 1 t) (iblk2 V c 0 t) (ix2 i l) = innerOf V c (ix2 (row t i) l) := by
  unfold innerOf LayerSpec.product
  pointwise [k2_pay1]
  refine Finset.sum_congr rfl fun k _ => congrArg₂ (· * ·) ?_ ?_
  · unfold iblk2
    blk_simp [idx2 t]
    exact congrArg (V c main_v2) (by blk_ext [idx2 t])
  · unfold iblk2
    blk_simp [idx2 t]
    exact congrArg (V c main_v1) (by blk_ext [idx2 t])

theorem rows (c : Dev nD) (t : Fin cfg2.N) (i : Fin 256) (k : Fin 1024) :
    iblk2 V c 2 t (ix2 i k) = V c main_arg2 (ix2 (row t i) k) := by
  unfold iblk2
  blk_simp [idx2 t]
  exact congrArg (V c main_arg2) (by blk_ext [idx2 t])

/-- A point's first result. -/
theorem point5 (c : Dev nD) (t : Fin cfg2.N) (i : Fin 256) (l : Fin 1024) :
    k2_pay4 (iblk2 V c 1 t) (iblk2 V c 0 t) (iblk2 V c 2 t) (iblk2 V c 3 t) (iblk2 V c 4 t) (ix2 i l)
      = inputOf V c (ix2 (row t i) l) := by
  refine Eq.trans (b := LayerSpec.normGrad (iblk2 V c 3 t) (k2_pay1 (iblk2 V c 1 t) (iblk2 V c 0 t)) (iblk2 V c 2 t) (iblk2 V c 4 t) (ix2 i l)) ?_
    (LayerSpec.normGrad_congr i (row t i) l ?_ (fun k => dot V c t i k) (fun k => rows V c t i k) fun k => ?_)
  · unfold LayerSpec.normGrad LayerSpec.scale
    pointwise [k2_pay4, k2_pay3, k2_pay2]
  · unfold iblk2
    blk_simp [idx2 t]
    exact congrArg (V c main_arg1) (by blk_ext [idx2 t])
  · unfold iblk2
    blk_simp [idx2 t]
    exact congrArg (V c main_arg3) (by blk_ext [idx2 t])

/-- A point's second result. -/
theorem point6 (c : Dev nD) (t : Fin cfg2.N) (s : Fin 8) (l : Fin 1024) :
    k2_pay5 (iblk2 V c 1 t) (iblk2 V c 0 t) (iblk2 V c 2 t) (ix2 s l)
      = partsOf V c (ix2 ⟨t.val * 8 + s.val, by have h : t.val < 16 := t.isLt; omega⟩ l) := by
  refine Eq.trans (b := ∑ j : Fin 32, LayerSpec.gainTerm (k2_pay1 (iblk2 V c 1 t) (iblk2 V c 0 t)) (iblk2 V c 2 t) ⟨j.val * 8 + s.val, by omega⟩ l) ?_
    (Finset.sum_congr rfl fun j _ => LayerSpec.gainTerm_congr _ _ _ ((dot V c t _ l).trans ?_) fun k => (rows V c t _ k).trans ?_)
  · unfold LayerSpec.gainTerm LayerSpec.scale
    pointwise [k2_pay5, k2_pay3, k2_pay2]
  · refine congrArg (innerOf V c) (congrArg (ix2 · _) (Fin.ext ?_))
    show t.val * 256 + (j.val * 8 + s.val) = (t.val * 8 + s.val) / 8 * 256 + j.val * 8 + (t.val * 8 + s.val) % 8
    omega
  · refine congrArg (V c main_arg2) (congrArg (ix2 · _) (Fin.ext ?_))
    show t.val * 256 + (j.val * 8 + s.val) = (t.val * 8 + s.val) / 8 * 256 + j.val * 8 + (t.val * 8 + s.val) % 8
    omega

theorem emb5 (t : Fin cfg2.N) (i : Fin 256) (l : Fin 1024) : ((cfg2.win 5).blk t).view.emb (ix2 i l) = ix2 (row t i) l := by
  blk_ext [idx2 t]

theorem emb6 (t : Fin cfg2.N) (s : Fin 8) (l : Fin 1024) :
    ((cfg2.win 6).blk t).view.emb (ix2 s l) = ix2 ⟨t.val * 8 + s.val, by have h : t.val < 16 := t.isLt; omega⟩ l := by
  blk_ext [idx2 t]

theorem final5 (c : Dev nD) : (dat2 V c).arrAt 5 cfg2.N = inputOf V c := by
  refine (dat2 V c).arrAt_eq_of_covers 5 _ (by decide +kernel) fun t _ y => ?_
  obtain ⟨i, l, rfl⟩ : ∃ (i : Fin 256) (l : Fin 1024), y = ix2 i l := ⟨_, _, eq_ix2 y⟩
  blk_simp
  rw [after2_5]
  unfold outsAt2
  frame_out
  exact (point5 V c t i l).trans (congrArg (inputOf V c) (emb5 t i l).symm)

theorem final6 (c : Dev nD) : (dat2 V c).arrAt 6 cfg2.N = partsOf V c := by
  refine (dat2 V c).arrAt_eq_of_covers 6 _ (by decide +kernel) fun t _ y => ?_
  obtain ⟨s, l, rfl⟩ : ∃ (s : Fin 8) (l : Fin 1024), y = ix2 s l := ⟨_, _, eq_ix2 y⟩
  blk_simp
  rw [after2_6]
  unfold outsAt2
  frame_out
  exact (point6 V c t s l).trans (congrArg (partsOf V c) (emb6 t s l).symm)

/-- The sum of the rows of the partial sums. -/
def total (p : FVec Ideal S128x1024 .f32) : FVec Ideal S1x1024 .f32 := fun y => ∑ k : Fin 128, p (ix2 k (y 1))

theorem point3 (c : Dev nD) (t : Fin cfg3.N) (y : S1x1024.Idx) :
    k3_pay1 (iblk3 V c 0 t) y = total (V c main_v5_1) (((cfg3.win 1).blk t).view.emb y) := by
  unfold total
  pointwise [k3_pay1]
  refine Finset.sum_congr rfl fun k _ => ?_
  unfold iblk3
  blk_simp [idx3 t]
  exact congrArg (V c main_v5_1) (by blk_ext [idx3 t])

theorem final3 (c : Dev nD) : (dat3 V c).arrAt 1 cfg3.N = total (V c main_v5_1) := by
  refine (dat3 V c).arrAt_eq_of_covers 1 _ (by decide +kernel) fun t _ y => ?_
  blk_simp
  rw [after3_1]
  unfold out3_1
  frame_out
  exact point3 V c t y

end

variable (m : (ℓ : Loc nD τ sig) → Buf (Elt Ideal) ℓ) (ρ : Dev nD → PrngReg)

/-- The gradient the call is given, after its cast. -/
theorem grad_cast (c : Dev nD) : W1 m ρ c (Proc.devRef .tc main_v2)
    = (m ((c : Thread nD τ).loc main_arg0) : FVec Ideal S4096x7424 .f32) := by
  have h : W1 m ρ c (Proc.devRef .tc main_v2) = (truncf .bf16 (W0 m ρ c (Proc.devRef .tc main_arg0)) bitsLt_bf16_f32 : FVec Ideal S4096x7424 .bf16) := by
    show StableHlo.after hostOps0 (W0 m ρ c) (Proc.devRef .tc main_v2) = _
    after_results_entrywise (rounds := 1) []
  rw [h, W0_args m ρ c main_arg0 (by decide)]
  funext y
  pointwise []

/-- The weight, transposed and cast. -/
theorem weight_cast (c : Dev nD) : W1 m ρ c (Proc.devRef .tc main_v1)
    = (truncf .bf16 (transpose S7424x1024 [1, 0] (m ((c : Thread nD τ).loc main_arg4)) transposes_S1024x7424_S7424x1024_1_0) bitsLt_bf16_f32 : FVec Ideal S7424x1024 .bf16) := by
  have h : W1 m ρ c (Proc.devRef .tc main_v1) = (truncf .bf16 (transpose S7424x1024 [1, 0] (W0 m ρ c (Proc.devRef .tc main_arg4)) transposes_S1024x7424_S7424x1024_1_0) bitsLt_bf16_f32 : FVec Ideal S7424x1024 .bf16) := by
    show StableHlo.after hostOps0 (W0 m ρ c) (Proc.devRef .tc main_v1) = _
    after_results_entrywise (rounds := 1) []
  rw [h, W0_args m ρ c main_arg4 (by decide)]

/-- The weight's gradient after the run. -/
theorem final_weight (c : Dev nD) : W5 m ρ c (Proc.devRef .tc main_v4)
    = LayerSpec.productN (m ((c : Thread nD τ).loc main_arg0))
        (LayerSpec.norm (m ((c : Thread nD τ).loc main_arg2)) (m ((c : Thread nD τ).loc main_arg3)) : FVec Ideal S4096x1024 .f32) := by
  refine (W5_of m ρ c main_v4 (by decide)).trans ((W4_of m ρ c main_v4 (by decide)).trans ((W3_arr m ρ c 2).trans ((final1 (V2 m ρ) c).trans ?_)))
  have h2 : V2 m ρ c main_v2 = (m ((c : Thread nD τ).loc main_arg0) : FVec Ideal S4096x7424 .f32) :=
    (W2_of m ρ c main_v2 (by decide)).trans (grad_cast m ρ c)
  have h3 : V2 m ρ c main_v3 = rowsOf (V1 m ρ) c := (W2_arr m ρ c 2).trans (final0 (V1 m ρ) c)
  have a2 : V1 m ρ c main_arg2 = m ((c : Thread nD τ).loc main_arg2) := W1_args m ρ c main_arg2 (by decide)
  have a3 : V1 m ρ c main_arg3 = m ((c : Thread nD τ).loc main_arg3) := W1_args m ρ c main_arg3 (by decide)
  unfold weightOf
  rw [h2, h3]
  unfold rowsOf
  rw [a2, a3]

/-- The gradient of the normalized rows, of the arguments. -/
theorem inner_eq (c : Dev nD) : innerOf (V3 m ρ) c
    = LayerSpec.productT (m ((c : Thread nD τ).loc main_arg0)) (m ((c : Thread nD τ).loc main_arg4)) := by
  have h2 : V3 m ρ c main_v2 = (m ((c : Thread nD τ).loc main_arg0) : FVec Ideal S4096x7424 .f32) :=
    (W3_of m ρ c main_v2 (by decide)).trans ((W2_of m ρ c main_v2 (by decide)).trans (grad_cast m ρ c))
  have h1 : V3 m ρ c main_v1 = _ :=
    (W3_of m ρ c main_v1 (by decide)).trans ((W2_of m ρ c main_v1 (by decide)).trans (weight_cast m ρ c))
  unfold innerOf
  rw [h2, h1]
  funext y
  unfold LayerSpec.product LayerSpec.productT
  pointwise []

/-- The input's gradient after the run. -/
theorem final_input (c : Dev nD) : W5 m ρ c (Proc.devRef .tc main_v5_0)
    = (LayerSpec.normGrad (m ((c : Thread nD τ).loc main_arg1))
        (LayerSpec.productT (m ((c : Thread nD τ).loc main_arg0)) (m ((c : Thread nD τ).loc main_arg4)) : FVec Ideal S4096x1024 .f32)
        (m ((c : Thread nD τ).loc main_arg2)) (m ((c : Thread nD τ).loc main_arg3)) : FVec Ideal S4096x1024 .f32) := by
  refine (W5_of m ρ c main_v5_0 (by decide)).trans ((W4_arr m ρ c 5).trans ((final5 (V3 m ρ) c).trans ?_))
  have a1 : V3 m ρ c main_arg1 = m ((c : Thread nD τ).loc main_arg1) := W3_args m ρ c main_arg1 (by decide)
  have a2 : V3 m ρ c main_arg2 = m ((c : Thread nD τ).loc main_arg2) := W3_args m ρ c main_arg2 (by decide)
  have a3 : V3 m ρ c main_arg3 = m ((c : Thread nD τ).loc main_arg3) := W3_args m ρ c main_arg3 (by decide)
  unfold inputOf
  rw [inner_eq, a1, a2, a3]

/-- The gain's gradient after the run. -/
theorem final_gain (c : Dev nD) : W5 m ρ c (Proc.devRef .tc main_v6)
    = total (partials (LayerSpec.productT (m ((c : Thread nD τ).loc main_arg0)) (m ((c : Thread nD τ).loc main_arg4)))
        (m ((c : Thread nD τ).loc main_arg2))) := by
  refine (W5_arr m ρ c 1).trans ((final3 (V4 m ρ) c).trans (congrArg total ?_))
  have a2 : V3 m ρ c main_arg2 = m ((c : Thread nD τ).loc main_arg2) := W3_args m ρ c main_arg2 (by decide)
  refine (W4_arr m ρ c 6).trans ((final6 (V3 m ρ) c).trans ?_)
  unfold partsOf
  rw [inner_eq, a2]

/-- A row among 128 and one of its 32 rows, and the row of the 4096 that they are. -/
def regroup : Fin 128 × Fin 32 ≃ Fin 4096 where
  toFun p := ⟨p.1.val / 8 * 256 + p.2.val * 8 + p.1.val % 8, by have h := p.1.isLt; omega⟩
  invFun i := (⟨i.val / 256 * 8 + i.val % 8, by omega⟩, ⟨i.val % 256 / 8, by omega⟩)
  left_inv p := by
    obtain ⟨⟨a, ha⟩, ⟨b, hb⟩⟩ := p
    refine Prod.ext (Fin.ext ?_) (Fin.ext ?_)
    · show (a / 8 * 256 + b * 8 + a % 8) / 256 * 8 + (a / 8 * 256 + b * 8 + a % 8) % 8 = a
      omega
    · show (a / 8 * 256 + b * 8 + a % 8) % 256 / 8 = b
      omega
  right_inv i := by
    refine Fin.ext ?_
    show (i.val / 256 * 8 + i.val % 8) / 8 * 256 + i.val % 256 / 8 * 8 + (i.val / 256 * 8 + i.val % 8) % 8 = i.val
    omega

/-- The partial sums add up to the sum over every row. -/
theorem total_partials (a x : FVec Ideal S4096x1024 .f32) (y : S1x1024.Idx) :
    total (partials a x) y = ∑ i : Fin 4096, LayerSpec.gainTerm a x i (y 1) := by
  refine Eq.trans ?_ (Equiv.sum_comp regroup fun i => LayerSpec.gainTerm a x i (y 1))
  rw [Fintype.sum_prod_type]
  rfl

end Cert.InIdeal.Whole

end
-- ==== Proof.Bounded.lean ====
/-
  What the condition that an array is bounded says of its entries.
-/
module

public import proofs.«01_k».proof.Proof.NormGrad
public import Idealize.ShloMosaic.Lib.ReduceAll

@[expose] public section

set_option maxRecDepth 16384

open Idealize.ShloMosaic Idealize.ShloMosaic.TcCoe Idealize.SL.Sem

namespace Cert.LayerSpec

theorem ofBits_top : Ideal.ofBits .f32 0x7F800000#32 = (⊤ : EReal) := by
  simp [Ideal.ofBits, Ideal.ieee]

/-- An array each of whose entries compares below infinity in size is of real numbers. -/
theorem finite_of_less {s u v : Shape} (x : FVec Ideal s .f32) {axes : List (Fin s.rank)} {d : Fin u.rank → Fin s.rank}
    (hb : u.BroadcastsInDim s d) [Subsingleton v.Idx] (init : IVec u 1) (hr : s.ReducesTo axes v) (hu : 0 < u.numel) (j : v.Idx)
    (h : Host.reduce IntOp.andi (cmpf .olt (Host.absf x) (broadcastInDim s d hb (constant u .f32 0x7F800000#32))) init hr hu j = 1#1) :
    Finite x := by
  refine finite_of_abs fun y => ?_
  have e : BitVec.ofBool (decide (max (x y) (-(x y)) < Ideal.ofBits .f32 0x7F800000#32)) = 1#1 := Host.reduce_andi_all _ init hr hu j h y
  rw [ofBits_top] at e
  by_contra hn
  rw [decide_eq_false hn] at e
  exact absurd e (by decide)

end Cert.LayerSpec

end
-- ==== Proof.InClaims.lean ====
/-
  The claims about the input projection's gradient with the normalization's.
-/
module

public import proofs.«01_k».proof.Defs
public import proofs.«01_k».proof.Proof.Gen.In.Frame
public import proofs.«01_k».proof.Proof.Gen.InRefIdeal.Run
public import proofs.«01_k».proof.Proof.InBlock
public import proofs.«01_k».proof.Proof.Bounded
public import Idealize.ShloMosaic.Lib.Quiescent

@[expose] public section

set_option maxRecDepth 16384

open Idealize.ShloMosaic Idealize.ShloMosaic.TcCoe Idealize.SL.Sem

namespace Cert.InProof

theorem quiescent_kernel : Cert.quiescent_In := fun m g _ => Cert.In.Gen.frame m g

theorem quiescent_ideal : Cert.quiescent_InIdeal := fun m g _ => Cert.InIdeal.Gen.frame m g

theorem quiescent_ideal_pre [Cert.Pre_finite_in.Facts] : Cert.quiescent_InIdeal_pre_finite_in := fun m g _ => Cert.InIdeal.Gen.frame m g

theorem quiescent_reference : Cert.quiescent_InRefIdeal := fun m g _ =>
  (θ_run Cert.InRefIdeal.defs _ _).mono
    (fun r h => ⟨fun c => (h c).2.2.2, Idealize.ShloMosaic.sem_eq_zero_of_no_sems (by decide) r.2⟩)
    (Cert.InRefIdeal.Value.run (F := Ideal) m g)

theorem quiescent_reference_pre [Cert.Pre_finite_in.Facts] : Cert.quiescent_InRefIdeal_pre_finite_in := fun m g _ => quiescent_reference m g trivial

section
open Cert.InRefIdeal Cert.InRefIdeal.Gen Cert.InRefIdeal.Value

/-- The reference's first result, read at an index. -/
theorem reference_first (m : (ℓ : Loc nD τ sig) → Buf (Elt Ideal) ℓ) (c : Dev nD) : res_main_v38 (F := Ideal) m c
    = LayerSpec.normGradChain (m ((c.tc : Thread nD τ).loc main_arg1))
        (LayerSpec.productT (m ((c.tc : Thread nD τ).loc main_arg0)) (m ((c.tc : Thread nD τ).loc main_arg4)) : FVec Ideal S4096x1024 .f32)
        (m ((c.tc : Thread nD τ).loc main_arg2)) (m ((c.tc : Thread nD τ).loc main_arg3)) := by
  funext y
  unfold res_main_v38 LayerSpec.normGradChain LayerSpec.viaSq LayerSpec.meanSq LayerSpec.scale LayerSpec.productT
  pointwise []
  simp only [Fin.sum_univ_one]

/-- The reference's second result, read at an index. -/
theorem reference_second (A : FVec Ideal S4096x7424 .f32) (X : FVec Ideal S4096x1024 .f32) (W : FVec Ideal S1024x7424 .f32) :
    (shapeCast _ (Host.reduceAdd (mulf (mulf X (broadcastInDim S4096x1024 ![0, 1] bcast_S4096x1_S4096x1024_0_1 (Host.rsqrt (addf (Host.divf (broadcastInDim S4096x1 ![0] bcast_S4096_S4096x1_0 (Host.reduceAdd (mulf X X) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (Host.dotGeneral dot_S4096x7424_S1024x7424_S4096x1024_1_1_0_0_n_n none A W)) (constant S_ .f32 0x00000000#32) reducesTo_S4096x1024_S1024_d0 h_S_) shapeCasts_S1024_S1x1024 : FVec Ideal S1x1024 .f32)
    = Cert.InIdeal.Whole.total (Cert.InIdeal.Whole.partials (LayerSpec.productT A W) X) := by
  funext y
  rw [Cert.InIdeal.Whole.total_partials]
  unfold LayerSpec.gainTerm LayerSpec.scale LayerSpec.productT
  pointwise []
  refine Finset.sum_congr rfl fun j _ => ?_
  rw [mul_comm]

/-- The reference's third result, read at an index. -/
theorem reference_third (A : FVec Ideal S4096x7424 .f32) (X : FVec Ideal S4096x1024 .f32) (G : FVec Ideal S1x1024 .f32) :
    (transpose S7424x1024 [1, 0] (transpose S1024x7424 [1, 0] (Host.dotGeneral dot_S4096x7424_S4096x1024_S7424x1024_0_0_1_1_n_n none A (mulf (mulf X (broadcastInDim S4096x1024 ![0, 1] bcast_S4096x1_S4096x1024_0_1 (Host.rsqrt (addf (Host.divf (broadcastInDim S4096x1 ![0] bcast_S4096_S4096x1_0 (Host.reduceAdd (mulf X X) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 G))) transposes_S7424x1024_S1024x7424_1_0) transposes_S1024x7424_S7424x1024_1_0 : FVec Ideal S7424x1024 .f32)
    = LayerSpec.productN A (LayerSpec.norm X G) := by
  funext y
  unfold LayerSpec.productN LayerSpec.norm LayerSpec.scale
  pointwise []

end

/-- The shapes of the condition fit. -/
instance condition_facts : Cert.Pre_finite_in.Facts :=
  ⟨by decide, by decide, by decide, by decide, by decide, by decide, by decide, by decide, by decide⟩

/-- What the condition says: the four arrays are of real numbers. -/
theorem condition [Cert.Pre_finite_in.Facts] (A : FVec Ideal Cert.InIdeal.S4096x7424 .f32) (D X : FVec Ideal Cert.InIdeal.S4096x1024 .f32)
    (G : FVec Ideal Cert.InIdeal.S1x1024 .f32) (W : FVec Ideal Cert.InIdeal.S1024x7424 .f32)
    (h : Cert.Pre_finite_in.fn (F := Ideal) A D X G W = (fun _ => 1#1)) :
    LayerSpec.Finite A ∧ LayerSpec.Finite X ∧ LayerSpec.Finite G ∧ LayerSpec.Finite W := by
  have h0 := congrFun h (fun a => a.elim0)
  dsimp only [Cert.Pre_finite_in.fn, Cert.Pre_finite_in.fn_part1] at h0
  obtain ⟨h1, hW⟩ := IntOp.andi_eq_one.1 h0
  obtain ⟨h2, hG⟩ := IntOp.andi_eq_one.1 h1
  obtain ⟨hA, hX⟩ := IntOp.andi_eq_one.1 h2
  haveI : Subsingleton (Shape.Idx Cert.Pre_finite_in.S_) := ⟨fun x y => funext fun a => a.elim0⟩
  exact ⟨LayerSpec.finite_of_less _ _ _ _ _ _ hA, LayerSpec.finite_of_less _ _ _ _ _ _ hX, LayerSpec.finite_of_less _ _ _ _ _ _ hG,
    LayerSpec.finite_of_less _ _ _ _ _ _ hW⟩

/-- Every run of the kernel leaves each result as the last call leaves it, and the arguments as they were. -/
theorem algebraic [Cert.Pre_finite_in.Facts] : Cert.algebraic_InIdeal_InRefIdeal_pre_finite_in := fun m g m' g' hp hag =>
  ⟨fun c => Cert.InIdeal.Gen.W5 m g c (Proc.devRef .tc Cert.InIdeal.main_v5_0), fun c => Cert.InIdeal.Gen.W5 m g c (Proc.devRef .tc Cert.InIdeal.main_v6), fun c => Cert.InIdeal.Gen.W5 m g c (Proc.devRef .tc Cert.InIdeal.main_v4),
    (θ_run Cert.InIdeal.defs _ _).mono
      (fun _ h c => ⟨h c Cert.InIdeal.main_v5_0 (by decide), h c Cert.InIdeal.main_v6 (by decide), h c Cert.InIdeal.main_v4 (by decide), (h c Cert.InIdeal.main_arg0 (by decide)).trans (Cert.InIdeal.Gen.W5_main_arg0 m g c), (h c Cert.InIdeal.main_arg1 (by decide)).trans (Cert.InIdeal.Gen.W5_main_arg1 m g c), (h c Cert.InIdeal.main_arg2 (by decide)).trans (Cert.InIdeal.Gen.W5_main_arg2 m g c), (h c Cert.InIdeal.main_arg3 (by decide)).trans (Cert.InIdeal.Gen.W5_main_arg3 m g c), (h c Cert.InIdeal.main_arg4 (by decide)).trans (Cert.InIdeal.Gen.W5_main_arg4 m g c)⟩)
      (Cert.InIdeal.Whole.run (F := Ideal) m g),
    (θ_run Cert.InRefIdeal.defs _ _).mono
      (fun _ h c => by
        obtain ⟨h0, h1, h2, h3, h4⟩ := hag c
        obtain ⟨o0, o1, o2, hA⟩ := h c
        obtain ⟨fA, fX, fG, fW⟩ := condition _ _ _ _ _ (hp c)
        have e := reference_first m' c
        rw [h0, h1, h2, h3, h4, ← LayerSpec.normGrad_eq _ (LayerSpec.finite_productT fA fW) fX fG] at e
        rw [h0, h2, h4] at o1
        rw [h0, h2, h3] at o2
        exact ⟨o0.trans ((e).trans (Cert.InIdeal.Whole.final_input m g c).symm), o1.trans ((reference_second _ _ _).trans (Cert.InIdeal.Whole.final_gain m g c).symm), o2.trans ((reference_third _ _ _).trans (Cert.InIdeal.Whole.final_weight m g c).symm), hA⟩)
      (Cert.InRefIdeal.Value.run (F := Ideal) m' g')⟩

end Cert.InProof

end
-- ==== Proof.LayerWeights.lean ====
/-
  One layer's weights packed into a single array of 8 slabs of 1312 rows: the up projection's columns, the down projection's rows
  and the output projection's rows, 512, 512 and 128 of each to a slab, then the mixers'. Read back at an index.
-/
module

public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace LayerWeights

abbrev SUp : Shape := ⟨2, ![1024, 4096]⟩
abbrev SDown : Shape := ⟨2, ![4096, 1024]⟩
abbrev SSq : Shape := ⟨2, ![1024, 1024]⟩
abbrev SHalf : Shape := ⟨2, ![512, 1024]⟩
abbrev SHalfT : Shape := ⟨2, ![1024, 512]⟩
abbrev SQuart : Shape := ⟨2, ![256, 1024]⟩
abbrev SQuartT : Shape := ⟨2, ![1024, 256]⟩
abbrev P512 : Shape := ⟨3, ![8, 512, 1024]⟩
abbrev P128 : Shape := ⟨3, ![8, 128, 1024]⟩
abbrev P32 : Shape := ⟨3, ![8, 32, 1024]⟩
abbrev PAll : Shape := ⟨3, ![8, 1312, 1024]⟩

/-- The shape relations the packing asks for. -/
structure Fits : Prop where
  bits : FTy.bits .bf16 < FTy.bits .f32
  up : SUp.Transposes [1, 0] SDown
  half : SHalf.Transposes [1, 0] SHalfT
  quart : SQuart.Transposes [1, 0] SQuartT
  halves : Shape.Concatenates [SHalfT, SHalfT] SSq 1
  p512 : SDown.ShapeCasts P512
  p128 : SSq.ShapeCasts P128
  p32 : SQuartT.ShapeCasts P32
  all : Shape.Concatenates [P512, P512, P128, P128, P32] PAll 1

variable (w1 : FVec Ideal SUp .f32) (w2 : FVec Ideal SDown .f32) (wo : FVec Ideal SSq .f32) (wp wc : FVec Ideal SHalf .f32)
  (wa : FVec Ideal SQuart .f32)

/-- The packed weights. -/
abbrev pack (h : Fits) : FVec Ideal PAll .bf16 := concatenate PAll 1
  [⟨P512, shapeCast P512 (truncf .bf16 (transpose SDown [1, 0] w1 h.up : FVec Ideal SDown .f32) h.bits : FVec Ideal SDown .bf16) h.p512⟩,
   ⟨P512, shapeCast P512 (truncf .bf16 w2 h.bits : FVec Ideal SDown .bf16) h.p512⟩,
   ⟨P128, shapeCast P128 (truncf .bf16 wo h.bits : FVec Ideal SSq .bf16) h.p128⟩,
   ⟨P128, shapeCast P128 (concatenate SSq 1
      [⟨SHalfT, (truncf .bf16 (transpose SHalfT [1, 0] wp h.half : FVec Ideal SHalfT .f32) h.bits : FVec Ideal SHalfT .bf16)⟩,
       ⟨SHalfT, (truncf .bf16 (transpose SHalfT [1, 0] wc h.half : FVec Ideal SHalfT .f32) h.bits : FVec Ideal SHalfT .bf16)⟩]
      h.halves : FVec Ideal SSq .bf16) h.p128⟩,
   ⟨P32, shapeCast P32 (truncf .bf16 (transpose SQuartT [1, 0] wa h.quart : FVec Ideal SQuartT .f32) h.bits : FVec Ideal SQuartT .bf16) h.p32⟩]
  h.all

section
variable (a b : FVec Ideal P512 .bf16) (e f : FVec Ideal P128 .bf16) (g : FVec Ideal P32 .bf16)
  (h : Shape.Concatenates [P512, P512, P128, P128, P32] PAll 1) (d : Fin 8) (k : Fin 1024)

/-- The slab, unread. -/
abbrev slab : FVec Ideal PAll .bf16 := concatenate PAll 1 [⟨P512, a⟩, ⟨P512, b⟩, ⟨P128, e⟩, ⟨P128, f⟩, ⟨P32, g⟩] h

theorem slab_first (r : Fin 512) : slab a b e f g h (ix3 d ⟨r.val, by omega⟩ k) = a (ix3 d r k) := by
  unfold slab
  pointwise []

theorem slab_second (r : Fin 512) : slab a b e f g h (ix3 d ⟨512 + r.val, by omega⟩ k) = b (ix3 d r k) := by
  unfold slab
  pointwise []

theorem slab_third (r : Fin 128) : slab a b e f g h (ix3 d ⟨1024 + r.val, by omega⟩ k) = e (ix3 d r k) := by
  unfold slab
  pointwise []
  rw [dif_neg (by omega), dif_neg (by omega), dif_pos (by omega)]
  congr 2
  all_goals exact Fin.ext (by show 1024 + r.val - 512 - 512 = r.val; omega)
end

/-- Row `r` of slab `d` is the up projection's column `512 d + r`, -/
theorem pack_up (h : Fits) (d : Fin 8) (r : Fin 512) (k : Fin 1024) :
    pack w1 w2 wo wp wc wa h (ix3 d ⟨r.val, by omega⟩ k) = w1 (ix2 k ⟨d.val * 512 + r.val, by omega⟩) := by
  refine (slab_first _ _ _ _ _ h.all d k r).trans ?_
  pointwise []
  blk_ext []

/-- row `512 + r` the down projection's row `512 d + r`, -/
theorem pack_down (h : Fits) (d : Fin 8) (r : Fin 512) (k : Fin 1024) :
    pack w1 w2 wo wp wc wa h (ix3 d ⟨512 + r.val, by omega⟩ k) = w2 (ix2 ⟨d.val * 512 + r.val, by omega⟩ k) := by
  refine (slab_second _ _ _ _ _ h.all d k r).trans ?_
  pointwise []
  blk_ext []

/-- and row `1024 + r` the output projection's row `128 d + r`. -/
theorem pack_out (h : Fits) (d : Fin 8) (r : Fin 128) (k : Fin 1024) :
    pack w1 w2 wo wp wc wa h (ix3 d ⟨1024 + r.val, by omega⟩ k) = wo (ix2 ⟨d.val * 128 + r.val, by omega⟩ k) := by
  refine (slab_third _ _ _ _ _ h.all d k r).trans ?_
  pointwise []
  blk_ext []

end LayerWeights

end
-- ==== Proof.NormInBlock.lean ====
/-
  What the up projection's backward product leaves in its three result arrays.
-/
module

public import proofs.«01_k».proof.Proof.Gen.NormInIdeal.Value
public import proofs.«01_k».proof.Proof.LayerWeights
public import proofs.«01_k».proof.Proof.NormGrad
public import Idealize.ShloMosaic.Lib.Claim
public import Idealize.ShloMosaic.Lib.StableHlo.RunClose

@[expose] public section

set_option maxRecDepth 16384

noncomputable section

open Idealize.ShloMosaic Idealize.ShloMosaic.TcCoe Idealize.SL.Sem

namespace Cert.NormInIdeal.Whole

open Cert.NormInIdeal Cert.NormInIdeal.Gen

variable (m : (ℓ : Loc nD τ sig) → Buf (Elt Ideal) ℓ)

theorem fits : LayerWeights.Fits := ⟨bitsLt_bf16_f32, transposes_S1024x4096_S4096x1024_1_0, transposes_S512x1024_S1024x512_1_0,
  transposes_S256x1024_S1024x256_1_0, concatenates_S1024x512_S1024x512_S1024x1024_d1, shapeCasts_S4096x1024_S8x512x1024,
  shapeCasts_S1024x1024_S8x128x1024, shapeCasts_S1024x256_S8x32x1024,
  concatenates_S8x512x1024_S8x512x1024_S8x128x1024_S8x128x1024_S8x32x1024_S8x1312x1024_d1⟩

theorem idx : ∀ t : Fin cfg0.N, win0_0.index t = ![t.val, 0] ∧ win0_1.index t = ![0, 0, 0] ∧ win0_2.index t = ![t.val, 0]
    ∧ win0_3.index t = ![t.val, 0] ∧ win0_4.index t = ![0, 0] ∧ win0_5.index t = ![t.val, 0] ∧ win0_6.index t = ![t.val, 0]
    ∧ win0_7.index t = ![t.val, 0] := (by decide +kernel : ∀ t : Fin grid0.N, _)

/-- The gradient of the normalized rows. -/
abbrev inner (c : Dev nD) : FVec Ideal S4096x1024 .f32 :=
  LayerSpec.productT (m ((c : Thread nD τ).loc main_arg0)) (m ((c : Thread nD τ).loc main_arg4))

/-- The gradient of the rows before the normalization. -/
abbrev first (c : Dev nD) : FVec Ideal S4096x1024 .f32 :=
  LayerSpec.normGrad (m ((c : Thread nD τ).loc main_arg1)) (inner m c) (m ((c : Thread nD τ).loc main_arg2))
    (m ((c : Thread nD τ).loc main_arg3))

/-- The gain's gradient summed over every eighth row of 512. -/
def partials (a x : FVec Ideal S4096x1024 .f32) : FVec Ideal S64x1024 .f32 := fun y =>
  ∑ j : Fin 64, LayerSpec.gainTerm a x ⟨(y 0).val / 8 * 512 + j.val * 8 + (y 0).val % 8, by have h : (y 0).val < 64 := (y 0).isLt; omega⟩ (y 1)

abbrev second (c : Dev nD) : FVec Ideal S64x1024 .f32 := partials (inner m c) (m ((c : Thread nD τ).loc main_arg2))

/-- The weights the call is given are the packed ones. -/
theorem entry (c : Dev nD) : V m c main_v17 = LayerWeights.pack (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9)) fits := by
  show StableHlo.after hostOps0 (fun b => m (c, b)) (Proc.devRef .tc main_v17) = _
  after_results_entrywise (rounds := 1) []

/-- The weight's block. -/
theorem block1 (c : Dev nD) (t : Fin cfg0.N) (d : Fin 8) (r : Fin 512) (k : Fin 1024) :
    X0_1 m c t (ix3 d r k) = m ((c : Thread nD τ).loc main_arg4) (ix2 k ⟨d.val * 512 + r.val, by omega⟩) := by
  unfold X0_1 Pipeline.Window.fill
  rw [dif_pos (moved0_1 t _)]
  unfold iblk
  blk_simp [idx t]
  refine Eq.trans (congrArg (V m c main_v17) (?_ : _ = ix3 d ⟨r.val, by omega⟩ k)) ?_
  · blk_ext [idx t]
  · rw [entry]
    exact LayerWeights.pack_up _ _ _ _ _ _ fits d r k

/-- The row of the whole that a block's row is. -/
abbrev row (t : Fin cfg0.N) (i : Fin 512) : Fin 4096 := ⟨t.val * 512 + i.val, by have h : t.val < 8 := t.isLt; omega⟩

/-- A block of the product. -/
theorem dot (c : Dev nD) (t : Fin cfg0.N) (i : Fin 512) (l : Fin 1024) :
    k0_pay2 (X0_1 m c t) (iblk m c 0 t) (ix2 i l) = inner m c (ix2 (row t i) l) := by
  unfold inner LayerSpec.productT
  pointwise [k0_pay2]
  refine Finset.sum_congr rfl fun k _ => congrArg₂ (· * ·) ?_ ((block1 m c t _ _ _).trans ?_)
  · blk_point [iblk, V, idx t]
  · blk_point [idx t]

theorem rows (c : Dev nD) (t : Fin cfg0.N) (i : Fin 512) (k : Fin 1024) :
    iblk m c 2 t (ix2 i k) = m ((c : Thread nD τ).loc main_arg2) (ix2 (row t i) k) := by
  blk_point [iblk, V, idx t]

/-- A point's first result. -/
theorem point5 (c : Dev nD) (t : Fin cfg0.N) (i : Fin 512) (l : Fin 1024) :
    k0_pay5 (X0_1 m c t) (iblk m c 0 t) (iblk m c 2 t) (iblk m c 3 t) (iblk m c 4 t) (ix2 i l) = first m c (ix2 (row t i) l) := by
  refine Eq.trans (b := LayerSpec.normGrad (iblk m c 3 t) (k0_pay2 (X0_1 m c t) (iblk m c 0 t)) (iblk m c 2 t) (iblk m c 4 t) (ix2 i l)) ?_
    (LayerSpec.normGrad_congr i (row t i) l ?_ (fun k => dot m c t i k) (fun k => rows m c t i k) fun k => ?_)
  · unfold LayerSpec.normGrad LayerSpec.scale
    pointwise [k0_pay5, k0_pay4, k0_pay3]
  · blk_point [iblk, V, idx t]
  · blk_point [iblk, V, idx t]

/-- A point's second result. -/
theorem point6 (c : Dev nD) (t : Fin cfg0.N) (s : Fin 8) (l : Fin 1024) :
    k0_pay6 (X0_1 m c t) (iblk m c 0 t) (iblk m c 2 t) (ix2 s l)
      = second m c (ix2 ⟨t.val * 8 + s.val, by have h : t.val < 8 := t.isLt; omega⟩ l) := by
  refine Eq.trans (b := ∑ j : Fin 64, LayerSpec.gainTerm (k0_pay2 (X0_1 m c t) (iblk m c 0 t)) (iblk m c 2 t) ⟨j.val * 8 + s.val, by omega⟩ l) ?_
    (Finset.sum_congr rfl fun j _ => LayerSpec.gainTerm_congr _ _ _ ((dot m c t _ l).trans ?_) fun k => (rows m c t _ k).trans ?_)
  · unfold LayerSpec.gainTerm LayerSpec.scale
    pointwise [k0_pay6, k0_pay4, k0_pay3]
  · refine congrArg (inner m c) (congrArg (ix2 · _) (Fin.ext ?_))
    show t.val * 512 + (j.val * 8 + s.val) = (t.val * 8 + s.val) / 8 * 512 + j.val * 8 + (t.val * 8 + s.val) % 8
    omega
  · refine congrArg (m ((c : Thread nD τ).loc main_arg2)) (congrArg (ix2 · _) (Fin.ext ?_))
    show t.val * 512 + (j.val * 8 + s.val) = (t.val * 8 + s.val) / 8 * 512 + j.val * 8 + (t.val * 8 + s.val) % 8
    omega

theorem emb5 (t : Fin cfg0.N) (i : Fin 512) (l : Fin 1024) : ((cfg0.win 5).blk t).view.emb (ix2 i l) = ix2 (row t i) l := by
  blk_ext [idx t]

theorem emb7 (t : Fin cfg0.N) (i : Fin 512) (l : Fin 1024) : ((cfg0.win 7).blk t).view.emb (ix2 i l) = ix2 (row t i) l := by
  blk_ext [idx t]

theorem emb6 (t : Fin cfg0.N) (s : Fin 8) (l : Fin 1024) :
    ((cfg0.win 6).blk t).view.emb (ix2 s l) = ix2 ⟨t.val * 8 + s.val, by have h : t.val < 8 := t.isLt; omega⟩ l := by
  blk_ext [idx t]

/-- The first result after the run. -/
theorem final5 (c : Dev nD) : (dats m 0 c).arrAt 5 (cfgs 0).N = first m c := by
  refine (dats m 0 c).arrAt_eq_of_covers 5 _ (by decide +kernel) fun t _ y => ?_
  obtain ⟨i, l, rfl⟩ : ∃ (i : Fin 512) (l : Fin 1024), y = ix2 i l := ⟨_, _, eq_ix2 y⟩
  blk_simp
  rw [after0_5]
  unfold outsAt0
  frame_out
  exact (point5 m c t i l).trans (congrArg (first m c) (emb5 t i l).symm)

/-- The second result after the run. -/
theorem final6 (c : Dev nD) : (dats m 0 c).arrAt 6 (cfgs 0).N = second m c := by
  refine (dats m 0 c).arrAt_eq_of_covers 6 _ (by decide +kernel) fun t _ y => ?_
  obtain ⟨s, l, rfl⟩ : ∃ (s : Fin 8) (l : Fin 1024), y = ix2 s l := ⟨_, _, eq_ix2 y⟩
  blk_simp
  rw [after0_6]
  unfold outsAt0
  frame_out
  exact (point6 m c t s l).trans (congrArg (second m c) (emb6 t s l).symm)

/-- The third result after the run, the first rounded. -/
theorem final7 (c : Dev nD) : (dats m 0 c).arrAt 7 (cfgs 0).N = first m c := by
  refine (dats m 0 c).arrAt_eq_of_covers 7 _ (by decide +kernel) fun t _ y => ?_
  obtain ⟨i, l, rfl⟩ : ∃ (i : Fin 512) (l : Fin 1024), y = ix2 i l := ⟨_, _, eq_ix2 y⟩
  blk_simp
  rw [after0_7]
  unfold outsAt0
  frame_out
  exact (point5 m c t i l).trans (congrArg (first m c) (emb7 t i l).symm)

end Cert.NormInIdeal.Whole

end
-- ==== Proof.NormInClaims.lean ====
/-
  The claims about the up projection's backward product with the normalization's gradient.
-/
module

public import proofs.«01_k».proof.Defs
public import proofs.«01_k».proof.Proof.Gen.NormIn.Frame
public import proofs.«01_k».proof.Proof.Gen.NormInRefIdeal.Run
public import proofs.«01_k».proof.Proof.NormInBlock
public import proofs.«01_k».proof.Proof.Bounded
public import Idealize.ShloMosaic.Lib.Quiescent

@[expose] public section

set_option maxRecDepth 16384

open Idealize.ShloMosaic Idealize.ShloMosaic.TcCoe Idealize.SL.Sem

namespace Cert.NormInProof

theorem quiescent_kernel : Cert.quiescent_NormIn := fun m g _ => Cert.NormIn.Gen.frame m g

theorem quiescent_ideal : Cert.quiescent_NormInIdeal := fun m g _ => Cert.NormInIdeal.Gen.frame m g

theorem quiescent_ideal_pre [Cert.Pre_finite_norm_in.Facts] : Cert.quiescent_NormInIdeal_pre_finite_norm_in := fun m g _ =>
  Cert.NormInIdeal.Gen.frame m g

theorem quiescent_reference : Cert.quiescent_NormInRefIdeal := fun m g _ =>
  (θ_run Cert.NormInRefIdeal.defs _ _).mono
    (fun r h => ⟨fun c => (h c).2.2.2, Idealize.ShloMosaic.sem_eq_zero_of_no_sems (by decide) r.2⟩)
    (Cert.NormInRefIdeal.Value.run (F := Ideal) m g)

theorem quiescent_reference_pre [Cert.Pre_finite_norm_in.Facts] : Cert.quiescent_NormInRefIdeal_pre_finite_norm_in := fun m g _ =>
  quiescent_reference m g trivial

section
open Cert.NormInRefIdeal Cert.NormInRefIdeal.Gen Cert.NormInRefIdeal.Value

/-- The reference's first result, read at an index. -/
theorem reference_first (m : (ℓ : Loc nD τ sig) → Buf (Elt Ideal) ℓ) (c : Dev nD) : res_main_v33 (F := Ideal) m c
    = LayerSpec.normGradChain (m ((c.tc : Thread nD τ).loc main_arg1))
        (LayerSpec.productT (m ((c.tc : Thread nD τ).loc main_arg0)) (m ((c.tc : Thread nD τ).loc main_arg4)) : FVec Ideal S4096x1024 .f32)
        (m ((c.tc : Thread nD τ).loc main_arg2)) (m ((c.tc : Thread nD τ).loc main_arg3)) := by
  funext y
  unfold res_main_v33 LayerSpec.normGradChain LayerSpec.viaSq LayerSpec.meanSq LayerSpec.scale LayerSpec.productT
  pointwise []
  simp only [Fin.sum_univ_one]

/-- The reference's second result, read at an index. -/
theorem reference_second (A : FVec Ideal S4096x4096 .f32) (X : FVec Ideal S4096x1024 .f32) (W : FVec Ideal S1024x4096 .f32) :
    (shapeCast _ (Host.reduceAdd (shapeCast _ (mulf (mulf X (broadcastInDim S4096x1024 ![0, 1] bcast_S4096x1_S4096x1024_0_1 (Host.rsqrt (addf (Host.divf (broadcastInDim S4096x1 ![0] bcast_S4096_S4096x1_0 (Host.reduceAdd (mulf X X) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (Host.dotGeneral dot_S4096x4096_S1024x4096_S4096x1024_1_1_0_0_n_n none A W)) shapeCasts_S4096x1024_S8x64x8x1024) (constant S_ .f32 0x00000000#32) reducesTo_S8x64x8x1024_S8x8x1024_d1 h_S_) shapeCasts_S8x8x1024_S64x1024 : FVec Ideal S64x1024 .f32)
    = Cert.NormInIdeal.Whole.partials (LayerSpec.productT A W) X := by
  funext y
  unfold Cert.NormInIdeal.Whole.partials LayerSpec.gainTerm LayerSpec.scale LayerSpec.productT
  pointwise []
  refine Finset.sum_congr rfl fun j _ => ?_
  rw [mul_comm]

end

/-- The shapes of the condition fit. -/
instance condition_facts : Cert.Pre_finite_norm_in.Facts :=
  ⟨by decide, by decide, by decide, by decide, by decide, by decide, by decide, by decide, by decide⟩

/-- What the condition says: the four arrays are of real numbers. -/
theorem condition [Cert.Pre_finite_norm_in.Facts] (A : FVec Ideal Cert.NormInIdeal.S4096x4096 .f32) (D X : FVec Ideal Cert.NormInIdeal.S4096x1024 .f32)
    (G : FVec Ideal Cert.NormInIdeal.S1x1024 .f32) (W : FVec Ideal Cert.NormInIdeal.S1024x4096 .f32)
    (a5 : FVec Ideal Cert.NormInIdeal.S4096x1024 .f32) (a6 : FVec Ideal Cert.Pre_finite_norm_in.S1024x1024 .f32)
    (a7 a8 : FVec Ideal Cert.Pre_finite_norm_in.S512x1024 .f32) (a9 : FVec Ideal Cert.Pre_finite_norm_in.S256x1024 .f32)
    (h : Cert.Pre_finite_norm_in.fn (F := Ideal) A D X G W a5 a6 a7 a8 a9 = (fun _ => 1#1)) :
    LayerSpec.Finite A ∧ LayerSpec.Finite X ∧ LayerSpec.Finite G ∧ LayerSpec.Finite W := by
  have h0 := congrFun h (fun a => a.elim0)
  dsimp only [Cert.Pre_finite_norm_in.fn, Cert.Pre_finite_norm_in.fn_part1] at h0
  obtain ⟨h1, hW⟩ := IntOp.andi_eq_one.1 h0
  obtain ⟨h2, hG⟩ := IntOp.andi_eq_one.1 h1
  obtain ⟨hA, hX⟩ := IntOp.andi_eq_one.1 h2
  haveI : Subsingleton (Shape.Idx Cert.Pre_finite_norm_in.S_) := ⟨fun x y => funext fun a => a.elim0⟩
  exact ⟨LayerSpec.finite_of_less _ _ _ _ _ _ hA, LayerSpec.finite_of_less _ _ _ _ _ _ hX, LayerSpec.finite_of_less _ _ _ _ _ _ hG,
    LayerSpec.finite_of_less _ _ _ _ _ _ hW⟩

theorem algebraic [Cert.Pre_finite_norm_in.Facts] : Cert.algebraic_NormInIdeal_NormInRefIdeal_pre_finite_norm_in := fun m g m' g' hp hag =>
  ⟨fun c => (Cert.NormInIdeal.Gen.dats m 0 c).arrAt 5 Cert.NormInIdeal.cfg0.N, fun c => (Cert.NormInIdeal.Gen.dats m 0 c).arrAt 6 Cert.NormInIdeal.cfg0.N, fun c => (Cert.NormInIdeal.Gen.dats m 0 c).arrAt 7 Cert.NormInIdeal.cfg0.N,
    Cert.NormInIdeal.Value.run_blocks m g,
    (θ_run Cert.NormInRefIdeal.defs _ _).mono
      (fun _ h c => by
        obtain ⟨h0, h1, h2, h3, h4, h5, h6, h7, h8, h9⟩ := hag c
        obtain ⟨o0, o1, o2, hA⟩ := h c
        obtain ⟨fA, fX, fG, fW⟩ := condition _ _ _ _ _ _ _ _ _ _ (hp c)
        have e := reference_first m' c
        rw [h0, h1, h2, h3, h4, ← LayerSpec.normGrad_eq _ (LayerSpec.finite_productT fA fW) fX fG] at e
        have e2 : Cert.NormInRefIdeal.Value.res_main_v37 (F := Ideal) m' c = Cert.NormInRefIdeal.Value.res_main_v33 (F := Ideal) m' c := rfl
        rw [h0, h2, h4] at o1
        exact ⟨o0.trans (e.trans (Cert.NormInIdeal.Whole.final5 m c).symm),
          o1.trans ((reference_second _ _ _).trans (Cert.NormInIdeal.Whole.final6 m c).symm),
          o2.trans (e2.trans (e.trans (Cert.NormInIdeal.Whole.final7 m c).symm)), hA⟩)
      (Cert.NormInRefIdeal.Value.run (F := Ideal) m' g')⟩

end Cert.NormInProof

end
-- ==== Proof.FfInBlock.lean ====
/-
  What the down projection's backward product leaves in its result array.
-/
module

public import proofs.«01_k».proof.Proof.Gen.FfInIdeal.Value
public import proofs.«01_k».proof.Proof.LayerWeights
public import proofs.«01_k».proof.Proof.LayerSpec
public import Idealize.ShloMosaic.Lib.Claim
public import Idealize.ShloMosaic.Lib.StableHlo.RunClose

@[expose] public section

set_option maxRecDepth 16384

noncomputable section

open Idealize.ShloMosaic Idealize.ShloMosaic.TcCoe Idealize.SL.Sem

namespace Cert.FfInIdeal.Whole

open Cert.FfInIdeal Cert.FfInIdeal.Gen

variable (m : (ℓ : Loc nD τ sig) → Buf (Elt Ideal) ℓ)

theorem fits : LayerWeights.Fits := ⟨bitsLt_bf16_f32, transposes_S1024x4096_S4096x1024_1_0, transposes_S512x1024_S1024x512_1_0,
  transposes_S256x1024_S1024x256_1_0, concatenates_S1024x512_S1024x512_S1024x1024_d1, shapeCasts_S4096x1024_S8x512x1024,
  shapeCasts_S1024x1024_S8x128x1024, shapeCasts_S1024x256_S8x32x1024,
  concatenates_S8x512x1024_S8x512x1024_S8x128x1024_S8x128x1024_S8x32x1024_S8x1312x1024_d1⟩

theorem idx : ∀ t : Fin cfg0.N, win0_0.index t = ![t.val / 4, 0] ∧ win0_1.index t = ![t.val % 4, 1, 0]
    ∧ win0_2.index t = ![t.val / 4, t.val % 4] ∧ win0_3.index t = ![t.val / 4, t.val % 4] :=
  (by decide +kernel : ∀ t : Fin grid0.N, _)

/-- The gradient before the rectifier. -/
abbrev result (c : Dev nD) : FVec Ideal S4096x4096 .bf16 :=
  LayerSpec.reluGrad (LayerSpec.productT (m ((c : Thread nD τ).loc main_arg0)) (m ((c : Thread nD τ).loc main_arg3)))
    (LayerSpec.product (m ((c : Thread nD τ).loc main_arg1)) (m ((c : Thread nD τ).loc main_arg2)))

/-- The weights the call is given are the packed ones. -/
theorem entry (c : Dev nD) : V m c main_v21 = LayerWeights.pack (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) fits := by
  show StableHlo.after (List.flatten [hostOps0, hostOps0_1, hostOps0_2]) (fun b => m (c, b)) (Proc.devRef .tc main_v21) = _
  simp only [hostOps0, hostOps0_1, hostOps0_2, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_entrywise (rounds := 1) []

/-- The squared rectifier's values the call is given. -/
theorem entry_relu (c : Dev nD) : V m c main_v3
    = LayerSpec.relu2 (LayerSpec.product (m ((c : Thread nD τ).loc main_arg1)) (m ((c : Thread nD τ).loc main_arg2))) := by
  refine Eq.trans (b := truncf .bf16 (mulf
    (maximumf (Host.dotGeneral (φ₁ := .f32) (φ₂ := .f32) dot_S4096x1024_S1024x4096_S4096x4096_1_0_0_1_n_n none
      (m ((c : Thread nD τ).loc main_arg1)) (m ((c : Thread nD τ).loc main_arg2)))
      (broadcastInDim S4096x4096 ![] bcast_S_S4096x4096 (constant S_ .f32 0x00000000#32)))
    (maximumf (Host.dotGeneral (φ₁ := .f32) (φ₂ := .f32) dot_S4096x1024_S1024x4096_S4096x4096_1_0_0_1_n_n none
      (m ((c : Thread nD τ).loc main_arg1)) (m ((c : Thread nD τ).loc main_arg2)))
      (broadcastInDim S4096x4096 ![] bcast_S_S4096x4096 (constant S_ .f32 0x00000000#32)))) bitsLt_bf16_f32) ?_ ?_
  · show StableHlo.after (List.flatten [hostOps0, hostOps0_1, hostOps0_2]) (fun b => m (c, b)) (Proc.devRef .tc main_v3) = _
    simp only [hostOps0, hostOps0_1, hostOps0_2, List.flatten_cons, List.flatten_nil, List.append_nil, List.cons_append, List.nil_append,
      StableHlo.TRef.binary, StableHlo.TRef.nullary, StableHlo.TRef.unary, StableHlo.TRef.toBuf, StableHlo.TRef.ofBuf, cast_eq]
    after_results_entrywise (rounds := 1) []
  · funext y
    unfold LayerSpec.relu2 LayerSpec.product
    pointwise []

/-- The weight's block. -/
theorem block1 (c : Dev nD) (t : Fin cfg0.N) (d : Fin 2) (r : Fin 512) (k : Fin 1024) :
    X0_1 m c t (ix3 d r k)
      = m ((c : Thread nD τ).loc main_arg3) (ix2 ⟨(2 * (t.val % 4) + d.val) * 512 + r.val, by omega⟩ k) := by
  unfold X0_1 Pipeline.Window.fill
  rw [dif_pos (moved0_1 t _)]
  unfold iblk
  blk_simp [idx t]
  refine Eq.trans (congrArg (V m c main_v21) (?_ : _ = ix3 ⟨2 * (t.val % 4) + d.val, by omega⟩ ⟨512 + r.val, by omega⟩ k)) ?_
  · blk_ext [idx t]
  · rw [entry]
    exact LayerWeights.pack_down _ _ _ _ _ _ fits ⟨2 * (t.val % 4) + d.val, by omega⟩ r k

/-- A block of the product. -/
theorem dot (c : Dev nD) (t : Fin cfg0.N) (y : S1024x1024.Idx) :
    (∑ k : Fin 1024, @HMul.hMul EReal EReal EReal _ (iblk m c 0 t (ix2 (y 0) k))
      (X0_1 m c t (ix3 ⟨(y 1).val / 512, by have h : (y 1).val < 1024 := (y 1).isLt; omega⟩ ⟨(y 1).val % 512, by omega⟩ k)))
    = LayerSpec.productT (m ((c : Thread nD τ).loc main_arg0)) (m ((c : Thread nD τ).loc main_arg3)) (((cfg0.win 3).blk t).view.emb y) := by
  unfold LayerSpec.productT
  refine Finset.sum_congr rfl fun k _ => congrArg₂ (· * ·) ?_ ((block1 m c t _ _ _).trans ?_)
  · blk_point [iblk, V, idx t]
  · blk_point [idx t]

/-- A block of the rectifier's values. -/
theorem relu (c : Dev nD) (t : Fin cfg0.N) (y : S1024x1024.Idx) : iblk m c 2 t y
    = LayerSpec.relu2 (LayerSpec.product (m ((c : Thread nD τ).loc main_arg1)) (m ((c : Thread nD τ).loc main_arg2)))
        (((cfg0.win 3).blk t).view.emb y) := by
  rw [← entry_relu]
  blk_point [iblk, idx t]

theorem point (c : Dev nD) (t : Fin cfg0.N) (y : S1024x1024.Idx) : k0_pay1 (X0_1 m c t) (iblk m c 0 t) (iblk m c 2 t) y
    = result m c (((cfg0.win 3).blk t).view.emb y) := by
  unfold result LayerSpec.reluGrad
  rw [← dot]
  refine Eq.trans ?_ (congrArg (fun s => _ * (Ideal.ofBits .f32 1073741824#32 * Ideal.sqrt s)) (relu m c t y))
  pointwise [k0_pay1]

/-- The result array after the run. -/
theorem final (c : Dev nD) : (dats m 0 c).arrAt 3 (cfgs 0).N = result m c := by
  refine (dats m 0 c).arrAt_eq_of_covers 3 _ (by decide +kernel) fun t _ y => ?_
  blk_simp
  rw [after0_3]
  unfold outsAt0
  frame_out
  exact point m c t y

end Cert.FfInIdeal.Whole

end
-- ==== Proof.FfInClaims.lean ====
/-
  The claims about the down projection's backward product.
-/
module

public import proofs.«01_k».proof.Defs
public import proofs.«01_k».proof.Proof.Gen.FfIn.Frame
public import proofs.«01_k».proof.Proof.Gen.FfInRefIdeal.Run
public import proofs.«01_k».proof.Proof.FfInBlock
public import Idealize.ShloMosaic.Lib.Quiescent

@[expose] public section

set_option maxRecDepth 16384

open Idealize.ShloMosaic Idealize.ShloMosaic.TcCoe Idealize.SL.Sem

namespace Cert.FfInProof

theorem quiescent_kernel : Cert.quiescent_FfIn := fun m g _ => Cert.FfIn.Gen.frame m g

theorem quiescent_ideal : Cert.quiescent_FfInIdeal := fun m g _ => Cert.FfInIdeal.Gen.frame m g

theorem quiescent_reference : Cert.quiescent_FfInRefIdeal := fun m g _ =>
  (θ_run Cert.FfInRefIdeal.defs _ _).mono
    (fun r h => ⟨fun c => (h c).2, Idealize.ShloMosaic.sem_eq_zero_of_no_sems (by decide) r.2⟩)
    (Cert.FfInRefIdeal.Value.run (F := Ideal) m g)

section
open Cert.FfInRefIdeal Cert.FfInRefIdeal.Gen

/-- The reference's result, read at an index. -/
theorem reference_result (A : FVec Ideal S4096x1024 .f32) (H : FVec Ideal S4096x1024 .f32) (W : FVec Ideal S1024x4096 .f32)
    (B : FVec Ideal S4096x1024 .f32) :
    (truncf .bf16 (select (cmpf .ogt (Host.dotGeneral dot_S4096x1024_S1024x4096_S4096x4096_1_0_0_1_n_n none H W) (broadcastInDim S4096x4096 ![] bcast_S_S4096x4096 (constant S_ .f32 0x00000000#32)))
      (mulf (Host.dotGeneral dot_S4096x1024_S4096x1024_S4096x4096_1_1_0_0_n_n none A B)
        (mulf (broadcastInDim S4096x4096 ![] bcast_S_S4096x4096 (constant S_ .f32 0x40000000#32)) (maximumf (Host.dotGeneral dot_S4096x1024_S1024x4096_S4096x4096_1_0_0_1_n_n none H W) (broadcastInDim S4096x4096 ![] bcast_S_S4096x4096 (constant S_ .f32 0x00000000#32)))))
      (broadcastInDim S4096x4096 ![] bcast_S_S4096x4096 (constant S_ .f32 0x00000000#32))) bitsLt_bf16_f32 : FVec Ideal S4096x4096 .bf16)
    = LayerSpec.reluGrad (LayerSpec.productT A B) (LayerSpec.product H W) := by
  funext y
  rw [LayerSpec.reluGrad_eq]
  unfold LayerSpec.product LayerSpec.productT
  pointwise []

end

theorem algebraic : Cert.algebraic_FfInIdeal_FfInRefIdeal := fun m g m' g' _ hag =>
  ⟨fun c => (Cert.FfInIdeal.Gen.dats m 0 c).arrAt 3 Cert.FfInIdeal.cfg0.N,
    Cert.FfInIdeal.Value.run_blocks m g,
    (θ_run Cert.FfInRefIdeal.defs _ _).mono
      (fun _ h c => by
        obtain ⟨h0, h1, h2, h3, h4, h5, h6, h7⟩ := hag c
        obtain ⟨o0, hA⟩ := h c
        rw [h0, h1, h2, h3] at o0
        exact ⟨o0.trans ((reference_result _ _ _ _).trans (Cert.FfInIdeal.Whole.final m c).symm), hA⟩)
      (Cert.FfInRefIdeal.Value.run (F := Ideal) m' g')⟩

end Cert.FfInProof

end
-- ==== Proof.DwRun.lean ====
/-
  The gradients of three weights: where a run of all its calls leaves every array.
-/
module

public import proofs.«01_k».proof.Proof.Gen.DwIdeal.Frame

@[expose] public section

set_option maxRecDepth 16384

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.DwIdeal.Whole

open Cert.DwIdeal Cert.DwIdeal.Gen

variable {F : FTy → Type} [FloatOps F] (m : (ℓ : Loc nD τ sig) → Buf (Elt F) ℓ) (ρ : Dev nD → PrngReg)

set_option backward.isDefEq.respectTransparency.types false in
/-- Every run ends with each array as the last call leaves it. -/
theorem run : θ_run defs (onTc (τ := τ) (main (F := F))) ⟨m, fun _ => 0, ρ⟩ (fun r => ∀ (c : Dev nD) (b : Ref sig .tc),
      ¬ (Proc.devRef .tc b : DevRef τ sig).isScoped → r.2.mem ((c.tc : Thread nD τ).loc b) = W9 m ρ c (Proc.devRef .tc b)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h _ c b hb => h c _ (mem_uc b hb))

end Cert.DwIdeal.Whole
-- ==== Proof.DwBlock.lean ====
/-
  What the three calls of the weights' gradients leave in the array they share.
-/
module

public import proofs.«01_k».proof.Proof.DwRun
public import Idealize.ShloMosaic.Lib.Pipeline.ValueKit.Partial
public import proofs.«01_k».proof.Proof.NormGrad
public import Idealize.ShloMosaic.Lib.Claim
public import Idealize.ShloMosaic.Lib.Pipeline.Value
public import Idealize.ShloMosaic.Lib.Pipeline.ValueKit
public import Idealize.ShloMosaic.Lib.StableHlo.RunClose

@[expose] public section

set_option maxRecDepth 16384

noncomputable section

open Idealize.ShloMosaic Idealize.ShloMosaic.TcCoe Idealize.SL.Sem

namespace Cert.DwIdeal.Whole

open Cert.DwIdeal Cert.DwIdeal.Gen

/-- A product of columns, its rows dealt to eight planes of the shared array, `b` rows to each. -/
def packed {n : Nat} (b : Nat) (hb : 8 * b = n) (h0 : 0 < b) (A : FVec Ideal ⟨2, ![4096, n]⟩ .f32) (B : FVec Ideal S4096x1024 .f32) : FVec Ideal S8x1312x1024 .f32 :=
  fun y => LayerSpec.productN A B (ix2 ⟨(y 0).val * b + (y 1).val % b, by
    have h : (y 0).val < 8 := (y 0).isLt
    have h' := Nat.mod_lt (y 1).val h0
    have h'' : (y 0).val * b ≤ 7 * b := Nat.mul_le_mul_right b (by omega)
    omega⟩ (y 2))

theorem eq_ix3_row {a b : Nat} (z : (⟨3, ![1, a, b]⟩ : Shape).Idx) : z = ix3 0 (z 1) (z 2) := by
  refine (eq_ix3 z).trans (congrArg (ix3 · (z 1) (z 2)) (Fin.ext ?_))
  have h : (z 0).val < 1 := (z 0).isLt
  show (z 0).val = 0
  omega

section
variable (V : (c : Dev nD) → (b : Ref sig .tc) → Buf (Elt Ideal) ((c : Thread nD τ).loc b))

theorem idx0 : ∀ t : Fin cfg0.N, win0_0.index t = ![0, t.val] ∧ win0_1.index t = ![0, 0] ∧ win0_2.index t = ![t.val, 1, 0] :=
  (by decide +kernel : ∀ t : Fin grid0.N, _)

theorem idx1 : ∀ t : Fin cfg1.N, win1_0.index t = ![0, t.val] ∧ win1_1.index t = ![0, 0] ∧ win1_2.index t = ![t.val, 0, 0] :=
  (by decide +kernel : ∀ t : Fin grid1.N, _)

theorem idx2 : ∀ t : Fin cfg2.N, win2_0.index t = ![0, t.val] ∧ win2_1.index t = ![0, 0] ∧ win2_2.index t = ![t.val, 8, 0] :=
  (by decide +kernel : ∀ t : Fin grid2.N, _)

/-- The down projection's part. -/
abbrev downOf (c : Dev nD) : FVec Ideal S8x1312x1024 .f32 := packed (n := 4096) 512 (by decide) (by decide) (V c main_v3) (V c main_v4)

/-- The up projection's part. -/
abbrev upOf (c : Dev nD) : FVec Ideal S8x1312x1024 .f32 := packed (n := 4096) 512 (by decide) (by decide) (V c main_v6) (V c main_v7)

/-- The output projection's part. -/
abbrev outOf (c : Dev nD) : FVec Ideal S8x1312x1024 .f32 := packed (n := 1024) 128 (by decide) (by decide) (V c main_v8) (V c main_v5)

theorem point0 (c : Dev nD) (t : Fin cfg0.N) (i : Fin 512) (l : Fin 1024) :
    k0_pay1 (iblk0 V c 1 t) (iblk0 V c 0 t) (ix3 0 i l)
      = downOf V c (ix3 ⟨t.val, by have h : t.val < 8 := t.isLt; omega⟩ ⟨512 + i.val, by omega⟩ l) := by
  unfold downOf packed LayerSpec.productN
  pointwise [k0_pay1]
  refine Finset.sum_congr rfl fun k _ => congrArg₂ (· * ·) ?_ ?_
  · unfold iblk0
    blk_simp [idx0 t]
    exact congrArg (V c main_v3) (by blk_ext [idx0 t])
  · unfold iblk0
    blk_simp [idx0 t]
    exact congrArg (V c main_v4) (by blk_ext [idx0 t])

theorem final0 (c : Dev nD) (d : Fin 8) (i : Fin 1312) (l : Fin 1024) :
    (dat0 V c).arrAt 2 cfg0.N (ix3 d i l) = if i.val / 512 = 1 then downOf V c (ix3 d i l) else V c main_v9 (ix3 d i l) := by
  refine (dat0 V c).arrAt_apply_of_coversWhere 2 (downOf V c) (P := fun y : S8x1312x1024.Idx => (y 1).val / 512 = 1) (fun β => β (1 : Fin 3) = 1) (by decide +kernel) (fun t _ y => ?_) (fun j => Iff.rfl) (ix3 d i l)
  blk_simp
  rw [after0_2]
  unfold out0_2
  frame_out
  obtain ⟨p, r, e⟩ : ∃ (p : Fin 512) (r : Fin 1024), ((cfg0.win 2).xinj (cfg0.grid.coords t) y : S1x512x1024.Idx) = ix3 0 p r := ⟨_, _, eq_ix3_row _⟩
  have e0 : (y 0).val = 0 := congrArg (fun z : S1x512x1024.Idx => (z 0).val) e
  have e1 : (y 1).val = p.val := congrArg (fun z : S1x512x1024.Idx => (z 1).val) e
  have e2 : (y 2).val = r.val := congrArg (fun z : S1x512x1024.Idx => (z 2).val) e
  refine (congrArg (k0_pay1 (iblk0 V c 1 t) (iblk0 V c 0 t)) e).trans ((point0 V c t p r).trans (congrArg (downOf V c) ?_))
  blk_ext [idx0 t]

theorem point1 (c : Dev nD) (t : Fin cfg1.N) (i : Fin 512) (l : Fin 1024) :
    k1_pay1 (iblk1 V c 1 t) (iblk1 V c 0 t) (ix3 0 i l)
      = upOf V c (ix3 ⟨t.val, by have h : t.val < 8 := t.isLt; omega⟩ ⟨0 + i.val, by omega⟩ l) := by
  unfold upOf packed LayerSpec.productN
  pointwise [k1_pay1]
  refine Finset.sum_congr rfl fun k _ => congrArg₂ (· * ·) ?_ ?_
  · unfold iblk1
    blk_simp [idx1 t]
    exact congrArg (V c main_v6) (by blk_ext [idx1 t])
  · unfold iblk1
    blk_simp [idx1 t]
    exact congrArg (V c main_v7) (by blk_ext [idx1 t])

theorem final1 (c : Dev nD) (d : Fin 8) (i : Fin 1312) (l : Fin 1024) :
    (dat1 V c).arrAt 2 cfg1.N (ix3 d i l) = if i.val / 512 = 0 then upOf V c (ix3 d i l) else V c main_v10 (ix3 d i l) := by
  refine (dat1 V c).arrAt_apply_of_coversWhere 2 (upOf V c) (P := fun y : S8x1312x1024.Idx => (y 1).val / 512 = 0) (fun β => β (1 : Fin 3) = 0) (by decide +kernel) (fun t _ y => ?_) (fun j => Iff.rfl) (ix3 d i l)
  blk_simp
  rw [after1_2]
  unfold outsAt1
  frame_out
  obtain ⟨p, r, e⟩ : ∃ (p : Fin 512) (r : Fin 1024), ((cfg1.win 2).xinj (cfg1.grid.coords t) y : S1x512x1024.Idx) = ix3 0 p r := ⟨_, _, eq_ix3_row _⟩
  have e0 : (y 0).val = 0 := congrArg (fun z : S1x512x1024.Idx => (z 0).val) e
  have e1 : (y 1).val = p.val := congrArg (fun z : S1x512x1024.Idx => (z 1).val) e
  have e2 : (y 2).val = r.val := congrArg (fun z : S1x512x1024.Idx => (z 2).val) e
  refine (congrArg (k1_pay1 (iblk1 V c 1 t) (iblk1 V c 0 t)) e).trans ((point1 V c t p r).trans (congrArg (upOf V c) ?_))
  blk_ext [idx1 t]

theorem point2 (c : Dev nD) (t : Fin cfg2.N) (i : Fin 128) (l : Fin 1024) :
    k2_pay1 (iblk2 V c 1 t) (iblk2 V c 0 t) (ix3 0 i l)
      = outOf V c (ix3 ⟨t.val, by have h : t.val < 8 := t.isLt; omega⟩ ⟨1024 + i.val, by omega⟩ l) := by
  unfold outOf packed LayerSpec.productN
  pointwise [k2_pay1]
  refine Finset.sum_congr rfl fun k _ => congrArg₂ (· * ·) ?_ ?_
  · unfold iblk2
    blk_simp [idx2 t]
    exact congrArg (V c main_v8) (by blk_ext [idx2 t])
  · unfold iblk2
    blk_simp [idx2 t]
    exact congrArg (V c main_v5) (by blk_ext [idx2 t])

theorem final2 (c : Dev nD) (d : Fin 8) (i : Fin 1312) (l : Fin 1024) :
    (dat2 V c).arrAt 2 cfg2.N (ix3 d i l) = if i.val / 128 = 8 then outOf V c (ix3 d i l) else V c main_v11 (ix3 d i l) := by
  refine (dat2 V c).arrAt_apply_of_coversWhere 2 (outOf V c) (P := fun y : S8x1312x1024.Idx => (y 1).val / 128 = 8) (fun β => β (1 : Fin 3) = 8) (by decide +kernel) (fun t _ y => ?_) (fun j => Iff.rfl) (ix3 d i l)
  blk_simp
  rw [after2_2]
  unfold outsAt2
  frame_out
  obtain ⟨p, r, e⟩ : ∃ (p : Fin 128) (r : Fin 1024), ((cfg2.win 2).xinj (cfg2.grid.coords t) y : S1x128x1024.Idx) = ix3 0 p r := ⟨_, _, eq_ix3_row _⟩
  have e0 : (y 0).val = 0 := congrArg (fun z : S1x128x1024.Idx => (z 0).val) e
  have e1 : (y 1).val = p.val := congrArg (fun z : S1x128x1024.Idx => (z 1).val) e
  have e2 : (y 2).val = r.val := congrArg (fun z : S1x128x1024.Idx => (z 2).val) e
  refine (congrArg (k2_pay1 (iblk2 V c 1 t) (iblk2 V c 0 t)) e).trans ((point2 V c t p r).trans (congrArg (outOf V c) ?_))
  blk_ext [idx2 t]

end

variable (m : (ℓ : Loc nD τ sig) → Buf (Elt Ideal) ℓ) (ρ : Dev nD → PrngReg)

/-- The up projection's output squared where positive. -/
def reluOf (H : FVec Ideal S4096x1024 .f32) (W : FVec Ideal S1024x4096 .f32) : FVec Ideal S4096x4096 .f32 :=
  LayerSpec.relu2 (LayerSpec.product H W : FVec Ideal S4096x4096 .f32)

theorem cast4 (c : Dev nD) : W3 m ρ c (Proc.devRef .tc main_v4) = (m ((c : Thread nD τ).loc main_arg0) : FVec Ideal S4096x1024 .f32) := by
  have h : W3 m ρ c (Proc.devRef .tc main_v4) = (truncf .bf16 (W2 m ρ c (Proc.devRef .tc main_arg0)) bitsLt_bf16_f32 : FVec Ideal S4096x1024 .bf16) := by
    show StableHlo.after hostOps0_2 (W2 m ρ c) (Proc.devRef .tc main_v4) = _
    after_results_entrywise (rounds := 1) []
  rw [h, W2_args m ρ c main_arg0 (by decide)]
  funext y
  pointwise []

theorem cast5 (c : Dev nD) : W3 m ρ c (Proc.devRef .tc main_v5) = (m ((c : Thread nD τ).loc main_arg1) : FVec Ideal S4096x1024 .f32) := by
  have h : W3 m ρ c (Proc.devRef .tc main_v5) = (truncf .bf16 (W2 m ρ c (Proc.devRef .tc main_arg1)) bitsLt_bf16_f32 : FVec Ideal S4096x1024 .bf16) := by
    show StableHlo.after hostOps0_2 (W2 m ρ c) (Proc.devRef .tc main_v5) = _
    after_results_entrywise (rounds := 1) []
  rw [h, W2_args m ρ c main_arg1 (by decide)]
  funext y
  pointwise []

theorem cast6 (c : Dev nD) : W3 m ρ c (Proc.devRef .tc main_v6) = (m ((c : Thread nD τ).loc main_arg2) : FVec Ideal S4096x4096 .f32) := by
  have h : W3 m ρ c (Proc.devRef .tc main_v6) = (truncf .bf16 (W2 m ρ c (Proc.devRef .tc main_arg2)) bitsLt_bf16_f32 : FVec Ideal S4096x4096 .bf16) := by
    show StableHlo.after hostOps0_2 (W2 m ρ c) (Proc.devRef .tc main_v6) = _
    after_results_entrywise (rounds := 1) []
  rw [h, W2_args m ρ c main_arg2 (by decide)]
  funext y
  pointwise []

theorem cast7 (c : Dev nD) : W3 m ρ c (Proc.devRef .tc main_v7) = (m ((c : Thread nD τ).loc main_arg3) : FVec Ideal S4096x1024 .f32) := by
  have h : W3 m ρ c (Proc.devRef .tc main_v7) = (truncf .bf16 (W2 m ρ c (Proc.devRef .tc main_arg3)) bitsLt_bf16_f32 : FVec Ideal S4096x1024 .bf16) := by
    show StableHlo.after hostOps0_2 (W2 m ρ c) (Proc.devRef .tc main_v7) = _
    after_results_entrywise (rounds := 1) []
  rw [h, W2_args m ρ c main_arg3 (by decide)]
  funext y
  pointwise []

theorem cast8 (c : Dev nD) : W3 m ρ c (Proc.devRef .tc main_v8) = (m ((c : Thread nD τ).loc main_arg4) : FVec Ideal S4096x1024 .f32) := by
  have h : W3 m ρ c (Proc.devRef .tc main_v8) = (truncf .bf16 (W2 m ρ c (Proc.devRef .tc main_arg4)) bitsLt_bf16_f32 : FVec Ideal S4096x1024 .bf16) := by
    show StableHlo.after hostOps0_2 (W2 m ρ c) (Proc.devRef .tc main_v8) = _
    after_results_entrywise (rounds := 1) []
  rw [h, W2_args m ρ c main_arg4 (by decide)]
  funext y
  pointwise []

theorem cast3 (c : Dev nD) : W3 m ρ c (Proc.devRef .tc main_v3)
    = reluOf (m ((c : Thread nD τ).loc main_arg3)) (m ((c : Thread nD τ).loc main_arg5)) := by
  have h : W3 m ρ c (Proc.devRef .tc main_v3) = (truncf .bf16 (mulf (W2 m ρ c (Proc.devRef .tc main_v1)) (W2 m ρ c (Proc.devRef .tc main_v1))) bitsLt_bf16_f32 : FVec Ideal S4096x4096 .bf16) := by
    show StableHlo.after hostOps0_2 (W2 m ρ c) (Proc.devRef .tc main_v3) = _
    after_results_entrywise (rounds := 2) []
  have h1 : W2 m ρ c (Proc.devRef .tc main_v1) = (maximumf (W1 m ρ c (Proc.devRef .tc main_v0)) (broadcastInDim S4096x4096 ![] bcast_S_S4096x4096 (constant S_ .f32 0x00000000#32)) : FVec Ideal S4096x4096 .f32) := by
    show StableHlo.after hostOps0_1 (W1 m ρ c) (Proc.devRef .tc main_v1) = _
    after_results_entrywise (rounds := 2) []
  have h0 : W1 m ρ c (Proc.devRef .tc main_v0) = (Host.dotGeneral (φ₁ := .f32) (φ₂ := .f32) dot_S4096x1024_S1024x4096_S4096x4096_1_0_0_1_n_n none (W0 m ρ c (Proc.devRef .tc main_arg3)) (W0 m ρ c (Proc.devRef .tc main_arg5)) : FVec Ideal S4096x4096 .f32) := by
    show StableHlo.after hostOps0 (W0 m ρ c) (Proc.devRef .tc main_v0) = _
    after_results_entrywise (rounds := 1) []
  rw [h, h1, h0, W0_args m ρ c main_arg3 (by decide), W0_args m ρ c main_arg5 (by decide)]
  funext y
  unfold reluOf LayerSpec.relu2 LayerSpec.product
  pointwise []

/-- The shared array after the first call. -/
theorem shared0 (c : Dev nD) (d : Fin 8) (i : Fin 1312) (l : Fin 1024) : W4 m ρ c (Proc.devRef .tc main_v9) (ix3 d i l)
    = if i.val / 512 = 1 then downOf (V3 m ρ) c (ix3 d i l) else V3 m ρ c main_v9 (ix3 d i l) :=
  (congrFun (W4_arr m ρ c 2) (ix3 d i l)).trans (final0 (V3 m ρ) c d i l)

/-- The shared array after the second call. -/
theorem shared1 (c : Dev nD) (d : Fin 8) (i : Fin 1312) (l : Fin 1024) : W6 m ρ c (Proc.devRef .tc main_v10) (ix3 d i l)
    = if i.val / 512 = 0 then upOf (V5 m ρ) c (ix3 d i l) else W4 m ρ c (Proc.devRef .tc main_v9) (ix3 d i l) := by
  have h : V5 m ρ c main_v10 = W4 m ρ c (Proc.devRef .tc main_v9) := by
    show StableHlo.after hostOps1 (W4 m ρ c) (Proc.devRef .tc main_v10) = _
    after_results_entrywise (rounds := 1) []
  rw [← h]
  exact (congrFun (W6_arr m ρ c 2) (ix3 d i l)).trans (final1 (V5 m ρ) c d i l)

/-- The shared array after the third call. -/
theorem shared2 (c : Dev nD) (d : Fin 8) (i : Fin 1312) (l : Fin 1024) : W8 m ρ c (Proc.devRef .tc main_v11) (ix3 d i l)
    = if i.val / 128 = 8 then outOf (V7 m ρ) c (ix3 d i l) else W6 m ρ c (Proc.devRef .tc main_v10) (ix3 d i l) := by
  have h : V7 m ρ c main_v11 = W6 m ρ c (Proc.devRef .tc main_v10) := by
    show StableHlo.after hostOps2 (W6 m ρ c) (Proc.devRef .tc main_v11) = _
    after_results_entrywise (rounds := 1) []
  rw [← h]
  exact (congrFun (W8_arr m ρ c 2) (ix3 d i l)).trans (final2 (V7 m ρ) c d i l)

theorem up_part (c : Dev nD) (d : Fin 8) (i : Fin 1312) (l : Fin 1024) (h : i.val / 512 = 0) :
    W8 m ρ c (Proc.devRef .tc main_v11) (ix3 d i l) = packed (n := 4096) 512 (by decide) (by decide) (m ((c : Thread nD τ).loc main_arg2)) (m ((c : Thread nD τ).loc main_arg3)) (ix3 d i l) := by
  rw [shared2, if_neg (by omega), shared1, if_pos h]
  have h6 : V5 m ρ c main_v6 = _ := (W5_of m ρ c main_v6 (by decide)).trans ((W4_of m ρ c main_v6 (by decide)).trans (cast6 m ρ c))
  have h7 : V5 m ρ c main_v7 = _ := (W5_of m ρ c main_v7 (by decide)).trans ((W4_of m ρ c main_v7 (by decide)).trans (cast7 m ρ c))
  unfold upOf
  rw [h6, h7]

/-- The up projection's gradient, transposed, after the run. -/
theorem final_up (c : Dev nD) : W9 m ρ c (Proc.devRef .tc main_v13) = (LayerSpec.productN (m ((c : Thread nD τ).loc main_arg2)) (m ((c : Thread nD τ).loc main_arg3)) : FVec Ideal S4096x1024 .f32) := by
  have e : W9 m ρ c (Proc.devRef .tc main_v13) = (shapeCast S4096x1024 (extractStridedSlice S8x512x1024 ![0, 0, 0] (W8 m ρ c (Proc.devRef .tc main_v11)) slices_S8x1312x1024_S8x512x1024_0_0_0) shapeCasts_S8x512x1024_S4096x1024 : FVec Ideal S4096x1024 .f32) := by
    show StableHlo.after hostOps3 (W8 m ρ c) (Proc.devRef .tc main_v13) = _
    after_results_entrywise (rounds := 2) []
  rw [e]
  funext y
  obtain ⟨r, l, rfl⟩ : ∃ (r : Fin 4096) (l : Fin 1024), y = ix2 r l := ⟨_, _, eq_ix2 y⟩
  pointwise []
  refine (up_part m ρ c _ _ _ ?_).trans ?_
  · show (r.val % 512) / 512 = 0
    omega
  · unfold packed
    refine congrArg (LayerSpec.productN _ _) (congrArg (ix2 · l) (Fin.ext ?_))
    show r.val / 512 * 512 + (r.val % 512) % 512 = r.val
    omega

theorem down_part (c : Dev nD) (d : Fin 8) (i : Fin 1312) (l : Fin 1024) (h : i.val / 512 = 1) :
    W8 m ρ c (Proc.devRef .tc main_v11) (ix3 d i l) = packed (n := 4096) 512 (by decide) (by decide) (reluOf (m ((c : Thread nD τ).loc main_arg3)) (m ((c : Thread nD τ).loc main_arg5))) (m ((c : Thread nD τ).loc main_arg0)) (ix3 d i l) := by
  rw [shared2, if_neg (by omega), shared1, if_neg (by omega), shared0, if_pos h]
  have h3 : V3 m ρ c main_v3 = _ := cast3 m ρ c
  have h4 : V3 m ρ c main_v4 = _ := cast4 m ρ c
  unfold downOf
  rw [h3, h4]

/-- The down projection's gradient, transposed, after the run. -/
theorem final_down (c : Dev nD) : W9 m ρ c (Proc.devRef .tc main_v15) = (LayerSpec.productN (reluOf (m ((c : Thread nD τ).loc main_arg3)) (m ((c : Thread nD τ).loc main_arg5))) (m ((c : Thread nD τ).loc main_arg0)) : FVec Ideal S4096x1024 .f32) := by
  have e : W9 m ρ c (Proc.devRef .tc main_v15) = (shapeCast S4096x1024 (extractStridedSlice S8x512x1024 ![0, 512, 0] (W8 m ρ c (Proc.devRef .tc main_v11)) slices_S8x1312x1024_S8x512x1024_0_512_0) shapeCasts_S8x512x1024_S4096x1024 : FVec Ideal S4096x1024 .f32) := by
    show StableHlo.after hostOps3 (W8 m ρ c) (Proc.devRef .tc main_v15) = _
    after_results_entrywise (rounds := 2) []
  rw [e]
  funext y
  obtain ⟨r, l, rfl⟩ : ∃ (r : Fin 4096) (l : Fin 1024), y = ix2 r l := ⟨_, _, eq_ix2 y⟩
  pointwise []
  refine (down_part m ρ c _ _ _ ?_).trans ?_
  · show (512 + r.val % 512) / 512 = 1
    omega
  · unfold packed
    refine congrArg (LayerSpec.productN _ _) (congrArg (ix2 · l) (Fin.ext ?_))
    show r.val / 512 * 512 + (512 + r.val % 512) % 512 = r.val
    omega

theorem out_part (c : Dev nD) (d : Fin 8) (i : Fin 1312) (l : Fin 1024) (h : i.val / 128 = 8) :
    W8 m ρ c (Proc.devRef .tc main_v11) (ix3 d i l) = packed (n := 1024) 128 (by decide) (by decide) (m ((c : Thread nD τ).loc main_arg4)) (m ((c : Thread nD τ).loc main_arg1)) (ix3 d i l) := by
  rw [shared2, if_pos h]
  have h8 : V7 m ρ c main_v8 = _ := (W7_of m ρ c main_v8 (by decide)).trans ((W6_of m ρ c main_v8 (by decide)).trans
    ((W5_of m ρ c main_v8 (by decide)).trans ((W4_of m ρ c main_v8 (by decide)).trans (cast8 m ρ c))))
  have h5 : V7 m ρ c main_v5 = _ := (W7_of m ρ c main_v5 (by decide)).trans ((W6_of m ρ c main_v5 (by decide)).trans
    ((W5_of m ρ c main_v5 (by decide)).trans ((W4_of m ρ c main_v5 (by decide)).trans (cast5 m ρ c))))
  unfold outOf
  rw [h8, h5]

/-- The output projection's gradient, transposed, after the run. -/
theorem final_out (c : Dev nD) : W9 m ρ c (Proc.devRef .tc main_v17) = (LayerSpec.productN (m ((c : Thread nD τ).loc main_arg4)) (m ((c : Thread nD τ).loc main_arg1)) : FVec Ideal S1024x1024 .f32) := by
  have e : W9 m ρ c (Proc.devRef .tc main_v17) = (shapeCast S1024x1024 (extractStridedSlice S8x128x1024 ![0, 1024, 0] (W8 m ρ c (Proc.devRef .tc main_v11)) slices_S8x1312x1024_S8x128x1024_0_1024_0) shapeCasts_S8x128x1024_S1024x1024 : FVec Ideal S1024x1024 .f32) := by
    show StableHlo.after hostOps3 (W8 m ρ c) (Proc.devRef .tc main_v17) = _
    after_results_entrywise (rounds := 2) []
  rw [e]
  funext y
  obtain ⟨r, l, rfl⟩ : ∃ (r : Fin 1024) (l : Fin 1024), y = ix2 r l := ⟨_, _, eq_ix2 y⟩
  pointwise []
  refine (out_part m ρ c _ _ _ ?_).trans ?_
  · show (1024 + r.val % 128) / 128 = 8
    omega
  · unfold packed
    refine congrArg (LayerSpec.productN _ _) (congrArg (ix2 · l) (Fin.ext ?_))
    show r.val / 128 * 128 + (1024 + r.val % 128) % 128 = r.val
    omega

end Cert.DwIdeal.Whole

end
-- ==== Proof.DwClaims.lean ====
/-
  The claims about the weights' gradients that share an array.
-/
module

public import proofs.«01_k».proof.Defs
public import proofs.«01_k».proof.Proof.Gen.Dw.Frame
public import proofs.«01_k».proof.Proof.Gen.DwRefIdeal.Run
public import proofs.«01_k».proof.Proof.DwBlock
public import Idealize.ShloMosaic.Lib.Quiescent

@[expose] public section

set_option maxRecDepth 16384

open Idealize.ShloMosaic Idealize.ShloMosaic.TcCoe Idealize.SL.Sem

namespace Cert.DwProof

theorem quiescent_kernel : Cert.quiescent_Dw := fun m g _ => Cert.Dw.Gen.frame m g

theorem quiescent_ideal : Cert.quiescent_DwIdeal := fun m g _ => Cert.DwIdeal.Gen.frame m g

theorem quiescent_reference : Cert.quiescent_DwRefIdeal := fun m g _ =>
  (θ_run Cert.DwRefIdeal.defs _ _).mono
    (fun r h => ⟨fun c => (h c).2.2.2, Idealize.ShloMosaic.sem_eq_zero_of_no_sems (by decide) r.2⟩)
    (Cert.DwRefIdeal.Value.run (F := Ideal) m g)

section
open Cert.DwRefIdeal Cert.DwRefIdeal.Gen Cert.DwRefIdeal.Value

/-- The reference's first result, read at an index. -/
theorem reference_first (A : FVec Ideal S4096x4096 .f32) (H : FVec Ideal S4096x1024 .f32) :
    (transpose S4096x1024 [1, 0] (transpose S1024x4096 [1, 0] (Host.dotGeneral dot_S4096x4096_S4096x1024_S4096x1024_0_0_1_1_n_n none A H) transposes_S4096x1024_S1024x4096_1_0) transposes_S1024x4096_S4096x1024_1_0 : FVec Ideal S4096x1024 .f32)
    = LayerSpec.productN A H := by
  funext y
  unfold LayerSpec.productN
  pointwise []

/-- The reference's second result, read at an index. -/
theorem reference_second (D H : FVec Ideal S4096x1024 .f32) (W : FVec Ideal S1024x4096 .f32) :
    (transpose S4096x1024 [1, 0] (Host.dotGeneral dot_S4096x1024_S4096x4096_S1024x4096_0_0_1_1_n_n none D (mulf (maximumf (Host.dotGeneral dot_S4096x1024_S1024x4096_S4096x4096_1_0_0_1_n_n none H W) (broadcastInDim S4096x4096 ![] bcast_S_S4096x4096 (constant S_ .f32 0x00000000#32))) (maximumf (Host.dotGeneral dot_S4096x1024_S1024x4096_S4096x4096_1_0_0_1_n_n none H W) (broadcastInDim S4096x4096 ![] bcast_S_S4096x4096 (constant S_ .f32 0x00000000#32))))) transposes_S1024x4096_S4096x1024_1_0 : FVec Ideal S4096x1024 .f32)
    = LayerSpec.productN (Cert.DwIdeal.Whole.reluOf H W) D := by
  funext y
  unfold LayerSpec.productN Cert.DwIdeal.Whole.reluOf LayerSpec.relu2 LayerSpec.product
  pointwise []
  exact Finset.sum_congr rfl fun k _ => mul_comm _ _

/-- The reference's third result, read at an index. -/
theorem reference_third (D M : FVec Ideal S4096x1024 .f32) :
    (transpose S1024x1024 [1, 0] (Host.dotGeneral dot_S4096x1024_S4096x1024_S1024x1024_0_0_1_1_n_n none D M) transposes_S1024x1024_S1024x1024_1_0 : FVec Ideal S1024x1024 .f32)
    = LayerSpec.productN M D := by
  funext y
  unfold LayerSpec.productN
  pointwise []
  exact Finset.sum_congr rfl fun k _ => mul_comm _ _

end

/-- Every run of the kernel leaves each result as the last call leaves it, and the arguments as they were. -/
theorem algebraic : Cert.algebraic_DwIdeal_DwRefIdeal := fun m g m' g' _ hag =>
  ⟨fun c => Cert.DwIdeal.Gen.W9 m g c (Proc.devRef .tc Cert.DwIdeal.main_v13), fun c => Cert.DwIdeal.Gen.W9 m g c (Proc.devRef .tc Cert.DwIdeal.main_v15), fun c => Cert.DwIdeal.Gen.W9 m g c (Proc.devRef .tc Cert.DwIdeal.main_v17),
    (θ_run Cert.DwIdeal.defs _ _).mono
      (fun _ h c => ⟨h c Cert.DwIdeal.main_v13 (by decide), h c Cert.DwIdeal.main_v15 (by decide), h c Cert.DwIdeal.main_v17 (by decide), (h c Cert.DwIdeal.main_arg0 (by decide)).trans (Cert.DwIdeal.Gen.W9_main_arg0 m g c), (h c Cert.DwIdeal.main_arg1 (by decide)).trans (Cert.DwIdeal.Gen.W9_main_arg1 m g c), (h c Cert.DwIdeal.main_arg2 (by decide)).trans (Cert.DwIdeal.Gen.W9_main_arg2 m g c), (h c Cert.DwIdeal.main_arg3 (by decide)).trans (Cert.DwIdeal.Gen.W9_main_arg3 m g c), (h c Cert.DwIdeal.main_arg4 (by decide)).trans (Cert.DwIdeal.Gen.W9_main_arg4 m g c), (h c Cert.DwIdeal.main_arg5 (by decide)).trans (Cert.DwIdeal.Gen.W9_main_arg5 m g c)⟩)
      (Cert.DwIdeal.Whole.run (F := Ideal) m g),
    (θ_run Cert.DwRefIdeal.defs _ _).mono
      (fun _ h c => by
        obtain ⟨h0, h1, h2, h3, h4, h5⟩ := hag c
        obtain ⟨o0, o1, o2, hA⟩ := h c
        rw [h2, h3] at o0
        rw [h0, h3, h5] at o1
        rw [h1, h4] at o2
        exact ⟨o0.trans ((reference_first _ _).trans (Cert.DwIdeal.Whole.final_up m g c).symm), o1.trans ((reference_second _ _ _).trans (Cert.DwIdeal.Whole.final_down m g c).symm), o2.trans ((reference_third _ _).trans (Cert.DwIdeal.Whole.final_out m g c).symm), hA⟩)
      (Cert.DwRefIdeal.Value.run (F := Ideal) m' g')⟩

end Cert.DwProof

end
-- ==== Proof.OutInBlock.lean ====
/-
  What the output projection's backward product leaves in its result array: each row of the gradient with every row of the weight.
-/
module

public import proofs.«01_k».proof.Proof.Gen.OutInIdeal.Value
public import proofs.«01_k».proof.Proof.LayerWeights
public import Idealize.ShloMosaic.Lib.Claim
public import Idealize.ShloMosaic.Lib.StableHlo.RunClose

@[expose] public section

set_option maxRecDepth 16384

noncomputable section

open Idealize.ShloMosaic Idealize.ShloMosaic.TcCoe Idealize.SL.Sem

namespace Cert.OutInIdeal.Whole

open Cert.OutInIdeal Cert.OutInIdeal.Gen

variable (m : (ℓ : Loc nD τ sig) → Buf (Elt Ideal) ℓ)

/-- The product of the gradient's rows with the weight's rows. -/
def out (A : FVec Ideal S4096x1024 .f32) (B : FVec Ideal S1024x1024 .f32) : FVec Ideal S4096x1024 .f32 :=
  fun y => ∑ k : Fin 1024, A (ix2 (y 0) k) * B (ix2 (y 1) k)

theorem idx : ∀ t : Fin cfg0.N, win0_0.index t = ![t.val, 0] ∧ win0_1.index t = ![0, 8, 0] ∧ win0_2.index t = ![t.val, 0] :=
  (by decide +kernel : ∀ t : Fin grid0.N, _)

theorem fits : LayerWeights.Fits := ⟨bitsLt_bf16_f32, transposes_S1024x4096_S4096x1024_1_0, transposes_S512x1024_S1024x512_1_0,
  transposes_S256x1024_S1024x256_1_0, concatenates_S1024x512_S1024x512_S1024x1024_d1, shapeCasts_S4096x1024_S8x512x1024,
  shapeCasts_S1024x1024_S8x128x1024, shapeCasts_S1024x256_S8x32x1024,
  concatenates_S8x512x1024_S8x512x1024_S8x128x1024_S8x128x1024_S8x32x1024_S8x1312x1024_d1⟩

/-- The weights the call is given are the packed ones. -/
theorem entry (c : Dev nD) : V m c main_v17 = LayerWeights.pack (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) fits := by
  show StableHlo.after hostOps0 (fun b => m (c, b)) (Proc.devRef .tc main_v17) = _
  after_results_entrywise (rounds := 1) []

/-- The weight's block. -/
theorem block1 (c : Dev nD) (t : Fin cfg0.N) (d : Fin 8) (r : Fin 128) (k : Fin 1024) :
    X0_1 m c t (ix3 d r k) = m ((c : Thread nD τ).loc main_arg3) (ix2 ⟨d.val * 128 + r.val, by omega⟩ k) := by
  unfold X0_1 Pipeline.Window.fill
  rw [dif_pos (moved0_1 t _)]
  unfold iblk
  blk_simp [idx t]
  refine Eq.trans (congrArg (V m c main_v17) (?_ : _ = ix3 d ⟨1024 + r.val, by omega⟩ k)) ?_
  · blk_ext [idx t]
  · rw [entry]
    exact LayerWeights.pack_out _ _ _ _ _ _ fits d r k

theorem point (c : Dev nD) (t : Fin cfg0.N) (y : S1024x1024.Idx) : k0_pay1 (X0_1 m c t) (iblk m c 0 t) y
    = out (m ((c : Thread nD τ).loc main_arg0)) (m ((c : Thread nD τ).loc main_arg3)) (((cfg0.win 2).blk t).view.emb y) := by
  unfold out
  pointwise [k0_pay1]
  refine Finset.sum_congr rfl fun k _ => ?_
  refine congrArg₂ (· * ·) ?_ ((block1 m c t _ _ k).trans ?_)
  · blk_point [iblk, V, idx t]
  · blk_point [idx t]

/-- The result array after the run. -/
theorem final (c : Dev nD) : (dats m 0 c).arrAt 2 (cfgs 0).N
    = out (m ((c : Thread nD τ).loc main_arg0)) (m ((c : Thread nD τ).loc main_arg3)) := by
  refine (dats m 0 c).arrAt_eq_of_covers 2 _ (by decide +kernel) fun t _ y => ?_
  blk_simp
  rw [after0_2]
  unfold outsAt0
  frame_out
  exact point m c t y

end Cert.OutInIdeal.Whole

end
-- ==== Proof.OutInClaims.lean ====
/-
  The claims about the output projection's backward product.
-/
module

public import proofs.«01_k».proof.Defs
public import proofs.«01_k».proof.Proof.Gen.OutIn.Frame
public import proofs.«01_k».proof.Proof.Gen.OutInRefIdeal.Run
public import proofs.«01_k».proof.Proof.OutInBlock
public import Idealize.ShloMosaic.Lib.Quiescent

@[expose] public section

set_option maxRecDepth 16384

open Idealize.ShloMosaic Idealize.ShloMosaic.TcCoe Idealize.SL.Sem

namespace Cert.OutInProof

theorem quiescent_kernel : Cert.quiescent_OutIn := fun m g _ => Cert.OutIn.Gen.frame m g

theorem quiescent_ideal : Cert.quiescent_OutInIdeal := fun m g _ => Cert.OutInIdeal.Gen.frame m g

theorem quiescent_reference : Cert.quiescent_OutInRefIdeal := fun m g _ =>
  (θ_run Cert.OutInRefIdeal.defs _ _).mono
    (fun r h => ⟨fun c => (h c).2, Idealize.ShloMosaic.sem_eq_zero_of_no_sems (by decide) r.2⟩)
    (Cert.OutInRefIdeal.Value.run (F := Ideal) m g)

section
open Cert.OutInRefIdeal

/-- The reference's product, read at an index. -/
theorem reference_out (A : FVec Ideal S4096x1024 .f32) (B : FVec Ideal S1024x1024 .f32) :
    Host.dotGeneral dot_S4096x1024_S1024x1024_S4096x1024_1_1_0_0_n_n none A B = Cert.OutInIdeal.Whole.out A B := by
  funext y
  unfold Cert.OutInIdeal.Whole.out
  pointwise []

end

theorem algebraic : Cert.algebraic_OutInIdeal_OutInRefIdeal := fun m g m' g' _ hag =>
  ⟨fun c => (Cert.OutInIdeal.Gen.dats m 0 c).arrAt 2 Cert.OutInIdeal.cfg0.N,
    Cert.OutInIdeal.Value.run_blocks m g,
    (θ_run Cert.OutInRefIdeal.defs _ _).mono
      (fun _ h c => by
        obtain ⟨h0, h1, h2, h3, h4, h5, h6⟩ := hag c
        obtain ⟨hO, hA⟩ := h c
        rw [h0, h3] at hO
        exact ⟨hO.trans ((reference_out _ _).trans (Cert.OutInIdeal.Whole.final m c).symm), hA⟩)
      (Cert.OutInRefIdeal.Value.run (F := Ideal) m' g')⟩

end Cert.OutInProof

end
-- ==== Proof.ProjRun.lean ====
/-
  The normalization and the input projection: where a run of all its calls leaves every array.
-/
module

public import proofs.«01_k».proof.Proof.Gen.ProjIdeal.Frame

@[expose] public section

set_option maxRecDepth 16384

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.ProjIdeal.Whole

open Cert.ProjIdeal Cert.ProjIdeal.Gen

variable {F : FTy → Type} [FloatOps F] (m : (ℓ : Loc nD τ sig) → Buf (Elt F) ℓ) (ρ : Dev nD → PrngReg)

set_option backward.isDefEq.respectTransparency.types false in
/-- Every run ends with each array as the last call leaves it. -/
theorem run : θ_run defs (onTc (τ := τ) (main (F := F))) ⟨m, fun _ => 0, ρ⟩ (fun r => ∀ (c : Dev nD) (b : Ref sig .tc),
      ¬ (Proc.devRef .tc b : DevRef τ sig).isScoped → r.2.mem ((c.tc : Thread nD τ).loc b) = W3 m ρ c (Proc.devRef .tc b)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ c b hb => h c _ (mem_uc b hb))

end Cert.ProjIdeal.Whole
-- ==== Proof.ProjBlock.lean ====
/-
  What the normalization and the input projection leave in their arrays.
-/
module

public import proofs.«01_k».proof.Proof.ProjRun
public import proofs.«01_k».proof.Proof.NormGrad
public import Idealize.ShloMosaic.Lib.Claim
public import Idealize.ShloMosaic.Lib.Pipeline.Value
public import Idealize.ShloMosaic.Lib.Pipeline.ValueKit
public import Idealize.ShloMosaic.Lib.StableHlo.RunClose

@[expose] public section

set_option maxRecDepth 16384

noncomputable section

open Idealize.ShloMosaic Idealize.ShloMosaic.TcCoe Idealize.SL.Sem

namespace Cert.ProjIdeal.Whole

open Cert.ProjIdeal Cert.ProjIdeal.Gen

section
variable (V : (c : Dev nD) → (b : Ref sig .tc) → Buf (Elt Ideal) ((c : Thread nD τ).loc b))

theorem idx0 : ∀ t : Fin cfg0.N, win0_0.index t = ![t.val, 0] ∧ win0_1.index t = ![0, 0] ∧ win0_2.index t = ![t.val, 0] :=
  (by decide +kernel : ∀ t : Fin grid0.N, _)

theorem idx1 : ∀ t : Fin cfg1.N, win1_0.index t = ![t.val / 2, 0] ∧ win1_1.index t = ![t.val % 2, 0]
    ∧ win1_2.index t = ![t.val / 2, t.val % 2] :=
  (by decide +kernel : ∀ t : Fin grid1.N, _)

/-- The normalized rows. -/
abbrev rowsOf (c : Dev nD) : FVec Ideal S4096x1024 .bf16 := LayerSpec.norm (V c main_arg0) (V c main_arg1)

theorem point0 (c : Dev nD) (t : Fin cfg0.N) (y : S512x1024.Idx) :
    k0_pay1 (iblk0 V c 0 t) (iblk0 V c 1 t) y = rowsOf V c (((cfg0.win 2).blk t).view.emb y) := by
  unfold rowsOf LayerSpec.norm LayerSpec.scale
  pointwise [k0_pay1]
  refine congrArg₂ (· * ·) (congrArg₂ (· * ·) ?_ (congrArg (fun s => Ideal.rsqrt (Ideal.div s _ + _))
    (Finset.sum_congr rfl fun k _ => congrArg₂ (· * ·) ?_ ?_))) ?_
  · unfold iblk0
    blk_simp [idx0 t]
    exact congrArg (V c main_arg0) (by blk_ext [idx0 t])
  · unfold iblk0
    blk_simp [idx0 t]
    exact congrArg (V c main_arg0) (by blk_ext [idx0 t])
  · unfold iblk0
    blk_simp [idx0 t]
    exact congrArg (V c main_arg0) (by blk_ext [idx0 t])
  · unfold iblk0
    blk_simp [idx0 t]
    exact congrArg (V c main_arg1) (by blk_ext [idx0 t])

theorem final0 (c : Dev nD) : (dat0 V c).arrAt 2 cfg0.N = rowsOf V c := by
  refine (dat0 V c).arrAt_eq_of_covers 2 _ (by decide +kernel) fun t _ y => ?_
  blk_simp
  rw [after0_2]
  unfold out0_2
  frame_out
  exact point0 V c t y

/-- The product. -/
abbrev projOf (c : Dev nD) : FVec Ideal S4096x7424 .f32 := LayerSpec.productT (V c main_v0) (V c main_v2)

theorem point1 (c : Dev nD) (t : Fin cfg1.N) (y : S512x3712.Idx) :
    k1_pay1 (iblk1 V c 1 t) (iblk1 V c 0 t) y = projOf V c (((cfg1.win 2).blk t).view.emb y) := by
  unfold projOf LayerSpec.productT
  pointwise [k1_pay1]
  refine Finset.sum_congr rfl fun k _ => congrArg₂ (· * ·) ?_ ?_
  · unfold iblk1
    blk_simp [idx1 t]
    exact congrArg (V c main_v0) (by blk_ext [idx1 t])
  · unfold iblk1
    blk_simp [idx1 t]
    exact congrArg (V c main_v2) (by blk_ext [idx1 t])

theorem final1 (c : Dev nD) : (dat1 V c).arrAt 2 cfg1.N = projOf V c := by
  refine (dat1 V c).arrAt_eq_of_covers 2 _ (by decide +kernel) fun t _ y => ?_
  blk_simp
  rw [after1_2]
  unfold out1_2
  frame_out
  exact point1 V c t y

end

variable (m : (ℓ : Loc nD τ sig) → Buf (Elt Ideal) ℓ) (ρ : Dev nD → PrngReg)

/-- The result after the run. -/
theorem final (c : Dev nD) : W3 m ρ c (Proc.devRef .tc main_v3)
    = LayerSpec.product (LayerSpec.norm (m ((c : Thread nD τ).loc main_arg0)) (m ((c : Thread nD τ).loc main_arg1)) : FVec Ideal S4096x1024 .f32)
        (m ((c : Thread nD τ).loc main_arg2)) := by
  refine (W3_arr m ρ c 2).trans ((final1 (V2 m ρ) c).trans ?_)
  have h0 : V2 m ρ c main_v0 = rowsOf (V0 m ρ) c :=
    (W2_of m ρ c main_v0 (by decide)).trans ((W1_arr m ρ c 2).trans (final0 (V0 m ρ) c))
  have h2 : V2 m ρ c main_v2 = (truncf .bf16 (transpose S7424x1024 [1, 0] (W1 m ρ c (Proc.devRef .tc main_arg2)) transposes_S1024x7424_S7424x1024_1_0) bitsLt_bf16_f32 : FVec Ideal S7424x1024 .bf16) := by
    show StableHlo.after hostOps1 (W1 m ρ c) (Proc.devRef .tc main_v2) = _
    after_results_entrywise (rounds := 1) []
  unfold projOf
  rw [h0, h2, W1_args m ρ c main_arg2 (by decide)]
  funext y
  unfold LayerSpec.product LayerSpec.productT
  pointwise []

end Cert.ProjIdeal.Whole

end
-- ==== Proof.ProjClaims.lean ====
/-
  The claims about the normalization and the input projection.
-/
module

public import proofs.«01_k».proof.Defs
public import proofs.«01_k».proof.Proof.Gen.Proj.Frame
public import proofs.«01_k».proof.Proof.Gen.ProjRefIdeal.Run
public import proofs.«01_k».proof.Proof.ProjBlock
public import Idealize.ShloMosaic.Lib.Quiescent

@[expose] public section

set_option maxRecDepth 16384

open Idealize.ShloMosaic Idealize.ShloMosaic.TcCoe Idealize.SL.Sem

namespace Cert.ProjProof

theorem quiescent_kernel : Cert.quiescent_Proj := fun m g _ => Cert.Proj.Gen.frame m g

theorem quiescent_ideal : Cert.quiescent_ProjIdeal := fun m g _ => Cert.ProjIdeal.Gen.frame m g

theorem quiescent_reference : Cert.quiescent_ProjRefIdeal := fun m g _ =>
  (θ_run Cert.ProjRefIdeal.defs _ _).mono
    (fun r h => ⟨fun c => (h c).2, Idealize.ShloMosaic.sem_eq_zero_of_no_sems (by decide) r.2⟩)
    (Cert.ProjRefIdeal.Value.run (F := Ideal) m g)

section
open Cert.ProjRefIdeal Cert.ProjRefIdeal.Gen Cert.ProjRefIdeal.Value

/-- The reference's result, read at an index. -/
theorem reference_result (X : FVec Ideal S4096x1024 .f32) (G : FVec Ideal S1x1024 .f32) (W : FVec Ideal S1024x7424 .f32) :
    (Host.dotGeneral dot_S4096x1024_S1024x7424_S4096x7424_1_0_0_1_n_n none (mulf (mulf X (broadcastInDim S4096x1024 ![0, 1] bcast_S4096x1_S4096x1024_0_1 (Host.rsqrt (addf (Host.divf (broadcastInDim S4096x1 ![0] bcast_S4096_S4096x1_0 (Host.reduceAdd (mulf X X) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 G)) W : FVec Ideal S4096x7424 .f32)
    = LayerSpec.product (LayerSpec.norm X G) W := by
  funext y
  unfold LayerSpec.product LayerSpec.norm LayerSpec.scale
  pointwise []

end

/-- Every run of the kernel leaves each result as the last call leaves it, and the arguments as they were. -/
theorem algebraic : Cert.algebraic_ProjIdeal_ProjRefIdeal := fun m g m' g' _ hag =>
  ⟨fun c => Cert.ProjIdeal.Gen.W3 m g c (Proc.devRef .tc Cert.ProjIdeal.main_v3),
    (θ_run Cert.ProjIdeal.defs _ _).mono
      (fun _ h c => ⟨h c Cert.ProjIdeal.main_v3 (by decide), (h c Cert.ProjIdeal.main_arg0 (by decide)).trans (Cert.ProjIdeal.Gen.W3_main_arg0 m g c), (h c Cert.ProjIdeal.main_arg1 (by decide)).trans (Cert.ProjIdeal.Gen.W3_main_arg1 m g c), (h c Cert.ProjIdeal.main_arg2 (by decide)).trans (Cert.ProjIdeal.Gen.W3_main_arg2 m g c)⟩)
      (Cert.ProjIdeal.Whole.run (F := Ideal) m g),
    (θ_run Cert.ProjRefIdeal.defs _ _).mono
      (fun _ h c => by
        obtain ⟨h0, h1, h2⟩ := hag c
        obtain ⟨o0, hA⟩ := h c
        rw [h0, h1, h2] at o0
        exact ⟨o0.trans ((reference_result _ _ _).trans (Cert.ProjIdeal.Whole.final m g c).symm), hA⟩)
      (Cert.ProjRefIdeal.Value.run (F := Ideal) m' g')⟩

end Cert.ProjProof

end
-- ==== Proof.UpBlock.lean ====
/-
  What the up projection leaves in its result array.
-/
module

public import proofs.«01_k».proof.Proof.Gen.UpIdeal.Value
public import proofs.«01_k».proof.Proof.LayerWeights
public import proofs.«01_k».proof.Proof.LayerSpec
public import Idealize.ShloMosaic.Lib.Claim
public import Idealize.ShloMosaic.Lib.StableHlo.RunClose

@[expose] public section

set_option maxRecDepth 16384

noncomputable section

open Idealize.ShloMosaic Idealize.ShloMosaic.TcCoe Idealize.SL.Sem

namespace Cert.UpIdeal.Whole

open Cert.UpIdeal Cert.UpIdeal.Gen

variable (m : (ℓ : Loc nD τ sig) → Buf (Elt Ideal) ℓ)

theorem fits : LayerWeights.Fits := ⟨bitsLt_bf16_f32, transposes_S1024x4096_S4096x1024_1_0, transposes_S512x1024_S1024x512_1_0,
  transposes_S256x1024_S1024x256_1_0, concatenates_S1024x512_S1024x512_S1024x1024_d1, shapeCasts_S4096x1024_S8x512x1024,
  shapeCasts_S1024x1024_S8x128x1024, shapeCasts_S1024x256_S8x32x1024,
  concatenates_S8x512x1024_S8x512x1024_S8x128x1024_S8x128x1024_S8x32x1024_S8x1312x1024_d1⟩

theorem idx : ∀ t : Fin cfg0.N, win0_0.index t = ![t.val / 4, 0] ∧ win0_1.index t = ![t.val % 4, 0, 0]
    ∧ win0_2.index t = ![t.val / 4, t.val % 4] := (by decide +kernel : ∀ t : Fin grid0.N, _)

/-- The squares of the product's positive entries. -/
abbrev result (c : Dev nD) : FVec Ideal S4096x4096 .bf16 :=
  LayerSpec.relu2 (LayerSpec.product (m ((c : Thread nD τ).loc main_arg0)) (m ((c : Thread nD τ).loc main_arg1)))

/-- The weights the call is given are the packed ones. -/
theorem entry (c : Dev nD) : V m c main_v17 = LayerWeights.pack (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) fits := by
  show StableHlo.after hostOps0 (fun b => m (c, b)) (Proc.devRef .tc main_v17) = _
  after_results_entrywise (rounds := 1) []

/-- The weight's block. -/
theorem block1 (c : Dev nD) (t : Fin cfg0.N) (d : Fin 2) (r : Fin 512) (k : Fin 1024) :
    X0_1 m c t (ix3 d r k)
      = m ((c : Thread nD τ).loc main_arg1) (ix2 k ⟨(2 * (t.val % 4) + d.val) * 512 + r.val, by omega⟩) := by
  unfold X0_1 Pipeline.Window.fill
  rw [dif_pos (moved0_1 t _)]
  unfold iblk
  blk_simp [idx t]
  refine Eq.trans (congrArg (V m c main_v17) (?_ : _ = ix3 ⟨2 * (t.val % 4) + d.val, by omega⟩ ⟨r.val, by omega⟩ k)) ?_
  · blk_ext [idx t]
  · rw [entry]
    exact LayerWeights.pack_up _ _ _ _ _ _ fits ⟨2 * (t.val % 4) + d.val, by omega⟩ r k

/-- A block of the product. -/
theorem dot (c : Dev nD) (t : Fin cfg0.N) (y : S1024x1024.Idx) :
    (∑ k : Fin 1024, @HMul.hMul EReal EReal EReal _ (iblk m c 0 t (ix2 (y 0) k))
      (X0_1 m c t (ix3 ⟨(y 1).val / 512, by have h : (y 1).val < 1024 := (y 1).isLt; omega⟩ ⟨(y 1).val % 512, by omega⟩ k)))
    = LayerSpec.product (m ((c : Thread nD τ).loc main_arg0)) (m ((c : Thread nD τ).loc main_arg1)) (((cfg0.win 2).blk t).view.emb y) := by
  unfold LayerSpec.product
  refine Finset.sum_congr rfl fun k _ => congrArg₂ (· * ·) ?_ ((block1 m c t _ _ _).trans ?_)
  · blk_point [iblk, V, idx t]
  · blk_point [idx t]

theorem point (c : Dev nD) (t : Fin cfg0.N) (y : S1024x1024.Idx) : k0_pay1 (X0_1 m c t) (iblk m c 0 t) y
    = result m c (((cfg0.win 2).blk t).view.emb y) := by
  unfold result LayerSpec.relu2
  rw [← dot]
  pointwise [k0_pay1]

/-- The result array after the run. -/
theorem final (c : Dev nD) : (dats m 0 c).arrAt 2 (cfgs 0).N = result m c := by
  refine (dats m 0 c).arrAt_eq_of_covers 2 _ (by decide +kernel) fun t _ y => ?_
  blk_simp
  rw [after0_2]
  unfold outsAt0
  frame_out
  exact point m c t y

end Cert.UpIdeal.Whole

end
-- ==== Proof.UpClaims.lean ====
/-
  The claims about the up projection.
-/
module

public import proofs.«01_k».proof.Defs
public import proofs.«01_k».proof.Proof.Gen.Up.Frame
public import proofs.«01_k».proof.Proof.Gen.UpRefIdeal.Run
public import proofs.«01_k».proof.Proof.UpBlock
public import Idealize.ShloMosaic.Lib.Quiescent

@[expose] public section

set_option maxRecDepth 16384

open Idealize.ShloMosaic Idealize.ShloMosaic.TcCoe Idealize.SL.Sem

namespace Cert.UpProof

theorem quiescent_kernel : Cert.quiescent_Up := fun m g _ => Cert.Up.Gen.frame m g

theorem quiescent_ideal : Cert.quiescent_UpIdeal := fun m g _ => Cert.UpIdeal.Gen.frame m g

theorem quiescent_reference : Cert.quiescent_UpRefIdeal := fun m g _ =>
  (θ_run Cert.UpRefIdeal.defs _ _).mono
    (fun r h => ⟨fun c => (h c).2, Idealize.ShloMosaic.sem_eq_zero_of_no_sems (by decide) r.2⟩)
    (Cert.UpRefIdeal.Value.run (F := Ideal) m g)

section
open Cert.UpRefIdeal Cert.UpRefIdeal.Gen

/-- The reference's result, read at an index. -/
theorem reference_result (A : FVec Ideal S4096x1024 .f32) (B : FVec Ideal S1024x4096 .f32) :
    (truncf .bf16 (mulf
      (maximumf (Host.dotGeneral dot_S4096x1024_S1024x4096_S4096x4096_1_0_0_1_n_n none A B)
        (broadcastInDim S4096x4096 ![] bcast_S_S4096x4096 (constant S_ .f32 0x00000000#32)))
      (maximumf (Host.dotGeneral dot_S4096x1024_S1024x4096_S4096x4096_1_0_0_1_n_n none A B)
        (broadcastInDim S4096x4096 ![] bcast_S_S4096x4096 (constant S_ .f32 0x00000000#32)))) bitsLt_bf16_f32 : FVec Ideal S4096x4096 .bf16)
    = LayerSpec.relu2 (LayerSpec.product A B) := by
  funext y
  unfold LayerSpec.relu2 LayerSpec.product
  pointwise []

end

theorem algebraic : Cert.algebraic_UpIdeal_UpRefIdeal := fun m g m' g' _ hag =>
  ⟨fun c => (Cert.UpIdeal.Gen.dats m 0 c).arrAt 2 Cert.UpIdeal.cfg0.N,
    Cert.UpIdeal.Value.run_blocks m g,
    (θ_run Cert.UpRefIdeal.defs _ _).mono
      (fun _ h c => by
        obtain ⟨h0, h1, h2, h3, h4, h5, h6⟩ := hag c
        obtain ⟨o0, hA⟩ := h c
        rw [h0, h1] at o0
        exact ⟨o0.trans ((reference_result _ _).trans (Cert.UpIdeal.Whole.final m c).symm), hA⟩)
      (Cert.UpRefIdeal.Value.run (F := Ideal) m' g')⟩

end Cert.UpProof

end
-- ==== Proof.DownBlock.lean ====
/-
  What the down projection leaves in its two result arrays.
-/
module

public import proofs.«01_k».proof.Proof.Gen.DownIdeal.Value
public import proofs.«01_k».proof.Proof.LayerWeights
public import proofs.«01_k».proof.Proof.LayerSpec
public import Idealize.ShloMosaic.Lib.Claim
public import Idealize.ShloMosaic.Lib.StableHlo.RunClose

@[expose] public section

set_option maxRecDepth 16384

noncomputable section

open Idealize.ShloMosaic Idealize.ShloMosaic.TcCoe Idealize.SL.Sem

namespace Cert.DownIdeal.Whole

open Cert.DownIdeal Cert.DownIdeal.Gen

variable (m : (ℓ : Loc nD τ sig) → Buf (Elt Ideal) ℓ)

theorem idx : ∀ t : Fin cfg0.N, win0_0.index t = ![t.val, 0] ∧ win0_1.index t = ![0, 1, 0] ∧ win0_2.index t = ![t.val, 0]
    ∧ win0_3.index t = ![0, 0] ∧ win0_4.index t = ![t.val, 0] ∧ win0_5.index t = ![t.val, 0] :=
  (by decide +kernel : ∀ t : Fin grid0.N, _)

/-- The product's rows, with the residual's. -/
abbrev first (c : Dev nD) : FVec Ideal S4096x1024 .f32 :=
  LayerSpec.residual (m ((c : Thread nD τ).loc main_arg1)) (m ((c : Thread nD τ).loc main_arg0)) (m ((c : Thread nD τ).loc main_arg4))

/-- Its rows normalized. -/
abbrev second (c : Dev nD) : FVec Ideal S4096x1024 .bf16 :=
  LayerSpec.norm (first m c) (m ((c : Thread nD τ).loc main_arg2))

theorem fits : LayerWeights.Fits := ⟨bitsLt_bf16_f32, transposes_S1024x4096_S4096x1024_1_0, transposes_S512x1024_S1024x512_1_0,
  transposes_S256x1024_S1024x256_1_0, concatenates_S1024x512_S1024x512_S1024x1024_d1, shapeCasts_S4096x1024_S8x512x1024,
  shapeCasts_S1024x1024_S8x128x1024, shapeCasts_S1024x256_S8x32x1024,
  concatenates_S8x512x1024_S8x512x1024_S8x128x1024_S8x128x1024_S8x32x1024_S8x1312x1024_d1⟩

/-- The weights the call is given are the packed ones. -/
theorem entry (c : Dev nD) : V m c main_v17 = LayerWeights.pack (m ((c : Thread nD τ).loc main_arg3))
    (m ((c : Thread nD τ).loc main_arg4)) (m ((c : Thread nD τ).loc main_arg5)) (m ((c : Thread nD τ).loc main_arg6))
    (m ((c : Thread nD τ).loc main_arg7)) (m ((c : Thread nD τ).loc main_arg8)) fits := by
  show StableHlo.after hostOps0 (fun b => m (c, b)) (Proc.devRef .tc main_v17) = _
  after_results_entrywise (rounds := 1) []

/-- The weight's block. -/
theorem block1 (c : Dev nD) (t : Fin cfg0.N) (d : Fin 8) (r : Fin 512) (k : Fin 1024) :
    X0_1 m c t (ix3 d r k) = m ((c : Thread nD τ).loc main_arg4) (ix2 ⟨d.val * 512 + r.val, by omega⟩ k) := by
  unfold X0_1 Pipeline.Window.fill
  rw [dif_pos (moved0_1 t _)]
  unfold iblk
  blk_simp [idx t]
  refine Eq.trans (congrArg (V m c main_v17) (?_ : _ = ix3 d ⟨512 + r.val, by omega⟩ k)) ?_
  · blk_ext [idx t]
  · rw [entry]
    exact LayerWeights.pack_down _ _ _ _ _ _ fits d r k

/-- A point's first result. -/
theorem point4 (c : Dev nD) (t : Fin cfg0.N) (y : S512x1024.Idx) : k0_pay1 (X0_1 m c t) (iblk m c 0 t) (iblk m c 2 t) y
    = first m c (((cfg0.win 4).blk t).view.emb y) := by
  unfold first LayerSpec.residual
  pointwise [k0_pay1]
  refine congrArg₂ (· + ·) ?_ (Finset.sum_congr rfl fun k _ => congrArg₂ (· * ·) ?_ ((block1 m c t _ _ _).trans ?_))
  · blk_point [iblk, V, idx t]
  · blk_point [iblk, V, idx t]
  · blk_point [idx t]

theorem row (t : Fin cfg0.N) (y : S512x1024.Idx) (k : Fin 1024) :
    ((cfg0.win 4).blk t).view.emb (ix2 (y 0) k) = ix2 ((((cfg0.win 5).blk t).view.emb y) 0) k := by
  blk_ext [idx t]

/-- A point's second result is its first, normalized. -/
theorem point5 (c : Dev nD) (t : Fin cfg0.N) (y : S512x1024.Idx) :
    k0_pay2 (X0_1 m c t) (iblk m c 0 t) (iblk m c 2 t) (iblk m c 3 t) y = second m c (((cfg0.win 5).blk t).view.emb y) := by
  have h : ∀ k : Fin 1024, k0_pay1 (X0_1 m c t) (iblk m c 0 t) (iblk m c 2 t) (ix2 (y 0) k)
      = first m c (ix2 ((((cfg0.win 5).blk t).view.emb y) 0) k) := fun k =>
    (point4 m c t (ix2 (y 0) k)).trans (congrArg (first m c) (row t y k))
  have hy : k0_pay1 (X0_1 m c t) (iblk m c 0 t) (iblk m c 2 t) y = first m c (((cfg0.win 5).blk t).view.emb y) :=
    (point4 m c t y).trans (congrArg (first m c) (by blk_ext [idx t]))
  unfold second LayerSpec.norm LayerSpec.scale
  pointwise [k0_pay2]
  refine congrArg₂ (· * ·) (congrArg₂ (· * ·) hy (congrArg (fun s => Ideal.rsqrt (Ideal.div s _ + _))
    (Finset.sum_congr rfl fun k _ => congrArg₂ (· * ·) (h k) (h k)))) ?_
  blk_point [iblk, V, idx t]

/-- The first result after the run. -/
theorem final4 (c : Dev nD) : (dats m 0 c).arrAt 4 (cfgs 0).N = first m c := by
  refine (dats m 0 c).arrAt_eq_of_covers 4 _ (by decide +kernel) fun t _ y => ?_
  blk_simp
  rw [after0_4]
  unfold outsAt0
  frame_out
  exact point4 m c t y

/-- The second result after the run. -/
theorem final5 (c : Dev nD) : (dats m 0 c).arrAt 5 (cfgs 0).N = second m c := by
  refine (dats m 0 c).arrAt_eq_of_covers 5 _ (by decide +kernel) fun t _ y => ?_
  blk_simp
  rw [after0_5]
  unfold outsAt0
  frame_out
  exact point5 m c t y

end Cert.DownIdeal.Whole

end
-- ==== Proof.DownClaims.lean ====
/-
  The claims about the down projection.
-/
module

public import proofs.«01_k».proof.Defs
public import proofs.«01_k».proof.Proof.Gen.Down.Frame
public import proofs.«01_k».proof.Proof.Gen.DownRefIdeal.Run
public import proofs.«01_k».proof.Proof.DownBlock
public import Idealize.ShloMosaic.Lib.Quiescent

@[expose] public section

set_option maxRecDepth 16384

open Idealize.ShloMosaic Idealize.ShloMosaic.TcCoe Idealize.SL.Sem

namespace Cert.DownProof

theorem quiescent_kernel : Cert.quiescent_Down := fun m g _ => Cert.Down.Gen.frame m g

theorem quiescent_ideal : Cert.quiescent_DownIdeal := fun m g _ => Cert.DownIdeal.Gen.frame m g

theorem quiescent_reference : Cert.quiescent_DownRefIdeal := fun m g _ =>
  (θ_run Cert.DownRefIdeal.defs _ _).mono
    (fun r h => ⟨fun c => (h c).2.2, Idealize.ShloMosaic.sem_eq_zero_of_no_sems (by decide) r.2⟩)
    (Cert.DownRefIdeal.Value.run (F := Ideal) m g)

section
open Cert.DownRefIdeal Cert.DownRefIdeal.Gen

variable (x : FVec Ideal S4096x1024 .f32) (A : FVec Ideal S4096x4096 .f32) (B : FVec Ideal S4096x1024 .f32) (g : FVec Ideal S1x1024 .f32)

/-- The reference's first result, read at an index. -/
theorem reference_first : addf x (Host.dotGeneral dot_S4096x4096_S4096x1024_S4096x1024_1_0_0_1_n_n none A B)
    = LayerSpec.residual x A B := by
  funext y
  unfold LayerSpec.residual
  pointwise []

/-- The reference's normalization, read at an index. -/
theorem reference_norm : (truncf .bf16 (mulf (mulf x (broadcastInDim S4096x1024 ![0, 1] bcast_S4096x1_S4096x1024_0_1 (Host.rsqrt (addf
    (Host.divf (broadcastInDim S4096x1 ![0] bcast_S4096_S4096x1_0 (Host.reduceAdd (mulf x x) (constant S_ .f32 0x00000000#32)
      reducesTo_S4096x1024_S4096_d1 h_S_)) (broadcastInDim S4096x1 ![] bcast_S_S4096x1 (constant S_ .f32 0x44800000#32)))
    (broadcastInDim S4096x1 ![] bcast_S_S4096x1 (constant S_ .f32 0x358637BD#32))))))
    (broadcastInDim S4096x1024 ![0, 1] bcast_S1x1024_S4096x1024_0_1 g)) bitsLt_bf16_f32 : FVec Ideal S4096x1024 .bf16)
    = LayerSpec.norm x g := by
  funext y
  unfold LayerSpec.norm LayerSpec.scale
  pointwise []

end

theorem algebraic : Cert.algebraic_DownIdeal_DownRefIdeal := fun m g m' g' _ hag =>
  ⟨fun c => (Cert.DownIdeal.Gen.dats m 0 c).arrAt 4 Cert.DownIdeal.cfg0.N, fun c => (Cert.DownIdeal.Gen.dats m 0 c).arrAt 5 Cert.DownIdeal.cfg0.N,
    Cert.DownIdeal.Value.run_blocks m g,
    (θ_run Cert.DownRefIdeal.defs _ _).mono
      (fun _ h c => by
        obtain ⟨h0, h1, h2, h3, h4, h5, h6, h7, h8⟩ := hag c
        obtain ⟨o0, o1, hA⟩ := h c
        rw [h0, h1, h4] at o0
        rw [h0, h1, h2, h4] at o1
        exact ⟨o0.trans ((reference_first _ _ _).trans (Cert.DownIdeal.Whole.final4 m c).symm), o1.trans (((reference_norm _ _).trans (congrArg (LayerSpec.norm · _) (reference_first _ _ _))).trans (Cert.DownIdeal.Whole.final5 m c).symm), hA⟩)
      (Cert.DownRefIdeal.Value.run (F := Ideal) m' g')⟩

end Cert.DownProof

end
-- ==== Proof.OutBlock.lean ====
/-
  What the output projection leaves in its two result arrays.
-/
module

public import proofs.«01_k».proof.Proof.Gen.OutIdeal.Value
public import proofs.«01_k».proof.Proof.LayerWeights
public import proofs.«01_k».proof.Proof.LayerSpec
public import Idealize.ShloMosaic.Lib.Claim
public import Idealize.ShloMosaic.Lib.StableHlo.RunClose

@[expose] public section

set_option maxRecDepth 16384

noncomputable section

open Idealize.ShloMosaic Idealize.ShloMosaic.TcCoe Idealize.SL.Sem

namespace Cert.OutIdeal.Whole

open Cert.OutIdeal Cert.OutIdeal.Gen

variable (m : (ℓ : Loc nD τ sig) → Buf (Elt Ideal) ℓ)

theorem idx : ∀ t : Fin cfg0.N, win0_0.index t = ![t.val, 0] ∧ win0_1.index t = ![0, 8, 0] ∧ win0_2.index t = ![t.val, 0]
    ∧ win0_3.index t = ![0, 0] ∧ win0_4.index t = ![t.val, 0] ∧ win0_5.index t = ![t.val, 0] :=
  (by decide +kernel : ∀ t : Fin grid0.N, _)

/-- The product's rows, with the residual's. -/
abbrev first (c : Dev nD) : FVec Ideal S4096x1024 .f32 :=
  LayerSpec.residual (m ((c : Thread nD τ).loc main_arg1)) (m ((c : Thread nD τ).loc main_arg0)) (m ((c : Thread nD τ).loc main_arg5))

/-- Its rows normalized. -/
abbrev second (c : Dev nD) : FVec Ideal S4096x1024 .bf16 :=
  LayerSpec.norm (first m c) (m ((c : Thread nD τ).loc main_arg2))

theorem fits : LayerWeights.Fits := ⟨bitsLt_bf16_f32, transposes_S1024x4096_S4096x1024_1_0, transposes_S512x1024_S1024x512_1_0,
  transposes_S256x1024_S1024x256_1_0, concatenates_S1024x512_S1024x512_S1024x1024_d1, shapeCasts_S4096x1024_S8x512x1024,
  shapeCasts_S1024x1024_S8x128x1024, shapeCasts_S1024x256_S8x32x1024,
  concatenates_S8x512x1024_S8x512x1024_S8x128x1024_S8x128x1024_S8x32x1024_S8x1312x1024_d1⟩

/-- The weights the call is given are the packed ones. -/
theorem entry (c : Dev nD) : V m c main_v17 = LayerWeights.pack (m ((c : Thread nD τ).loc main_arg3))
    (m ((c : Thread nD τ).loc main_arg4)) (m ((c : Thread nD τ).loc main_arg5)) (m ((c : Thread nD τ).loc main_arg6))
    (m ((c : Thread nD τ).loc main_arg7)) (m ((c : Thread nD τ).loc main_arg8)) fits := by
  show StableHlo.after hostOps0 (fun b => m (c, b)) (Proc.devRef .tc main_v17) = _
  after_results_entrywise (rounds := 1) []

/-- The weight's block. -/
theorem block1 (c : Dev nD) (t : Fin cfg0.N) (d : Fin 8) (r : Fin 128) (k : Fin 1024) :
    X0_1 m c t (ix3 d r k) = m ((c : Thread nD τ).loc main_arg5) (ix2 ⟨d.val * 128 + r.val, by omega⟩ k) := by
  unfold X0_1 Pipeline.Window.fill
  rw [dif_pos (moved0_1 t _)]
  unfold iblk
  blk_simp [idx t]
  refine Eq.trans (congrArg (V m c main_v17) (?_ : _ = ix3 d ⟨1024 + r.val, by omega⟩ k)) ?_
  · blk_ext [idx t]
  · rw [entry]
    exact LayerWeights.pack_out _ _ _ _ _ _ fits d r k

/-- A point's first result. -/
theorem point4 (c : Dev nD) (t : Fin cfg0.N) (y : S1024x1024.Idx) : k0_pay1 (X0_1 m c t) (iblk m c 0 t) (iblk m c 2 t) y
    = first m c (((cfg0.win 4).blk t).view.emb y) := by
  unfold first LayerSpec.residual
  pointwise [k0_pay1]
  refine congrArg₂ (· + ·) ?_ (Finset.sum_congr rfl fun k _ => congrArg₂ (· * ·) ?_ ((block1 m c t _ _ _).trans ?_))
  · blk_point [iblk, V, idx t]
  · blk_point [iblk, V, idx t]
  · blk_point [idx t]

theorem row (t : Fin cfg0.N) (y : S1024x1024.Idx) (k : Fin 1024) :
    ((cfg0.win 4).blk t).view.emb (ix2 (y 0) k) = ix2 ((((cfg0.win 5).blk t).view.emb y) 0) k := by
  blk_ext [idx t]

/-- A point's second result is its first, normalized. -/
theorem point5 (c : Dev nD) (t : Fin cfg0.N) (y : S1024x1024.Idx) :
    k0_pay2 (X0_1 m c t) (iblk m c 0 t) (iblk m c 2 t) (iblk m c 3 t) y = second m c (((cfg0.win 5).blk t).view.emb y) := by
  have h : ∀ k : Fin 1024, k0_pay1 (X0_1 m c t) (iblk m c 0 t) (iblk m c 2 t) (ix2 (y 0) k)
      = first m c (ix2 ((((cfg0.win 5).blk t).view.emb y) 0) k) := fun k =>
    (point4 m c t (ix2 (y 0) k)).trans (congrArg (first m c) (row t y k))
  have hy : k0_pay1 (X0_1 m c t) (iblk m c 0 t) (iblk m c 2 t) y = first m c (((cfg0.win 5).blk t).view.emb y) :=
    (point4 m c t y).trans (congrArg (first m c) (by blk_ext [idx t]))
  unfold second LayerSpec.norm LayerSpec.scale
  pointwise [k0_pay2]
  refine congrArg₂ (· * ·) (congrArg₂ (· * ·) hy (congrArg (fun s => Ideal.rsqrt (Ideal.div s _ + _))
    (Finset.sum_congr rfl fun k _ => congrArg₂ (· * ·) (h k) (h k)))) ?_
  blk_point [iblk, V, idx t]

/-- The first result after the run. -/
theorem final4 (c : Dev nD) : (dats m 0 c).arrAt 4 (cfgs 0).N = first m c := by
  refine (dats m 0 c).arrAt_eq_of_covers 4 _ (by decide +kernel) fun t _ y => ?_
  blk_simp
  rw [after0_4]
  unfold outsAt0
  frame_out
  exact point4 m c t y

/-- The second result after the run. -/
theorem final5 (c : Dev nD) : (dats m 0 c).arrAt 5 (cfgs 0).N = second m c := by
  refine (dats m 0 c).arrAt_eq_of_covers 5 _ (by decide +kernel) fun t _ y => ?_
  blk_simp
  rw [after0_5]
  unfold outsAt0
  frame_out
  exact point5 m c t y

end Cert.OutIdeal.Whole

end
-- ==== Proof.OutClaims.lean ====
/-
  The claims about the output projection.
-/
module

public import proofs.«01_k».proof.Defs
public import proofs.«01_k».proof.Proof.Gen.Out.Frame
public import proofs.«01_k».proof.Proof.Gen.OutRefIdeal.Run
public import proofs.«01_k».proof.Proof.OutBlock
public import Idealize.ShloMosaic.Lib.Quiescent

@[expose] public section

set_option maxRecDepth 16384

open Idealize.ShloMosaic Idealize.ShloMosaic.TcCoe Idealize.SL.Sem

namespace Cert.OutProof

theorem quiescent_kernel : Cert.quiescent_Out := fun m g _ => Cert.Out.Gen.frame m g

theorem quiescent_ideal : Cert.quiescent_OutIdeal := fun m g _ => Cert.OutIdeal.Gen.frame m g

theorem quiescent_reference : Cert.quiescent_OutRefIdeal := fun m g _ =>
  (θ_run Cert.OutRefIdeal.defs _ _).mono
    (fun r h => ⟨fun c => (h c).2.2, Idealize.ShloMosaic.sem_eq_zero_of_no_sems (by decide) r.2⟩)
    (Cert.OutRefIdeal.Value.run (F := Ideal) m g)

section
open Cert.OutRefIdeal Cert.OutRefIdeal.Gen

variable (x : FVec Ideal S4096x1024 .f32) (A : FVec Ideal S4096x1024 .f32) (B : FVec Ideal S1024x1024 .f32) (g : FVec Ideal S1x1024 .f32)

/-- The reference's first result, read at an index. -/
theorem reference_first : addf x (Host.dotGeneral dot_S4096x1024_S1024x1024_S4096x1024_1_0_0_1_n_n none A B)
    = LayerSpec.residual x A B := by
  funext y
  unfold LayerSpec.residual
  pointwise []

/-- The reference's normalization, read at an index. -/
theorem reference_norm : (truncf .bf16 (mulf (mulf x (broadcastInDim S4096x1024 ![0, 1] bcast_S4096x1_S4096x1024_0_1 (Host.rsqrt (addf
    (Host.divf (broadcastInDim S4096x1 ![0] bcast_S4096_S4096x1_0 (Host.reduceAdd (mulf x x) (constant S_ .f32 0x00000000#32)
      reducesTo_S4096x1024_S4096_d1 h_S_)) (broadcastInDim S4096x1 ![] bcast_S_S4096x1 (constant S_ .f32 0x44800000#32)))
    (broadcastInDim S4096x1 ![] bcast_S_S4096x1 (constant S_ .f32 0x358637BD#32))))))
    (broadcastInDim S4096x1024 ![0, 1] bcast_S1x1024_S4096x1024_0_1 g)) bitsLt_bf16_f32 : FVec Ideal S4096x1024 .bf16)
    = LayerSpec.norm x g := by
  funext y
  unfold LayerSpec.norm LayerSpec.scale
  pointwise []

end

theorem algebraic : Cert.algebraic_OutIdeal_OutRefIdeal := fun m g m' g' _ hag =>
  ⟨fun c => (Cert.OutIdeal.Gen.dats m 0 c).arrAt 4 Cert.OutIdeal.cfg0.N, fun c => (Cert.OutIdeal.Gen.dats m 0 c).arrAt 5 Cert.OutIdeal.cfg0.N,
    Cert.OutIdeal.Value.run_blocks m g,
    (θ_run Cert.OutRefIdeal.defs _ _).mono
      (fun _ h c => by
        obtain ⟨h0, h1, h2, h3, h4, h5, h6, h7, h8⟩ := hag c
        obtain ⟨o0, o1, hA⟩ := h c
        rw [h0, h1, h5] at o0
        rw [h0, h1, h2, h5] at o1
        exact ⟨o0.trans ((reference_first _ _ _).trans (Cert.OutIdeal.Whole.final4 m c).symm), o1.trans (((reference_norm _ _).trans (congrArg (LayerSpec.norm · _) (reference_first _ _ _))).trans (Cert.OutIdeal.Whole.final5 m c).symm), hA⟩)
      (Cert.OutRefIdeal.Value.run (F := Ideal) m' g')⟩

end Cert.OutProof

end
-- ==== Proof.LossSpec.lean ====
/-
  The loss: half the mean square of the error, and its gradient.
-/
module

public import proofs.«01_k».proof.Proof.NormGrad

@[expose] public section

noncomputable section

open Idealize.ShloMosaic

namespace Cert.LossSpec

/-- The error of the rows `x + A B`. -/
def error (x : FVec Ideal ⟨2, ![4096, 1024]⟩ .f32) (A : FVec Ideal ⟨2, ![4096, 4096]⟩ .f32) (B : FVec Ideal ⟨2, ![4096, 1024]⟩ .f32)
    (target : FVec Ideal ⟨2, ![4096, 1024]⟩ .f32) : FVec Ideal ⟨2, ![4096, 1024]⟩ .f32 :=
  fun y => LayerSpec.residual x A B y - target y

/-- The loss's gradient: the error over the width. -/
def slope (e : FVec Ideal ⟨2, ![4096, 1024]⟩ .f32) : FVec Ideal ⟨2, ![4096, 1024]⟩ .f32 :=
  fun y => e y * Ideal.ofBits .f32 981467136#32

/-- The error's squares summed over every eighth row of 512. -/
def squares (e : FVec Ideal ⟨2, ![4096, 1024]⟩ .f32) : FVec Ideal ⟨2, ![64, 1024]⟩ .f32 := fun y =>
  ∑ j : Fin 64, e (ix2 ⟨(y 0).val / 8 * 512 + j.val * 8 + (y 0).val % 8, by have h : (y 0).val < 64 := (y 0).isLt; omega⟩ (y 1))
    * e (ix2 ⟨(y 0).val / 8 * 512 + j.val * 8 + (y 0).val % 8, by have h : (y 0).val < 64 := (y 0).isLt; omega⟩ (y 1))

theorem ofBits_half : Ideal.ofBits .f32 1056964608#32 = (((1 : ℝ) / 2 : ℝ) : EReal) := by
  simp [Ideal.ofBits, Ideal.ieee]
  rw [← EReal.coe_mul]
  norm_num

theorem ofBits_two : Ideal.ofBits .f32 1073741824#32 = ((2 : ℝ) : EReal) := by
  simp [Ideal.ofBits, Ideal.ieee]
  rw [← EReal.coe_mul]
  norm_num

theorem ofBits_width_inv : Ideal.ofBits .f32 981467136#32 = (((1 : ℝ) / 1024 : ℝ) : EReal) := by
  simp [Ideal.ofBits, Ideal.ieee]
  rw [← EReal.coe_mul]
  norm_num

theorem ofBits_half_width_inv : Ideal.ofBits .f32 973078528#32 = (((1 : ℝ) / 2048 : ℝ) : EReal) := by
  simp [Ideal.ofBits, Ideal.ieee]
  rw [← EReal.coe_mul]
  norm_num

/-- Half of a mean's slope, times twice the error, is the error over the width. -/
theorem slope_chain (e : EReal) :
    Ideal.div (Ideal.ofBits .f32 1056964608#32) (Ideal.ofBits .f32 1149239296#32) * (Ideal.ofBits .f32 1073741824#32 * e)
    = e * Ideal.ofBits .f32 981467136#32 := by
  rw [ofBits_half, LayerSpec.ofBits_width, ofBits_two, ofBits_width_inv, Ideal.div_coe (by norm_num), ← mul_assoc, ← EReal.coe_mul, ← EReal.coe_mul, mul_comm]
  norm_num

/-- Half of a sum, over the width, is the sum times half of the width's inverse. -/
theorem half_mean (s : EReal) :
    Ideal.div (Ideal.ofBits .f32 1056964608#32 * s) (Ideal.ofBits .f32 1149239296#32) = s * Ideal.ofBits .f32 973078528#32 := by
  rw [ofBits_half, LayerSpec.ofBits_width, ofBits_half_width_inv, Ideal.div_coe (by norm_num), mul_comm _ s, mul_assoc, ← EReal.coe_mul]
  norm_num

end Cert.LossSpec

end
-- ==== Proof.LastBlock.lean ====
/-
  What the last down projection, with the loss, leaves in its three result arrays.
-/
module

public import proofs.«01_k».proof.Proof.Gen.LastIdeal.Value
public import proofs.«01_k».proof.Proof.LayerWeights
public import proofs.«01_k».proof.Proof.LossSpec
public import Idealize.ShloMosaic.Lib.Claim
public import Idealize.ShloMosaic.Lib.StableHlo.RunClose

@[expose] public section

set_option maxRecDepth 16384

noncomputable section

open Idealize.ShloMosaic Idealize.ShloMosaic.TcCoe Idealize.SL.Sem

namespace Cert.LastIdeal.Whole

open Cert.LastIdeal Cert.LastIdeal.Gen

variable (m : (ℓ : Loc nD τ sig) → Buf (Elt Ideal) ℓ)

theorem idx : ∀ t : Fin cfg0.N, win0_0.index t = ![t.val, 0] ∧ win0_1.index t = ![0, 1, 0] ∧ win0_2.index t = ![t.val, 0]
    ∧ win0_3.index t = ![t.val, 0] ∧ win0_4.index t = ![t.val, 0] ∧ win0_5.index t = ![t.val, 0]
    ∧ win0_6.index t = ![t.val, 0] :=
  (by decide +kernel : ∀ t : Fin grid0.N, _)

/-- The error of the network's result. -/
abbrev wrong (c : Dev nD) : FVec Ideal S4096x1024 .f32 :=
  LossSpec.error (m ((c : Thread nD τ).loc main_arg1)) (m ((c : Thread nD τ).loc main_arg0)) (m ((c : Thread nD τ).loc main_arg4)) (m ((c : Thread nD τ).loc main_arg2))

/-- The loss's gradient. -/
abbrev first (c : Dev nD) : FVec Ideal S4096x1024 .f32 := LossSpec.slope (wrong m c)

/-- The error's squares, partly summed. -/
abbrev second (c : Dev nD) : FVec Ideal S64x1024 .f32 := LossSpec.squares (wrong m c)

theorem fits : LayerWeights.Fits := ⟨bitsLt_bf16_f32, transposes_S1024x4096_S4096x1024_1_0, transposes_S512x1024_S1024x512_1_0,
  transposes_S256x1024_S1024x256_1_0, concatenates_S1024x512_S1024x512_S1024x1024_d1, shapeCasts_S4096x1024_S8x512x1024,
  shapeCasts_S1024x1024_S8x128x1024, shapeCasts_S1024x256_S8x32x1024,
  concatenates_S8x512x1024_S8x512x1024_S8x128x1024_S8x128x1024_S8x32x1024_S8x1312x1024_d1⟩

/-- The weights the call is given are the packed ones. -/
theorem entry (c : Dev nD) : V m c main_v17 = LayerWeights.pack (m ((c : Thread nD τ).loc main_arg3))
    (m ((c : Thread nD τ).loc main_arg4)) (m ((c : Thread nD τ).loc main_arg5)) (m ((c : Thread nD τ).loc main_arg6))
    (m ((c : Thread nD τ).loc main_arg7)) (m ((c : Thread nD τ).loc main_arg8)) fits := by
  show StableHlo.after hostOps0 (fun b => m (c, b)) (Proc.devRef .tc main_v17) = _
  after_results_entrywise (rounds := 1) []

/-- The weight's block. -/
theorem block1 (c : Dev nD) (t : Fin cfg0.N) (d : Fin 8) (r : Fin 512) (k : Fin 1024) :
    X0_1 m c t (ix3 d r k) = m ((c : Thread nD τ).loc main_arg4) (ix2 ⟨d.val * 512 + r.val, by omega⟩ k) := by
  unfold X0_1 Pipeline.Window.fill
  rw [dif_pos (moved0_1 t _)]
  unfold iblk
  blk_simp [idx t]
  refine Eq.trans (congrArg (V m c main_v17) (?_ : _ = ix3 d ⟨512 + r.val, by omega⟩ k)) ?_
  · blk_ext [idx t]
  · rw [entry]
    exact LayerWeights.pack_down _ _ _ _ _ _ fits d r k

/-- The row of the whole that a block's row is. -/
abbrev row (t : Fin cfg0.N) (i : Fin 512) : Fin 4096 := ⟨t.val * 512 + i.val, by have h : t.val < 8 := t.isLt; omega⟩

/-- A block of the error. -/
theorem wrong_block (c : Dev nD) (t : Fin cfg0.N) (i : Fin 512) (l : Fin 1024) :
    k0_pay1 (X0_1 m c t) (iblk m c 0 t) (iblk m c 2 t) (iblk m c 3 t) (ix2 i l) = wrong m c (ix2 (row t i) l) := by
  unfold wrong LossSpec.error LayerSpec.residual
  pointwise [k0_pay1]
  refine congrArg₂ (· - ·) (congrArg₂ (· + ·) ?_ (Finset.sum_congr rfl fun k _ => congrArg₂ (· * ·) ?_ ((block1 m c t _ _ _).trans ?_))) ?_
  · blk_point [iblk, V, idx t]
  · blk_point [iblk, V, idx t]
  · blk_point [idx t]
  · blk_point [iblk, V, idx t]

/-- A point's first result. -/
theorem point4 (c : Dev nD) (t : Fin cfg0.N) (i : Fin 512) (l : Fin 1024) :
    k0_pay2 (X0_1 m c t) (iblk m c 0 t) (iblk m c 2 t) (iblk m c 3 t) (ix2 i l) = first m c (ix2 (row t i) l) := by
  unfold first LossSpec.slope
  rw [← wrong_block]
  pointwise [k0_pay2]

/-- A point's second result. -/
theorem point5 (c : Dev nD) (t : Fin cfg0.N) (s : Fin 8) (l : Fin 1024) :
    k0_pay3 (X0_1 m c t) (iblk m c 0 t) (iblk m c 2 t) (iblk m c 3 t) (ix2 s l)
      = second m c (ix2 ⟨t.val * 8 + s.val, by have h : t.val < 8 := t.isLt; omega⟩ l) := by
  have h : ∀ j : Fin 64, k0_pay1 (X0_1 m c t) (iblk m c 0 t) (iblk m c 2 t) (iblk m c 3 t) (ix2 ⟨j.val * 8 + s.val, by omega⟩ l)
      = wrong m c (ix2 ⟨(t.val * 8 + s.val) / 8 * 512 + j.val * 8 + (t.val * 8 + s.val) % 8, by have h : t.val < 8 := t.isLt; omega⟩ l) := fun j => by
    refine (wrong_block m c t _ l).trans (congrArg (wrong m c) (congrArg (ix2 · _) (Fin.ext ?_)))
    show t.val * 512 + (j.val * 8 + s.val) = (t.val * 8 + s.val) / 8 * 512 + j.val * 8 + (t.val * 8 + s.val) % 8
    omega
  refine Eq.trans (b := ∑ j : Fin 64, @HMul.hMul EReal EReal EReal _
    (k0_pay1 (X0_1 m c t) (iblk m c 0 t) (iblk m c 2 t) (iblk m c 3 t) (ix2 ⟨j.val * 8 + s.val, by omega⟩ l))
    (k0_pay1 (X0_1 m c t) (iblk m c 0 t) (iblk m c 2 t) (iblk m c 3 t) (ix2 ⟨j.val * 8 + s.val, by omega⟩ l))) ?_
    (Finset.sum_congr rfl fun j _ => congrArg₂ (· * ·) (h j) (h j))
  pointwise [k0_pay3]

theorem emb4 (t : Fin cfg0.N) (i : Fin 512) (l : Fin 1024) : ((cfg0.win 4).blk t).view.emb (ix2 i l) = ix2 (row t i) l := by
  blk_ext [idx t]

theorem emb6 (t : Fin cfg0.N) (i : Fin 512) (l : Fin 1024) : ((cfg0.win 6).blk t).view.emb (ix2 i l) = ix2 (row t i) l := by
  blk_ext [idx t]

theorem emb5 (t : Fin cfg0.N) (s : Fin 8) (l : Fin 1024) :
    ((cfg0.win 5).blk t).view.emb (ix2 s l) = ix2 ⟨t.val * 8 + s.val, by have h : t.val < 8 := t.isLt; omega⟩ l := by
  blk_ext [idx t]

/-- The loss's gradient after the run. -/
theorem final4 (c : Dev nD) : (dats m 0 c).arrAt 4 (cfgs 0).N = first m c := by
  refine (dats m 0 c).arrAt_eq_of_covers 4 _ (by decide +kernel) fun t _ y => ?_
  obtain ⟨i, l, rfl⟩ : ∃ (i : Fin 512) (l : Fin 1024), y = ix2 i l := ⟨_, _, eq_ix2 y⟩
  blk_simp
  rw [after0_4]
  unfold outsAt0
  frame_out
  exact (point4 m c t i l).trans (congrArg (first m c) (emb4 t i l).symm)

/-- The error's squares after the run. -/
theorem final5 (c : Dev nD) : (dats m 0 c).arrAt 5 (cfgs 0).N = second m c := by
  refine (dats m 0 c).arrAt_eq_of_covers 5 _ (by decide +kernel) fun t _ y => ?_
  obtain ⟨s, l, rfl⟩ : ∃ (s : Fin 8) (l : Fin 1024), y = ix2 s l := ⟨_, _, eq_ix2 y⟩
  blk_simp
  rw [after0_5]
  unfold outsAt0
  frame_out
  exact (point5 m c t s l).trans (congrArg (second m c) (emb5 t s l).symm)

/-- The gradient's narrow copy after the run. -/
theorem final6 (c : Dev nD) : (dats m 0 c).arrAt 6 (cfgs 0).N = (first m c : FVec Ideal S4096x1024 .bf16) := by
  refine (dats m 0 c).arrAt_eq_of_covers 6 _ (by decide +kernel) fun t _ y => ?_
  obtain ⟨i, l, rfl⟩ : ∃ (i : Fin 512) (l : Fin 1024), y = ix2 i l := ⟨_, _, eq_ix2 y⟩
  blk_simp
  rw [after0_6]
  unfold outsAt0
  frame_out
  refine Eq.trans ?_ ((point4 m c t i l).trans (congrArg (first m c) (emb6 t i l).symm))
  pointwise [k0_pay4]

end Cert.LastIdeal.Whole

end
-- ==== Proof.LastClaims.lean ====
/-
  The claims about the last down projection with the loss.
-/
module

public import proofs.«01_k».proof.Defs
public import proofs.«01_k».proof.Proof.Gen.Last.Frame
public import proofs.«01_k».proof.Proof.Gen.LastRefIdeal.Run
public import proofs.«01_k».proof.Proof.LastBlock
public import Idealize.ShloMosaic.Lib.Quiescent

@[expose] public section

set_option maxRecDepth 16384

open Idealize.ShloMosaic Idealize.ShloMosaic.TcCoe Idealize.SL.Sem

namespace Cert.LastProof

theorem quiescent_kernel : Cert.quiescent_Last := fun m g _ => Cert.Last.Gen.frame m g

theorem quiescent_ideal : Cert.quiescent_LastIdeal := fun m g _ => Cert.LastIdeal.Gen.frame m g

theorem quiescent_reference : Cert.quiescent_LastRefIdeal := fun m g _ =>
  (θ_run Cert.LastRefIdeal.defs _ _).mono
    (fun r h => ⟨fun c => (h c).2.2.2, Idealize.ShloMosaic.sem_eq_zero_of_no_sems (by decide) r.2⟩)
    (Cert.LastRefIdeal.Value.run (F := Ideal) m g)

section
open Cert.LastRefIdeal Cert.LastRefIdeal.Gen

/-- The reference's gradient, read at an index. -/
theorem reference_first (X : FVec Ideal S4096x1024 .f32) (A : FVec Ideal S4096x4096 .f32) (W T : FVec Ideal S4096x1024 .f32) :
    (mulf (broadcastInDim S4096x1024 ![0] bcast_S4096_S4096x1024_0 (Host.divf (broadcastInDim S4096 ![] bcast_S_S4096 (mulf (constant S_ .f32 0x3F000000#32) (constant S_ .f32 0x3F800000#32))) (broadcastInDim S4096 ![] bcast_S_S4096 (constant S_ .f32 0x44800000#32)))) (mulf (broadcastInDim S4096x1024 ![] bcast_S_S4096x1024 (constant S_ .f32 0x40000000#32)) (subf (addf X (Host.dotGeneral (φ₁ := .f32) (φ₂ := .f32) dot_S4096x4096_S4096x1024_S4096x1024_1_0_0_1_n_n none A W)) T)) : FVec Ideal S4096x1024 .f32)
    = LossSpec.slope (LossSpec.error X A W T) := by
  funext y
  unfold LossSpec.slope LossSpec.error LayerSpec.residual
  refine Eq.trans ?_ (LossSpec.slope_chain _)
  pointwise []

/-- The reference's partial sums, read at an index. -/
theorem reference_second (X : FVec Ideal S4096x1024 .f32) (A : FVec Ideal S4096x4096 .f32) (W T : FVec Ideal S4096x1024 .f32) :
    (shapeCast _ (Host.reduceAdd (shapeCast _ (mulf (subf (addf X (Host.dotGeneral (φ₁ := .f32) (φ₂ := .f32) dot_S4096x4096_S4096x1024_S4096x1024_1_0_0_1_n_n none A W)) T) (subf (addf X (Host.dotGeneral (φ₁ := .f32) (φ₂ := .f32) dot_S4096x4096_S4096x1024_S4096x1024_1_0_0_1_n_n none A W)) T)) shapeCasts_S4096x1024_S8x64x8x1024) (constant S_ .f32 0x00000000#32) reducesTo_S8x64x8x1024_S8x8x1024_d1 h_S_) shapeCasts_S8x8x1024_S64x1024 : FVec Ideal S64x1024 .f32)
    = LossSpec.squares (LossSpec.error X A W T) := by
  funext y
  unfold LossSpec.squares LossSpec.error LayerSpec.residual
  pointwise []

end

theorem algebraic : Cert.algebraic_LastIdeal_LastRefIdeal := fun m g m' g' _ hag =>
  ⟨fun c => (Cert.LastIdeal.Gen.dats m 0 c).arrAt 4 Cert.LastIdeal.cfg0.N, fun c => (Cert.LastIdeal.Gen.dats m 0 c).arrAt 5 Cert.LastIdeal.cfg0.N, fun c => (Cert.LastIdeal.Gen.dats m 0 c).arrAt 6 Cert.LastIdeal.cfg0.N,
    Cert.LastIdeal.Value.run_blocks m g,
    (θ_run Cert.LastRefIdeal.defs _ _).mono
      (fun _ h c => by
        obtain ⟨h0, h1, h2, h3, h4, h5, h6, h7, h8⟩ := hag c
        obtain ⟨o0, o1, o2, hA⟩ := h c
        rw [h0, h1, h2, h4] at o0
        rw [h0, h1, h2, h4] at o1
        rw [h0, h1, h2, h4] at o2
        exact ⟨o0.trans ((reference_first _ _ _ _).trans (Cert.LastIdeal.Whole.final4 m c).symm), o1.trans ((reference_second _ _ _ _).trans (Cert.LastIdeal.Whole.final5 m c).symm), o2.trans (((reference_first _ _ _ _)).trans (Cert.LastIdeal.Whole.final6 m c).symm), hA⟩)
      (Cert.LastRefIdeal.Value.run (F := Ideal) m' g')⟩

end Cert.LastProof

end
-- ==== Proof.MergeSpec.lean ====
/-
  The merging of the three branches, written at an index: each branch is projected up and multiplied by the sigmoid of its gate.
-/
module

public import proofs.«01_k».proof.Proof.LayerSpec

@[expose] public section

noncomputable section

open Idealize.ShloMosaic

namespace Cert.MergeSpec

/-- The sigmoid. -/
def sigmoid (a : EReal) : EReal := Ideal.div 1 (1 + Ideal.exp (-a))

/-- What the gate of branch `k` is the sigmoid of: a column of the input projection and the bias. -/
def gateIn (z : FVec Ideal ⟨2, ![4096, 7424]⟩ .f32) (b : FVec Ideal ⟨2, ![1, 3072]⟩ .f32) (k : Fin 3) (i : Fin 4096) (j : Fin 1024) :
    EReal :=
  z (ix2 i ⟨4352 + (k.val * 1024 + j.val), by omega⟩) + b (ix2 0 ⟨k.val * 1024 + j.val, by omega⟩)

/-- Branch `k`, projected up, times its gate. -/
def branch {w : Nat} (z : FVec Ideal ⟨2, ![4096, 7424]⟩ .f32) (b : FVec Ideal ⟨2, ![1, 3072]⟩ .f32) (k : Fin 3)
    (y : FVec Ideal ⟨2, ![4096, w]⟩ .f32) (W : FVec Ideal ⟨2, ![w, 1024]⟩ .f32) : FVec Ideal ⟨2, ![4096, 1024]⟩ .f32 :=
  fun i => sigmoid (gateIn z b k (i 0) (i 1)) * LayerSpec.product y W i

/-- A branch at an index, from the entries it is computed of. -/
theorem branch_of {w : Nat} {z : FVec Ideal ⟨2, ![4096, 7424]⟩ .f32} {b : FVec Ideal ⟨2, ![1, 3072]⟩ .f32} {k : Fin 3}
    {y : FVec Ideal ⟨2, ![4096, w]⟩ .f32} {W : FVec Ideal ⟨2, ![w, 1024]⟩ .f32} {i : Shape.Idx ⟨2, ![4096, 1024]⟩} {p q : EReal}
    {u v : Fin w → EReal} (hp : p = z (ix2 (i 0) ⟨4352 + (k.val * 1024 + (i 1).val), by have := (i 1).isLt; simp at this; omega⟩))
    (hq : q = b (ix2 0 ⟨k.val * 1024 + (i 1).val, by have := (i 1).isLt; simp at this; omega⟩))
    (hu : ∀ x, u x = y (ix2 (i 0) x)) (hv : ∀ x, v x = W (ix2 x (i 1))) :
    Ideal.div 1 (1 + Ideal.exp (0 - (p + q))) * (∑ x, u x * v x) = branch z b k y W i := by
  rw [hp, hq, sub_eq_add_neg, zero_add]
  exact congrArg₂ (· * ·) rfl (Finset.sum_congr rfl fun x _ => congrArg₂ (· * ·) (hu x) (hv x))

/-- The three branches added. -/
def merged (z : FVec Ideal ⟨2, ![4096, 7424]⟩ .f32) (b : FVec Ideal ⟨2, ![1, 3072]⟩ .f32)
    (yp yc : FVec Ideal ⟨2, ![4096, 512]⟩ .f32) (ya : FVec Ideal ⟨2, ![4096, 256]⟩ .f32)
    (wp wc : FVec Ideal ⟨2, ![512, 1024]⟩ .f32) (wa : FVec Ideal ⟨2, ![256, 1024]⟩ .f32) : FVec Ideal ⟨2, ![4096, 1024]⟩ .f32 :=
  fun i => branch z b 0 yp wp i + branch z b 1 yc wc i + branch z b 2 ya wa i

end Cert.MergeSpec

end
-- ==== Proof.MergeBlock.lean ====
/-
  What the merging of the branches leaves in its result array.
-/
module

public import proofs.«01_k».proof.Proof.Gen.MergeIdeal.Value
public import proofs.«01_k».proof.Proof.MergeSpec
public import Idealize.ShloMosaic.Lib.Pipeline.ValueKit
public import Idealize.ShloMosaic.Lib.Claim
public import Idealize.ShloMosaic.Lib.StableHlo.RunClose

@[expose] public section

set_option maxRecDepth 16384

noncomputable section

open Idealize.ShloMosaic Idealize.ShloMosaic.TcCoe Idealize.SL.Sem

namespace Cert.MergeIdeal.Whole

open Cert.MergeIdeal Cert.MergeIdeal.Gen

variable (m : (ℓ : Loc nD τ sig) → Buf (Elt Ideal) ℓ)

theorem idx : ∀ t : Fin cfg0.N, (win0_0.index t = ![t.val / 4, 0] ∧ win0_1.index t = ![t.val / 4, 0]
    ∧ win0_2.index t = ![t.val / 4, 0] ∧ win0_3.index t = ![t.val % 4, 0] ∧ win0_4.index t = ![t.val % 4, 0]
    ∧ win0_5.index t = ![t.val % 4, 0]) ∧ (win0_6.index t = ![t.val / 4, 17 + t.val % 4]
    ∧ win0_7.index t = ![t.val / 4, 21 + t.val % 4] ∧ win0_8.index t = ![t.val / 4, 25 + t.val % 4]
    ∧ win0_9.index t = ![0, t.val % 4] ∧ win0_10.index t = ![0, 4 + t.val % 4] ∧ win0_11.index t = ![0, 8 + t.val % 4])
    ∧ win0_12.index t = ![t.val / 4, t.val % 4] := (by decide +kernel : ∀ t : Fin grid0.N, _)

/-- The merged branches. -/
abbrev result (c : Dev nD) : FVec Ideal S4096x1024 .bf16 :=
  MergeSpec.merged (m ((c : Thread nD τ).loc main_arg0)) (m ((c : Thread nD τ).loc main_arg1))
    (m ((c : Thread nD τ).loc main_arg2)) (m ((c : Thread nD τ).loc main_arg3))
    (m ((c : Thread nD τ).loc main_arg4)) (m ((c : Thread nD τ).loc main_arg5))
    (m ((c : Thread nD τ).loc main_arg6)) (m ((c : Thread nD τ).loc main_arg7))

/-- The three weights are transposed before the call. -/
theorem entry3 (c : Dev nD) (j : Fin 1024) (k : Fin 512) : V m c main_v3 (ix2 j k) = (m ((c : Thread nD τ).loc main_arg5)) (ix2 k j) := by
  have h : V m c main_v3 = (truncf .bf16 (transpose S1024x512 [1, 0] ((m ((c : Thread nD τ).loc main_arg5)) : FVec Ideal _ .f32) transposes_S512x1024_S1024x512_1_0) bitsLt_bf16_f32 : FVec Ideal _ .bf16) := by
    show StableHlo.after hostOps0 (fun b => m (c, b)) (Proc.devRef .tc main_v3) = _
    after_results_entrywise (rounds := 1) []
  rw [h]
  pointwise []

theorem entry4 (c : Dev nD) (j : Fin 1024) (k : Fin 512) : V m c main_v5 (ix2 j k) = (m ((c : Thread nD τ).loc main_arg6)) (ix2 k j) := by
  have h : V m c main_v5 = (truncf .bf16 (transpose S1024x512 [1, 0] ((m ((c : Thread nD τ).loc main_arg6)) : FVec Ideal _ .f32) transposes_S512x1024_S1024x512_1_0) bitsLt_bf16_f32 : FVec Ideal _ .bf16) := by
    show StableHlo.after hostOps0 (fun b => m (c, b)) (Proc.devRef .tc main_v5) = _
    after_results_entrywise (rounds := 1) []
  rw [h]
  pointwise []

theorem entry5 (c : Dev nD) (j : Fin 1024) (k : Fin 256) : V m c main_v7 (ix2 j k) = (m ((c : Thread nD τ).loc main_arg7)) (ix2 k j) := by
  have h : V m c main_v7 = (truncf .bf16 (transpose S1024x256 [1, 0] ((m ((c : Thread nD τ).loc main_arg7)) : FVec Ideal _ .f32) transposes_S256x1024_S1024x256_1_0) bitsLt_bf16_f32 : FVec Ideal _ .bf16) := by
    show StableHlo.after hostOps0 (fun b => m (c, b)) (Proc.devRef .tc main_v7) = _
    after_results_entrywise (rounds := 1) []
  rw [h]
  pointwise []

/-- A block of the pool's branch. -/
theorem pool (c : Dev nD) (t : Fin cfg0.N) (y : S2048x256.Idx) :
    k0_pay2 (iblk m c 0 t) (iblk m c 3 t) (iblk m c 6 t) (iblk m c 9 t) y
    = MergeSpec.branch (m ((c : Thread nD τ).loc main_arg0)) (m ((c : Thread nD τ).loc main_arg1)) 0
        (m ((c : Thread nD τ).loc main_arg2)) (m ((c : Thread nD τ).loc main_arg5)) (((cfg0.win 12).blk t).view.emb y) := by
  refine Eq.trans (?_ : _ = Ideal.div 1 (1 + Ideal.exp (0 - @HAdd.hAdd EReal EReal EReal _ (iblk m c 6 t y) (iblk m c 9 t (ix2 0 (y 1)))))
    * (∑ k : Fin 512, @HMul.hMul EReal EReal EReal _ (iblk m c 0 t (ix2 (y 0) k)) (iblk m c 3 t (ix2 (y 1) k)))) (MergeSpec.branch_of ?_ ?_ (fun k => ?_) fun k => ?_)
  · pointwise [k0_pay2]
  · blk_point [iblk, V, idx t]
  · blk_point [iblk, V, idx t]
  · blk_point [iblk, V, idx t]
  · refine Eq.trans ?_ (entry3 m c ((((cfg0.win 12).blk t).view.emb y) 1) k)
    blk_point [iblk, idx t]

/-- A block of the convolution's branch. -/
theorem conv (c : Dev nD) (t : Fin cfg0.N) (y : S2048x256.Idx) :
    k0_pay3 (iblk m c 1 t) (iblk m c 4 t) (iblk m c 7 t) (iblk m c 10 t) y
    = MergeSpec.branch (m ((c : Thread nD τ).loc main_arg0)) (m ((c : Thread nD τ).loc main_arg1)) 1
        (m ((c : Thread nD τ).loc main_arg3)) (m ((c : Thread nD τ).loc main_arg6)) (((cfg0.win 12).blk t).view.emb y) := by
  refine Eq.trans (?_ : _ = Ideal.div 1 (1 + Ideal.exp (0 - @HAdd.hAdd EReal EReal EReal _ (iblk m c 7 t y) (iblk m c 10 t (ix2 0 (y 1)))))
    * (∑ k : Fin 512, @HMul.hMul EReal EReal EReal _ (iblk m c 1 t (ix2 (y 0) k)) (iblk m c 4 t (ix2 (y 1) k)))) (MergeSpec.branch_of ?_ ?_ (fun k => ?_) fun k => ?_)
  · pointwise [k0_pay3]
  · blk_point [iblk, V, idx t]
  · blk_point [iblk, V, idx t]
  · blk_point [iblk, V, idx t]
  · refine Eq.trans ?_ (entry4 m c ((((cfg0.win 12).blk t).view.emb y) 1) k)
    blk_point [iblk, idx t]

/-- A block of the result: the two branches before, and the attention's. -/
theorem point (c : Dev nD) (t : Fin cfg0.N) (y : S2048x256.Idx) :
    k0_pay1 (k0_pay2 (iblk m c 0 t) (iblk m c 3 t) (iblk m c 6 t) (iblk m c 9 t))
      (k0_pay3 (iblk m c 1 t) (iblk m c 4 t) (iblk m c 7 t) (iblk m c 10 t))
      (iblk m c 2 t) (iblk m c 5 t) (iblk m c 8 t) (iblk m c 11 t) y = result m c (((cfg0.win 12).blk t).view.emb y) := by
  refine Eq.trans (?_ : _ = (k0_pay2 (iblk m c 0 t) (iblk m c 3 t) (iblk m c 6 t) (iblk m c 9 t) y
      + k0_pay3 (iblk m c 1 t) (iblk m c 4 t) (iblk m c 7 t) (iblk m c 10 t) y)
      + Ideal.div 1 (1 + Ideal.exp (0 - @HAdd.hAdd EReal EReal EReal _ (iblk m c 8 t y) (iblk m c 11 t (ix2 0 (y 1)))))
      * (∑ k : Fin 256, @HMul.hMul EReal EReal EReal _ (iblk m c 2 t (ix2 (y 0) k)) (iblk m c 5 t (ix2 (y 1) k))))
    (congrArg₂ (· + ·) (congrArg₂ (· + ·) (pool m c t y) (conv m c t y)) (MergeSpec.branch_of (z := (m ((c : Thread nD τ).loc main_arg0))) (b := (m ((c : Thread nD τ).loc main_arg1))) (k := 2) (y := (m ((c : Thread nD τ).loc main_arg4))) (W := (m ((c : Thread nD τ).loc main_arg7))) (i := (((cfg0.win 12).blk t).view.emb y)) ?_ ?_ (fun k => ?_) fun k => ?_))
  · pointwise [k0_pay1]
  · blk_point [iblk, V, idx t]
  · blk_point [iblk, V, idx t]
  · blk_point [iblk, V, idx t]
  · refine Eq.trans ?_ (entry5 m c ((((cfg0.win 12).blk t).view.emb y) 1) k)
    blk_point [iblk, idx t]

/-- The result array after the run. -/
theorem final (c : Dev nD) : (dats m 0 c).arrAt 12 (cfgs 0).N = result m c := by
  refine (dats m 0 c).arrAt_eq_of_covers 12 _ (by decide +kernel) fun t _ y => ?_
  blk_simp
  rw [after0_12]
  unfold out0_12
  frame_out
  exact point m c t y

end Cert.MergeIdeal.Whole

end
-- ==== Proof.MergeClaims.lean ====
/-
  The claims about the merging of the branches.
-/
module

public import proofs.«01_k».proof.Defs
public import proofs.«01_k».proof.Proof.Gen.Merge.Frame
public import proofs.«01_k».proof.Proof.Gen.MergeRefIdeal.Run
public import proofs.«01_k».proof.Proof.MergeBlock
public import Idealize.ShloMosaic.Lib.Quiescent

@[expose] public section

set_option maxRecDepth 16384

open Idealize.ShloMosaic Idealize.ShloMosaic.TcCoe Idealize.SL.Sem

namespace Cert.MergeProof

theorem quiescent_kernel : Cert.quiescent_Merge := fun m g _ => Cert.Merge.Gen.frame m g

theorem quiescent_ideal : Cert.quiescent_MergeIdeal := fun m g _ => Cert.MergeIdeal.Gen.frame m g

theorem quiescent_reference : Cert.quiescent_MergeRefIdeal := fun m g _ =>
  (θ_run Cert.MergeRefIdeal.defs _ _).mono
    (fun r h => ⟨fun c => (h c).2, Idealize.ShloMosaic.sem_eq_zero_of_no_sems (by decide) r.2⟩)
    (Cert.MergeRefIdeal.Value.run (F := Ideal) m g)

section
open Cert.MergeRefIdeal Cert.MergeRefIdeal.Gen

/-- The reference's result, read at an index. -/
theorem reference_result (z : FVec Ideal S4096x7424 .f32) (b : FVec Ideal S1x3072 .f32) (yp yc : FVec Ideal S4096x512 .f32)
    (ya : FVec Ideal S4096x256 .f32) (wp wc : FVec Ideal S512x1024 .f32) (wa : FVec Ideal S256x1024 .f32) :
    (truncf .bf16 (addf (addf
      (mulf (extractStridedSlice S4096x1024 ![0, 0] (Host.divf (broadcastInDim S4096x3072 ![] bcast_S_S4096x3072 (constant S_ .f32 0x3F800000#32)) (addf (broadcastInDim S4096x3072 ![] bcast_S_S4096x3072 (constant S_ .f32 0x3F800000#32)) (Host.exp (Host.negf (addf (extractStridedSlice S4096x3072 ![0, 4352] z slices_S4096x7424_S4096x3072_0_4352) (broadcastInDim S4096x3072 ![0, 1] bcast_S1x3072_S4096x3072_0_1 b)))))) slices_S4096x3072_S4096x1024_0_0) (Host.dotGeneral (φ₁ := .f32) (φ₂ := .f32) dot_S4096x512_S512x1024_S4096x1024_1_0_0_1_n_n none yp wp))
      (mulf (extractStridedSlice S4096x1024 ![0, 1024] (Host.divf (broadcastInDim S4096x3072 ![] bcast_S_S4096x3072 (constant S_ .f32 0x3F800000#32)) (addf (broadcastInDim S4096x3072 ![] bcast_S_S4096x3072 (constant S_ .f32 0x3F800000#32)) (Host.exp (Host.negf (addf (extractStridedSlice S4096x3072 ![0, 4352] z slices_S4096x7424_S4096x3072_0_4352) (broadcastInDim S4096x3072 ![0, 1] bcast_S1x3072_S4096x3072_0_1 b)))))) slices_S4096x3072_S4096x1024_0_1024) (Host.dotGeneral (φ₁ := .f32) (φ₂ := .f32) dot_S4096x512_S512x1024_S4096x1024_1_0_0_1_n_n none yc wc)))
      (mulf (extractStridedSlice S4096x1024 ![0, 2048] (Host.divf (broadcastInDim S4096x3072 ![] bcast_S_S4096x3072 (constant S_ .f32 0x3F800000#32)) (addf (broadcastInDim S4096x3072 ![] bcast_S_S4096x3072 (constant S_ .f32 0x3F800000#32)) (Host.exp (Host.negf (addf (extractStridedSlice S4096x3072 ![0, 4352] z slices_S4096x7424_S4096x3072_0_4352) (broadcastInDim S4096x3072 ![0, 1] bcast_S1x3072_S4096x3072_0_1 b)))))) slices_S4096x3072_S4096x1024_0_2048) (Host.dotGeneral (φ₁ := .f32) (φ₂ := .f32) dot_S4096x256_S256x1024_S4096x1024_1_0_0_1_n_n none ya wa))) bitsLt_bf16_f32 : FVec Ideal S4096x1024 .bf16)
    = MergeSpec.merged z b yp yc ya wp wc wa := by
  funext y
  unfold MergeSpec.merged MergeSpec.branch MergeSpec.sigmoid MergeSpec.gateIn LayerSpec.product
  pointwise []

end

theorem algebraic : Cert.algebraic_MergeIdeal_MergeRefIdeal := fun m g m' g' _ hag =>
  ⟨fun c => (Cert.MergeIdeal.Gen.dats m 0 c).arrAt 12 Cert.MergeIdeal.cfg0.N,
    Cert.MergeIdeal.Value.run_blocks m g,
    (θ_run Cert.MergeRefIdeal.defs _ _).mono
      (fun _ h c => by
        obtain ⟨h0, h1, h2, h3, h4, h5, h6, h7⟩ := hag c
        obtain ⟨o0, hA⟩ := h c
        rw [h0, h1, h2, h3, h4, h5, h6, h7] at o0
        exact ⟨o0.trans ((reference_result _ _ _ _ _ _ _ _).trans (Cert.MergeIdeal.Whole.final m c).symm), hA⟩)
      (Cert.MergeRefIdeal.Value.run (F := Ideal) m' g')⟩

end Cert.MergeProof

end
-- ==== Proof.LossClaims.lean ====
/-
  The claims about the loss summed.
-/
module

public import proofs.«01_k».proof.Defs
public import proofs.«01_k».proof.Proof.Gen.Loss.Frame
public import proofs.«01_k».proof.Proof.Gen.LossRefIdeal.Run
public import proofs.«01_k».proof.Proof.Gen.LossIdeal.Value
public import proofs.«01_k».proof.Proof.LossSpec
public import Idealize.ShloMosaic.Lib.Pipeline.ValueKit
public import Idealize.ShloMosaic.Lib.Quiescent

@[expose] public section

set_option maxRecDepth 16384

open Idealize.ShloMosaic Idealize.ShloMosaic.TcCoe Idealize.SL.Sem

namespace Cert.LossProof

theorem quiescent_kernel : Cert.quiescent_Loss := fun m g _ => Cert.Loss.Gen.frame m g

theorem quiescent_ideal : Cert.quiescent_LossIdeal := fun m g _ => Cert.LossIdeal.Gen.frame m g

theorem quiescent_reference : Cert.quiescent_LossRefIdeal := fun m g _ =>
  (θ_run Cert.LossRefIdeal.defs _ _).mono
    (fun r h => ⟨fun c => (h c).2, Idealize.ShloMosaic.sem_eq_zero_of_no_sems (by decide) r.2⟩)
    (Cert.LossRefIdeal.Value.run (F := Ideal) m g)

section
open Cert.LossRefIdeal Cert.LossRefIdeal.Gen

/-- The kernel's sum and the reference's, at the one index. -/
theorem sums (P : FVec Ideal S64x1024 .f32) :
    (shapeCast _ (Host.divf (mulf (constant S_ .f32 0x3F000000#32) (Host.reduceAdd P (constant S_ .f32 0x00000000#32) reducesTo_S64x1024_S_d0_1 h_S_)) (constant S_ .f32 0x44800000#32)) shapeCasts_S_S1x1 : FVec Ideal S1x1 .f32)
    = (Cert.LossIdeal.Value.G1 (F := Ideal) P : FVec Ideal S1x1 .f32) := by
  funext y
  unfold Cert.LossIdeal.Value.G1
  pointwise [Cert.LossIdeal.Gen.k0_pay1]
  exact (LossSpec.half_mean _).trans (congrArg (· * _) Finset.sum_comm)

end

theorem algebraic : Cert.algebraic_LossIdeal_LossRefIdeal := fun m g m' g' _ hag =>
  ⟨fun c => (Cert.LossIdeal.Gen.dats m 0 c).arrAt 1 Cert.LossIdeal.cfg0.N,
    (θ_run Cert.LossIdeal.defs _ _).mono (fun r h c => ⟨(h c).1.trans (Cert.LossIdeal.Value.final1 m c).symm, (h c).2⟩)
      (Cert.LossIdeal.Value.run m g),
    (θ_run Cert.LossRefIdeal.defs _ _).mono
      (fun _ h c => by
        have h0 := hag c
        obtain ⟨o0, hA⟩ := h c
        rw [h0] at o0
        exact ⟨o0.trans ((sums _).trans (Cert.LossIdeal.Value.final1 m c).symm), hA⟩)
      (Cert.LossRefIdeal.Value.run (F := Ideal) m' g')⟩

end Cert.LossProof

end
-- ==== Proof.AdamSpec.lean ====
/-
  The optimiser's step for an array whose gradient arrives transposed, written at an index.
-/
module

public import Idealize.ShloMosaic.Lib.Pointwise

@[expose] public section

noncomputable section

open Idealize.ShloMosaic

namespace Cert.AdamSpec

/-- Three-dimensional arrays of the weight's shape, and of the gradient's. -/
abbrev Weight := FVec Ideal ⟨3, ![2, 1024, 512]⟩ .f32
abbrev Grad := FVec Ideal ⟨3, ![2, 512, 1024]⟩ .f32

/-- The gradient, its last two axes exchanged. -/
def turned (g : Grad) : Weight := fun y => g (ix3 (y 0) (y 2) (y 1))

/-- The first moment. -/
def first (g : Grad) (m : Weight) : Weight :=
  fun y => Ideal.ofBits .f32 0x3F666666#32 * m y + Ideal.ofBits .f32 0x3DCCCCCD#32 * turned g y

/-- The second moment. -/
def second (g : Grad) (v : Weight) : Weight :=
  fun y => Ideal.ofBits .f32 0x3F7FBE77#32 * v y + Ideal.ofBits .f32 0x3A83126F#32 * (turned g y * turned g y)

/-- The change of the weight. -/
def delta (p : Weight) (g : Grad) (m v : Weight) : Weight := fun y =>
  Ideal.ofBits .f32 0xBA83126F#32 * (Ideal.div (Ideal.div (first g m y) (Ideal.ofBits .f32 0x3F26BD02#32))
    (Ideal.sqrt (Ideal.div (second g v y) (Ideal.ofBits .f32 0x3C231ACC#32)) + Ideal.ofBits .f32 0x322BCC77#32)
    + Ideal.ofBits .f32 0x3C23D70A#32 * p y)

end Cert.AdamSpec

end
-- ==== Proof.AdamTBlock.lean ====
/-
  What the optimiser's step for the up projection's weight leaves in its four result arrays.
-/
module

public import proofs.«01_k».proof.Proof.Gen.AdamTIdeal.Value
public import proofs.«01_k».proof.Proof.AdamSpec
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem

namespace Cert.AdamTIdeal.Whole

open Cert.AdamTIdeal Cert.AdamTIdeal.Gen

variable (m : (ℓ : Loc nD τ sig) → Buf (Elt Ideal) ℓ)

theorem idx : ∀ t : Fin cfg0.N, (win0_0.index t = ![t.val / 4, t.val % 4, 0] ∧ win0_1.index t = ![t.val / 4, 0, t.val % 4]
    ∧ win0_2.index t = ![t.val / 4, t.val % 4, 0] ∧ win0_3.index t = ![t.val / 4, t.val % 4, 0])
    ∧ win0_4.index t = ![t.val / 4, t.val % 4, 0] ∧ win0_5.index t = ![t.val / 4, t.val % 4, 0]
    ∧ win0_6.index t = ![t.val / 4, t.val % 4, 0] ∧ win0_7.index t = ![t.val / 4, t.val % 4, 0] :=
  (by decide +kernel : ∀ t : Fin grid0.N, _)

/-- Where an index of a block lies in the whole. -/
abbrev place (t : Fin cfg0.N) (i : Fin 256) (j : Fin 512) : S2x1024x512.Idx :=
  ix3 ⟨t.val / 4, by have h : t.val < 8 := t.isLt; omega⟩ ⟨t.val % 4 * 256 + i.val, by omega⟩ j

/-- The blocks of the four arguments. -/
theorem grad (c : Dev nD) (t : Fin cfg0.N) (i : Fin 256) (j : Fin 512) :
    iblk m c 1 t (ix3 0 j i) = AdamSpec.turned (m ((c : Thread nD τ).loc main_arg1)) (place t i j) := by
  unfold AdamSpec.turned place
  blk_point [iblk, V, idx t]

theorem weight (c : Dev nD) (t : Fin cfg0.N) (i : Fin 256) (j : Fin 512) : iblk m c 0 t (ix3 0 i j) = (m ((c : Thread nD τ).loc main_arg0)) (place t i j) := by
  unfold place
  blk_point [iblk, V, idx t]

theorem moment (c : Dev nD) (t : Fin cfg0.N) (i : Fin 256) (j : Fin 512) : iblk m c 2 t (ix3 0 i j) = (m ((c : Thread nD τ).loc main_arg2)) (place t i j) := by
  unfold place
  blk_point [iblk, V, idx t]

theorem square (c : Dev nD) (t : Fin cfg0.N) (i : Fin 256) (j : Fin 512) : iblk m c 3 t (ix3 0 i j) = (m ((c : Thread nD τ).loc main_arg3)) (place t i j) := by
  unfold place
  blk_point [iblk, V, idx t]

/-- The gradient, turned. -/
theorem turned (c : Dev nD) (t : Fin cfg0.N) (i : Fin 256) (j : Fin 512) : k0_pay5 (iblk m c 1 t) (ix3 0 i j) = AdamSpec.turned (m ((c : Thread nD τ).loc main_arg1)) (place t i j) := by
  pointwise [k0_pay5, k0_pay4]
  rw [grad]

theorem emb4 (t : Fin cfg0.N) (i : Fin 256) (j : Fin 512) : ((cfg0.win 4).blk t).view.emb (ix3 0 i j) = place t i j := by
  unfold place
  blk_ext [idx t]

theorem final4 (c : Dev nD) : (dats m 0 c).arrAt 4 (cfgs 0).N = AdamSpec.turned (m ((c : Thread nD τ).loc main_arg1)) := by
  refine (dats m 0 c).arrAt_eq_of_covers 4 _ (by decide +kernel) fun t _ y => ?_
  obtain ⟨z, i, j, rfl⟩ : ∃ (z : Fin 1) (i : Fin 256) (j : Fin 512), y = ix3 z i j := ⟨_, _, _, eq_ix3 y⟩
  obtain rfl : z = 0 := Subsingleton.elim _ _
  blk_simp
  rw [after0_4]
  unfold out0_4
  frame_out
  exact (turned m c t i j).trans (congrArg (AdamSpec.turned (m ((c : Thread nD τ).loc main_arg1))) (emb4 t i j).symm)

/-- The change of the weight. -/
theorem delta (c : Dev nD) (t : Fin cfg0.N) (i : Fin 256) (j : Fin 512) : k0_pay1 (k0_pay8 (iblk m c 1 t) (iblk m c 2 t) (iblk m c 3 t) (iblk m c 0 t)) (ix3 0 i j) = AdamSpec.delta (m ((c : Thread nD τ).loc main_arg0)) (m ((c : Thread nD τ).loc main_arg1)) (m ((c : Thread nD τ).loc main_arg2)) (m ((c : Thread nD τ).loc main_arg3)) (place t i j) := by
  unfold AdamSpec.delta AdamSpec.first AdamSpec.second
  pointwise [k0_pay1, k0_pay8, k0_pay7, k0_pay6, k0_pay4]
  rw [grad, weight, moment, square]

theorem emb5 (t : Fin cfg0.N) (i : Fin 256) (j : Fin 512) : ((cfg0.win 5).blk t).view.emb (ix3 0 i j) = place t i j := by
  unfold place
  blk_ext [idx t]

theorem final5 (c : Dev nD) : (dats m 0 c).arrAt 5 (cfgs 0).N = AdamSpec.delta (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  obtain ⟨z, i, j, rfl⟩ : ∃ (z : Fin 1) (i : Fin 256) (j : Fin 512), y = ix3 z i j := ⟨_, _, _, eq_ix3 y⟩
  obtain rfl : z = 0 := Subsingleton.elim _ _
  blk_simp
  rw [after0_5]
  unfold out0_5
  frame_out
  exact (delta m c t i j).trans (congrArg (AdamSpec.delta (m ((c : Thread nD τ).loc main_arg0)) (m ((c : Thread nD τ).loc main_arg1)) (m ((c : Thread nD τ).loc main_arg2)) (m ((c : Thread nD τ).loc main_arg3))) (emb5 t i j).symm)

/-- The first moment. -/
theorem first (c : Dev nD) (t : Fin cfg0.N) (i : Fin 256) (j : Fin 512) : k0_pay2 (k0_pay6 (iblk m c 1 t) (iblk m c 2 t)) (ix3 0 i j) = AdamSpec.first (m ((c : Thread nD τ).loc main_arg1)) (m ((c : Thread nD τ).loc main_arg2)) (place t i j) := by
  unfold AdamSpec.first
  pointwise [k0_pay2, k0_pay6, k0_pay4]
  rw [grad, moment]

theorem emb6 (t : Fin cfg0.N) (i : Fin 256) (j : Fin 512) : ((cfg0.win 6).blk t).view.emb (ix3 0 i j) = place t i j := by
  unfold place
  blk_ext [idx t]

theorem final6 (c : Dev nD) : (dats m 0 c).arrAt 6 (cfgs 0).N = AdamSpec.first (m ((c : Thread nD τ).loc main_arg1)) (m ((c : Thread nD τ).loc main_arg2)) := by
  refine (dats m 0 c).arrAt_eq_of_covers 6 _ (by decide +kernel) fun t _ y => ?_
  obtain ⟨z, i, j, rfl⟩ : ∃ (z : Fin 1) (i : Fin 256) (j : Fin 512), y = ix3 z i j := ⟨_, _, _, eq_ix3 y⟩
  obtain rfl : z = 0 := Subsingleton.elim _ _
  blk_simp
  rw [after0_6]
  unfold out0_6
  frame_out
  exact (first m c t i j).trans (congrArg (AdamSpec.first (m ((c : Thread nD τ).loc main_arg1)) (m ((c : Thread nD τ).loc main_arg2))) (emb6 t i j).symm)

/-- The second moment. -/
theorem second (c : Dev nD) (t : Fin cfg0.N) (i : Fin 256) (j : Fin 512) : k0_pay3 (k0_pay7 (iblk m c 1 t) (iblk m c 3 t)) (ix3 0 i j) = AdamSpec.second (m ((c : Thread nD τ).loc main_arg1)) (m ((c : Thread nD τ).loc main_arg3)) (place t i j) := by
  unfold AdamSpec.second
  pointwise [k0_pay3, k0_pay7, k0_pay4]
  rw [grad, square]

theorem emb7 (t : Fin cfg0.N) (i : Fin 256) (j : Fin 512) : ((cfg0.win 7).blk t).view.emb (ix3 0 i j) = place t i j := by
  unfold place
  blk_ext [idx t]

theorem final7 (c : Dev nD) : (dats m 0 c).arrAt 7 (cfgs 0).N = AdamSpec.second (m ((c : Thread nD τ).loc main_arg1)) (m ((c : Thread nD τ).loc main_arg3)) := by
  refine (dats m 0 c).arrAt_eq_of_covers 7 _ (by decide +kernel) fun t _ y => ?_
  obtain ⟨z, i, j, rfl⟩ : ∃ (z : Fin 1) (i : Fin 256) (j : Fin 512), y = ix3 z i j := ⟨_, _, _, eq_ix3 y⟩
  obtain rfl : z = 0 := Subsingleton.elim _ _
  blk_simp
  rw [after0_7]
  unfold out0_7
  frame_out
  exact (second m c t i j).trans (congrArg (AdamSpec.second (m ((c : Thread nD τ).loc main_arg1)) (m ((c : Thread nD τ).loc main_arg3))) (emb7 t i j).symm)

end Cert.AdamTIdeal.Whole

end
-- ==== Proof.AdamTClaims.lean ====
/-
  The claims about the optimiser's step for the up projection's weight.
-/
module

public import proofs.«01_k».proof.Defs
public import proofs.«01_k».proof.Proof.Gen.AdamT.Frame
public import proofs.«01_k».proof.Proof.Gen.AdamTRefIdeal.Run
public import proofs.«01_k».proof.Proof.AdamTBlock
public import Idealize.ShloMosaic.Lib.Quiescent

@[expose] public section

set_option maxRecDepth 16384

open Idealize.ShloMosaic Idealize.ShloMosaic.TcCoe Idealize.SL.Sem

namespace Cert.AdamTProof

theorem quiescent_kernel : Cert.quiescent_AdamT := fun m g _ => Cert.AdamT.Gen.frame m g

theorem quiescent_ideal : Cert.quiescent_AdamTIdeal := fun m g _ => Cert.AdamTIdeal.Gen.frame m g

theorem quiescent_reference : Cert.quiescent_AdamTRefIdeal := fun m g _ =>
  (θ_run Cert.AdamTRefIdeal.defs _ _).mono
    (fun r h => ⟨fun c => (h c).2.2.2.2, Idealize.ShloMosaic.sem_eq_zero_of_no_sems (by decide) r.2⟩)
    (Cert.AdamTRefIdeal.Value.run (F := Ideal) m g)

section
open Cert.AdamTRefIdeal Cert.AdamTRefIdeal.Gen

/-! The reference's results, read at an index. -/

theorem reference_turned (G : FVec Ideal S2x512x1024 .f32) :
    (transpose S2x1024x512 [0, 2, 1] G transposes_S2x512x1024_S2x1024x512_0_2_1 : FVec Ideal S2x1024x512 .f32)
    = AdamSpec.turned G := by
  funext y
  unfold AdamSpec.turned
  pointwise []

theorem reference_delta (P : FVec Ideal S2x1024x512 .f32) (G : FVec Ideal S2x512x1024 .f32) (M : FVec Ideal S2x1024x512 .f32) (V : FVec Ideal S2x1024x512 .f32) :
    (mulf (broadcastInDim S2x1024x512 ![] bcast_S_S2x1024x512 (constant S_ .f32 0xBA83126F#32)) (addf (Host.divf (Host.divf (addf (mulf (broadcastInDim S2x1024x512 ![] bcast_S_S2x1024x512 (constant S_ .f32 0x3F666666#32)) M) (mulf (broadcastInDim S2x1024x512 ![] bcast_S_S2x1024x512 (constant S_ .f32 0x3DCCCCCD#32)) (transpose S2x1024x512 [0, 2, 1] G transposes_S2x512x1024_S2x1024x512_0_2_1))) (broadcastInDim S2x1024x512 ![] bcast_S_S2x1024x512 (constant S_ .f32 0x3F26BD02#32))) (addf (Host.sqrt (Host.divf (addf (mulf (broadcastInDim S2x1024x512 ![] bcast_S_S2x1024x512 (constant S_ .f32 0x3F7FBE77#32)) V) (mulf (broadcastInDim S2x1024x512 ![] bcast_S_S2x1024x512 (constant S_ .f32 0x3A83126F#32)) (mulf (transpose S2x1024x512 [0, 2, 1] G transposes_S2x512x1024_S2x1024x512_0_2_1) (transpose S2x1024x512 [0, 2, 1] G transposes_S2x512x1024_S2x1024x512_0_2_1)))) (broadcastInDim S2x1024x512 ![] bcast_S_S2x1024x512 (constant S_ .f32 0x3C231ACC#32)))) (broadcastInDim S2x1024x512 ![] bcast_S_S2x1024x512 (constant S_ .f32 0x322BCC77#32)))) (mulf (broadcastInDim S2x1024x512 ![] bcast_S_S2x1024x512 (constant S_ .f32 0x3C23D70A#32)) P)) : FVec Ideal S2x1024x512 .f32)
    = AdamSpec.delta P G M V := by
  funext y
  unfold AdamSpec.delta AdamSpec.first AdamSpec.second AdamSpec.turned
  pointwise []

theorem reference_first (G : FVec Ideal S2x512x1024 .f32) (M : FVec Ideal S2x1024x512 .f32) :
    (addf (mulf (broadcastInDim S2x1024x512 ![] bcast_S_S2x1024x512 (constant S_ .f32 0x3F666666#32)) M) (mulf (broadcastInDim S2x1024x512 ![] bcast_S_S2x1024x512 (constant S_ .f32 0x3DCCCCCD#32)) (transpose S2x1024x512 [0, 2, 1] G transposes_S2x512x1024_S2x1024x512_0_2_1)) : FVec Ideal S2x1024x512 .f32)
    = AdamSpec.first G M := by
  funext y
  unfold AdamSpec.first AdamSpec.turned
  pointwise []

theorem reference_second (G : FVec Ideal S2x512x1024 .f32) (V : FVec Ideal S2x1024x512 .f32) :
    (addf (mulf (broadcastInDim S2x1024x512 ![] bcast_S_S2x1024x512 (constant S_ .f32 0x3F7FBE77#32)) V) (mulf (broadcastInDim S2x1024x512 ![] bcast_S_S2x1024x512 (constant S_ .f32 0x3A83126F#32)) (mulf (transpose S2x1024x512 [0, 2, 1] G transposes_S2x512x1024_S2x1024x512_0_2_1) (transpose S2x1024x512 [0, 2, 1] G transposes_S2x512x1024_S2x1024x512_0_2_1))) : FVec Ideal S2x1024x512 .f32)
    = AdamSpec.second G V := by
  funext y
  unfold AdamSpec.second AdamSpec.turned
  pointwise []

end

theorem algebraic : Cert.algebraic_AdamTIdeal_AdamTRefIdeal := fun m g m' g' _ hag =>
  ⟨fun c => (Cert.AdamTIdeal.Gen.dats m 0 c).arrAt 4 Cert.AdamTIdeal.cfg0.N, fun c => (Cert.AdamTIdeal.Gen.dats m 0 c).arrAt 5 Cert.AdamTIdeal.cfg0.N, fun c => (Cert.AdamTIdeal.Gen.dats m 0 c).arrAt 6 Cert.AdamTIdeal.cfg0.N, fun c => (Cert.AdamTIdeal.Gen.dats m 0 c).arrAt 7 Cert.AdamTIdeal.cfg0.N,
    Cert.AdamTIdeal.Value.run_blocks m g,
    (θ_run Cert.AdamTRefIdeal.defs _ _).mono
      (fun _ h c => by
        obtain ⟨h0, h1, h2, h3⟩ := hag c
        obtain ⟨o0, o1, o2, o3, hA⟩ := h c
        rw [h1] at o0
        rw [h0, h1, h2, h3] at o1
        rw [h1, h2] at o2
        rw [h1, h3] at o3
        exact ⟨o0.trans ((reference_turned _).trans (Cert.AdamTIdeal.Whole.final4 m c).symm), o1.trans ((reference_delta _ _ _ _).trans (Cert.AdamTIdeal.Whole.final5 m c).symm), o2.trans ((reference_first _ _).trans (Cert.AdamTIdeal.Whole.final6 m c).symm), o3.trans ((reference_second _ _).trans (Cert.AdamTIdeal.Whole.final7 m c).symm), hA⟩)
      (Cert.AdamTRefIdeal.Value.run (F := Ideal) m' g')⟩

end Cert.AdamTProof

end
-- ==== Proof.AdamGClaims.lean ====
/-
  The claims about the optimizer's step on a matrix of 1024 rows of 128: the kernel and the reference do the same operations on each entry.
-/
module

public import proofs.«01_k».proof.Defs
public import proofs.«01_k».proof.Proof.Gen.AdamG.Frame
public import proofs.«01_k».proof.Proof.Gen.AdamGIdeal.Value
public import proofs.«01_k».proof.Proof.Gen.AdamGRefIdeal.Run
public import Idealize.ShloMosaic.Lib.Quiescent

@[expose] public section

set_option maxRecDepth 16384

open Idealize.ShloMosaic Idealize.ShloMosaic.TcCoe Idealize.SL.Sem

namespace Cert.AdamGProof

theorem quiescent_kernel : Cert.quiescent_AdamG := fun m g _ => Cert.AdamG.Gen.frame m g

theorem quiescent_ideal : Cert.quiescent_AdamGIdeal := fun m g _ => Cert.AdamGIdeal.Gen.frame m g

theorem quiescent_reference : Cert.quiescent_AdamGRefIdeal := fun m g _ =>
  (θ_run Cert.AdamGRefIdeal.defs _ _).mono
    (fun r h => ⟨fun c => (h c).2.2.2, Idealize.ShloMosaic.sem_eq_zero_of_no_sems (by decide) r.2⟩)
    (Cert.AdamGRefIdeal.Value.run (F := Ideal) m g)

theorem algebraic : Cert.algebraic_AdamGIdeal_AdamGRefIdeal := fun m g m' g' _ hag =>
  ⟨fun c => (Cert.AdamGIdeal.Gen.dats m 0 c).arrAt 4 Cert.AdamGIdeal.cfg0.N,
    fun c => (Cert.AdamGIdeal.Gen.dats m 0 c).arrAt 5 Cert.AdamGIdeal.cfg0.N,
    fun c => (Cert.AdamGIdeal.Gen.dats m 0 c).arrAt 6 Cert.AdamGIdeal.cfg0.N,
    Cert.AdamGIdeal.Value.run_blocks m g,
    (θ_run Cert.AdamGRefIdeal.defs _ _).mono
      (fun _ h c => by
        obtain ⟨h0, h1, h2, h3⟩ := hag c
        obtain ⟨o0, o1, o2, hA⟩ := h c
        rw [h0, h1, h2, h3] at o0
        rw [h1, h2] at o1
        rw [h1, h3] at o2
        refine ⟨o0.trans (Eq.trans ?_ (Cert.AdamGIdeal.Value.final4 m c).symm),
          o1.trans (Eq.trans ?_ (Cert.AdamGIdeal.Value.final5 m c).symm),
          o2.trans (Eq.trans ?_ (Cert.AdamGIdeal.Value.final6 m c).symm), hA⟩ <;>
        · funext y
          rfl)
      (Cert.AdamGRefIdeal.Value.run (F := Ideal) m' g')⟩

end Cert.AdamGProof

end
-- ==== Proof.AdamAClaims.lean ====
/-
  The claims about the optimizer's step on a matrix of 512 rows of 128: the kernel and the reference do the same operations on each entry.
-/
module

public import proofs.«01_k».proof.Defs
public import proofs.«01_k».proof.Proof.Gen.AdamA.Frame
public import proofs.«01_k».proof.Proof.Gen.AdamAIdeal.Value
public import proofs.«01_k».proof.Proof.Gen.AdamARefIdeal.Run
public import Idealize.ShloMosaic.Lib.Quiescent

@[expose] public section

set_option maxRecDepth 16384

open Idealize.ShloMosaic Idealize.ShloMosaic.TcCoe Idealize.SL.Sem

namespace Cert.AdamAProof

theorem quiescent_kernel : Cert.quiescent_AdamA := fun m g _ => Cert.AdamA.Gen.frame m g

theorem quiescent_ideal : Cert.quiescent_AdamAIdeal := fun m g _ => Cert.AdamAIdeal.Gen.frame m g

theorem quiescent_reference : Cert.quiescent_AdamARefIdeal := fun m g _ =>
  (θ_run Cert.AdamARefIdeal.defs _ _).mono
    (fun r h => ⟨fun c => (h c).2.2.2, Idealize.ShloMosaic.sem_eq_zero_of_no_sems (by decide) r.2⟩)
    (Cert.AdamARefIdeal.Value.run (F := Ideal) m g)

theorem algebraic : Cert.algebraic_AdamAIdeal_AdamARefIdeal := fun m g m' g' _ hag =>
  ⟨fun c => (Cert.AdamAIdeal.Gen.dats m 0 c).arrAt 4 Cert.AdamAIdeal.cfg0.N,
    fun c => (Cert.AdamAIdeal.Gen.dats m 0 c).arrAt 5 Cert.AdamAIdeal.cfg0.N,
    fun c => (Cert.AdamAIdeal.Gen.dats m 0 c).arrAt 6 Cert.AdamAIdeal.cfg0.N,
    Cert.AdamAIdeal.Value.run_blocks m g,
    (θ_run Cert.AdamARefIdeal.defs _ _).mono
      (fun _ h c => by
        obtain ⟨h0, h1, h2, h3⟩ := hag c
        obtain ⟨o0, o1, o2, hA⟩ := h c
        rw [h0, h1, h2, h3] at o0
        rw [h1, h2] at o1
        rw [h1, h3] at o2
        refine ⟨o0.trans (Eq.trans ?_ (Cert.AdamAIdeal.Value.final4 m c).symm),
          o1.trans (Eq.trans ?_ (Cert.AdamAIdeal.Value.final5 m c).symm),
          o2.trans (Eq.trans ?_ (Cert.AdamAIdeal.Value.final6 m c).symm), hA⟩ <;>
        · funext y
          rfl)
      (Cert.AdamARefIdeal.Value.run (F := Ideal) m' g')⟩

end Cert.AdamAProof

end
-- ==== Proof.AdamOClaims.lean ====
/-
  The claims about the optimizer's step on a matrix of 256 rows of 1024: the kernel and the reference do the same operations on each entry.
-/
module

public import proofs.«01_k».proof.Defs
public import proofs.«01_k».proof.Proof.Gen.AdamO.Frame
public import proofs.«01_k».proof.Proof.Gen.AdamOIdeal.Value
public import proofs.«01_k».proof.Proof.Gen.AdamORefIdeal.Run
public import Idealize.ShloMosaic.Lib.Quiescent

@[expose] public section

set_option maxRecDepth 16384

open Idealize.ShloMosaic Idealize.ShloMosaic.TcCoe Idealize.SL.Sem

namespace Cert.AdamOProof

theorem quiescent_kernel : Cert.quiescent_AdamO := fun m g _ => Cert.AdamO.Gen.frame m g

theorem quiescent_ideal : Cert.quiescent_AdamOIdeal := fun m g _ => Cert.AdamOIdeal.Gen.frame m g

theorem quiescent_reference : Cert.quiescent_AdamORefIdeal := fun m g _ =>
  (θ_run Cert.AdamORefIdeal.defs _ _).mono
    (fun r h => ⟨fun c => (h c).2.2.2, Idealize.ShloMosaic.sem_eq_zero_of_no_sems (by decide) r.2⟩)
    (Cert.AdamORefIdeal.Value.run (F := Ideal) m g)

theorem algebraic : Cert.algebraic_AdamOIdeal_AdamORefIdeal := fun m g m' g' _ hag =>
  ⟨fun c => (Cert.AdamOIdeal.Gen.dats m 0 c).arrAt 4 Cert.AdamOIdeal.cfg0.N,
    fun c => (Cert.AdamOIdeal.Gen.dats m 0 c).arrAt 5 Cert.AdamOIdeal.cfg0.N,
    fun c => (Cert.AdamOIdeal.Gen.dats m 0 c).arrAt 6 Cert.AdamOIdeal.cfg0.N,
    Cert.AdamOIdeal.Value.run_blocks m g,
    (θ_run Cert.AdamORefIdeal.defs _ _).mono
      (fun _ h c => by
        obtain ⟨h0, h1, h2, h3⟩ := hag c
        obtain ⟨o0, o1, o2, hA⟩ := h c
        rw [h0, h1, h2, h3] at o0
        rw [h1, h2] at o1
        rw [h1, h3] at o2
        refine ⟨o0.trans (Eq.trans ?_ (Cert.AdamOIdeal.Value.final4 m c).symm),
          o1.trans (Eq.trans ?_ (Cert.AdamOIdeal.Value.final5 m c).symm),
          o2.trans (Eq.trans ?_ (Cert.AdamOIdeal.Value.final6 m c).symm), hA⟩ <;>
        · funext y
          rfl)
      (Cert.AdamORefIdeal.Value.run (F := Ideal) m' g')⟩

end Cert.AdamOProof

end
-- ==== Proof.AdamFClaims.lean ====
/-
  The claims about the optimizer's step on a matrix of 1024 rows of 1024: the kernel and the reference do the same operations on each entry.
-/
module

public import proofs.«01_k».proof.Defs
public import proofs.«01_k».proof.Proof.Gen.AdamF.Frame
public import proofs.«01_k».proof.Proof.Gen.AdamFIdeal.Value
public import proofs.«01_k».proof.Proof.Gen.AdamFRefIdeal.Run
public import Idealize.ShloMosaic.Lib.Quiescent

@[expose] public section

set_option maxRecDepth 16384

open Idealize.ShloMosaic Idealize.ShloMosaic.TcCoe Idealize.SL.Sem

namespace Cert.AdamFProof

theorem quiescent_kernel : Cert.quiescent_AdamF := fun m g _ => Cert.AdamF.Gen.frame m g

theorem quiescent_ideal : Cert.quiescent_AdamFIdeal := fun m g _ => Cert.AdamFIdeal.Gen.frame m g

theorem quiescent_reference : Cert.quiescent_AdamFRefIdeal := fun m g _ =>
  (θ_run Cert.AdamFRefIdeal.defs _ _).mono
    (fun r h => ⟨fun c => (h c).2.2.2, Idealize.ShloMosaic.sem_eq_zero_of_no_sems (by decide) r.2⟩)
    (Cert.AdamFRefIdeal.Value.run (F := Ideal) m g)

theorem algebraic : Cert.algebraic_AdamFIdeal_AdamFRefIdeal := fun m g m' g' _ hag =>
  ⟨fun c => (Cert.AdamFIdeal.Gen.dats m 0 c).arrAt 4 Cert.AdamFIdeal.cfg0.N,
    fun c => (Cert.AdamFIdeal.Gen.dats m 0 c).arrAt 5 Cert.AdamFIdeal.cfg0.N,
    fun c => (Cert.AdamFIdeal.Gen.dats m 0 c).arrAt 6 Cert.AdamFIdeal.cfg0.N,
    Cert.AdamFIdeal.Value.run_blocks m g,
    (θ_run Cert.AdamFRefIdeal.defs _ _).mono
      (fun _ h c => by
        obtain ⟨h0, h1, h2, h3⟩ := hag c
        obtain ⟨o0, o1, o2, hA⟩ := h c
        rw [h0, h1, h2, h3] at o0
        rw [h1, h2] at o1
        rw [h1, h3] at o2
        refine ⟨o0.trans (Eq.trans ?_ (Cert.AdamFIdeal.Value.final4 m c).symm),
          o1.trans (Eq.trans ?_ (Cert.AdamFIdeal.Value.final5 m c).symm),
          o2.trans (Eq.trans ?_ (Cert.AdamFIdeal.Value.final6 m c).symm), hA⟩ <;>
        · funext y
          rfl)
      (Cert.AdamFRefIdeal.Value.run (F := Ideal) m' g')⟩

end Cert.AdamFProof

end
-- ==== Proof.AdamIClaims.lean ====
/-
  The claims about the optimizer's step on a matrix of 1856 rows of 1024: the kernel and the reference do the same operations on each entry.
-/
module

public import proofs.«01_k».proof.Defs
public import proofs.«01_k».proof.Proof.Gen.AdamI.Frame
public import proofs.«01_k».proof.Proof.Gen.AdamIIdeal.Value
public import proofs.«01_k».proof.Proof.Gen.AdamIRefIdeal.Run
public import Idealize.ShloMosaic.Lib.Quiescent

@[expose] public section

set_option maxRecDepth 16384

open Idealize.ShloMosaic Idealize.ShloMosaic.TcCoe Idealize.SL.Sem

namespace Cert.AdamIProof

theorem quiescent_kernel : Cert.quiescent_AdamI := fun m g _ => Cert.AdamI.Gen.frame m g

theorem quiescent_ideal : Cert.quiescent_AdamIIdeal := fun m g _ => Cert.AdamIIdeal.Gen.frame m g

theorem quiescent_reference : Cert.quiescent_AdamIRefIdeal := fun m g _ =>
  (θ_run Cert.AdamIRefIdeal.defs _ _).mono
    (fun r h => ⟨fun c => (h c).2.2.2, Idealize.ShloMosaic.sem_eq_zero_of_no_sems (by decide) r.2⟩)
    (Cert.AdamIRefIdeal.Value.run (F := Ideal) m g)

theorem algebraic : Cert.algebraic_AdamIIdeal_AdamIRefIdeal := fun m g m' g' _ hag =>
  ⟨fun c => (Cert.AdamIIdeal.Gen.dats m 0 c).arrAt 4 Cert.AdamIIdeal.cfg0.N,
    fun c => (Cert.AdamIIdeal.Gen.dats m 0 c).arrAt 5 Cert.AdamIIdeal.cfg0.N,
    fun c => (Cert.AdamIIdeal.Gen.dats m 0 c).arrAt 6 Cert.AdamIIdeal.cfg0.N,
    Cert.AdamIIdeal.Value.run_blocks m g,
    (θ_run Cert.AdamIRefIdeal.defs _ _).mono
      (fun _ h c => by
        obtain ⟨h0, h1, h2, h3⟩ := hag c
        obtain ⟨o0, o1, o2, hA⟩ := h c
        rw [h0, h1, h2, h3] at o0
        rw [h1, h2] at o1
        rw [h1, h3] at o2
        refine ⟨o0.trans (Eq.trans ?_ (Cert.AdamIIdeal.Value.final4 m c).symm),
          o1.trans (Eq.trans ?_ (Cert.AdamIIdeal.Value.final5 m c).symm),
          o2.trans (Eq.trans ?_ (Cert.AdamIIdeal.Value.final6 m c).symm), hA⟩ <;>
        · funext y
          rfl)
      (Cert.AdamIRefIdeal.Value.run (F := Ideal) m' g')⟩

end Cert.AdamIProof

end
-- ==== Proof.AdamNClaims.lean ====
/-
  The claims about the optimizer's step on two rows of 1024: the kernel and the reference do the same operations on each entry.
-/
module

public import proofs.«01_k».proof.Defs
public import proofs.«01_k».proof.Proof.Gen.AdamN.Frame
public import proofs.«01_k».proof.Proof.Gen.AdamNIdeal.Value
public import proofs.«01_k».proof.Proof.Gen.AdamNRefIdeal.Run
public import Idealize.ShloMosaic.Lib.Quiescent

@[expose] public section

set_option maxRecDepth 16384

open Idealize.ShloMosaic Idealize.ShloMosaic.TcCoe Idealize.SL.Sem

namespace Cert.AdamNProof

theorem quiescent_kernel : Cert.quiescent_AdamN := fun m g _ => Cert.AdamN.Gen.frame m g

theorem quiescent_ideal : Cert.quiescent_AdamNIdeal := fun m g _ => Cert.AdamNIdeal.Gen.frame m g

theorem quiescent_reference : Cert.quiescent_AdamNRefIdeal := fun m g _ =>
  (θ_run Cert.AdamNRefIdeal.defs _ _).mono
    (fun r h => ⟨fun c => (h c).2.2.2, Idealize.ShloMosaic.sem_eq_zero_of_no_sems (by decide) r.2⟩)
    (Cert.AdamNRefIdeal.Value.run (F := Ideal) m g)

theorem algebraic : Cert.algebraic_AdamNIdeal_AdamNRefIdeal := fun m g m' g' _ hag =>
  ⟨fun c => (Cert.AdamNIdeal.Gen.dats m 0 c).arrAt 4 Cert.AdamNIdeal.cfg0.N,
    fun c => (Cert.AdamNIdeal.Gen.dats m 0 c).arrAt 5 Cert.AdamNIdeal.cfg0.N,
    fun c => (Cert.AdamNIdeal.Gen.dats m 0 c).arrAt 6 Cert.AdamNIdeal.cfg0.N,
    Cert.AdamNIdeal.Value.run_blocks m g,
    (θ_run Cert.AdamNRefIdeal.defs _ _).mono
      (fun _ h c => by
        obtain ⟨h0, h1, h2, h3⟩ := hag c
        obtain ⟨o0, o1, o2, hA⟩ := h c
        rw [h0, h1, h2, h3] at o0
        rw [h1, h2] at o1
        rw [h1, h3] at o2
        refine ⟨o0.trans (Eq.trans ?_ (Cert.AdamNIdeal.Value.final4 m c).symm),
          o1.trans (Eq.trans ?_ (Cert.AdamNIdeal.Value.final5 m c).symm),
          o2.trans (Eq.trans ?_ (Cert.AdamNIdeal.Value.final6 m c).symm), hA⟩ <;>
        · funext y
          rfl)
      (Cert.AdamNRefIdeal.Value.run (F := Ideal) m' g')⟩

end Cert.AdamNProof

end
-- ==== Proof.AdamBClaims.lean ====
/-
  The claims about the optimizer's step on two rows of 3072: the kernel and the reference do the same operations on each entry.
-/
module

public import proofs.«01_k».proof.Defs
public import proofs.«01_k».proof.Proof.Gen.AdamB.Frame
public import proofs.«01_k».proof.Proof.Gen.AdamBIdeal.Value
public import proofs.«01_k».proof.Proof.Gen.AdamBRefIdeal.Run
public import Idealize.ShloMosaic.Lib.Quiescent

@[expose] public section

set_option maxRecDepth 16384

open Idealize.ShloMosaic Idealize.ShloMosaic.TcCoe Idealize.SL.Sem

namespace Cert.AdamBProof

theorem quiescent_kernel : Cert.quiescent_AdamB := fun m g _ => Cert.AdamB.Gen.frame m g

theorem quiescent_ideal : Cert.quiescent_AdamBIdeal := fun m g _ => Cert.AdamBIdeal.Gen.frame m g

theorem quiescent_reference : Cert.quiescent_AdamBRefIdeal := fun m g _ =>
  (θ_run Cert.AdamBRefIdeal.defs _ _).mono
    (fun r h => ⟨fun c => (h c).2.2.2, Idealize.ShloMosaic.sem_eq_zero_of_no_sems (by decide) r.2⟩)
    (Cert.AdamBRefIdeal.Value.run (F := Ideal) m g)

theorem algebraic : Cert.algebraic_AdamBIdeal_AdamBRefIdeal := fun m g m' g' _ hag =>
  ⟨fun c => (Cert.AdamBIdeal.Gen.dats m 0 c).arrAt 4 Cert.AdamBIdeal.cfg0.N,
    fun c => (Cert.AdamBIdeal.Gen.dats m 0 c).arrAt 5 Cert.AdamBIdeal.cfg0.N,
    fun c => (Cert.AdamBIdeal.Gen.dats m 0 c).arrAt 6 Cert.AdamBIdeal.cfg0.N,
    Cert.AdamBIdeal.Value.run_blocks m g,
    (θ_run Cert.AdamBRefIdeal.defs _ _).mono
      (fun _ h c => by
        obtain ⟨h0, h1, h2, h3⟩ := hag c
        obtain ⟨o0, o1, o2, hA⟩ := h c
        rw [h0, h1, h2, h3] at o0
        rw [h1, h2] at o1
        rw [h1, h3] at o2
        refine ⟨o0.trans (Eq.trans ?_ (Cert.AdamBIdeal.Value.final4 m c).symm),
          o1.trans (Eq.trans ?_ (Cert.AdamBIdeal.Value.final5 m c).symm),
          o2.trans (Eq.trans ?_ (Cert.AdamBIdeal.Value.final6 m c).symm), hA⟩ <;>
        · funext y
          rfl)
      (Cert.AdamBRefIdeal.Value.run (F := Ideal) m' g')⟩

end Cert.AdamBProof

end
-- ==== Proof.AdamSClaims.lean ====
/-
  The claims about the optimizer's step on two rows of 512: the kernel and the reference do the same operations on each entry.
-/
module

public import proofs.«01_k».proof.Defs
public import proofs.«01_k».proof.Proof.Gen.AdamS.Frame
public import proofs.«01_k».proof.Proof.Gen.AdamSIdeal.Value
public import proofs.«01_k».proof.Proof.Gen.AdamSRefIdeal.Run
public import Idealize.ShloMosaic.Lib.Quiescent

@[expose] public section

set_option maxRecDepth 16384

open Idealize.ShloMosaic Idealize.ShloMosaic.TcCoe Idealize.SL.Sem

namespace Cert.AdamSProof

theorem quiescent_kernel : Cert.quiescent_AdamS := fun m g _ => Cert.AdamS.Gen.frame m g

theorem quiescent_ideal : Cert.quiescent_AdamSIdeal := fun m g _ => Cert.AdamSIdeal.Gen.frame m g

theorem quiescent_reference : Cert.quiescent_AdamSRefIdeal := fun m g _ =>
  (θ_run Cert.AdamSRefIdeal.defs _ _).mono
    (fun r h => ⟨fun c => (h c).2.2.2, Idealize.ShloMosaic.sem_eq_zero_of_no_sems (by decide) r.2⟩)
    (Cert.AdamSRefIdeal.Value.run (F := Ideal) m g)

theorem algebraic : Cert.algebraic_AdamSIdeal_AdamSRefIdeal := fun m g m' g' _ hag =>
  ⟨fun c => (Cert.AdamSIdeal.Gen.dats m 0 c).arrAt 4 Cert.AdamSIdeal.cfg0.N,
    fun c => (Cert.AdamSIdeal.Gen.dats m 0 c).arrAt 5 Cert.AdamSIdeal.cfg0.N,
    fun c => (Cert.AdamSIdeal.Gen.dats m 0 c).arrAt 6 Cert.AdamSIdeal.cfg0.N,
    Cert.AdamSIdeal.Value.run_blocks m g,
    (θ_run Cert.AdamSRefIdeal.defs _ _).mono
      (fun _ h c => by
        obtain ⟨h0, h1, h2, h3⟩ := hag c
        obtain ⟨o0, o1, o2, hA⟩ := h c
        rw [h0, h1, h2, h3] at o0
        rw [h1, h2] at o1
        rw [h1, h3] at o2
        refine ⟨o0.trans (Eq.trans ?_ (Cert.AdamSIdeal.Value.final4 m c).symm),
          o1.trans (Eq.trans ?_ (Cert.AdamSIdeal.Value.final5 m c).symm),
          o2.trans (Eq.trans ?_ (Cert.AdamSIdeal.Value.final6 m c).symm), hA⟩ <;>
        · funext y
          rfl)
      (Cert.AdamSRefIdeal.Value.run (F := Ideal) m' g')⟩

end Cert.AdamSProof

end
-- ==== Proof.AdamCClaims.lean ====
/-
  The claims about the optimizer's step on six rows of 64: the kernel and the reference do the same operations on each entry.
-/
module

public import proofs.«01_k».proof.Defs
public import proofs.«01_k».proof.Proof.Gen.AdamC.Frame
public import proofs.«01_k».proof.Proof.Gen.AdamCIdeal.Value
public import proofs.«01_k».proof.Proof.Gen.AdamCRefIdeal.Run
public import Idealize.ShloMosaic.Lib.Quiescent

@[expose] public section

set_option maxRecDepth 16384

open Idealize.ShloMosaic Idealize.ShloMosaic.TcCoe Idealize.SL.Sem

namespace Cert.AdamCProof

theorem quiescent_kernel : Cert.quiescent_AdamC := fun m g _ => Cert.AdamC.Gen.frame m g

theorem quiescent_ideal : Cert.quiescent_AdamCIdeal := fun m g _ => Cert.AdamCIdeal.Gen.frame m g

theorem quiescent_reference : Cert.quiescent_AdamCRefIdeal := fun m g _ =>
  (θ_run Cert.AdamCRefIdeal.defs _ _).mono
    (fun r h => ⟨fun c => (h c).2.2.2, Idealize.ShloMosaic.sem_eq_zero_of_no_sems (by decide) r.2⟩)
    (Cert.AdamCRefIdeal.Value.run (F := Ideal) m g)

theorem algebraic : Cert.algebraic_AdamCIdeal_AdamCRefIdeal := fun m g m' g' _ hag =>
  ⟨fun c => (Cert.AdamCIdeal.Gen.dats m 0 c).arrAt 4 Cert.AdamCIdeal.cfg0.N,
    fun c => (Cert.AdamCIdeal.Gen.dats m 0 c).arrAt 5 Cert.AdamCIdeal.cfg0.N,
    fun c => (Cert.AdamCIdeal.Gen.dats m 0 c).arrAt 6 Cert.AdamCIdeal.cfg0.N,
    Cert.AdamCIdeal.Value.run_blocks m g,
    (θ_run Cert.AdamCRefIdeal.defs _ _).mono
      (fun _ h c => by
        obtain ⟨h0, h1, h2, h3⟩ := hag c
        obtain ⟨o0, o1, o2, hA⟩ := h c
        rw [h0, h1, h2, h3] at o0
        rw [h1, h2] at o1
        rw [h1, h3] at o2
        refine ⟨o0.trans (Eq.trans ?_ (Cert.AdamCIdeal.Value.final4 m c).symm),
          o1.trans (Eq.trans ?_ (Cert.AdamCIdeal.Value.final5 m c).symm),
          o2.trans (Eq.trans ?_ (Cert.AdamCIdeal.Value.final6 m c).symm), hA⟩ <;>
        · funext y
          rfl)
      (Cert.AdamCRefIdeal.Value.run (F := Ideal) m' g')⟩

end Cert.AdamCProof

end
-- ==== Proof.AdamHClaims.lean ====
/-
  The claims about the optimizer's step on two rows of 64: the kernel and the reference do the same operations on each entry.
-/
module

public import proofs.«01_k».proof.Defs
public import proofs.«01_k».proof.Proof.Gen.AdamH.Frame
public import proofs.«01_k».proof.Proof.Gen.AdamHIdeal.Value
public import proofs.«01_k».proof.Proof.Gen.AdamHRefIdeal.Run
public import Idealize.ShloMosaic.Lib.Quiescent

@[expose] public section

set_option maxRecDepth 16384

open Idealize.ShloMosaic Idealize.ShloMosaic.TcCoe Idealize.SL.Sem

namespace Cert.AdamHProof

theorem quiescent_kernel : Cert.quiescent_AdamH := fun m g _ => Cert.AdamH.Gen.frame m g

theorem quiescent_ideal : Cert.quiescent_AdamHIdeal := fun m g _ => Cert.AdamHIdeal.Gen.frame m g

theorem quiescent_reference : Cert.quiescent_AdamHRefIdeal := fun m g _ =>
  (θ_run Cert.AdamHRefIdeal.defs _ _).mono
    (fun r h => ⟨fun c => (h c).2.2.2, Idealize.ShloMosaic.sem_eq_zero_of_no_sems (by decide) r.2⟩)
    (Cert.AdamHRefIdeal.Value.run (F := Ideal) m g)

theorem algebraic : Cert.algebraic_AdamHIdeal_AdamHRefIdeal := fun m g m' g' _ hag =>
  ⟨fun c => (Cert.AdamHIdeal.Gen.dats m 0 c).arrAt 4 Cert.AdamHIdeal.cfg0.N,
    fun c => (Cert.AdamHIdeal.Gen.dats m 0 c).arrAt 5 Cert.AdamHIdeal.cfg0.N,
    fun c => (Cert.AdamHIdeal.Gen.dats m 0 c).arrAt 6 Cert.AdamHIdeal.cfg0.N,
    Cert.AdamHIdeal.Value.run_blocks m g,
    (θ_run Cert.AdamHRefIdeal.defs _ _).mono
      (fun _ h c => by
        obtain ⟨h0, h1, h2, h3⟩ := hag c
        obtain ⟨o0, o1, o2, hA⟩ := h c
        rw [h0, h1, h2, h3] at o0
        rw [h1, h2] at o1
        rw [h1, h3] at o2
        refine ⟨o0.trans (Eq.trans ?_ (Cert.AdamHIdeal.Value.final4 m c).symm),
          o1.trans (Eq.trans ?_ (Cert.AdamHIdeal.Value.final5 m c).symm),
          o2.trans (Eq.trans ?_ (Cert.AdamHIdeal.Value.final6 m c).symm), hA⟩ <;>
        · funext y
          rfl)
      (Cert.AdamHRefIdeal.Value.run (F := Ideal) m' g')⟩

end Cert.AdamHProof

end
-- ==== Proof.MixSpec.lean ====
/-
  The gradient of one branch of the mixing, written at an index. The branch is the sigmoid of its gate times its projection up.
-/
module

public import proofs.«01_k».proof.Proof.MergeSpec

@[expose] public section

noncomputable section

open Idealize.ShloMosaic

namespace Cert.MixSpec

variable {w : Nat} (z : FVec Ideal ⟨2, ![4096, 7424]⟩ .f32) (b : FVec Ideal ⟨2, ![1, 3072]⟩ .f32) (k : Fin 3)
  (Y : FVec Ideal ⟨2, ![4096, w]⟩ .f32) (W : FVec Ideal ⟨2, ![w, 1024]⟩ .f32) (d : FVec Ideal ⟨2, ![4096, 1024]⟩ .f32)

/-- The gate of branch `k`. -/
def gate : FVec Ideal ⟨2, ![4096, 1024]⟩ .f32 := fun y => MergeSpec.sigmoid (MergeSpec.gateIn z b k (y 0) (y 1))

/-- The gradient at the branch's projection. -/
def atProduct : FVec Ideal ⟨2, ![4096, 1024]⟩ .f32 := fun y => gate z b k y * d y

/-- The gradient at the gate's argument. -/
def atGate : FVec Ideal ⟨2, ![4096, 1024]⟩ .f32 :=
  fun y => d y * LayerSpec.product Y W y * (gate z b k y * (1 - gate z b k y))

/-- The gradient at the branch. -/
def atBranch : FVec Ideal ⟨2, ![4096, w]⟩ .f32 := LayerSpec.productT (atProduct z b k d) W

/-- The gradient at the transposed weight. -/
def atWeight : FVec Ideal ⟨2, ![1024, w]⟩ .f32 := LayerSpec.productN (atProduct z b k d) Y

/-- The gradient at the input projection: `D`, and branch `k`'s columns the gate's. -/
def atInput (D : FVec Ideal ⟨2, ![4096, 7424]⟩ .f32) (P : FVec Ideal ⟨2, ![4096, 1024]⟩ .f32) : FVec Ideal ⟨2, ![4096, 7424]⟩ .f32 :=
  fun y => if h : 4352 + k.val * 1024 ≤ (y 1).val ∧ (y 1).val < 5376 + k.val * 1024
    then P (ix2 (y 0) ⟨(y 1).val - (4352 + k.val * 1024), by omega⟩) else D y

/-- The rows of the gate's gradient summed: every eighth of each half. -/
def atBias (P : FVec Ideal ⟨2, ![4096, 1024]⟩ .f32) : FVec Ideal ⟨2, ![16, 1024]⟩ .f32 :=
  fun y => ∑ q : Fin 256, P (ix2 ⟨(y 0).val / 8 * 2048 + (q.val * 8 + (y 0).val % 8), by have h : (y 0).val < 16 := (y 0).isLt; omega⟩ (y 1))

end Cert.MixSpec

end
-- ==== Proof.MixPoints.lean ====
/-
  The mixing gradients' grid, apart from any one call. It has eight points: two blocks of 2048 rows, and in each of them four
  blocks of 256 columns. A running sum restarts with each row block. The 1024 rows of the weight gradient stay in one buffer:
  the first row block sets the rows of its column block, the second one adds to them.
-/
module

public import proofs.«01_k».proof.Proof.MixSpec
public import proofs.«01_k».proof.Proof.LayerWeights
public import Idealize.ShloMosaic.Lib.VecWindow

@[expose] public section

noncomputable section

open Idealize.ShloMosaic

namespace Cert.MixPoints

variable {F : FTy → Type} [FloatOps F] {w : ℕ}

/-! ## The running sum -/

section
variable (first : Fin 8 → Vec F ⟨2, ![2048, w]⟩ .f32) (next : Fin 8 → Vec F ⟨2, ![2048, w]⟩ .f32 → Vec F ⟨2, ![2048, w]⟩ .f32)

/-- The running sum after point `n`. -/
def sumAt : (n : ℕ) → n < 8 → Vec F ⟨2, ![2048, w]⟩ .f32
  | 0, h => first ⟨0, h⟩
  | n + 1, h => if (n + 1) % 4 = 0 then first ⟨n + 1, h⟩ else next ⟨n + 1, h⟩ (sumAt n (Nat.lt_of_succ_lt h))

theorem sum_first (n : ℕ) (h : n < 8) (hn : n % 4 = 0) : sumAt first next n h = first ⟨n, h⟩ := by
  cases n with
  | zero => rfl
  | succ n => exact if_pos hn

theorem sum_next (n : ℕ) (h : n + 1 < 8) (hn : (n + 1) % 4 ≠ 0) :
    sumAt first next (n + 1) h = next ⟨n + 1, h⟩ (sumAt first next n (Nat.lt_of_succ_lt h)) := if_neg hn

/-- A point's step of it. -/
theorem sum_step (t : Fin 8) (s : Vec F ⟨2, ![2048, w]⟩ .f32) (hs : ∀ h : t.val - 1 < 8, t.val % 4 ≠ 0 → s = sumAt first next (t.val - 1) h) :
    (if t.val % 4 = 0 then first t else next t s) = sumAt first next t.val t.isLt := by
  obtain ⟨n, hn⟩ := t
  by_cases h0 : n % 4 = 0
  · rw [if_pos h0, sum_first _ _ _ _ h0]
  · obtain ⟨q, rfl⟩ : ∃ q, n = q + 1 := ⟨n - 1, by omega⟩
    rw [if_neg h0, sum_next _ _ _ _ h0, hs (Nat.lt_of_succ_lt hn) h0]
    rfl

end

/-! ## The weight gradient -/

theorem rows_fit (j : ℕ) (hj : j < 4) : ∀ a, (![256 * j, 0] : Fin 2 → ℕ) a + (⟨2, ![256, w]⟩ : Shape).size a ≤ (⟨2, ![1024, w]⟩ : Shape).size a := by
  intro a
  fin_cases a
  · show 256 * j + 256 ≤ 1024; omega
  · show 0 + w ≤ w; omega

/-- The 256 rows of the weight gradient that belong to column block `j`. -/
def rowsOf (Y : Vec F ⟨2, ![1024, w]⟩ .f32) (j : ℕ) (hj : j < 4) : Vec F ⟨2, ![256, w]⟩ .f32 :=
  VecWindow.window Y ![256 * j, 0] (⟨2, ![256, w]⟩ : Shape).size (rows_fit j hj)

theorem rowsOf_at (Y : Vec F ⟨2, ![1024, w]⟩ .f32) (j : ℕ) (hj : j < 4) (r : Fin 256) (k : Fin w) :
    rowsOf Y j hj (ix2 r k) = Y (ix2 ⟨256 * j + r.val, by omega⟩ k) := by
  refine congrArg Y (funext fun a => Fin.ext ?_)
  fin_cases a
  · exact ValueKit.rect_emb_unit_val _ _ _ _ _
  · exact (ValueKit.rect_emb_unit_val _ _ _ _ _).trans (Nat.zero_add _)

theorem rowsOf_put_self (Y : Vec F ⟨2, ![1024, w]⟩ .f32) (j : ℕ) (hj : j < 4) (p : Vec F ⟨2, ![256, w]⟩ .f32) :
    rowsOf (VecWindow.put Y ![256 * j, 0] (⟨2, ![256, w]⟩ : Shape).size p) j hj = p := by
  unfold rowsOf
  rw [VecWindow.window_put_of_inside (h := fun a => ⟨le_refl _, le_refl _⟩)]
  funext y
  exact congrArg p (funext fun a => Fin.ext (by show (![256 * j, 0] : Fin 2 → ℕ) a - (![256 * j, 0] : Fin 2 → ℕ) a + 1 * (y a).val = (y a).val; omega))

theorem rowsOf_put_other (Y : Vec F ⟨2, ![1024, w]⟩ .f32) (j k : ℕ) (hj : j < 4) (hk : k < 4) (h : j ≠ k) (p : Vec F ⟨2, ![256, w]⟩ .f32) :
    rowsOf (VecWindow.put Y ![256 * j, 0] (⟨2, ![256, w]⟩ : Shape).size p) k hk = rowsOf Y k hk := by
  unfold rowsOf
  exact VecWindow.window_put_of_disjoint _ _ _ _ _ _ _ 0 (by
    show 256 * k + 256 ≤ 256 * j ∨ 256 * j + 256 ≤ 256 * k
    omega)

theorem rowsOf_congr (Y : Vec F ⟨2, ![1024, w]⟩ .f32) {a b : ℕ} (ha : a < 4) (hb : b < 4) (h : a = b) : rowsOf Y a ha = rowsOf Y b hb := by
  subst h; rfl

section
variable (add : Vec F ⟨2, ![256, w]⟩ .f32 → Vec F ⟨2, ![256, w]⟩ .f32 → Vec F ⟨2, ![256, w]⟩ .f32) (share : Fin 8 → Vec F ⟨2, ![256, w]⟩ .f32)

/-- The weight gradient after a point: the rows of its column block overwritten, or added to. -/
def weightNext (i j : ℕ) (hj : j < 4) (p : Vec F ⟨2, ![256, w]⟩ .f32) (Y : Vec F ⟨2, ![1024, w]⟩ .f32) : Vec F ⟨2, ![1024, w]⟩ .f32 :=
  VecWindow.put Y ![256 * j, 0] (⟨2, ![256, w]⟩ : Shape).size (if i = 0 then p else add p (rowsOf Y j hj))

/-- The rows of a point's column block after the point. -/
def weightAt (t : Fin 8) : Vec F ⟨2, ![256, w]⟩ .f32 :=
  if h : t.val < 4 then share t else add (share t) (share ⟨t.val - 4, lt_of_le_of_lt (Nat.sub_le _ _) t.isLt⟩)

/-- Which rows are known after point `t`: those of the column blocks seen in the last four points. -/
def WeightRel (t : Fin 8) (X : Vec F ⟨2, ![1024, w]⟩ .f32) : Prop :=
  ∀ u : Fin 8, u.val ≤ t.val → t.val < u.val + 4 → rowsOf X (u.val % 4) (Nat.mod_lt _ (by decide)) = weightAt add share u

/-- A point's step of it. -/
theorem weight_step (t : Fin 8) (Y : Vec F ⟨2, ![1024, w]⟩ .f32)
    (hY : t.val ≠ 0 → WeightRel add share ⟨t.val - 1, Nat.lt_of_le_of_lt (Nat.sub_le _ _) t.isLt⟩ Y) {i j : ℕ} (hi : i = t.val / 4) (e : j = t.val % 4) (hj : j < 4) :
    WeightRel add share t (weightNext add i j hj (share t) Y) := by
  subst hi e
  have hN : t.val < 8 := t.isLt
  intro u hu hu'
  unfold weightNext
  by_cases e : u = t
  · subst e
    rw [rowsOf_put_self]
    unfold weightAt
    by_cases h4 : u.val < 4
    · rw [dif_pos h4, if_pos (by omega)]
    · rw [dif_neg h4, if_neg (by omega)]
      have := hY (by omega) ⟨u.val - 4, by omega⟩ (by show u.val - 4 ≤ u.val - 1; omega) (by show u.val - 1 < u.val - 4 + 4; omega)
      unfold weightAt at this
      rw [dif_pos (show u.val - 4 < 4 by omega)] at this
      rw [← this, rowsOf_congr Y hj (Nat.mod_lt (u.val - 4) (by decide)) (by omega)]
  · have hne : u.val ≠ t.val := fun h => e (Fin.ext h)
    rw [rowsOf_put_other _ _ _ hj _ (by omega)]
    exact hY (by omega) u (by show u.val ≤ t.val - 1; omega) (by show t.val - 1 < u.val + 4; omega)

end

/-! ## The blocks of a point -/

/-- A point's row of the whole arrays, -/
abbrev row (t : Fin 8) (r : Fin 2048) : Fin 4096 := ⟨t.val / 4 * 2048 + r.val, by omega⟩
/-- and its column. -/
abbrev col (t : Fin 8) (j : Fin 256) : Fin 1024 := ⟨t.val % 4 * 256 + j.val, by omega⟩

/-- What point `t` reads of the arrays: its blocks of the branch, the weight, the input projection, the gate's bias and the gradient. -/
structure Blocks {φ : FTy} (z : FVec Ideal ⟨2, ![4096, 7424]⟩ .f32) (b : FVec Ideal ⟨2, ![1, 3072]⟩ .f32) (k : Fin 3) (Y : FVec Ideal ⟨2, ![4096, w]⟩ .f32)
    (W : FVec Ideal ⟨2, ![w, 1024]⟩ .f32) (d : FVec Ideal ⟨2, ![4096, 1024]⟩ .f32) (t : Fin 8)
    (x0 : FVec Ideal ⟨2, ![2048, w]⟩ φ) (x1 : Vec Ideal ⟨2, ![256, w]⟩ .bf16) (x2 : Vec Ideal ⟨2, ![2048, 256]⟩ .f32)
    (x3 : Vec Ideal ⟨2, ![1, 256]⟩ .f32) (x4 : Vec Ideal ⟨2, ![2048, 256]⟩ .f32) : Prop where
  branch (r : Fin 2048) (l : Fin w) : x0 (ix2 r l) = Y (ix2 (row t r) l)
  weight (j : Fin 256) (l : Fin w) : x1 (ix2 j l) = W (ix2 l (col t j))
  input (r : Fin 2048) (j : Fin 256) : x2 (ix2 r j) = z (ix2 (row t r) ⟨4352 + (k.val * 1024 + (col t j).val), by omega⟩)
  bias (j : Fin 256) : x3 (ix2 0 j) = b (ix2 0 ⟨k.val * 1024 + (col t j).val, by omega⟩)
  grad (r : Fin 2048) (j : Fin 256) : x4 (ix2 r j) = d (ix2 (row t r) (col t j))

/-! ## The totals in exact arithmetic -/

variable (U : FVec Ideal ⟨2, ![4096, 1024]⟩ .f32) (W : FVec Ideal ⟨2, ![w, 1024]⟩ .f32) (Y : FVec Ideal ⟨2, ![4096, w]⟩ .f32)

/-- One column block's part of the branch's gradient, -/
abbrev part (p : Fin 4096) (k : Fin w) (s : Fin 4) : EReal :=
  ∑ j : Fin 256, U (ix2 p ⟨s.val * 256 + j.val, by omega⟩) * W (ix2 k ⟨s.val * 256 + j.val, by omega⟩)

/-- and a point's. -/
abbrev partAt (t : Fin 8) (r : Fin 2048) (k : Fin w) : EReal := ∑ j : Fin 256, U (ix2 (row t r) (col t j)) * W (ix2 k (col t j))

/-- A point's share of the weight gradient. -/
abbrev shareOf (t : Fin 8) (j : Fin 256) (k : Fin w) : EReal := ∑ r : Fin 2048, U (ix2 (row t r) (col t j)) * Y (ix2 (row t r) k)

theorem part_eq (t : Fin 8) (s : Fin 4) (p : Fin 4096) (r : Fin 2048) (k : Fin w) (hs : t.val % 4 = s.val)
    (hp : t.val / 4 * 2048 + r.val = p.val) : partAt U W t r k = part U W p k s := by
  have e : row t r = p := Fin.ext hp
  refine Finset.sum_congr rfl fun j _ => ?_
  have e' : col t j = ⟨s.val * 256 + j.val, by omega⟩ := Fin.ext (congrArg (fun n => n * 256 + j.val) hs)
  rw [e, e']

/-- At the last column block the running sum is the whole of it. -/
theorem sum_result {first : Fin 8 → Vec Ideal ⟨2, ![2048, w]⟩ .f32} {next : Fin 8 → Vec Ideal ⟨2, ![2048, w]⟩ .f32 → Vec Ideal ⟨2, ![2048, w]⟩ .f32}
    (hf : ∀ t r k, first t (ix2 r k) = partAt U W t r k) (hn : ∀ t s r k, next t s (ix2 r k) = @HAdd.hAdd EReal EReal EReal _ (s (ix2 r k)) (partAt U W t r k))
    (t : Fin 8) (h : t.val % 4 = 3) (r : Fin 2048) (k : Fin w) :
    sumAt first next t.val t.isLt (ix2 r k) = LayerSpec.productT U W (ix2 (row t r) k) := by
  obtain ⟨n, h0, ht⟩ : ∃ n, n % 4 = 0 ∧ t.val = n + 3 := ⟨t.val - 3, by omega, by omega⟩
  have hN : n + 3 < 8 := ht ▸ t.isLt
  have e : sumAt first next t.val t.isLt = sumAt first next (n + 3) hN := by congr 1
  have hd : ∀ s, s < 4 → (n + s) / 4 = t.val / 4 := fun s hs => by omega
  rw [e, sum_next _ _ _ _ (by omega), hn, sum_next _ _ _ _ (by omega), hn, sum_next _ _ _ _ (by omega), hn, sum_first _ _ _ _ h0, hf,
    part_eq U W ⟨n, _⟩ 0 (row t r) r k h0 (congrArg (fun q => q * 2048 + r.val) (hd 0 (by decide))),
    part_eq U W ⟨n + 1, _⟩ 1 (row t r) r k (by show (n + 1) % 4 = 1; omega) (congrArg (fun q => q * 2048 + r.val) (hd 1 (by decide))),
    part_eq U W ⟨n + 2, _⟩ 2 (row t r) r k (by show (n + 2) % 4 = 2; omega) (congrArg (fun q => q * 2048 + r.val) (hd 2 (by decide))),
    part_eq U W ⟨n + 3, _⟩ 3 (row t r) r k (by show (n + 3) % 4 = 3; omega) (congrArg (fun q => q * 2048 + r.val) (hd 3 (by decide))),
    ← Fin.sum_univ_four (part U W (row t r) k)]
  exact Fin.sum_mul_add_fin (L := 1024) 4 256 (fun l => U (ix2 (row t r) l) * W (ix2 k l))

/-- After the last point the weight gradient is known whole. -/
theorem weight_result {add : Vec Ideal ⟨2, ![256, w]⟩ .f32 → Vec Ideal ⟨2, ![256, w]⟩ .f32 → Vec Ideal ⟨2, ![256, w]⟩ .f32} {share : Fin 8 → Vec Ideal ⟨2, ![256, w]⟩ .f32}
    (ha : ∀ p q y, add p q y = @HAdd.hAdd EReal EReal EReal _ (q y) (p y)) (hs : ∀ t j k, share t (ix2 j k) = shareOf U Y t j k)
    (X : Vec Ideal ⟨2, ![1024, w]⟩ .f32) (hX : WeightRel add share 7 X) : X = LayerSpec.productN U Y := by
  funext y
  obtain ⟨p, k, rfl⟩ : ∃ (p : Fin 1024) (k : Fin w), y = ix2 p k := ⟨_, _, eq_ix2 y⟩
  have h := congrFun (hX ⟨p.val / 256 + 4, by omega⟩ (by show p.val / 256 + 4 ≤ 7; omega) (by show 7 < p.val / 256 + 4 + 4; omega)) (ix2 ⟨p.val % 256, by omega⟩ k)
  rw [rowsOf_at, show (⟨256 * ((p.val / 256 + 4) % 4) + p.val % 256, by omega⟩ : Fin 1024) = p from Fin.ext (by show 256 * ((p.val / 256 + 4) % 4) + p.val % 256 = p.val; omega)] at h
  refine h.trans ?_
  unfold weightAt
  rw [dif_neg (by show ¬ (p.val / 256 + 4 < 4); omega), ha, hs, hs]
  have s := Fin.sum_mul_add_fin (L := 4096) 2 2048 (fun l => U (ix2 l p) * Y (ix2 l k))
  rw [Fin.sum_univ_two] at s
  refine Eq.trans (congrArg₂ (· + ·) (Finset.sum_congr rfl fun r _ => ?_) (Finset.sum_congr rfl fun r _ => ?_)) s
  · have e1 : row ⟨p.val / 256 + 4 - 4, by omega⟩ r = ⟨(0 : Fin 2).val * 2048 + r.val, by show 0 * 2048 + r.val < 4096; omega⟩ :=
      Fin.ext (by show (p.val / 256 + 4 - 4) / 4 * 2048 + r.val = 0 * 2048 + r.val; omega)
    have e2 : col ⟨p.val / 256 + 4 - 4, by omega⟩ ⟨p.val % 256, by omega⟩ = p :=
      Fin.ext (by show (p.val / 256 + 4 - 4) % 4 * 256 + p.val % 256 = p.val; omega)
    rw [e1, e2]
  · have e1 : row ⟨p.val / 256 + 4, by omega⟩ r = ⟨(1 : Fin 2).val * 2048 + r.val, by show 1 * 2048 + r.val < 4096; omega⟩ :=
      Fin.ext (by show (p.val / 256 + 4) / 4 * 2048 + r.val = 1 * 2048 + r.val; omega)
    have e2 : col ⟨p.val / 256 + 4, by omega⟩ ⟨p.val % 256, by omega⟩ = p :=
      Fin.ext (by show (p.val / 256 + 4) % 4 * 256 + p.val % 256 = p.val; omega)
    rw [e1, e2]

/-- A point's eight partial sums of the gate's gradient are rows of the summed one. -/
theorem bias_result (P : FVec Ideal ⟨2, ![4096, 1024]⟩ .f32) (t : Fin 8) (r : Fin 8) (j : Fin 256) :
    (∑ q : Fin 256, P (ix2 (row t ⟨q.val * 8 + r.val, by omega⟩) (col t j)) : EReal) = MixSpec.atBias P (ix2 ⟨t.val / 4 * 8 + r.val, by omega⟩ (col t j)) := by
  refine Finset.sum_congr rfl fun q _ => congrArg P (congrArg (ix2 · (col t j)) (Fin.ext ?_))
  show t.val / 4 * 2048 + (q.val * 8 + r.val) = (t.val / 4 * 8 + r.val) / 8 * 2048 + (q.val * 8 + (t.val / 4 * 8 + r.val) % 8)
  omega

/-- The input's gradient in branch `k`'s columns, -/
theorem input_written (k : Fin 3) (D : FVec Ideal ⟨2, ![4096, 7424]⟩ .f32) (P : FVec Ideal ⟨2, ![4096, 1024]⟩ .f32) (p : Fin 4096) (j : Fin 1024) :
    MixSpec.atInput k D P (ix2 p ⟨4352 + k.val * 1024 + j.val, by omega⟩) = P (ix2 p j) := by
  unfold MixSpec.atInput
  have h : 4352 + k.val * 1024 ≤ 4352 + k.val * 1024 + j.val ∧ 4352 + k.val * 1024 + j.val < 5376 + k.val * 1024 := by omega
  refine (dif_pos h).trans (congrArg P (congrArg (ix2 p ·) (Fin.ext ?_)))
  show 4352 + k.val * 1024 + j.val - (4352 + k.val * 1024) = j.val
  omega

/-- and in the others. -/
theorem input_kept (k : Fin 3) (D : FVec Ideal ⟨2, ![4096, 7424]⟩ .f32) (P : FVec Ideal ⟨2, ![4096, 1024]⟩ .f32) (y : (⟨2, ![4096, 7424]⟩ : Shape).Idx)
    (h : ¬ (4352 + k.val * 1024 ≤ (y 1).val ∧ (y 1).val < 5376 + k.val * 1024)) : MixSpec.atInput k D P y = D y := dif_neg h

/-! ## What a point computes from its blocks -/

section
variable {φ : FTy} {z : FVec Ideal ⟨2, ![4096, 7424]⟩ .f32} {b : FVec Ideal ⟨2, ![1, 3072]⟩ .f32} {k : Fin 3} {Y : FVec Ideal ⟨2, ![4096, w]⟩ .f32}
  {W : FVec Ideal ⟨2, ![w, 1024]⟩ .f32} {d : FVec Ideal ⟨2, ![4096, 1024]⟩ .f32} {t : Fin 8}
  {x0 : FVec Ideal ⟨2, ![2048, w]⟩ φ} {x1 : Vec Ideal ⟨2, ![256, w]⟩ .bf16} {x2 : Vec Ideal ⟨2, ![2048, 256]⟩ .f32}
  {x3 : Vec Ideal ⟨2, ![1, 256]⟩ .f32} {x4 : Vec Ideal ⟨2, ![2048, 256]⟩ .f32} (h : Blocks z b k Y W d t x0 x1 x2 x3 x4)
include h

theorem Blocks.atGate {g : EReal} {r : Fin 2048} {j : Fin 256} (hg : g = MixSpec.gate z b k (ix2 (row t r) (col t j))) :
    @HMul.hMul EReal EReal EReal _ (@HMul.hMul EReal EReal EReal _ (@HMul.hMul EReal EReal EReal _ (x4 (ix2 r j))
      (∑ l : Fin w, @HMul.hMul EReal EReal EReal _ (x0 (ix2 r l)) (x1 (ix2 j l)))) g) (1 - g) = MixSpec.atGate z b k Y W d (ix2 (row t r) (col t j)) := by
  unfold MixSpec.atGate LayerSpec.product
  rw [← hg, ← h.grad, ← mul_assoc]
  refine congrArg (fun s : EReal => @HMul.hMul EReal EReal EReal _ (@HMul.hMul EReal EReal EReal _ (@HMul.hMul EReal EReal EReal _ (x4 (ix2 r j)) s) g) (1 - g)) (Finset.sum_congr rfl fun l _ => ?_)
  rw [h.branch, h.weight]
  rfl

variable {u : FVec Ideal ⟨2, ![2048, 256]⟩ .bf16} {U : FVec Ideal ⟨2, ![4096, 1024]⟩ .f32} (hu : ∀ r j, u (ix2 r j) = U (ix2 (row t r) (col t j)))
include hu

theorem Blocks.share (j : Fin 256) (l : Fin w) : (∑ r : Fin 2048, @HMul.hMul EReal EReal EReal _ (u (ix2 r j)) (x0 (ix2 r l)) : EReal) = shareOf U Y t j l :=
  Finset.sum_congr rfl fun r _ => by rw [hu, h.branch]

theorem Blocks.part (r : Fin 2048) (l : Fin w) : (∑ j : Fin 256, @HMul.hMul EReal EReal EReal _ (u (ix2 r j)) (x1 (ix2 j l)) : EReal) = partAt U W t r l :=
  Finset.sum_congr rfl fun j _ => by rw [hu, h.weight]

end

end Cert.MixPoints

end
-- ==== Proof.MixCRun.lean ====
module

public import proofs.«01_k».proof.Proof.Gen.MixCIdeal.Frame
public import proofs.«01_k».proof.Proof.Gen.MixCIdeal.Skeleton
public import Idealize.ShloMosaic.Lib.Pipeline.Frame
public import Idealize.ShloMosaic.Lib.Pipeline.DatRel
public import proofs.«01_k».proof.Proof.MixPoints
public import Idealize.ShloMosaic.Lib.Tactic
public import Idealize.ShloMosaic.Lib.WordCmp

/-!
  One grid point of the mixing gradient's call, run once on whole blocks.

  The grid walks two blocks of rows, and in each of them four blocks of the branch's columns. At every point the
  call stores the gate's gradient and the partial sums of the gate's bias. It adds the point's share of the gradient
  by the branch's values to a running sum in scratch, which it starts afresh at the first column block and copies out
  at the last. The weight gradient stays in one buffer for the whole grid: the first row block overwrites the rows of
  the point's column block, the second one adds to them.
-/

@[expose] public section

set_option maxRecDepth 16384

noncomputable section

namespace Cert.MixCIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

/-- The machine on which the call runs. -/
abbrev Machine (F : FTy → Type) := MT nD τ sig Unit (Elt F) ℕ (UR sig nD τ) ℕ

/-- The running sum of the gradient by the branch's values after a point: started afresh at the first column block. -/
def sumNext (j : ℕ) (du : FVec F S2048x256 .bf16) (w : Vec F S256x512 .bf16) (s : Vec F S2048x512 .f32) : Vec F S2048x512 .f32 :=
  if j = 0 then k0_pay3 du w else k0_pay4 du w s

theorem off1_eq (i : grid0.Coords) : k0_off1 i = ![256 * (i 1).val, 0] := by
  have b1 : (i 1).val < 4 := (i 1).isLt
  generalize hj : (i 1).val = j at b1
  unfold k0_off1
  rw [hj]
  obtain rfl | rfl | rfl | rfl : j = 0 ∨ j = 1 ∨ j = 2 ∨ j = 3 := by omega
  all_goals rfl

theorem off2_eq (i : grid0.Coords) : k0_off2 i = ![256 * (i 1).val, 0] := off1_eq i

set_option maxHeartbeats 4000000 in
/-- The body at a grid point, on whole buffers: what every buffer holds afterwards. -/
theorem run (L : Defs nD τ sig (Elt F) Λ₀) (c : Dev nD) (i : grid0.Coords)
    (arg2 : Memref sig .tc .vmem S2048x512 .bf16) (harg2 : arg2.IsWhole) (arg3 : Memref sig .tc .vmem S256x512 .bf16) (harg3 : arg3.IsWhole)
    (arg4 : Memref sig .tc .vmem S2048x256 .f32) (harg4 : arg4.IsWhole) (arg5 : Memref sig .tc .vmem S1x256 .f32) (harg5 : arg5.IsWhole)
    (arg6 : Memref sig .tc .vmem S2048x256 .f32) (harg6 : arg6.IsWhole) (arg7 : Memref sig .tc .hbm S4096x7424 .bf16) (harg7 : arg7.IsWhole)
    (arg8 : Memref sig .tc .vmem S2048x512 .f32) (harg8 : arg8.IsWhole) (arg9 : Memref sig .tc .vmem S1024x512 .f32) (harg9 : arg9.IsWhole)
    (arg10 : Memref sig .tc .vmem S2048x256 .bf16) (harg10 : arg10.IsWhole) (arg11 : Memref sig .tc .vmem S8x256 .f32) (harg11 : arg11.IsWhole)
    (arg12 : Memref sig .tc .vmem S2048x512 .f32) (harg12 : arg12.IsWhole)
    (x0 : Vec F S2048x512 .bf16) (x1 : Vec F S256x512 .bf16) (x2 : Vec F S2048x256 .f32) (x3 : Vec F S1x256 .f32) (x4 : Vec F S2048x256 .f32)
    (y5 : Vec F S2048x512 .f32) (y6 : Vec F S1024x512 .f32) (s : Vec F S2048x512 .f32)
    (E : Set ℕ) (K : PUnit → sProp (Machine F)) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ owns (c : Thread nD τ) arg8 fullShare y5 ∗ owns (c : Thread nD τ) arg9 fullShare y6
        ∗ (∃ d, owns (c : Thread nD τ) arg10 fullShare d) ∗ (∃ d, owns (c : Thread nD τ) arg11 fullShare d)
        ∗ owns (c : Thread nD τ) arg12 fullShare s
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg8 fullShare (if (i 1).val = 3 then sumNext (i 1).val (k0_pay7 x2 x3 x4) x1 s else y5)
            ∗ owns (c : Thread nD τ) arg9 fullShare (MixPoints.weightNext k0_pay2 (i 0).val (i 1).val (i 1).isLt (k0_pay11 x0 x2 x3 x4) y6)
            ∗ owns (c : Thread nD τ) arg10 fullShare (k0_pay9 x0 x1 x2 x3 x4) ∗ owns (c : Thread nD τ) arg11 fullShare (k0_pay10 x0 x1 x2 x3 x4)
            ∗ owns (c : Thread nD τ) arg12 fullShare (sumNext (i 1).val (k0_pay7 x2 x3 x4) x1 s)) -∗ K ⟨⟩))
      ⊢ wp frame (wpE L Variants.none c none) E
          (cc0_merge1 i arg2 harg2 arg3 harg3 arg4 harg4 arg5 harg5 arg6 harg6 arg7 harg7 arg8 harg8 arg9 harg9 arg10 harg10 arg11 harg11 arg12 harg12) K := by
  have b0 : (i 0).val < 2 := (i 0).isLt
  have b1 : (i 1).val < 4 := (i 1).isLt
  have r2 : arg2.view.readAt (Elt F) (Rect.unit ![0, 0] S2048x512.size inb_S2048x512_S2048x512_0_0).toLoadRect (harg2.unread x0) = x0 :=
    (View.readAt_full _ _ _).trans (harg2.read_unread _)
  have r3 : arg3.view.readAt (Elt F) (Rect.unit ![0, 0] S256x512.size inb_S256x512_S256x512_0_0).toLoadRect (harg3.unread x1) = x1 :=
    (View.readAt_full _ _ _).trans (harg3.read_unread _)
  have r4 : arg4.view.readAt (Elt F) (Rect.unit ![0, 0] S2048x256.size inb_S2048x256_S2048x256_0_0).toLoadRect (harg4.unread x2) = x2 :=
    (View.readAt_full _ _ _).trans (harg4.read_unread _)
  have r5 : arg5.view.readAt (Elt F) (Rect.unit ![0, 0] S1x256.size inb_S1x256_S1x256_0_0).toLoadRect (harg5.unread x3) = x3 :=
    (View.readAt_full _ _ _).trans (harg5.read_unread _)
  have r6 : arg6.view.readAt (Elt F) (Rect.unit ![0, 0] S2048x256.size inb_S2048x256_S2048x256_0_0).toLoadRect (harg6.unread x4) = x4 :=
    (View.readAt_full _ _ _).trans (harg6.read_unread _)
  have r12 : arg12.view.readAt (Elt F) (Rect.unit ![0, 0] S2048x512.size inb_S2048x512_S2048x512_0_0).toLoadRect (harg12.unread s) = s :=
    (View.readAt_full _ _ _).trans (harg12.read_unread _)
  have r9 : ∀ h2 : k0_cond2 i = 1#1, arg9.view.readAt (Elt F) (Rect.unit (s := S1024x512) (k0_off2 i) S256x512.size (k0_off2_inb i h2)).toLoadRect (harg9.unread y6)
      = MixPoints.rowsOf y6 (i 1).val (i 1).isLt := fun h2 =>
    by
    have hw := View.readAt_unit arg9.view (harg9.unread y6) (k0_off2_inb i h2) (off2_eq i) (MixPoints.rows_fit _ (i 1).isLt)
    rw [harg9.read_unread] at hw
    exact hw
  unfold sumNext MixPoints.weightNext
  have h1 : k0_cond1 i = 1#1 ↔ (i 0).val = 0 := by simp only [k0_cond1]; word_cmp
  have h2 : k0_cond2 i = 1#1 ↔ ¬ (i 0).val = 0 := by simp only [k0_cond2]; word_cmp
  have h3 : Scalar.cmpi .ne (Scalar.extui (Scalar.cmpi .eq (BitVec.ofNat 32 (i 1).val) 0#32) : BitVec 32) 0#32 = 1#1 ↔ (i 1).val = 0 := by word_cmp
  have h4 : Scalar.cmpi .ne (Scalar.extui (Scalar.cmpi .sgt (BitVec.ofNat 32 (i 1).val) 0#32) : BitVec 32) 0#32 = 1#1 ↔ ¬ (i 1).val = 0 := by word_cmp
  have h5 : k0_cond5 i = 1#1 ↔ (i 1).val = 3 := by simp only [k0_cond5]; word_cmp
  simp only [cc0_merge1_eq_skeleton]; unfold cc0_merge1_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4
  obtain rfl := harg8.eq_unread hf5; obtain rfl := harg9.eq_unread hf6; obtain rfl := harg12.eq_unread hfs
  by_cases g1 : k0_cond1 i = 1#1 <;> by_cases g2 : k0_cond2 i = 1#1 <;> by_cases g3 : Scalar.cmpi .ne (Scalar.extui (Scalar.cmpi .eq (BitVec.ofNat 32 (i 1).val) 0#32) : BitVec 32) 0#32 = 1#1
    <;> by_cases g4 : Scalar.cmpi .ne (Scalar.extui (Scalar.cmpi .sgt (BitVec.ofNat 32 (i 1).val) 0#32) : BitVec 32) 0#32 = 1#1 <;> by_cases g5 : k0_cond5 i = 1#1
    <;> (try (exfalso; rw [h1] at g1; rw [h2] at g2; rw [h3] at g3; rw [h4] at g4; rw [h5] at g5; omega))
  all_goals
    first | have hi := h1.mp g1 | have hi := h1.not.mp g1
    first | have hj := h3.mp g3 | have hj := h3.not.mp g3
    first | have hl := h5.mp g5 | have hl := h5.not.mp g5
    clear h1 h2 h3 h4 h5
    sl_exec (disch := first | sl_exact g1 | sl_exact g2 | sl_exact g3 | sl_exact g4 | sl_exact g5)
    sl_step
    iapply Hk
    isplitl [H0]; · iexists _; isplitr; · ipureintro; exact harg2.read_unread _
                    iexact H0
    isplitl [H1]; · iexists _; isplitr; · ipureintro; exact harg3.read_unread _
                    iexact H1
    isplitl [H2]; · iexists _; isplitr; · ipureintro; exact harg4.read_unread _
                    iexact H2
    isplitl [H3]; · iexists _; isplitr; · ipureintro; exact harg5.read_unread _
                    iexact H3
    isplitl [H4]; · iexists _; isplitr; · ipureintro; exact harg6.read_unread _
                    iexact H4
    isplitl [H5]
    · iexists _; isplitr
      swap; · iexact H5
      ipureintro
      first
        | (rw [if_neg hl]; exact harg8.read_unread _)
        | (rw [if_pos hl, if_pos hj]; exact (View.read_writes_full _ _ _ _ _).trans (View.readCov_full _ _ _ _ _))
        | (rw [if_pos hl, if_neg hj]; exact (View.read_writes_full _ _ _ _ _).trans (View.readCov_full _ _ _ _ _))
    isplitl [H6]
    · iexists _; isplitr
      swap; · iexact H6
      ipureintro
      first
        | (rw [if_pos hi]; exact (View.read_writes_cons_put _ _ _ _ _ (off1_eq i)).trans (by rw [View.writes_nil, harg9.read_unread]))
        | (rw [if_neg hi]; exact (View.read_writes_cons_put _ _ _ _ _ (off2_eq i)).trans (by
            rw [View.writes_nil, harg9.read_unread]
            exact congrArg (fun z => VecWindow.put y6 ![256 * (i 1).val, 0] ![256, 512] (k0_pay2 (k0_pay11 x0 x2 x3 x4) z)) (r9 g2)))
    isplitl [H7]
    · iexists _; isplitr
      swap; · iexact H7
      ipureintro; exact View.read_writes_full _ _ _ _ _
    isplitl [H8]
    · iexists _; isplitr
      swap; · iexact H8
      ipureintro; exact View.read_writes_full _ _ _ _ _
    iexists _; isplitr
    swap; · iexact HS
    ipureintro
    first
      | (rw [if_pos hj]; exact View.read_writes_full _ _ _ _ _)
      | (rw [if_neg hj]; exact View.read_writes_full _ _ _ _ _)

end Cert.MixCIdeal.Gen

end
-- ==== Proof.MixCData.lean ====
/-
  The mixing gradient's call over its whole grid: what every buffer holds after each point, and the run.
-/
module

public import proofs.«01_k».proof.Proof.MixCRun
public import Idealize.ShloMosaic.Lib.Pipeline.ArrRel

@[expose] public section

set_option maxRecDepth 16384

noncomputable section

namespace Cert.MixCIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat BodyObligationRel)

variable {F : FTy → Type} [FloatOps F]

variable (m : (ℓ : Loc nD τ sig) → Buf (Elt F) ℓ) (ρ : Dev nD → PrngReg)

/-! ## The contents after each point -/

theorem point_row (t : Fin cfg0.N) : (grid0.coords t 0).val = t.val / 4 :=
  (by decide +kernel : ∀ t : Fin grid0.N, (grid0.coords t 0).val = t.val / 4) t
theorem point_col (t : Fin cfg0.N) : (grid0.coords t 1).val = t.val % 4 :=
  (by decide +kernel : ∀ t : Fin grid0.N, (grid0.coords t 1).val = t.val % 4) t

/-- The running sum after point `n`. -/
abbrev sumAt (c : Dev nD) : (n : ℕ) → n < cfg0.N → Vec F S2048x512 .f32 :=
  MixPoints.sumAt (fun t => k0_pay3 (k0_pay7 (iblk m c 2 t) (iblk m c 3 t) (iblk m c 4 t)) (iblk m c 1 t))
    fun t => k0_pay4 (k0_pay7 (iblk m c 2 t) (iblk m c 3 t) (iblk m c 4 t)) (iblk m c 1 t)

/-- Which of the weight gradient's rows are known after a point. -/
abbrev WeightRel (c : Dev nD) : Fin cfg0.N → Vec F S1024x512 .f32 → Prop :=
  MixPoints.WeightRel k0_pay2 fun t => k0_pay11 (iblk m c 0 t) (iblk m c 2 t) (iblk m c 3 t) (iblk m c 4 t)

/-- What is said of an output's buffer after point `t`. -/
def Rl (c : Dev nD) (w : Fin cfg0.W) (t : Fin cfg0.N) : ((cfg0.win w).block.Idx → Elt F (cfg0.win w).elt) → Prop :=
  match w with
  | ⟨5, _⟩ => fun X => t.val % 4 = 3 → X = sumAt m c t.val t.isLt
  | ⟨6, _⟩ => fun X => WeightRel m c t X
  | ⟨7, _⟩ => fun X => X = k0_pay9 (iblk m c 0 t) (iblk m c 1 t) (iblk m c 2 t) (iblk m c 3 t) (iblk m c 4 t)
  | ⟨8, _⟩ => fun X => X = k0_pay10 (iblk m c 0 t) (iblk m c 1 t) (iblk m c 2 t) (iblk m c 3 t) (iblk m c 4 t)
  | _ => fun _ => True

/-- The windows of which only `Rl` is said: the outputs. -/
def outputs : Fin 9 → Bool := fun | 5 | 6 | 7 | 8 => true | _ => false

/-- The scratch, whole. -/
abbrev scM : Memref sig .tc .vmem S2048x512 .f32 := Memref.whole cc0_scratch0

/-- Between the points: the scratch holds the running sum of the row block, and at a row block's start anything. -/
def carried (c : Dev nD) (n : ℕ) : sProp (Machine F) :=
  iprop((∃ s, ⌜∀ h : n - 1 < cfg0.N, n % 4 ≠ 0 → s = sumAt m c (n - 1) h⌝ ∗ owns (c : Thread nD τ) scM fullShare s) ∗ ∃ r, prngReg c r)

theorem rest_eq (c : Dev nD) : (Pipeline.ΦA spec0 c : sProp (Machine F))
    = iprop((∃ s, owns (c : Thread nD τ) scM fullShare s) ∗ ∃ r, prngReg c r) := by
  unfold Pipeline.ΦA
  rw [scopedRest0_eq]
  simp only [scM, owns_whole]
  try rfl

theorem carried_in (c : Dev nD) : (Pipeline.ΦA spec0 c : sProp (Machine F)) ⊢ carried m c 0 := by
  rw [rest_eq]
  unfold carried
  iintro ⟨⟨%s, Hs⟩, Hg⟩
  isplitl [Hs]
  · iexists s; isplitr
    · ipureintro; intro _ h0; exact absurd rfl h0
    · iexact Hs
  · iexact Hg

theorem carried_out (c : Dev nD) (n : ℕ) : carried m c n ⊢ (Pipeline.ΦA spec0 c : sProp (Machine F)) := by
  rw [rest_eq]
  unfold carried
  iintro ⟨⟨%s, -, Hs⟩, Hg⟩
  isplitl [Hs]
  · iexists s; iexact Hs
  · iexact Hg

/-- The proof data on a core. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => Pipeline.Dat.unnamed (cfg := cfg0) 5 t
    | ⟨6, _⟩ => Pipeline.Dat.unnamed (cfg := cfg0) 6 t
    | ⟨7, _⟩ => Pipeline.Dat.unnamed (cfg := cfg0) 7 t
    | ⟨8, _⟩ => Pipeline.Dat.unnamed (cfg := cfg0) 8 t
  Φ n := carried m c n.val
  q _ := fullShare
  owed _ := 0

/-- The data with the outputs held to `Rl`. -/
abbrev rdat (c : Dev nD) : RDat τ (Elt F) Unit ℕ (UR sig nD τ) ℕ cfg0 c := (dats m 0 c).toRRel outputs (Rl m c)

theorem A_eq (c : Dev nD) (w : Fin cfg0.W) : (dats m 0 c).A w = V m c (Pipeline.arrRef spec0 w) := by dsimp only [dats]

theorem before0_0 (c : Dev nD) (t : Fin cfg0.N) (d) : (dats m 0 c).before 0 t d = iblk m c 0 t :=
  before0_0_of m (dats m 0 c) (A_eq m c 0) (fun t => by dsimp only [dats]) t d
theorem before0_1 (c : Dev nD) (t : Fin cfg0.N) (d) : (dats m 0 c).before 1 t d = iblk m c 1 t :=
  before0_1_of m (dats m 0 c) (A_eq m c 1) (fun t => by dsimp only [dats]) t d
theorem before0_2 (c : Dev nD) (t : Fin cfg0.N) (d) : (dats m 0 c).before 2 t d = iblk m c 2 t :=
  before0_2_of m (dats m 0 c) (A_eq m c 2) (fun t => by dsimp only [dats]) t d
theorem before0_3 (c : Dev nD) (t : Fin cfg0.N) (d) : (dats m 0 c).before 3 t d = iblk m c 3 t :=
  before0_3_of m (dats m 0 c) (A_eq m c 3) (fun t => by dsimp only [dats]) t d
theorem before0_4 (c : Dev nD) (t : Fin cfg0.N) (d) : (dats m 0 c).before 4 t d = iblk m c 4 t :=
  before0_4_of m (dats m 0 c) (A_eq m c 4) (fun t => by dsimp only [dats]) t d

/-- What the weight gradient's buffer may hold when a point starts. -/
theorem weight_found (c : Dev nD) (t : Fin cfg0.N) (Y : Vec F S1024x512 .f32) (h : (rdat m c).Finds 6 t Y) (ht : t.val ≠ 0) :
    WeightRel m c ⟨t.val - 1, Nat.lt_of_le_of_lt (Nat.sub_le _ _) t.isLt⟩ Y := by
  have hN : t.val < 8 := t.isLt
  have hl := ((rdat m c).finds_of_pos (w := 6) rfl ht Y).mp h
  refine (dats m 0 c).toRRel_leaves (fgt := outputs) (Rl := Rl m c) (w := 6) rfl (hl.resolve_left fun hf => ?_)
  have := (flush0_6 _).mp hf
  have e : (t.val - 1) % 8 = 7 := this
  omega

end Cert.MixCIdeal.Gen

end
-- ==== Proof.MixCLaunch.lean ====
/-
  The mixing gradient's call launched: one point against its data, then the whole grid.
-/
module

public import proofs.«01_k».proof.Proof.MixCData

@[expose] public section

set_option maxRecDepth 16384

noncomputable section

namespace Cert.MixCIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat BodyObligationRel)

variable {F : FTy → Type} [FloatOps F]
variable (m : (ℓ : Loc nD τ sig) → Buf (Elt F) ℓ) (ρ : Dev nD → PrngReg)

/-- A window's staging buffer at a point, owned at contents `X`. -/
abbrev holds (c : Dev nD) (w : Fin cfg0.W) (t : Fin cfg0.N) (X : (cfg0.win w).block.Idx → Elt F (cfg0.win w).elt) : sProp (Machine F) :=
  owns (c : Thread nD τ) ((cfg0.win w).stage (cfg0.slots t w)) fullShare X

/-- What the body finds. -/
def found (c : Dev nD) (t : Fin cfg0.N) : sProp (Machine F) :=
  iprop(carried m c t.val ∗ (dats m 0 c).owesAt () t.castSucc
    ∗ (∃ d, holds c 0 t ((dats m 0 c).before 0 t d)) ∗ (∃ d, holds c 1 t ((dats m 0 c).before 1 t d))
    ∗ (∃ d, holds c 2 t ((dats m 0 c).before 2 t d)) ∗ (∃ d, holds c 3 t ((dats m 0 c).before 3 t d))
    ∗ (∃ d, holds c 4 t ((dats m 0 c).before 4 t d))
    ∗ (∃ Y, ⌜(rdat m c).Finds 5 t Y⌝ ∗ holds c 5 t Y) ∗ (∃ Y, ⌜(rdat m c).Finds 6 t Y⌝ ∗ holds c 6 t Y)
    ∗ (∃ Y, ⌜(rdat m c).Finds 7 t Y⌝ ∗ holds c 7 t Y) ∗ (∃ Y, ⌜(rdat m c).Finds 8 t Y⌝ ∗ holds c 8 t Y))

/-- What the body leaves. -/
def left (c : Dev nD) (t : Fin cfg0.N) : sProp (Machine F) :=
  iprop(carried m c (t.val + 1) ∗ (dats m 0 c).owesAt () t.succ
    ∗ holds c 0 t (iblk m c 0 t) ∗ holds c 1 t (iblk m c 1 t) ∗ holds c 2 t (iblk m c 2 t) ∗ holds c 3 t (iblk m c 3 t)
    ∗ holds c 4 t (iblk m c 4 t)
    ∗ (∃ X, ⌜Rl m c 5 t X⌝ ∗ holds c 5 t X) ∗ (∃ X, ⌜Rl m c 6 t X⌝ ∗ holds c 6 t X)
    ∗ (∃ X, ⌜Rl m c 7 t X⌝ ∗ holds c 7 t X) ∗ (∃ X, ⌜Rl m c 8 t X⌝ ∗ holds c 8 t X))

theorem body_step (c : Dev nD) (t : Fin cfg0.N) :
    found m c t ⊢ wp frame (wpE (defs₀ (F := F)) Variants.none c none) Set.univ (bodyAt0 t) (fun _ => left m c t) := by
  unfold found left carried bodyAt0 holds
  simp only [before0_0, before0_1, before0_2, before0_3, before0_4]
  rw [show (dats m 0 c).owesAt () t.succ = (dats m 0 c).owesAt () t.castSucc from rfl]
  iintro ⟨⟨⟨%s, %hs, HS⟩, Hg⟩, Ho, ⟨%d0, H0⟩, ⟨%d1, H1⟩, ⟨%d2, H2⟩, ⟨%d3, H3⟩, ⟨%d4, H4⟩, ⟨%y5, -, H5⟩, ⟨%y6, %h6, H6⟩, ⟨%y7, -, H7⟩, ⟨%y8, -, H8⟩⟩
  have hw := MixPoints.weight_step k0_pay2 (fun t => k0_pay11 (iblk m c 0 t) (iblk m c 2 t) (iblk m c 3 t) (iblk m c 4 t)) t y6
    (fun ht => weight_found m c t y6 h6 ht) (point_row t) (point_col t) (grid0.coords t 1).isLt
  have hsum := MixPoints.sum_step (fun t => k0_pay3 (k0_pay7 (iblk m c 2 t) (iblk m c 3 t) (iblk m c 4 t)) (iblk m c 1 t))
    (fun t => k0_pay4 (k0_pay7 (iblk m c 2 t) (iblk m c 3 t) (iblk m c 4 t)) (iblk m c 1 t)) t s hs
  rw [← point_col t] at hsum
  iapply run (defs₀ (F := F)) c (grid0.coords t) _ _ _ _ _ _ _ _ _ _ _ _ _ _ _ _ _ _ _ _ _ _ (iblk m c 0 t) (iblk m c 1 t) (iblk m c 2 t) (iblk m c 3 t) (iblk m c 4 t) y5 y6 s Set.univ
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [HS]; · iexact HS
  iintro ⟨H0, H1, H2, H3, H4, H5, H6, H7, H8, HS⟩
  isplitl [HS Hg]
  · isplitl [HS]
    · iexists _; isplitr
      swap; · iexact HS
      ipureintro; intro h _
      exact hsum
    · iexact Hg
  isplitl [Ho]; · iexact Ho
  isplitl [H0]; · iexact H0
  isplitl [H1]; · iexact H1
  isplitl [H2]; · iexact H2
  isplitl [H3]; · iexact H3
  isplitl [H4]; · iexact H4
  isplitl [H5]
  · iexists _; isplitr
    swap; · iexact H5
    ipureintro; intro h3
    rw [if_pos ((point_col t).trans h3)]
    exact hsum
  isplitl [H6]
  · iexists _; isplitr
    swap; · iexact H6
    ipureintro; exact hw
  isplitl [H7]
  · iexists _; isplitr
    swap; · iexact H7
    ipureintro; exact rfl
  iexists _; isplitr
  swap; · iexact H8
  ipureintro; exact rfl

theorem body_row (t : Fin cfg0.N) : defs₀ (F := F) .tc cfg0.body (cfg0.bodyArgs t (cfg0.slots t)) = bodyAt0 t := by
  unfold defs₀; rw [Defs.onTc_tc]

theorem body_obligation (c : Dev nD) : BodyObligationRel (dats (F := F) m 0 c) (defs₀ (F := F)) Variants.none () Set.univ outputs (Rl m c) := fun t => by
  rw [bigSep_W0, bigSep_W0, body_row]
  exact triple_restated (body_step m c t) rfl .rfl fun _ => .rfl

set_option backward.isDefEq.respectTransparency.types false in
/-- The launch: every array of the call at what the data says, and every counter at zero. -/
theorem launch : θ_run defs (onTc (τ := τ) (main (F := F))) (s₀ m ρ)
    (fun r => RDat.FramePost cfg0 (fun c => rdat m c) (V m) r ∧ r.2.sem = fun _ => 0) :=
  RDat.θ_run_frame_track (Q' := _) cfgs (0 : Fin 1) launch0 defs₀ Variants.none (fun c => rdat m c) m ρ main
    (hbody := fun c => (body_obligation m c).toRRel) (hshare := fun c => (dats m 0 c).share_full fun _ => rfl)
    (howed := fun _ _ => rfl) (V := V m) (hmain := hmain m Variants.none) (hA := A_eq m)
    (hin := fun c => carried_in m c) (hout := fun c => carried_out m c _)

variable {m} in
/-- After the launch the arguments are as they were. -/
theorem kept {r : PUnit × MemSt nD τ sig (Elt F)} (h : RDat.FramePost cfg0 (fun c => rdat m c) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨(RDat.FramePost.arr_in h c 2 rfl).trans ((A_eq m c 2).trans (V_main_arg0 m c)),
    (RDat.FramePost.arr_in h c 3 rfl).trans ((A_eq m c 3).trans (V_main_arg1 m c)),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    (RDat.FramePost.arr_in h c 4 rfl).trans ((A_eq m c 4).trans (V_main_arg4 m c)),
    ((h c).2 main_arg5 (Pipeline.mem_restRefs_of main_arg5 (by decide) (by decide))).trans (V_main_arg5 m c)⟩

/-- The frame: the arguments end unchanged and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨kept h.1, h.2⟩) (launch m ρ)

end Cert.MixCIdeal.Gen

end
-- ==== Proof.MixCBits.lean ====
/-
  The mixing gradient's call on the machine's own floats: it is the same program, so its frame is the one already proved.
-/
module

public import proofs.«01_k».proof.Defs
public import proofs.«01_k».proof.Proof.Gen.MixC.Frame
public import proofs.«01_k».proof.Proof.MixCLaunch

@[expose] public section

set_option maxRecDepth 65536

open Idealize.ShloMosaic Idealize.ShloMosaic.TcCoe Idealize.SL.Sem

namespace Cert.MixCProof

section
variable (F : FTy → Type) [FloatOps F] [a : Cert.MixC.Facts] [b : Cert.MixCIdeal.Facts]

/-- The two programs' bodies agree. -/
theorem bodies : Cert.MixC.defs₀ (F := F) = Cert.MixCIdeal.defs₀ (F := F) := by
  unfold Cert.MixC.defs₀ Cert.MixCIdeal.defs₀
  refine congrArg Defs.onTc ?_
  funext l x
  match l, x with
  | 0, (t, s) => exact rfl
  | ⟨_ + 1, h⟩, _ => exact absurd h (Nat.not_lt.2 (Nat.le_add_left _ _))

/-- And so do their definitions. -/
theorem definitions : Cert.MixC.defs (F := F) = Cert.MixCIdeal.defs (F := F) := by
  unfold Cert.MixC.defs Cert.MixCIdeal.defs
  rw [bodies]
  exact rfl

end

theorem quiescent_kernel [Cert.MixC.Facts] [Cert.MixCIdeal.Facts] : Cert.quiescent_MixC := fun m g _ => by
  rw [definitions]
  exact Cert.MixCIdeal.Gen.frame (F := Bits) m g

end Cert.MixCProof

end
-- ==== Proof.MixStep.lean ====
/-
  What one point of a mixing gradient's call computes, for a branch of 512 columns.
-/
module

public import proofs.«01_k».proof.Proof.MixCRun
public import Idealize.ShloMosaic.Lib.Claim

@[expose] public section

set_option maxRecDepth 16384

noncomputable section

open Idealize.ShloMosaic

namespace Cert.MixStep

open Cert.MixCIdeal Cert.MixCIdeal.Gen MixPoints

variable {z : FVec Ideal ⟨2, ![4096, 7424]⟩ .f32} {b : FVec Ideal ⟨2, ![1, 3072]⟩ .f32} {k : Fin 3} {d : FVec Ideal ⟨2, ![4096, 1024]⟩ .f32} {t : Fin 8}
  {x2 : Vec Ideal S2048x256 .f32} {x3 : Vec Ideal S1x256 .f32} {x4 : Vec Ideal S2048x256 .f32}

/-! ## A branch of any width -/

section
variable {w : ℕ} {φ : FTy} {Y : FVec Ideal ⟨2, ![4096, w]⟩ .f32} {W : FVec Ideal ⟨2, ![w, 1024]⟩ .f32}
  {x0 : FVec Ideal ⟨2, ![2048, w]⟩ φ} {x1 : Vec Ideal ⟨2, ![256, w]⟩ .bf16} (h : Blocks z b k Y W d t x0 x1 x2 x3 x4)
include h

/-- The gate. -/
theorem gate (r : Fin 2048) (j : Fin 256) : k0_pay6 x2 x3 (ix2 r j) = MixSpec.gate z b k (ix2 (row t r) (col t j)) := by
  refine Eq.trans (?_ : _ = Ideal.div 1 (1 + Ideal.exp (0 - @HAdd.hAdd EReal EReal EReal _ (x2 (ix2 r j)) (x3 (ix2 0 j))))) ?_
  · pointwise [k0_pay6]
  · rw [h.input, h.bias, sub_eq_add_neg, zero_add]
    rfl

/-- The gradient at the branch's projection. -/
theorem product (r : Fin 2048) (j : Fin 256) : k0_pay7 x2 x3 x4 (ix2 r j) = MixSpec.atProduct z b k d (ix2 (row t r) (col t j)) := by
  unfold MixSpec.atProduct
  rw [← gate h, ← h.grad]
  pointwise [k0_pay7]

end

/-! ## A branch of 512 columns -/

variable {Y : FVec Ideal ⟨2, ![4096, 512]⟩ .f32} {W : FVec Ideal ⟨2, ![512, 1024]⟩ .f32} {x0 : Vec Ideal S2048x512 .bf16} {x1 : Vec Ideal S256x512 .bf16}
  (h : Blocks (φ := .bf16) z b k Y W d t x0 x1 x2 x3 x4)
include h

/-- The gradient at the gate's argument. -/
theorem grad (r : Fin 2048) (j : Fin 256) : k0_pay8 x0 x1 x2 x3 x4 (ix2 r j) = MixSpec.atGate z b k Y W d (ix2 (row t r) (col t j)) := by
  rw [← h.atGate (gate h r j)]
  pointwise [k0_pay8, k0_pay5]

/-- It is what the point stores, -/
theorem stored (r : Fin 2048) (j : Fin 256) : k0_pay9 x0 x1 x2 x3 x4 (ix2 r j) = MixSpec.atGate z b k Y W d (ix2 (row t r) (col t j)) := by
  rw [← grad h]
  pointwise [k0_pay9]

/-- and its rows are summed by eighths. -/
theorem bias (r : Fin 8) (j : Fin 256) : k0_pay10 x0 x1 x2 x3 x4 (ix2 r j)
    = MixSpec.atBias (MixSpec.atGate z b k Y W d) (ix2 ⟨t.val / 4 * 8 + r.val, by omega⟩ (col t j)) := by
  rw [← bias_result]
  refine Eq.trans (?_ : _ = ∑ q : Fin 256, k0_pay8 x0 x1 x2 x3 x4 (ix2 ⟨q.val * 8 + r.val, by omega⟩ j)) (Finset.sum_congr rfl fun q _ => grad h _ j)
  pointwise [k0_pay10]

/-- The point's share of the weight gradient, -/
theorem share (j : Fin 256) (l : Fin 512) : k0_pay11 x0 x2 x3 x4 (ix2 j l) = shareOf (MixSpec.atProduct z b k d) Y t j l := by
  rw [← h.share (product h) j l]
  pointwise [k0_pay11, k0_pay5]

/-- and of the branch's gradient, -/
theorem part (r : Fin 2048) (l : Fin 512) : k0_pay1 (k0_pay7 x2 x3 x4) x1 (ix2 r l) = partAt (MixSpec.atProduct z b k d) W t r l := by
  rw [← h.part (product h) r l]
  pointwise [k0_pay1]

/-- which starts a row block's sum, -/
theorem first (r : Fin 2048) (l : Fin 512) : k0_pay3 (k0_pay7 x2 x3 x4) x1 (ix2 r l) = partAt (MixSpec.atProduct z b k d) W t r l := by
  rw [← part h]
  pointwise [k0_pay3]

/-- or is added to it. -/
theorem next (s : Vec Ideal S2048x512 .f32) (r : Fin 2048) (l : Fin 512) : k0_pay4 (k0_pay7 x2 x3 x4) x1 s (ix2 r l)
    = @HAdd.hAdd EReal EReal EReal _ (s (ix2 r l)) (partAt (MixSpec.atProduct z b k d) W t r l) := by
  rw [← part h]
  pointwise [k0_pay4]

omit h in
/-- Adding to rows of the weight gradient. -/
theorem add (p q : Vec Ideal S256x512 .f32) (y : S256x512.Idx) : k0_pay2 p q y = @HAdd.hAdd EReal EReal EReal _ (q y) (p y) := by
  pointwise [k0_pay2]

end Cert.MixStep

end
-- ==== Proof.MixCBlock.lean ====
/-
  What the points of the mixing gradient's call read.
-/
module

public import proofs.«01_k».proof.Proof.MixCLaunch
public import proofs.«01_k».proof.Proof.MixStep
public import Idealize.ShloMosaic.Lib.Claim
public import Idealize.ShloMosaic.Lib.StableHlo.RunClose

@[expose] public section

set_option maxRecDepth 16384

noncomputable section

open Idealize.ShloMosaic Idealize.ShloMosaic.TcCoe Idealize.SL.Sem

namespace Cert.MixCIdeal.Whole

open Cert.MixCIdeal Cert.MixCIdeal.Gen

variable (m : (ℓ : Loc nD τ sig) → Buf (Elt Ideal) ℓ)

theorem idx : ∀ t : Fin cfg0.N, (win0_0.index t = ![t.val / 4, 0] ∧ win0_1.index t = ![t.val % 4, 0]
    ∧ win0_2.index t = ![t.val / 4, 21 + t.val % 4] ∧ win0_3.index t = ![0, 4 + t.val % 4]
    ∧ win0_4.index t = ![t.val / 4, t.val % 4]) ∧ (win0_5.index t = ![t.val / 4, 0] ∧ win0_6.index t = ![0, 0]
    ∧ win0_7.index t = ![t.val / 4, 21 + t.val % 4] ∧ win0_8.index t = ![t.val / 4, t.val % 4]) :=
  (by decide +kernel : ∀ t : Fin grid0.N, _)

abbrev z (c : Dev nD) : FVec Ideal S4096x7424 .f32 := m ((c : Thread nD τ).loc main_arg0)
abbrev b (c : Dev nD) : FVec Ideal S1x3072 .f32 := m ((c : Thread nD τ).loc main_arg1)
abbrev Y (c : Dev nD) : FVec Ideal S4096x512 .f32 := m ((c : Thread nD τ).loc main_arg2)
abbrev W (c : Dev nD) : FVec Ideal S512x1024 .f32 := m ((c : Thread nD τ).loc main_arg3)
abbrev d (c : Dev nD) : FVec Ideal S4096x1024 .f32 := m ((c : Thread nD τ).loc main_arg4)
abbrev D (c : Dev nD) : FVec Ideal S4096x7424 .f32 := m ((c : Thread nD τ).loc main_arg5)

theorem entry0 (c : Dev nD) (r : Fin 4096) (k : Fin 512) : V m c main_v0 (ix2 r k) = Y m c (ix2 r k) := by
  have h : V m c main_v0 = (truncf .bf16 (Y m c) bitsLt_bf16_f32 : FVec Ideal _ .bf16) := by
    show StableHlo.after hostOps0 (fun b => m (c, b)) (Proc.devRef .tc main_v0) = _
    after_results_entrywise (rounds := 1) []
  rw [h]
  pointwise []

theorem entry1 (c : Dev nD) (j : Fin 1024) (k : Fin 512) : V m c main_v2 (ix2 j k) = W m c (ix2 k j) := by
  have h : V m c main_v2 = (truncf .bf16 (transpose S1024x512 [1, 0] (W m c) transposes_S512x1024_S1024x512_1_0) bitsLt_bf16_f32 : FVec Ideal _ .bf16) := by
    show StableHlo.after hostOps0 (fun b => m (c, b)) (Proc.devRef .tc main_v2) = _
    after_results_entrywise (rounds := 1) []
  rw [h]
  pointwise []

theorem entry7 (c : Dev nD) (y : S4096x7424.Idx) : V m c main_v4_2 y = D m c y := by
  have h : V m c main_v4_2 = (truncf .bf16 (D m c) bitsLt_bf16_f32 : FVec Ideal _ .bf16) := by
    show StableHlo.after hostOps0 (fun b => m (c, b)) (Proc.devRef .tc main_v4_2) = _
    after_results_entrywise (rounds := 1) []
  rw [h]
  pointwise []

/-- A point's blocks. -/
theorem blocks (c : Dev nD) (t : Fin cfg0.N) : MixPoints.Blocks (φ := .bf16) (z m c) (b m c) 1 (Y m c) (W m c) (d m c) t
    (iblk m c 0 t) (iblk m c 1 t) (iblk m c 2 t) (iblk m c 3 t) (iblk m c 4 t) where
  branch r k := by
    rw [← entry0]
    unfold iblk
    blk_simp [idx t]
    exact congrArg (V m c main_v0) (by blk_ext [idx t])
  weight j k := by
    rw [← entry1]
    unfold iblk
    blk_simp [idx t]
    exact congrArg (V m c main_v2) (by blk_ext [idx t])
  input r j := by
    have ht : t.val < 8 := t.isLt
    blk_point [iblk, V, idx t]
  bias j := by
    have ht : t.val < 8 := t.isLt
    blk_point [iblk, V, idx t]
  grad r j := by
    blk_point [iblk, V, idx t]

end Cert.MixCIdeal.Whole

end
-- ==== Proof.MixCValue.lean ====
/-
  The mixing gradient's results, read off what the call leaves.
-/
module

public import proofs.«01_k».proof.Proof.MixCBlock

@[expose] public section

set_option maxRecDepth 16384

noncomputable section

open Idealize.ShloMosaic Idealize.ShloMosaic.TcCoe Idealize.SL.Sem

namespace Cert.MixCIdeal.Whole

open Cert.MixCIdeal Cert.MixCIdeal.Gen Idealize.ShloMosaic.Pipeline

variable (m : (ℓ : Loc nD τ sig) → Buf (Elt Ideal) ℓ)

abbrev dpre (c : Dev nD) : FVec Ideal S4096x1024 .f32 := MixSpec.atGate (z m c) (b m c) 1 (Y m c) (W m c) (d m c)
abbrev dy (c : Dev nD) : FVec Ideal S4096x512 .f32 := MixSpec.atBranch (z m c) (b m c) 1 (W m c) (d m c)
abbrev dw (c : Dev nD) : FVec Ideal S1024x512 .f32 := MixSpec.atWeight (z m c) (b m c) 1 (Y m c) (d m c)
abbrev dz (c : Dev nD) : FVec Ideal S4096x7424 .f32 := MixSpec.atInput 1 (D m c) (dpre m c)
abbrev db (c : Dev nD) : FVec Ideal S16x1024 .f32 := MixSpec.atBias (dpre m c)

/-- The grid's last point. -/
abbrev lastPoint : Fin cfg0.N := ⟨7, by decide⟩

theorem flush5 : ∀ t : Fin cfg0.N, (cfg0.win 5).flush t = true → t.val % 4 = 3 := by decide +kernel
theorem flush6 : ∀ t : Fin cfg0.N, (cfg0.win 6).flush t = true → t = lastPoint := by decide +kernel

section
variable (c : Dev nD) (after : (w : Fin cfg0.W) → Fin cfg0.N → (cfg0.win w).block.Idx → Elt Ideal (cfg0.win w).elt)
  (left : ∀ (w : Fin cfg0.W) (u : Fin cfg0.N), (cfg0.win w).flush u = true → (rdat m c).Leaves w u (after w u))
include left

theorem final5 : ((rdat m c).withAfter after).arrAt 5 cfg0.N = dy m c := by
  refine ((rdat m c).withAfter after).arrAt_eq_of_covers 5 _ (by decide +kernel) fun t hf y => ?_
  have h : after 5 t = sumAt m c t.val t.isLt := (dats m 0 c).toRRel_leaves (w := 5) rfl (left 5 t hf) (flush5 t hf)
  blk_simp
  rw [RDat.withAfter_after, h]
  obtain ⟨r, k, rfl⟩ : ∃ (r : Fin 2048) (k : Fin 512), y = ix2 r k := ⟨_, _, eq_ix2 y⟩
  refine (MixPoints.sum_result _ _ (fun t => MixStep.first (blocks m c t)) (fun t => MixStep.next (blocks m c t)) t (flush5 t hf) r k).trans (congrArg (dy m c) ?_)
  blk_ext [idx t]

theorem final6 : ((rdat m c).withAfter after).arrAt 6 cfg0.N = dw m c := by
  refine ((rdat m c).withAfter after).arrAt_eq_of_covers 6 _ (by decide +kernel) fun t hf y => ?_
  obtain rfl := flush6 t hf
  have h : after 6 lastPoint = dw m c := MixPoints.weight_result _ _ MixStep.add (fun t => MixStep.share (blocks m c t)) _ ((dats m 0 c).toRRel_leaves (w := 6) rfl (left 6 lastPoint hf))
  blk_simp
  rw [RDat.withAfter_after, h]
  exact congrArg (dw m c) (by blk_ext [idx lastPoint])

theorem final7 : ((rdat m c).withAfter after).arrAt 7 cfg0.N = dz m c := by
  refine ((rdat m c).withAfter after).arrAt_eq_of_coversWhere_of_agree 7 (dz m c) (fun β => 21 ≤ β (1 : Fin 2) ∧ β (1 : Fin 2) ≤ 24) (by decide +kernel) (fun t hf y => ?_) (fun j hj => ?_)
  · have h : after 7 t = k0_pay9 (iblk m c 0 t) (iblk m c 1 t) (iblk m c 2 t) (iblk m c 3 t) (iblk m c 4 t) := (dats m 0 c).toRRel_leaves (w := 7) rfl (left 7 t hf)
    blk_simp
    rw [RDat.withAfter_after, h]
    obtain ⟨r, k, rfl⟩ : ∃ (r : Fin 2048) (k : Fin 256), y = ix2 r k := ⟨_, _, eq_ix2 y⟩
    have ht : t.val < 8 := t.isLt
    have e : (win0_7.blk t).view.emb (ix2 r k) = ix2 (MixPoints.row t r) ⟨4352 + (1 : Fin 3).val * 1024 + (MixPoints.col t k).val, by show 4352 + 1 * 1024 + (t.val % 4 * 256 + k.val) < 7424; omega⟩ := by blk_ext [idx t]
    rw [e]
    exact (MixStep.stored (blocks m c t) r k).trans (MixPoints.input_written 1 _ _ _ _).symm
  · rw [RDat.withAfter_A]
    blk_simp [Pipeline.Window.cell_apply] at hj
    refine ((congrFun (A_eq m c 7) j).trans (entry7 m c j)).trans (MixPoints.input_kept 1 _ _ j ?_).symm
    show ¬ (4352 + 1 * 1024 ≤ (j 1).val ∧ (j 1).val < 5376 + 1 * 1024)
    omega

theorem final8 : ((rdat m c).withAfter after).arrAt 8 cfg0.N = db m c := by
  refine ((rdat m c).withAfter after).arrAt_eq_of_covers 8 _ (by decide +kernel) fun t hf y => ?_
  have h : after 8 t = k0_pay10 (iblk m c 0 t) (iblk m c 1 t) (iblk m c 2 t) (iblk m c 3 t) (iblk m c 4 t) := (dats m 0 c).toRRel_leaves (w := 8) rfl (left 8 t hf)
  blk_simp
  rw [RDat.withAfter_after, h]
  obtain ⟨r, k, rfl⟩ : ∃ (r : Fin 8) (k : Fin 256), y = ix2 r k := ⟨_, _, eq_ix2 y⟩
  refine (MixStep.bias (blocks m c t) r k).trans (congrArg (db m c) ?_)
  blk_ext [idx t]

end

/-- The run: every result at its value, and the arguments as they were. -/
theorem run_values (ρ : Dev nD → PrngReg) : θ_run defs (onTc (τ := τ) (main (F := Ideal))) ⟨m, fun _ => 0, ρ⟩ (fun r => ∀ c : Dev nD,
      r.2.mem ((c.tc : Thread nD τ).loc main_v4_0) = dy m c
      ∧ r.2.mem ((c.tc : Thread nD τ).loc main_v4_1) = dw m c
      ∧ r.2.mem ((c.tc : Thread nD τ).loc main_v4_2) = dz m c
      ∧ r.2.mem ((c.tc : Thread nD τ).loc main_v4_3) = db m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => by
    obtain ⟨after, left, arr⟩ := RDat.FramePost.exists_exact h.1 c
    exact ⟨(arr 5).trans (final5 m c after left), (arr 6).trans (final6 m c after left), (arr 7).trans (final7 m c after left),
      (arr 8).trans (final8 m c after left), kept h.1 c⟩) (launch m ρ)

end Cert.MixCIdeal.Whole

end
-- ==== Proof.MixReference.lean ====
/-
  The reference's gradients of one mixing branch of 512 columns, from its gate on.
-/
module

public import proofs.«01_k».proof.Proof.Gen.MixCRefIdeal.Run
public import proofs.«01_k».proof.Proof.MixSpec
public import proofs.«01_k».proof.Proof.LayerWeights
public import Idealize.ShloMosaic.Lib.Claim

@[expose] public section

set_option maxRecDepth 16384

noncomputable section

open Idealize.ShloMosaic

namespace Cert.MixReference

open Cert.MixCRefIdeal Cert.MixCRefIdeal.Gen

variable (z : FVec Ideal S4096x7424 .f32) (b : FVec Ideal S1x3072 .f32) (k : Fin 3) (Y : FVec Ideal S4096x512 .f32) (W : FVec Ideal S512x1024 .f32)
  (d : FVec Ideal S4096x1024 .f32) {G : FVec Ideal S4096x1024 .f32} (hG : G = MixSpec.gate z b k)

/-- The reference's ones. -/
abbrev ones : FVec Ideal S4096x1024 .f32 := broadcastInDim S4096x1024 ![] bcast_S_S4096x1024 (constant S_ .f32 0x3F800000#32)

include hG

theorem grad_eq : mulf (mulf d (Host.dotGeneral (φ₁ := .f32) (φ₂ := .f32) dot_S4096x512_S512x1024_S4096x1024_1_0_0_1_n_n none Y W)) (mulf G (subf ones G))
    = MixSpec.atGate z b k Y W d := by
  rw [hG]
  funext y
  unfold MixSpec.atGate LayerSpec.product
  pointwise []

theorem branch_eq : Host.dotGeneral (φ₁ := .f32) (φ₂ := .f32) dot_S4096x1024_S512x1024_S4096x512_1_1_0_0_n_n none (mulf G d) W
    = MixSpec.atBranch z b k W d := by
  rw [hG]
  funext y
  unfold MixSpec.atBranch LayerSpec.productT MixSpec.atProduct
  pointwise []

theorem weight_eq : transpose S1024x512 [1, 0] (transpose S512x1024 [1, 0]
      (Host.dotGeneral (φ₁ := .f32) (φ₂ := .f32) dot_S4096x1024_S4096x512_S1024x512_0_0_1_1_n_n none (mulf G d) Y)
      transposes_S1024x512_S512x1024_1_0) transposes_S512x1024_S1024x512_1_0
    = MixSpec.atWeight z b k Y d := by
  rw [hG]
  funext y
  unfold MixSpec.atWeight LayerSpec.productN MixSpec.atProduct
  pointwise []

omit hG in
theorem bias_eq (P : FVec Ideal S4096x1024 .f32) : (shapeCast S16x1024 (Host.reduceAdd (shapeCast S2x256x8x1024 P shapeCasts_S4096x1024_S2x256x8x1024)
      (constant S_ .f32 0x00000000#32) reducesTo_S2x256x8x1024_S2x8x1024_d1 h_S_) shapeCasts_S2x8x1024_S16x1024 : FVec Ideal S16x1024 .f32)
    = MixSpec.atBias P := by
  funext y
  unfold MixSpec.atBias
  pointwise []
  exact Finset.sum_congr rfl fun q _ => congrArg P (congrArg (ix2 · (y 1)) (Fin.ext (Nat.add_assoc _ _ _)))

end Cert.MixReference

end
-- ==== Proof.MixCClaims.lean ====
/-
  The claims about the mixing gradient of the convolution's branch.
-/
module

public import proofs.«01_k».proof.Defs
public import proofs.«01_k».proof.Proof.MixCBits
public import proofs.«01_k».proof.Proof.MixCValue
public import proofs.«01_k».proof.Proof.MixReference
public import Idealize.ShloMosaic.Lib.Quiescent

@[expose] public section

set_option maxRecDepth 16384

noncomputable section

open Idealize.ShloMosaic Idealize.ShloMosaic.TcCoe Idealize.SL.Sem

namespace Cert.MixCProof

theorem quiescent_ideal : Cert.quiescent_MixCIdeal := fun m g _ => Cert.MixCIdeal.Gen.frame m g

theorem quiescent_reference : Cert.quiescent_MixCRefIdeal := fun m g _ =>
  (θ_run Cert.MixCRefIdeal.defs _ _).mono
    (fun r h => ⟨fun c => (h c).2.2.2.2, Idealize.ShloMosaic.sem_eq_zero_of_no_sems (by decide) r.2⟩)
    (Cert.MixCRefIdeal.Value.run (F := Ideal) m g)

section
open Cert.MixCRefIdeal Cert.MixCRefIdeal.Gen

variable (z : FVec Ideal S4096x7424 .f32) (b : FVec Ideal S1x3072 .f32) (D : FVec Ideal S4096x7424 .f32)

/-- The reference's gate. -/
abbrev gate : FVec Ideal S4096x1024 .f32 :=
  Host.divf MixReference.ones (addf MixReference.ones (Host.exp (Host.negf (addf (extractStridedSlice S4096x1024 ![0, 5376] z slices_S4096x7424_S4096x1024_0_5376)
    (broadcastInDim S4096x1024 ![0, 1] bcast_S1x1024_S4096x1024_0_1 (extractStridedSlice S1x1024 ![0, 1024] b slices_S1x3072_S1x1024_0_1024))))))

theorem gate_eq : gate z b = MixSpec.gate z b 1 := by
  funext y
  unfold MixSpec.gate MergeSpec.sigmoid MergeSpec.gateIn
  pointwise []
  refine congrArg (fun i => Ideal.div 1 (1 + Ideal.exp (-(z (ix2 (y 0) i) + _)))) (Fin.ext ?_)
  show 5376 + (y 1).val = 4352 + (1024 + (y 1).val)
  omega

theorem reference_input (P : FVec Ideal S4096x1024 .f32) : (truncf .bf16 (concatenate S4096x7424 1 [⟨S4096x5376, extractStridedSlice S4096x5376 ![0, 0] D slices_S4096x7424_S4096x5376_0_0⟩,
      ⟨S4096x1024, P⟩, ⟨S4096x1024, extractStridedSlice S4096x1024 ![0, 6400] D slices_S4096x7424_S4096x1024_0_6400⟩]
      concatenates_S4096x5376_S4096x1024_S4096x1024_S4096x7424_d1) bitsLt_bf16_f32 : FVec Ideal S4096x7424 .bf16)
    = MixSpec.atInput 1 D P := by
  funext y
  unfold MixSpec.atInput
  pointwise []
  have hy : (y 1).val < 7424 := (y 1).isLt
  split
  · rw [dif_neg (by omega)]
  · split
    · rw [dif_pos (by omega)]
    · rw [dif_neg (by omega)]
      refine Eq.trans (congrArg D (congrArg (ix2 (y 0) ·) (Fin.ext ?_))) (congrArg D (eq_ix2 y)).symm
      show 6400 + ((y 1).val - 5376 - 1024) = (y 1).val
      omega

end

theorem algebraic : Cert.algebraic_MixCIdeal_MixCRefIdeal := fun m g m' g' _ hag =>
  ⟨Cert.MixCIdeal.Whole.dy m, Cert.MixCIdeal.Whole.dw m, Cert.MixCIdeal.Whole.dz m, Cert.MixCIdeal.Whole.db m,
    Cert.MixCIdeal.Whole.run_values m g,
    (θ_run Cert.MixCRefIdeal.defs _ _).mono
      (fun _ h c => by
        obtain ⟨h0, h1, h2, h3, h4, h5⟩ := hag c
        obtain ⟨o0, o1, o2, o3, hA⟩ := h c
        rw [h0, h1, h3, h4] at o0
        rw [h0, h1, h2, h4] at o1
        rw [h0, h1, h2, h3, h4, h5] at o2
        rw [h0, h1, h2, h3, h4] at o3
        exact ⟨o0.trans (MixReference.branch_eq _ _ _ _ _ (gate_eq _ _)), o1.trans (MixReference.weight_eq _ _ _ _ _ (gate_eq _ _)),
          o2.trans ((reference_input _ _).trans (congrArg _ (MixReference.grad_eq _ _ _ _ _ _ (gate_eq _ _)))),
          o3.trans ((MixReference.bias_eq _).trans (congrArg _ (MixReference.grad_eq _ _ _ _ _ _ (gate_eq _ _)))), hA⟩)
      (Cert.MixCRefIdeal.Value.run (F := Ideal) m' g')⟩

end Cert.MixCProof

end
-- ==== Proof.MixPRun.lean ====
module

public import proofs.«01_k».proof.Proof.Gen.MixPIdeal.Frame
public import proofs.«01_k».proof.Proof.Gen.MixPIdeal.Skeleton
public import Idealize.ShloMosaic.Lib.Pipeline.Frame
public import Idealize.ShloMosaic.Lib.Pipeline.DatRel
public import proofs.«01_k».proof.Proof.MixPoints
public import Idealize.ShloMosaic.Lib.Tactic
public import Idealize.ShloMosaic.Lib.WordCmp

/-!
  One grid point of the pooling branch's mixing gradient, run once on whole blocks. It has the convolution branch's body.
-/

@[expose] public section

set_option maxRecDepth 16384

noncomputable section

namespace Cert.MixPIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

/-- The machine on which the call runs. -/
abbrev Machine (F : FTy → Type) := MT nD τ sig Unit (Elt F) ℕ (UR sig nD τ) ℕ

/-- The running sum of the gradient by the branch's values after a point: started afresh at the first column block. -/
def sumNext (j : ℕ) (du : FVec F S2048x256 .bf16) (w : Vec F S256x512 .bf16) (s : Vec F S2048x512 .f32) : Vec F S2048x512 .f32 :=
  if j = 0 then k0_pay3 du w else k0_pay4 du w s

theorem off1_eq (i : grid0.Coords) : k0_off1 i = ![256 * (i 1).val, 0] := by
  have b1 : (i 1).val < 4 := (i 1).isLt
  generalize hj : (i 1).val = j at b1
  unfold k0_off1
  rw [hj]
  obtain rfl | rfl | rfl | rfl : j = 0 ∨ j = 1 ∨ j = 2 ∨ j = 3 := by omega
  all_goals rfl

theorem off2_eq (i : grid0.Coords) : k0_off2 i = ![256 * (i 1).val, 0] := off1_eq i

set_option maxHeartbeats 4000000 in
/-- The body at a grid point, on whole buffers: what every buffer holds afterwards. -/
theorem run (L : Defs nD τ sig (Elt F) Λ₀) (c : Dev nD) (i : grid0.Coords)
    (arg2 : Memref sig .tc .vmem S2048x512 .bf16) (harg2 : arg2.IsWhole) (arg3 : Memref sig .tc .vmem S256x512 .bf16) (harg3 : arg3.IsWhole)
    (arg4 : Memref sig .tc .vmem S2048x256 .f32) (harg4 : arg4.IsWhole) (arg5 : Memref sig .tc .vmem S1x256 .f32) (harg5 : arg5.IsWhole)
    (arg6 : Memref sig .tc .vmem S2048x256 .f32) (harg6 : arg6.IsWhole) (arg7 : Memref sig .tc .hbm S4096x7424 .bf16) (harg7 : arg7.IsWhole)
    (arg8 : Memref sig .tc .vmem S2048x512 .f32) (harg8 : arg8.IsWhole) (arg9 : Memref sig .tc .vmem S1024x512 .f32) (harg9 : arg9.IsWhole)
    (arg10 : Memref sig .tc .vmem S2048x256 .bf16) (harg10 : arg10.IsWhole) (arg11 : Memref sig .tc .vmem S8x256 .f32) (harg11 : arg11.IsWhole)
    (arg12 : Memref sig .tc .vmem S2048x512 .f32) (harg12 : arg12.IsWhole)
    (x0 : Vec F S2048x512 .bf16) (x1 : Vec F S256x512 .bf16) (x2 : Vec F S2048x256 .f32) (x3 : Vec F S1x256 .f32) (x4 : Vec F S2048x256 .f32)
    (y5 : Vec F S2048x512 .f32) (y6 : Vec F S1024x512 .f32) (s : Vec F S2048x512 .f32)
    (E : Set ℕ) (K : PUnit → sProp (Machine F)) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ owns (c : Thread nD τ) arg8 fullShare y5 ∗ owns (c : Thread nD τ) arg9 fullShare y6
        ∗ (∃ d, owns (c : Thread nD τ) arg10 fullShare d) ∗ (∃ d, owns (c : Thread nD τ) arg11 fullShare d)
        ∗ owns (c : Thread nD τ) arg12 fullShare s
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg8 fullShare (if (i 1).val = 3 then sumNext (i 1).val (k0_pay7 x2 x3 x4) x1 s else y5)
            ∗ owns (c : Thread nD τ) arg9 fullShare (MixPoints.weightNext k0_pay2 (i 0).val (i 1).val (i 1).isLt (k0_pay11 x0 x2 x3 x4) y6)
            ∗ owns (c : Thread nD τ) arg10 fullShare (k0_pay9 x0 x1 x2 x3 x4) ∗ owns (c : Thread nD τ) arg11 fullShare (k0_pay10 x0 x1 x2 x3 x4)
            ∗ owns (c : Thread nD τ) arg12 fullShare (sumNext (i 1).val (k0_pay7 x2 x3 x4) x1 s)) -∗ K ⟨⟩))
      ⊢ wp frame (wpE L Variants.none c none) E
          (cc0_merge0 i arg2 harg2 arg3 harg3 arg4 harg4 arg5 harg5 arg6 harg6 arg7 harg7 arg8 harg8 arg9 harg9 arg10 harg10 arg11 harg11 arg12 harg12) K := by
  have b0 : (i 0).val < 2 := (i 0).isLt
  have b1 : (i 1).val < 4 := (i 1).isLt
  have r2 : arg2.view.readAt (Elt F) (Rect.unit ![0, 0] S2048x512.size inb_S2048x512_S2048x512_0_0).toLoadRect (harg2.unread x0) = x0 :=
    (View.readAt_full _ _ _).trans (harg2.read_unread _)
  have r3 : arg3.view.readAt (Elt F) (Rect.unit ![0, 0] S256x512.size inb_S256x512_S256x512_0_0).toLoadRect (harg3.unread x1) = x1 :=
    (View.readAt_full _ _ _).trans (harg3.read_unread _)
  have r4 : arg4.view.readAt (Elt F) (Rect.unit ![0, 0] S2048x256.size inb_S2048x256_S2048x256_0_0).toLoadRect (harg4.unread x2) = x2 :=
    (View.readAt_full _ _ _).trans (harg4.read_unread _)
  have r5 : arg5.view.readAt (Elt F) (Rect.unit ![0, 0] S1x256.size inb_S1x256_S1x256_0_0).toLoadRect (harg5.unread x3) = x3 :=
    (View.readAt_full _ _ _).trans (harg5.read_unread _)
  have r6 : arg6.view.readAt (Elt F) (Rect.unit ![0, 0] S2048x256.size inb_S2048x256_S2048x256_0_0).toLoadRect (harg6.unread x4) = x4 :=
    (View.readAt_full _ _ _).trans (harg6.read_unread _)
  have r12 : arg12.view.readAt (Elt F) (Rect.unit ![0, 0] S2048x512.size inb_S2048x512_S2048x512_0_0).toLoadRect (harg12.unread s) = s :=
    (View.readAt_full _ _ _).trans (harg12.read_unread _)
  have r9 : ∀ h2 : k0_cond2 i = 1#1, arg9.view.readAt (Elt F) (Rect.unit (s := S1024x512) (k0_off2 i) S256x512.size (k0_off2_inb i h2)).toLoadRect (harg9.unread y6)
      = MixPoints.rowsOf y6 (i 1).val (i 1).isLt := fun h2 =>
    by
    have hw := View.readAt_unit arg9.view (harg9.unread y6) (k0_off2_inb i h2) (off2_eq i) (MixPoints.rows_fit _ (i 1).isLt)
    rw [harg9.read_unread] at hw
    exact hw
  unfold sumNext MixPoints.weightNext
  have h1 : k0_cond1 i = 1#1 ↔ (i 0).val = 0 := by simp only [k0_cond1]; word_cmp
  have h2 : k0_cond2 i = 1#1 ↔ ¬ (i 0).val = 0 := by simp only [k0_cond2]; word_cmp
  have h3 : Scalar.cmpi .ne (Scalar.extui (Scalar.cmpi .eq (BitVec.ofNat 32 (i 1).val) 0#32) : BitVec 32) 0#32 = 1#1 ↔ (i 1).val = 0 := by word_cmp
  have h4 : Scalar.cmpi .ne (Scalar.extui (Scalar.cmpi .sgt (BitVec.ofNat 32 (i 1).val) 0#32) : BitVec 32) 0#32 = 1#1 ↔ ¬ (i 1).val = 0 := by word_cmp
  have h5 : k0_cond5 i = 1#1 ↔ (i 1).val = 3 := by simp only [k0_cond5]; word_cmp
  simp only [cc0_merge0_eq_skeleton]; unfold cc0_merge0_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4
  obtain rfl := harg8.eq_unread hf5; obtain rfl := harg9.eq_unread hf6; obtain rfl := harg12.eq_unread hfs
  by_cases g1 : k0_cond1 i = 1#1 <;> by_cases g2 : k0_cond2 i = 1#1 <;> by_cases g3 : Scalar.cmpi .ne (Scalar.extui (Scalar.cmpi .eq (BitVec.ofNat 32 (i 1).val) 0#32) : BitVec 32) 0#32 = 1#1
    <;> by_cases g4 : Scalar.cmpi .ne (Scalar.extui (Scalar.cmpi .sgt (BitVec.ofNat 32 (i 1).val) 0#32) : BitVec 32) 0#32 = 1#1 <;> by_cases g5 : k0_cond5 i = 1#1
    <;> (try (exfalso; rw [h1] at g1; rw [h2] at g2; rw [h3] at g3; rw [h4] at g4; rw [h5] at g5; omega))
  all_goals
    first | have hi := h1.mp g1 | have hi := h1.not.mp g1
    first | have hj := h3.mp g3 | have hj := h3.not.mp g3
    first | have hl := h5.mp g5 | have hl := h5.not.mp g5
    clear h1 h2 h3 h4 h5
    sl_exec (disch := first | sl_exact g1 | sl_exact g2 | sl_exact g3 | sl_exact g4 | sl_exact g5)
    sl_step
    iapply Hk
    isplitl [H0]; · iexists _; isplitr; · ipureintro; exact harg2.read_unread _
                    iexact H0
    isplitl [H1]; · iexists _; isplitr; · ipureintro; exact harg3.read_unread _
                    iexact H1
    isplitl [H2]; · iexists _; isplitr; · ipureintro; exact harg4.read_unread _
                    iexact H2
    isplitl [H3]; · iexists _; isplitr; · ipureintro; exact harg5.read_unread _
                    iexact H3
    isplitl [H4]; · iexists _; isplitr; · ipureintro; exact harg6.read_unread _
                    iexact H4
    isplitl [H5]
    · iexists _; isplitr
      swap; · iexact H5
      ipureintro
      first
        | (rw [if_neg hl]; exact harg8.read_unread _)
        | (rw [if_pos hl, if_pos hj]; exact (View.read_writes_full _ _ _ _ _).trans (View.readCov_full _ _ _ _ _))
        | (rw [if_pos hl, if_neg hj]; exact (View.read_writes_full _ _ _ _ _).trans (View.readCov_full _ _ _ _ _))
    isplitl [H6]
    · iexists _; isplitr
      swap; · iexact H6
      ipureintro
      first
        | (rw [if_pos hi]; exact (View.read_writes_cons_put _ _ _ _ _ (off1_eq i)).trans (by rw [View.writes_nil, harg9.read_unread]))
        | (rw [if_neg hi]; exact (View.read_writes_cons_put _ _ _ _ _ (off2_eq i)).trans (by
            rw [View.writes_nil, harg9.read_unread]
            exact congrArg (fun z => VecWindow.put y6 ![256 * (i 1).val, 0] ![256, 512] (k0_pay2 (k0_pay11 x0 x2 x3 x4) z)) (r9 g2)))
    isplitl [H7]
    · iexists _; isplitr
      swap; · iexact H7
      ipureintro; exact View.read_writes_full _ _ _ _ _
    isplitl [H8]
    · iexists _; isplitr
      swap; · iexact H8
      ipureintro; exact View.read_writes_full _ _ _ _ _
    iexists _; isplitr
    swap; · iexact HS
    ipureintro
    first
      | (rw [if_pos hj]; exact View.read_writes_full _ _ _ _ _)
      | (rw [if_neg hj]; exact View.read_writes_full _ _ _ _ _)

end Cert.MixPIdeal.Gen

end
-- ==== Proof.MixPData.lean ====
/-
  The mixing gradient's call over its whole grid: what every buffer holds after each point, and the run.
-/
module

public import proofs.«01_k».proof.Proof.MixPRun
public import Idealize.ShloMosaic.Lib.Pipeline.ArrRel

@[expose] public section

set_option maxRecDepth 16384

noncomputable section

namespace Cert.MixPIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat BodyObligationRel)

variable {F : FTy → Type} [FloatOps F]

variable (m : (ℓ : Loc nD τ sig) → Buf (Elt F) ℓ) (ρ : Dev nD → PrngReg)

/-! ## The contents after each point -/

theorem point_row (t : Fin cfg0.N) : (grid0.coords t 0).val = t.val / 4 :=
  (by decide +kernel : ∀ t : Fin grid0.N, (grid0.coords t 0).val = t.val / 4) t
theorem point_col (t : Fin cfg0.N) : (grid0.coords t 1).val = t.val % 4 :=
  (by decide +kernel : ∀ t : Fin grid0.N, (grid0.coords t 1).val = t.val % 4) t

/-- The running sum after point `n`. -/
abbrev sumAt (c : Dev nD) : (n : ℕ) → n < cfg0.N → Vec F S2048x512 .f32 :=
  MixPoints.sumAt (fun t => k0_pay3 (k0_pay7 (iblk m c 2 t) (iblk m c 3 t) (iblk m c 4 t)) (iblk m c 1 t))
    fun t => k0_pay4 (k0_pay7 (iblk m c 2 t) (iblk m c 3 t) (iblk m c 4 t)) (iblk m c 1 t)

/-- Which of the weight gradient's rows are known after a point. -/
abbrev WeightRel (c : Dev nD) : Fin cfg0.N → Vec F S1024x512 .f32 → Prop :=
  MixPoints.WeightRel k0_pay2 fun t => k0_pay11 (iblk m c 0 t) (iblk m c 2 t) (iblk m c 3 t) (iblk m c 4 t)

/-- What is said of an output's buffer after point `t`. -/
def Rl (c : Dev nD) (w : Fin cfg0.W) (t : Fin cfg0.N) : ((cfg0.win w).block.Idx → Elt F (cfg0.win w).elt) → Prop :=
  match w with
  | ⟨5, _⟩ => fun X => t.val % 4 = 3 → X = sumAt m c t.val t.isLt
  | ⟨6, _⟩ => fun X => WeightRel m c t X
  | ⟨7, _⟩ => fun X => X = k0_pay9 (iblk m c 0 t) (iblk m c 1 t) (iblk m c 2 t) (iblk m c 3 t) (iblk m c 4 t)
  | ⟨8, _⟩ => fun X => X = k0_pay10 (iblk m c 0 t) (iblk m c 1 t) (iblk m c 2 t) (iblk m c 3 t) (iblk m c 4 t)
  | _ => fun _ => True

/-- The windows of which only `Rl` is said: the outputs. -/
def outputs : Fin 9 → Bool := fun | 5 | 6 | 7 | 8 => true | _ => false

/-- The scratch, whole. -/
abbrev scM : Memref sig .tc .vmem S2048x512 .f32 := Memref.whole cc0_scratch0

/-- Between the points: the scratch holds the running sum of the row block, and at a row block's start anything. -/
def carried (c : Dev nD) (n : ℕ) : sProp (Machine F) :=
  iprop((∃ s, ⌜∀ h : n - 1 < cfg0.N, n % 4 ≠ 0 → s = sumAt m c (n - 1) h⌝ ∗ owns (c : Thread nD τ) scM fullShare s) ∗ ∃ r, prngReg c r)

theorem rest_eq (c : Dev nD) : (Pipeline.ΦA spec0 c : sProp (Machine F))
    = iprop((∃ s, owns (c : Thread nD τ) scM fullShare s) ∗ ∃ r, prngReg c r) := by
  unfold Pipeline.ΦA
  rw [scopedRest0_eq]
  simp only [scM, owns_whole]
  try rfl

theorem carried_in (c : Dev nD) : (Pipeline.ΦA spec0 c : sProp (Machine F)) ⊢ carried m c 0 := by
  rw [rest_eq]
  unfold carried
  iintro ⟨⟨%s, Hs⟩, Hg⟩
  isplitl [Hs]
  · iexists s; isplitr
    · ipureintro; intro _ h0; exact absurd rfl h0
    · iexact Hs
  · iexact Hg

theorem carried_out (c : Dev nD) (n : ℕ) : carried m c n ⊢ (Pipeline.ΦA spec0 c : sProp (Machine F)) := by
  rw [rest_eq]
  unfold carried
  iintro ⟨⟨%s, -, Hs⟩, Hg⟩
  isplitl [Hs]
  · iexists s; iexact Hs
  · iexact Hg

/-- The proof data on a core. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => Pipeline.Dat.unnamed (cfg := cfg0) 5 t
    | ⟨6, _⟩ => Pipeline.Dat.unnamed (cfg := cfg0) 6 t
    | ⟨7, _⟩ => Pipeline.Dat.unnamed (cfg := cfg0) 7 t
    | ⟨8, _⟩ => Pipeline.Dat.unnamed (cfg := cfg0) 8 t
  Φ n := carried m c n.val
  q _ := fullShare
  owed _ := 0

/-- The data with the outputs held to `Rl`. -/
abbrev rdat (c : Dev nD) : RDat τ (Elt F) Unit ℕ (UR sig nD τ) ℕ cfg0 c := (dats m 0 c).toRRel outputs (Rl m c)

theorem A_eq (c : Dev nD) (w : Fin cfg0.W) : (dats m 0 c).A w = V m c (Pipeline.arrRef spec0 w) := by dsimp only [dats]

theorem before0_0 (c : Dev nD) (t : Fin cfg0.N) (d) : (dats m 0 c).before 0 t d = iblk m c 0 t :=
  before0_0_of m (dats m 0 c) (A_eq m c 0) (fun t => by dsimp only [dats]) t d
theorem before0_1 (c : Dev nD) (t : Fin cfg0.N) (d) : (dats m 0 c).before 1 t d = iblk m c 1 t :=
  before0_1_of m (dats m 0 c) (A_eq m c 1) (fun t => by dsimp only [dats]) t d
theorem before0_2 (c : Dev nD) (t : Fin cfg0.N) (d) : (dats m 0 c).before 2 t d = iblk m c 2 t :=
  before0_2_of m (dats m 0 c) (A_eq m c 2) (fun t => by dsimp only [dats]) t d
theorem before0_3 (c : Dev nD) (t : Fin cfg0.N) (d) : (dats m 0 c).before 3 t d = iblk m c 3 t :=
  before0_3_of m (dats m 0 c) (A_eq m c 3) (fun t => by dsimp only [dats]) t d
theorem before0_4 (c : Dev nD) (t : Fin cfg0.N) (d) : (dats m 0 c).before 4 t d = iblk m c 4 t :=
  before0_4_of m (dats m 0 c) (A_eq m c 4) (fun t => by dsimp only [dats]) t d

/-- What the weight gradient's buffer may hold when a point starts. -/
theorem weight_found (c : Dev nD) (t : Fin cfg0.N) (Y : Vec F S1024x512 .f32) (h : (rdat m c).Finds 6 t Y) (ht : t.val ≠ 0) :
    WeightRel m c ⟨t.val - 1, Nat.lt_of_le_of_lt (Nat.sub_le _ _) t.isLt⟩ Y := by
  have hN : t.val < 8 := t.isLt
  have hl := ((rdat m c).finds_of_pos (w := 6) rfl ht Y).mp h
  refine (dats m 0 c).toRRel_leaves (fgt := outputs) (Rl := Rl m c) (w := 6) rfl (hl.resolve_left fun hf => ?_)
  have := (flush0_6 _).mp hf
  have e : (t.val - 1) % 8 = 7 := this
  omega

end Cert.MixPIdeal.Gen

end
-- ==== Proof.MixPLaunch.lean ====
/-
  The mixing gradient's call launched: one point against its data, then the whole grid.
-/
module

public import proofs.«01_k».proof.Proof.MixPData

@[expose] public section

set_option maxRecDepth 16384

noncomputable section

namespace Cert.MixPIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat BodyObligationRel)

variable {F : FTy → Type} [FloatOps F]
variable (m : (ℓ : Loc nD τ sig) → Buf (Elt F) ℓ) (ρ : Dev nD → PrngReg)

/-- A window's staging buffer at a point, owned at contents `X`. -/
abbrev holds (c : Dev nD) (w : Fin cfg0.W) (t : Fin cfg0.N) (X : (cfg0.win w).block.Idx → Elt F (cfg0.win w).elt) : sProp (Machine F) :=
  owns (c : Thread nD τ) ((cfg0.win w).stage (cfg0.slots t w)) fullShare X

/-- What the body finds. -/
def found (c : Dev nD) (t : Fin cfg0.N) : sProp (Machine F) :=
  iprop(carried m c t.val ∗ (dats m 0 c).owesAt () t.castSucc
    ∗ (∃ d, holds c 0 t ((dats m 0 c).before 0 t d)) ∗ (∃ d, holds c 1 t ((dats m 0 c).before 1 t d))
    ∗ (∃ d, holds c 2 t ((dats m 0 c).before 2 t d)) ∗ (∃ d, holds c 3 t ((dats m 0 c).before 3 t d))
    ∗ (∃ d, holds c 4 t ((dats m 0 c).before 4 t d))
    ∗ (∃ Y, ⌜(rdat m c).Finds 5 t Y⌝ ∗ holds c 5 t Y) ∗ (∃ Y, ⌜(rdat m c).Finds 6 t Y⌝ ∗ holds c 6 t Y)
    ∗ (∃ Y, ⌜(rdat m c).Finds 7 t Y⌝ ∗ holds c 7 t Y) ∗ (∃ Y, ⌜(rdat m c).Finds 8 t Y⌝ ∗ holds c 8 t Y))

/-- What the body leaves. -/
def left (c : Dev nD) (t : Fin cfg0.N) : sProp (Machine F) :=
  iprop(carried m c (t.val + 1) ∗ (dats m 0 c).owesAt () t.succ
    ∗ holds c 0 t (iblk m c 0 t) ∗ holds c 1 t (iblk m c 1 t) ∗ holds c 2 t (iblk m c 2 t) ∗ holds c 3 t (iblk m c 3 t)
    ∗ holds c 4 t (iblk m c 4 t)
    ∗ (∃ X, ⌜Rl m c 5 t X⌝ ∗ holds c 5 t X) ∗ (∃ X, ⌜Rl m c 6 t X⌝ ∗ holds c 6 t X)
    ∗ (∃ X, ⌜Rl m c 7 t X⌝ ∗ holds c 7 t X) ∗ (∃ X, ⌜Rl m c 8 t X⌝ ∗ holds c 8 t X))

theorem body_step (c : Dev nD) (t : Fin cfg0.N) :
    found m c t ⊢ wp frame (wpE (defs₀ (F := F)) Variants.none c none) Set.univ (bodyAt0 t) (fun _ => left m c t) := by
  unfold found left carried bodyAt0 holds
  simp only [before0_0, before0_1, before0_2, before0_3, before0_4]
  rw [show (dats m 0 c).owesAt () t.succ = (dats m 0 c).owesAt () t.castSucc from rfl]
  iintro ⟨⟨⟨%s, %hs, HS⟩, Hg⟩, Ho, ⟨%d0, H0⟩, ⟨%d1, H1⟩, ⟨%d2, H2⟩, ⟨%d3, H3⟩, ⟨%d4, H4⟩, ⟨%y5, -, H5⟩, ⟨%y6, %h6, H6⟩, ⟨%y7, -, H7⟩, ⟨%y8, -, H8⟩⟩
  have hw := MixPoints.weight_step k0_pay2 (fun t => k0_pay11 (iblk m c 0 t) (iblk m c 2 t) (iblk m c 3 t) (iblk m c 4 t)) t y6
    (fun ht => weight_found m c t y6 h6 ht) (point_row t) (point_col t) (grid0.coords t 1).isLt
  have hsum := MixPoints.sum_step (fun t => k0_pay3 (k0_pay7 (iblk m c 2 t) (iblk m c 3 t) (iblk m c 4 t)) (iblk m c 1 t))
    (fun t => k0_pay4 (k0_pay7 (iblk m c 2 t) (iblk m c 3 t) (iblk m c 4 t)) (iblk m c 1 t)) t s hs
  rw [← point_col t] at hsum
  iapply run (defs₀ (F := F)) c (grid0.coords t) _ _ _ _ _ _ _ _ _ _ _ _ _ _ _ _ _ _ _ _ _ _ (iblk m c 0 t) (iblk m c 1 t) (iblk m c 2 t) (iblk m c 3 t) (iblk m c 4 t) y5 y6 s Set.univ
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [HS]; · iexact HS
  iintro ⟨H0, H1, H2, H3, H4, H5, H6, H7, H8, HS⟩
  isplitl [HS Hg]
  · isplitl [HS]
    · iexists _; isplitr
      swap; · iexact HS
      ipureintro; intro h _
      exact hsum
    · iexact Hg
  isplitl [Ho]; · iexact Ho
  isplitl [H0]; · iexact H0
  isplitl [H1]; · iexact H1
  isplitl [H2]; · iexact H2
  isplitl [H3]; · iexact H3
  isplitl [H4]; · iexact H4
  isplitl [H5]
  · iexists _; isplitr
    swap; · iexact H5
    ipureintro; intro h3
    rw [if_pos ((point_col t).trans h3)]
    exact hsum
  isplitl [H6]
  · iexists _; isplitr
    swap; · iexact H6
    ipureintro; exact hw
  isplitl [H7]
  · iexists _; isplitr
    swap; · iexact H7
    ipureintro; exact rfl
  iexists _; isplitr
  swap; · iexact H8
  ipureintro; exact rfl

theorem body_row (t : Fin cfg0.N) : defs₀ (F := F) .tc cfg0.body (cfg0.bodyArgs t (cfg0.slots t)) = bodyAt0 t := by
  unfold defs₀; rw [Defs.onTc_tc]

theorem body_obligation (c : Dev nD) : BodyObligationRel (dats (F := F) m 0 c) (defs₀ (F := F)) Variants.none () Set.univ outputs (Rl m c) := fun t => by
  rw [bigSep_W0, bigSep_W0, body_row]
  exact triple_restated (body_step m c t) rfl .rfl fun _ => .rfl

set_option backward.isDefEq.respectTransparency.types false in
/-- The launch: every array of the call at what the data says, and every counter at zero. -/
theorem launch : θ_run defs (onTc (τ := τ) (main (F := F))) (s₀ m ρ)
    (fun r => RDat.FramePost cfg0 (fun c => rdat m c) (V m) r ∧ r.2.sem = fun _ => 0) :=
  RDat.θ_run_frame_track (Q' := _) cfgs (0 : Fin 1) launch0 defs₀ Variants.none (fun c => rdat m c) m ρ main
    (hbody := fun c => (body_obligation m c).toRRel) (hshare := fun c => (dats m 0 c).share_full fun _ => rfl)
    (howed := fun _ _ => rfl) (V := V m) (hmain := hmain m Variants.none) (hA := A_eq m)
    (hin := fun c => carried_in m c) (hout := fun c => carried_out m c _)

variable {m} in
/-- After the launch the arguments are as they were. -/
theorem kept {r : PUnit × MemSt nD τ sig (Elt F)} (h : RDat.FramePost cfg0 (fun c => rdat m c) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨(RDat.FramePost.arr_in h c 2 rfl).trans ((A_eq m c 2).trans (V_main_arg0 m c)),
    (RDat.FramePost.arr_in h c 3 rfl).trans ((A_eq m c 3).trans (V_main_arg1 m c)),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    (RDat.FramePost.arr_in h c 4 rfl).trans ((A_eq m c 4).trans (V_main_arg4 m c)),
    ((h c).2 main_arg5 (Pipeline.mem_restRefs_of main_arg5 (by decide) (by decide))).trans (V_main_arg5 m c)⟩

/-- The frame: the arguments end unchanged and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨kept h.1, h.2⟩) (launch m ρ)

end Cert.MixPIdeal.Gen

end
-- ==== Proof.MixPBits.lean ====
/-
  The mixing gradient's call on the machine's own floats: it is the same program, so its frame is the one already proved.
-/
module

public import proofs.«01_k».proof.Defs
public import proofs.«01_k».proof.Proof.Gen.MixP.Frame
public import proofs.«01_k».proof.Proof.MixPLaunch

@[expose] public section

set_option maxRecDepth 65536

open Idealize.ShloMosaic Idealize.ShloMosaic.TcCoe Idealize.SL.Sem

namespace Cert.MixPProof

section
variable (F : FTy → Type) [FloatOps F] [a : Cert.MixP.Facts] [b : Cert.MixPIdeal.Facts]

/-- The two programs' bodies agree. -/
theorem bodies : Cert.MixP.defs₀ (F := F) = Cert.MixPIdeal.defs₀ (F := F) := by
  unfold Cert.MixP.defs₀ Cert.MixPIdeal.defs₀
  refine congrArg Defs.onTc ?_
  funext l x
  match l, x with
  | 0, (t, s) => exact rfl
  | ⟨_ + 1, h⟩, _ => exact absurd h (Nat.not_lt.2 (Nat.le_add_left _ _))

/-- And so do their definitions. -/
theorem definitions : Cert.MixP.defs (F := F) = Cert.MixPIdeal.defs (F := F) := by
  unfold Cert.MixP.defs Cert.MixPIdeal.defs
  rw [bodies]
  exact rfl

end

theorem quiescent_kernel [Cert.MixP.Facts] [Cert.MixPIdeal.Facts] : Cert.quiescent_MixP := fun m g _ => by
  rw [definitions]
  exact Cert.MixPIdeal.Gen.frame (F := Bits) m g

end Cert.MixPProof

end
-- ==== Proof.MixPBlock.lean ====
/-
  What the points of the mixing gradient's call read.
-/
module

public import proofs.«01_k».proof.Proof.MixPLaunch
public import proofs.«01_k».proof.Proof.MixStep
public import Idealize.ShloMosaic.Lib.Claim
public import Idealize.ShloMosaic.Lib.StableHlo.RunClose

@[expose] public section

set_option maxRecDepth 16384

noncomputable section

open Idealize.ShloMosaic Idealize.ShloMosaic.TcCoe Idealize.SL.Sem

namespace Cert.MixPIdeal.Whole

open Cert.MixPIdeal Cert.MixPIdeal.Gen

variable (m : (ℓ : Loc nD τ sig) → Buf (Elt Ideal) ℓ)

theorem idx : ∀ t : Fin cfg0.N, (win0_0.index t = ![t.val / 4, 0] ∧ win0_1.index t = ![t.val % 4, 0]
    ∧ win0_2.index t = ![t.val / 4, 17 + t.val % 4] ∧ win0_3.index t = ![0, t.val % 4]
    ∧ win0_4.index t = ![t.val / 4, t.val % 4]) ∧ (win0_5.index t = ![t.val / 4, 0] ∧ win0_6.index t = ![0, 0]
    ∧ win0_7.index t = ![t.val / 4, 17 + t.val % 4] ∧ win0_8.index t = ![t.val / 4, t.val % 4]) :=
  (by decide +kernel : ∀ t : Fin grid0.N, _)

abbrev z (c : Dev nD) : FVec Ideal S4096x7424 .f32 := m ((c : Thread nD τ).loc main_arg0)
abbrev b (c : Dev nD) : FVec Ideal S1x3072 .f32 := m ((c : Thread nD τ).loc main_arg1)
abbrev Y (c : Dev nD) : FVec Ideal S4096x512 .f32 := m ((c : Thread nD τ).loc main_arg2)
abbrev W (c : Dev nD) : FVec Ideal S512x1024 .f32 := m ((c : Thread nD τ).loc main_arg3)
abbrev d (c : Dev nD) : FVec Ideal S4096x1024 .f32 := m ((c : Thread nD τ).loc main_arg4)
abbrev D (c : Dev nD) : FVec Ideal S4096x7424 .f32 := m ((c : Thread nD τ).loc main_arg5)

theorem entry0 (c : Dev nD) (r : Fin 4096) (k : Fin 512) : V m c main_v0 (ix2 r k) = Y m c (ix2 r k) := by
  have h : V m c main_v0 = (truncf .bf16 (Y m c) bitsLt_bf16_f32 : FVec Ideal _ .bf16) := by
    show StableHlo.after hostOps0 (fun b => m (c, b)) (Proc.devRef .tc main_v0) = _
    after_results_entrywise (rounds := 1) []
  rw [h]
  pointwise []

theorem entry1 (c : Dev nD) (j : Fin 1024) (k : Fin 512) : V m c main_v2 (ix2 j k) = W m c (ix2 k j) := by
  have h : V m c main_v2 = (truncf .bf16 (transpose S1024x512 [1, 0] (W m c) transposes_S512x1024_S1024x512_1_0) bitsLt_bf16_f32 : FVec Ideal _ .bf16) := by
    show StableHlo.after hostOps0 (fun b => m (c, b)) (Proc.devRef .tc main_v2) = _
    after_results_entrywise (rounds := 1) []
  rw [h]
  pointwise []

theorem entry7 (c : Dev nD) (y : S4096x7424.Idx) : V m c main_v4_2 y = D m c y := by
  have h : V m c main_v4_2 = (truncf .bf16 (D m c) bitsLt_bf16_f32 : FVec Ideal _ .bf16) := by
    show StableHlo.after hostOps0 (fun b => m (c, b)) (Proc.devRef .tc main_v4_2) = _
    after_results_entrywise (rounds := 1) []
  rw [h]
  pointwise []

/-- A point's blocks. -/
theorem blocks (c : Dev nD) (t : Fin cfg0.N) : MixPoints.Blocks (φ := .bf16) (z m c) (b m c) 0 (Y m c) (W m c) (d m c) t
    (iblk m c 0 t) (iblk m c 1 t) (iblk m c 2 t) (iblk m c 3 t) (iblk m c 4 t) where
  branch r k := by
    rw [← entry0]
    unfold iblk
    blk_simp [idx t]
    exact congrArg (V m c main_v0) (by blk_ext [idx t])
  weight j k := by
    rw [← entry1]
    unfold iblk
    blk_simp [idx t]
    exact congrArg (V m c main_v2) (by blk_ext [idx t])
  input r j := by
    have ht : t.val < 8 := t.isLt
    blk_point [iblk, V, idx t]
  bias j := by
    have ht : t.val < 8 := t.isLt
    blk_point [iblk, V, idx t]
  grad r j := by
    blk_point [iblk, V, idx t]

end Cert.MixPIdeal.Whole

end
-- ==== Proof.MixPValue.lean ====
/-
  The mixing gradient's results, read off what the call leaves.
-/
module

public import proofs.«01_k».proof.Proof.MixPBlock

@[expose] public section

set_option maxRecDepth 16384

noncomputable section

open Idealize.ShloMosaic Idealize.ShloMosaic.TcCoe Idealize.SL.Sem

namespace Cert.MixPIdeal.Whole

open Cert.MixPIdeal Cert.MixPIdeal.Gen Idealize.ShloMosaic.Pipeline

variable (m : (ℓ : Loc nD τ sig) → Buf (Elt Ideal) ℓ)

abbrev dpre (c : Dev nD) : FVec Ideal S4096x1024 .f32 := MixSpec.atGate (z m c) (b m c) 0 (Y m c) (W m c) (d m c)
abbrev dy (c : Dev nD) : FVec Ideal S4096x512 .f32 := MixSpec.atBranch (z m c) (b m c) 0 (W m c) (d m c)
abbrev dw (c : Dev nD) : FVec Ideal S1024x512 .f32 := MixSpec.atWeight (z m c) (b m c) 0 (Y m c) (d m c)
abbrev dz (c : Dev nD) : FVec Ideal S4096x7424 .f32 := MixSpec.atInput 0 (D m c) (dpre m c)
abbrev db (c : Dev nD) : FVec Ideal S16x1024 .f32 := MixSpec.atBias (dpre m c)

/-- The grid's last point. -/
abbrev lastPoint : Fin cfg0.N := ⟨7, by decide⟩

theorem flush5 : ∀ t : Fin cfg0.N, (cfg0.win 5).flush t = true → t.val % 4 = 3 := by decide +kernel
theorem flush6 : ∀ t : Fin cfg0.N, (cfg0.win 6).flush t = true → t = lastPoint := by decide +kernel

section
variable (c : Dev nD) (after : (w : Fin cfg0.W) → Fin cfg0.N → (cfg0.win w).block.Idx → Elt Ideal (cfg0.win w).elt)
  (left : ∀ (w : Fin cfg0.W) (u : Fin cfg0.N), (cfg0.win w).flush u = true → (rdat m c).Leaves w u (after w u))
include left

theorem final5 : ((rdat m c).withAfter after).arrAt 5 cfg0.N = dy m c := by
  refine ((rdat m c).withAfter after).arrAt_eq_of_covers 5 _ (by decide +kernel) fun t hf y => ?_
  have h : after 5 t = sumAt m c t.val t.isLt := (dats m 0 c).toRRel_leaves (w := 5) rfl (left 5 t hf) (flush5 t hf)
  blk_simp
  rw [RDat.withAfter_after, h]
  obtain ⟨r, k, rfl⟩ : ∃ (r : Fin 2048) (k : Fin 512), y = ix2 r k := ⟨_, _, eq_ix2 y⟩
  refine (MixPoints.sum_result _ _ (fun t => MixStep.first (blocks m c t)) (fun t => MixStep.next (blocks m c t)) t (flush5 t hf) r k).trans (congrArg (dy m c) ?_)
  blk_ext [idx t]

theorem final6 : ((rdat m c).withAfter after).arrAt 6 cfg0.N = dw m c := by
  refine ((rdat m c).withAfter after).arrAt_eq_of_covers 6 _ (by decide +kernel) fun t hf y => ?_
  obtain rfl := flush6 t hf
  have h : after 6 lastPoint = dw m c := MixPoints.weight_result _ _ MixStep.add (fun t => MixStep.share (blocks m c t)) _ ((dats m 0 c).toRRel_leaves (w := 6) rfl (left 6 lastPoint hf))
  blk_simp
  rw [RDat.withAfter_after, h]
  exact congrArg (dw m c) (by blk_ext [idx lastPoint])

theorem final7 : ((rdat m c).withAfter after).arrAt 7 cfg0.N = dz m c := by
  refine ((rdat m c).withAfter after).arrAt_eq_of_coversWhere_of_agree 7 (dz m c) (fun β => 17 ≤ β (1 : Fin 2) ∧ β (1 : Fin 2) ≤ 20) (by decide +kernel) (fun t hf y => ?_) (fun j hj => ?_)
  · have h : after 7 t = k0_pay9 (iblk m c 0 t) (iblk m c 1 t) (iblk m c 2 t) (iblk m c 3 t) (iblk m c 4 t) := (dats m 0 c).toRRel_leaves (w := 7) rfl (left 7 t hf)
    blk_simp
    rw [RDat.withAfter_after, h]
    obtain ⟨r, k, rfl⟩ : ∃ (r : Fin 2048) (k : Fin 256), y = ix2 r k := ⟨_, _, eq_ix2 y⟩
    have ht : t.val < 8 := t.isLt
    have e : (win0_7.blk t).view.emb (ix2 r k) = ix2 (MixPoints.row t r) ⟨4352 + (0 : Fin 3).val * 1024 + (MixPoints.col t k).val, by show 4352 + 0 * 1024 + (t.val % 4 * 256 + k.val) < 7424; omega⟩ := by blk_ext [idx t]
    rw [e]
    exact (MixStep.stored (blocks m c t) r k).trans (MixPoints.input_written 0 _ _ _ _).symm
  · rw [RDat.withAfter_A]
    blk_simp [Pipeline.Window.cell_apply] at hj
    refine ((congrFun (A_eq m c 7) j).trans (entry7 m c j)).trans (MixPoints.input_kept 0 _ _ j ?_).symm
    show ¬ (4352 + 0 * 1024 ≤ (j 1).val ∧ (j 1).val < 5376 + 0 * 1024)
    omega

theorem final8 : ((rdat m c).withAfter after).arrAt 8 cfg0.N = db m c := by
  refine ((rdat m c).withAfter after).arrAt_eq_of_covers 8 _ (by decide +kernel) fun t hf y => ?_
  have h : after 8 t = k0_pay10 (iblk m c 0 t) (iblk m c 1 t) (iblk m c 2 t) (iblk m c 3 t) (iblk m c 4 t) := (dats m 0 c).toRRel_leaves (w := 8) rfl (left 8 t hf)
  blk_simp
  rw [RDat.withAfter_after, h]
  obtain ⟨r, k, rfl⟩ : ∃ (r : Fin 8) (k : Fin 256), y = ix2 r k := ⟨_, _, eq_ix2 y⟩
  refine (MixStep.bias (blocks m c t) r k).trans (congrArg (db m c) ?_)
  blk_ext [idx t]

end

/-- The run: every result at its value, and the arguments as they were. -/
theorem run_values (ρ : Dev nD → PrngReg) : θ_run defs (onTc (τ := τ) (main (F := Ideal))) ⟨m, fun _ => 0, ρ⟩ (fun r => ∀ c : Dev nD,
      r.2.mem ((c.tc : Thread nD τ).loc main_v4_0) = dy m c
      ∧ r.2.mem ((c.tc : Thread nD τ).loc main_v4_1) = dw m c
      ∧ r.2.mem ((c.tc : Thread nD τ).loc main_v4_2) = dz m c
      ∧ r.2.mem ((c.tc : Thread nD τ).loc main_v4_3) = db m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => by
    obtain ⟨after, left, arr⟩ := RDat.FramePost.exists_exact h.1 c
    exact ⟨(arr 5).trans (final5 m c after left), (arr 6).trans (final6 m c after left), (arr 7).trans (final7 m c after left),
      (arr 8).trans (final8 m c after left), kept h.1 c⟩) (launch m ρ)

end Cert.MixPIdeal.Whole

end
-- ==== Proof.MixPClaims.lean ====
/-
  The claims about the mixing gradient of the pooling branch.
-/
module

public import proofs.«01_k».proof.Defs
public import proofs.«01_k».proof.Proof.MixPBits
public import proofs.«01_k».proof.Proof.MixPValue
public import proofs.«01_k».proof.Proof.MixReference
public import proofs.«01_k».proof.Proof.Gen.MixPRefIdeal.Run
public import Idealize.ShloMosaic.Lib.Quiescent

@[expose] public section

set_option maxRecDepth 16384

noncomputable section

open Idealize.ShloMosaic Idealize.ShloMosaic.TcCoe Idealize.SL.Sem

namespace Cert.MixPProof

theorem quiescent_ideal : Cert.quiescent_MixPIdeal := fun m g _ => Cert.MixPIdeal.Gen.frame m g

theorem quiescent_reference : Cert.quiescent_MixPRefIdeal := fun m g _ =>
  (θ_run Cert.MixPRefIdeal.defs _ _).mono
    (fun r h => ⟨fun c => (h c).2.2.2.2, Idealize.ShloMosaic.sem_eq_zero_of_no_sems (by decide) r.2⟩)
    (Cert.MixPRefIdeal.Value.run (F := Ideal) m g)

section
open Cert.MixPRefIdeal Cert.MixPRefIdeal.Gen

variable (z : FVec Ideal S4096x7424 .f32) (b : FVec Ideal S1x3072 .f32) (D : FVec Ideal S4096x7424 .f32)

/-- The reference's gate. -/
abbrev gate : FVec Ideal S4096x1024 .f32 :=
  Host.divf MixReference.ones (addf MixReference.ones (Host.exp (Host.negf (addf (extractStridedSlice S4096x1024 ![0, 4352] z slices_S4096x7424_S4096x1024_0_4352)
    (broadcastInDim S4096x1024 ![0, 1] bcast_S1x1024_S4096x1024_0_1 (extractStridedSlice S1x1024 ![0, 0] b slices_S1x3072_S1x1024_0_0))))))

theorem gate_eq : gate z b = MixSpec.gate z b 0 := by
  funext y
  unfold MixSpec.gate MergeSpec.sigmoid MergeSpec.gateIn
  pointwise []

theorem reference_input (P : FVec Ideal S4096x1024 .f32) : (truncf .bf16 (concatenate S4096x7424 1 [⟨S4096x4352, extractStridedSlice S4096x4352 ![0, 0] D slices_S4096x7424_S4096x4352_0_0⟩,
      ⟨S4096x1024, P⟩, ⟨S4096x2048, extractStridedSlice S4096x2048 ![0, 5376] D slices_S4096x7424_S4096x2048_0_5376⟩]
      concatenates_S4096x4352_S4096x1024_S4096x2048_S4096x7424_d1) bitsLt_bf16_f32 : FVec Ideal S4096x7424 .bf16)
    = MixSpec.atInput 0 D P := by
  funext y
  unfold MixSpec.atInput
  pointwise []
  have hy : (y 1).val < 7424 := (y 1).isLt
  split
  · rw [dif_neg (by omega)]
  · split
    · rw [dif_pos (by omega)]
    · rw [dif_neg (by omega)]
      refine Eq.trans (congrArg D (congrArg (ix2 (y 0) ·) (Fin.ext ?_))) (congrArg D (eq_ix2 y)).symm
      show 5376 + ((y 1).val - 4352 - 1024) = (y 1).val
      omega

end

theorem algebraic : Cert.algebraic_MixPIdeal_MixPRefIdeal := fun m g m' g' _ hag =>
  ⟨Cert.MixPIdeal.Whole.dy m, Cert.MixPIdeal.Whole.dw m, Cert.MixPIdeal.Whole.dz m, Cert.MixPIdeal.Whole.db m,
    Cert.MixPIdeal.Whole.run_values m g,
    (θ_run Cert.MixPRefIdeal.defs _ _).mono
      (fun _ h c => by
        obtain ⟨h0, h1, h2, h3, h4, h5⟩ := hag c
        obtain ⟨o0, o1, o2, o3, hA⟩ := h c
        rw [h0, h1, h3, h4] at o0
        rw [h0, h1, h2, h4] at o1
        rw [h0, h1, h2, h3, h4, h5] at o2
        rw [h0, h1, h2, h3, h4] at o3
        exact ⟨o0.trans (MixReference.branch_eq _ _ _ _ _ (gate_eq _ _)), o1.trans (MixReference.weight_eq _ _ _ _ _ (gate_eq _ _)),
          o2.trans ((reference_input _ _).trans (congrArg _ (MixReference.grad_eq _ _ _ _ _ _ (gate_eq _ _)))),
          o3.trans ((MixReference.bias_eq _).trans (congrArg _ (MixReference.grad_eq _ _ _ _ _ _ (gate_eq _ _)))), hA⟩)
      (Cert.MixPRefIdeal.Value.run (F := Ideal) m' g')⟩

end Cert.MixPProof

end
-- ==== Proof.MixARun.lean ====
module

public import proofs.«01_k».proof.Proof.Gen.MixAIdeal.Frame
public import proofs.«01_k».proof.Proof.Gen.MixAIdeal.Skeleton
public import Idealize.ShloMosaic.Lib.Pipeline.Frame
public import Idealize.ShloMosaic.Lib.Pipeline.DatRel
public import proofs.«01_k».proof.Proof.MixPoints
public import Idealize.ShloMosaic.Lib.Tactic
public import Idealize.ShloMosaic.Lib.WordCmp

/-!
  One grid point of the attention branch's mixing gradient, run once on whole blocks. Its branch has 256 columns.
-/

@[expose] public section

set_option maxRecDepth 16384

noncomputable section

namespace Cert.MixAIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

/-- The machine on which the call runs. -/
abbrev Machine (F : FTy → Type) := MT nD τ sig Unit (Elt F) ℕ (UR sig nD τ) ℕ

/-- The running sum of the gradient by the branch's values after a point: started afresh at the first column block. -/
def sumNext (j : ℕ) (du : FVec F S2048x256 .bf16) (w : Vec F S256x256 .bf16) (s : Vec F S2048x256 .f32) : Vec F S2048x256 .f32 :=
  if j = 0 then k0_pay3 du w else k0_pay4 du w s

theorem off1_eq (i : grid0.Coords) : k0_off1 i = ![256 * (i 1).val, 0] := by
  have b1 : (i 1).val < 4 := (i 1).isLt
  generalize hj : (i 1).val = j at b1
  unfold k0_off1
  rw [hj]
  obtain rfl | rfl | rfl | rfl : j = 0 ∨ j = 1 ∨ j = 2 ∨ j = 3 := by omega
  all_goals rfl

theorem off2_eq (i : grid0.Coords) : k0_off2 i = ![256 * (i 1).val, 0] := off1_eq i

set_option maxHeartbeats 4000000 in
/-- The body at a grid point, on whole buffers: what every buffer holds afterwards. -/
theorem run (L : Defs nD τ sig (Elt F) Λ₀) (c : Dev nD) (i : grid0.Coords)
    (arg2 : Memref sig .tc .vmem S2048x256 .f32) (harg2 : arg2.IsWhole) (arg3 : Memref sig .tc .vmem S256x256 .bf16) (harg3 : arg3.IsWhole)
    (arg4 : Memref sig .tc .vmem S2048x256 .f32) (harg4 : arg4.IsWhole) (arg5 : Memref sig .tc .vmem S1x256 .f32) (harg5 : arg5.IsWhole)
    (arg6 : Memref sig .tc .vmem S2048x256 .f32) (harg6 : arg6.IsWhole) (arg7 : Memref sig .tc .hbm S4096x7424 .bf16) (harg7 : arg7.IsWhole)
    (arg8 : Memref sig .tc .vmem S2048x256 .f32) (harg8 : arg8.IsWhole) (arg9 : Memref sig .tc .vmem S1024x256 .f32) (harg9 : arg9.IsWhole)
    (arg10 : Memref sig .tc .vmem S2048x256 .bf16) (harg10 : arg10.IsWhole) (arg11 : Memref sig .tc .vmem S8x256 .f32) (harg11 : arg11.IsWhole)
    (arg12 : Memref sig .tc .vmem S2048x256 .f32) (harg12 : arg12.IsWhole)
    (x0 : Vec F S2048x256 .f32) (x1 : Vec F S256x256 .bf16) (x2 : Vec F S2048x256 .f32) (x3 : Vec F S1x256 .f32) (x4 : Vec F S2048x256 .f32)
    (y5 : Vec F S2048x256 .f32) (y6 : Vec F S1024x256 .f32) (s : Vec F S2048x256 .f32)
    (E : Set ℕ) (K : PUnit → sProp (Machine F)) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ owns (c : Thread nD τ) arg8 fullShare y5 ∗ owns (c : Thread nD τ) arg9 fullShare y6
        ∗ (∃ d, owns (c : Thread nD τ) arg10 fullShare d) ∗ (∃ d, owns (c : Thread nD τ) arg11 fullShare d)
        ∗ owns (c : Thread nD τ) arg12 fullShare s
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg8 fullShare (if (i 1).val = 3 then sumNext (i 1).val (k0_pay7 x2 x3 x4) x1 s else y5)
            ∗ owns (c : Thread nD τ) arg9 fullShare (MixPoints.weightNext k0_pay2 (i 0).val (i 1).val (i 1).isLt (k0_pay11 x0 x2 x3 x4) y6)
            ∗ owns (c : Thread nD τ) arg10 fullShare (k0_pay9 x0 x1 x2 x3 x4) ∗ owns (c : Thread nD τ) arg11 fullShare (k0_pay10 x0 x1 x2 x3 x4)
            ∗ owns (c : Thread nD τ) arg12 fullShare (sumNext (i 1).val (k0_pay7 x2 x3 x4) x1 s)) -∗ K ⟨⟩))
      ⊢ wp frame (wpE L Variants.none c none) E
          (cc0_merge2 i arg2 harg2 arg3 harg3 arg4 harg4 arg5 harg5 arg6 harg6 arg7 harg7 arg8 harg8 arg9 harg9 arg10 harg10 arg11 harg11 arg12 harg12) K := by
  have b0 : (i 0).val < 2 := (i 0).isLt
  have b1 : (i 1).val < 4 := (i 1).isLt
  have r2 : arg2.view.readAt (Elt F) (Rect.unit ![0, 0] S2048x256.size inb_S2048x256_S2048x256_0_0).toLoadRect (harg2.unread x0) = x0 :=
    (View.readAt_full _ _ _).trans (harg2.read_unread _)
  have r3 : arg3.view.readAt (Elt F) (Rect.unit ![0, 0] S256x256.size inb_S256x256_S256x256_0_0).toLoadRect (harg3.unread x1) = x1 :=
    (View.readAt_full _ _ _).trans (harg3.read_unread _)
  have r4 : arg4.view.readAt (Elt F) (Rect.unit ![0, 0] S2048x256.size inb_S2048x256_S2048x256_0_0).toLoadRect (harg4.unread x2) = x2 :=
    (View.readAt_full _ _ _).trans (harg4.read_unread _)
  have r5 : arg5.view.readAt (Elt F) (Rect.unit ![0, 0] S1x256.size inb_S1x256_S1x256_0_0).toLoadRect (harg5.unread x3) = x3 :=
    (View.readAt_full _ _ _).trans (harg5.read_unread _)
  have r6 : arg6.view.readAt (Elt F) (Rect.unit ![0, 0] S2048x256.size inb_S2048x256_S2048x256_0_0).toLoadRect (harg6.unread x4) = x4 :=
    (View.readAt_full _ _ _).trans (harg6.read_unread _)
  have r12 : arg12.view.readAt (Elt F) (Rect.unit ![0, 0] S2048x256.size inb_S2048x256_S2048x256_0_0).toLoadRect (harg12.unread s) = s :=
    (View.readAt_full _ _ _).trans (harg12.read_unread _)
  have r9 : ∀ h2 : k0_cond2 i = 1#1, arg9.view.readAt (Elt F) (Rect.unit (s := S1024x256) (k0_off2 i) S256x256.size (k0_off2_inb i h2)).toLoadRect (harg9.unread y6)
      = MixPoints.rowsOf y6 (i 1).val (i 1).isLt := fun h2 =>
    by
    have hw := View.readAt_unit arg9.view (harg9.unread y6) (k0_off2_inb i h2) (off2_eq i) (MixPoints.rows_fit _ (i 1).isLt)
    rw [harg9.read_unread] at hw
    exact hw
  unfold sumNext MixPoints.weightNext
  have h1 : k0_cond1 i = 1#1 ↔ (i 0).val = 0 := by simp only [k0_cond1]; word_cmp
  have h2 : k0_cond2 i = 1#1 ↔ ¬ (i 0).val = 0 := by simp only [k0_cond2]; word_cmp
  have h3 : Scalar.cmpi .ne (Scalar.extui (Scalar.cmpi .eq (BitVec.ofNat 32 (i 1).val) 0#32) : BitVec 32) 0#32 = 1#1 ↔ (i 1).val = 0 := by word_cmp
  have h4 : Scalar.cmpi .ne (Scalar.extui (Scalar.cmpi .sgt (BitVec.ofNat 32 (i 1).val) 0#32) : BitVec 32) 0#32 = 1#1 ↔ ¬ (i 1).val = 0 := by word_cmp
  have h5 : k0_cond5 i = 1#1 ↔ (i 1).val = 3 := by simp only [k0_cond5]; word_cmp
  simp only [cc0_merge2_eq_skeleton]; unfold cc0_merge2_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4
  obtain rfl := harg8.eq_unread hf5; obtain rfl := harg9.eq_unread hf6; obtain rfl := harg12.eq_unread hfs
  by_cases g1 : k0_cond1 i = 1#1 <;> by_cases g2 : k0_cond2 i = 1#1 <;> by_cases g3 : Scalar.cmpi .ne (Scalar.extui (Scalar.cmpi .eq (BitVec.ofNat 32 (i 1).val) 0#32) : BitVec 32) 0#32 = 1#1
    <;> by_cases g4 : Scalar.cmpi .ne (Scalar.extui (Scalar.cmpi .sgt (BitVec.ofNat 32 (i 1).val) 0#32) : BitVec 32) 0#32 = 1#1 <;> by_cases g5 : k0_cond5 i = 1#1
    <;> (try (exfalso; rw [h1] at g1; rw [h2] at g2; rw [h3] at g3; rw [h4] at g4; rw [h5] at g5; omega))
  all_goals
    first | have hi := h1.mp g1 | have hi := h1.not.mp g1
    first | have hj := h3.mp g3 | have hj := h3.not.mp g3
    first | have hl := h5.mp g5 | have hl := h5.not.mp g5
    clear h1 h2 h3 h4 h5
    sl_exec (disch := first | sl_exact g1 | sl_exact g2 | sl_exact g3 | sl_exact g4 | sl_exact g5)
    sl_step
    iapply Hk
    isplitl [H0]; · iexists _; isplitr; · ipureintro; exact harg2.read_unread _
                    iexact H0
    isplitl [H1]; · iexists _; isplitr; · ipureintro; exact harg3.read_unread _
                    iexact H1
    isplitl [H2]; · iexists _; isplitr; · ipureintro; exact harg4.read_unread _
                    iexact H2
    isplitl [H3]; · iexists _; isplitr; · ipureintro; exact harg5.read_unread _
                    iexact H3
    isplitl [H4]; · iexists _; isplitr; · ipureintro; exact harg6.read_unread _
                    iexact H4
    isplitl [H5]
    · iexists _; isplitr
      swap; · iexact H5
      ipureintro
      first
        | (rw [if_neg hl]; exact harg8.read_unread _)
        | (rw [if_pos hl, if_pos hj]; exact (View.read_writes_full _ _ _ _ _).trans (View.readCov_full _ _ _ _ _))
        | (rw [if_pos hl, if_neg hj]; exact (View.read_writes_full _ _ _ _ _).trans (View.readCov_full _ _ _ _ _))
    isplitl [H6]
    · iexists _; isplitr
      swap; · iexact H6
      ipureintro
      first
        | (rw [if_pos hi]; exact (View.read_writes_cons_put _ _ _ _ _ (off1_eq i)).trans (by rw [View.writes_nil, harg9.read_unread]))
        | (rw [if_neg hi]; exact (View.read_writes_cons_put _ _ _ _ _ (off2_eq i)).trans (by
            rw [View.writes_nil, harg9.read_unread]
            exact congrArg (fun z => VecWindow.put y6 ![256 * (i 1).val, 0] ![256, 256] (k0_pay2 (k0_pay11 x0 x2 x3 x4) z)) (r9 g2)))
    isplitl [H7]
    · iexists _; isplitr
      swap; · iexact H7
      ipureintro; exact View.read_writes_full _ _ _ _ _
    isplitl [H8]
    · iexists _; isplitr
      swap; · iexact H8
      ipureintro; exact View.read_writes_full _ _ _ _ _
    iexists _; isplitr
    swap; · iexact HS
    ipureintro
    first
      | (rw [if_pos hj]; exact View.read_writes_full _ _ _ _ _)
      | (rw [if_neg hj]; exact View.read_writes_full _ _ _ _ _)

end Cert.MixAIdeal.Gen

end
-- ==== Proof.MixAData.lean ====
/-
  The mixing gradient's call over its whole grid: what every buffer holds after each point, and the run.
-/
module

public import proofs.«01_k».proof.Proof.MixARun
public import Idealize.ShloMosaic.Lib.Pipeline.ArrRel

@[expose] public section

set_option maxRecDepth 16384

noncomputable section

namespace Cert.MixAIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat BodyObligationRel)

variable {F : FTy → Type} [FloatOps F]

variable (m : (ℓ : Loc nD τ sig) → Buf (Elt F) ℓ) (ρ : Dev nD → PrngReg)

/-! ## The contents after each point -/

theorem point_row (t : Fin cfg0.N) : (grid0.coords t 0).val = t.val / 4 :=
  (by decide +kernel : ∀ t : Fin grid0.N, (grid0.coords t 0).val = t.val / 4) t
theorem point_col (t : Fin cfg0.N) : (grid0.coords t 1).val = t.val % 4 :=
  (by decide +kernel : ∀ t : Fin grid0.N, (grid0.coords t 1).val = t.val % 4) t

/-- The running sum after point `n`. -/
abbrev sumAt (c : Dev nD) : (n : ℕ) → n < cfg0.N → Vec F S2048x256 .f32 :=
  MixPoints.sumAt (fun t => k0_pay3 (k0_pay7 (iblk m c 2 t) (iblk m c 3 t) (iblk m c 4 t)) (iblk m c 1 t))
    fun t => k0_pay4 (k0_pay7 (iblk m c 2 t) (iblk m c 3 t) (iblk m c 4 t)) (iblk m c 1 t)

/-- Which of the weight gradient's rows are known after a point. -/
abbrev WeightRel (c : Dev nD) : Fin cfg0.N → Vec F S1024x256 .f32 → Prop :=
  MixPoints.WeightRel k0_pay2 fun t => k0_pay11 (iblk m c 0 t) (iblk m c 2 t) (iblk m c 3 t) (iblk m c 4 t)

/-- What is said of an output's buffer after point `t`. -/
def Rl (c : Dev nD) (w : Fin cfg0.W) (t : Fin cfg0.N) : ((cfg0.win w).block.Idx → Elt F (cfg0.win w).elt) → Prop :=
  match w with
  | ⟨5, _⟩ => fun X => t.val % 4 = 3 → X = sumAt m c t.val t.isLt
  | ⟨6, _⟩ => fun X => WeightRel m c t X
  | ⟨7, _⟩ => fun X => X = k0_pay9 (iblk m c 0 t) (iblk m c 1 t) (iblk m c 2 t) (iblk m c 3 t) (iblk m c 4 t)
  | ⟨8, _⟩ => fun X => X = k0_pay10 (iblk m c 0 t) (iblk m c 1 t) (iblk m c 2 t) (iblk m c 3 t) (iblk m c 4 t)
  | _ => fun _ => True

/-- The windows of which only `Rl` is said: the outputs. -/
def outputs : Fin 9 → Bool := fun | 5 | 6 | 7 | 8 => true | _ => false

/-- The scratch, whole. -/
abbrev scM : Memref sig .tc .vmem S2048x256 .f32 := Memref.whole cc0_scratch0

/-- Between the points: the scratch holds the running sum of the row block, and at a row block's start anything. -/
def carried (c : Dev nD) (n : ℕ) : sProp (Machine F) :=
  iprop((∃ s, ⌜∀ h : n - 1 < cfg0.N, n % 4 ≠ 0 → s = sumAt m c (n - 1) h⌝ ∗ owns (c : Thread nD τ) scM fullShare s) ∗ ∃ r, prngReg c r)

theorem rest_eq (c : Dev nD) : (Pipeline.ΦA spec0 c : sProp (Machine F))
    = iprop((∃ s, owns (c : Thread nD τ) scM fullShare s) ∗ ∃ r, prngReg c r) := by
  unfold Pipeline.ΦA
  rw [scopedRest0_eq]
  simp only [scM, owns_whole]
  try rfl

theorem carried_in (c : Dev nD) : (Pipeline.ΦA spec0 c : sProp (Machine F)) ⊢ carried m c 0 := by
  rw [rest_eq]
  unfold carried
  iintro ⟨⟨%s, Hs⟩, Hg⟩
  isplitl [Hs]
  · iexists s; isplitr
    · ipureintro; intro _ h0; exact absurd rfl h0
    · iexact Hs
  · iexact Hg

theorem carried_out (c : Dev nD) (n : ℕ) : carried m c n ⊢ (Pipeline.ΦA spec0 c : sProp (Machine F)) := by
  rw [rest_eq]
  unfold carried
  iintro ⟨⟨%s, -, Hs⟩, Hg⟩
  isplitl [Hs]
  · iexists s; iexact Hs
  · iexact Hg

/-- The proof data on a core. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => Pipeline.Dat.unnamed (cfg := cfg0) 5 t
    | ⟨6, _⟩ => Pipeline.Dat.unnamed (cfg := cfg0) 6 t
    | ⟨7, _⟩ => Pipeline.Dat.unnamed (cfg := cfg0) 7 t
    | ⟨8, _⟩ => Pipeline.Dat.unnamed (cfg := cfg0) 8 t
  Φ n := carried m c n.val
  q _ := fullShare
  owed _ := 0

/-- The data with the outputs held to `Rl`. -/
abbrev rdat (c : Dev nD) : RDat τ (Elt F) Unit ℕ (UR sig nD τ) ℕ cfg0 c := (dats m 0 c).toRRel outputs (Rl m c)

theorem A_eq (c : Dev nD) (w : Fin cfg0.W) : (dats m 0 c).A w = V m c (Pipeline.arrRef spec0 w) := by dsimp only [dats]

theorem before0_0 (c : Dev nD) (t : Fin cfg0.N) (d) : (dats m 0 c).before 0 t d = iblk m c 0 t :=
  before0_0_of m (dats m 0 c) (A_eq m c 0) (fun t => by dsimp only [dats]) t d
theorem before0_1 (c : Dev nD) (t : Fin cfg0.N) (d) : (dats m 0 c).before 1 t d = iblk m c 1 t :=
  before0_1_of m (dats m 0 c) (A_eq m c 1) (fun t => by dsimp only [dats]) t d
theorem before0_2 (c : Dev nD) (t : Fin cfg0.N) (d) : (dats m 0 c).before 2 t d = iblk m c 2 t :=
  before0_2_of m (dats m 0 c) (A_eq m c 2) (fun t => by dsimp only [dats]) t d
theorem before0_3 (c : Dev nD) (t : Fin cfg0.N) (d) : (dats m 0 c).before 3 t d = iblk m c 3 t :=
  before0_3_of m (dats m 0 c) (A_eq m c 3) (fun t => by dsimp only [dats]) t d
theorem before0_4 (c : Dev nD) (t : Fin cfg0.N) (d) : (dats m 0 c).before 4 t d = iblk m c 4 t :=
  before0_4_of m (dats m 0 c) (A_eq m c 4) (fun t => by dsimp only [dats]) t d

/-- What the weight gradient's buffer may hold when a point starts. -/
theorem weight_found (c : Dev nD) (t : Fin cfg0.N) (Y : Vec F S1024x256 .f32) (h : (rdat m c).Finds 6 t Y) (ht : t.val ≠ 0) :
    WeightRel m c ⟨t.val - 1, Nat.lt_of_le_of_lt (Nat.sub_le _ _) t.isLt⟩ Y := by
  have hN : t.val < 8 := t.isLt
  have hl := ((rdat m c).finds_of_pos (w := 6) rfl ht Y).mp h
  refine (dats m 0 c).toRRel_leaves (fgt := outputs) (Rl := Rl m c) (w := 6) rfl (hl.resolve_left fun hf => ?_)
  have := (flush0_6 _).mp hf
  have e : (t.val - 1) % 8 = 7 := this
  omega

end Cert.MixAIdeal.Gen

end
-- ==== Proof.MixALaunch.lean ====
/-
  The mixing gradient's call launched: one point against its data, then the whole grid.
-/
module

public import proofs.«01_k».proof.Proof.MixAData

@[expose] public section

set_option maxRecDepth 16384

noncomputable section

namespace Cert.MixAIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat BodyObligationRel)

variable {F : FTy → Type} [FloatOps F]
variable (m : (ℓ : Loc nD τ sig) → Buf (Elt F) ℓ) (ρ : Dev nD → PrngReg)

/-- A window's staging buffer at a point, owned at contents `X`. -/
abbrev holds (c : Dev nD) (w : Fin cfg0.W) (t : Fin cfg0.N) (X : (cfg0.win w).block.Idx → Elt F (cfg0.win w).elt) : sProp (Machine F) :=
  owns (c : Thread nD τ) ((cfg0.win w).stage (cfg0.slots t w)) fullShare X

/-- What the body finds. -/
def found (c : Dev nD) (t : Fin cfg0.N) : sProp (Machine F) :=
  iprop(carried m c t.val ∗ (dats m 0 c).owesAt () t.castSucc
    ∗ (∃ d, holds c 0 t ((dats m 0 c).before 0 t d)) ∗ (∃ d, holds c 1 t ((dats m 0 c).before 1 t d))
    ∗ (∃ d, holds c 2 t ((dats m 0 c).before 2 t d)) ∗ (∃ d, holds c 3 t ((dats m 0 c).before 3 t d))
    ∗ (∃ d, holds c 4 t ((dats m 0 c).before 4 t d))
    ∗ (∃ Y, ⌜(rdat m c).Finds 5 t Y⌝ ∗ holds c 5 t Y) ∗ (∃ Y, ⌜(rdat m c).Finds 6 t Y⌝ ∗ holds c 6 t Y)
    ∗ (∃ Y, ⌜(rdat m c).Finds 7 t Y⌝ ∗ holds c 7 t Y) ∗ (∃ Y, ⌜(rdat m c).Finds 8 t Y⌝ ∗ holds c 8 t Y))

/-- What the body leaves. -/
def left (c : Dev nD) (t : Fin cfg0.N) : sProp (Machine F) :=
  iprop(carried m c (t.val + 1) ∗ (dats m 0 c).owesAt () t.succ
    ∗ holds c 0 t (iblk m c 0 t) ∗ holds c 1 t (iblk m c 1 t) ∗ holds c 2 t (iblk m c 2 t) ∗ holds c 3 t (iblk m c 3 t)
    ∗ holds c 4 t (iblk m c 4 t)
    ∗ (∃ X, ⌜Rl m c 5 t X⌝ ∗ holds c 5 t X) ∗ (∃ X, ⌜Rl m c 6 t X⌝ ∗ holds c 6 t X)
    ∗ (∃ X, ⌜Rl m c 7 t X⌝ ∗ holds c 7 t X) ∗ (∃ X, ⌜Rl m c 8 t X⌝ ∗ holds c 8 t X))

theorem body_step (c : Dev nD) (t : Fin cfg0.N) :
    found m c t ⊢ wp frame (wpE (defs₀ (F := F)) Variants.none c none) Set.univ (bodyAt0 t) (fun _ => left m c t) := by
  unfold found left carried bodyAt0 holds
  simp only [before0_0, before0_1, before0_2, before0_3, before0_4]
  rw [show (dats m 0 c).owesAt () t.succ = (dats m 0 c).owesAt () t.castSucc from rfl]
  iintro ⟨⟨⟨%s, %hs, HS⟩, Hg⟩, Ho, ⟨%d0, H0⟩, ⟨%d1, H1⟩, ⟨%d2, H2⟩, ⟨%d3, H3⟩, ⟨%d4, H4⟩, ⟨%y5, -, H5⟩, ⟨%y6, %h6, H6⟩, ⟨%y7, -, H7⟩, ⟨%y8, -, H8⟩⟩
  have hw := MixPoints.weight_step k0_pay2 (fun t => k0_pay11 (iblk m c 0 t) (iblk m c 2 t) (iblk m c 3 t) (iblk m c 4 t)) t y6
    (fun ht => weight_found m c t y6 h6 ht) (point_row t) (point_col t) (grid0.coords t 1).isLt
  have hsum := MixPoints.sum_step (fun t => k0_pay3 (k0_pay7 (iblk m c 2 t) (iblk m c 3 t) (iblk m c 4 t)) (iblk m c 1 t))
    (fun t => k0_pay4 (k0_pay7 (iblk m c 2 t) (iblk m c 3 t) (iblk m c 4 t)) (iblk m c 1 t)) t s hs
  rw [← point_col t] at hsum
  iapply run (defs₀ (F := F)) c (grid0.coords t) _ _ _ _ _ _ _ _ _ _ _ _ _ _ _ _ _ _ _ _ _ _ (iblk m c 0 t) (iblk m c 1 t) (iblk m c 2 t) (iblk m c 3 t) (iblk m c 4 t) y5 y6 s Set.univ
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [HS]; · iexact HS
  iintro ⟨H0, H1, H2, H3, H4, H5, H6, H7, H8, HS⟩
  isplitl [HS Hg]
  · isplitl [HS]
    · iexists _; isplitr
      swap; · iexact HS
      ipureintro; intro h _
      exact hsum
    · iexact Hg
  isplitl [Ho]; · iexact Ho
  isplitl [H0]; · iexact H0
  isplitl [H1]; · iexact H1
  isplitl [H2]; · iexact H2
  isplitl [H3]; · iexact H3
  isplitl [H4]; · iexact H4
  isplitl [H5]
  · iexists _; isplitr
    swap; · iexact H5
    ipureintro; intro h3
    rw [if_pos ((point_col t).trans h3)]
    exact hsum
  isplitl [H6]
  · iexists _; isplitr
    swap; · iexact H6
    ipureintro; exact hw
  isplitl [H7]
  · iexists _; isplitr
    swap; · iexact H7
    ipureintro; exact rfl
  iexists _; isplitr
  swap; · iexact H8
  ipureintro; exact rfl

theorem body_row (t : Fin cfg0.N) : defs₀ (F := F) .tc cfg0.body (cfg0.bodyArgs t (cfg0.slots t)) = bodyAt0 t := by
  unfold defs₀; rw [Defs.onTc_tc]

theorem body_obligation (c : Dev nD) : BodyObligationRel (dats (F := F) m 0 c) (defs₀ (F := F)) Variants.none () Set.univ outputs (Rl m c) := fun t => by
  rw [bigSep_W0, bigSep_W0, body_row]
  exact triple_restated (body_step m c t) rfl .rfl fun _ => .rfl

set_option backward.isDefEq.respectTransparency.types false in
/-- The launch: every array of the call at what the data says, and every counter at zero. -/
theorem launch : θ_run defs (onTc (τ := τ) (main (F := F))) (s₀ m ρ)
    (fun r => RDat.FramePost cfg0 (fun c => rdat m c) (V m) r ∧ r.2.sem = fun _ => 0) :=
  RDat.θ_run_frame_track (Q' := _) cfgs (0 : Fin 1) launch0 defs₀ Variants.none (fun c => rdat m c) m ρ main
    (hbody := fun c => (body_obligation m c).toRRel) (hshare := fun c => (dats m 0 c).share_full fun _ => rfl)
    (howed := fun _ _ => rfl) (V := V m) (hmain := hmain m Variants.none) (hA := A_eq m)
    (hin := fun c => carried_in m c) (hout := fun c => carried_out m c _)

variable {m} in
/-- After the launch the arguments are as they were. -/
theorem kept {r : PUnit × MemSt nD τ sig (Elt F)} (h : RDat.FramePost cfg0 (fun c => rdat m c) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨(RDat.FramePost.arr_in h c 2 rfl).trans ((A_eq m c 2).trans (V_main_arg0 m c)),
    (RDat.FramePost.arr_in h c 3 rfl).trans ((A_eq m c 3).trans (V_main_arg1 m c)),
    (RDat.FramePost.arr_in h c 0 rfl).trans ((A_eq m c 0).trans (V_main_arg2 m c)),
    ((h c).2 main_arg3 (Pipeline.mem_restRefs_of main_arg3 (by decide) (by decide))).trans (V_main_arg3 m c),
    (RDat.FramePost.arr_in h c 4 rfl).trans ((A_eq m c 4).trans (V_main_arg4 m c)),
    ((h c).2 main_arg5 (Pipeline.mem_restRefs_of main_arg5 (by decide) (by decide))).trans (V_main_arg5 m c)⟩

/-- The frame: the arguments end unchanged and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨kept h.1, h.2⟩) (launch m ρ)

end Cert.MixAIdeal.Gen

end
-- ==== Proof.MixABits.lean ====
/-
  The mixing gradient's call on the machine's own floats: it is the same program, so its frame is the one already proved.
-/
module

public import proofs.«01_k».proof.Defs
public import proofs.«01_k».proof.Proof.Gen.MixA.Frame
public import proofs.«01_k».proof.Proof.MixALaunch

@[expose] public section

set_option maxRecDepth 65536

open Idealize.ShloMosaic Idealize.ShloMosaic.TcCoe Idealize.SL.Sem

namespace Cert.MixAProof

section
variable (F : FTy → Type) [FloatOps F] [a : Cert.MixA.Facts] [b : Cert.MixAIdeal.Facts]

/-- The two programs' bodies agree. -/
theorem bodies : Cert.MixA.defs₀ (F := F) = Cert.MixAIdeal.defs₀ (F := F) := by
  unfold Cert.MixA.defs₀ Cert.MixAIdeal.defs₀
  refine congrArg Defs.onTc ?_
  funext l x
  match l, x with
  | 0, (t, s) => exact rfl
  | ⟨_ + 1, h⟩, _ => exact absurd h (Nat.not_lt.2 (Nat.le_add_left _ _))

/-- And so do their definitions. -/
theorem definitions : Cert.MixA.defs (F := F) = Cert.MixAIdeal.defs (F := F) := by
  unfold Cert.MixA.defs Cert.MixAIdeal.defs
  rw [bodies]
  exact rfl

end

theorem quiescent_kernel [Cert.MixA.Facts] [Cert.MixAIdeal.Facts] : Cert.quiescent_MixA := fun m g _ => by
  rw [definitions]
  exact Cert.MixAIdeal.Gen.frame (F := Bits) m g

end Cert.MixAProof

end
-- ==== Proof.MixAStep.lean ====
/-
  What one point of a mixing gradient's call computes, for the branch of the attention.
-/
module

public import proofs.«01_k».proof.Proof.MixStep
public import proofs.«01_k».proof.Proof.MixARun
public import Idealize.ShloMosaic.Lib.Claim

@[expose] public section

set_option maxRecDepth 16384

noncomputable section

open Idealize.ShloMosaic

namespace Cert.MixAStep

open Cert.MixAIdeal Cert.MixAIdeal.Gen MixPoints

variable {z : FVec Ideal ⟨2, ![4096, 7424]⟩ .f32} {b : FVec Ideal ⟨2, ![1, 3072]⟩ .f32} {k : Fin 3} {d : FVec Ideal ⟨2, ![4096, 1024]⟩ .f32} {t : Fin 8}
  {x2 : Vec Ideal S2048x256 .f32} {x3 : Vec Ideal S1x256 .f32} {x4 : Vec Ideal S2048x256 .f32}

variable {Y : FVec Ideal ⟨2, ![4096, 256]⟩ .f32} {W : FVec Ideal ⟨2, ![256, 1024]⟩ .f32} {x0 : Vec Ideal S2048x256 .f32} {x1 : Vec Ideal S256x256 .bf16}
  (h : Blocks (φ := .f32) z b k Y W d t x0 x1 x2 x3 x4)
include h

/-- The gate. -/
theorem gate (r : Fin 2048) (j : Fin 256) : k0_pay6 x2 x3 (ix2 r j) = MixSpec.gate z b k (ix2 (row t r) (col t j)) := MixStep.gate h r j

/-- The gradient at the branch's projection. -/
theorem product (r : Fin 2048) (j : Fin 256) : k0_pay7 x2 x3 x4 (ix2 r j) = MixSpec.atProduct z b k d (ix2 (row t r) (col t j)) := MixStep.product h r j

/-- The gradient at the gate's argument. -/
theorem grad (r : Fin 2048) (j : Fin 256) : k0_pay8 x0 x1 x2 x3 x4 (ix2 r j) = MixSpec.atGate z b k Y W d (ix2 (row t r) (col t j)) := by
  rw [← h.atGate (gate h r j)]
  pointwise [k0_pay8, k0_pay5]

/-- It is what the point stores, -/
theorem stored (r : Fin 2048) (j : Fin 256) : k0_pay9 x0 x1 x2 x3 x4 (ix2 r j) = MixSpec.atGate z b k Y W d (ix2 (row t r) (col t j)) := by
  rw [← grad h]
  pointwise [k0_pay9]

/-- and its rows are summed by eighths. -/
theorem bias (r : Fin 8) (j : Fin 256) : k0_pay10 x0 x1 x2 x3 x4 (ix2 r j)
    = MixSpec.atBias (MixSpec.atGate z b k Y W d) (ix2 ⟨t.val / 4 * 8 + r.val, by omega⟩ (col t j)) := by
  rw [← bias_result]
  refine Eq.trans (?_ : _ = ∑ q : Fin 256, k0_pay8 x0 x1 x2 x3 x4 (ix2 ⟨q.val * 8 + r.val, by omega⟩ j)) (Finset.sum_congr rfl fun q _ => grad h _ j)
  pointwise [k0_pay10]

/-- The point's share of the weight gradient, -/
theorem share (j : Fin 256) (l : Fin 256) : k0_pay11 x0 x2 x3 x4 (ix2 j l) = shareOf (MixSpec.atProduct z b k d) Y t j l := by
  rw [← h.share (product h) j l]
  pointwise [k0_pay11, k0_pay5]

/-- and of the branch's gradient, -/
theorem part (r : Fin 2048) (l : Fin 256) : k0_pay1 (k0_pay7 x2 x3 x4) x1 (ix2 r l) = partAt (MixSpec.atProduct z b k d) W t r l := by
  rw [← h.part (product h) r l]
  pointwise [k0_pay1]

/-- which starts a row block's sum, -/
theorem first (r : Fin 2048) (l : Fin 256) : k0_pay3 (k0_pay7 x2 x3 x4) x1 (ix2 r l) = partAt (MixSpec.atProduct z b k d) W t r l := by
  rw [← part h]
  pointwise [k0_pay3]

/-- or is added to it. -/
theorem next (s : Vec Ideal S2048x256 .f32) (r : Fin 2048) (l : Fin 256) : k0_pay4 (k0_pay7 x2 x3 x4) x1 s (ix2 r l)
    = @HAdd.hAdd EReal EReal EReal _ (s (ix2 r l)) (partAt (MixSpec.atProduct z b k d) W t r l) := by
  rw [← part h]
  pointwise [k0_pay4]

omit h in
/-- Adding to rows of the weight gradient. -/
theorem add (p q : Vec Ideal S256x256 .f32) (y : S256x256.Idx) : k0_pay2 p q y = @HAdd.hAdd EReal EReal EReal _ (q y) (p y) := by
  pointwise [k0_pay2]

end Cert.MixAStep

end
-- ==== Proof.MixABlock.lean ====
/-
  What the points of the mixing gradient's call read.
-/
module

public import proofs.«01_k».proof.Proof.MixALaunch
public import proofs.«01_k».proof.Proof.MixAStep
public import Idealize.ShloMosaic.Lib.Claim
public import Idealize.ShloMosaic.Lib.StableHlo.RunClose

@[expose] public section

set_option maxRecDepth 16384

noncomputable section

open Idealize.ShloMosaic Idealize.ShloMosaic.TcCoe Idealize.SL.Sem

namespace Cert.MixAIdeal.Whole

open Cert.MixAIdeal Cert.MixAIdeal.Gen

variable (m : (ℓ : Loc nD τ sig) → Buf (Elt Ideal) ℓ)

theorem idx : ∀ t : Fin cfg0.N, (win0_0.index t = ![t.val / 4, 0] ∧ win0_1.index t = ![t.val % 4, 0]
    ∧ win0_2.index t = ![t.val / 4, 25 + t.val % 4] ∧ win0_3.index t = ![0, 8 + t.val % 4]
    ∧ win0_4.index t = ![t.val / 4, t.val % 4]) ∧ (win0_5.index t = ![t.val / 4, 0] ∧ win0_6.index t = ![0, 0]
    ∧ win0_7.index t = ![t.val / 4, 25 + t.val % 4] ∧ win0_8.index t = ![t.val / 4, t.val % 4]) :=
  (by decide +kernel : ∀ t : Fin grid0.N, _)

abbrev z (c : Dev nD) : FVec Ideal S4096x7424 .f32 := m ((c : Thread nD τ).loc main_arg0)
abbrev b (c : Dev nD) : FVec Ideal S1x3072 .f32 := m ((c : Thread nD τ).loc main_arg1)
abbrev Y (c : Dev nD) : FVec Ideal S4096x256 .f32 := m ((c : Thread nD τ).loc main_arg2)
abbrev W (c : Dev nD) : FVec Ideal S256x1024 .f32 := m ((c : Thread nD τ).loc main_arg3)
abbrev d (c : Dev nD) : FVec Ideal S4096x1024 .f32 := m ((c : Thread nD τ).loc main_arg4)
abbrev D (c : Dev nD) : FVec Ideal S4096x7424 .f32 := m ((c : Thread nD τ).loc main_arg5)

theorem entry1 (c : Dev nD) (j : Fin 1024) (k : Fin 256) : V m c main_v1 (ix2 j k) = W m c (ix2 k j) := by
  have h : V m c main_v1 = (truncf .bf16 (transpose S1024x256 [1, 0] (W m c) transposes_S256x1024_S1024x256_1_0) bitsLt_bf16_f32 : FVec Ideal _ .bf16) := by
    show StableHlo.after hostOps0 (fun b => m (c, b)) (Proc.devRef .tc main_v1) = _
    after_results_entrywise (rounds := 1) []
  rw [h]
  pointwise []

theorem entry7 (c : Dev nD) (y : S4096x7424.Idx) : V m c main_v3_2 y = D m c y := by
  have h : V m c main_v3_2 = (truncf .bf16 (D m c) bitsLt_bf16_f32 : FVec Ideal _ .bf16) := by
    show StableHlo.after hostOps0 (fun b => m (c, b)) (Proc.devRef .tc main_v3_2) = _
    after_results_entrywise (rounds := 1) []
  rw [h]
  pointwise []

/-- A point's blocks. -/
theorem blocks (c : Dev nD) (t : Fin cfg0.N) : MixPoints.Blocks (φ := .f32) (z m c) (b m c) 2 (Y m c) (W m c) (d m c) t
    (iblk m c 0 t) (iblk m c 1 t) (iblk m c 2 t) (iblk m c 3 t) (iblk m c 4 t) where
  branch r k := by
    blk_point [iblk, V, idx t]
  weight j k := by
    rw [← entry1]
    unfold iblk
    blk_simp [idx t]
    exact congrArg (V m c main_v1) (by blk_ext [idx t])
  input r j := by
    have ht : t.val < 8 := t.isLt
    blk_point [iblk, V, idx t]
  bias j := by
    have ht : t.val < 8 := t.isLt
    blk_point [iblk, V, idx t]
  grad r j := by
    blk_point [iblk, V, idx t]

end Cert.MixAIdeal.Whole

end
-- ==== Proof.MixAValue.lean ====
/-
  The mixing gradient's results, read off what the call leaves.
-/
module

public import proofs.«01_k».proof.Proof.MixABlock

@[expose] public section

set_option maxRecDepth 16384

noncomputable section

open Idealize.ShloMosaic Idealize.ShloMosaic.TcCoe Idealize.SL.Sem

namespace Cert.MixAIdeal.Whole

open Cert.MixAIdeal Cert.MixAIdeal.Gen Idealize.ShloMosaic.Pipeline

variable (m : (ℓ : Loc nD τ sig) → Buf (Elt Ideal) ℓ)

abbrev dpre (c : Dev nD) : FVec Ideal S4096x1024 .f32 := MixSpec.atGate (z m c) (b m c) 2 (Y m c) (W m c) (d m c)
abbrev dy (c : Dev nD) : FVec Ideal S4096x256 .f32 := MixSpec.atBranch (z m c) (b m c) 2 (W m c) (d m c)
abbrev dw (c : Dev nD) : FVec Ideal S1024x256 .f32 := MixSpec.atWeight (z m c) (b m c) 2 (Y m c) (d m c)
abbrev dz (c : Dev nD) : FVec Ideal S4096x7424 .f32 := MixSpec.atInput 2 (D m c) (dpre m c)
abbrev db (c : Dev nD) : FVec Ideal S16x1024 .f32 := MixSpec.atBias (dpre m c)

/-- The grid's last point. -/
abbrev lastPoint : Fin cfg0.N := ⟨7, by decide⟩

theorem flush5 : ∀ t : Fin cfg0.N, (cfg0.win 5).flush t = true → t.val % 4 = 3 := by decide +kernel
theorem flush6 : ∀ t : Fin cfg0.N, (cfg0.win 6).flush t = true → t = lastPoint := by decide +kernel

section
variable (c : Dev nD) (after : (w : Fin cfg0.W) → Fin cfg0.N → (cfg0.win w).block.Idx → Elt Ideal (cfg0.win w).elt)
  (left : ∀ (w : Fin cfg0.W) (u : Fin cfg0.N), (cfg0.win w).flush u = true → (rdat m c).Leaves w u (after w u))
include left

theorem final5 : ((rdat m c).withAfter after).arrAt 5 cfg0.N = dy m c := by
  refine ((rdat m c).withAfter after).arrAt_eq_of_covers 5 _ (by decide +kernel) fun t hf y => ?_
  have h : after 5 t = sumAt m c t.val t.isLt := (dats m 0 c).toRRel_leaves (w := 5) rfl (left 5 t hf) (flush5 t hf)
  blk_simp
  rw [RDat.withAfter_after, h]
  obtain ⟨r, k, rfl⟩ : ∃ (r : Fin 2048) (k : Fin 256), y = ix2 r k := ⟨_, _, eq_ix2 y⟩
  refine (MixPoints.sum_result _ _ (fun t => MixAStep.first (blocks m c t)) (fun t => MixAStep.next (blocks m c t)) t (flush5 t hf) r k).trans (congrArg (dy m c) ?_)
  blk_ext [idx t]

theorem final6 : ((rdat m c).withAfter after).arrAt 6 cfg0.N = dw m c := by
  refine ((rdat m c).withAfter after).arrAt_eq_of_covers 6 _ (by decide +kernel) fun t hf y => ?_
  obtain rfl := flush6 t hf
  have h : after 6 lastPoint = dw m c := MixPoints.weight_result _ _ MixAStep.add (fun t => MixAStep.share (blocks m c t)) _ ((dats m 0 c).toRRel_leaves (w := 6) rfl (left 6 lastPoint hf))
  blk_simp
  rw [RDat.withAfter_after, h]
  exact congrArg (dw m c) (by blk_ext [idx lastPoint])

theorem final7 : ((rdat m c).withAfter after).arrAt 7 cfg0.N = dz m c := by
  refine ((rdat m c).withAfter after).arrAt_eq_of_coversWhere_of_agree 7 (dz m c) (fun β => 25 ≤ β (1 : Fin 2) ∧ β (1 : Fin 2) ≤ 28) (by decide +kernel) (fun t hf y => ?_) (fun j hj => ?_)
  · have h : after 7 t = k0_pay9 (iblk m c 0 t) (iblk m c 1 t) (iblk m c 2 t) (iblk m c 3 t) (iblk m c 4 t) := (dats m 0 c).toRRel_leaves (w := 7) rfl (left 7 t hf)
    blk_simp
    rw [RDat.withAfter_after, h]
    obtain ⟨r, k, rfl⟩ : ∃ (r : Fin 2048) (k : Fin 256), y = ix2 r k := ⟨_, _, eq_ix2 y⟩
    have ht : t.val < 8 := t.isLt
    have e : (win0_7.blk t).view.emb (ix2 r k) = ix2 (MixPoints.row t r) ⟨4352 + (2 : Fin 3).val * 1024 + (MixPoints.col t k).val, by show 4352 + 2 * 1024 + (t.val % 4 * 256 + k.val) < 7424; omega⟩ := by blk_ext [idx t]
    rw [e]
    exact (MixAStep.stored (blocks m c t) r k).trans (MixPoints.input_written 2 _ _ _ _).symm
  · rw [RDat.withAfter_A]
    blk_simp [Pipeline.Window.cell_apply] at hj
    refine ((congrFun (A_eq m c 7) j).trans (entry7 m c j)).trans (MixPoints.input_kept 2 _ _ j ?_).symm
    show ¬ (4352 + 2 * 1024 ≤ (j 1).val ∧ (j 1).val < 5376 + 2 * 1024)
    omega

theorem final8 : ((rdat m c).withAfter after).arrAt 8 cfg0.N = db m c := by
  refine ((rdat m c).withAfter after).arrAt_eq_of_covers 8 _ (by decide +kernel) fun t hf y => ?_
  have h : after 8 t = k0_pay10 (iblk m c 0 t) (iblk m c 1 t) (iblk m c 2 t) (iblk m c 3 t) (iblk m c 4 t) := (dats m 0 c).toRRel_leaves (w := 8) rfl (left 8 t hf)
  blk_simp
  rw [RDat.withAfter_after, h]
  obtain ⟨r, k, rfl⟩ : ∃ (r : Fin 8) (k : Fin 256), y = ix2 r k := ⟨_, _, eq_ix2 y⟩
  refine (MixAStep.bias (blocks m c t) r k).trans (congrArg (db m c) ?_)
  blk_ext [idx t]

end

/-- The run: every result at its value, and the arguments as they were. -/
theorem run_values (ρ : Dev nD → PrngReg) : θ_run defs (onTc (τ := τ) (main (F := Ideal))) ⟨m, fun _ => 0, ρ⟩ (fun r => ∀ c : Dev nD,
      r.2.mem ((c.tc : Thread nD τ).loc main_v3_0) = dy m c
      ∧ r.2.mem ((c.tc : Thread nD τ).loc main_v3_1) = dw m c
      ∧ r.2.mem ((c.tc : Thread nD τ).loc main_v3_2) = dz m c
      ∧ r.2.mem ((c.tc : Thread nD τ).loc main_v3_3) = db m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => by
    obtain ⟨after, left, arr⟩ := RDat.FramePost.exists_exact h.1 c
    exact ⟨(arr 5).trans (final5 m c after left), (arr 6).trans (final6 m c after left), (arr 7).trans (final7 m c after left),
      (arr 8).trans (final8 m c after left), kept h.1 c⟩) (launch m ρ)

end Cert.MixAIdeal.Whole

end
-- ==== Proof.MixAReference.lean ====
/-
  The reference's gradients of one mixing branch of 256 columns, from its gate on.
-/
module

public import proofs.«01_k».proof.Proof.Gen.MixARefIdeal.Run
public import proofs.«01_k».proof.Proof.MixSpec
public import proofs.«01_k».proof.Proof.LayerWeights
public import Idealize.ShloMosaic.Lib.Claim

@[expose] public section

set_option maxRecDepth 16384

noncomputable section

open Idealize.ShloMosaic

namespace Cert.MixAReference

open Cert.MixARefIdeal Cert.MixARefIdeal.Gen

variable (z : FVec Ideal S4096x7424 .f32) (b : FVec Ideal S1x3072 .f32) (k : Fin 3) (Y : FVec Ideal S4096x256 .f32) (W : FVec Ideal S256x1024 .f32)
  (d : FVec Ideal S4096x1024 .f32) {G : FVec Ideal S4096x1024 .f32} (hG : G = MixSpec.gate z b k)

/-- The reference's ones. -/
abbrev ones : FVec Ideal S4096x1024 .f32 := broadcastInDim S4096x1024 ![] bcast_S_S4096x1024 (constant S_ .f32 0x3F800000#32)

include hG

theorem grad_eq : mulf (mulf d (Host.dotGeneral (φ₁ := .f32) (φ₂ := .f32) dot_S4096x256_S256x1024_S4096x1024_1_0_0_1_n_n none Y W)) (mulf G (subf ones G))
    = MixSpec.atGate z b k Y W d := by
  rw [hG]
  funext y
  unfold MixSpec.atGate LayerSpec.product
  pointwise []

theorem branch_eq : Host.dotGeneral (φ₁ := .f32) (φ₂ := .f32) dot_S4096x1024_S256x1024_S4096x256_1_1_0_0_n_n none (mulf G d) W
    = MixSpec.atBranch z b k W d := by
  rw [hG]
  funext y
  unfold MixSpec.atBranch LayerSpec.productT MixSpec.atProduct
  pointwise []

theorem weight_eq : transpose S1024x256 [1, 0] (transpose S256x1024 [1, 0]
      (Host.dotGeneral (φ₁ := .f32) (φ₂ := .f32) dot_S4096x1024_S4096x256_S1024x256_0_0_1_1_n_n none (mulf G d) Y)
      transposes_S1024x256_S256x1024_1_0) transposes_S256x1024_S1024x256_1_0
    = MixSpec.atWeight z b k Y d := by
  rw [hG]
  funext y
  unfold MixSpec.atWeight LayerSpec.productN MixSpec.atProduct
  pointwise []

end Cert.MixAReference

end
-- ==== Proof.MixAClaims.lean ====
/-
  The claims about the mixing gradient of the attention's branch.
-/
module

public import proofs.«01_k».proof.Defs
public import proofs.«01_k».proof.Proof.MixABits
public import proofs.«01_k».proof.Proof.MixAValue
public import proofs.«01_k».proof.Proof.MixReference
public import proofs.«01_k».proof.Proof.MixAReference
public import Idealize.ShloMosaic.Lib.Quiescent

@[expose] public section

set_option maxRecDepth 16384

noncomputable section

open Idealize.ShloMosaic Idealize.ShloMosaic.TcCoe Idealize.SL.Sem

namespace Cert.MixAProof

theorem quiescent_ideal : Cert.quiescent_MixAIdeal := fun m g _ => Cert.MixAIdeal.Gen.frame m g

theorem quiescent_reference : Cert.quiescent_MixARefIdeal := fun m g _ =>
  (θ_run Cert.MixARefIdeal.defs _ _).mono
    (fun r h => ⟨fun c => (h c).2.2.2.2, Idealize.ShloMosaic.sem_eq_zero_of_no_sems (by decide) r.2⟩)
    (Cert.MixARefIdeal.Value.run (F := Ideal) m g)

section
open Cert.MixARefIdeal Cert.MixARefIdeal.Gen

variable (z : FVec Ideal S4096x7424 .f32) (b : FVec Ideal S1x3072 .f32) (D : FVec Ideal S4096x7424 .f32)

/-- The reference's gate. -/
abbrev gate : FVec Ideal S4096x1024 .f32 :=
  Host.divf MixReference.ones (addf MixReference.ones (Host.exp (Host.negf (addf (extractStridedSlice S4096x1024 ![0, 6400] z slices_S4096x7424_S4096x1024_0_6400)
    (broadcastInDim S4096x1024 ![0, 1] bcast_S1x1024_S4096x1024_0_1 (extractStridedSlice S1x1024 ![0, 2048] b slices_S1x3072_S1x1024_0_2048))))))

theorem gate_eq : gate z b = MixSpec.gate z b 2 := by
  funext y
  unfold MixSpec.gate MergeSpec.sigmoid MergeSpec.gateIn
  pointwise []
  refine congrArg (fun i => Ideal.div 1 (1 + Ideal.exp (-(z (ix2 (y 0) i) + _)))) (Fin.ext ?_)
  show 6400 + (y 1).val = 4352 + (2048 + (y 1).val)
  omega

theorem reference_input (P : FVec Ideal S4096x1024 .f32) : (truncf .bf16 (concatenate S4096x7424 1 [⟨S4096x6400, extractStridedSlice S4096x6400 ![0, 0] D slices_S4096x7424_S4096x6400_0_0⟩,
      ⟨S4096x1024, P⟩, ⟨S4096x0, extractStridedSlice S4096x0 ![0, 7424] D slices_S4096x7424_S4096x0_0_7424⟩]
      concatenates_S4096x6400_S4096x1024_S4096x0_S4096x7424_d1) bitsLt_bf16_f32 : FVec Ideal S4096x7424 .bf16)
    = MixSpec.atInput 2 D P := by
  funext y
  unfold MixSpec.atInput
  pointwise []
  have hy : (y 1).val < 7424 := (y 1).isLt
  split
  · rw [dif_neg (by omega)]
  · split
    · rw [dif_pos (by omega)]
    · rw [dif_neg (by omega)]
      refine Eq.trans (congrArg D (congrArg (ix2 (y 0) ·) (Fin.ext ?_))) (congrArg D (eq_ix2 y)).symm
      show 7424 + ((y 1).val - 6400 - 1024) = (y 1).val
      omega

end

theorem algebraic : Cert.algebraic_MixAIdeal_MixARefIdeal := fun m g m' g' _ hag =>
  ⟨Cert.MixAIdeal.Whole.dy m, Cert.MixAIdeal.Whole.dw m, Cert.MixAIdeal.Whole.dz m, Cert.MixAIdeal.Whole.db m,
    Cert.MixAIdeal.Whole.run_values m g,
    (θ_run Cert.MixARefIdeal.defs _ _).mono
      (fun _ h c => by
        obtain ⟨h0, h1, h2, h3, h4, h5⟩ := hag c
        obtain ⟨o0, o1, o2, o3, hA⟩ := h c
        rw [h0, h1, h3, h4] at o0
        rw [h0, h1, h2, h4] at o1
        rw [h0, h1, h2, h3, h4, h5] at o2
        rw [h0, h1, h2, h3, h4] at o3
        exact ⟨o0.trans (MixAReference.branch_eq _ _ _ _ _ (gate_eq _ _)), o1.trans (MixAReference.weight_eq _ _ _ _ _ (gate_eq _ _)),
          o2.trans ((reference_input _ _).trans (congrArg _ (MixAReference.grad_eq _ _ _ _ _ _ (gate_eq _ _)))),
          o3.trans ((MixReference.bias_eq _).trans (congrArg _ (MixAReference.grad_eq _ _ _ _ _ _ (gate_eq _ _)))), hA⟩)
      (Cert.MixARefIdeal.Value.run (F := Ideal) m' g')⟩

end Cert.MixAProof

end
-- ==== Proof.SumSpec.lean ====
/-
  The sum of the four chips' parts, of which one is held at full precision, written at an index.
-/
module

public import Idealize.ShloMosaic.Lib.Pointwise
public import Idealize.ShloMosaic.Lib.Pipeline.ValueKit

@[expose] public section

noncomputable section

open Idealize.ShloMosaic

namespace Cert.SumSpec

variable {R C : Nat} {φ : FTy}

/-- The part of chip `p`: the device's own where `p` is the device's chip, else the received one. -/
def part (ids : IVec ⟨1, ![2]⟩ 32) (recv : FVec Ideal ⟨3, ![4, R, C]⟩ φ) (own : FVec Ideal ⟨2, ![R, C]⟩ .f32) (r : Fin R) (l : Fin C) (p : Fin 4) : EReal :=
  if BitVec.ofNat 32 p.val = ids (ix1 1) then own (ix2 r l) else recv (ix3 p r l)

/-- The parts summed. -/
def total (ids : IVec ⟨1, ![2]⟩ 32) (recv : FVec Ideal ⟨3, ![4, R, C]⟩ φ) (own : FVec Ideal ⟨2, ![R, C]⟩ .f32) : FVec Ideal ⟨2, ![R, C]⟩ .f32 :=
  fun y => ∑ p : Fin 4, part ids recv own (y 0) (y 1) p

/-- A choice by a comparison of words. -/
theorem choice {α : Type} (w v : BitVec 32) (a b : α) : Scalar.select (IntOp.cmpi .eq w v) a b = if v = w then a else b := by
  by_cases h : v = w
  · subst h; simp [Scalar.select, IntOp.cmpi]
  · have h' : (w == v) = false := beq_eq_false_iff_ne.2 fun e => h e.symm
    simp [Scalar.select, IntOp.cmpi, h, h']

/-- A choice between the own entry and the received one is the chip's part. -/
theorem part_of (ids : IVec ⟨1, ![2]⟩ 32) (recv : FVec Ideal ⟨3, ![4, R, C]⟩ φ) (own : FVec Ideal ⟨2, ![R, C]⟩ .f32) (r : Fin R) (l : Fin C)
    (p : Fin 4) (w : BitVec 32) (a b : EReal) (hw : w = ids (ix1 1)) (ha : a = own (ix2 r l)) (hb : b = recv (ix3 p r l)) :
    (if BitVec.ofNat 32 p.val = w then a else b) = part ids recv own r l p := by
  subst hw ha hb
  rfl

/-- The choices of a sum over the chips, made by comparing a chip's number with the device's. -/
theorem total_of (ids : IVec ⟨1, ![2]⟩ 32) (recv : FVec Ideal ⟨3, ![4, R, C]⟩ φ) (own : FVec Ideal ⟨2, ![R, C]⟩ .f32) (y : (⟨2, ![R, C]⟩ : Shape).Idx) :
    (∑ p : Fin 4, Scalar.select (IntOp.cmpi .eq (BitVec.ofNat 32 p.val) (ids (ix1 1))) (own y : EReal) (recv (ix3 p (y 0) (y 1)))) = total ids recv own y :=
  Finset.sum_congr rfl fun p _ => by
    rw [choice]
    unfold part
    rw [show own y = own (ix2 (y 0) (y 1)) from congrArg own (eq_ix2 y)]
    exact if_congr eq_comm rfl rfl

/-- The part of a chip in a block of rows. -/
abbrev plane (P : (⟨3, ![4, R, C]⟩ : Shape).Idx → EReal) (p : Nat) (inb : ∀ a : Fin 3, ![p, 0, 0] a + (![1, R, C] : Fin 3 → Nat) a ≤ (![4, R, C] : Fin 3 → Nat) a) :
    (⟨3, ![1, R, C]⟩ : Shape).Idx → EReal :=
  fun z => P ((Rect.unit (s := ⟨3, ![4, R, C]⟩) ![p, 0, 0] ![1, R, C] inb).idx z)

theorem plane_apply (P : (⟨3, ![4, R, C]⟩ : Shape).Idx → EReal) (p : Fin 4) (inb : ∀ a : Fin 3, ![p.val, 0, 0] a + (![1, R, C] : Fin 3 → Nat) a ≤ (![4, R, C] : Fin 3 → Nat) a)
    (r : Fin R) (l : Fin C) : plane P p.val inb (ix3 0 r l) = P (ix3 p r l) := by
  refine congrArg P (funext fun a => Fin.ext ((Rect.idx_unit_val (s := ⟨3, ![4, R, C]⟩) _ _ inb (ix3 0 r l) a).trans ?_))
  fin_cases a
  · exact Nat.add_zero _
  · exact Nat.zero_add _
  · exact Nat.zero_add _

/-- The four choices added one after the other are the sum over the chips. -/
theorem four (w : BitVec 32) (P : (⟨3, ![4, R, C]⟩ : Shape).Idx → EReal) (o : EReal) (r : Fin R) (l : Fin C) (i0 i1 i2 i3) :
    Scalar.select (Scalar.cmpi .eq w 0#32) o (plane P 0 i0 (ix3 0 r l)) + Scalar.select (Scalar.cmpi .eq w 1#32) o (plane P 1 i1 (ix3 0 r l))
      + Scalar.select (Scalar.cmpi .eq w 2#32) o (plane P 2 i2 (ix3 0 r l)) + Scalar.select (Scalar.cmpi .eq w 3#32) o (plane P 3 i3 (ix3 0 r l))
    = ∑ p : Fin 4, if BitVec.ofNat 32 p.val = w then o else P (ix3 p r l) := by
  have h := fun (p : Fin 4) inb => (choice w (BitVec.ofNat 32 p.val) o (plane P p.val inb (ix3 0 r l))).trans
    (if_congr Iff.rfl rfl (plane_apply P p inb r l))
  rw [Fin.sum_univ_four]
  exact congrArg₂ (· + ·) (congrArg₂ (· + ·) (congrArg₂ (· + ·) (h 0 i0) (h 1 i1)) (h 2 i2)) (h 3 i3)

end Cert.SumSpec

end
-- ==== Proof.SumRBlock.lean ====
/-
  What the sum of the four chips' parts leaves in its result.
-/
module

public import proofs.«01_k».proof.Proof.SumSpec
public import proofs.«01_k».proof.Proof.Gen.SumRIdeal.Frame
public import Idealize.ShloMosaic.Lib.Pipeline.Value
public import Idealize.ShloMosaic.Lib.Pipeline.ValueKit

@[expose] public section

set_option maxRecDepth 16384

noncomputable section

open Idealize.ShloMosaic Idealize.ShloMosaic.TcCoe Idealize.SL.Sem

namespace Cert.SumRIdeal.Whole

open Cert.SumRIdeal Cert.SumRIdeal.Gen

variable (m : (ℓ : Loc nD τ sig) → Buf (Elt Ideal) ℓ)

/-- The table's words meet no condition: no block is chosen by them. -/
theorem ok : Ok m := by
  unfold Ok ok0
  trivial

theorem idx (t : Fin (cfgM m (ok m)).N) : ((cfgM m (ok m)).win 0).index t = ![0, t.val, 0] ∧ ((cfgM m (ok m)).win 1).index t = ![t.val, 0]
    ∧ ((cfgM m (ok m)).win 2).index t = ![t.val, 0] :=
  (by decide +kernel : ∀ t : Fin grid0.N, cc0_transform_0 (grid0.coords t) = ![0, t.val, 0] ∧ cc0_transform_1 (grid0.coords t) = ![t.val, 0]
    ∧ cc0_transform_2 (grid0.coords t) = ![t.val, 0]) t

/-- The parts summed. -/
abbrev result (c : Dev nD) : FVec Ideal S1312x1024 .f32 :=
  SumSpec.total (φ := .bf16) (m ((c : Thread nD τ).loc main_arg0)) (m ((c : Thread nD τ).loc main_arg1)) (m ((c : Thread nD τ).loc main_arg2))

/-- Some contents of the table: a block's place doesn't depend on them. -/
def zeros : pre0.Contents (Elt Ideal) :=
  fun | 0 => fun _ => (0#32 : BitVec 32) | ⟨_ + 1, h⟩ => absurd h (Nat.not_lt.2 (Nat.le_add_left _ _))

theorem ok_zeros : ok0 (F := Ideal) zeros := by
  unfold ok0
  trivial

theorem covers : ((cfg0 (F := Ideal) ⟨zeros, ok_zeros⟩).win 2).Covers := by decide +kernel

/-- The part of a chip in a point's block. -/
abbrev part (P : FVec Ideal S4x656x1024 .bf16) (p : Nat) (inb : ∀ a : Fin 3, ![p, 0, 0] a + S1x656x1024.size a ≤ S4x656x1024.size a) : FVec Ideal S1x656x1024 .bf16 :=
  View.ld (Val := Elt Ideal) (e' := .bf16) P (Rect.unit (s := S4x656x1024) ![p, 0, 0] S1x656x1024.size inb)

/-- A point's block: the four parts of the block, summed. -/
theorem point (w : BitVec 32) (P : FVec Ideal S4x656x1024 .bf16) (o : FVec Ideal S656x1024 .f32) (r : Fin 656) (l : Fin 1024) :
    k0_pay1 w o (part P 0 inb_S4x656x1024_S1x656x1024_0_0_0) w o (part P 1 inb_S4x656x1024_S1x656x1024_1_0_0)
      w o (part P 2 inb_S4x656x1024_S1x656x1024_2_0_0) w o (part P 3 inb_S4x656x1024_S1x656x1024_3_0_0) (ix2 r l)
    = ∑ p : Fin 4, if BitVec.ofNat 32 p.val = w then o (ix2 r l) else P (ix3 p r l) := by
  refine Eq.trans ?_ (SumSpec.four w P (o (ix2 r l)) r l inb_S4x656x1024_S1x656x1024_0_0_0 inb_S4x656x1024_S1x656x1024_1_0_0 inb_S4x656x1024_S1x656x1024_2_0_0 inb_S4x656x1024_S1x656x1024_3_0_0)
  pointwise [k0_pay1]

/-- The result array after the run. -/
theorem final (c : Dev nD) : (dats m (ok m) 0 c).arrAt 2 (cfgM m (ok m)).N = result m c := by
  refine (dats m (ok m) 0 c).arrAt_eq_of_covers 2 _ ?_ fun t _ y => ?_
  · exact covers
  blk_simp
  rw [after0_2]
  unfold outsAt0
  frame_out
  obtain ⟨r, l, e⟩ : ∃ (r : Fin 656) (l : Fin 1024), (y : S656x1024.Idx) = ix2 r l := ⟨_, _, eq_ix2 y⟩
  rw [show y = (ix2 r l : S656x1024.Idx) from e]
  refine (point _ _ _ r l).trans (Finset.sum_congr rfl fun p _ => SumSpec.part_of _ _ _ _ _ p _ _ _ ?_ ?_ ?_)
  · obtain rfl : c = 0 := Subsingleton.elim _ _
    exact congrArg (m (((0 : Dev nD) : Thread nD τ).loc main_arg0)) (funext fun a => Fin.ext (by fin_cases a; rfl))
  · refine (congrFun ((hs0_1 m (ok m) t).read_unread _) _).trans ?_
    blk_point [iblk, V, idx m t]
  · refine (congrFun ((hs0_0 m (ok m) t).read_unread _) _).trans ?_
    blk_point [iblk, V, idx m t]

end Cert.SumRIdeal.Whole

end
-- ==== Proof.SumRClaims.lean ====
/-
  The claims about the sum of the four chips' parts of the rows that hold six weights' gradients.
-/
module

public import proofs.«01_k».proof.Defs
public import proofs.«01_k».proof.Proof.Gen.SumR.Frame
public import proofs.«01_k».proof.Proof.SumRBlock
public import proofs.«01_k».proof.Proof.Gen.SumRRefIdeal.Run
public import Idealize.ShloMosaic.Lib.Claim
public import Idealize.ShloMosaic.Lib.Pipeline.Value
public import Idealize.ShloMosaic.Lib.Pipeline.ValueKit
public import Idealize.ShloMosaic.Lib.Quiescent

@[expose] public section

set_option maxRecDepth 16384

open Idealize.ShloMosaic Idealize.ShloMosaic.TcCoe Idealize.SL.Sem

namespace Cert.SumRProof

theorem quiescent_reference : Cert.quiescent_SumRRefIdeal := fun m g _ =>
  (θ_run Cert.SumRRefIdeal.defs _ _).mono
    (fun r h => ⟨fun c => (h c).2, Idealize.ShloMosaic.sem_eq_zero_of_no_sems (by decide) r.2⟩)
    (Cert.SumRRefIdeal.Value.run (F := Ideal) m g)

theorem quiescent_kernel : Cert.quiescent_SumR := fun m g _ => Cert.SumR.Gen.frame m g (by unfold Cert.SumR.Gen.Ok Cert.SumR.ok0; trivial)

theorem quiescent_ideal : Cert.quiescent_SumRIdeal := fun m g _ => Cert.SumRIdeal.Gen.frame m g (Cert.SumRIdeal.Whole.ok m)

section
open Cert.SumRRefIdeal Cert.SumRRefIdeal.Gen

/-- The reference's result, read at an index. -/
theorem reference_total (ids : IVec S2 32) (recv : FVec Ideal S4x1312x1024 .bf16) (own : FVec Ideal S1312x1024 .f32) :
    (Host.reduceAdd (select (broadcastInDim S4x1312x1024 ![0, 1, 2] bcast_S4x1x1_S4x1312x1024_0_1_2 (cmpi .eq (broadcastInDim S4x1x1 ![0] bcast_S4_S4x1x1_0 (iotaInDim S4 32 0)) (broadcastInDim S4x1x1 ![] bcast_S_S4x1x1 (shapeCast _ (extractStridedSlice S1 ![1] ids slices_S2_S1_1) shapeCasts_S1_S_)))) (broadcastInDim S4x1312x1024 ![1, 2] bcast_S1312x1024_S4x1312x1024_1_2 own) (extf .f32 recv bitsLt_bf16_f32)) (constant S_ .f32 0x00000000#32) reducesTo_S4x1312x1024_S1312x1024_d0 h_S_ : FVec Ideal S1312x1024 .f32)
    = SumSpec.total ids recv own := by
  funext y
  refine Eq.trans ?_ (SumSpec.total_of ids recv own y)
  pointwise []

end

theorem algebraic : Cert.algebraic_SumRIdeal_SumRRefIdeal := fun m g m' g' _ hag =>
  ⟨fun c => Cert.SumRIdeal.Whole.result m c,
    (θ_run Cert.SumRIdeal.defs _ _).mono
      (fun _ h c => ⟨((h.1 c).1 2).trans (Cert.SumRIdeal.Whole.final m c), h.2 c⟩)
      (θ_run_and (Cert.SumRIdeal.Gen.run_main m g (Cert.SumRIdeal.Whole.ok m)) (Cert.SumRIdeal.Gen.unchanged m g (Cert.SumRIdeal.Whole.ok m))),
    (θ_run Cert.SumRRefIdeal.defs _ _).mono
      (fun _ h c => by
        obtain ⟨h0, h1, h2⟩ := hag c
        obtain ⟨o0, hA⟩ := h c
        rw [h0, h1, h2] at o0
        exact ⟨o0.trans (reference_total _ _ _), hA⟩)
      (Cert.SumRRefIdeal.Value.run (F := Ideal) m' g')⟩

end Cert.SumRProof
-- ==== Proof.SumSBlock.lean ====
/-
  What the sum of the four chips' parts leaves in its result, for the rows of the small gradients and the loss.
-/
module

public import proofs.«01_k».proof.Proof.SumSpec
public import proofs.«01_k».proof.Proof.Gen.SumSIdeal.Frame
public import Idealize.ShloMosaic.Lib.Pipeline.Value
public import Idealize.ShloMosaic.Lib.Pipeline.ValueKit

@[expose] public section

set_option maxRecDepth 16384

noncomputable section

open Idealize.ShloMosaic Idealize.ShloMosaic.TcCoe Idealize.SL.Sem

namespace Cert.SumSIdeal.Whole

open Cert.SumSIdeal Cert.SumSIdeal.Gen

variable (m : (ℓ : Loc nD τ sig) → Buf (Elt Ideal) ℓ)

/-- The table's words meet no condition: no block is chosen by them. -/
theorem ok : Ok m := by
  unfold Ok ok0
  trivial

theorem idx (t : Fin (cfgM m (ok m)).N) : ((cfgM m (ok m)).win 0).index t = ![0, t.val, 0] ∧ ((cfgM m (ok m)).win 1).index t = ![t.val, 0]
    ∧ ((cfgM m (ok m)).win 2).index t = ![t.val, 0] :=
  (by decide +kernel : ∀ t : Fin grid0.N, cc0_transform_0 (grid0.coords t) = ![0, t.val, 0] ∧ cc0_transform_1 (grid0.coords t) = ![t.val, 0]
    ∧ cc0_transform_2 (grid0.coords t) = ![t.val, 0]) t

/-- The parts summed. -/
abbrev result (c : Dev nD) : FVec Ideal S1144x128 .f32 :=
  SumSpec.total (φ := .f32) (m ((c : Thread nD τ).loc main_arg0)) (m ((c : Thread nD τ).loc main_arg1)) (m ((c : Thread nD τ).loc main_arg2))

/-- Some contents of the table: a block's place doesn't depend on them. -/
def zeros : pre0.Contents (Elt Ideal) :=
  fun | 0 => fun _ => (0#32 : BitVec 32) | ⟨_ + 1, h⟩ => absurd h (Nat.not_lt.2 (Nat.le_add_left _ _))

theorem ok_zeros : ok0 (F := Ideal) zeros := by
  unfold ok0
  trivial

theorem covers : ((cfg0 (F := Ideal) ⟨zeros, ok_zeros⟩).win 2).Covers := by decide +kernel

/-- The part of a chip in a point's block. -/
abbrev part (P : FVec Ideal S4x1144x128 .f32) (p : Nat) (inb : ∀ a : Fin 3, ![p, 0, 0] a + S1x1144x128.size a ≤ S4x1144x128.size a) : FVec Ideal S1x1144x128 .f32 :=
  View.ld (Val := Elt Ideal) (e' := .f32) P (Rect.unit (s := S4x1144x128) ![p, 0, 0] S1x1144x128.size inb)

/-- A point's block: the four parts of the block, summed. -/
theorem point (w : BitVec 32) (P : FVec Ideal S4x1144x128 .f32) (o : FVec Ideal S1144x128 .f32) (r : Fin 1144) (l : Fin 128) :
    k0_pay1 w o (part P 0 inb_S4x1144x128_S1x1144x128_0_0_0) w o (part P 1 inb_S4x1144x128_S1x1144x128_1_0_0)
      w o (part P 2 inb_S4x1144x128_S1x1144x128_2_0_0) w o (part P 3 inb_S4x1144x128_S1x1144x128_3_0_0) (ix2 r l)
    = ∑ p : Fin 4, if BitVec.ofNat 32 p.val = w then o (ix2 r l) else P (ix3 p r l) := by
  refine Eq.trans ?_ (SumSpec.four w P (o (ix2 r l)) r l inb_S4x1144x128_S1x1144x128_0_0_0 inb_S4x1144x128_S1x1144x128_1_0_0 inb_S4x1144x128_S1x1144x128_2_0_0 inb_S4x1144x128_S1x1144x128_3_0_0)
  pointwise [k0_pay1]

/-- The result array after the run. -/
theorem final (c : Dev nD) : (dats m (ok m) 0 c).arrAt 2 (cfgM m (ok m)).N = result m c := by
  refine (dats m (ok m) 0 c).arrAt_eq_of_covers 2 _ ?_ fun t _ y => ?_
  · exact covers
  blk_simp
  rw [after0_2]
  unfold outsAt0
  frame_out
  obtain ⟨r, l, e⟩ : ∃ (r : Fin 1144) (l : Fin 128), (y : S1144x128.Idx) = ix2 r l := ⟨_, _, eq_ix2 y⟩
  rw [show y = (ix2 r l : S1144x128.Idx) from e]
  refine (point _ _ _ r l).trans (Finset.sum_congr rfl fun p _ => SumSpec.part_of _ _ _ _ _ p _ _ _ ?_ ?_ ?_)
  · obtain rfl : c = 0 := Subsingleton.elim _ _
    exact congrArg (m (((0 : Dev nD) : Thread nD τ).loc main_arg0)) (funext fun a => Fin.ext (by fin_cases a; rfl))
  · refine (congrFun ((hs0_1 m (ok m) t).read_unread _) _).trans ?_
    blk_point [iblk, V, idx m t]
  · refine (congrFun ((hs0_0 m (ok m) t).read_unread _) _).trans ?_
    blk_point [iblk, V, idx m t]

end Cert.SumSIdeal.Whole

end
-- ==== Proof.SumSClaims.lean ====
/-
  The claims about the sum of the four chips' parts of the rows that hold the small gradients and the loss.
-/
module

public import proofs.«01_k».proof.Defs
public import proofs.«01_k».proof.Proof.Gen.SumS.Frame
public import proofs.«01_k».proof.Proof.SumSBlock
public import proofs.«01_k».proof.Proof.Gen.SumSRefIdeal.Run
public import Idealize.ShloMosaic.Lib.Claim
public import Idealize.ShloMosaic.Lib.Pipeline.Value
public import Idealize.ShloMosaic.Lib.Pipeline.ValueKit
public import Idealize.ShloMosaic.Lib.Quiescent

@[expose] public section

set_option maxRecDepth 16384

open Idealize.ShloMosaic Idealize.ShloMosaic.TcCoe Idealize.SL.Sem

namespace Cert.SumSProof

theorem quiescent_reference : Cert.quiescent_SumSRefIdeal := fun m g _ =>
  (θ_run Cert.SumSRefIdeal.defs _ _).mono
    (fun r h => ⟨fun c => (h c).2, Idealize.ShloMosaic.sem_eq_zero_of_no_sems (by decide) r.2⟩)
    (Cert.SumSRefIdeal.Value.run (F := Ideal) m g)

theorem quiescent_kernel : Cert.quiescent_SumS := fun m g _ => Cert.SumS.Gen.frame m g (by unfold Cert.SumS.Gen.Ok Cert.SumS.ok0; trivial)

theorem quiescent_ideal : Cert.quiescent_SumSIdeal := fun m g _ => Cert.SumSIdeal.Gen.frame m g (Cert.SumSIdeal.Whole.ok m)

section
open Cert.SumSRefIdeal Cert.SumSRefIdeal.Gen

/-- The reference's result, read at an index. -/
theorem reference_total (ids : IVec S2 32) (recv : FVec Ideal S4x1144x128 .f32) (own : FVec Ideal S1144x128 .f32) :
    (Host.reduceAdd (select (broadcastInDim S4x1144x128 ![0, 1, 2] bcast_S4x1x1_S4x1144x128_0_1_2 (cmpi .eq (broadcastInDim S4x1x1 ![0] bcast_S4_S4x1x1_0 (iotaInDim S4 32 0)) (broadcastInDim S4x1x1 ![] bcast_S_S4x1x1 (shapeCast _ (extractStridedSlice S1 ![1] ids slices_S2_S1_1) shapeCasts_S1_S_)))) (broadcastInDim S4x1144x128 ![1, 2] bcast_S1144x128_S4x1144x128_1_2 own) recv) (constant S_ .f32 0x00000000#32) reducesTo_S4x1144x128_S1144x128_d0 h_S_ : FVec Ideal S1144x128 .f32)
    = SumSpec.total ids recv own := by
  funext y
  refine Eq.trans ?_ (SumSpec.total_of ids recv own y)
  pointwise []

end

theorem algebraic : Cert.algebraic_SumSIdeal_SumSRefIdeal := fun m g m' g' _ hag =>
  ⟨fun c => Cert.SumSIdeal.Whole.result m c,
    (θ_run Cert.SumSIdeal.defs _ _).mono
      (fun _ h c => ⟨((h.1 c).1 2).trans (Cert.SumSIdeal.Whole.final m c), h.2 c⟩)
      (θ_run_and (Cert.SumSIdeal.Gen.run_main m g (Cert.SumSIdeal.Whole.ok m)) (Cert.SumSIdeal.Gen.unchanged m g (Cert.SumSIdeal.Whole.ok m))),
    (θ_run Cert.SumSRefIdeal.defs _ _).mono
      (fun _ h c => by
        obtain ⟨h0, h1, h2⟩ := hag c
        obtain ⟨o0, hA⟩ := h c
        rw [h0, h1, h2] at o0
        exact ⟨o0.trans (reference_total _ _ _), hA⟩)
      (Cert.SumSRefIdeal.Value.run (F := Ideal) m' g')⟩

end Cert.SumSProof
-- ==== Proof.SumIBlock.lean ====
/-
  What the sum of the four chips' parts leaves in its slot of the array it writes.
-/
module

public import proofs.«01_k».proof.Proof.SumSpec
public import proofs.«01_k».proof.Proof.Gen.SumIIdeal.Frame
public import Idealize.ShloMosaic.Lib.Pipeline.Value
public import Idealize.ShloMosaic.Lib.Pipeline.ValueKit
public import Idealize.ShloMosaic.Lib.Pipeline.ValueKit.Partial
public import Idealize.ShloMosaic.Lib.StableHlo.RunClose

@[expose] public section

set_option maxRecDepth 16384

noncomputable section

open Idealize.ShloMosaic Idealize.ShloMosaic.TcCoe Idealize.SL.Sem

namespace Cert.SumIIdeal.Whole

open Cert.SumIIdeal Cert.SumIIdeal.Gen

variable (m : (ℓ : Loc nD τ sig) → Buf (Elt Ideal) ℓ)

/-- The table's words meet no condition: no block is chosen by them. -/
theorem ok : Ok m := by
  unfold Ok ok0
  trivial

theorem idx (t : Fin (cfgM m (ok m)).N) : ((cfgM m (ok m)).win 0).index t = ![0, t.val, 0] ∧ ((cfgM m (ok m)).win 1).index t = ![t.val, 0]
    ∧ ((cfgM m (ok m)).win 2).index t = ![0, t.val, 0] :=
  (by decide +kernel : ∀ t : Fin grid0.N, cc0_transform_0 (grid0.coords t) = ![0, t.val, 0] ∧ cc0_transform_1 (grid0.coords t) = ![t.val, 0]
    ∧ cc0_transform_3 (grid0.coords t) = ![0, t.val, 0]) t

/-- The parts summed, as a slot of the array the call writes. -/
abbrev slot (c : Dev nD) : FVec Ideal S2x928x1024 .f32 := fun y =>
  SumSpec.total (φ := .bf16) (m ((c : Thread nD τ).loc main_arg0)) (m ((c : Thread nD τ).loc main_arg1)) (m ((c : Thread nD τ).loc main_arg2)) (ix2 (y 1) (y 2))

/-- The first slot filled, the second as it was. -/
abbrev result (c : Dev nD) : FVec Ideal S2x928x1024 .f32 := fun y =>
  if (y 0).val = 0 then slot m c y else (m ((c : Thread nD τ).loc main_arg3) : FVec Ideal S2x928x1024 .f32) y

/-- Some contents of the table: a block's place doesn't depend on them. -/
def zeros : pre0.Contents (Elt Ideal) :=
  fun | 0 => fun _ => (0#32 : BitVec 32) | ⟨_ + 1, h⟩ => absurd h (Nat.not_lt.2 (Nat.le_add_left _ _))

theorem ok_zeros : ok0 (F := Ideal) zeros := by
  unfold ok0
  trivial

theorem covers : ((cfg0 (F := Ideal) ⟨zeros, ok_zeros⟩).win 2).CoversWhere (fun β => β (0 : Fin 3) = 0) := by decide +kernel

/-- The part of a chip in a point's block. -/
abbrev part (P : FVec Ideal S4x464x1024 .bf16) (p : Nat) (inb : ∀ a : Fin 3, ![p, 0, 0] a + S1x464x1024.size a ≤ S4x464x1024.size a) : FVec Ideal S1x464x1024 .bf16 :=
  View.ld (Val := Elt Ideal) (e' := .bf16) P (Rect.unit (s := S4x464x1024) ![p, 0, 0] S1x464x1024.size inb)

/-- A point's block: the four parts of the block, summed. -/
theorem point (w : BitVec 32) (P : FVec Ideal S4x464x1024 .bf16) (o : FVec Ideal S464x1024 .f32) (r : Fin 464) (l : Fin 1024) :
    k0_pay1 (k0_pay2 w o (part P 0 inb_S4x464x1024_S1x464x1024_0_0_0) w o (part P 1 inb_S4x464x1024_S1x464x1024_1_0_0)
      w o (part P 2 inb_S4x464x1024_S1x464x1024_2_0_0) w o (part P 3 inb_S4x464x1024_S1x464x1024_3_0_0)) (ix3 0 r l)
    = ∑ p : Fin 4, if BitVec.ofNat 32 p.val = w then o (ix2 r l) else P (ix3 p r l) := by
  refine Eq.trans ?_ (SumSpec.four w P (o (ix2 r l)) r l inb_S4x464x1024_S1x464x1024_0_0_0 inb_S4x464x1024_S1x464x1024_1_0_0 inb_S4x464x1024_S1x464x1024_2_0_0 inb_S4x464x1024_S1x464x1024_3_0_0)
  pointwise [k0_pay1, k0_pay2]

theorem eq_ix3_row {a b : Nat} (z : (⟨3, ![1, a, b]⟩ : Shape).Idx) : z = ix3 0 (z 1) (z 2) := by
  refine (eq_ix3 z).trans (congrArg (ix3 · (z 1) (z 2)) (Fin.ext ?_))
  have h : (z 0).val < 1 := (z 0).isLt
  show (z 0).val = 0
  omega

/-- The array the call writes is the argument's copy. -/
theorem entry (c : Dev nD) : V m c main_v0 = m ((c : Thread nD τ).loc main_arg3) := by
  show StableHlo.after hostOps0 (fun b => m (c, b)) (Proc.devRef .tc main_v0) = _
  after_results_entrywise (rounds := 1) []

/-- The array after the run. -/
theorem final (c : Dev nD) : (dats m (ok m) 0 c).arrAt 2 (cfgM m (ok m)).N = result m c := by
  refine ((dats m (ok m) 0 c).arrAt_eq_of_coversWhere 2 (slot m c) (P := fun y : S2x928x1024.Idx => (y 0).val = 0) (fun β => β (0 : Fin 3) = 0) covers (fun t _ y => ?_)
    (fun j => ?_)).trans (funext fun y => if_congr Iff.rfl rfl (congrFun ((A_eq m (ok m) c 2).trans (entry m c)) y))
  · blk_simp
    rw [after0_2]
    unfold outsAt0
    frame_out
    obtain ⟨r, l, e⟩ : ∃ (r : Fin 464) (l : Fin 1024), (y : S1x464x1024.Idx) = ix3 0 r l := ⟨_, _, eq_ix3_row (a := 464) (b := 1024) y⟩
    rw [show y = (ix3 0 r l : S1x464x1024.Idx) from e]
    refine (point _ _ _ r l).trans (Finset.sum_congr rfl fun p _ => SumSpec.part_of _ _ _ _ _ p _ _ _ ?_ ?_ ?_)
    · obtain rfl : c = 0 := Subsingleton.elim _ _
      refine Eq.trans ?_ (congrFun (V_main_arg0 m 0) _)
      exact congrArg (V m 0 main_arg0) (funext fun a => Fin.ext (by fin_cases a; rfl))
    · refine (congrFun ((hs0_1 m (ok m) t).read_unread _) _).trans ((?_ : _ = V m c main_arg2 _).trans (congrFun (V_main_arg2 m c) _))
      blk_point [iblk, idx m t]
    · refine (congrFun ((hs0_0 m (ok m) t).read_unread _) _).trans ((?_ : _ = V m c main_arg1 _).trans (congrFun (V_main_arg1 m c) _))
      blk_point [iblk, idx m t]
  · exact Iff.of_eq (congrArg (· = 0) (Nat.div_one _).symm)

end Cert.SumIIdeal.Whole

end
-- ==== Proof.SumIClaims.lean ====
/-
  The claims about the sum of the four chips' parts of the input projection's rows, written to the first layer's slot.
-/
module

public import proofs.«01_k».proof.Defs
public import proofs.«01_k».proof.Proof.Gen.SumI.Frame
public import proofs.«01_k».proof.Proof.SumIBlock
public import proofs.«01_k».proof.Proof.Gen.SumIRefIdeal.Run
public import proofs.«01_k».proof.Proof.NormGrad
public import Idealize.ShloMosaic.Lib.Claim
public import Idealize.ShloMosaic.Lib.Pipeline.Value
public import Idealize.ShloMosaic.Lib.Pipeline.ValueKit
public import Idealize.ShloMosaic.Lib.Quiescent

@[expose] public section

set_option maxRecDepth 16384

open Idealize.ShloMosaic Idealize.ShloMosaic.TcCoe Idealize.SL.Sem

namespace Cert.SumIProof

theorem quiescent_reference : Cert.quiescent_SumIRefIdeal := fun m g _ =>
  (θ_run Cert.SumIRefIdeal.defs _ _).mono
    (fun r h => ⟨fun c => (h c).2, Idealize.ShloMosaic.sem_eq_zero_of_no_sems (by decide) r.2⟩)
    (Cert.SumIRefIdeal.Value.run (F := Ideal) m g)

theorem quiescent_kernel : Cert.quiescent_SumI := fun m g _ => Cert.SumI.Gen.frame m g (by unfold Cert.SumI.Gen.Ok Cert.SumI.ok0; trivial)

theorem quiescent_ideal : Cert.quiescent_SumIIdeal := fun m g _ => Cert.SumIIdeal.Gen.frame m g (Cert.SumIIdeal.Whole.ok m)

section
open Cert.SumIRefIdeal Cert.SumIRefIdeal.Gen

/-- The sum of the parts in the reference, read at an index. -/
theorem reference_total (ids : IVec S2 32) (recv : FVec Ideal S4x928x1024 .bf16) (own : FVec Ideal S928x1024 .f32) :
    (Host.reduceAdd (select (broadcastInDim S4x928x1024 ![0, 1, 2] bcast_S4x1x1_S4x928x1024_0_1_2 (cmpi .eq (broadcastInDim S4x1x1 ![0] bcast_S4_S4x1x1_0 (iotaInDim S4 32 0)) (broadcastInDim S4x1x1 ![] bcast_S_S4x1x1 (shapeCast _ (extractStridedSlice S1 ![1] ids slices_S2_S1_1) shapeCasts_S1_S_)))) (broadcastInDim S4x928x1024 ![1, 2] bcast_S928x1024_S4x928x1024_1_2 own) (extf .f32 recv bitsLt_bf16_f32)) (constant S_ .f32 0x00000000#32) reducesTo_S4x928x1024_S928x1024_d0 h_S_ : FVec Ideal S928x1024 .f32)
    = SumSpec.total ids recv own := by
  funext y
  refine Eq.trans ?_ (SumSpec.total_of ids recv own y)
  pointwise []

/-- Two slots laid one after the other: the first is the sum, the second is the array's own. -/
theorem slots (s : FVec Ideal S928x1024 .f32) (x : FVec Ideal S2x928x1024 .f32) :
    (concatenate S2x928x1024 0 [⟨S1x928x1024, (broadcastInDim S1x928x1024 ![1, 2] bcast_S928x1024_S1x928x1024_1_2 s)⟩, ⟨S1x928x1024, (broadcastInDim S1x928x1024 ![1, 2] bcast_S928x1024_S1x928x1024_1_2 (shapeCast _ (extractStridedSlice S1x928x1024 ![1, 0, 0] x slices_S2x928x1024_S1x928x1024_1_0_0) shapeCasts_S1x928x1024_S928x1024))⟩] concatenates_S1x928x1024_S1x928x1024_S2x928x1024_d0 : FVec Ideal S2x928x1024 .f32)
    = fun y => if (y 0).val = 0 then s (ix2 (y 1) (y 2)) else x y := by
  funext y
  by_cases h : (y 0).val = 0
  · rw [if_pos h]
    pointwise [h]
  · rw [if_neg h]
    pointwise [h]
    have h2 : (y 0).val < 2 := (y 0).isLt
    rw [dif_neg (by omega)]
    exact congrArg x ((congrArg (ix3 · (y 1) (y 2)) (Fin.ext (show 1 = (y 0).val by omega))).trans (eq_ix3 y).symm)

end

theorem algebraic : Cert.algebraic_SumIIdeal_SumIRefIdeal := fun m g m' g' _ hag =>
  ⟨fun c => Cert.SumIIdeal.Whole.result m c,
    (θ_run Cert.SumIIdeal.defs _ _).mono
      (fun _ h c => ⟨((h.1 c).1 2).trans (Cert.SumIIdeal.Whole.final m c), h.2 c⟩)
      (θ_run_and (Cert.SumIIdeal.Gen.run_main m g (Cert.SumIIdeal.Whole.ok m)) (Cert.SumIIdeal.Gen.unchanged m g (Cert.SumIIdeal.Whole.ok m))),
    (θ_run Cert.SumIRefIdeal.defs _ _).mono
      (fun _ h c => by
        obtain ⟨h0, h1, h2, h3⟩ := hag c
        obtain ⟨o0, hA⟩ := h c
        rw [h0, h1, h2, h3] at o0
        exact ⟨o0.trans ((slots _ _).trans (congrArg (fun s : FVec Ideal Cert.SumIIdeal.S928x1024 .f32 => fun y : Cert.SumIIdeal.S2x928x1024.Idx =>
          if (y 0).val = 0 then s (ix2 (y 1) (y 2)) else (m ((c.tc : Thread Cert.SumIIdeal.nD Cert.SumIIdeal.τ).loc Cert.SumIIdeal.main_arg3) : FVec Ideal Cert.SumIIdeal.S2x928x1024 .f32) y)
          (reference_total _ _ _))), hA⟩)
      (Cert.SumIRefIdeal.Value.run (F := Ideal) m' g')⟩

end Cert.SumIProof
-- ==== Proof.SumAClaims.lean ====
/-
  The claims about the sum of two devices' small gradients.
-/
module

public import proofs.«01_k».proof.Defs
public import proofs.«01_k».proof.Proof.Gen.SumA.Frame
public import proofs.«01_k».proof.Proof.Gen.SumARefIdeal.Run
public import proofs.«01_k».proof.Proof.Gen.SumAIdeal.Value
public import Idealize.ShloMosaic.Lib.Pipeline.ValueKit
public import Idealize.ShloMosaic.Lib.Quiescent

@[expose] public section

set_option maxRecDepth 16384

open Idealize.ShloMosaic Idealize.ShloMosaic.TcCoe Idealize.SL.Sem

namespace Cert.SumAProof

theorem quiescent_kernel : Cert.quiescent_SumA := fun m g _ => Cert.SumA.Gen.frame m g

theorem quiescent_ideal : Cert.quiescent_SumAIdeal := fun m g _ => Cert.SumAIdeal.Gen.frame m g

theorem quiescent_reference : Cert.quiescent_SumARefIdeal := fun m g _ =>
  (θ_run Cert.SumARefIdeal.defs _ _).mono
    (fun r h => ⟨fun c => (h c).2, Idealize.ShloMosaic.sem_eq_zero_of_no_sems (by decide) r.2⟩)
    (Cert.SumARefIdeal.Value.run (F := Ideal) m g)

section
open Cert.SumARefIdeal Cert.SumARefIdeal.Gen

/-- The two arrays stacked and summed are their sum. -/
theorem sums (a b : FVec Ideal S1144x128 .f32) :
    (Host.reduceAdd (concatenate S2x1144x128 0 [⟨S1x1144x128, (broadcastInDim S1x1144x128 ![1, 2] bcast_S1144x128_S1x1144x128_1_2 a)⟩, ⟨S1x1144x128, (broadcastInDim S1x1144x128 ![1, 2] bcast_S1144x128_S1x1144x128_1_2 b)⟩] concatenates_S1x1144x128_S1x1144x128_S2x1144x128_d0) (constant S_ .f32 0x00000000#32) reducesTo_S2x1144x128_S1144x128_d0 h_S_ : FVec Ideal S1144x128 .f32)
    = (Cert.SumAIdeal.Value.G2 (F := Ideal) a b : FVec Ideal S1144x128 .f32) := by
  funext y
  unfold Cert.SumAIdeal.Value.G2
  pointwise [Fin.sum_univ_two]

end

theorem algebraic : Cert.algebraic_SumAIdeal_SumARefIdeal := fun m g m' g' _ hag =>
  ⟨fun c => (Cert.SumAIdeal.Gen.dats m 0 c).arrAt 2 Cert.SumAIdeal.cfg0.N,
    (θ_run Cert.SumAIdeal.defs _ _).mono (fun r h c => ⟨(h c).1.trans (Cert.SumAIdeal.Value.final2 m c).symm, (h c).2⟩)
      (Cert.SumAIdeal.Value.run m g),
    (θ_run Cert.SumARefIdeal.defs _ _).mono
      (fun _ h c => by
        obtain ⟨h0, h1⟩ := hag c
        obtain ⟨o0, hA⟩ := h c
        rw [h0, h1] at o0
        exact ⟨o0.trans ((sums _ _).trans (Cert.SumAIdeal.Value.final2 m c).symm), hA⟩)
      (Cert.SumARefIdeal.Value.run (F := Ideal) m' g')⟩

end Cert.SumAProof

end
-- ==== Proof.lean ====
/-
  The claims about the calls of the training step, put together.
-/
module

public import proofs.«01_k».proof.Defs
public import proofs.«01_k».proof.Proof.ConvClaims
public import proofs.«01_k».proof.Proof.InClaims
public import proofs.«01_k».proof.Proof.NormInClaims
public import proofs.«01_k».proof.Proof.FfInClaims
public import proofs.«01_k».proof.Proof.DwClaims
public import proofs.«01_k».proof.Proof.OutInClaims
public import proofs.«01_k».proof.Proof.ProjClaims
public import proofs.«01_k».proof.Proof.UpClaims
public import proofs.«01_k».proof.Proof.DownClaims
public import proofs.«01_k».proof.Proof.OutClaims
public import proofs.«01_k».proof.Proof.LastClaims
public import proofs.«01_k».proof.Proof.MergeClaims
public import proofs.«01_k».proof.Proof.LossClaims
public import proofs.«01_k».proof.Proof.AdamTClaims
public import proofs.«01_k».proof.Proof.AdamGClaims
public import proofs.«01_k».proof.Proof.AdamAClaims
public import proofs.«01_k».proof.Proof.AdamOClaims
public import proofs.«01_k».proof.Proof.AdamFClaims
public import proofs.«01_k».proof.Proof.AdamIClaims
public import proofs.«01_k».proof.Proof.AdamNClaims
public import proofs.«01_k».proof.Proof.AdamBClaims
public import proofs.«01_k».proof.Proof.AdamSClaims
public import proofs.«01_k».proof.Proof.AdamCClaims
public import proofs.«01_k».proof.Proof.AdamHClaims
public import proofs.«01_k».proof.Proof.MixCClaims
public import proofs.«01_k».proof.Proof.MixPClaims
public import proofs.«01_k».proof.Proof.MixAClaims
public import proofs.«01_k».proof.Proof.SumRClaims
public import proofs.«01_k».proof.Proof.SumSClaims
public import proofs.«01_k».proof.Proof.SumIClaims
public import proofs.«01_k».proof.Proof.SumAClaims

@[expose] public section

open Cert in
theorem Cert.Proof.claim : Cert.Claim :=
  ⟨Cert.Conv.Gen.facts, Cert.ConvIdeal.Gen.facts, Cert.ConvRefIdeal.Gen.facts,
    Cert.In.Gen.facts, Cert.InIdeal.Gen.facts, Cert.InRefIdeal.Gen.facts,
    Cert.NormIn.Gen.facts, Cert.NormInIdeal.Gen.facts, Cert.NormInRefIdeal.Gen.facts,
    Cert.FfIn.Gen.facts, Cert.FfInIdeal.Gen.facts, Cert.FfInRefIdeal.Gen.facts,
    Cert.Dw.Gen.facts, Cert.DwIdeal.Gen.facts, Cert.DwRefIdeal.Gen.facts,
    Cert.OutIn.Gen.facts, Cert.OutInIdeal.Gen.facts, Cert.OutInRefIdeal.Gen.facts,
    Cert.Proj.Gen.facts, Cert.ProjIdeal.Gen.facts, Cert.ProjRefIdeal.Gen.facts,
    Cert.Up.Gen.facts, Cert.UpIdeal.Gen.facts, Cert.UpRefIdeal.Gen.facts,
    Cert.Down.Gen.facts, Cert.DownIdeal.Gen.facts, Cert.DownRefIdeal.Gen.facts,
    Cert.Out.Gen.facts, Cert.OutIdeal.Gen.facts, Cert.OutRefIdeal.Gen.facts,
    Cert.Last.Gen.facts, Cert.LastIdeal.Gen.facts, Cert.LastRefIdeal.Gen.facts,
    Cert.Merge.Gen.facts, Cert.MergeIdeal.Gen.facts, Cert.MergeRefIdeal.Gen.facts,
    Cert.Loss.Gen.facts, Cert.LossIdeal.Gen.facts, Cert.LossRefIdeal.Gen.facts,
    Cert.AdamT.Gen.facts, Cert.AdamTIdeal.Gen.facts, Cert.AdamTRefIdeal.Gen.facts,
    Cert.AdamG.Gen.facts, Cert.AdamGIdeal.Gen.facts, Cert.AdamGRefIdeal.Gen.facts,
    Cert.AdamA.Gen.facts, Cert.AdamAIdeal.Gen.facts, Cert.AdamARefIdeal.Gen.facts,
    Cert.AdamO.Gen.facts, Cert.AdamOIdeal.Gen.facts, Cert.AdamORefIdeal.Gen.facts,
    Cert.AdamF.Gen.facts, Cert.AdamFIdeal.Gen.facts, Cert.AdamFRefIdeal.Gen.facts,
    Cert.AdamI.Gen.facts, Cert.AdamIIdeal.Gen.facts, Cert.AdamIRefIdeal.Gen.facts,
    Cert.AdamN.Gen.facts, Cert.AdamNIdeal.Gen.facts, Cert.AdamNRefIdeal.Gen.facts,
    Cert.AdamB.Gen.facts, Cert.AdamBIdeal.Gen.facts, Cert.AdamBRefIdeal.Gen.facts,
    Cert.AdamS.Gen.facts, Cert.AdamSIdeal.Gen.facts, Cert.AdamSRefIdeal.Gen.facts,
    Cert.AdamC.Gen.facts, Cert.AdamCIdeal.Gen.facts, Cert.AdamCRefIdeal.Gen.facts,
    Cert.AdamH.Gen.facts, Cert.AdamHIdeal.Gen.facts, Cert.AdamHRefIdeal.Gen.facts,
    Cert.MixC.Gen.facts, Cert.MixCIdeal.Gen.facts, Cert.MixCRefIdeal.Gen.facts,
    Cert.MixP.Gen.facts, Cert.MixPIdeal.Gen.facts, Cert.MixPRefIdeal.Gen.facts,
    Cert.MixA.Gen.facts, Cert.MixAIdeal.Gen.facts, Cert.MixARefIdeal.Gen.facts,
    Cert.SumR.Gen.facts, Cert.SumRIdeal.Gen.facts, Cert.SumRRefIdeal.Gen.facts,
    Cert.SumS.Gen.facts, Cert.SumSIdeal.Gen.facts, Cert.SumSRefIdeal.Gen.facts,
    Cert.SumI.Gen.facts, Cert.SumIIdeal.Gen.facts, Cert.SumIRefIdeal.Gen.facts,
    Cert.SumA.Gen.facts, Cert.SumAIdeal.Gen.facts, Cert.SumARefIdeal.Gen.facts,
    InProof.condition_facts, NormInProof.condition_facts,
    ConvProof.quiescent_kernel, ConvProof.quiescent_ideal, ConvProof.quiescent_reference,
    InProof.quiescent_kernel, InProof.quiescent_ideal, InProof.quiescent_ideal_pre, InProof.quiescent_reference, InProof.quiescent_reference_pre,
    NormInProof.quiescent_kernel, NormInProof.quiescent_ideal, NormInProof.quiescent_ideal_pre, NormInProof.quiescent_reference, NormInProof.quiescent_reference_pre,
    FfInProof.quiescent_kernel, FfInProof.quiescent_ideal, FfInProof.quiescent_reference,
    DwProof.quiescent_kernel, DwProof.quiescent_ideal, DwProof.quiescent_reference,
    OutInProof.quiescent_kernel, OutInProof.quiescent_ideal, OutInProof.quiescent_reference,
    ProjProof.quiescent_kernel, ProjProof.quiescent_ideal, ProjProof.quiescent_reference,
    UpProof.quiescent_kernel, UpProof.quiescent_ideal, UpProof.quiescent_reference,
    DownProof.quiescent_kernel, DownProof.quiescent_ideal, DownProof.quiescent_reference,
    OutProof.quiescent_kernel, OutProof.quiescent_ideal, OutProof.quiescent_reference,
    LastProof.quiescent_kernel, LastProof.quiescent_ideal, LastProof.quiescent_reference,
    MergeProof.quiescent_kernel, MergeProof.quiescent_ideal, MergeProof.quiescent_reference,
    LossProof.quiescent_kernel, LossProof.quiescent_ideal, LossProof.quiescent_reference,
    AdamTProof.quiescent_kernel, AdamTProof.quiescent_ideal, AdamTProof.quiescent_reference,
    AdamGProof.quiescent_kernel, AdamGProof.quiescent_ideal, AdamGProof.quiescent_reference,
    AdamAProof.quiescent_kernel, AdamAProof.quiescent_ideal, AdamAProof.quiescent_reference,
    AdamOProof.quiescent_kernel, AdamOProof.quiescent_ideal, AdamOProof.quiescent_reference,
    AdamFProof.quiescent_kernel, AdamFProof.quiescent_ideal, AdamFProof.quiescent_reference,
    AdamIProof.quiescent_kernel, AdamIProof.quiescent_ideal, AdamIProof.quiescent_reference,
    AdamNProof.quiescent_kernel, AdamNProof.quiescent_ideal, AdamNProof.quiescent_reference,
    AdamBProof.quiescent_kernel, AdamBProof.quiescent_ideal, AdamBProof.quiescent_reference,
    AdamSProof.quiescent_kernel, AdamSProof.quiescent_ideal, AdamSProof.quiescent_reference,
    AdamCProof.quiescent_kernel, AdamCProof.quiescent_ideal, AdamCProof.quiescent_reference,
    AdamHProof.quiescent_kernel, AdamHProof.quiescent_ideal, AdamHProof.quiescent_reference,
    MixCProof.quiescent_kernel, MixCProof.quiescent_ideal, MixCProof.quiescent_reference,
    MixPProof.quiescent_kernel, MixPProof.quiescent_ideal, MixPProof.quiescent_reference,
    MixAProof.quiescent_kernel, MixAProof.quiescent_ideal, MixAProof.quiescent_reference,
    SumRProof.quiescent_kernel, SumRProof.quiescent_ideal, SumRProof.quiescent_reference,
    SumSProof.quiescent_kernel, SumSProof.quiescent_ideal, SumSProof.quiescent_reference,
    SumIProof.quiescent_kernel, SumIProof.quiescent_ideal, SumIProof.quiescent_reference,
    SumAProof.quiescent_kernel, SumAProof.quiescent_ideal, SumAProof.quiescent_reference,
    trivial, ConvProof.algebraic,
    trivial, InProof.algebraic,
    trivial, NormInProof.algebraic,
    trivial, FfInProof.algebraic,
    trivial, DwProof.algebraic,
    trivial, OutInProof.algebraic,
    trivial, ProjProof.algebraic,
    trivial, UpProof.algebraic,
    trivial, DownProof.algebraic,
    trivial, OutProof.algebraic,
    trivial, LastProof.algebraic,
    trivial, MergeProof.algebraic,
    trivial, LossProof.algebraic,
    trivial, AdamTProof.algebraic,
    trivial, AdamGProof.algebraic,
    trivial, AdamAProof.algebraic,
    trivial, AdamOProof.algebraic,
    trivial, AdamFProof.algebraic,
    trivial, AdamIProof.algebraic,
    trivial, AdamNProof.algebraic,
    trivial, AdamBProof.algebraic,
    trivial, AdamSProof.algebraic,
    trivial, AdamCProof.algebraic,
    trivial, AdamHProof.algebraic,
    trivial, MixCProof.algebraic,
    trivial, MixPProof.algebraic,
    trivial, MixAProof.algebraic,
    trivial, SumRProof.algebraic,
    trivial, SumSProof.algebraic,
    trivial, SumIProof.algebraic,
    trivial, SumAProof.algebraic⟩
